-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_in_finite [hPre_in_finite : Cert.Pre_in_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))) = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_in_finite [hPre_in_finite : Cert.Pre_in_finite.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_NinKernel (m : (ℓ : Loc Cert.NinKernel.nD Cert.NinKernel.τ Cert.NinKernel.sig) → Buf (Elt Bits) ℓ) : Prop :=
  True

def Pre_NinKernelIdeal (m : (ℓ : Loc Cert.NinKernelIdeal.nD Cert.NinKernelIdeal.τ Cert.NinKernelIdeal.sig) → Buf (Elt Ideal) ℓ) : Prop :=
  True

def Pre_NinReferenceIdeal (m : (ℓ : Loc Cert.NinReferenceIdeal.nD Cert.NinReferenceIdeal.τ Cert.NinReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_TnKernel (m : (ℓ : Loc Cert.TnKernel.nD Cert.TnKernel.τ Cert.TnKernel.sig) → Buf (Elt Bits) ℓ) : Prop :=
  True

def Pre_TnKernelIdeal (m : (ℓ : Loc Cert.TnKernelIdeal.nD Cert.TnKernelIdeal.τ Cert.TnKernelIdeal.sig) → Buf (Elt Ideal) ℓ) : Prop :=
  True

def Pre_TnReferenceIdeal (m : (ℓ : Loc Cert.TnReferenceIdeal.nD Cert.TnReferenceIdeal.τ Cert.TnReferenceIdeal.sig) → Buf (Elt Ideal) ℓ) : Prop :=
  True

def Pre_NnKernel (m : (ℓ : Loc Cert.NnKernel.nD Cert.NnKernel.τ Cert.NnKernel.sig) → Buf (Elt Bits) ℓ) : Prop :=
  True

def Pre_NnKernelIdeal (m : (ℓ : Loc Cert.NnKernelIdeal.nD Cert.NnKernelIdeal.τ Cert.NnKernelIdeal.sig) → Buf (Elt Ideal) ℓ) : Prop :=
  True

def Pre_NnReferenceIdeal (m : (ℓ : Loc Cert.NnReferenceIdeal.nD Cert.NnReferenceIdeal.τ Cert.NnReferenceIdeal.sig) → Buf (Elt Ideal) ℓ) : Prop :=
  True

def Pre_NtKernel (m : (ℓ : Loc Cert.NtKernel.nD Cert.NtKernel.τ Cert.NtKernel.sig) → Buf (Elt Bits) ℓ) : Prop :=
  True

def Pre_NtKernelIdeal (m : (ℓ : Loc Cert.NtKernelIdeal.nD Cert.NtKernelIdeal.τ Cert.NtKernelIdeal.sig) → Buf (Elt Ideal) ℓ) : Prop :=
  True

def Pre_NtReferenceIdeal (m : (ℓ : Loc Cert.NtReferenceIdeal.nD Cert.NtReferenceIdeal.τ Cert.NtReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_in_finite [hInKernelIdeal : Cert.InKernelIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_in_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_in_finite [hInReferenceIdeal : Cert.InReferenceIdeal.Facts] [hPre_in_finite : Cert.Pre_in_finite.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_in_finite m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_NinKernel [hNinKernel : Cert.NinKernel.Facts] : Prop :=
  ∀ (m : (ℓ : Loc Cert.NinKernel.nD Cert.NinKernel.τ Cert.NinKernel.sig) → Buf (Elt Bits) ℓ) (g : Dev Cert.NinKernel.nD → PrngReg), Pre_NinKernel m →
    θ_run (Cert.NinKernel.defs (F := Bits)) (onTc (τ := Cert.NinKernel.τ) (Cert.NinKernel.main (F := Bits))) ⟨m, fun _ => 0, g⟩ (fun r => (∀ c : Dev Cert.NinKernel.nD,
      r.2.mem ((c.tc : Thread Cert.NinKernel.nD Cert.NinKernel.τ).loc Cert.NinKernel.main_arg0) = m ((c.tc : Thread Cert.NinKernel.nD Cert.NinKernel.τ).loc Cert.NinKernel.main_arg0)
      ∧ r.2.mem ((c.tc : Thread Cert.NinKernel.nD Cert.NinKernel.τ).loc Cert.NinKernel.main_arg1) = m ((c.tc : Thread Cert.NinKernel.nD Cert.NinKernel.τ).loc Cert.NinKernel.main_arg1)
      ∧ r.2.mem ((c.tc : Thread Cert.NinKernel.nD Cert.NinKernel.τ).loc Cert.NinKernel.main_arg2) = m ((c.tc : Thread Cert.NinKernel.nD Cert.NinKernel.τ).loc Cert.NinKernel.main_arg2))
      ∧ r.2.sem = fun _ => 0)

def quiescent_NinKernelIdeal [hNinKernelIdeal : Cert.NinKernelIdeal.Facts] : Prop :=
  ∀ (m : (ℓ : Loc Cert.NinKernelIdeal.nD Cert.NinKernelIdeal.τ Cert.NinKernelIdeal.sig) → Buf (Elt Ideal) ℓ) (g : Dev Cert.NinKernelIdeal.nD → PrngReg), Pre_NinKernelIdeal m →
    θ_run (Cert.NinKernelIdeal.defs (F := Ideal)) (onTc (τ := Cert.NinKernelIdeal.τ) (Cert.NinKernelIdeal.main (F := Ideal))) ⟨m, fun _ => 0, g⟩ (fun r => (∀ c : Dev Cert.NinKernelIdeal.nD,
      r.2.mem ((c.tc : Thread Cert.NinKernelIdeal.nD Cert.NinKernelIdeal.τ).loc Cert.NinKernelIdeal.main_arg0) = m ((c.tc : Thread Cert.NinKernelIdeal.nD Cert.NinKernelIdeal.τ).loc Cert.NinKernelIdeal.main_arg0)
      ∧ r.2.mem ((c.tc : Thread Cert.NinKernelIdeal.nD Cert.NinKernelIdeal.τ).loc Cert.NinKernelIdeal.main_arg1) = m ((c.tc : Thread Cert.NinKernelIdeal.nD Cert.NinKernelIdeal.τ).loc Cert.NinKernelIdeal.main_arg1)
      ∧ r.2.mem ((c.tc : Thread Cert.NinKernelIdeal.nD Cert.NinKernelIdeal.τ).loc Cert.NinKernelIdeal.main_arg2) = m ((c.tc : Thread Cert.NinKernelIdeal.nD Cert.NinKernelIdeal.τ).loc Cert.NinKernelIdeal.main_arg2))
      ∧ r.2.sem = fun _ => 0)

def quiescent_NinReferenceIdeal [hNinReferenceIdeal : Cert.NinReferenceIdeal.Facts] : Prop :=
  ∀ (m : (ℓ : Loc Cert.NinReferenceIdeal.nD Cert.NinReferenceIdeal.τ Cert.NinReferenceIdeal.sig) → Buf (Elt Ideal) ℓ) (g : Dev Cert.NinReferenceIdeal.nD → PrngReg), Pre_NinReferenceIdeal m →
    θ_run (Cert.NinReferenceIdeal.defs (F := Ideal)) (onTc (τ := Cert.NinReferenceIdeal.τ) (Cert.NinReferenceIdeal.main (F := Ideal))) ⟨m, fun _ => 0, g⟩ (fun r => (∀ c : Dev Cert.NinReferenceIdeal.nD,
      r.2.mem ((c.tc : Thread Cert.NinReferenceIdeal.nD Cert.NinReferenceIdeal.τ).loc Cert.NinReferenceIdeal.main_arg0) = m ((c.tc : Thread Cert.NinReferenceIdeal.nD Cert.NinReferenceIdeal.τ).loc Cert.NinReferenceIdeal.main_arg0)
      ∧ r.2.mem ((c.tc : Thread Cert.NinReferenceIdeal.nD Cert.NinReferenceIdeal.τ).loc Cert.NinReferenceIdeal.main_arg1) = m ((c.tc : Thread Cert.NinReferenceIdeal.nD Cert.NinReferenceIdeal.τ).loc Cert.NinReferenceIdeal.main_arg1)
      ∧ r.2.mem ((c.tc : Thread Cert.NinReferenceIdeal.nD Cert.NinReferenceIdeal.τ).loc Cert.NinReferenceIdeal.main_arg2) = m ((c.tc : Thread Cert.NinReferenceIdeal.nD Cert.NinReferenceIdeal.τ).loc Cert.NinReferenceIdeal.main_arg2))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4))
      ∧ r.2.sem = fun _ => 0)

def quiescent_TnKernel [hTnKernel : Cert.TnKernel.Facts] : Prop :=
  ∀ (m : (ℓ : Loc Cert.TnKernel.nD Cert.TnKernel.τ Cert.TnKernel.sig) → Buf (Elt Bits) ℓ) (g : Dev Cert.TnKernel.nD → PrngReg), Pre_TnKernel m →
    θ_run (Cert.TnKernel.defs (F := Bits)) (onTc (τ := Cert.TnKernel.τ) (Cert.TnKernel.main (F := Bits))) ⟨m, fun _ => 0, g⟩ (fun r => (∀ c : Dev Cert.TnKernel.nD,
      r.2.mem ((c.tc : Thread Cert.TnKernel.nD Cert.TnKernel.τ).loc Cert.TnKernel.main_arg0) = m ((c.tc : Thread Cert.TnKernel.nD Cert.TnKernel.τ).loc Cert.TnKernel.main_arg0)
      ∧ r.2.mem ((c.tc : Thread Cert.TnKernel.nD Cert.TnKernel.τ).loc Cert.TnKernel.main_arg1) = m ((c.tc : Thread Cert.TnKernel.nD Cert.TnKernel.τ).loc Cert.TnKernel.main_arg1)
      ∧ r.2.mem ((c.tc : Thread Cert.TnKernel.nD Cert.TnKernel.τ).loc Cert.TnKernel.main_arg2) = m ((c.tc : Thread Cert.TnKernel.nD Cert.TnKernel.τ).loc Cert.TnKernel.main_arg2))
      ∧ r.2.sem = fun _ => 0)

def quiescent_TnKernelIdeal [hTnKernelIdeal : Cert.TnKernelIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg), Pre_TnKernelIdeal m →
    θ_run (Cert.TnKernelIdeal.defs (F := Ideal)) (onTc (τ := Cert.TnKernelIdeal.τ) (Cert.TnKernelIdeal.main (F := Ideal))) ⟨m, fun _ => 0, g⟩ (fun r => (∀ c : Dev Cert.TnKernelIdeal.nD,
      r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
      ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1)
      ∧ r.2.mem ((c.tc : Thread Cert.TnKernelIdeal.nD Cert.TnKernelIdeal.τ).loc Cert.TnKernelIdeal.main_arg2) = m ((c.tc : Thread Cert.TnKernelIdeal.nD Cert.TnKernelIdeal.τ).loc Cert.TnKernelIdeal.main_arg2))
      ∧ r.2.sem = fun _ => 0)

def quiescent_TnReferenceIdeal [hTnReferenceIdeal : Cert.TnReferenceIdeal.Facts] : Prop :=
  ∀ (m : (ℓ : Loc Cert.TnReferenceIdeal.nD Cert.TnReferenceIdeal.τ Cert.TnReferenceIdeal.sig) → Buf (Elt Ideal) ℓ) (g : Dev Cert.TnReferenceIdeal.nD → PrngReg), Pre_TnReferenceIdeal m →
    θ_run (Cert.TnReferenceIdeal.defs (F := Ideal)) (onTc (τ := Cert.TnReferenceIdeal.τ) (Cert.TnReferenceIdeal.main (F := Ideal))) ⟨m, fun _ => 0, g⟩ (fun r => (∀ c : Dev Cert.TnReferenceIdeal.nD,
      r.2.mem ((c.tc : Thread Cert.TnReferenceIdeal.nD Cert.TnReferenceIdeal.τ).loc Cert.TnReferenceIdeal.main_arg0) = m ((c.tc : Thread Cert.TnReferenceIdeal.nD Cert.TnReferenceIdeal.τ).loc Cert.TnReferenceIdeal.main_arg0)
      ∧ r.2.mem ((c.tc : Thread Cert.TnReferenceIdeal.nD Cert.TnReferenceIdeal.τ).loc Cert.TnReferenceIdeal.main_arg1) = m ((c.tc : Thread Cert.TnReferenceIdeal.nD Cert.TnReferenceIdeal.τ).loc Cert.TnReferenceIdeal.main_arg1)
      ∧ r.2.mem ((c.tc : Thread Cert.TnReferenceIdeal.nD Cert.TnReferenceIdeal.τ).loc Cert.TnReferenceIdeal.main_arg2) = m ((c.tc : Thread Cert.TnReferenceIdeal.nD Cert.TnReferenceIdeal.τ).loc Cert.TnReferenceIdeal.main_arg2))
      ∧ r.2.sem = fun _ => 0)

def quiescent_NnKernel [hNnKernel : Cert.NnKernel.Facts] : Prop :=
  ∀ (m : (ℓ : Loc Cert.NnKernel.nD Cert.NnKernel.τ Cert.NnKernel.sig) → Buf (Elt Bits) ℓ) (g : Dev Cert.NnKernel.nD → PrngReg), Pre_NnKernel m →
    θ_run (Cert.NnKernel.defs (F := Bits)) (onTc (τ := Cert.NnKernel.τ) (Cert.NnKernel.main (F := Bits))) ⟨m, fun _ => 0, g⟩ (fun r => (∀ c : Dev Cert.NnKernel.nD,
      r.2.mem ((c.tc : Thread Cert.NnKernel.nD Cert.NnKernel.τ).loc Cert.NnKernel.main_arg0) = m ((c.tc : Thread Cert.NnKernel.nD Cert.NnKernel.τ).loc Cert.NnKernel.main_arg0)
      ∧ r.2.mem ((c.tc : Thread Cert.NnKernel.nD Cert.NnKernel.τ).loc Cert.NnKernel.main_arg1) = m ((c.tc : Thread Cert.NnKernel.nD Cert.NnKernel.τ).loc Cert.NnKernel.main_arg1)
      ∧ r.2.mem ((c.tc : Thread Cert.NnKernel.nD Cert.NnKernel.τ).loc Cert.NnKernel.main_arg2) = m ((c.tc : Thread Cert.NnKernel.nD Cert.NnKernel.τ).loc Cert.NnKernel.main_arg2))
      ∧ r.2.sem = fun _ => 0)

def quiescent_NnKernelIdeal [hNnKernelIdeal : Cert.NnKernelIdeal.Facts] : Prop :=
  ∀ (m : (ℓ : Loc Cert.NnKernelIdeal.nD Cert.NnKernelIdeal.τ Cert.NnKernelIdeal.sig) → Buf (Elt Ideal) ℓ) (g : Dev Cert.NnKernelIdeal.nD → PrngReg), Pre_NnKernelIdeal m →
    θ_run (Cert.NnKernelIdeal.defs (F := Ideal)) (onTc (τ := Cert.NnKernelIdeal.τ) (Cert.NnKernelIdeal.main (F := Ideal))) ⟨m, fun _ => 0, g⟩ (fun r => (∀ c : Dev Cert.NnKernelIdeal.nD,
      r.2.mem ((c.tc : Thread Cert.NnKernelIdeal.nD Cert.NnKernelIdeal.τ).loc Cert.NnKernelIdeal.main_arg0) = m ((c.tc : Thread Cert.NnKernelIdeal.nD Cert.NnKernelIdeal.τ).loc Cert.NnKernelIdeal.main_arg0)
      ∧ r.2.mem ((c.tc : Thread Cert.NnKernelIdeal.nD Cert.NnKernelIdeal.τ).loc Cert.NnKernelIdeal.main_arg1) = m ((c.tc : Thread Cert.NnKernelIdeal.nD Cert.NnKernelIdeal.τ).loc Cert.NnKernelIdeal.main_arg1)
      ∧ r.2.mem ((c.tc : Thread Cert.NnKernelIdeal.nD Cert.NnKernelIdeal.τ).loc Cert.NnKernelIdeal.main_arg2) = m ((c.tc : Thread Cert.NnKernelIdeal.nD Cert.NnKernelIdeal.τ).loc Cert.NnKernelIdeal.main_arg2))
      ∧ r.2.sem = fun _ => 0)

def quiescent_NnReferenceIdeal [hNnReferenceIdeal : Cert.NnReferenceIdeal.Facts] : Prop :=
  ∀ (m : (ℓ : Loc Cert.NnReferenceIdeal.nD Cert.NnReferenceIdeal.τ Cert.NnReferenceIdeal.sig) → Buf (Elt Ideal) ℓ) (g : Dev Cert.NnReferenceIdeal.nD → PrngReg), Pre_NnReferenceIdeal m →
    θ_run (Cert.NnReferenceIdeal.defs (F := Ideal)) (onTc (τ := Cert.NnReferenceIdeal.τ) (Cert.NnReferenceIdeal.main (F := Ideal))) ⟨m, fun _ => 0, g⟩ (fun r => (∀ c : Dev Cert.NnReferenceIdeal.nD,
      r.2.mem ((c.tc : Thread Cert.NnReferenceIdeal.nD Cert.NnReferenceIdeal.τ).loc Cert.NnReferenceIdeal.main_arg0) = m ((c.tc : Thread Cert.NnReferenceIdeal.nD Cert.NnReferenceIdeal.τ).loc Cert.NnReferenceIdeal.main_arg0)
      ∧ r.2.mem ((c.tc : Thread Cert.NnReferenceIdeal.nD Cert.NnReferenceIdeal.τ).loc Cert.NnReferenceIdeal.main_arg1) = m ((c.tc : Thread Cert.NnReferenceIdeal.nD Cert.NnReferenceIdeal.τ).loc Cert.NnReferenceIdeal.main_arg1)
      ∧ r.2.mem ((c.tc : Thread Cert.NnReferenceIdeal.nD Cert.NnReferenceIdeal.τ).loc Cert.NnReferenceIdeal.main_arg2) = m ((c.tc : Thread Cert.NnReferenceIdeal.nD Cert.NnReferenceIdeal.τ).loc Cert.NnReferenceIdeal.main_arg2))
      ∧ r.2.sem = fun _ => 0)

def quiescent_NtKernel [hNtKernel : Cert.NtKernel.Facts] : Prop :=
  ∀ (m : (ℓ : Loc Cert.NtKernel.nD Cert.NtKernel.τ Cert.NtKernel.sig) → Buf (Elt Bits) ℓ) (g : Dev Cert.NtKernel.nD → PrngReg), Pre_NtKernel m →
    θ_run (Cert.NtKernel.defs (F := Bits)) (onTc (τ := Cert.NtKernel.τ) (Cert.NtKernel.main (F := Bits))) ⟨m, fun _ => 0, g⟩ (fun r => (∀ c : Dev Cert.NtKernel.nD,
      r.2.mem ((c.tc : Thread Cert.NtKernel.nD Cert.NtKernel.τ).loc Cert.NtKernel.main_arg0) = m ((c.tc : Thread Cert.NtKernel.nD Cert.NtKernel.τ).loc Cert.NtKernel.main_arg0)
      ∧ r.2.mem ((c.tc : Thread Cert.NtKernel.nD Cert.NtKernel.τ).loc Cert.NtKernel.main_arg1) = m ((c.tc : Thread Cert.NtKernel.nD Cert.NtKernel.τ).loc Cert.NtKernel.main_arg1))
      ∧ r.2.sem = fun _ => 0)

def quiescent_NtKernelIdeal [hNtKernelIdeal : Cert.NtKernelIdeal.Facts] : Prop :=
  ∀ (m : (ℓ : Loc Cert.NtKernelIdeal.nD Cert.NtKernelIdeal.τ Cert.NtKernelIdeal.sig) → Buf (Elt Ideal) ℓ) (g : Dev Cert.NtKernelIdeal.nD → PrngReg), Pre_NtKernelIdeal m →
    θ_run (Cert.NtKernelIdeal.defs (F := Ideal)) (onTc (τ := Cert.NtKernelIdeal.τ) (Cert.NtKernelIdeal.main (F := Ideal))) ⟨m, fun _ => 0, g⟩ (fun r => (∀ c : Dev Cert.NtKernelIdeal.nD,
      r.2.mem ((c.tc : Thread Cert.NtKernelIdeal.nD Cert.NtKernelIdeal.τ).loc Cert.NtKernelIdeal.main_arg0) = m ((c.tc : Thread Cert.NtKernelIdeal.nD Cert.NtKernelIdeal.τ).loc Cert.NtKernelIdeal.main_arg0)
      ∧ r.2.mem ((c.tc : Thread Cert.NtKernelIdeal.nD Cert.NtKernelIdeal.τ).loc Cert.NtKernelIdeal.main_arg1) = m ((c.tc : Thread Cert.NtKernelIdeal.nD Cert.NtKernelIdeal.τ).loc Cert.NtKernelIdeal.main_arg1))
      ∧ r.2.sem = fun _ => 0)

def quiescent_NtReferenceIdeal [hNtReferenceIdeal : Cert.NtReferenceIdeal.Facts] : Prop :=
  ∀ (m : (ℓ : Loc Cert.NtReferenceIdeal.nD Cert.NtReferenceIdeal.τ Cert.NtReferenceIdeal.sig) → Buf (Elt Ideal) ℓ) (g : Dev Cert.NtReferenceIdeal.nD → PrngReg), Pre_NtReferenceIdeal m →
    θ_run (Cert.NtReferenceIdeal.defs (F := Ideal)) (onTc (τ := Cert.NtReferenceIdeal.τ) (Cert.NtReferenceIdeal.main (F := Ideal))) ⟨m, fun _ => 0, g⟩ (fun r => (∀ c : Dev Cert.NtReferenceIdeal.nD,
      r.2.mem ((c.tc : Thread Cert.NtReferenceIdeal.nD Cert.NtReferenceIdeal.τ).loc Cert.NtReferenceIdeal.main_arg0) = m ((c.tc : Thread Cert.NtReferenceIdeal.nD Cert.NtReferenceIdeal.τ).loc Cert.NtReferenceIdeal.main_arg0)
      ∧ r.2.mem ((c.tc : Thread Cert.NtReferenceIdeal.nD Cert.NtReferenceIdeal.τ).loc Cert.NtReferenceIdeal.main_arg1) = m ((c.tc : Thread Cert.NtReferenceIdeal.nD Cert.NtReferenceIdeal.τ).loc Cert.NtReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v53) = v2 c
          ∧ r.2.mem ((c.tc : Thread Cert.LossReferenceIdeal.nD Cert.LossReferenceIdeal.τ).loc Cert.LossReferenceIdeal.main_v57) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_InKernel_InKernelIdeal : Prop :=
  True

def algebraic_InKernelIdeal_InReferenceIdeal_pre_in_finite [hInKernelIdeal : Cert.InKernelIdeal.Facts] [hInReferenceIdeal : Cert.InReferenceIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_in_finite m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v5_0)) (v1 : (c : Dev Cert.InKernelIdeal.nD) → Buf (Elt Ideal) ((c.tc : Thread Cert.InKernelIdeal.nD Cert.InKernelIdeal.τ).loc Cert.InKernelIdeal.main_v5_1)) (v2 : (c : Dev Cert.InKernelIdeal.nD) → Buf (Elt Ideal) ((c.tc : Thread Cert.InKernelIdeal.nD Cert.InKernelIdeal.τ).loc Cert.InKernelIdeal.main_v5_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v5_0) = v0 c
          ∧ r.2.mem ((c.tc : Thread Cert.InKernelIdeal.nD Cert.InKernelIdeal.τ).loc Cert.InKernelIdeal.main_v5_1) = v1 c
          ∧ r.2.mem ((c.tc : Thread Cert.InKernelIdeal.nD Cert.InKernelIdeal.τ).loc Cert.InKernelIdeal.main_v5_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v38) = v0 c
          ∧ r.2.mem ((c.tc : Thread Cert.InReferenceIdeal.nD Cert.InReferenceIdeal.τ).loc Cert.InReferenceIdeal.main_v40) = v1 c
          ∧ r.2.mem ((c.tc : Thread Cert.InReferenceIdeal.nD Cert.InReferenceIdeal.τ).loc Cert.InReferenceIdeal.main_v44) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_FfnKernel_FfnKernelIdeal : Prop :=
  IdealRules.named_const.Statement Cert.FfnKernelIdeal.κ "gelu_a" .f32 0x3D372713#32 ((8943 / 200000 : ℝ) : EReal)
  ∧ IdealRules.named_const.Statement Cert.FfnKernelIdeal.κ "gelu_a3" .f32 0x3E095D4F#32 ((26829 / 200000 : ℝ) : EReal)

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v66_0)) (v1 : (c : Dev Cert.FfnKernelIdeal.nD) → Buf (Elt Ideal) ((c.tc : Thread Cert.FfnKernelIdeal.nD Cert.FfnKernelIdeal.τ).loc Cert.FfnKernelIdeal.main_v66_1)) (v2 : (c : Dev Cert.FfnKernelIdeal.nD) → Buf (Elt Ideal) ((c.tc : Thread Cert.FfnKernelIdeal.nD Cert.FfnKernelIdeal.τ).loc Cert.FfnKernelIdeal.main_v66_2)) (v3 : (c : Dev Cert.FfnKernelIdeal.nD) → Buf (Elt Ideal) ((c.tc : Thread Cert.FfnKernelIdeal.nD Cert.FfnKernelIdeal.τ).loc Cert.FfnKernelIdeal.main_v66_3)) (v4 : (c : Dev Cert.FfnKernelIdeal.nD) → Buf (Elt Ideal) ((c.tc : Thread Cert.FfnKernelIdeal.nD Cert.FfnKernelIdeal.τ).loc Cert.FfnKernelIdeal.main_v66_4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v66_0) = v0 c
          ∧ r.2.mem ((c.tc : Thread Cert.FfnKernelIdeal.nD Cert.FfnKernelIdeal.τ).loc Cert.FfnKernelIdeal.main_v66_1) = v1 c
          ∧ r.2.mem ((c.tc : Thread Cert.FfnKernelIdeal.nD Cert.FfnKernelIdeal.τ).loc Cert.FfnKernelIdeal.main_v66_2) = v2 c
          ∧ r.2.mem ((c.tc : Thread Cert.FfnKernelIdeal.nD Cert.FfnKernelIdeal.τ).loc Cert.FfnKernelIdeal.main_v66_3) = v3 c
          ∧ r.2.mem ((c.tc : Thread Cert.FfnKernelIdeal.nD Cert.FfnKernelIdeal.τ).loc Cert.FfnKernelIdeal.main_v66_4) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v140) = v0 c
          ∧ r.2.mem ((c.tc : Thread Cert.FfnReferenceIdeal.nD Cert.FfnReferenceIdeal.τ).loc Cert.FfnReferenceIdeal.main_v145) = v1 c
          ∧ r.2.mem ((c.tc : Thread Cert.FfnReferenceIdeal.nD Cert.FfnReferenceIdeal.τ).loc Cert.FfnReferenceIdeal.main_v149) = v2 c
          ∧ r.2.mem ((c.tc : Thread Cert.FfnReferenceIdeal.nD Cert.FfnReferenceIdeal.τ).loc Cert.FfnReferenceIdeal.main_v152) = v3 c
          ∧ r.2.mem ((c.tc : Thread Cert.FfnReferenceIdeal.nD Cert.FfnReferenceIdeal.τ).loc Cert.FfnReferenceIdeal.main_v144) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)) →
    ∃ (v0 : (c : Dev Cert.MixKernelIdeal.nD) → Buf (Elt Ideal) ((c.tc : Thread Cert.MixKernelIdeal.nD Cert.MixKernelIdeal.τ).loc Cert.MixKernelIdeal.main_v394_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v394_5) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v70) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_NinKernel_NinKernelIdeal : Prop :=
  True

def algebraic_NinKernelIdeal_NinReferenceIdeal [hNinKernelIdeal : Cert.NinKernelIdeal.Facts] [hNinReferenceIdeal : Cert.NinReferenceIdeal.Facts] : Prop :=
  ∀ (m : (ℓ : Loc Cert.NinKernelIdeal.nD Cert.NinKernelIdeal.τ Cert.NinKernelIdeal.sig) → Buf (Elt Ideal) ℓ) (g : Dev Cert.NinKernelIdeal.nD → PrngReg)
    (m' : (ℓ : Loc Cert.NinReferenceIdeal.nD Cert.NinReferenceIdeal.τ Cert.NinReferenceIdeal.sig) → Buf (Elt Ideal) ℓ) (g' : Dev Cert.NinReferenceIdeal.nD → PrngReg), Pre_NinKernelIdeal m →
    (∀ c : Dev Cert.NinKernelIdeal.nD,
      m' ((c.tc : Thread Cert.NinReferenceIdeal.nD Cert.NinReferenceIdeal.τ).loc Cert.NinReferenceIdeal.main_arg0) = m ((c.tc : Thread Cert.NinKernelIdeal.nD Cert.NinKernelIdeal.τ).loc Cert.NinKernelIdeal.main_arg0)
      ∧ m' ((c.tc : Thread Cert.NinReferenceIdeal.nD Cert.NinReferenceIdeal.τ).loc Cert.NinReferenceIdeal.main_arg1) = m ((c.tc : Thread Cert.NinKernelIdeal.nD Cert.NinKernelIdeal.τ).loc Cert.NinKernelIdeal.main_arg1)
      ∧ m' ((c.tc : Thread Cert.NinReferenceIdeal.nD Cert.NinReferenceIdeal.τ).loc Cert.NinReferenceIdeal.main_arg2) = m ((c.tc : Thread Cert.NinKernelIdeal.nD Cert.NinKernelIdeal.τ).loc Cert.NinKernelIdeal.main_arg2)) →
    ∃ (v0 : (c : Dev Cert.NinKernelIdeal.nD) → Buf (Elt Ideal) ((c.tc : Thread Cert.NinKernelIdeal.nD Cert.NinKernelIdeal.τ).loc Cert.NinKernelIdeal.main_v3_0)) (v1 : (c : Dev Cert.NinKernelIdeal.nD) → Buf (Elt Ideal) ((c.tc : Thread Cert.NinKernelIdeal.nD Cert.NinKernelIdeal.τ).loc Cert.NinKernelIdeal.main_v3_1)),
      θ_run (Cert.NinKernelIdeal.defs (F := Ideal)) (onTc (τ := Cert.NinKernelIdeal.τ) (Cert.NinKernelIdeal.main (F := Ideal))) ⟨m, fun _ => 0, g⟩ (fun r => ∀ c : Dev Cert.NinKernelIdeal.nD,
          r.2.mem ((c.tc : Thread Cert.NinKernelIdeal.nD Cert.NinKernelIdeal.τ).loc Cert.NinKernelIdeal.main_v3_0) = v0 c
          ∧ r.2.mem ((c.tc : Thread Cert.NinKernelIdeal.nD Cert.NinKernelIdeal.τ).loc Cert.NinKernelIdeal.main_v3_1) = v1 c
          ∧ r.2.mem ((c.tc : Thread Cert.NinKernelIdeal.nD Cert.NinKernelIdeal.τ).loc Cert.NinKernelIdeal.main_arg0) = m ((c.tc : Thread Cert.NinKernelIdeal.nD Cert.NinKernelIdeal.τ).loc Cert.NinKernelIdeal.main_arg0)
          ∧ r.2.mem ((c.tc : Thread Cert.NinKernelIdeal.nD Cert.NinKernelIdeal.τ).loc Cert.NinKernelIdeal.main_arg1) = m ((c.tc : Thread Cert.NinKernelIdeal.nD Cert.NinKernelIdeal.τ).loc Cert.NinKernelIdeal.main_arg1)
          ∧ r.2.mem ((c.tc : Thread Cert.NinKernelIdeal.nD Cert.NinKernelIdeal.τ).loc Cert.NinKernelIdeal.main_arg2) = m ((c.tc : Thread Cert.NinKernelIdeal.nD Cert.NinKernelIdeal.τ).loc Cert.NinKernelIdeal.main_arg2))
      ∧ θ_run (Cert.NinReferenceIdeal.defs (F := Ideal)) (onTc (τ := Cert.NinReferenceIdeal.τ) (Cert.NinReferenceIdeal.main (F := Ideal))) ⟨m', fun _ => 0, g'⟩ (fun r => ∀ c : Dev Cert.NinReferenceIdeal.nD,
          r.2.mem ((c.tc : Thread Cert.NinReferenceIdeal.nD Cert.NinReferenceIdeal.τ).loc Cert.NinReferenceIdeal.main_v13) = v0 c
          ∧ r.2.mem ((c.tc : Thread Cert.NinReferenceIdeal.nD Cert.NinReferenceIdeal.τ).loc Cert.NinReferenceIdeal.main_v14) = v1 c
          ∧ r.2.mem ((c.tc : Thread Cert.NinReferenceIdeal.nD Cert.NinReferenceIdeal.τ).loc Cert.NinReferenceIdeal.main_arg0) = m' ((c.tc : Thread Cert.NinReferenceIdeal.nD Cert.NinReferenceIdeal.τ).loc Cert.NinReferenceIdeal.main_arg0)
          ∧ r.2.mem ((c.tc : Thread Cert.NinReferenceIdeal.nD Cert.NinReferenceIdeal.τ).loc Cert.NinReferenceIdeal.main_arg1) = m' ((c.tc : Thread Cert.NinReferenceIdeal.nD Cert.NinReferenceIdeal.τ).loc Cert.NinReferenceIdeal.main_arg1)
          ∧ r.2.mem ((c.tc : Thread Cert.NinReferenceIdeal.nD Cert.NinReferenceIdeal.τ).loc Cert.NinReferenceIdeal.main_arg2) = m' ((c.tc : Thread Cert.NinReferenceIdeal.nD Cert.NinReferenceIdeal.τ).loc Cert.NinReferenceIdeal.main_arg2))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)) →
    ∃ (v0 : (c : Dev Cert.FwdKernelIdeal.nD) → Buf (Elt Ideal) ((c.tc : Thread Cert.FwdKernelIdeal.nD Cert.FwdKernelIdeal.τ).loc Cert.FwdKernelIdeal.main_v22_0)) (v1 : (c : Dev Cert.FwdKernelIdeal.nD) → Buf (Elt Ideal) ((c.tc : Thread Cert.FwdKernelIdeal.nD Cert.FwdKernelIdeal.τ).loc Cert.FwdKernelIdeal.main_v22_1)) (v2 : (c : Dev Cert.FwdKernelIdeal.nD) → Buf (Elt Ideal) ((c.tc : Thread Cert.FwdKernelIdeal.nD Cert.FwdKernelIdeal.τ).loc Cert.FwdKernelIdeal.main_v22_2)) (v3 : (c : Dev Cert.FwdKernelIdeal.nD) → Buf (Elt Ideal) ((c.tc : Thread Cert.FwdKernelIdeal.nD Cert.FwdKernelIdeal.τ).loc Cert.FwdKernelIdeal.main_v22_3)) (v4 : (c : Dev Cert.FwdKernelIdeal.nD) → Buf (Elt Ideal) ((c.tc : Thread Cert.FwdKernelIdeal.nD Cert.FwdKernelIdeal.τ).loc Cert.FwdKernelIdeal.main_v22_4)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v22_0) = v0 c
          ∧ r.2.mem ((c.tc : Thread Cert.FwdKernelIdeal.nD Cert.FwdKernelIdeal.τ).loc Cert.FwdKernelIdeal.main_v22_1) = v1 c
          ∧ r.2.mem ((c.tc : Thread Cert.FwdKernelIdeal.nD Cert.FwdKernelIdeal.τ).loc Cert.FwdKernelIdeal.main_v22_2) = v2 c
          ∧ r.2.mem ((c.tc : Thread Cert.FwdKernelIdeal.nD Cert.FwdKernelIdeal.τ).loc Cert.FwdKernelIdeal.main_v22_3) = v3 c
          ∧ r.2.mem ((c.tc : Thread Cert.FwdKernelIdeal.nD Cert.FwdKernelIdeal.τ).loc Cert.FwdKernelIdeal.main_v22_4) = v4 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v53) = v0 c
          ∧ r.2.mem ((c.tc : Thread Cert.FwdReferenceIdeal.nD Cert.FwdReferenceIdeal.τ).loc Cert.FwdReferenceIdeal.main_v54) = v1 c
          ∧ r.2.mem ((c.tc : Thread Cert.FwdReferenceIdeal.nD Cert.FwdReferenceIdeal.τ).loc Cert.FwdReferenceIdeal.main_v55) = v2 c
          ∧ r.2.mem ((c.tc : Thread Cert.FwdReferenceIdeal.nD Cert.FwdReferenceIdeal.τ).loc Cert.FwdReferenceIdeal.main_v58) = v3 c
          ∧ r.2.mem ((c.tc : Thread Cert.FwdReferenceIdeal.nD Cert.FwdReferenceIdeal.τ).loc Cert.FwdReferenceIdeal.main_v61) = v4 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4))

def preserves_TnKernel_TnKernelIdeal : Prop :=
  True

def algebraic_TnKernelIdeal_TnReferenceIdeal [hTnKernelIdeal : Cert.TnKernelIdeal.Facts] [hTnReferenceIdeal : Cert.TnReferenceIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg)
    (m' : (ℓ : Loc Cert.TnReferenceIdeal.nD Cert.TnReferenceIdeal.τ Cert.TnReferenceIdeal.sig) → Buf (Elt Ideal) ℓ) (g' : Dev Cert.TnReferenceIdeal.nD → PrngReg), Pre_TnKernelIdeal m →
    (∀ c : Dev Cert.TnKernelIdeal.nD,
      m' ((c.tc : Thread Cert.TnReferenceIdeal.nD Cert.TnReferenceIdeal.τ).loc Cert.TnReferenceIdeal.main_arg0) = m ((c.tc : Thread Cert.TnKernelIdeal.nD Cert.TnKernelIdeal.τ).loc Cert.TnKernelIdeal.main_arg0)
      ∧ m' ((c.tc : Thread Cert.TnReferenceIdeal.nD Cert.TnReferenceIdeal.τ).loc Cert.TnReferenceIdeal.main_arg1) = m ((c.tc : Thread Cert.TnKernelIdeal.nD Cert.TnKernelIdeal.τ).loc Cert.TnKernelIdeal.main_arg1)
      ∧ m' ((c.tc : Thread Cert.TnReferenceIdeal.nD Cert.TnReferenceIdeal.τ).loc Cert.TnReferenceIdeal.main_arg2) = m ((c.tc : Thread Cert.TnKernelIdeal.nD Cert.TnKernelIdeal.τ).loc Cert.TnKernelIdeal.main_arg2)) →
    ∃ (v0 : (c : Dev Cert.TnKernelIdeal.nD) → Buf (Elt Ideal) ((c.tc : Thread Cert.TnKernelIdeal.nD Cert.TnKernelIdeal.τ).loc Cert.TnKernelIdeal.main_v15)),
      θ_run (Cert.TnKernelIdeal.defs (F := Ideal)) (onTc (τ := Cert.TnKernelIdeal.τ) (Cert.TnKernelIdeal.main (F := Ideal))) ⟨m, fun _ => 0, g⟩ (fun r => ∀ c : Dev Cert.TnKernelIdeal.nD,
          r.2.mem ((c.tc : Thread Cert.TnKernelIdeal.nD Cert.TnKernelIdeal.τ).loc Cert.TnKernelIdeal.main_v15) = v0 c
          ∧ r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
          ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1)
          ∧ r.2.mem ((c.tc : Thread Cert.TnKernelIdeal.nD Cert.TnKernelIdeal.τ).loc Cert.TnKernelIdeal.main_arg2) = m ((c.tc : Thread Cert.TnKernelIdeal.nD Cert.TnKernelIdeal.τ).loc Cert.TnKernelIdeal.main_arg2))
      ∧ θ_run (Cert.TnReferenceIdeal.defs (F := Ideal)) (onTc (τ := Cert.TnReferenceIdeal.τ) (Cert.TnReferenceIdeal.main (F := Ideal))) ⟨m', fun _ => 0, g'⟩ (fun r => ∀ c : Dev Cert.TnReferenceIdeal.nD,
          r.2.mem ((c.tc : Thread Cert.TnReferenceIdeal.nD Cert.TnReferenceIdeal.τ).loc Cert.TnReferenceIdeal.main_v18) = v0 c
          ∧ r.2.mem ((c.tc : Thread Cert.TnReferenceIdeal.nD Cert.TnReferenceIdeal.τ).loc Cert.TnReferenceIdeal.main_arg0) = m' ((c.tc : Thread Cert.TnReferenceIdeal.nD Cert.TnReferenceIdeal.τ).loc Cert.TnReferenceIdeal.main_arg0)
          ∧ r.2.mem ((c.tc : Thread Cert.TnReferenceIdeal.nD Cert.TnReferenceIdeal.τ).loc Cert.TnReferenceIdeal.main_arg1) = m' ((c.tc : Thread Cert.TnReferenceIdeal.nD Cert.TnReferenceIdeal.τ).loc Cert.TnReferenceIdeal.main_arg1)
          ∧ r.2.mem ((c.tc : Thread Cert.TnReferenceIdeal.nD Cert.TnReferenceIdeal.τ).loc Cert.TnReferenceIdeal.main_arg2) = m' ((c.tc : Thread Cert.TnReferenceIdeal.nD Cert.TnReferenceIdeal.τ).loc Cert.TnReferenceIdeal.main_arg2))

def preserves_NnKernel_NnKernelIdeal : Prop :=
  True

def algebraic_NnKernelIdeal_NnReferenceIdeal [hNnKernelIdeal : Cert.NnKernelIdeal.Facts] [hNnReferenceIdeal : Cert.NnReferenceIdeal.Facts] : Prop :=
  ∀ (m : (ℓ : Loc Cert.NnKernelIdeal.nD Cert.NnKernelIdeal.τ Cert.NnKernelIdeal.sig) → Buf (Elt Ideal) ℓ) (g : Dev Cert.NnKernelIdeal.nD → PrngReg)
    (m' : (ℓ : Loc Cert.NnReferenceIdeal.nD Cert.NnReferenceIdeal.τ Cert.NnReferenceIdeal.sig) → Buf (Elt Ideal) ℓ) (g' : Dev Cert.NnReferenceIdeal.nD → PrngReg), Pre_NnKernelIdeal m →
    (∀ c : Dev Cert.NnKernelIdeal.nD,
      m' ((c.tc : Thread Cert.NnReferenceIdeal.nD Cert.NnReferenceIdeal.τ).loc Cert.NnReferenceIdeal.main_arg0) = m ((c.tc : Thread Cert.NnKernelIdeal.nD Cert.NnKernelIdeal.τ).loc Cert.NnKernelIdeal.main_arg0)
      ∧ m' ((c.tc : Thread Cert.NnReferenceIdeal.nD Cert.NnReferenceIdeal.τ).loc Cert.NnReferenceIdeal.main_arg1) = m ((c.tc : Thread Cert.NnKernelIdeal.nD Cert.NnKernelIdeal.τ).loc Cert.NnKernelIdeal.main_arg1)
      ∧ m' ((c.tc : Thread Cert.NnReferenceIdeal.nD Cert.NnReferenceIdeal.τ).loc Cert.NnReferenceIdeal.main_arg2) = m ((c.tc : Thread Cert.NnKernelIdeal.nD Cert.NnKernelIdeal.τ).loc Cert.NnKernelIdeal.main_arg2)) →
    ∃ (v0 : (c : Dev Cert.NnKernelIdeal.nD) → Buf (Elt Ideal) ((c.tc : Thread Cert.NnKernelIdeal.nD Cert.NnKernelIdeal.τ).loc Cert.NnKernelIdeal.main_v2)),
      θ_run (Cert.NnKernelIdeal.defs (F := Ideal)) (onTc (τ := Cert.NnKernelIdeal.τ) (Cert.NnKernelIdeal.main (F := Ideal))) ⟨m, fun _ => 0, g⟩ (fun r => ∀ c : Dev Cert.NnKernelIdeal.nD,
          r.2.mem ((c.tc : Thread Cert.NnKernelIdeal.nD Cert.NnKernelIdeal.τ).loc Cert.NnKernelIdeal.main_v2) = v0 c
          ∧ r.2.mem ((c.tc : Thread Cert.NnKernelIdeal.nD Cert.NnKernelIdeal.τ).loc Cert.NnKernelIdeal.main_arg0) = m ((c.tc : Thread Cert.NnKernelIdeal.nD Cert.NnKernelIdeal.τ).loc Cert.NnKernelIdeal.main_arg0)
          ∧ r.2.mem ((c.tc : Thread Cert.NnKernelIdeal.nD Cert.NnKernelIdeal.τ).loc Cert.NnKernelIdeal.main_arg1) = m ((c.tc : Thread Cert.NnKernelIdeal.nD Cert.NnKernelIdeal.τ).loc Cert.NnKernelIdeal.main_arg1)
          ∧ r.2.mem ((c.tc : Thread Cert.NnKernelIdeal.nD Cert.NnKernelIdeal.τ).loc Cert.NnKernelIdeal.main_arg2) = m ((c.tc : Thread Cert.NnKernelIdeal.nD Cert.NnKernelIdeal.τ).loc Cert.NnKernelIdeal.main_arg2))
      ∧ θ_run (Cert.NnReferenceIdeal.defs (F := Ideal)) (onTc (τ := Cert.NnReferenceIdeal.τ) (Cert.NnReferenceIdeal.main (F := Ideal))) ⟨m', fun _ => 0, g'⟩ (fun r => ∀ c : Dev Cert.NnReferenceIdeal.nD,
          r.2.mem ((c.tc : Thread Cert.NnReferenceIdeal.nD Cert.NnReferenceIdeal.τ).loc Cert.NnReferenceIdeal.main_v1) = v0 c
          ∧ r.2.mem ((c.tc : Thread Cert.NnReferenceIdeal.nD Cert.NnReferenceIdeal.τ).loc Cert.NnReferenceIdeal.main_arg0) = m' ((c.tc : Thread Cert.NnReferenceIdeal.nD Cert.NnReferenceIdeal.τ).loc Cert.NnReferenceIdeal.main_arg0)
          ∧ r.2.mem ((c.tc : Thread Cert.NnReferenceIdeal.nD Cert.NnReferenceIdeal.τ).loc Cert.NnReferenceIdeal.main_arg1) = m' ((c.tc : Thread Cert.NnReferenceIdeal.nD Cert.NnReferenceIdeal.τ).loc Cert.NnReferenceIdeal.main_arg1)
          ∧ r.2.mem ((c.tc : Thread Cert.NnReferenceIdeal.nD Cert.NnReferenceIdeal.τ).loc Cert.NnReferenceIdeal.main_arg2) = m' ((c.tc : Thread Cert.NnReferenceIdeal.nD Cert.NnReferenceIdeal.τ).loc Cert.NnReferenceIdeal.main_arg2))

def preserves_NtKernel_NtKernelIdeal : Prop :=
  True

def algebraic_NtKernelIdeal_NtReferenceIdeal [hNtKernelIdeal : Cert.NtKernelIdeal.Facts] [hNtReferenceIdeal : Cert.NtReferenceIdeal.Facts] : Prop :=
  ∀ (m : (ℓ : Loc Cert.NtKernelIdeal.nD Cert.NtKernelIdeal.τ Cert.NtKernelIdeal.sig) → Buf (Elt Ideal) ℓ) (g : Dev Cert.NtKernelIdeal.nD → PrngReg)
    (m' : (ℓ : Loc Cert.NtReferenceIdeal.nD Cert.NtReferenceIdeal.τ Cert.NtReferenceIdeal.sig) → Buf (Elt Ideal) ℓ) (g' : Dev Cert.NtReferenceIdeal.nD → PrngReg), Pre_NtKernelIdeal m →
    (∀ c : Dev Cert.NtKernelIdeal.nD,
      m' ((c.tc : Thread Cert.NtReferenceIdeal.nD Cert.NtReferenceIdeal.τ).loc Cert.NtReferenceIdeal.main_arg0) = m ((c.tc : Thread Cert.NtKernelIdeal.nD Cert.NtKernelIdeal.τ).loc Cert.NtKernelIdeal.main_arg0)
      ∧ m' ((c.tc : Thread Cert.NtReferenceIdeal.nD Cert.NtReferenceIdeal.τ).loc Cert.NtReferenceIdeal.main_arg1) = m ((c.tc : Thread Cert.NtKernelIdeal.nD Cert.NtKernelIdeal.τ).loc Cert.NtKernelIdeal.main_arg1)) →
    ∃ (v0 : (c : Dev Cert.NtKernelIdeal.nD) → Buf (Elt Ideal) ((c.tc : Thread Cert.NtKernelIdeal.nD Cert.NtKernelIdeal.τ).loc Cert.NtKernelIdeal.main_v2)),
      θ_run (Cert.NtKernelIdeal.defs (F := Ideal)) (onTc (τ := Cert.NtKernelIdeal.τ) (Cert.NtKernelIdeal.main (F := Ideal))) ⟨m, fun _ => 0, g⟩ (fun r => ∀ c : Dev Cert.NtKernelIdeal.nD,
          r.2.mem ((c.tc : Thread Cert.NtKernelIdeal.nD Cert.NtKernelIdeal.τ).loc Cert.NtKernelIdeal.main_v2) = v0 c
          ∧ r.2.mem ((c.tc : Thread Cert.NtKernelIdeal.nD Cert.NtKernelIdeal.τ).loc Cert.NtKernelIdeal.main_arg0) = m ((c.tc : Thread Cert.NtKernelIdeal.nD Cert.NtKernelIdeal.τ).loc Cert.NtKernelIdeal.main_arg0)
          ∧ r.2.mem ((c.tc : Thread Cert.NtKernelIdeal.nD Cert.NtKernelIdeal.τ).loc Cert.NtKernelIdeal.main_arg1) = m ((c.tc : Thread Cert.NtKernelIdeal.nD Cert.NtKernelIdeal.τ).loc Cert.NtKernelIdeal.main_arg1))
      ∧ θ_run (Cert.NtReferenceIdeal.defs (F := Ideal)) (onTc (τ := Cert.NtReferenceIdeal.τ) (Cert.NtReferenceIdeal.main (F := Ideal))) ⟨m', fun _ => 0, g'⟩ (fun r => ∀ c : Dev Cert.NtReferenceIdeal.nD,
          r.2.mem ((c.tc : Thread Cert.NtReferenceIdeal.nD Cert.NtReferenceIdeal.τ).loc Cert.NtReferenceIdeal.main_v2) = v0 c
          ∧ r.2.mem ((c.tc : Thread Cert.NtReferenceIdeal.nD Cert.NtReferenceIdeal.τ).loc Cert.NtReferenceIdeal.main_arg0) = m' ((c.tc : Thread Cert.NtReferenceIdeal.nD Cert.NtReferenceIdeal.τ).loc Cert.NtReferenceIdeal.main_arg0)
          ∧ r.2.mem ((c.tc : Thread Cert.NtReferenceIdeal.nD Cert.NtReferenceIdeal.τ).loc Cert.NtReferenceIdeal.main_arg1) = m' ((c.tc : Thread Cert.NtReferenceIdeal.nD Cert.NtReferenceIdeal.τ).loc Cert.NtReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v17)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v17) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v19) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v1) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def Claim : Prop :=
  ∃ (hLossKernel : Cert.LossKernel.Facts) (hLossKernelIdeal : Cert.LossKernelIdeal.Facts) (hLossReferenceIdeal : Cert.LossReferenceIdeal.Facts) (hInKernel : Cert.InKernel.Facts) (hInKernelIdeal : Cert.InKernelIdeal.Facts) (hInReferenceIdeal : Cert.InReferenceIdeal.Facts) (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hNinKernel : Cert.NinKernel.Facts) (hNinKernelIdeal : Cert.NinKernelIdeal.Facts) (hNinReferenceIdeal : Cert.NinReferenceIdeal.Facts) (hFwdKernel : Cert.FwdKernel.Facts) (hFwdKernelIdeal : Cert.FwdKernelIdeal.Facts) (hFwdReferenceIdeal : Cert.FwdReferenceIdeal.Facts) (hTnKernel : Cert.TnKernel.Facts) (hTnKernelIdeal : Cert.TnKernelIdeal.Facts) (hTnReferenceIdeal : Cert.TnReferenceIdeal.Facts) (hNnKernel : Cert.NnKernel.Facts) (hNnKernelIdeal : Cert.NnKernelIdeal.Facts) (hNnReferenceIdeal : Cert.NnReferenceIdeal.Facts) (hNtKernel : Cert.NtKernel.Facts) (hNtKernelIdeal : Cert.NtKernelIdeal.Facts) (hNtReferenceIdeal : Cert.NtReferenceIdeal.Facts) (hUpKernel : Cert.UpKernel.Facts) (hUpKernelIdeal : Cert.UpKernelIdeal.Facts) (hUpReferenceIdeal : Cert.UpReferenceIdeal.Facts) (hSumKernel : Cert.SumKernel.Facts) (hSumKernelIdeal : Cert.SumKernelIdeal.Facts) (hSumReferenceIdeal : Cert.SumReferenceIdeal.Facts) (hAdamKernel : Cert.AdamKernel.Facts) (hAdamKernelIdeal : Cert.AdamKernelIdeal.Facts) (hAdamReferenceIdeal : Cert.AdamReferenceIdeal.Facts) (hPre_loss_finite : Cert.Pre_loss_finite.Facts) (hPre_in_finite : Cert.Pre_in_finite.Facts) (hPre_ffn_finite : Cert.Pre_ffn_finite.Facts),
    quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_InKernel (hInKernel := hInKernel)
    ∧ quiescent_InKernelIdeal (hInKernelIdeal := hInKernelIdeal)
    ∧ quiescent_InKernelIdeal_pre_in_finite (hInKernelIdeal := hInKernelIdeal) (hPre_in_finite := hPre_in_finite)
    ∧ quiescent_InReferenceIdeal (hInReferenceIdeal := hInReferenceIdeal)
    ∧ quiescent_InReferenceIdeal_pre_in_finite (hInReferenceIdeal := hInReferenceIdeal) (hPre_in_finite := hPre_in_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_NinKernel (hNinKernel := hNinKernel)
    ∧ quiescent_NinKernelIdeal (hNinKernelIdeal := hNinKernelIdeal)
    ∧ quiescent_NinReferenceIdeal (hNinReferenceIdeal := hNinReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_TnKernel (hTnKernel := hTnKernel)
    ∧ quiescent_TnKernelIdeal (hTnKernelIdeal := hTnKernelIdeal)
    ∧ quiescent_TnReferenceIdeal (hTnReferenceIdeal := hTnReferenceIdeal)
    ∧ quiescent_NnKernel (hNnKernel := hNnKernel)
    ∧ quiescent_NnKernelIdeal (hNnKernelIdeal := hNnKernelIdeal)
    ∧ quiescent_NnReferenceIdeal (hNnReferenceIdeal := hNnReferenceIdeal)
    ∧ quiescent_NtKernel (hNtKernel := hNtKernel)
    ∧ quiescent_NtKernelIdeal (hNtKernelIdeal := hNtKernelIdeal)
    ∧ quiescent_NtReferenceIdeal (hNtReferenceIdeal := hNtReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_InKernel_InKernelIdeal
    ∧ algebraic_InKernelIdeal_InReferenceIdeal_pre_in_finite (hInKernelIdeal := hInKernelIdeal) (hInReferenceIdeal := hInReferenceIdeal) (hPre_in_finite := hPre_in_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_MixKernel_MixKernelIdeal
    ∧ algebraic_MixKernelIdeal_MixReferenceIdeal (hMixKernelIdeal := hMixKernelIdeal) (hMixReferenceIdeal := hMixReferenceIdeal)
    ∧ preserves_NinKernel_NinKernelIdeal
    ∧ algebraic_NinKernelIdeal_NinReferenceIdeal (hNinKernelIdeal := hNinKernelIdeal) (hNinReferenceIdeal := hNinReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_TnKernel_TnKernelIdeal
    ∧ algebraic_TnKernelIdeal_TnReferenceIdeal (hTnKernelIdeal := hTnKernelIdeal) (hTnReferenceIdeal := hTnReferenceIdeal)
    ∧ preserves_NnKernel_NnKernelIdeal
    ∧ algebraic_NnKernelIdeal_NnReferenceIdeal (hNnKernelIdeal := hNnKernelIdeal) (hNnReferenceIdeal := hNnReferenceIdeal)
    ∧ preserves_NtKernel_NtKernelIdeal
    ∧ algebraic_NtKernelIdeal_NtReferenceIdeal (hNtKernelIdeal := hNtKernelIdeal) (hNtReferenceIdeal := hNtReferenceIdeal)
    ∧ preserves_UpKernel_UpKernelIdeal
    ∧ algebraic_UpKernelIdeal_UpReferenceIdeal (hUpKernelIdeal := hUpKernelIdeal) (hUpReferenceIdeal := hUpReferenceIdeal)
    ∧ preserves_SumKernel_SumKernelIdeal
    ∧ algebraic_SumKernelIdeal_SumReferenceIdeal (hSumKernelIdeal := hSumKernelIdeal) (hSumReferenceIdeal := hSumReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_ffn_finite.lean ====
abbrev S4096x1024 : Shape := ⟨2, ![4096, 1024]⟩
abbrev S1024 : Shape := ⟨1, ![1024]⟩
abbrev S1024x6144 : Shape := ⟨2, ![1024, 6144]⟩
abbrev S3x6144 : Shape := ⟨2, ![3, 6144]⟩
abbrev S3072x1024 : Shape := ⟨2, ![3072, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_
  bcast_S_S3x6144 : S_.BroadcastsInDim S3x6144 (![] : Fin 0 → Fin S3x6144.rank)
  reducesTo_S3x6144_S_d0_1 : S3x6144.ReducesTo [0, 1] S_
  bcast_S_S3072x1024 : S_.BroadcastsInDim S3072x1024 (![] : Fin 0 → Fin S3072x1024.rank)
  reducesTo_S3072x1024_S_d0_1 : S3072x1024.ReducesTo [0, 1] S_

variable [Facts]

def fn_part1 {F : FTy → Type} [FloatOps F] (main_arg4 : FVec F S3072x1024 .f32) (main_arg5 : FVec F S4096x1024 .f32) (main_v13 : IVec S_ 1) (main_v16 : IVec S3x6144 1) : IVec S_ 1 :=
  let main_c_5 : IVec S_ 1 := constantI S_ 1 1#1
  let main_v17 : IVec S_ 1 := (fun x v => Host.reduce IntOp.andi x v reducesTo_S3x6144_S_d0_1 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024x6144 .f32) (main_arg3 : FVec F S3x6144 .f32) (main_arg4 : FVec F S3072x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg2
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  let main_v14 : FVec F S3x6144 .f32 := Host.absf main_arg3
  let main_cst_4 : FVec F S_ .f32 := constant S_ .f32 0x7F800000#32
  let main_v15 : FVec F S3x6144 .f32 := broadcastInDim S3x6144 ![] bcast_S_S3x6144 main_cst_4
  let main_v16 : IVec S3x6144 1 := cmpf .olt main_v14 main_v15
  fn_part1 (F := F) main_arg4 main_arg5 main_v13 main_v16
-- ==== Pre_in_finite.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3584 : S_.BroadcastsInDim S1024x3584 (![] : Fin 0 → Fin S1024x3584.rank)
  reducesTo_S1024x3584_S_d0_1 : S1024x3584.ReducesTo [0, 1] S_
  bcast_S_S4096x3584 : S_.BroadcastsInDim S4096x3584 (![] : Fin 0 → Fin S4096x3584.rank)
  reducesTo_S4096x3584_S_d0_1 : S4096x3584.ReducesTo [0, 1] S_

variable [Facts]

def fn_part1 {F : FTy → Type} [FloatOps F] (main_v13 : IVec S_ 1) (main_v16 : IVec S4096x3584 1) : IVec S_ 1 :=
  let main_c_5 : IVec S_ 1 := constantI S_ 1 1#1
  let main_v17 : IVec S_ 1 := (fun x v => Host.reduce IntOp.andi x v reducesTo_S4096x3584_S_d0_1 h_S_) main_v16 main_c_5
  let main_v18 : IVec S_ 1 := andi main_v13 main_v17
  main_v18

def fn {F : FTy → Type} [FloatOps F] (main_arg0 : FVec F S4096x1024 .f32) (main_arg1 : FVec F S1024 .f32) (main_arg2 : FVec F S1024x3584 .f32) (main_arg3 : FVec F S4096x1024 .f32) (main_arg4 : FVec F S4096x3584 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3584 .f32 := Host.absf main_arg2
  let main_cst_2 : FVec F S_ .f32 := constant S_ .f32 0x7F800000#32
  let main_v10 : FVec F S1024x3584 .f32 := broadcastInDim S1024x3584 ![] bcast_S_S1024x3584 main_cst_2
  let main_v11 : IVec S1024x3584 1 := cmpf .olt main_v9 main_v10
  let main_c_3 : IVec S_ 1 := constantI S_ 1 1#1
  let main_v12 : IVec S_ 1 := (fun x v => Host.reduce IntOp.andi x v reducesTo_S1024x3584_S_d0_1 h_S_) main_v11 main_c_3
  let main_v13 : IVec S_ 1 := andi main_v8 main_v12
  let main_v14 : FVec F S4096x3584 .f32 := Host.absf main_arg4
  let main_cst_4 : FVec F S_ .f32 := constant S_ .f32 0x7F800000#32
  let main_v15 : FVec F S4096x3584 .f32 := broadcastInDim S4096x3584 ![] bcast_S_S4096x3584 main_cst_4
  let main_v16 : IVec S4096x3584 1 := cmpf .olt main_v14 main_v15
  fn_part1 (F := F) main_v13 main_v16
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== LossKernel.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S4096x1024, .bf16⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x1024, .i32⟩
  | .hbm, ⟨72, _⟩ => ⟨S8x128, .f32⟩
  | .hbm, ⟨73, _⟩ => ⟨S4096x1024, .bf16⟩
  | .hbm, ⟨74, _⟩ => ⟨S_, .i32⟩
  | .hbm, ⟨75, _⟩ => ⟨S8x1024, .i32⟩
  | .hbm, ⟨76, _⟩ => ⟨S8x1024, .i1⟩
  | .hbm, ⟨77, _⟩ => ⟨S1x1024, .f32⟩
  | .hbm, ⟨78, _⟩ => ⟨S_, .f32⟩
  | .hbm, ⟨79, _⟩ => ⟨S_, .f32⟩
  | .hbm, ⟨80, _⟩ => ⟨S8x1024, .f32⟩
  | .hbm, ⟨81, _⟩ => ⟨S8x1024, .f32⟩
  | .hbm, ⟨82, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_16 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== InKernel.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S3584x1024 : Shape := ⟨2, ![3584, 1024]⟩
abbrev S1x1024 : Shape := ⟨2, ![1, 1024]⟩
abbrev S_ : Shape := ⟨0, ![]⟩
abbrev S8x128 : Shape := ⟨2, ![8, 128]⟩
abbrev S8x1024 : Shape := ⟨2, ![8, 1024]⟩
abbrev S1024x896 : Shape := ⟨2, ![1024, 896]⟩
abbrev S896x1024 : Shape := ⟨2, ![896, 1024]⟩
abbrev S1024x1024 : Shape := ⟨2, ![1024, 1024]⟩
abbrev S1024x1 : Shape := ⟨2, ![1024, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x1024, .f32⟩
  | .hbm, ⟨4, _⟩ => ⟨S4096x3584, .f32⟩
  | .hbm, ⟨5, _⟩ => ⟨S4096x3584, .bf16⟩
  | .hbm, ⟨6, _⟩ => ⟨S3584x1024, .f32⟩
  | .hbm, ⟨7, _⟩ => ⟨S3584x1024, .bf16⟩
  | .hbm, ⟨8, _⟩ => ⟨S1x1024, .f32⟩
  | .hbm, ⟨9, _⟩ => ⟨S_, .f32⟩
  | .hbm, ⟨10, _⟩ => ⟨S8x128, .f32⟩
  | .hbm, ⟨11, _⟩ => ⟨S4096x1024, .f32⟩
  | .hbm, ⟨12, _⟩ => ⟨S4096x1024, .bf16⟩
  | .hbm, ⟨13, _⟩ => ⟨S8x1024, .f32⟩
  | .local _ .vmem, ⟨0, _⟩ => ⟨S1024x896, .bf16⟩
  | .local _ .vmem, ⟨1, _⟩ => ⟨S1024x896, .bf16⟩
  | .local _ .vmem, ⟨2, _⟩ => ⟨S896x1024, .bf16⟩
  | .local _ .vmem, ⟨3, _⟩ => ⟨S896x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== InReferenceIdeal.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x1024, .f32⟩
  | .hbm, ⟨4, _⟩ => ⟨S4096x3584, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3584, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S8x1024, .i32⟩
  | .hbm, ⟨54, _⟩ => ⟨S4096x1024, .bf16⟩
  | .hbm, ⟨55, _⟩ => ⟨S_, .i32⟩
  | .hbm, ⟨56, _⟩ => ⟨S8x1024, .i32⟩
  | .hbm, ⟨57, _⟩ => ⟨S8x1024, .i1⟩
  | .hbm, ⟨58, _⟩ => ⟨S1x1024, .f32⟩
  | .hbm, ⟨59, _⟩ => ⟨S_, .f32⟩
  | .hbm, ⟨60, _⟩ => ⟨S_, .f32⟩
  | .hbm, ⟨61, _⟩ => ⟨S8x1024, .f32⟩
  | .hbm, ⟨62, _⟩ => ⟨S8x1024, .f32⟩
  | .hbm, ⟨63, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== FfnKernel.lean ====
abbrev S4096x1024 : Shape := ⟨2, ![4096, 1024]⟩
abbrev S1024 : Shape := ⟨1, ![1024]⟩
abbrev S1024x6144 : Shape := ⟨2, ![1024, 6144]⟩
abbrev S3x6144 : Shape := ⟨2, ![3, 6144]⟩
abbrev S3072x1024 : Shape := ⟨2, ![3072, 1024]⟩
abbrev S1024x768 : Shape := ⟨2, ![1024, 768]⟩
abbrev S1x1024x768 : Shape := ⟨3, ![1, 1024, 768]⟩
abbrev S8x1024x768 : Shape := ⟨3, ![8, 1024, 768]⟩
abbrev S3x2x3072 : Shape := ⟨3, ![3, 2, 3072]⟩
abbrev S2x3x3072 : Shape := ⟨3, ![2, 3, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6144 : Shape := ⟨2, ![4096, 6144]⟩
abbrev S2x6144 : Shape := ⟨2, ![2, 6144]⟩
abbrev S4098x6144 : Shape := ⟨2, ![4098, 6144]⟩
abbrev S1x6144 : Shape := ⟨2, ![1, 6144]⟩
abbrev S6144 : Shape := ⟨1, ![6144]⟩
abbrev S4096x2x3072 : Shape := ⟨3, ![4096, 2, 3072]⟩
abbrev S2x4096x3072 : Shape := ⟨3, ![2, 4096, 3072]⟩
abbrev S8x128 : Shape := ⟨2, ![8, 128]⟩
abbrev S8x1024 : Shape := ⟨2, ![8, 1024]⟩
abbrev S2x8x3072 : Shape := ⟨3, ![2, 8, 3072]⟩
abbrev S512x1024 : Shape := ⟨2, ![512, 1024]⟩
abbrev S16x1024 : Shape := ⟨2, ![16, 1024]⟩
abbrev S768x1024 : Shape := ⟨2, ![768, 1024]⟩
abbrev S2x512x768 : Shape := ⟨3, ![2, 512, 768]⟩
abbrev S2x16x768 : Shape := ⟨3, ![2, 16, 768]⟩
abbrev S2x3x768 : Shape := ⟨3, ![2, 3, 768]⟩
abbrev S528x768 : Shape := ⟨2, ![528, 768]⟩
abbrev S4x2x3x8x768 : Shape := ⟨5, ![4, 2, 3, 8, 768]⟩
abbrev S2x3x16x768 : Shape := ⟨4, ![2, 3, 16, 768]⟩
abbrev S1x1x768 : Shape := ⟨3, ![1, 1, 768]⟩
abbrev S1x768 : Shape := ⟨2, ![1, 768]⟩
abbrev S16x768 : Shape := ⟨2, ![16, 768]⟩
abbrev S1x1x16x768 : Shape := ⟨4, ![1, 1, 16, 768]⟩
abbrev S528x1024 : Shape := ⟨2, ![528, 1024]⟩
abbrev S272x1024 : Shape := ⟨2, ![272, 1024]⟩
abbrev S272x768 : Shape := ⟨2, ![272, 768]⟩
abbrev S256x1024 : Shape := ⟨2, ![256, 1024]⟩
abbrev S256x768 : Shape := ⟨2, ![256, 768]⟩
abbrev S1x16x768 : Shape := ⟨3, ![1, 16, 768]⟩
abbrev S32x768 : Shape := ⟨2, ![32, 768]⟩
abbrev S1x1x1x8x768 : Shape := ⟨5, ![1, 1, 1, 8, 768]⟩
abbrev S8x768 : Shape := ⟨2, ![8, 768]⟩
abbrev S512 : Shape := ⟨1, ![512]⟩
abbrev S512x1 : Shape := ⟨2, ![512, 1]⟩
abbrev S768 : Shape := ⟨1, ![768]⟩

abbrev nBuf : Space → Nat
  | .hbm => 82
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S3x6144, .f32⟩
  | .hbm, ⟨4, _⟩ => ⟨S3072x1024, .f32⟩
  | .hbm, ⟨5, _⟩ => ⟨S4096x1024, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S1x1024x768, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S1x1024x768, .f32⟩
  | .hbm, ⟨21, _⟩ => ⟨S1x1024x768, .f32⟩
  | .hbm, ⟨22, _⟩ => ⟨S8x1024x768, .f32⟩
  | .hbm, ⟨23, _⟩ => ⟨S8x1024x768, .bf16⟩
  | .hbm, ⟨24, _⟩ => ⟨S3x2x3072, .f32⟩
  | .hbm, ⟨25, _⟩ => ⟨S2x3x3072, .f32⟩
  | .hbm, ⟨26, _⟩ => ⟨S3072x1024, .bf16⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x6144, .f32⟩
  | .hbm, ⟨44, _⟩ => ⟨S_, .f32⟩
  | .hbm, ⟨45, _⟩ => ⟨S2x6144, .f32⟩
  | .hbm, ⟨46, _⟩ => ⟨S4098x6144, .f32⟩
  | .hbm, ⟨47, _⟩ => ⟨S4096x6144, .f32⟩
  | .hbm, ⟨48, _⟩ => ⟨S1x6144, .f32⟩
  | .hbm, ⟨49, _⟩ => ⟨S6144, .f32⟩
  | .hbm, ⟨50, _⟩ => ⟨S1x6144, .f32⟩
  | .hbm, ⟨51, _⟩ => ⟨S4096x6144, .f32⟩
  | .hbm, ⟨52, _⟩ => ⟨S4096x6144, .f32⟩
  | .hbm, ⟨53, _⟩ => ⟨S4096x6144, .f32⟩
  | .hbm, ⟨54, _⟩ => ⟨S1x6144, .f32⟩
  | .hbm, ⟨55, _⟩ => ⟨S6144, .f32⟩
  | .hbm, ⟨56, _⟩ => ⟨S1x6144, .f32⟩
  | .hbm, ⟨57, _⟩ => ⟨S4096x6144, .f32⟩
  | .hbm, ⟨58, _⟩ => ⟨S4096x6144, .f32⟩
  | .hbm, ⟨59, _⟩ => ⟨S4096x6144, .f32⟩
  | .hbm, ⟨60, _⟩ => ⟨S4096x6144, .f32⟩
  | .hbm, ⟨61, _⟩ => ⟨S1x6144, .f32⟩
  | .hbm, ⟨62, _⟩ => ⟨S6144, .f32⟩
  | .hbm, ⟨63, _⟩ => ⟨S1x6144, .f32⟩
  | .hbm, ⟨64, _⟩ => ⟨S4096x6144, .f32⟩
  | .hbm, ⟨65, _⟩ => ⟨S4096x6144, .f32⟩
  | .hbm, ⟨66, _⟩ => ⟨S4096x6144, .f32⟩
  | .hbm, ⟨67, _⟩ => ⟨S4096x2x3072, .f32⟩
  | .hbm, ⟨68, _⟩ => ⟨S2x4096x3072, .f32⟩
  | .hbm, ⟨69, _⟩ => ⟨S2x4096x3072, .bf16⟩
  | .hbm, ⟨70, _⟩ => ⟨S4096x2x3072, .f32⟩
  | .hbm, ⟨71, _⟩ => ⟨S2x4096x3072, .f32⟩
  | .hbm, ⟨72, _⟩ => ⟨S2x4096x3072, .bf16⟩
  | .hbm, ⟨73, _⟩ => ⟨S4096x1024, .bf16⟩
  | .hbm, ⟨74, _⟩ => ⟨S1x1024, .f32⟩
  | .hbm, ⟨75, _⟩ => ⟨S_, .f32⟩
  | .hbm, ⟨76, _⟩ => ⟨S8x128, .f32⟩
  | .hbm, ⟨77, _⟩ => ⟨S4096x1024, .f32⟩
  | .hbm, ⟨78, _⟩ => ⟨S4096x1024, .bf16⟩
  | .hbm, ⟨79, _⟩ => ⟨S8x1024, .f32⟩
  | .hbm, ⟨80, _⟩ => ⟨S2x4096x3072, .bf16⟩
  | .hbm, ⟨81, _⟩ => ⟨S2x8x3072, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S768x1024, .bf16⟩
  | .local _ .vmem, ⟨5, _⟩ => ⟨S768x1024, .bf16⟩
  | .local _ .vmem, ⟨6, _⟩ => ⟨S2x512x768, .bf16⟩
  | .local _ .vmem, ⟨7, _⟩ => ⟨S2x512x768, .bf16⟩
  | .local _ .vmem, ⟨8, _⟩ => ⟨S2x512x768, .bf16⟩
  | .local _ .vmem, ⟨9, _⟩ => ⟨S2x512x768, .bf16⟩
  | .local _ .vmem, ⟨10, _⟩ => ⟨S2x16x768, .bf16⟩
  | .local _ .vmem, ⟨11, _⟩ => ⟨S2x16x768, .bf16⟩
  | .local _ .vmem, ⟨12, _⟩ => ⟨S2x3x768, .f32⟩
  | .local _ .vmem, ⟨13, _⟩ => ⟨S2x3x768, .f32⟩
  | .local _ .vmem, ⟨14, _⟩ => ⟨S1x1024x768, .bf16⟩
  | .local _ .vmem, ⟨15, _⟩ => ⟨S1x1024x768, .bf16⟩
  | .local _ .vmem, ⟨16, _⟩ => ⟨S1x1024x768, .bf16⟩
  | .local _ .vmem, ⟨17, _⟩ => ⟨S1x1024x768, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S8x1024, .f32⟩
  | .local _ .vmem, ⟨28, _⟩ => ⟨S2x512x768, .bf16⟩
  | .local _ .vmem, ⟨29, _⟩ => ⟨S2x512x768, .bf16⟩
  | .local _ .vmem, ⟨30, _⟩ => ⟨S2x8x3072, .f32⟩
  | .local _ .vmem, ⟨31, _⟩ => ⟨S528x768, .f32⟩
  | .local _ .vmem, ⟨32, _⟩ => ⟨S4x2x3x8x768, .f32⟩
  | .local _ .vmem, ⟨33, _⟩ => ⟨S512x1024, .f32⟩
  | .local _ .vmem, ⟨34, _⟩ => ⟨S2x3x16x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_3 : Ref sig .tc := ⟨.hbm, 75, rfl⟩
abbrev main_v65 : Ref sig .tc := ⟨.hbm, 76, rfl⟩
abbrev main_v66_0 : Ref sig .tc := ⟨.hbm, 77, rfl⟩
abbrev main_v66_1 : Ref sig .tc := ⟨.hbm, 78, rfl⟩
abbrev main_v66_2 : Ref sig .tc := ⟨.hbm, 79, rfl⟩
abbrev main_v66_3 : Ref sig .tc := ⟨.hbm, 80, rfl⟩
abbrev main_v66_4 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29
abbrev cc0_sem16_0 : DmaSem sig := 30

abbrev nD : Nat := 1
abbrev τ : Topo := Topo.v7x

variable {F : FTy → Type} [FloatOps F]

abbrev grid0 : Pipeline.Grid := ⟨2, ![8, 4], ![false, false]⟩

def k0_off1 (i : grid0.Coords) : Fin 5 → Nat :=
  let arg1 : BitVec 32 := BitVec.ofNat 32 (i 1).val
  let v169 : Index := Scalar.indexCast arg1
  let c0_105 : Index := 0#32
  let c0_106 : Index := 0#32
  let c0_107 : Index := 0#32
  let c0_108 : Index := 0#32
  ![v169.toNat, 0, 0, 0, 0]
def k0_off2 (i : grid0.Coords) : Fin 5 → Nat :=
  let arg1 : BitVec 32 := BitVec.ofNat 32 (i 1).val
  let v183 : Index := Scalar.indexCast arg1
  let c0_114 : Index := 0#32
  let c1_115 : Index := 1#32
  let c0_116 : Index := 0#32
  let c0_117 : Index := 0#32
  ![v183.toNat, 0, 1, 0, 0]
def k0_off3 (i : grid0.Coords) : Fin 5 → Nat :=
  let arg1 : BitVec 32 := BitVec.ofNat 32 (i 1).val
  let v197 : Index := Scalar.indexCast arg1
  let c0_123 : Index := 0#32
  let c2_124 : Index := 2#32
  let c0_125 : Index := 0#32
  let c0_126 : Index := 0#32
  ![v197.toNat, 0, 2, 0, 0]
def k0_off4 (i : grid0.Coords) : Fin 5 → Nat :=
  let arg1 : BitVec 32 := BitVec.ofNat 32 (i 1).val
  let v235 : Index := Scalar.indexCast arg1
  let c1_152 : Index := 1#32
  let c0_153 : Index := 0#32
  let c0_154 : Index := 0#32
  let c0_155 : Index := 0#32
  ![v235.toNat, 1, 0, 0, 0]
def k0_off5 (i : grid0.Coords) : Fin 5 → Nat :=
  let arg1 : BitVec 32 := BitVec.ofNat 32 (i 1).val
  let v249 : Index := Scalar.indexCast arg1
  let c1_161 : Index := 1#32
  let c1_162 : Index := 1#32
  let c0_163 : Index := 0#32
  let c0_164 : Index := 0#32
  ![v249.toNat, 1, 1, 0, 0]
def k0_off6 (i : grid0.Coords) : Fin 5 → Nat :=
  let arg1 : BitVec 32 := BitVec.ofNat 32 (i 1).val
  let v263 : Index := Scalar.indexCast arg1
  let c1_170 : Index := 1#32
  let c2_171 : Index := 2#32
  let c0_172 : Index := 0#32
  let c0_173 : Index := 0#32
  ![v263.toNat, 1, 2, 0, 0]
def k0_cond2 (i : grid0.Coords) : BitVec 1 :=
  let arg1 : BitVec 32 := BitVec.ofNat 32 (i 1).val
  let c3_i32 : BitVec 32 := 3#32
  let v5549 : BitVec 1 := Scalar.cmpi .eq arg1 c3_i32
  let v5550 : BitVec 32 := Scalar.extui v5549
  let c0_i32_3619 : BitVec 32 := 0#32
  let v5551 : BitVec 1 := Scalar.cmpi .ne v5550 c0_i32_3619
  v5551

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg0 : BitVec 32 := BitVec.ofNat 32 (i 0).val
  let c7_i32_3620 : BitVec 32 := 7#32
  let v5552 : BitVec 1 := Scalar.cmpi .eq arg0 c7_i32_3620
  let arg1 : BitVec 32 := BitVec.ofNat 32 (i 1).val
  let c3_i32_3621 : BitVec 32 := 3#32
  let v5553 : BitVec 1 := Scalar.cmpi .eq arg1 c3_i32_3621
  let v5554 : BitVec 1 := Scalar.andi v5552 v5553
  let v5555 : BitVec 32 := Scalar.extui v5554
  let c0_i32_3622 : BitVec 32 := 0#32
  let v5556 : BitVec 1 := Scalar.cmpi .ne v5555 c0_i32_3622
  v5556

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x16x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x3x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S2x512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S2x8x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== FfnKernelIdeal.lean ====
variable {F : FTy → Type} [FloatOps F] [Named F]
def κ : String → Option EReal := fun
  | "gelu_a" => some ((8943 / 200000 : ℝ) : EReal)
  | "gelu_a3" => some ((26829 / 200000 : ℝ) : EReal)
  | _ => none
-- ==== FfnReferenceIdeal.lean ====
abbrev S4096x1024 : Shape := ⟨2, ![4096, 1024]⟩
abbrev S1024 : Shape := ⟨1, ![1024]⟩
abbrev S1024x6144 : Shape := ⟨2, ![1024, 6144]⟩
abbrev S3x6144 : Shape := ⟨2, ![3, 6144]⟩
abbrev S3072x1024 : Shape := ⟨2, ![3072, 1024]⟩
abbrev S_ : Shape := ⟨0, ![]⟩
abbrev S4096x6144 : Shape := ⟨2, ![4096, 6144]⟩
abbrev S4096 : Shape := ⟨1, ![4096]⟩
abbrev S4096x1 : Shape := ⟨2, ![4096, 1]⟩
abbrev S1x1024 : Shape := ⟨2, ![1, 1024]⟩
abbrev S2x6144 : Shape := ⟨2, ![2, 6144]⟩
abbrev S4098x6144 : Shape := ⟨2, ![4098, 6144]⟩
abbrev S1x6144 : Shape := ⟨2, ![1, 6144]⟩
abbrev S6144 : Shape := ⟨1, ![6144]⟩
abbrev S4096x3072 : Shape := ⟨2, ![4096, 3072]⟩
abbrev S8x1024 : Shape := ⟨2, ![8, 1024]⟩
abbrev S3x2x3072 : Shape := ⟨3, ![3, 2, 3072]⟩
abbrev S2x3x3072 : Shape := ⟨3, ![2, 3, 3072]⟩
abbrev S2x8x3072 : Shape := ⟨3, ![2, 8, 3072]⟩
abbrev S4096x2x3072 : Shape := ⟨3, ![4096, 2, 3072]⟩
abbrev S2x4096x3072 : Shape := ⟨3, ![2, 4096, 3072]⟩

abbrev nBuf : Space → Nat
  | .hbm => 200
  | .vmem => 0
  | .smem => 0
  | _ => 0

abbrev hbmTy0_0 (i : Nat) : BufTy := match i % 128 with
  | 0 => ⟨S4096x1024, .f32⟩
  | 1 => ⟨S1024, .f32⟩
  | 2 => ⟨S1024x6144, .f32⟩
  | 3 => ⟨S3x6144, .f32⟩
  | 4 => ⟨S3072x1024, .f32⟩
  | 5 => ⟨S4096x1024, .f32⟩
  | 6 => ⟨S_, .f32⟩
  | 7 => ⟨S4096x6144, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x6144, .f32⟩
  | 29 => ⟨S4096x6144, .f32⟩
  | 30 => ⟨S_, .f32⟩
  | 31 => ⟨S2x6144, .f32⟩
  | 32 => ⟨S4098x6144, .f32⟩
  | 33 => ⟨S_, .f32⟩
  | 34 => ⟨S2x6144, .f32⟩
  | 35 => ⟨S4096x6144, .f32⟩
  | 36 => ⟨S1x6144, .f32⟩
  | 37 => ⟨S6144, .f32⟩
  | 38 => ⟨S1x6144, .f32⟩
  | 39 => ⟨S4096x6144, .f32⟩
  | 40 => ⟨S4096x6144, .f32⟩
  | 41 => ⟨S4096x6144, .f32⟩
  | 42 => ⟨S1x6144, .f32⟩
  | 43 => ⟨S6144, .f32⟩
  | 44 => ⟨S1x6144, .f32⟩
  | 45 => ⟨S4096x6144, .f32⟩
  | 46 => ⟨S4096x6144, .f32⟩
  | 47 => ⟨S4096x6144, .f32⟩
  | 48 => ⟨S4096x6144, .f32⟩
  | 49 => ⟨S1x6144, .f32⟩
  | 50 => ⟨S6144, .f32⟩
  | 51 => ⟨S1x6144, .f32⟩
  | 52 => ⟨S4096x6144, .f32⟩
  | 53 => ⟨S4096x6144, .f32⟩
  | 54 => ⟨S4096x6144, .f32⟩
  | 55 => ⟨S4096x3072, .f32⟩
  | 56 => ⟨S4096x3072, .f32⟩
  | 57 => ⟨S_, .f32⟩
  | 58 => ⟨S_, .f32⟩
  | 59 => ⟨S_, .f32⟩
  | 60 => ⟨S4096x3072, .f32⟩
  | 61 => ⟨S4096x3072, .f32⟩
  | 62 => ⟨S4096x3072, .f32⟩
  | 63 => ⟨S_, .f32⟩
  | 64 => ⟨S4096x3072, .f32⟩
  | 65 => ⟨S4096x3072, .f32⟩
  | 66 => ⟨S4096x3072, .f32⟩
  | 67 => ⟨S4096x3072, .f32⟩
  | 68 => ⟨S4096x3072, .f32⟩
  | 69 => ⟨S_, .f32⟩
  | 70 => ⟨S4096x3072, .f32⟩
  | 71 => ⟨S4096x3072, .f32⟩
  | 72 => ⟨S4096x3072, .f32⟩
  | 73 => ⟨S_, .f32⟩
  | 74 => ⟨S4096x3072, .f32⟩
  | 75 => ⟨S4096x3072, .f32⟩
  | 76 => ⟨S_, .f32⟩
  | 77 => ⟨S4096x3072, .f32⟩
  | 78 => ⟨S4096x3072, .f32⟩
  | 79 => ⟨S4096x3072, .f32⟩
  | 80 => ⟨S_, .f32⟩
  | 81 => ⟨S4096x3072, .f32⟩
  | 82 => ⟨S4096x3072, .f32⟩
  | 83 => ⟨S_, .f32⟩
  | 84 => ⟨S4096x3072, .f32⟩
  | 85 => ⟨S4096x3072, .f32⟩
  | 86 => ⟨S4096x3072, .f32⟩
  | 87 => ⟨S4096x3072, .f32⟩
  | 88 => ⟨S4096x1024, .f32⟩
  | 89 => ⟨S4096x1024, .f32⟩
  | 90 => ⟨S4096x1024, .f32⟩
  | 91 => ⟨S4096x3072, .f32⟩
  | 92 => ⟨S4096x3072, .f32⟩
  | 93 => ⟨S4096x3072, .f32⟩
  | 94 => ⟨S4096x3072, .f32⟩
  | 95 => ⟨S4096x3072, .f32⟩
  | 96 => ⟨S_, .f32⟩
  | 97 => ⟨S4096x3072, .f32⟩
  | 98 => ⟨S4096x3072, .f32⟩
  | 99 => ⟨S4096x3072, .f32⟩
  | 100 => ⟨S_, .f32⟩
  | 101 => ⟨S4096x3072, .f32⟩
  | 102 => ⟨S4096x3072, .f32⟩
  | 103 => ⟨S4096x3072, .f32⟩
  | 104 => ⟨S4096x3072, .f32⟩
  | 105 => ⟨S4096x3072, .f32⟩
  | 106 => ⟨S4096x3072, .f32⟩
  | 107 => ⟨S4096x3072, .f32⟩
  | 108 => ⟨S4096x6144, .f32⟩
  | 109 => ⟨S4096x6144, .f32⟩
  | 110 => ⟨S_, .f32⟩
  | 111 => ⟨S6144, .f32⟩
  | 112 => ⟨S1x6144, .f32⟩
  | 113 => ⟨S4096x6144, .f32⟩
  | 114 => ⟨S4096x6144, .f32⟩
  | 115 => ⟨S_, .f32⟩
  | 116 => ⟨S6144, .f32⟩
  | 117 => ⟨S1x6144, .f32⟩
  | 118 => ⟨S_, .f32⟩
  | 119 => ⟨S3x6144, .f32⟩
  | 120 => ⟨S_, .f32⟩
  | 121 => ⟨S4098x6144, .f32⟩
  | 122 => ⟨S4096x6144, .f32⟩
  | 123 => ⟨S_, .f32⟩
  | 124 => ⟨S6144, .f32⟩
  | 125 => ⟨S1x6144, .f32⟩
  | 126 => ⟨S4096x6144, .f32⟩
  | 127 => ⟨S4096x6144, .f32⟩
  | _ => ⟨S4096x1024, .f32⟩

abbrev hbmTy0_1 (i : Nat) : BufTy := match i % 128 with
  | 0 => ⟨S_, .f32⟩
  | 1 => ⟨S6144, .f32⟩
  | 2 => ⟨S1x6144, .f32⟩
  | 3 => ⟨S_, .f32⟩
  | 4 => ⟨S3x6144, .f32⟩
  | 5 => ⟨S3x6144, .f32⟩
  | 6 => ⟨S_, .f32⟩
  | 7 => ⟨S4098x6144, .f32⟩
  | 8 => ⟨S4098x6144, .f32⟩
  | 9 => ⟨S4096x6144, .f32⟩
  | 10 => ⟨S_, .f32⟩
  | 11 => ⟨S6144, .f32⟩
  | 12 => ⟨S1x6144, .f32⟩
  | 13 => ⟨S4096x6144, .f32⟩
  | 14 => ⟨S4096x6144, .f32⟩
  | 15 => ⟨S_, .f32⟩
  | 16 => ⟨S6144, .f32⟩
  | 17 => ⟨S1x6144, .f32⟩
  | 18 => ⟨S_, .f32⟩
  | 19 => ⟨S3x6144, .f32⟩
  | 20 => ⟨S3x6144, .f32⟩
  | 21 => ⟨S_, .f32⟩
  | 22 => ⟨S4098x6144, .f32⟩
  | 23 => ⟨S4098x6144, .f32⟩
  | 24 => ⟨S2x6144, .f32⟩
  | 25 => ⟨S4096x6144, .f32⟩
  | 26 => ⟨S4096x1024, .f32⟩
  | 27 => ⟨S4096x1024, .f32⟩
  | 28 => ⟨S_, .f32⟩
  | 29 => ⟨S1024, .f32⟩
  | 30 => ⟨S1x1024, .f32⟩
  | 31 => ⟨S4096x1024, .f32⟩
  | 32 => ⟨S4096x1024, .f32⟩
  | 33 => ⟨S_, .f32⟩
  | 34 => ⟨S1024, .f32⟩
  | 35 => ⟨S4096x1024, .f32⟩
  | 36 => ⟨S_, .f32⟩
  | 37 => ⟨S4096, .f32⟩
  | 38 => ⟨S4096x1, .f32⟩
  | 39 => ⟨S4096x1024, .f32⟩
  | 40 => ⟨S4096x1024, .f32⟩
  | 41 => ⟨S4096x1024, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S8x1024, .i32⟩
  | 54 => ⟨S3x2x3072, .f32⟩
  | 55 => ⟨S2x3x3072, .f32⟩
  | 56 => ⟨S_, .i32⟩
  | 57 => ⟨S_, .f32⟩
  | 58 => ⟨S2x8x3072, .f32⟩
  | 59 => ⟨S4096x1024, .bf16⟩
  | 60 => ⟨S_, .i32⟩
  | 61 => ⟨S8x1024, .i32⟩
  | 62 => ⟨S8x1024, .i1⟩
  | 63 => ⟨S1x1024, .f32⟩
  | 64 => ⟨S_, .f32⟩
  | 65 => ⟨S_, .f32⟩
  | 66 => ⟨S8x1024, .f32⟩
  | 67 => ⟨S8x1024, .f32⟩
  | 68 => ⟨S8x1024, .f32⟩
  | 69 => ⟨S4096x2x3072, .f32⟩
  | 70 => ⟨S2x4096x3072, .f32⟩
  | 71 => ⟨S2x4096x3072, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_14 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_16 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_17 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩
abbrev main_v95 : Ref sig .tc := ⟨.hbm, 122, rfl⟩
abbrev main_cst_20 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_cst_22 : Ref sig .tc := ⟨.hbm, 131, rfl⟩
abbrev main_v102 : Ref sig .tc := ⟨.hbm, 132, rfl⟩
abbrev main_v103 : Ref sig .tc := ⟨.hbm, 133, rfl⟩
abbrev main_cst_23 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_25 : Ref sig .tc := ⟨.hbm, 143, rfl⟩
abbrev main_v111 : Ref sig .tc := ⟨.hbm, 144, rfl⟩
abbrev main_v112 : Ref sig .tc := ⟨.hbm, 145, rfl⟩
abbrev main_cst_26 : Ref sig .tc := ⟨.hbm, 146, rfl⟩
abbrev main_v113 : Ref sig .tc := ⟨.hbm, 147, rfl⟩
abbrev main_v114 : Ref sig .tc := ⟨.hbm, 148, rfl⟩
abbrev main_cst_27 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_28 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_29 : Ref sig .tc := ⟨.hbm, 161, rfl⟩
abbrev main_v125 : Ref sig .tc := ⟨.hbm, 162, rfl⟩
abbrev main_v126 : Ref sig .tc := ⟨.hbm, 163, rfl⟩
abbrev main_cst_30 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_31 : Ref sig .tc := ⟨.hbm, 171, rfl⟩
abbrev main_v133 : Ref sig .tc := ⟨.hbm, 172, rfl⟩
abbrev main_v134 : Ref sig .tc := ⟨.hbm, 173, rfl⟩
abbrev main_cst_32 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_c : Ref sig .tc := ⟨.hbm, 184, rfl⟩
abbrev main_call0_v0 : Ref sig .tc := ⟨.hbm, 185, rfl⟩
abbrev main_v144 : Ref sig .tc := ⟨.hbm, 186, rfl⟩
abbrev main_v145 : Ref sig .tc := ⟨.hbm, 187, rfl⟩
abbrev main_c_33 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_34 : Ref sig .tc := ⟨.hbm, 192, rfl⟩
abbrev main_call1_v0 : Ref sig .tc := ⟨.hbm, 193, rfl⟩
abbrev main_call1_v1 : Ref sig .tc := ⟨.hbm, 194, rfl⟩
abbrev main_call1_v2 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩

abbrev nD : Nat := 1
abbrev τ : Topo := Topo.v7x

variable {F : FTy → Type} [FloatOps F]
-- ==== MixKernel.lean ====
abbrev S4096x3584 : Shape := ⟨2, ![4096, 3584]⟩
abbrev S4x1024 : Shape := ⟨2, ![4, 1024]⟩
abbrev S1024 : Shape := ⟨1, ![1024]⟩
abbrev S16x64x64 : Shape := ⟨3, ![16, 64, 64]⟩
abbrev S3x512 : Shape := ⟨2, ![3, 512]⟩
abbrev S4096x1536 : Shape := ⟨2, ![4096, 1536]⟩
abbrev S4x4x64x64 : Shape := ⟨4, ![4, 4, 64, 64]⟩
abbrev S4x4 : Shape := ⟨2, ![4, 4]⟩
abbrev S_ : Shape := ⟨0, ![]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4096x1024 : Shape := ⟨2, ![4096, 1024]⟩
abbrev S3x1024 : Shape := ⟨2, ![3, 1024]⟩
abbrev S4099x1024 : Shape := ⟨2, ![4099, 1024]⟩
abbrev S1x1024 : Shape := ⟨2, ![1, 1024]⟩
abbrev S4096x16x64 : Shape := ⟨3, ![4096, 16, 64]⟩
abbrev S16x64x4096 : Shape := ⟨3, ![16, 64, 4096]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S2x1024 : Shape := ⟨2, ![2, 1024]⟩
abbrev S0x1024 : Shape := ⟨2, ![0, 1024]⟩
abbrev S7x1024 : Shape := ⟨2, ![7, 1024]⟩
abbrev S15x1024 : Shape := ⟨2, ![15, 1024]⟩
abbrev S31x1024 : Shape := ⟨2, ![31, 1024]⟩
abbrev S63x1024 : Shape := ⟨2, ![63, 1024]⟩
abbrev S127x1024 : Shape := ⟨2, ![127, 1024]⟩
abbrev S255x1024 : Shape := ⟨2, ![255, 1024]⟩
abbrev S511x1024 : Shape := ⟨2, ![511, 1024]⟩
abbrev S1023x1024 : Shape := ⟨2, ![1023, 1024]⟩
abbrev S2047x1024 : Shape := ⟨2, ![2047, 1024]⟩
abbrev S8x128 : Shape := ⟨2, ![8, 128]⟩
abbrev S8x512 : Shape := ⟨2, ![8, 512]⟩
abbrev S256x3584 : Shape := ⟨2, ![256, 3584]⟩
abbrev S8x3584 : Shape := ⟨2, ![8, 3584]⟩
abbrev S256x1536 : Shape := ⟨2, ![256, 1536]⟩
abbrev S9x16x1024 : Shape := ⟨3, ![9, 16, 1024]⟩
abbrev S3x16x512 : Shape := ⟨3, ![3, 16, 512]⟩
abbrev S256x512 : Shape := ⟨2, ![256, 512]⟩
abbrev S16x512 : Shape := ⟨2, ![16, 512]⟩
abbrev S8x8x1024 : Shape := ⟨3, ![8, 8, 1024]⟩
abbrev S3x8x512 : Shape := ⟨3, ![3, 8, 512]⟩
abbrev S1x16x1024 : Shape := ⟨3, ![1, 16, 1024]⟩
abbrev S1x512 : Shape := ⟨2, ![1, 512]⟩
abbrev S1x16x512 : Shape := ⟨3, ![1, 16, 512]⟩
abbrev S32x512 : Shape := ⟨2, ![32, 512]⟩
abbrev S256x256 : Shape := ⟨2, ![256, 256]⟩
abbrev S1x256x256 : Shape := ⟨3, ![1, 256, 256]⟩
abbrev S1x8x1024 : Shape := ⟨3, ![1, 8, 1024]⟩
abbrev S1x8x512 : Shape := ⟨3, ![1, 8, 512]⟩
abbrev S512 : Shape := ⟨1, ![512]⟩

abbrev nBuf : Space → Nat
  | .hbm => 481
  | .vmem => 50
  | .smem => 0
  | _ => 0

abbrev hbmTy0_0 (i : Nat) : BufTy := match i % 128 with
  | 0 => ⟨S4096x3584, .f32⟩
  | 1 => ⟨S4x1024, .f32⟩
  | 2 => ⟨S1024, .f32⟩
  | 3 => ⟨S16x64x64, .f32⟩
  | 4 => ⟨S1024, .f32⟩
  | 5 => ⟨S16x64x64, .f32⟩
  | 6 => ⟨S1024, .f32⟩
  | 7 => ⟨S1024, .f32⟩
  | 8 => ⟨S3x512, .f32⟩
  | 9 => ⟨S4096x1536, .f32⟩
  | 10 => ⟨S4x4x64x64, .f32⟩
  | 11 => ⟨S4x4, .i32⟩
  | 12 => ⟨S4x4, .i32⟩
  | 13 => ⟨S_, .i32⟩
  | 14 => ⟨S4x4, .i32⟩
  | 15 => ⟨S4x4, .i32⟩
  | 16 => ⟨S4x4, .i1⟩
  | 17 => ⟨S4x4, .f32⟩
  | 18 => ⟨S4x4x64x1x64, .f32⟩
  | 19 => ⟨S1x4x1x4x1, .f32⟩
  | 20 => ⟨S4x4x64x4x64, .f32⟩
  | 21 => ⟨S4x4x64x4x64, .f32⟩
  | 22 => ⟨S4x4x64x4x64, .f32⟩
  | 23 => ⟨S4x256x256, .f32⟩
  | 24 => ⟨S4x256x256, .bf16⟩
  | 25 => ⟨S4x4x64x64, .f32⟩
  | 26 => ⟨S4x4, .i32⟩
  | 27 => ⟨S4x4, .i32⟩
  | 28 => ⟨S_, .i32⟩
  | 29 => ⟨S4x4, .i32⟩
  | 30 => ⟨S4x4, .i32⟩
  | 31 => ⟨S4x4, .i1⟩
  | 32 => ⟨S4x4, .f32⟩
  | 33 => ⟨S4x4x64x1x64, .f32⟩
  | 34 => ⟨S1x4x1x4x1, .f32⟩
  | 35 => ⟨S4x4x64x4x64, .f32⟩
  | 36 => ⟨S4x4x64x4x64, .f32⟩
  | 37 => ⟨S4x4x64x4x64, .f32⟩
  | 38 => ⟨S4x256x256, .f32⟩
  | 39 => ⟨S4x256x256, .bf16⟩
  | 40 => ⟨S4096x1024, .f32⟩
  | 41 => ⟨S_, .f32⟩
  | 42 => ⟨S3x1024, .f32⟩
  | 43 => ⟨S4099x1024, .f32⟩
  | 44 => ⟨S4096x1024, .f32⟩
  | 45 => ⟨S1x1024, .f32⟩
  | 46 => ⟨S1024, .f32⟩
  | 47 => ⟨S1x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S1x1024, .f32⟩
  | 54 => ⟨S4096x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S1x1024, .f32⟩
  | 68 => ⟨S4096x1024, .f32⟩
  | 69 => ⟨S4096x1024, .f32⟩
  | 70 => ⟨S4096x1024, .f32⟩
  | 71 => ⟨S1x1024, .f32⟩
  | 72 => ⟨S4096x1024, .f32⟩
  | 73 => ⟨S4096x1024, .f32⟩
  | 74 => ⟨S4096x16x64, .f32⟩
  | 75 => ⟨S16x64x4096, .f32⟩
  | 76 => ⟨S4096x16x64, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S16x64x4096, .f32⟩
  | 90 => ⟨S4096x16x64, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S_, .f32⟩
  | 104 => ⟨S4096x1024, .f32⟩
  | 105 => ⟨S4096x1024, .f32⟩
  | 106 => ⟨S1024, .f32⟩
  | 107 => ⟨S_, .f32⟩
  | 108 => ⟨S1024, .f32⟩
  | 109 => ⟨S1024, .f32⟩
  | 110 => ⟨S1024, .f32⟩
  | 111 => ⟨S1024, .f32⟩
  | 112 => ⟨S1024, .i1⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1x1024, .f32⟩
  | 122 => ⟨S4096x1024, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x3584, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S1024x1024, .f32⟩
  | 13 => ⟨S1024x1024, .f32⟩
  | 14 => ⟨S1024x1024, .f32⟩
  | 15 => ⟨S1024x1024, .f32⟩
  | 16 => ⟨S1024x1024, .f32⟩
  | 17 => ⟨S1024x1024, .f32⟩
  | 18 => ⟨S1024x1024, .f32⟩
  | 19 => ⟨S512x1024, .f32⟩
  | 20 => ⟨S512x1024, .f32⟩
  | 21 => ⟨S512x1024, .f32⟩
  | 22 => ⟨S512x1024, .f32⟩
  | 23 => ⟨S512x1024, .f32⟩
  | 24 => ⟨S512x1024, .f32⟩
  | 25 => ⟨S512x1024, .f32⟩
  | 26 => ⟨S256x1024, .f32⟩
  | 27 => ⟨S256x1024, .f32⟩
  | 28 => ⟨S256x1024, .f32⟩
  | 29 => ⟨S256x1024, .f32⟩
  | 30 => ⟨S256x1024, .f32⟩
  | 31 => ⟨S256x1024, .f32⟩
  | 32 => ⟨S256x1024, .f32⟩
  | 33 => ⟨S128x1024, .f32⟩
  | 34 => ⟨S128x1024, .f32⟩
  | 35 => ⟨S128x1024, .f32⟩
  | 36 => ⟨S128x1024, .f32⟩
  | 37 => ⟨S128x1024, .f32⟩
  | 38 => ⟨S128x1024, .f32⟩
  | 39 => ⟨S128x1024, .f32⟩
  | 40 => ⟨S64x1024, .f32⟩
  | 41 => ⟨S64x1024, .f32⟩
  | 42 => ⟨S64x1024, .f32⟩
  | 43 => ⟨S64x1024, .f32⟩
  | 44 => ⟨S64x1024, .f32⟩
  | 45 => ⟨S64x1024, .f32⟩
  | 46 => ⟨S64x1024, .f32⟩
  | 47 => ⟨S32x1024, .f32⟩
  | 48 => ⟨S32x1024, .f32⟩
  | 49 => ⟨S32x1024, .f32⟩
  | 50 => ⟨S32x1024, .f32⟩
  | 51 => ⟨S32x1024, .f32⟩
  | 52 => ⟨S32x1024, .f32⟩
  | 53 => ⟨S32x1024, .f32⟩
  | 54 => ⟨S16x1024, .f32⟩
  | 55 => ⟨S16x1024, .f32⟩
  | 56 => ⟨S16x1024, .f32⟩
  | 57 => ⟨S16x1024, .f32⟩
  | 58 => ⟨S16x1024, .f32⟩
  | 59 => ⟨S16x1024, .f32⟩
  | 60 => ⟨S16x1024, .f32⟩
  | 61 => ⟨S8x1024, .f32⟩
  | 62 => ⟨S8x1024, .f32⟩
  | 63 => ⟨S8x1024, .f32⟩
  | 64 => ⟨S8x1024, .f32⟩
  | 65 => ⟨S8x1024, .f32⟩
  | 66 => ⟨S8x1024, .f32⟩
  | 67 => ⟨S8x1024, .f32⟩
  | 68 => ⟨S4x1024, .f32⟩
  | 69 => ⟨S4x1024, .f32⟩
  | 70 => ⟨S4x1024, .f32⟩
  | 71 => ⟨S4x1024, .f32⟩
  | 72 => ⟨S4x1024, .f32⟩
  | 73 => ⟨S4x1024, .f32⟩
  | 74 => ⟨S4x1024, .f32⟩
  | 75 => ⟨S2x1024, .f32⟩
  | 76 => ⟨S2x1024, .f32⟩
  | 77 => ⟨S2x1024, .f32⟩
  | 78 => ⟨S2x1024, .f32⟩
  | 79 => ⟨S2x1024, .f32⟩
  | 80 => ⟨S2x1024, .f32⟩
  | 81 => ⟨S2x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S0x1024, .f32⟩
  | 90 => ⟨S0x1024, .f32⟩
  | 91 => ⟨S0x1024, .f32⟩
  | 92 => ⟨S0x1024, .f32⟩
  | 93 => ⟨S0x1024, .f32⟩
  | 94 => ⟨S0x1024, .f32⟩
  | 95 => ⟨S0x1024, .f32⟩
  | 96 => ⟨S1x1024, .f32⟩
  | 97 => ⟨S1x1024, .f32⟩
  | 98 => ⟨S1x1024, .f32⟩
  | 99 => ⟨S1x1024, .f32⟩
  | 100 => ⟨S_, .f32⟩
  | 101 => ⟨S2x1024, .f32⟩
  | 102 => ⟨S_, .f32⟩
  | 103 => ⟨S2x1024, .f32⟩
  | 104 => ⟨S2x1024, .f32⟩
  | 105 => ⟨S_, .f32⟩
  | 106 => ⟨S2x1024, .f32⟩
  | 107 => ⟨S_, .f32⟩
  | 108 => ⟨S2x1024, .f32⟩
  | 109 => ⟨S2x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S2x1024, .f32⟩
  | 119 => ⟨S1x1024, .f32⟩
  | 120 => ⟨S2x1024, .f32⟩
  | 121 => ⟨S_, .f32⟩
  | 122 => ⟨S4x1024, .f32⟩
  | 123 => ⟨S_, .f32⟩
  | 124 => ⟨S4x1024, .f32⟩
  | 125 => ⟨S4x1024, .f32⟩
  | 126 => ⟨S_, .f32⟩
  | 127 => ⟨S4x1024, .f32⟩
  | _ => ⟨S4096x3584, .f32⟩

abbrev hbmTy0_2 (i : Nat) : BufTy := match i % 128 with
  | 0 => ⟨S_, .f32⟩
  | 1 => ⟨S4x1024, .f32⟩
  | 2 => ⟨S4x1024, .f32⟩
  | 3 => ⟨S3x1024, .f32⟩
  | 4 => ⟨S3x1024, .f32⟩
  | 5 => ⟨S3x1024, .f32⟩
  | 6 => ⟨S3x1024, .f32⟩
  | 7 => ⟨S3x1024, .f32⟩
  | 8 => ⟨S3x1024, .f32⟩
  | 9 => ⟨S3x1024, .f32⟩
  | 10 => ⟨S1x1024, .f32⟩
  | 11 => ⟨S4x1024, .f32⟩
  | 12 => ⟨S1x1024, .f32⟩
  | 13 => ⟨S4x1024, .f32⟩
  | 14 => ⟨S_, .f32⟩
  | 15 => ⟨S8x1024, .f32⟩
  | 16 => ⟨S_, .f32⟩
  | 17 => ⟨S8x1024, .f32⟩
  | 18 => ⟨S8x1024, .f32⟩
  | 19 => ⟨S_, .f32⟩
  | 20 => ⟨S8x1024, .f32⟩
  | 21 => ⟨S_, .f32⟩
  | 22 => ⟨S8x1024, .f32⟩
  | 23 => ⟨S8x1024, .f32⟩
  | 24 => ⟨S7x1024, .f32⟩
  | 25 => ⟨S7x1024, .f32⟩
  | 26 => ⟨S7x1024, .f32⟩
  | 27 => ⟨S7x1024, .f32⟩
  | 28 => ⟨S7x1024, .f32⟩
  | 29 => ⟨S7x1024, .f32⟩
  | 30 => ⟨S7x1024, .f32⟩
  | 31 => ⟨S1x1024, .f32⟩
  | 32 => ⟨S8x1024, .f32⟩
  | 33 => ⟨S1x1024, .f32⟩
  | 34 => ⟨S8x1024, .f32⟩
  | 35 => ⟨S_, .f32⟩
  | 36 => ⟨S16x1024, .f32⟩
  | 37 => ⟨S_, .f32⟩
  | 38 => ⟨S16x1024, .f32⟩
  | 39 => ⟨S16x1024, .f32⟩
  | 40 => ⟨S_, .f32⟩
  | 41 => ⟨S16x1024, .f32⟩
  | 42 => ⟨S_, .f32⟩
  | 43 => ⟨S16x1024, .f32⟩
  | 44 => ⟨S16x1024, .f32⟩
  | 45 => ⟨S15x1024, .f32⟩
  | 46 => ⟨S15x1024, .f32⟩
  | 47 => ⟨S15x1024, .f32⟩
  | 48 => ⟨S15x1024, .f32⟩
  | 49 => ⟨S15x1024, .f32⟩
  | 50 => ⟨S15x1024, .f32⟩
  | 51 => ⟨S15x1024, .f32⟩
  | 52 => ⟨S1x1024, .f32⟩
  | 53 => ⟨S16x1024, .f32⟩
  | 54 => ⟨S1x1024, .f32⟩
  | 55 => ⟨S16x1024, .f32⟩
  | 56 => ⟨S_, .f32⟩
  | 57 => ⟨S32x1024, .f32⟩
  | 58 => ⟨S_, .f32⟩
  | 59 => ⟨S32x1024, .f32⟩
  | 60 => ⟨S32x1024, .f32⟩
  | 61 => ⟨S_, .f32⟩
  | 62 => ⟨S32x1024, .f32⟩
  | 63 => ⟨S_, .f32⟩
  | 64 => ⟨S32x1024, .f32⟩
  | 65 => ⟨S32x1024, .f32⟩
  | 66 => ⟨S31x1024, .f32⟩
  | 67 => ⟨S31x1024, .f32⟩
  | 68 => ⟨S31x1024, .f32⟩
  | 69 => ⟨S31x1024, .f32⟩
  | 70 => ⟨S31x1024, .f32⟩
  | 71 => ⟨S31x1024, .f32⟩
  | 72 => ⟨S31x1024, .f32⟩
  | 73 => ⟨S1x1024, .f32⟩
  | 74 => ⟨S32x1024, .f32⟩
  | 75 => ⟨S1x1024, .f32⟩
  | 76 => ⟨S32x1024, .f32⟩
  | 77 => ⟨S_, .f32⟩
  | 78 => ⟨S64x1024, .f32⟩
  | 79 => ⟨S_, .f32⟩
  | 80 => ⟨S64x1024, .f32⟩
  | 81 => ⟨S64x1024, .f32⟩
  | 82 => ⟨S_, .f32⟩
  | 83 => ⟨S64x1024, .f32⟩
  | 84 => ⟨S_, .f32⟩
  | 85 => ⟨S64x1024, .f32⟩
  | 86 => ⟨S64x1024, .f32⟩
  | 87 => ⟨S63x1024, .f32⟩
  | 88 => ⟨S63x1024, .f32⟩
  | 89 => ⟨S63x1024, .f32⟩
  | 90 => ⟨S63x1024, .f32⟩
  | 91 => ⟨S63x1024, .f32⟩
  | 92 => ⟨S63x1024, .f32⟩
  | 93 => ⟨S63x1024, .f32⟩
  | 94 => ⟨S1x1024, .f32⟩
  | 95 => ⟨S64x1024, .f32⟩
  | 96 => ⟨S1x1024, .f32⟩
  | 97 => ⟨S64x1024, .f32⟩
  | 98 => ⟨S_, .f32⟩
  | 99 => ⟨S128x1024, .f32⟩
  | 100 => ⟨S_, .f32⟩
  | 101 => ⟨S128x1024, .f32⟩
  | 102 => ⟨S128x1024, .f32⟩
  | 103 => ⟨S_, .f32⟩
  | 104 => ⟨S128x1024, .f32⟩
  | 105 => ⟨S_, .f32⟩
  | 106 => ⟨S128x1024, .f32⟩
  | 107 => ⟨S128x1024, .f32⟩
  | 108 => ⟨S127x1024, .f32⟩
  | 109 => ⟨S127x1024, .f32⟩
  | 110 => ⟨S127x1024, .f32⟩
  | 111 => ⟨S127x1024, .f32⟩
  | 112 => ⟨S127x1024, .f32⟩
  | 113 => ⟨S127x1024, .f32⟩
  | 114 => ⟨S127x1024, .f32⟩
  | 115 => ⟨S1x1024, .f32⟩
  | 116 => ⟨S128x1024, .f32⟩
  | 117 => ⟨S1x1024, .f32⟩
  | 118 => ⟨S128x1024, .f32⟩
  | 119 => ⟨S_, .f32⟩
  | 120 => ⟨S256x1024, .f32⟩
  | 121 => ⟨S_, .f32⟩
  | 122 => ⟨S256x1024, .f32⟩
  | 123 => ⟨S256x1024, .f32⟩
  | 124 => ⟨S_, .f32⟩
  | 125 => ⟨S256x1024, .f32⟩
  | 126 => ⟨S_, .f32⟩
  | 127 => ⟨S256x1024, .f32⟩
  | _ => ⟨S4096x3584, .f32⟩

abbrev hbmTy0_3 (i : Nat) : BufTy := match i % 128 with
  | 0 => ⟨S256x1024, .f32⟩
  | 1 => ⟨S255x1024, .f32⟩
  | 2 => ⟨S255x1024, .f32⟩
  | 3 => ⟨S255x1024, .f32⟩
  | 4 => ⟨S255x1024, .f32⟩
  | 5 => ⟨S255x1024, .f32⟩
  | 6 => ⟨S255x1024, .f32⟩
  | 7 => ⟨S255x1024, .f32⟩
  | 8 => ⟨S1x1024, .f32⟩
  | 9 => ⟨S256x1024, .f32⟩
  | 10 => ⟨S1x1024, .f32⟩
  | 11 => ⟨S256x1024, .f32⟩
  | 12 => ⟨S_, .f32⟩
  | 13 => ⟨S512x1024, .f32⟩
  | 14 => ⟨S_, .f32⟩
  | 15 => ⟨S512x1024, .f32⟩
  | 16 => ⟨S512x1024, .f32⟩
  | 17 => ⟨S_, .f32⟩
  | 18 => ⟨S512x1024, .f32⟩
  | 19 => ⟨S_, .f32⟩
  | 20 => ⟨S512x1024, .f32⟩
  | 21 => ⟨S512x1024, .f32⟩
  | 22 => ⟨S511x1024, .f32⟩
  | 23 => ⟨S511x1024, .f32⟩
  | 24 => ⟨S511x1024, .f32⟩
  | 25 => ⟨S511x1024, .f32⟩
  | 26 => ⟨S511x1024, .f32⟩
  | 27 => ⟨S511x1024, .f32⟩
  | 28 => ⟨S511x1024, .f32⟩
  | 29 => ⟨S1x1024, .f32⟩
  | 30 => ⟨S512x1024, .f32⟩
  | 31 => ⟨S1x1024, .f32⟩
  | 32 => ⟨S512x1024, .f32⟩
  | 33 => ⟨S_, .f32⟩
  | 34 => ⟨S1024x1024, .f32⟩
  | 35 => ⟨S_, .f32⟩
  | 36 => ⟨S1024x1024, .f32⟩
  | 37 => ⟨S1024x1024, .f32⟩
  | 38 => ⟨S_, .f32⟩
  | 39 => ⟨S1024x1024, .f32⟩
  | 40 => ⟨S_, .f32⟩
  | 41 => ⟨S1024x1024, .f32⟩
  | 42 => ⟨S1024x1024, .f32⟩
  | 43 => ⟨S1023x1024, .f32⟩
  | 44 => ⟨S1023x1024, .f32⟩
  | 45 => ⟨S1023x1024, .f32⟩
  | 46 => ⟨S1023x1024, .f32⟩
  | 47 => ⟨S1023x1024, .f32⟩
  | 48 => ⟨S1023x1024, .f32⟩
  | 49 => ⟨S1023x1024, .f32⟩
  | 50 => ⟨S1x1024, .f32⟩
  | 51 => ⟨S1024x1024, .f32⟩
  | 52 => ⟨S1x1024, .f32⟩
  | 53 => ⟨S1024x1024, .f32⟩
  | 54 => ⟨S_, .f32⟩
  | 55 => ⟨S2048x1024, .f32⟩
  | 56 => ⟨S_, .f32⟩
  | 57 => ⟨S2048x1024, .f32⟩
  | 58 => ⟨S2048x1024, .f32⟩
  | 59 => ⟨S_, .f32⟩
  | 60 => ⟨S2048x1024, .f32⟩
  | 61 => ⟨S_, .f32⟩
  | 62 => ⟨S2048x1024, .f32⟩
  | 63 => ⟨S2048x1024, .f32⟩
  | 64 => ⟨S2047x1024, .f32⟩
  | 65 => ⟨S2047x1024, .f32⟩
  | 66 => ⟨S2047x1024, .f32⟩
  | 67 => ⟨S2047x1024, .f32⟩
  | 68 => ⟨S2047x1024, .f32⟩
  | 69 => ⟨S2047x1024, .f32⟩
  | 70 => ⟨S2047x1024, .f32⟩
  | 71 => ⟨S1x1024, .f32⟩
  | 72 => ⟨S2048x1024, .f32⟩
  | 73 => ⟨S1x1024, .f32⟩
  | 74 => ⟨S2048x1024, .f32⟩
  | 75 => ⟨S_, .f32⟩
  | 76 => ⟨S4096x1024, .f32⟩
  | 77 => ⟨S_, .f32⟩
  | 78 => ⟨S4096x1024, .f32⟩
  | 79 => ⟨S4096x1024, .f32⟩
  | 80 => ⟨S_, .f32⟩
  | 81 => ⟨S4096x1024, .f32⟩
  | 82 => ⟨S_, .f32⟩
  | 83 => ⟨S4096x1024, .f32⟩
  | 84 => ⟨S4096x1024, .f32⟩
  | 85 => ⟨S1x1024, .f32⟩
  | 86 => ⟨S1x1024, .f32⟩
  | 87 => ⟨S1x1024, .f32⟩
  | 88 => ⟨S1x1024, .f32⟩
  | 89 => ⟨S_, .f32⟩
  | 90 => ⟨S8x128, .f32⟩
  | 91 => ⟨S4096x3584, .bf16⟩
  | 92 => ⟨S8x1024, .f32⟩
  | 93 => ⟨S8x1024, .f32⟩
  | 94 => ⟨S4x256x256, .f32⟩
  | 95 => ⟨S4x256x256, .f32⟩
  | 96 => ⟨S8x512, .f32⟩
  | _ => ⟨S4096x3584, .f32⟩

abbrev hbmTy (i : Nat) : BufTy := match i / 128 with
  | 0 => hbmTy0_0 i
  | 1 => hbmTy0_1 i
  | 2 => hbmTy0_2 i
  | 3 => hbmTy0_3 i
  | _ => ⟨S4096x3584, .f32⟩

abbrev bufTy : (tb : Table) → Fin (tcTables nBuf tb) → BufTy
  | .hbm, ⟨i, _⟩ => hbmTy i
  | .local _ .vmem, ⟨0, _⟩ => ⟨S256x3584, .f32⟩
  | .local _ .vmem, ⟨1, _⟩ => ⟨S256x3584, .f32⟩
  | .local _ .vmem, ⟨2, _⟩ => ⟨S8x3584, .f32⟩
  | .local _ .vmem, ⟨3, _⟩ => ⟨S8x3584, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S256x1536, .f32⟩
  | .local _ .vmem, ⟨9, _⟩ => ⟨S256x1536, .f32⟩
  | .local _ .vmem, ⟨10, _⟩ => ⟨S4x1024, .f32⟩
  | .local _ .vmem, ⟨11, _⟩ => ⟨S1x1024, .f32⟩
  | .local _ .vmem, ⟨12, _⟩ => ⟨S4x256x256, .bf16⟩
  | .local _ .vmem, ⟨13, _⟩ => ⟨S4x256x256, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S3x512, .f32⟩
  | .local _ .vmem, ⟨18, _⟩ => ⟨S256x3584, .bf16⟩
  | .local _ .vmem, ⟨19, _⟩ => ⟨S256x3584, .bf16⟩
  | .local _ .vmem, ⟨20, _⟩ => ⟨S8x1024, .f32⟩
  | .local _ .vmem, ⟨21, _⟩ => ⟨S8x1024, .f32⟩
  | .local _ .vmem, ⟨22, _⟩ => ⟨S4x256x256, .f32⟩
  | .local _ .vmem, ⟨23, _⟩ => ⟨S4x256x256, .f32⟩
  | .local _ .vmem, ⟨24, _⟩ => ⟨S8x512, .f32⟩
  | .local _ .vmem, ⟨25, _⟩ => ⟨S9x16x1024, .f32⟩
  | .local _ .vmem, ⟨26, _⟩ => ⟨S3x16x512, .f32⟩
  | .local _ .vmem, ⟨27, _⟩ => ⟨S256x1024, .f32⟩
  | .local _ .vmem, ⟨28, _⟩ => ⟨S256x1024, .bf16⟩
  | .local _ .vmem, ⟨29, _⟩ => ⟨S256x512, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .bf16⟩
  | .local _ .vmem, ⟨42, _⟩ => ⟨S256x1024, .bf16⟩
  | .local _ .vmem, ⟨43, _⟩ => ⟨S256x1024, .f32⟩
  | .local _ .vmem, ⟨44, _⟩ => ⟨S16x1024, .f32⟩
  | .local _ .vmem, ⟨45, _⟩ => ⟨S16x1024, .f32⟩
  | .local _ .vmem, ⟨46, _⟩ => ⟨S16x512, .f32⟩
  | .local _ .vmem, ⟨47, _⟩ => ⟨S8x1024, .f32⟩
  | .local _ .vmem, ⟨48, _⟩ => ⟨S8x8x1024, .f32⟩
  | .local _ .vmem, ⟨49, _⟩ => ⟨S3x8x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_1 : Ref sig .tc := ⟨.hbm, 83, rfl⟩
abbrev main_v70 : Ref sig .tc := ⟨.hbm, 84, rfl⟩
abbrev main_v71 : Ref sig .tc := ⟨.hbm, 85, rfl⟩
abbrev main_cst_2 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_3 : Ref sig .tc := ⟨.hbm, 97, rfl⟩
abbrev main_v82 : Ref sig .tc := ⟨.hbm, 98, rfl⟩
abbrev main_v83 : Ref sig .tc := ⟨.hbm, 99, rfl⟩
abbrev main_cst_4 : Ref sig .tc := ⟨.hbm, 100, rfl⟩
abbrev main_v84 : Ref sig .tc := ⟨.hbm, 101, rfl⟩
abbrev main_v85 : Ref sig .tc := ⟨.hbm, 102, rfl⟩
abbrev main_cst_5 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_call0_cst : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_v5 : Ref sig .tc := ⟨.hbm, 113, rfl⟩
abbrev main_call0_v6 : Ref sig .tc := ⟨.hbm, 114, rfl⟩
abbrev main_call0_v7 : Ref sig .tc := ⟨.hbm, 115, rfl⟩
abbrev main_call0_v8 : Ref sig .tc := ⟨.hbm, 116, rfl⟩
abbrev main_call0_v9 : Ref sig .tc := ⟨.hbm, 117, rfl⟩
abbrev main_call0_v10 : Ref sig .tc := ⟨.hbm, 118, rfl⟩
abbrev main_call0_v11 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_6 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_cst_7 : Ref sig .tc := ⟨.hbm, 228, rfl⟩
abbrev main_v196 : Ref sig .tc := ⟨.hbm, 229, rfl⟩
abbrev main_cst_8 : Ref sig .tc := ⟨.hbm, 230, rfl⟩
abbrev main_v197 : Ref sig .tc := ⟨.hbm, 231, rfl⟩
abbrev main_v198 : Ref sig .tc := ⟨.hbm, 232, rfl⟩
abbrev main_cst_9 : Ref sig .tc := ⟨.hbm, 233, rfl⟩
abbrev main_v199 : Ref sig .tc := ⟨.hbm, 234, rfl⟩
abbrev main_cst_10 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_cst_11 : Ref sig .tc := ⟨.hbm, 249, rfl⟩
abbrev main_v213 : Ref sig .tc := ⟨.hbm, 250, rfl⟩
abbrev main_cst_12 : Ref sig .tc := ⟨.hbm, 251, rfl⟩
abbrev main_v214 : Ref sig .tc := ⟨.hbm, 252, rfl⟩
abbrev main_v215 : Ref sig .tc := ⟨.hbm, 253, rfl⟩
abbrev main_cst_13 : Ref sig .tc := ⟨.hbm, 254, rfl⟩
abbrev main_v216 : Ref sig .tc := ⟨.hbm, 255, rfl⟩
abbrev main_cst_14 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_cst_15 : Ref sig .tc := ⟨.hbm, 270, rfl⟩
abbrev main_v230 : Ref sig .tc := ⟨.hbm, 271, rfl⟩
abbrev main_cst_16 : Ref sig .tc := ⟨.hbm, 272, rfl⟩
abbrev main_v231 : Ref sig .tc := ⟨.hbm, 273, rfl⟩
abbrev main_v232 : Ref sig .tc := ⟨.hbm, 274, rfl⟩
abbrev main_cst_17 : Ref sig .tc := ⟨.hbm, 275, rfl⟩
abbrev main_v233 : Ref sig .tc := ⟨.hbm, 276, rfl⟩
abbrev main_cst_18 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_cst_19 : Ref sig .tc := ⟨.hbm, 291, rfl⟩
abbrev main_v247 : Ref sig .tc := ⟨.hbm, 292, rfl⟩
abbrev main_cst_20 : Ref sig .tc := ⟨.hbm, 293, rfl⟩
abbrev main_v248 : Ref sig .tc := ⟨.hbm, 294, rfl⟩
abbrev main_v249 : Ref sig .tc := ⟨.hbm, 295, rfl⟩
abbrev main_cst_21 : Ref sig .tc := ⟨.hbm, 296, rfl⟩
abbrev main_v250 : Ref sig .tc := ⟨.hbm, 297, rfl⟩
abbrev main_cst_22 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_cst_23 : Ref sig .tc := ⟨.hbm, 312, rfl⟩
abbrev main_v264 : Ref sig .tc := ⟨.hbm, 313, rfl⟩
abbrev main_cst_24 : Ref sig .tc := ⟨.hbm, 314, rfl⟩
abbrev main_v265 : Ref sig .tc := ⟨.hbm, 315, rfl⟩
abbrev main_v266 : Ref sig .tc := ⟨.hbm, 316, rfl⟩
abbrev main_cst_25 : Ref sig .tc := ⟨.hbm, 317, rfl⟩
abbrev main_v267 : Ref sig .tc := ⟨.hbm, 318, rfl⟩
abbrev main_cst_26 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_cst_27 : Ref sig .tc := ⟨.hbm, 333, rfl⟩
abbrev main_v281 : Ref sig .tc := ⟨.hbm, 334, rfl⟩
abbrev main_cst_28 : Ref sig .tc := ⟨.hbm, 335, rfl⟩
abbrev main_v282 : Ref sig .tc := ⟨.hbm, 336, rfl⟩
abbrev main_v283 : Ref sig .tc := ⟨.hbm, 337, rfl⟩
abbrev main_cst_29 : Ref sig .tc := ⟨.hbm, 338, rfl⟩
abbrev main_v284 : Ref sig .tc := ⟨.hbm, 339, rfl⟩
abbrev main_cst_30 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_cst_31 : Ref sig .tc := ⟨.hbm, 354, rfl⟩
abbrev main_v298 : Ref sig .tc := ⟨.hbm, 355, rfl⟩
abbrev main_cst_32 : Ref sig .tc := ⟨.hbm, 356, rfl⟩
abbrev main_v299 : Ref sig .tc := ⟨.hbm, 357, rfl⟩
abbrev main_v300 : Ref sig .tc := ⟨.hbm, 358, rfl⟩
abbrev main_cst_33 : Ref sig .tc := ⟨.hbm, 359, rfl⟩
abbrev main_v301 : Ref sig .tc := ⟨.hbm, 360, rfl⟩
abbrev main_cst_34 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_cst_35 : Ref sig .tc := ⟨.hbm, 375, rfl⟩
abbrev main_v315 : Ref sig .tc := ⟨.hbm, 376, rfl⟩
abbrev main_cst_36 : Ref sig .tc := ⟨.hbm, 377, rfl⟩
abbrev main_v316 : Ref sig .tc := ⟨.hbm, 378, rfl⟩
abbrev main_v317 : Ref sig .tc := ⟨.hbm, 379, rfl⟩
abbrev main_cst_37 : Ref sig .tc := ⟨.hbm, 380, rfl⟩
abbrev main_v318 : Ref sig .tc := ⟨.hbm, 381, rfl⟩
abbrev main_cst_38 : Ref sig .tc := ⟨.hbm, 382, rfl⟩
abbrev main_v319 : Ref sig .tc := ⟨.hbm, 383, rfl⟩
abbrev main_v320 : Ref sig .tc := ⟨.hbm, 384, rfl⟩
abbrev main_v321 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_cst_39 : Ref sig .tc := ⟨.hbm, 396, rfl⟩
abbrev main_v332 : Ref sig .tc := ⟨.hbm, 397, rfl⟩
abbrev main_cst_40 : Ref sig .tc := ⟨.hbm, 398, rfl⟩
abbrev main_v333 : Ref sig .tc := ⟨.hbm, 399, rfl⟩
abbrev main_v334 : Ref sig .tc := ⟨.hbm, 400, rfl⟩
abbrev main_cst_41 : Ref sig .tc := ⟨.hbm, 401, rfl⟩
abbrev main_v335 : Ref sig .tc := ⟨.hbm, 402, rfl⟩
abbrev main_cst_42 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_cst_43 : Ref sig .tc := ⟨.hbm, 417, rfl⟩
abbrev main_v349 : Ref sig .tc := ⟨.hbm, 418, rfl⟩
abbrev main_cst_44 : Ref sig .tc := ⟨.hbm, 419, rfl⟩
abbrev main_v350 : Ref sig .tc := ⟨.hbm, 420, rfl⟩
abbrev main_v351 : Ref sig .tc := ⟨.hbm, 421, rfl⟩
abbrev main_cst_45 : Ref sig .tc := ⟨.hbm, 422, rfl⟩
abbrev main_v352 : Ref sig .tc := ⟨.hbm, 423, rfl⟩
abbrev main_cst_46 : Ref sig .tc := ⟨.hbm, 424, rfl⟩
abbrev main_v353 : Ref sig .tc := ⟨.hbm, 425, rfl⟩
abbrev main_v354 : Ref sig .tc := ⟨.hbm, 426, rfl⟩
abbrev main_v355 : Ref sig .tc := ⟨.hbm, 427, rfl⟩
abbrev main_v356 : Ref sig .tc := ⟨.hbm, 428, rfl⟩
abbrev main_v357 : Ref sig .tc := ⟨.hbm, 429, rfl⟩
abbrev main_v358 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_v363 : Ref sig .tc := ⟨.hbm, 435, rfl⟩
abbrev main_v364 : Ref sig .tc := ⟨.hbm, 436, rfl⟩
abbrev main_v365 : Ref sig .tc := ⟨.hbm, 437, rfl⟩
abbrev main_cst_47 : Ref sig .tc := ⟨.hbm, 438, rfl⟩
abbrev main_v366 : Ref sig .tc := ⟨.hbm, 439, rfl⟩
abbrev main_cst_48 : Ref sig .tc := ⟨.hbm, 440, rfl⟩
abbrev main_v367 : Ref sig .tc := ⟨.hbm, 441, rfl⟩
abbrev main_v368 : Ref sig .tc := ⟨.hbm, 442, rfl⟩
abbrev main_cst_49 : Ref sig .tc := ⟨.hbm, 443, rfl⟩
abbrev main_v369 : Ref sig .tc := ⟨.hbm, 444, rfl⟩
abbrev main_cst_50 : Ref sig .tc := ⟨.hbm, 445, rfl⟩
abbrev main_v370 : Ref sig .tc := ⟨.hbm, 446, rfl⟩
abbrev main_v371 : Ref sig .tc := ⟨.hbm, 447, rfl⟩
abbrev main_v372 : Ref sig .tc := ⟨.hbm, 448, rfl⟩
abbrev main_v373 : Ref sig .tc := ⟨.hbm, 449, rfl⟩
abbrev main_v374 : Ref sig .tc := ⟨.hbm, 450, rfl⟩
abbrev main_v375 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_cst_51 : Ref sig .tc := ⟨.hbm, 459, rfl⟩
abbrev main_v383 : Ref sig .tc := ⟨.hbm, 460, rfl⟩
abbrev main_cst_52 : Ref sig .tc := ⟨.hbm, 461, rfl⟩
abbrev main_v384 : Ref sig .tc := ⟨.hbm, 462, rfl⟩
abbrev main_v385 : Ref sig .tc := ⟨.hbm, 463, rfl⟩
abbrev main_cst_53 : Ref sig .tc := ⟨.hbm, 464, rfl⟩
abbrev main_v386 : Ref sig .tc := ⟨.hbm, 465, rfl⟩
abbrev main_cst_54 : Ref sig .tc := ⟨.hbm, 466, rfl⟩
abbrev main_v387 : Ref sig .tc := ⟨.hbm, 467, rfl⟩
abbrev main_v388 : Ref sig .tc := ⟨.hbm, 468, rfl⟩
abbrev main_v389 : Ref sig .tc := ⟨.hbm, 469, rfl⟩
abbrev main_v390 : Ref sig .tc := ⟨.hbm, 470, rfl⟩
abbrev main_v391 : Ref sig .tc := ⟨.hbm, 471, rfl⟩
abbrev main_v392 : Ref sig .tc := ⟨.hbm, 472, rfl⟩
abbrev main_cst_55 : Ref sig .tc := ⟨.hbm, 473, rfl⟩
abbrev main_v393 : Ref sig .tc := ⟨.hbm, 474, rfl⟩
abbrev main_v394_0 : Ref sig .tc := ⟨.hbm, 475, rfl⟩
abbrev main_v394_1 : Ref sig .tc := ⟨.hbm, 476, rfl⟩
abbrev main_v394_2 : Ref sig .tc := ⟨.hbm, 477, rfl⟩
abbrev main_v394_3 : Ref sig .tc := ⟨.hbm, 478, rfl⟩
abbrev main_v394_4 : Ref sig .tc := ⟨.hbm, 479, rfl⟩
abbrev main_v394_5 : Ref sig .tc := ⟨.hbm, 480, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_scratch11 : Ref sig .tc := ⟨.vmem, 36, rfl⟩
abbrev cc0_scratch12 : Ref sig .tc := ⟨.vmem, 37, rfl⟩
abbrev cc0_scratch13 : Ref sig .tc := ⟨.vmem, 38, rfl⟩
abbrev cc0_scratch14 : Ref sig .tc := ⟨.vmem, 39, rfl⟩
abbrev cc0_scratch15 : Ref sig .tc := ⟨.vmem, 40, rfl⟩
abbrev cc0_scratch16 : Ref sig .tc := ⟨.vmem, 41, rfl⟩
abbrev cc0_scratch17 : Ref sig .tc := ⟨.vmem, 42, rfl⟩
abbrev cc0_scratch18 : Ref sig .tc := ⟨.vmem, 43, rfl⟩
abbrev cc0_scratch19 : Ref sig .tc := ⟨.vmem, 44, rfl⟩
abbrev cc0_scratch20 : Ref sig .tc := ⟨.vmem, 45, rfl⟩
abbrev cc0_scratch21 : Ref sig .tc := ⟨.vmem, 46, rfl⟩
abbrev cc0_scratch22 : Ref sig .tc := ⟨.vmem, 47, rfl⟩
abbrev cc0_scratch23 : Ref sig .tc := ⟨.vmem, 48, rfl⟩
abbrev cc0_scratch24 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1551 : BitVec 32 := 0#32
  let c32_i32 : BitVec 32 := 32#32
  let v2527 : BitVec 32 := Scalar.addi c0_i32_1551 c32_i32
  let c1_i32 : BitVec 32 := 1#32
  ⟨c0_i32_1551, v2527, c1_i32⟩
def k0_mult1 (k0_t1 : Fin k0_t1_loop.trips) : BitVec 32 :=
  let c31_i32_4189 : BitVec 32 := 31#32
  let c0_i32_1551 : BitVec 32 := 0#32
  let c1_i32 : BitVec 32 := 1#32
  let arg46 : BitVec 32 := Scf.iv c0_i32_1551 c1_i32 k0_t1
  let v6477 : BitVec 32 := Scalar.subi c31_i32_4189 arg46
  let c8_i32 : BitVec 32 := 8#32
  let v6478 : BitVec 32 := Scalar.muli v6477 c8_i32
  v6478
def k0_off1 (k0_t1 : Fin k0_t1_loop.trips) : Fin 2 → Nat :=
  let c31_i32_4189 : BitVec 32 := 31#32
  let c0_i32_1551 : BitVec 32 := 0#32
  let c1_i32 : BitVec 32 := 1#32
  let arg46 : BitVec 32 := Scf.iv c0_i32_1551 c1_i32 k0_t1
  let v6477 : BitVec 32 := Scalar.subi c31_i32_4189 arg46
  let c8_i32 : BitVec 32 := 8#32
  let v6478 : BitVec 32 := Scalar.muli v6477 c8_i32
  let v6479 : BitVec 32 := v6478
  let v6480 : Index := Scalar.indexCast v6479
  let c0_4190 : Index := 0#32
  ![v6480.toNat, 0]
def k0_cond2 (i : grid0.Coords) : BitVec 1 :=
  let arg0 : BitVec 32 := BitVec.ofNat 32 (i 0).val
  let c15_i32_4187 : BitVec 32 := 15#32
  let v6474 : BitVec 1 := Scalar.cmpi .eq arg0 c15_i32_4187
  let v6475 : BitVec 32 := Scalar.extui v6474
  let c0_i32_4188 : BitVec 32 := 0#32
  let v6476 : BitVec 1 := Scalar.cmpi .ne v6475 c0_i32_4188
  v6476

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x3584 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MixReferenceIdeal.lean ====
abbrev S4096x3584 : Shape := ⟨2, ![4096, 3584]⟩
abbrev S4x1024 : Shape := ⟨2, ![4, 1024]⟩
abbrev S1024 : Shape := ⟨1, ![1024]⟩
abbrev S16x64x64 : Shape := ⟨3, ![16, 64, 64]⟩
abbrev S3x512 : Shape := ⟨2, ![3, 512]⟩
abbrev S4096x1536 : Shape := ⟨2, ![4096, 1536]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S5x512 : Shape := ⟨2, ![5, 512]⟩
abbrev S8x512 : Shape := ⟨2, ![8, 512]⟩

abbrev nBuf : Space → Nat
  | .hbm => 97
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4x1024, .f32⟩
  | .hbm, ⟨2, _⟩ => ⟨S1024, .f32⟩
  | .hbm, ⟨3, _⟩ => ⟨S16x64x64, .f32⟩
  | .hbm, ⟨4, _⟩ => ⟨S1024, .f32⟩
  | .hbm, ⟨5, _⟩ => ⟨S16x64x64, .f32⟩
  | .hbm, ⟨6, _⟩ => ⟨S1024, .f32⟩
  | .hbm, ⟨7, _⟩ => ⟨S1024, .f32⟩
  | .hbm, ⟨8, _⟩ => ⟨S3x512, .f32⟩
  | .hbm, ⟨9, _⟩ => ⟨S4096x1536, .f32⟩
  | .hbm, ⟨10, _⟩ => ⟨S4096x1536, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S2x512, .f32⟩
  | .hbm, ⟨17, _⟩ => ⟨S4098x512, .f32⟩
  | .hbm, ⟨18, _⟩ => ⟨S_, .f32⟩
  | .hbm, ⟨19, _⟩ => ⟨S2x512, .f32⟩
  | .hbm, ⟨20, _⟩ => ⟨S4096x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S3x512, .f32⟩
  | .hbm, ⟨55, _⟩ => ⟨S_, .f32⟩
  | .hbm, ⟨56, _⟩ => ⟨S4098x512, .f32⟩
  | .hbm, ⟨57, _⟩ => ⟨S4096x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S4096x512, .f32⟩
  | .hbm, ⟨62, _⟩ => ⟨S4096x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S_, .f32⟩
  | .hbm, ⟨67, _⟩ => ⟨S3x512, .f32⟩
  | .hbm, ⟨68, _⟩ => ⟨S3x512, .f32⟩
  | .hbm, ⟨69, _⟩ => ⟨S_, .f32⟩
  | .hbm, ⟨70, _⟩ => ⟨S4098x512, .f32⟩
  | .hbm, ⟨71, _⟩ => ⟨S4098x512, .f32⟩
  | .hbm, ⟨72, _⟩ => ⟨S4096x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S4096x512, .f32⟩
  | .hbm, ⟨77, _⟩ => ⟨S4096x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S_, .f32⟩
  | .hbm, ⟨82, _⟩ => ⟨S3x512, .f32⟩
  | .hbm, ⟨83, _⟩ => ⟨S3x512, .f32⟩
  | .hbm, ⟨84, _⟩ => ⟨S_, .f32⟩
  | .hbm, ⟨85, _⟩ => ⟨S4098x512, .f32⟩
  | .hbm, ⟨86, _⟩ => ⟨S4098x512, .f32⟩
  | .hbm, ⟨87, _⟩ => ⟨S2x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x1536, .f32⟩
  | .hbm, ⟨92, _⟩ => ⟨S_, .f32⟩
  | .hbm, ⟨93, _⟩ => ⟨S4096x3584, .f32⟩
  | .hbm, ⟨94, _⟩ => ⟨S_, .f32⟩
  | .hbm, ⟨95, _⟩ => ⟨S5x512, .f32⟩
  | .hbm, ⟨96, _⟩ => ⟨S8x512, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== NinKernel.lean ====
abbrev S4096x1024 : Shape := ⟨2, ![4096, 1024]⟩
abbrev S1024 : Shape := ⟨1, ![1024]⟩
abbrev S1024x3584 : Shape := ⟨2, ![1024, 3584]⟩
abbrev S3584x1024 : Shape := ⟨2, ![3584, 1024]⟩
abbrev S1x1024 : Shape := ⟨2, ![1, 1024]⟩
abbrev S4096x3584 : Shape := ⟨2, ![4096, 3584]⟩
abbrev S2048x1024 : Shape := ⟨2, ![2048, 1024]⟩
abbrev S896x1024 : Shape := ⟨2, ![896, 1024]⟩
abbrev S2048x896 : Shape := ⟨2, ![2048, 896]⟩
abbrev S2048 : Shape := ⟨1, ![2048]⟩
abbrev S2048x1 : Shape := ⟨2, ![2048, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S3584x1024, .f32⟩
  | .hbm, ⟨4, _⟩ => ⟨S3584x1024, .bf16⟩
  | .hbm, ⟨5, _⟩ => ⟨S1x1024, .f32⟩
  | .hbm, ⟨6, _⟩ => ⟨S4096x3584, .f32⟩
  | .hbm, ⟨7, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S896x1024, .bf16⟩
  | .local _ .vmem, ⟨4, _⟩ => ⟨S896x1024, .bf16⟩
  | .local _ .vmem, ⟨5, _⟩ => ⟨S2048x896, .f32⟩
  | .local _ .vmem, ⟨6, _⟩ => ⟨S2048x896, .f32⟩
  | .local _ .vmem, ⟨7, _⟩ => ⟨S2048x1024, .bf16⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NinReferenceIdeal.lean ====
abbrev S4096x1024 : Shape := ⟨2, ![4096, 1024]⟩
abbrev S1024 : Shape := ⟨1, ![1024]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3584 : Shape := ⟨2, ![4096, 3584]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3584, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FwdKernel.lean ====
abbrev S4096x1024 : Shape := ⟨2, ![4096, 1024]⟩
abbrev S1024 : Shape := ⟨1, ![1024]⟩
abbrev S1024x6144 : Shape := ⟨2, ![1024, 6144]⟩
abbrev S3x6144 : Shape := ⟨2, ![3, 6144]⟩
abbrev S3072x1024 : Shape := ⟨2, ![3072, 1024]⟩
abbrev S1024x768 : Shape := ⟨2, ![1024, 768]⟩
abbrev S1x1024x768 : Shape := ⟨3, ![1, 1024, 768]⟩
abbrev S8x1024x768 : Shape := ⟨3, ![8, 1024, 768]⟩
abbrev S3x2x3072 : Shape := ⟨3, ![3, 2, 3072]⟩
abbrev S2x3x3072 : Shape := ⟨3, ![2, 3, 3072]⟩
abbrev S1x1024 : Shape := ⟨2, ![1, 1024]⟩
abbrev S4096x3072 : Shape := ⟨2, ![4096, 3072]⟩
abbrev S2x4096x3072 : Shape := ⟨3, ![2, 4096, 3072]⟩
abbrev S1024x1024 : Shape := ⟨2, ![1024, 1024]⟩
abbrev S16x1024 : Shape := ⟨2, ![16, 1024]⟩
abbrev S2x3x768 : Shape := ⟨3, ![2, 3, 768]⟩
abbrev S768x1024 : Shape := ⟨2, ![768, 1024]⟩
abbrev S2x1024x768 : Shape := ⟨3, ![2, 1024, 768]⟩
abbrev S2x1040x768 : Shape := ⟨3, ![2, 1040, 768]⟩
abbrev S2x3x16x768 : Shape := ⟨4, ![2, 3, 16, 768]⟩
abbrev S1040x1024 : Shape := ⟨2, ![1040, 1024]⟩
abbrev S1x1x768 : Shape := ⟨3, ![1, 1, 768]⟩
abbrev S1x768 : Shape := ⟨2, ![1, 768]⟩
abbrev S16x768 : Shape := ⟨2, ![16, 768]⟩
abbrev S1x1x16x768 : Shape := ⟨4, ![1, 1, 16, 768]⟩
abbrev S16 : Shape := ⟨1, ![16]⟩
abbrev S16x1 : Shape := ⟨2, ![16, 1]⟩
abbrev S1024x1 : Shape := ⟨2, ![1024, 1]⟩
abbrev S528x1024 : Shape := ⟨2, ![528, 1024]⟩
abbrev S528x768 : Shape := ⟨2, ![528, 768]⟩
abbrev S1x16x768 : Shape := ⟨3, ![1, 16, 768]⟩
abbrev S512x768 : Shape := ⟨2, ![512, 768]⟩
abbrev S1x512x768 : Shape := ⟨3, ![1, 512, 768]⟩
abbrev S512x1024 : Shape := ⟨2, ![512, 1024]⟩
abbrev S32x768 : Shape := ⟨2, ![32, 768]⟩

abbrev nBuf : Space → Nat
  | .hbm => 32
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S3x6144, .f32⟩
  | .hbm, ⟨4, _⟩ => ⟨S3072x1024, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S1x1024x768, .f32⟩
  | .hbm, ⟨21, _⟩ => ⟨S8x1024x768, .f32⟩
  | .hbm, ⟨22, _⟩ => ⟨S8x1024x768, .bf16⟩
  | .hbm, ⟨23, _⟩ => ⟨S3x2x3072, .f32⟩
  | .hbm, ⟨24, _⟩ => ⟨S2x3x3072, .f32⟩
  | .hbm, ⟨25, _⟩ => ⟨S3072x1024, .bf16⟩
  | .hbm, ⟨26, _⟩ => ⟨S1x1024, .f32⟩
  | .hbm, ⟨27, _⟩ => ⟨S4096x1024, .f32⟩
  | .hbm, ⟨28, _⟩ => ⟨S4096x1024, .bf16⟩
  | .hbm, ⟨29, _⟩ => ⟨S4096x3072, .bf16⟩
  | .hbm, ⟨30, _⟩ => ⟨S2x4096x3072, .bf16⟩
  | .hbm, ⟨31, _⟩ => ⟨S2x4096x3072, .bf16⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S2x3x768, .f32⟩
  | .local _ .vmem, ⟨10, _⟩ => ⟨S2x3x768, .f32⟩
  | .local _ .vmem, ⟨11, _⟩ => ⟨S768x1024, .bf16⟩
  | .local _ .vmem, ⟨12, _⟩ => ⟨S768x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x768, .bf16⟩
  | .local _ .vmem, ⟨18, _⟩ => ⟨S1024x768, .bf16⟩
  | .local _ .vmem, ⟨19, _⟩ => ⟨S2x1024x768, .bf16⟩
  | .local _ .vmem, ⟨20, _⟩ => ⟨S2x1024x768, .bf16⟩
  | .local _ .vmem, ⟨21, _⟩ => ⟨S2x1024x768, .bf16⟩
  | .local _ .vmem, ⟨22, _⟩ => ⟨S2x1024x768, .bf16⟩
  | .local _ .vmem, ⟨23, _⟩ => ⟨S2x1040x768, .f32⟩
  | .local _ .vmem, ⟨24, _⟩ => ⟨S1024x1024, .f32⟩
  | .local _ .vmem, ⟨25, _⟩ => ⟨S2x3x16x768, .f32⟩
  | .local _ .vmem, ⟨26, _⟩ => ⟨S1040x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev main_v22_3 : Ref sig .tc := ⟨.hbm, 30, rfl⟩
abbrev main_v22_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v4355 : BitVec 1 := Scalar.cmpi .eq arg1 c3_i32
  let v4356 : BitVec 32 := Scalar.extui v4355
  let c0_i32_3376 : BitVec 32 := 0#32
  let v4357 : BitVec 1 := Scalar.cmpi .ne v4356 c0_i32_3376
  v4357

def k0_cond1 (i : grid0.Coords) : BitVec 1 :=
  let arg1 : BitVec 32 := BitVec.ofNat 32 (i 1).val
  let c0_i32_40 : BitVec 32 := 0#32
  let v44 : BitVec 1 := Scalar.cmpi .eq arg1 c0_i32_40
  let v45 : BitVec 32 := Scalar.extui v44
  let c0_i32_41 : BitVec 32 := 0#32
  let v46 : BitVec 1 := Scalar.cmpi .ne v45 c0_i32_41
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x3x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1024x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FwdReferenceIdeal.lean ====
abbrev S4096x1024 : Shape := ⟨2, ![4096, 1024]⟩
abbrev S1024 : Shape := ⟨1, ![1024]⟩
abbrev S1024x6144 : Shape := ⟨2, ![1024, 6144]⟩
abbrev S3x6144 : Shape := ⟨2, ![3, 6144]⟩
abbrev S3072x1024 : Shape := ⟨2, ![3072, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6144 : Shape := ⟨2, ![4096, 6144]⟩
abbrev S2x6144 : Shape := ⟨2, ![2, 6144]⟩
abbrev S4098x6144 : Shape := ⟨2, ![4098, 6144]⟩
abbrev S1x6144 : Shape := ⟨2, ![1, 6144]⟩
abbrev S6144 : Shape := ⟨1, ![6144]⟩
abbrev S4096x3072 : Shape := ⟨2, ![4096, 3072]⟩
abbrev S4096x2x3072 : Shape := ⟨3, ![4096, 2, 3072]⟩
abbrev S2x4096x3072 : Shape := ⟨3, ![2, 4096, 3072]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S3x6144, .f32⟩
  | .hbm, ⟨4, _⟩ => ⟨S3072x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x6144, .f32⟩
  | .hbm, ⟨22, _⟩ => ⟨S_, .f32⟩
  | .hbm, ⟨23, _⟩ => ⟨S2x6144, .f32⟩
  | .hbm, ⟨24, _⟩ => ⟨S4098x6144, .f32⟩
  | .hbm, ⟨25, _⟩ => ⟨S4096x6144, .f32⟩
  | .hbm, ⟨26, _⟩ => ⟨S1x6144, .f32⟩
  | .hbm, ⟨27, _⟩ => ⟨S6144, .f32⟩
  | .hbm, ⟨28, _⟩ => ⟨S1x6144, .f32⟩
  | .hbm, ⟨29, _⟩ => ⟨S4096x6144, .f32⟩
  | .hbm, ⟨30, _⟩ => ⟨S4096x6144, .f32⟩
  | .hbm, ⟨31, _⟩ => ⟨S4096x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S4096x6144, .f32⟩
  | .hbm, ⟨36, _⟩ => ⟨S4096x6144, .f32⟩
  | .hbm, ⟨37, _⟩ => ⟨S4096x6144, .f32⟩
  | .hbm, ⟨38, _⟩ => ⟨S4096x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S4096x6144, .f32⟩
  | .hbm, ⟨43, _⟩ => ⟨S4096x6144, .f32⟩
  | .hbm, ⟨44, _⟩ => ⟨S4096x6144, .f32⟩
  | .hbm, ⟨45, _⟩ => ⟨S4096x3072, .f32⟩
  | .hbm, ⟨46, _⟩ => ⟨S4096x3072, .f32⟩
  | .hbm, ⟨47, _⟩ => ⟨S4096x3072, .f32⟩
  | .hbm, ⟨48, _⟩ => ⟨S4096x3072, .f32⟩
  | .hbm, ⟨49, _⟩ => ⟨S_, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S_, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S_, .f32⟩
  | .hbm, ⟨58, _⟩ => ⟨S4096x3072, .f32⟩
  | .hbm, ⟨59, _⟩ => ⟨S4096x3072, .f32⟩
  | .hbm, ⟨60, _⟩ => ⟨S_, .f32⟩
  | .hbm, ⟨61, _⟩ => ⟨S4096x3072, .f32⟩
  | .hbm, ⟨62, _⟩ => ⟨S4096x3072, .f32⟩
  | .hbm, ⟨63, _⟩ => ⟨S4096x3072, .f32⟩
  | .hbm, ⟨64, _⟩ => ⟨S4096x3072, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S4096x3072, .bf16⟩
  | .hbm, ⟨69, _⟩ => ⟨S4096x2x3072, .f32⟩
  | .hbm, ⟨70, _⟩ => ⟨S2x4096x3072, .f32⟩
  | .hbm, ⟨71, _⟩ => ⟨S2x4096x3072, .bf16⟩
  | .hbm, ⟨72, _⟩ => ⟨S4096x2x3072, .f32⟩
  | .hbm, ⟨73, _⟩ => ⟨S2x4096x3072, .f32⟩
  | .hbm, ⟨74, _⟩ => ⟨S2x4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== TnKernel.lean ====
abbrev S4096x3584 : Shape := ⟨2, ![4096, 3584]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3584x1024 : Shape := ⟨2, ![3584, 1024]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 22
  | .vmem => 7
  | .smem => 0
  | _ => 0

abbrev bufTy : (tb : Table) → Fin (tcTables nBuf tb) → BufTy
  | .hbm, ⟨0, _⟩ => ⟨S4096x3584, .f32⟩
  | .hbm, ⟨1, _⟩ => ⟨S4096x1024, .f32⟩
  | .hbm, ⟨2, _⟩ => ⟨S1024, .f32⟩
  | .hbm, ⟨3, _⟩ => ⟨S4096x3584, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S3584x1024, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnReferenceIdeal.lean ====
abbrev S4096x3584 : Shape := ⟨2, ![4096, 3584]⟩
abbrev S4096x1024 : Shape := ⟨2, ![4096, 1024]⟩
abbrev S1024 : Shape := ⟨1, ![1024]⟩
abbrev S_ : Shape := ⟨0, ![]⟩
abbrev S1024x3584 : Shape := ⟨2, ![1024, 3584]⟩
abbrev S4096 : Shape := ⟨1, ![4096]⟩
abbrev S4096x1 : Shape := ⟨2, ![4096, 1]⟩
abbrev S1x1024 : Shape := ⟨2, ![1, 1024]⟩
abbrev S3584x1024 : Shape := ⟨2, ![3584, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024x3584, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x3584, .f32⟩
  | .hbm, ⟨22, _⟩ => ⟨S3584x1024, .f32⟩
  | .hbm, ⟨23, _⟩ => ⟨S1024x3584, .f32⟩
  | .hbm, ⟨24, _⟩ => ⟨S3584x1024, .f32⟩
  | .hbm, ⟨25, _⟩ => ⟨S3584x1024, .bf16⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== NnKernel.lean ====
abbrev S4096x1024 : Shape := ⟨2, ![4096, 1024]⟩
abbrev S4096x1536 : Shape := ⟨2, ![4096, 1536]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S1536x1024, .f32⟩
  | .hbm, ⟨3, _⟩ => ⟨S4096x1536, .bf16⟩
  | .hbm, ⟨4, _⟩ => ⟨S1536x1024, .bf16⟩
  | .hbm, ⟨5, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== NnReferenceIdeal.lean ====
abbrev S4096x1024 : Shape := ⟨2, ![4096, 1024]⟩
abbrev S4096x1536 : Shape := ⟨2, ![4096, 1536]⟩
abbrev S1536x1024 : Shape := ⟨2, ![1536, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S1536x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== NtKernel.lean ====
abbrev S1536x1024 : Shape := ⟨2, ![1536, 1024]⟩
abbrev S4096x1024 : Shape := ⟨2, ![4096, 1024]⟩
abbrev S4096x1536 : Shape := ⟨2, ![4096, 1536]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S1536x1024, .f32⟩
  | .hbm, ⟨1, _⟩ => ⟨S4096x1024, .f32⟩
  | .hbm, ⟨2, _⟩ => ⟨S4096x1024, .bf16⟩
  | .hbm, ⟨3, _⟩ => ⟨S1536x1024, .bf16⟩
  | .hbm, ⟨4, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | _, _ => ⟨S1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtReferenceIdeal.lean ====
abbrev S1536x1024 : Shape := ⟨2, ![1536, 1024]⟩
abbrev S4096x1024 : Shape := ⟨2, ![4096, 1024]⟩
abbrev S_ : Shape := ⟨0, ![]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S1536x1024, .f32⟩
  | .hbm, ⟨1, _⟩ => ⟨S4096x1024, .f32⟩
  | .hbm, ⟨2, _⟩ => ⟨S_, .f32⟩
  | .hbm, ⟨3, _⟩ => ⟨S4096x1536, .f32⟩
  | .hbm, ⟨4, _⟩ => ⟨S4096x1024, .f32⟩
  | .hbm, ⟨5, _⟩ => ⟨S4096x1536, .f32⟩
  | _, _ => ⟨S1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpKernel.lean ====
abbrev S4096x1024 : Shape := ⟨2, ![4096, 1024]⟩
abbrev S1024 : Shape := ⟨1, ![1024]⟩
abbrev S4096x6144 : Shape := ⟨2, ![4096, 6144]⟩
abbrev S4096x2x3072 : Shape := ⟨3, ![4096, 2, 3072]⟩
abbrev S2x4096x3072 : Shape := ⟨3, ![2, 4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024x768 : Shape := ⟨3, ![8, 1024, 768]⟩
abbrev S2048x1024 : Shape := ⟨2, ![2048, 1024]⟩
abbrev S1x2048x768 : Shape := ⟨3, ![1, 2048, 768]⟩
abbrev S1x1024x768 : Shape := ⟨3, ![1, 1024, 768]⟩
abbrev S1024x768 : Shape := ⟨2, ![1024, 768]⟩
abbrev S2048x768 : Shape := ⟨2, ![2048, 768]⟩

abbrev nBuf : Space → Nat
  | .hbm => 24
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x6144, .f32⟩
  | .hbm, ⟨3, _⟩ => ⟨S4096x2x3072, .f32⟩
  | .hbm, ⟨4, _⟩ => ⟨S2x4096x3072, .f32⟩
  | .hbm, ⟨5, _⟩ => ⟨S2x4096x3072, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S8x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32_7 : BitVec 32 := 1#32
  let v13 : BitVec 1 := Scalar.cmpi .eq arg2 c1_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S1024 : Shape := ⟨1, ![1024]⟩
abbrev S4096x6144 : Shape := ⟨2, ![4096, 6144]⟩
abbrev S_ : Shape := ⟨0, ![]⟩
abbrev S1024x6144 : Shape := ⟨2, ![1024, 6144]⟩
abbrev S4096 : Shape := ⟨1, ![4096]⟩
abbrev S4096x1 : Shape := ⟨2, ![4096, 1]⟩
abbrev S1x1024 : Shape := ⟨2, ![1, 1024]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x6144, .f32⟩
  | .hbm, ⟨3, _⟩ => ⟨S_, .f32⟩
  | .hbm, ⟨4, _⟩ => ⟨S1024x6144, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x6144, .f32⟩
  | .hbm, ⟨22, _⟩ => ⟨S6144x1024, .f32⟩
  | .hbm, ⟨23, _⟩ => ⟨S1024x6144, .f32⟩
  | .hbm, ⟨24, _⟩ => ⟨S1024x8x768, .f32⟩
  | .hbm, ⟨25, _⟩ => ⟨S8x1024x768, .f32⟩
  | .hbm, ⟨26, _⟩ => ⟨S8x1024x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== SumKernel.lean ====
abbrev S8x448x1024 : Shape := ⟨3, ![8, 448, 1024]⟩
abbrev S448x1024 : Shape := ⟨2, ![448, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x448x1024, .bf16⟩
  | .hbm, ⟨1, _⟩ => ⟨S448x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | _, _ => ⟨S8x448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumReferenceIdeal.lean ====
abbrev S8x448x1024 : Shape := ⟨3, ![8, 448, 1024]⟩
abbrev S_ : Shape := ⟨0, ![]⟩
abbrev S448x1024 : Shape := ⟨2, ![448, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x448x1024, .bf16⟩
  | .hbm, ⟨1, _⟩ => ⟨S8x448x1024, .f32⟩
  | .hbm, ⟨2, _⟩ => ⟨S_, .f32⟩
  | .hbm, ⟨3, _⟩ => ⟨S448x1024, .f32⟩
  | _, _ => ⟨S8x448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamKernel.lean ====
abbrev S2048x448 : Shape := ⟨2, ![2048, 448]⟩
abbrev S512x448 : Shape := ⟨2, ![512, 448]⟩

abbrev nBuf : Space → Nat
  | .hbm => 7
  | .vmem => 14
  | .smem => 0
  | _ => 0

abbrev bufTy : (tb : Table) → Fin (tcTables nBuf tb) → BufTy
  | .hbm, ⟨0, _⟩ => ⟨S2048x448, .f32⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S2048x448, .f32⟩
  | .hbm, ⟨5, _⟩ => ⟨S2048x448, .f32⟩
  | .hbm, ⟨6, _⟩ => ⟨S2048x448, .f32⟩
  | .local _ .vmem, ⟨0, _⟩ => ⟨S512x448, .f32⟩
  | .local _ .vmem, ⟨1, _⟩ => ⟨S512x448, .f32⟩
  | .local _ .vmem, ⟨2, _⟩ => ⟨S512x448, .f32⟩
  | .local _ .vmem, ⟨3, _⟩ => ⟨S512x448, .f32⟩
  | .local _ .vmem, ⟨4, _⟩ => ⟨S512x448, .f32⟩
  | .local _ .vmem, ⟨5, _⟩ => ⟨S512x448, .f32⟩
  | .local _ .vmem, ⟨6, _⟩ => ⟨S512x448, .f32⟩
  | .local _ .vmem, ⟨7, _⟩ => ⟨S512x448, .f32⟩
  | .local _ .vmem, ⟨8, _⟩ => ⟨S512x448, .f32⟩
  | .local _ .vmem, ⟨9, _⟩ => ⟨S512x448, .f32⟩
  | .local _ .vmem, ⟨10, _⟩ => ⟨S512x448, .f32⟩
  | .local _ .vmem, ⟨11, _⟩ => ⟨S512x448, .f32⟩
  | .local _ .vmem, ⟨12, _⟩ => ⟨S512x448, .f32⟩
  | .local _ .vmem, ⟨13, _⟩ => ⟨S512x448, .f32⟩
  | _, _ => ⟨S2048x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S2048x448 : Shape := ⟨2, ![2048, 448]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x448, .f32⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S_, .f32⟩
  | .hbm, ⟨5, _⟩ => ⟨S2048x448, .f32⟩
  | .hbm, ⟨6, _⟩ => ⟨S2048x448, .f32⟩
  | .hbm, ⟨7, _⟩ => ⟨S_, .f32⟩
  | .hbm, ⟨8, _⟩ => ⟨S2048x448, .f32⟩
  | .hbm, ⟨9, _⟩ => ⟨S2048x448, .f32⟩
  | .hbm, ⟨10, _⟩ => ⟨S2048x448, .f32⟩
  | .hbm, ⟨11, _⟩ => ⟨S_, .f32⟩
  | .hbm, ⟨12, _⟩ => ⟨S2048x448, .f32⟩
  | .hbm, ⟨13, _⟩ => ⟨S2048x448, .f32⟩
  | .hbm, ⟨14, _⟩ => ⟨S2048x448, .f32⟩
  | .hbm, ⟨15, _⟩ => ⟨S_, .f32⟩
  | .hbm, ⟨16, _⟩ => ⟨S2048x448, .f32⟩
  | .hbm, ⟨17, _⟩ => ⟨S2048x448, .f32⟩
  | .hbm, ⟨18, _⟩ => ⟨S2048x448, .f32⟩
  | .hbm, ⟨19, _⟩ => ⟨S_, .f32⟩
  | .hbm, ⟨20, _⟩ => ⟨S2048x448, .f32⟩
  | .hbm, ⟨21, _⟩ => ⟨S2048x448, .f32⟩
  | .hbm, ⟨22, _⟩ => ⟨S_, .f32⟩
  | .hbm, ⟨23, _⟩ => ⟨S2048x448, .f32⟩
  | .hbm, ⟨24, _⟩ => ⟨S2048x448, .f32⟩
  | .hbm, ⟨25, _⟩ => ⟨S2048x448, .f32⟩
  | .hbm, ⟨26, _⟩ => ⟨S_, .f32⟩
  | .hbm, ⟨27, _⟩ => ⟨S2048x448, .f32⟩
  | .hbm, ⟨28, _⟩ => ⟨S2048x448, .f32⟩
  | .hbm, ⟨29, _⟩ => ⟨S2048x448, .f32⟩
  | .hbm, ⟨30, _⟩ => ⟨S_, .f32⟩
  | .hbm, ⟨31, _⟩ => ⟨S2048x448, .f32⟩
  | .hbm, ⟨32, _⟩ => ⟨S2048x448, .f32⟩
  | .hbm, ⟨33, _⟩ => ⟨S2048x448, .f32⟩
  | .hbm, ⟨34, _⟩ => ⟨S_, .f32⟩
  | .hbm, ⟨35, _⟩ => ⟨S2048x448, .f32⟩
  | .hbm, ⟨36, _⟩ => ⟨S2048x448, .f32⟩
  | _, _ => ⟨S2048x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
/- Finite entries: the extended reals that are real numbers, the constants the programs print, and sums of them. -/
module

public import Idealize.ShloMosaic.Lib.Pointwise
public import Idealize.ShloMosaic.PureOps.Ideal

@[expose] public section

noncomputable section

namespace Cert.Reals

open Idealize.ShloMosaic

/-- A finite sum of real numbers is the same number among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of 1024. -/
theorem w1024 : Ideal.ofBits .f32 0x44800000#32 = ((1024 : ℝ) : EReal) := by
  simp [Ideal.ofBits, Ideal.ieee]; rw [← EReal.coe_mul]; norm_num

/-- The word of one half. -/
theorem whalf : Ideal.ofBits .f32 0x3F000000#32 = ((1 / 2 : ℝ) : EReal) := by
  simp [Ideal.ofBits, Ideal.ieee]; rw [← EReal.coe_mul]; norm_num

/-- The word of minus one half. -/
theorem wnhalf : Ideal.ofBits .f32 0xBF000000#32 = ((-(1 / 2) : ℝ) : EReal) := by
  simp [Ideal.ofBits, Ideal.ieee]; rw [← EReal.coe_mul]; norm_num

/-- The word of two. -/
theorem wtwo : Ideal.ofBits .f32 0x40000000#32 = ((2 : ℝ) : EReal) := by
  simp [Ideal.ofBits, Ideal.ieee]; rw [← EReal.coe_mul]; norm_num

/-- The word of one. -/
theorem wone : Ideal.ofBits .f32 0x3F800000#32 = ((1 : ℝ) : EReal) := by
  simp [Ideal.ofBits, Ideal.ieee]; rw [← EReal.coe_mul]; norm_num

/-- The word of 1/1024. -/
theorem wr1024 : Ideal.ofBits .f32 0x3A800000#32 = ((1 / 1024 : ℝ) : EReal) := by
  simp [Ideal.ofBits, Ideal.ieee]; rw [← EReal.coe_mul]; norm_num

/-- The word of zero. -/
theorem wzero : Ideal.ofBits .f32 0x00000000#32 = ((0 : ℝ) : EReal) := by
  simp [Ideal.ofBits, Ideal.ieee]

/-- The norm's small constant, the number that the word nearest to 1e-6 is. -/
def eps : ℝ := 8796093 / 2 ^ 43

theorem eps_pos : 0 < eps := by unfold eps; positivity

theorem weps : Ideal.ofBits .f32 0x358637BD#32 = (eps : EReal) := by
  simp [Ideal.ofBits, Ideal.ieee, eps]; rw [← EReal.coe_mul]; norm_num

/-- The word of the infinity. -/
theorem winf : Ideal.ofBits .f32 0x7F800000#32 = ⊤ := by simp [Ideal.ofBits, Ideal.ieee]

/-- A number whose absolute value lies below the infinity is real. -/
theorem real_of_bit {x : EReal}
    (h : BitVec.ofBool (decide (FloatOps.absf (F := Ideal) (φ := .f32) x < Ideal.ofBits .f32 0x7F800000#32)) = 1#1) :
    ∃ y : ℝ, x = y := by
  have h' : FloatOps.absf (F := Ideal) (φ := .f32) x < (⊤ : EReal) := by
    rw [winf] at h; by_contra hn; simp [hn] at h
  have h2 : max x (-x) < (⊤ : EReal) := h'
  induction x with
  | bot => simp at h2
  | top => simp at h2
  | coe y => exact ⟨y, rfl⟩

/-- A conjunction of bits over a finite index type is the bit one only where each bit is. -/
theorem bit_of_fold {ι : Type*} (f : ι → BitVec 1) (s : Finset ι)
    (h : Finset.fold IntOp.andi (1#1) f s = 1#1) : ∀ i ∈ s, f i = 1#1 := by
  classical
  induction s using Finset.induction_on with
  | empty => simp
  | insert a s ha ih =>
    rw [Finset.fold_insert ha] at h
    have key : ∀ a b : BitVec 1, IntOp.andi a b = 1#1 → a = 1#1 ∧ b = 1#1 := by decide
    obtain ⟨h1, h2⟩ := key _ _ h
    intro i hi
    rcases Finset.mem_insert.mp hi with rfl | hi
    · exact h1
    · exact ih h2 i hi

/-- The same over all of a finite type. -/
theorem bit_of_fold_univ {ι : Type*} [Fintype ι] {f : ι → BitVec 1} (h : Finset.fold IntOp.andi (1#1) f Finset.univ = 1#1) (i : ι) :
    f i = 1#1 := bit_of_fold f _ h i (Finset.mem_univ i)

/-- The same of two bits. -/
theorem bit_and {a b : BitVec 1} (h : IntOp.andi a b = 1#1) : a = 1#1 ∧ b = 1#1 := by
  revert a b; decide

/-- The reciprocal root of a positive real. -/
theorem rsqrt_pos {v : ℝ} (h : 0 < v) : Ideal.rsqrt (v : EReal) = (((√v)⁻¹ : ℝ) : EReal) := by
  rw [Ideal.rsqrt_coe, if_neg (not_lt.mpr h.le), if_neg h.ne']

/-- The quotient of two reals, the divisor not zero. -/
theorem div_real {y : ℝ} (h : y ≠ 0) (x : ℝ) : Ideal.div (x : EReal) (y : EReal) = ((x / y : ℝ) : EReal) := by
  rw [Ideal.div_coe h, ← EReal.coe_mul]; congr 1; ring

end Cert.Reals

end
-- ==== Proof.RmsNorm.lean ====
/- A row norm and its gradient, over the real numbers. -/
module

public import proofs.«01_k».proof.Proof.Reals

@[expose] public section

noncomputable section

namespace Cert.RmsNorm

open Idealize.ShloMosaic Cert.Reals

/-- The mean of a row's squares, with the small constant. -/
def ms (x : Fin 1024 → ℝ) : ℝ := (∑ k, x k * x k) / 1024 + eps

theorem ms_pos (x : Fin 1024 → ℝ) : 0 < ms x := by
  have : 0 ≤ ∑ k, x k * x k := Finset.sum_nonneg fun k _ => mul_self_nonneg _
  have := eps_pos
  unfold ms; positivity

/-- The factor a row is scaled by. -/
def rstd (x : Fin 1024 → ℝ) : ℝ := (√(ms x))⁻¹

theorem rstd_sq (x : Fin 1024 → ℝ) : rstd x * rstd x = 1 / ms x := by
  unfold rstd; rw [← mul_inv, Real.mul_self_sqrt (ms_pos x).le, one_div]

/-- The mean of squares as the programs compute it. -/
theorem ms_coe (x : Fin 1024 → ℝ) :
    Ideal.div (∑ k, (x k : EReal) * (x k : EReal)) (Ideal.ofBits .f32 0x44800000#32) + Ideal.ofBits .f32 0x358637BD#32
      = (ms x : EReal) := by
  simp only [← EReal.coe_mul, ← coe_sum, w1024, weps]
  rw [div_real (by norm_num), ← EReal.coe_add]; rfl

/-- The factor as the programs compute it. -/
theorem rstd_coe (x : Fin 1024 → ℝ) :
    Ideal.rsqrt (Ideal.div (∑ k, (x k : EReal) * (x k : EReal)) (Ideal.ofBits .f32 0x44800000#32) + Ideal.ofBits .f32 0x358637BD#32)
      = (rstd x : EReal) := by
  rw [ms_coe, rsqrt_pos (ms_pos x)]; rfl

/-- The gradient of the norm at entry `j`: `dn` is the cotangent of the normalised row. -/
def grad (x dn : Fin 1024 → ℝ) (j : Fin 1024) : ℝ :=
  rstd x * (dn j - x j * rstd x * ((∑ k, dn k * (x k * rstd x)) / 1024))

/-- The derivative's own form, the mean of squares taken back through the reciprocal root and the square. -/
theorem grad_eq (x dn : Fin 1024 → ℝ) (j : Fin 1024) :
    dn j * rstd x + x j * ((∑ k, x k * dn k) * (-(1 / 2) * (rstd x / ms x)) / 1024)
      + (∑ k, x k * dn k) * (-(1 / 2) * (rstd x / ms x)) / 1024 * x j = grad x dn j := by
  have h : ∑ k, dn k * (x k * rstd x) = (∑ k, x k * dn k) * rstd x := by
    rw [Finset.sum_mul]; exact Finset.sum_congr rfl fun k _ => by ring
  have h2 : rstd x / ms x = rstd x * (rstd x * rstd x) := by rw [rstd_sq]; ring
  unfold grad
  rw [h, h2]; ring

end Cert.RmsNorm

end
-- ==== Proof.Loss.Spec.lean ====
/- The loss head over the real numbers: the final norm, the mean squared error, and their gradients. -/
module

public import proofs.«01_k».proof.Proof.RmsNorm

@[expose] public section

noncomputable section

namespace Cert.Loss

open Cert.RmsNorm

/-- The three arrays of one device: hidden rows, the norm's scale, the targets. -/
structure In where
  x : Fin 4096 → Fin 1024 → ℝ
  g : Fin 1024 → ℝ
  t : Fin 4096 → Fin 1024 → ℝ

variable (A : In)

/-- The error of row `r` at lane `l`. -/
def err (r : Fin 4096) (l : Fin 1024) : ℝ := A.x r l * rstd (A.x r) * A.g l - A.t r l

/-- The mean squared error of a row. -/
def rowLoss (r : Fin 4096) : ℝ := (∑ k, err A r k * err A r k) / 1024

/-- Half the sum of the rows' mean squared errors. -/
def loss : ℝ := 1 / 2 * ∑ r, rowLoss A r

/-- The gradient at the norm's output. -/
def dy (r : Fin 4096) (l : Fin 1024) : ℝ := err A r l * (1 / 1024)

/-- The gradient at the hidden rows. -/
def dx (r : Fin 4096) (l : Fin 1024) : ℝ := grad (A.x r) (fun k => dy A r k * A.g k) l

/-- The gradient of the scale. -/
def dg (l : Fin 1024) : ℝ := ∑ r, dy A r l * (A.x r l * rstd (A.x r))

end Cert.Loss

end
-- ==== Proof.Loss.Kernel.lean ====
/- What the loss head's kernel leaves in its four results, at real arguments. -/
module

public import proofs.«01_k».proof.Proof.Gen.LossKernelIdeal.Value
public import proofs.«01_k».proof.Proof.Loss.Spec
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.LossKernelIdeal.Value

open Cert.LossKernelIdeal Cert.LossKernelIdeal.Gen Idealize.ShloMosaic Idealize.ShloMosaic.TcCoe Idealize.SL.Sem
open Idealize.ShloMosaic.Pipeline (Dat)
open Cert.Reals Cert.RmsNorm Cert.Loss

variable (m : (ℓ : Loc nD τ sig) → Buf (Elt Ideal) ℓ)

/-- The arguments of device `c` hold the real arrays `A`. -/
structure Holds (c : Dev nD) (A : In) : Prop where
  x : ∀ r l, m (c.tc.loc main_arg0) (ix2 r l) = (A.x r l : EReal)
  g : ∀ l, m (c.tc.loc main_arg1) (ix1 l) = (A.g l : EReal)
  t : ∀ r l, m (c.tc.loc main_arg2) (ix2 r l) = (A.t r l : EReal)

theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_4.index t 0 = t.val ∧ win0_4.index t 1 = 0)
    ∧ (win0_5.index t 0 = t.val ∧ win0_5.index t 1 = 0) := by decide +kernel

/-- Row `r` of block `t`. -/
def row (t : Fin cfg0.N) (r : Fin 512) : Fin 4096 :=
  ⟨512 * t.val + r.val, by have := t.isLt; have := r.isLt; have : cfg0.N = 8 := N_0; omega⟩

theorem iblk0 {c : Dev nD} {A : In} (h : Holds m c A) (t : Fin cfg0.N) (r : Fin 512) (l : Fin 1024) :
    (iblk m c 0 t : Vec Ideal S512x1024 .f32) (ix2 r l) = (A.x (row t r) l : EReal) := by
  rw [← h.x]; unfold row; blk_point [iblk, V, idx t]

theorem iblk1 {c : Dev nD} {A : In} (h : Holds m c A) (t : Fin cfg0.N) (l : Fin 1024) :
    (iblk m c 1 t : Vec Ideal S1x1024 .f32) (ix2 0 l) = (A.g l : EReal) := by
  rw [← h.g]; blk_point [iblk, V, idx t]

theorem iblk2 {c : Dev nD} {A : In} (h : Holds m c A) (t : Fin cfg0.N) (r : Fin 512) (l : Fin 1024) :
    (iblk m c 2 t : Vec Ideal S512x1024 .f32) (ix2 r l) = (A.t (row t r) l : EReal) := by
  rw [← h.t]; unfold row; blk_point [iblk, V, idx t]

section Reads

variable (x t n d : FVec Ideal S512x1024 .f32) (g : FVec Ideal S1x1024 .f32) (r : Fin 512) (l : Fin 1024)

theorem read7 : k0_pay7 (F := Ideal) x (ix2 r 0) = Ideal.rsqrt (Ideal.div (∑ k, x (ix2 r k) * x (ix2 r k)) (Ideal.ofBits .f32 0x44800000#32)
    + Ideal.ofBits .f32 0x358637BD#32) := by pointwise [k0_pay7]

theorem read8 : k0_pay8 x (ix2 r l) = x (ix2 r l) * k0_pay7 x (ix2 r 0) := by pointwise [k0_pay8]

theorem read9 : k0_pay9 x g t (ix2 r l) = k0_pay8 x (ix2 r l) * g (ix2 0 l) - t (ix2 r l) := by pointwise [k0_pay9, k0_pay6]

theorem read11 : k0_pay11 x g t (ix2 r l) = k0_pay9 x g t (ix2 r l) * Ideal.ofBits .f32 0x3A800000#32 := by pointwise [k0_pay11]

theorem read10 (o : FVec Ideal S8x128 .f32) (r : Fin 8) (l : Fin 128) : k0_pay10 x g t o (ix2 r l)
    = o (ix2 r l) + Ideal.ofBits .f32 0x3F000000#32 * ∑ q : Fin 512, Ideal.div (∑ k, k0_pay9 (F := Ideal) x g t (ix2 q k) * k0_pay9 (F := Ideal) x g t (ix2 q k))
        (Ideal.ofBits .f32 0x44800000#32) := by pointwise [k0_pay10]

theorem read1 (s : FVec Ideal S512x1 .f32) : k0_pay1 g s n d (ix2 r l)
    = s (ix2 r 0) * (d (ix2 r l) * g (ix2 0 l)
        - n (ix2 r l) * Ideal.div (∑ k, d (ix2 r k) * g (ix2 0 k) * n (ix2 r k)) (Ideal.ofBits .f32 0x44800000#32)) := by
  pointwise [k0_pay1]

theorem read3 (v : FVec Ideal S1x1024 .f32) : k0_pay3 n d v (ix2 0 l) = v (ix2 0 l) + ∑ q, d (ix2 q l) * n (ix2 q l) := by
  pointwise [k0_pay3]

theorem read6 : k0_pay6 g (ix2 0 l) = g (ix2 0 l) := by pointwise [k0_pay6]

end Reads

section Block

variable {c : Dev nD} {A : In} (h : Holds m c A) (t : Fin cfg0.N)
include h

theorem pay7 (r : Fin 512) : k0_pay7 (iblk m c 0 t) (ix2 r 0) = (rstd (A.x (row t r)) : EReal) := by
  rw [read7]; simp only [iblk0 m h]; exact rstd_coe _

theorem pay8 (r : Fin 512) (l : Fin 1024) :
    k0_pay8 (iblk m c 0 t) (ix2 r l) = ((A.x (row t r) l * rstd (A.x (row t r)) : ℝ) : EReal) := by
  rw [read8, pay7 m h, iblk0 m h, EReal.coe_mul]

theorem pay9 (r : Fin 512) (l : Fin 1024) :
    k0_pay9 (iblk m c 0 t) (iblk m c 1 t) (iblk m c 2 t) (ix2 r l) = (err A (row t r) l : EReal) := by
  rw [read9, pay8 m h, iblk1 m h, iblk2 m h, ← EReal.coe_mul, ← EReal.coe_sub]; rfl

theorem pay11 (r : Fin 512) (l : Fin 1024) :
    k0_pay11 (iblk m c 0 t) (iblk m c 1 t) (iblk m c 2 t) (ix2 r l) = (dy A (row t r) l : EReal) := by
  rw [read11, pay9 m h, wr1024, ← EReal.coe_mul]; rfl

/-- The block's part of the loss. -/
theorem pay10 (o : Vec Ideal S8x128 .f32) (r : Fin 8) (l : Fin 128) :
    k0_pay10 (iblk m c 0 t) (iblk m c 1 t) (iblk m c 2 t) o (ix2 r l)
      = o (ix2 r l) + ((1 / 2 * ∑ q, rowLoss A (row t q) : ℝ) : EReal) := by
  rw [read10]
  simp only [pay9 m h, ← EReal.coe_mul, ← coe_sum, w1024, whalf]
  simp only [div_real (show (1024 : ℝ) ≠ 0 by norm_num), ← coe_sum, ← EReal.coe_mul]
  rfl

/-- The block of the gradient. -/
theorem pay1 (r : Fin 512) (l : Fin 1024) :
    k0_pay1 (k0_pay6 (iblk m c 1 t)) (k0_pay7 (iblk m c 0 t)) (k0_pay8 (iblk m c 0 t))
      (k0_pay11 (iblk m c 0 t) (iblk m c 1 t) (iblk m c 2 t)) (ix2 r l) = (dx A (row t r) l : EReal) := by
  rw [read1]
  simp only [read6, pay7 m h, pay8 m h, pay11 m h, iblk1 m h, ← EReal.coe_mul, ← coe_sum, w1024]
  rw [div_real (by norm_num), ← EReal.coe_mul, ← EReal.coe_sub, ← EReal.coe_mul]; rfl

/-- The block's part of the scale's gradient. -/
theorem pay3 (v : Vec Ideal S1x1024 .f32) (l : Fin 1024) :
    k0_pay3 (k0_pay8 (iblk m c 0 t)) (k0_pay11 (iblk m c 0 t) (iblk m c 1 t) (iblk m c 2 t)) v (ix2 0 l)
      = v (ix2 0 l) + ((∑ q, dy A (row t q) l * (A.x (row t q) l * rstd (A.x (row t q))) : ℝ) : EReal) := by
  rw [read3]
  simp only [pay8 m h, pay11 m h, ← EReal.coe_mul, ← coe_sum]

end Block

/-- A position of a matrix by its two coordinates. -/
theorem eta2 {a b : ℕ} (j : (⟨2, ![a, b]⟩ : Shape).Idx) : j = ix2 (j 0) (j 1) := by funext x; fin_cases x <;> rfl

/-- The stored first row of an accumulator, placed in the whole. -/
theorem emb_row (inb) (l : Fin 1024) : (Rect.unit (s := S8x1024) ![0, 0] ![1, 1024] inb).emb (ix2 (0 : Fin 1) l) = ix2 (0 : Fin 8) l := by
  funext a; apply Fin.ext; fin_cases a
  · rfl
  · show 0 + 1 * l.val = l.val; omega

theorem not_mem_row (inb) (r : Fin 8) (hr : r ≠ 0) (l : Fin 1024) :
    (ix2 r l : S8x1024.Idx) ∉ (Rect.unit (s := S8x1024) ![0, 0] ![1, 1024] inb).set := by
  rw [Rect.mem_set_unit]; intro hh
  have h1 : r.val < 0 + 1 := (hh 0).2
  exact hr (Fin.ext (by show r.val = 0; omega))

/-- Off its first row, an accumulator stored at the first row holds what it held. -/
theorem canon_off_row (w : (Rect.unit (s := S8x1024) ![0, 0] ![1, 1024] inb_S8x1024_S1x1024_0_0).shape.Idx → Elt Ideal .f32)
    (L : List (View.Piece (Elt Ideal) S8x1024 .f32)) (r : Fin 8) (hr : r ≠ 0) (l : Fin 1024) :
    View.canon (⟨Rect.unit (s := S8x1024) ![0, 0] ![1, 1024] inb_S8x1024_S1x1024_0_0, w⟩ :: L) (ix2 r l) = View.canon L (ix2 r l) :=
  View.canon_cons_of_not_mem _ _ (not_mem_row inb_S8x1024_S1x1024_0_0 r hr l)

/-- What block `t` adds to the scale's gradient. -/
def dgPart (A : In) (t : Fin cfg0.N) (r : Fin 8) (l : Fin 1024) : EReal :=
  if r = 0 then ((∑ q, dy A (row t q) l * (A.x (row t q) l * rstd (A.x (row t q))) : ℝ) : EReal) else 0

section Points

variable {c : Dev nD} {A : In} (h : Holds m c A) (t : Fin cfg0.N)
include h

theorem o3A (h0 : t.val % 8 = 0) (r : Fin 8) (l : Fin 128) :
    (outsAt0 m c t.val t.isLt).1 (ix2 r l) = 0 + ((1 / 2 * ∑ q, rowLoss A (row t q) : ℝ) : EReal) := by
  rw [outsAt0_A m c t h0]; dsimp only; frame_out
  rw [pay10 m h]; congr 1
  pointwise [k0_pay5]

theorem o3B (h0 : ¬t.val % 8 = 0) (r : Fin 8) (l : Fin 128) :
    (outsAt0 m c t.val t.isLt).1 (ix2 r l)
      = (outsAt0 m c (t.val - 1) (Nat.lt_of_le_of_lt (Nat.sub_le _ _) t.isLt)).1 (ix2 r l)
        + ((1 / 2 * ∑ q, rowLoss A (row t q) : ℝ) : EReal) := by
  rw [outsAt0_B m c t h0]; dsimp only; frame_out
  rw [pay10 m h]

theorem o4 (r : Fin 512) (l : Fin 1024) : (outsAt0 m c t.val t.isLt).2.1 (ix2 r l) = (dx A (row t r) l : EReal) := by
  by_cases h0 : t.val % 8 = 0
  · rw [outsAt0_A m c t h0]; dsimp only; frame_out; rw [pay1 m h]
  · rw [outsAt0_B m c t h0]; dsimp only; frame_out; rw [pay1 m h]

theorem o5 (r : Fin 512) (l : Fin 1024) : (outsAt0 m c t.val t.isLt).2.2.1 (ix2 r l) = (dx A (row t r) l : EReal) := by
  by_cases h0 : t.val % 8 = 0
  · rw [outsAt0_A m c t h0]; dsimp only; frame_out; rw [← pay1 m h]; pointwise [k0_pay2]
  · rw [outsAt0_B m c t h0]; dsimp only; frame_out; rw [← pay1 m h]; pointwise [k0_pay2]

theorem o6A (h0 : t.val % 8 = 0) (r : Fin 8) (l : Fin 1024) : (outsAt0 m c t.val t.isLt).2.2.2 (ix2 r l) = 0 + dgPart A t r l := by
  rw [outsAt0_A m c t h0]; dsimp only; frame_out
  have hz : ∀ y, k0_pay4 (F := Ideal) y = 0 := fun y => by
    obtain ⟨r, l, rfl⟩ : ∃ (r : Fin 8) (l : Fin 1024), y = ix2 r l := ⟨y 0, y 1, by funext a; fin_cases a <;> rfl⟩
    pointwise [k0_pay4]
  by_cases hr : r = 0
  · subst hr
    refine ((congrArg _ (emb_row inb_S8x1024_S1x1024_0_0 l).symm).trans (View.canon_cons_emb _ _ _ _)).trans ?_
    rw [pay3 m h]
    congr 1
    exact (congrFun (View.readCov_fill _ inb_S8x1024_S8x1024_0_0 _ _ _ (by decide)) _).trans (hz _)
  · refine (canon_off_row _ _ r hr l).trans ?_
    have e := congrFun (View.canon_cons_unit_lit (Val := Elt Ideal) (e := .f32) inb_S8x1024_S8x1024_0_0 (k0_pay4 (F := Ideal)) [] (by decide)) (ix2 r l)
    rw [show dgPart A t r l = 0 from if_neg hr, add_zero]
    exact e.trans (hz _)

theorem o6B (h0 : ¬t.val % 8 = 0) (r : Fin 8) (l : Fin 1024) : (outsAt0 m c t.val t.isLt).2.2.2 (ix2 r l)
    = (outsAt0 m c (t.val - 1) (Nat.lt_of_le_of_lt (Nat.sub_le _ _) t.isLt)).2.2.2 (ix2 r l) + dgPart A t r l := by
  rw [outsAt0_B m c t h0]; dsimp only; frame_out
  by_cases hr : r = 0
  · subst hr
    rw [View.read_writes_cons_unit_of_mem _ _ _ _ _ _ (ix2 (0 : Fin 1) l) rfl (by intro a; fin_cases a <;> simp), pay3 m h]
    congr 1
    exact View.ld_unit_apply_of _ _ _ _ _ _ (by intro a; fin_cases a <;> simp)
  · rw [View.read_writes_cons_unit_of_not_mem _ _ _ _ _ _ rfl 0 (by right; show 0 + 1 ≤ r.val; have := Fin.val_ne_of_ne hr; simp at this; omega)]
    have : dgPart A t r l = 0 := if_neg hr
    rw [this, add_zero]
    exact congrFun ((hs0_6 t).read_unread _) _

end Points

variable {c : Dev nD} {A : In} (h : Holds m c A)
include h

/-- The first result: the loss at every entry. -/
theorem final3 : (dats m 0 c).arrAt 3 cfg0.N = fun _ => (loss A : EReal) := by
  have hN : cfg0.N = 8 := N_0
  have e : ∀ (r : Fin 8) (l : Fin 128), (outsAt0 m c t0_7.val t0_7.isLt).1 (ix2 r l) = (loss A : EReal) := fun r l => by
    refine (Pipeline.eq_sum_fin_of_reset_step_apply_last (fun n hn (i : Fin 8 × Fin 128) => (outsAt0 m c n hn).1 (ix2 i.1 i.2)) 8
      (fun _ => 0) (fun t _ => ((1 / 2 * ∑ q, rowLoss A (row t q) : ℝ) : EReal)) (fun t ht i => o3A m h t ht i.1 i.2)
      (fun t ht i => o3B m h t ht i.1 i.2) (by omega) t0_7 rfl (r, l)).trans ?_
    rw [zero_add, ← coe_sum, ← Finset.mul_sum]
    unfold loss
    rw [Fin.sum_mul_add_congr (S := cfg0.N) (n := 512) (f := fun q => rowLoss A q) (fun t k hl => congrArg _ (Fin.ext (by show 512 * t.val + k.val = t.val * 512 + k.val; omega)))
      (by rw [hN])]
  refine (dats m 0 c).arrAt_eq_of_after_last 3 t0_7 (by decide +kernel) _ fun j => ?_
  blk_simp
  rw [after0_3]
  exact (congrArg _ (eta2 j)).trans (e _ _)

/-- The second result: the gradient at the hidden rows. -/
theorem final4 : (dats m 0 c).arrAt 4 cfg0.N = fun i => (dx A (i 0) (i 1) : EReal) := by
  refine (dats m 0 c).arrAt_eq_of_covers 4 _ (by decide +kernel) fun t hf y => ?_
  blk_simp
  rw [after0_4]
  have he : (win0_4.blk t).view.emb y = (ix2 (row t (y 0)) (y 1) : S4096x1024.Idx) := by unfold row; blk_ext [idx t]
  rw [he]
  exact (congrArg _ (eta2 y)).trans (o4 m h t _ _)

/-- The third result: the same. -/
theorem final5 : (dats m 0 c).arrAt 5 cfg0.N = fun i => (dx A (i 0) (i 1) : EReal) := by
  refine (dats m 0 c).arrAt_eq_of_covers 5 _ (by decide +kernel) fun t hf y => ?_
  blk_simp
  rw [after0_5]
  have he : (win0_5.blk t).view.emb y = (ix2 (row t (y 0)) (y 1) : S4096x1024.Idx) := by unfold row; blk_ext [idx t]
  rw [he]
  exact (congrArg _ (eta2 y)).trans (o5 m h t _ _)

/-- The fourth result: the scale's gradient in row 0, zero in the others. -/
theorem final6 : (dats m 0 c).arrAt 6 cfg0.N = fun i => if (i 0).val = 0 then (dg A (i 1) : EReal) else 0 := by
  have hN : cfg0.N = 8 := N_0
  have e : ∀ (r : Fin 8) (l : Fin 1024), (outsAt0 m c t0_7.val t0_7.isLt).2.2.2 (ix2 r l) = if r.val = 0 then (dg A l : EReal) else 0 := fun r l => by
    refine (Pipeline.eq_sum_fin_of_reset_step_apply_last (fun n hn (i : Fin 8 × Fin 1024) => (outsAt0 m c n hn).2.2.2 (ix2 i.1 i.2)) 8
      (fun _ => 0) (fun t i => dgPart A t i.1 i.2) (fun t ht i => o6A m h t ht i.1 i.2)
      (fun t ht i => o6B m h t ht i.1 i.2) (by omega) t0_7 rfl (r, l)).trans ?_
    rw [zero_add]
    by_cases hr : r = 0
    · subst hr
      simp only [dgPart, if_true]
      rw [← coe_sum]
      unfold dg
      rw [Fin.sum_mul_add_congr (S := cfg0.N) (n := 512) (f := fun q => dy A q l * (A.x q l * rstd (A.x q))) (fun t k hl => by
        rw [show row t k = ⟨t.val * 512 + k.val, hl⟩ from Fin.ext (by show 512 * t.val + k.val = t.val * 512 + k.val; omega)])
        (by rw [hN])]
      rfl
    · have : r.val ≠ 0 := fun h => hr (Fin.ext h)
      simp [dgPart, hr, this]
  refine (dats m 0 c).arrAt_eq_of_after_last 6 t0_7 (by decide +kernel) _ fun j => ?_
  blk_simp
  rw [after0_6]
  exact (congrArg _ (eta2 j)).trans (e _ _)

end Cert.LossKernelIdeal.Value

end
-- ==== Proof.Loss.Reference.lean ====
/- What the loss head's reference computes, at real arguments. -/
module

public import proofs.«01_k».proof.Proof.Gen.LossReferenceIdeal.Read
public import proofs.«01_k».proof.Defs
public import proofs.«01_k».proof.Proof.Loss.Spec
public import Idealize.ShloMosaic.Lib.Pointwise
public import Idealize.ShloMosaic.Lib.Claim

@[expose] public section

set_option maxRecDepth 16384

noncomputable section

namespace Cert.LossReferenceIdeal.Read

open Cert.LossReferenceIdeal Cert.LossReferenceIdeal.Gen Idealize.ShloMosaic Idealize.ShloMosaic.TcCoe Idealize.SL.Sem
open Cert.Reals Cert.RmsNorm Cert.Loss

section

variable (x0 : FVec Ideal S4096x1024 .f32) (x1 : FVec Ideal S1024 .f32) (x2 : FVec Ideal S4096x1024 .f32)

/-- The arrays hold the real arrays `A`. -/
structure Holds (A : In) : Prop where
  x : ∀ r l, x0 (ix2 r l) = (A.x r l : EReal)
  g : ∀ l, x1 (ix1 l) = (A.g l : EReal)
  t : ∀ r l, x2 (ix2 r l) = (A.t r l : EReal)

variable {x0 x1 x2} {A : In} (h : Holds x0 x1 x2 A)
include h

theorem v6 (r : Fin 4096) : val_main_v6 (F := Ideal) x0 (ix2 r 0) = (ms (A.x r) : EReal) := by
  pointwise [val_main_v6, val_main_v5, val_main_v4, val_main_v3, val_main_v2, val_main_v1, val_main_v0, val_main_cst, val_main_cst_0, val_main_cst_1]
  simp only [h.x]; exact ms_coe _

theorem v7 (r : Fin 4096) : val_main_v7 (F := Ideal) x0 (ix2 r 0) = (rstd (A.x r) : EReal) := by
  pointwise [val_main_v7]
  rw [v6 h, rsqrt_pos (ms_pos _)]; rfl

theorem v12 (r : Fin 4096) (l : Fin 1024) : val_main_v12 (F := Ideal) x0 (ix2 r l) = ((A.x r l * rstd (A.x r) : ℝ) : EReal) := by
  pointwise [val_main_v12, val_main_v11]
  rw [v7 h, h.x, EReal.coe_mul]

theorem v16 (r : Fin 4096) (l : Fin 1024) : val_main_v16 (F := Ideal) x0 x1 x2 (ix2 r l) = (err A r l : EReal) := by
  pointwise [val_main_v16, val_main_v15, val_main_v14, val_main_v13]
  rw [v12 h, h.g, h.t, ← EReal.coe_mul, ← EReal.coe_sub]; rfl

theorem v30 (r : Fin 4096) (l : Fin 1024) : val_main_v30 (F := Ideal) x0 x1 x2 (ix2 r l) = (dy A r l : EReal) := by
  pointwise [val_main_v30, val_main_v29, val_main_v28, val_main_v27, val_main_v26, val_main_v25, val_main_cst_10, val_main_cst_9, val_main_cst_8, val_main_cst_7, val_main_v19, val_main_v18, val_main_cst_3]
  rw [v16 h, whalf, w1024, wtwo, div_real (by norm_num), ← EReal.coe_mul, ← EReal.coe_mul]
  congr 1; unfold dy; ring

/-- The loss, at every entry. -/
theorem v52 (r : Fin 8) (l : Fin 128) : val_main_v52 (F := Ideal) x0 x1 x2 (ix2 r l) = (loss A : EReal) := by
  pointwise [val_main_v52, val_main_v24, val_main_v23, val_main_v22, val_main_v21, val_main_v20, val_main_cst_4, val_main_cst_5, val_main_cst_6, val_main_cst_7, val_main_v17]
  simp only [v16 h, ← EReal.coe_mul, ← coe_sum, w1024, whalf]
  simp only [div_real (show (1024 : ℝ) ≠ 0 by norm_num), ← coe_sum, ← EReal.coe_mul]
  rfl

/-- The gradient at the hidden rows. -/
theorem v50 (r : Fin 4096) (l : Fin 1024) : val_main_v50 (F := Ideal) x0 x1 x2 (ix2 r l) = (dx A r l : EReal) := by
  pointwise [val_main_v50, val_main_v49, val_main_v48, val_main_v47, val_main_v46, val_main_v45, val_main_cst_15, val_main_v44, val_main_v43, val_main_cst_14, val_main_v42, val_main_v41, val_main_v40, val_main_v39, val_main_v38, val_main_cst_13, val_main_v37, val_main_v35, val_main_v34, val_main_v13, val_main_v8, val_main_v9, val_main_v10, val_main_cst_2]
  simp only [Finset.univ_unique, Finset.sum_singleton, Fin.default_eq_zero, Fin.isValue, v30 h, v7 h, v6 h, h.x, h.g, wnhalf, w1024, div_real (ms_pos _).ne', ← EReal.coe_mul, ← coe_sum]
  simp only [div_real (show (1024 : ℝ) ≠ 0 by norm_num), ← EReal.coe_mul, ← EReal.coe_add]
  exact congrArg _ (grad_eq (A.x r) (fun k => dy A r k * A.g k) l)

/-- The same, the third result. -/
theorem v53 (r : Fin 4096) (l : Fin 1024) : val_main_v53 (F := Ideal) x0 x1 x2 (ix2 r l) = (dx A r l : EReal) := by
  rw [← v50 h]; pointwise [val_main_v53]

/-- The gradient of the scale, in row 0. -/
theorem v57 (r : Fin 8) (l : Fin 1024) : val_main_v57 (F := Ideal) x0 x1 x2 (ix2 r l) = if r.val = 0 then (dg A l : EReal) else 0 := by
  pointwise [val_main_v57, val_main_v56, val_main_v55, val_main_v54, val_main_v51, val_main_c, val_main_call0_v1, val_main_call0_v2, val_main_v36, val_main_v33, val_main_v32, val_main_v31, val_main_cst_11, val_main_cst_12, val_main_call0_v0, val_main_cst_16]
  simp only [Finset.univ_unique, Finset.sum_singleton, v12 h, v30 h, ← EReal.coe_mul, ← coe_sum]
  have hc : ∀ r : Fin 8, IntOp.cmpi CmpIPredicate.eq (BitVec.ofNat 32 r.val) 0#32 = if r.val = 0 then 1#1 else 0#1 := by decide
  rw [hc]
  by_cases hr : r.val = 0
  · rw [if_pos hr, if_pos hr]
    show ((∑ q, A.x q l * rstd (A.x q) * dy A q l : ℝ) : EReal) = ((∑ q, dy A q l * (A.x q l * rstd (A.x q)) : ℝ) : EReal)
    simp only [mul_comm]
  · rw [if_neg hr, if_neg hr]
    show Ideal.ofBits .f32 0x00000000#32 = 0
    exact wzero

end

theorem pre [Pre_loss_finite.Facts] (x0 : FVec Ideal S4096x1024 .f32) (x1 : FVec Ideal S1024 .f32) (x2 : FVec Ideal S4096x1024 .f32)
    (h : Pre_loss_finite.fn (F := Ideal) x0 x1 x2 = fun _ => 1#1) : ∃ A, Holds x0 x1 x2 A := by
  have := congrFun h (fun a => a.elim0)
  pointwise [Pre_loss_finite.fn] at this
  obtain ⟨h12, h3⟩ := bit_and this
  obtain ⟨h1, h2⟩ := bit_and h12
  choose a ha using fun k => real_of_bit (bit_of_fold_univ h1 k)
  choose b hb using fun k => real_of_bit (bit_of_fold_univ h2 k)
  choose d hd using fun k => real_of_bit (bit_of_fold_univ h3 k)
  exact ⟨⟨fun r l => a (r, l), b, fun r l => d (r, l)⟩, fun r l => ha (r, l), hb, fun r l => hd (r, l)⟩

end Cert.LossReferenceIdeal.Read

end
-- ==== Proof.Loss.Claim.lean ====
/- The loss head's claims: the frames, and kernel and reference leave the same four arrays. -/
module

public import proofs.«01_k».proof.Defs
public import proofs.«01_k».proof.Proof.Gen.LossKernel.Frame
public import proofs.«01_k».proof.Proof.Gen.LossReferenceIdeal.Run
public import proofs.«01_k».proof.Proof.Gen.Pre_loss_finite
public import proofs.«01_k».proof.Proof.Loss.Kernel
public import proofs.«01_k».proof.Proof.Loss.Reference
public import Idealize.ShloMosaic.Lib.Quiescent

@[expose] public section

noncomputable section

namespace Cert.Loss

open Idealize.ShloMosaic Idealize.SL.Sem

theorem frame_kernel : Cert.quiescent_LossKernel := fun m ρ _ => Cert.LossKernel.Gen.frame m ρ

theorem frame_ideal : Cert.quiescent_LossKernelIdeal := fun m ρ _ => Cert.LossKernelIdeal.Gen.frame m ρ

theorem frame_ideal_pre : Cert.quiescent_LossKernelIdeal_pre_loss_finite := fun m ρ _ => Cert.LossKernelIdeal.Gen.frame m ρ

theorem frame_reference : Cert.quiescent_LossReferenceIdeal := fun m ρ _ =>
  (θ_run _ _ _).mono (fun r h => ⟨fun c => (h c).2.2.2.2, sem_eq_zero_of_no_sems (by decide) _⟩)
    (Cert.LossReferenceIdeal.Value.run (F := Ideal) m ρ)

theorem frame_reference_pre : Cert.quiescent_LossReferenceIdeal_pre_loss_finite := fun m ρ _ => frame_reference m ρ trivial

open Cert.LossReferenceIdeal.Read in
/-- Kernel and reference compute the same loss and the same gradients. -/
theorem algebraic : Cert.algebraic_LossKernelIdeal_LossReferenceIdeal_pre_loss_finite := fun m ρ m' ρ' hpre hagree => by
  choose A hA using fun c => pre _ _ _ (hpre c)
  have hK : ∀ c, Cert.LossKernelIdeal.Value.Holds m c (A c) := fun c => ⟨(hA c).x, (hA c).g, (hA c).t⟩
  refine ⟨fun c _ => (loss (A c) : EReal), fun c i => (dx (A c) (i 0) (i 1) : EReal), fun c i => (dx (A c) (i 0) (i 1) : EReal),
    fun c i => if (i 0).val = 0 then (dg (A c) (i 1) : EReal) else (0 : EReal), ?_, ?_⟩
  · refine (θ_run _ _ _).mono (fun r h c => ?_) (Cert.LossKernelIdeal.Value.run_blocks (F := Ideal) m ρ)
    obtain ⟨h0, h1, h2, h3, ha⟩ := h c
    exact ⟨h0.trans (Cert.LossKernelIdeal.Value.final3 m (hK c)), h1.trans (Cert.LossKernelIdeal.Value.final4 m (hK c)),
      h2.trans (Cert.LossKernelIdeal.Value.final5 m (hK c)), h3.trans (Cert.LossKernelIdeal.Value.final6 m (hK c)), ha⟩
  · refine (θ_run _ _ _).mono (fun r h c => ?_) (Cert.LossReferenceIdeal.Value.run (F := Ideal) m' ρ')
    obtain ⟨h0, h1, h2, h3, ha⟩ := h c
    obtain ⟨e0, e1, e2⟩ := hagree c
    have eta : ∀ {a b : ℕ} (j : (⟨2, ![a, b]⟩ : Shape).Idx), j = ix2 (j 0) (j 1) := fun j => Cert.LossKernelIdeal.Value.eta2 j
    refine ⟨h0.trans ?_, h1.trans ?_, h2.trans ?_, h3.trans ?_, ha⟩
    · rw [e0, e1, e2]
      exact (val_main_v52_eq _ _ _).trans (funext fun i => (congrArg _ (eta i)).trans (v52 (hA c) _ _))
    · refine (val_main_v50_eq m' c).trans (funext fun i => ?_)
      rw [e0, e1, e2]; exact (congrArg _ (eta i)).trans (v50 (hA c) _ _)
    · refine (val_main_v53_eq m' c).trans (funext fun i => ?_)
      rw [e0, e1, e2]; exact (congrArg _ (eta i)).trans (v53 (hA c) _ _)
    · rw [e0, e1, e2]
      exact (val_main_v57_eq _ _ _).trans (funext fun i => (congrArg _ (eta i)).trans (v57 (hA c) _ _))

end Cert.Loss

end
-- ==== Proof.In.Run.lean ====
/- One point of the input norm's backward kernel, run: what each of the three kinds of point leaves in the buffers it touches. -/
module

public import proofs.«01_k».proof.Proof.Gen.InKernelIdeal.Frame
public import proofs.«01_k».proof.Proof.Gen.InKernelIdeal.Skeleton
public import Idealize.ShloMosaic.Lib.VecWindow
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.InKernelIdeal.Run

open Idealize.ShloMosaic Idealize.ShloMosaic.TcCoe Idealize.ShloMosaic.Tactic Cert.InKernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- An accumulator with its first row replaced. -/
def putRow (g : Vec F S8x1024 .f32) (w : Vec F S1x1024 .f32) : Vec F S8x1024 .f32 := VecWindow.put g ![0, 0] ![1, 1024] w

/-- The first row of an accumulator. -/
def firstRow (g : Vec F S8x1024 .f32) : Vec F S1x1024 .f32 := VecWindow.window g ![0, 0] ![1, 1024] inb_S8x1024_S1x1024_0_0

section

variable (c : Dev nD) (i : grid0.Coords)
  (arg2 : Memref sig .tc .vmem S1024x896 .bf16) (harg2 : arg2.IsWhole) (arg3 : Memref sig .tc .vmem S896x1024 .bf16) (harg3 : arg3.IsWhole)
  (arg4 : Memref sig .tc .vmem S1024x1024 .f32) (harg4 : arg4.IsWhole) (arg5 : Memref sig .tc .vmem S1x1024 .f32) (harg5 : arg5.IsWhole)
  (arg6 : Memref sig .tc .vmem S1024x1024 .f32) (harg6 : arg6.IsWhole) (arg8 : Memref sig .tc .vmem S1024x1024 .f32) (harg8 : arg8.IsWhole)
  (arg9 : Memref sig .tc .vmem S1024x1024 .bf16) (harg9 : arg9.IsWhole) (arg10 : Memref sig .tc .vmem S8x1024 .f32) (harg10 : arg10.IsWhole)
  (arg11 : Memref sig .tc .vmem S1024x1024 .f32) (harg11 : arg11.IsWhole)
  (x0 : Vec F S1024x896 .bf16) (x1 : Vec F S896x1024 .bf16) (x2 : Vec F S1024x1024 .f32) (x3 : Vec F S1x1024 .f32) (x4 : Vec F S1024x1024 .f32)
  (a : Vec F S1024x1024 .f32)

/-- A point at which neither branch is taken adds a product to the accumulator. -/
theorem run_mid (hc0 : ¬k0_cond1 i = 1#1) (hc1 : ¬k0_cond2 i = 1#1) (E : Set ℕ) (K : PUnit → sProp 𝕄) :
    iprop(owns (c : Thread nD τ) arg2 fullShare x0 ∗ owns (c : Thread nD τ) arg3 fullShare x1 ∗ owns (c : Thread nD τ) arg11 fullShare a
        ∗ (iprop(owns (c : Thread nD τ) arg2 fullShare x0 ∗ owns (c : Thread nD τ) arg3 fullShare x1 ∗ owns (c : Thread nD τ) arg11 fullShare (k0_pay2 i x0 x1 a)) -∗ K ⟨⟩))
      ⊢ wp frame (wpE (defs₀ (F := F)) Variants.none c none) E (cc0_in_bwd_x i arg2 harg2 arg3 harg3 arg4 harg4 arg5 harg5 arg6 harg6 (Memref.whole main_v4) (Memref.isWhole_whole _) arg8 harg8 arg9 harg9 arg10 harg10 arg11 harg11) K := by
  simp only [cc0_in_bwd_x_eq_skeleton]; unfold cc0_in_bwd_x_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg11.eq_unread hf2
  have r0 : View.readAt (Elt F) arg2.view (Rect.unit ![0, 0] ![1024, 896] inb_S1024x896_S1024x896_0_0).toLoadRect (harg2.unread x0) = x0 := (View.readAt_full _ _ _).trans hf0
  have r1 : View.readAt (Elt F) arg3.view (Rect.unit ![0, 0] ![896, 1024] inb_S896x1024_S896x1024_0_0).toLoadRect (harg3.unread x1) = x1 := (View.readAt_full _ _ _).trans hf1
  have r8 : View.readAt (Elt F) arg11.view (Rect.unit ![0, 0] ![1024, 1024] inb_S1024x1024_S1024x1024_0_0).toLoadRect (harg11.unread a) = a := (View.readAt_full _ _ _).trans hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_full]

/-- The first point clears the scale's gradient and starts the accumulator. -/
theorem run_first (hc0 : k0_cond1 i = 1#1) (hc1 : ¬k0_cond2 i = 1#1) (E : Set ℕ) (K : PUnit → sProp 𝕄) :
    iprop(owns (c : Thread nD τ) arg2 fullShare x0 ∗ owns (c : Thread nD τ) arg3 fullShare x1 ∗ (∃ d, owns (c : Thread nD τ) arg10 fullShare d)
        ∗ owns (c : Thread nD τ) arg11 fullShare a
        ∗ (iprop(owns (c : Thread nD τ) arg2 fullShare x0 ∗ owns (c : Thread nD τ) arg3 fullShare x1 ∗ owns (c : Thread nD τ) arg10 fullShare (k0_pay1 (F := F))
            ∗ owns (c : Thread nD τ) arg11 fullShare (k0_pay2 i x0 x1 a)) -∗ K ⟨⟩))
      ⊢ wp frame (wpE (defs₀ (F := F)) Variants.none c none) E (cc0_in_bwd_x i arg2 harg2 arg3 harg3 arg4 harg4 arg5 harg5 arg6 harg6 (Memref.whole main_v4) (Memref.isWhole_whole _) arg8 harg8 arg9 harg9 arg10 harg10 arg11 harg11) K := by
  simp only [cc0_in_bwd_x_eq_skeleton]; unfold cc0_in_bwd_x_skel
  unfold owns
  iintro ⟨⟨%f0, %hf0, H0⟩, ⟨%f1, %hf1, H1⟩, ⟨%d, %g, -, H3⟩, ⟨%f2, %hf2, H2⟩, Hk⟩
  obtain rfl := harg2.eq_unread hf0; obtain rfl := harg3.eq_unread hf1; obtain rfl := harg11.eq_unread hf2
  have r0 : View.readAt (Elt F) arg2.view (Rect.unit ![0, 0] ![1024, 896] inb_S1024x896_S1024x896_0_0).toLoadRect (harg2.unread x0) = x0 := (View.readAt_full _ _ _).trans hf0
  have r1 : View.readAt (Elt F) arg3.view (Rect.unit ![0, 0] ![896, 1024] inb_S896x1024_S896x1024_0_0).toLoadRect (harg3.unread x1) = x1 := (View.readAt_full _ _ _).trans hf1
  have r8 : View.readAt (Elt F) arg11.view (Rect.unit ![0, 0] ![1024, 1024] inb_S1024x1024_S1024x1024_0_0).toLoadRect (harg11.unread a) = a := (View.readAt_full _ _ _).trans hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr
    swap; · iexact H3
    ipureintro
    exact View.read_writes_full _ _ _ _ _
  iexists _; isplitr
  swap; · iexact H2
  ipureintro
  rw [View.read_writes_full]

/-- The last point of a row of blocks writes the gradient's block and adds to the scale's gradient. -/
theorem run_last (g : Vec F S8x1024 .f32) (hc0 : ¬k0_cond1 i = 1#1) (hc1 : k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg8 fullShare d) ∗ (∃ d, owns (c : Thread nD τ) arg9 fullShare d) ∗ owns (c : Thread nD τ) arg10 fullShare g
        ∗ owns (c : Thread nD τ) arg11 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg8 fullShare (k0_pay5 (k0_pay2 i x0 x1 a) x2 x3 x4)
            ∗ owns (c : Thread nD τ) arg9 fullShare (k0_pay6 (k0_pay2 i x0 x1 a) x2 x3 x4)
            ∗ owns (c : Thread nD τ) arg10 fullShare (putRow g (k0_pay7 (k0_pay2 i x0 x1 a) x2 (firstRow g)))
            ∗ owns (c : Thread nD τ) arg11 fullShare (k0_pay2 i x0 x1 a)) -∗ K ⟨⟩))
      ⊢ wp frame (wpE (defs₀ (F := F)) Variants.none c none) E (cc0_in_bwd_x i arg2 harg2 arg3 harg3 arg4 harg4 arg5 harg5 arg6 harg6 (Memref.whole main_v4) (Memref.isWhole_whole _) arg8 harg8 arg9 harg9 arg10 harg10 arg11 harg11) K := by
  simp only [cc0_in_bwd_x_eq_skeleton]; unfold cc0_in_bwd_x_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg10.eq_unread hf7; obtain rfl := harg11.eq_unread hf8
  have r0 : View.readAt (Elt F) arg2.view (Rect.unit ![0, 0] ![1024, 896] inb_S1024x896_S1024x896_0_0).toLoadRect (harg2.unread x0) = x0 := (View.readAt_full _ _ _).trans hf0
  have r1 : View.readAt (Elt F) arg3.view (Rect.unit ![0, 0] ![896, 1024] inb_S896x1024_S896x1024_0_0).toLoadRect (harg3.unread x1) = x1 := (View.readAt_full _ _ _).trans hf1
  have r2 : View.readAt (Elt F) arg4.view (Rect.unit ![0, 0] ![1024, 1024] inb_S1024x1024_S1024x1024_0_0).toLoadRect (harg4.unread x2) = x2 := (View.readAt_full _ _ _).trans hf2
  have r3 : View.readAt (Elt F) arg5.view (Rect.unit ![0, 0] ![1, 1024] inb_S1x1024_S1x1024_0_0).toLoadRect (harg5.unread x3) = x3 := (View.readAt_full _ _ _).trans hf3
  have r4 : View.readAt (Elt F) arg6.view (Rect.unit ![0, 0] ![1024, 1024] inb_S1024x1024_S1024x1024_0_0).toLoadRect (harg6.unread x4) = x4 := (View.readAt_full _ _ _).trans hf4
  have r8 : View.readAt (Elt F) arg11.view (Rect.unit ![0, 0] ![1024, 1024] inb_S1024x1024_S1024x1024_0_0).toLoadRect (harg11.unread a) = a := (View.readAt_full _ _ _).trans hf8
  have r7 : View.readAt (Elt F) arg10.view (Rect.unit ![0, 0] ![1, 1024] inb_S8x1024_S1x1024_0_0).toLoadRect (harg10.unread g) = firstRow g := (View.readAt_unit _ _ _ rfl inb_S8x1024_S1x1024_0_0).trans (congrArg (fun f => VecWindow.window f ![0, 0] ![1, 1024] inb_S8x1024_S1x1024_0_0) hf7)
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    rw [View.read_writes_full]; simp only [r0, r1, r2, r3, r4, r8]
    simp (disch := decide) only [↓ View.readCov_cons_toLoadRect, ↓ View.readCov_fill, r0, r1, r2, r3, r4, r7, r8]
  isplitl [H6]
  · iexists _; isplitr
    swap; · iexact H6
    ipureintro
    sl_unfold_words
    rw [View.read_writes_full]; simp only [r0, r1, r2, r3, r4, r8]
    simp (disch := decide) only [↓ View.readCov_cons_toLoadRect, ↓ View.readCov_fill, r0, r1, r2, r3, r4, r7, r8]
  isplitl [H7]
  · iexists _; isplitr
    swap; · iexact H7
    ipureintro
    sl_unfold_words
    refine (View.read_writes_cons_put _ _ inb_S8x1024_S1x1024_0_0 _ [] rfl).trans ?_
    simp only [r0, r1, r2, r8, r7, View.writes_nil, hf7]
    simp (disch := decide) only [↓ View.readCov_cons_toLoadRect, ↓ View.readCov_fill, r0, r1, r2, r3, r4, r7, r8]
    rfl
  iexists _; isplitr
  swap; · iexact H8
  ipureintro
  sl_unfold_words
  rw [View.read_writes_full]

end

end Cert.InKernelIdeal.Run

end
-- ==== Proof.In.Frame.lean ====
/- The frame of the input norm's backward kernel: what its buffers hold after each grid point, the body's obligation there, the run. -/
module

public import proofs.«01_k».proof.Proof.In.Run
public import Idealize.ShloMosaic.Lib.Pipeline.TableIdle

@[expose] public section

set_option maxRecDepth 16384

noncomputable section

namespace Cert.InKernelIdeal.Run

open Idealize.ShloMosaic Idealize.ShloMosaic.TcCoe Idealize.ShloMosaic.Tactic Cert.InKernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- At the first column of blocks the accumulator's old contents are not used. -/
theorem pay2_first (i : grid0.Coords) (h : (i 1).val = 0) (x0 : Vec F S1024x896 .bf16) (x1 : Vec F S896x1024 .bf16) (a b : Vec F S1024x1024 .f32) :
    k0_pay2 i x0 x1 a = k0_pay2 i x0 x1 b := by
  unfold k0_pay2
  rw [h]
  rfl

/-- The accumulator after point `n`. -/
def acc (c : Dev nD) : (n : ℕ) → n < cfg0.N → Vec F S1024x1024 .f32
  | 0, h => k0_pay2 (grid0.coords ⟨0, h⟩) (iblk m c 0 ⟨0, h⟩) (iblk m c 1 ⟨0, h⟩) (fun _ => Scalar.ofBits .f32 0#32)
  | n + 1, h => k0_pay2 (grid0.coords ⟨n + 1, h⟩) (iblk m c 0 ⟨n + 1, h⟩) (iblk m c 1 ⟨n + 1, h⟩) (acc c n (Nat.lt_of_succ_lt h))

theorem acc_pos (c : Dev nD) (t : Fin cfg0.N) (h : t.val ≠ 0) :
    acc m c t.val t.isLt = k0_pay2 (grid0.coords t) (iblk m c 0 t) (iblk m c 1 t) (acc m c (t.val - 1) (Nat.lt_of_le_of_lt (Nat.sub_le _ _) t.isLt)) := by
  obtain ⟨n, hn⟩ := t
  cases n with
  | zero => exact absurd rfl h
  | succ n => rfl

theorem first_col : ∀ t : Fin cfg0.N, t.val % 4 = 0 → (grid0.coords t 1).val = 0 := by decide +kernel

/-- At the first column of blocks it is the block product alone, whatever it held. -/
theorem acc_row (c : Dev nD) (t : Fin cfg0.N) (h : t.val % 4 = 0) (a : Vec F S1024x1024 .f32) :
    acc m c t.val t.isLt = k0_pay2 (grid0.coords t) (iblk m c 0 t) (iblk m c 1 t) a := by
  obtain ⟨n, hn⟩ := t
  cases n with
  | zero => exact pay2_first _ (first_col _ h) _ _ _ _
  | succ n => exact pay2_first _ (first_col _ h) _ _ _ _

/-- The scale's gradient after point `n`: cleared at the first point, added to at the last column of blocks. -/
def dgAt (c : Dev nD) : (n : ℕ) → n < cfg0.N → Vec F S8x1024 .f32
  | 0, _ => k0_pay1 (F := F)
  | n + 1, h => if (n + 1) % 4 = 3 then
      putRow (dgAt c n (Nat.lt_of_succ_lt h)) (k0_pay7 (acc m c (n + 1) h) (iblk m c 2 ⟨n + 1, h⟩) (firstRow (dgAt c n (Nat.lt_of_succ_lt h))))
    else dgAt c n (Nat.lt_of_succ_lt h)

theorem dgAt_zero (c : Dev nD) (n : ℕ) (h : n < cfg0.N) (hz : n = 0) : dgAt m c n h = k0_pay1 (F := F) := by subst hz; rfl

theorem dgAt_last (c : Dev nD) (t : Fin cfg0.N) (h : t.val % 4 = 3) :
    dgAt m c t.val t.isLt = putRow (dgAt m c (t.val - 1) (Nat.lt_of_le_of_lt (Nat.sub_le _ _) t.isLt))
      (k0_pay7 (acc m c t.val t.isLt) (iblk m c 2 t) (firstRow (dgAt m c (t.val - 1) (Nat.lt_of_le_of_lt (Nat.sub_le _ _) t.isLt)))) := by
  obtain ⟨n, hn⟩ := t
  cases n with
  | zero => exact absurd (show (0:ℕ) % 4 = 3 from h) (by decide)
  | succ n => exact if_pos h

theorem dgAt_mid (c : Dev nD) (t : Fin cfg0.N) (h0 : t.val ≠ 0) (h : ¬t.val % 4 = 3) :
    dgAt m c t.val t.isLt = dgAt m c (t.val - 1) (Nat.lt_of_le_of_lt (Nat.sub_le _ _) t.isLt) := by
  obtain ⟨n, hn⟩ := t
  cases n with
  | zero => exact absurd rfl h0
  | succ n => exact if_neg h

/-- The invariant before position `n`: the accumulator at what the point before left in it. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (acc m c n hn)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay5 (acc m c t.val t.isLt) (iblk m c 2 t) (iblk m c 3 t) (iblk m c 4 t)
    | ⟨6, _⟩ => k0_pay6 (acc m c t.val t.isLt) (iblk m c 2 t) (iblk m c 3 t) (iblk m c 4 t)
    | ⟨7, _⟩ => dgAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = k0_pay5 (acc m c t.val t.isLt) (iblk m c 2 t) (iblk m c 3 t) (iblk m c 4 t) := by dsimp only [dats]
theorem after0_6 (c : Dev nD) (t : Fin cfg0.N) :
    (dats m 0 c).after 6 t = k0_pay6 (acc m c t.val t.isLt) (iblk m c 2 t) (iblk m c 3 t) (iblk m c 4 t) := by dsimp only [dats]
theorem after0_7 (c : Dev nD) (t : Fin cfg0.N) : (dats m 0 c).after 7 t = dgAt m c t.val t.isLt := by dsimp only [dats]

/-! ## Which kind of point a point is -/

theorem cond1 : ∀ t : Fin cfg0.N, k0_cond1 (grid0.coords t) = 1#1 ↔ t.val = 0 := by decide +kernel
theorem cond2 : ∀ t : Fin cfg0.N, k0_cond2 (grid0.coords t) = 1#1 ↔ t.val % 4 = 3 := by decide +kernel
theorem live_in (w : Fin cfg0.W) (h : w.val < 5) (t : Fin cfg0.N) : cfg0.idle w (grid0.coords t) = false := by
  revert h t; revert w; decide +kernel
theorem live_out (w : Fin cfg0.W) (t : Fin cfg0.N) (h : t.val % 4 = 3) : cfg0.idle w (grid0.coords t) = false := by
  revert h t; revert w; decide +kernel
theorem live_dg (t : Fin cfg0.N) (h : t.val = 0) : cfg0.idle 7 (grid0.coords t) = false := by revert h t; decide +kernel
theorem idle_out (w : Fin cfg0.W) (hw : w.val = 5 ∨ w.val = 6) (t : Fin cfg0.N) (h : ¬t.val % 4 = 3) :
    cfg0.idle w (grid0.coords t) = true ∧ (cfg0.win w).flush t = false := by revert h t hw; revert w; decide +kernel
theorem idle_dg (t : Fin cfg0.N) (h0 : t.val ≠ 0) (h : ¬t.val % 4 = 3) :
    cfg0.idle 7 (grid0.coords t) = true ∧ (cfg0.win 7).flush t = false := by revert h h0 t; decide +kernel

/-- The scale's gradient's buffer holds nothing of the kernel's only before the first point and after the last. -/
theorem fresh_dg (t : Fin cfg0.N) : cfg0.fresh 7 t.val = (t.val == 0 || t.val == 16) :=
  Pipeline.Cfg.fresh_tab cfg0 7 (fun n => n == 0 || n == 16) rfl (by decide +kernel) t.val (Nat.le_of_lt t.isLt)

theorem carry (c : Dev nD) (t : Fin cfg0.N) (h0 : t.val ≠ 0) (hi : cfg0.idle 7 (grid0.coords t) = true) (_ : cfg0.fresh 7 t.val = false) :
    (dats m 0 c).after 7 t = (dats m 0 c).after 7 ⟨t.val - 1, by omega⟩ := by
  rw [after0_7, after0_7]
  refine dgAt_mid m c t h0 fun h => ?_
  rw [live_out 7 t h] at hi
  exact Bool.false_ne_true hi

/-- At the last column of blocks the scale's gradient is what the point before left. -/
theorem before_dg (c : Dev nD) (t : Fin cfg0.N) (h : t.val % 4 = 3) (d) :
    (dats m 0 c).before 7 t d = dgAt m c (t.val - 1) (Nat.lt_of_le_of_lt (Nat.sub_le _ _) t.isLt) := by
  have hN : t.val < 16 := lt_of_lt_of_eq t.isLt (show cfg0.N = 16 from N_0)
  rw [Dat.before_out_traj _ 7 rfl (fun _ _ => rfl) (carry m c) t.val t rfl d, if_neg (by
    rw [fresh_dg, Bool.not_eq_true, Bool.or_eq_false_iff]; exact ⟨beq_false_of_ne (by omega), beq_false_of_ne (by omega)⟩)]
  dsimp only [dats]

/-! ## The body's obligation -/

theorem PhiA_eq (c : Dev nD) : (Pipeline.ΦA spec0 c : sProp 𝕄)
    = iprop(iprop((∃ d, owns (c : Thread nD τ) (Memref.whole cc0_scratch0) fullShare d)) ∗ (∃ r, prngReg c r)) := by
  unfold Pipeline.ΦA; rw [scopedRest0_eq]; simp only [owns_whole]; try rfl

/-- Before the first point. -/
theorem PhiS_zero (c : Dev nD) (n : ℕ) (h : n ≤ cfg0.N) (hz : n = 0) : PhiS m c n h = Pipeline.ΦA spec0 c := by subst hz; rfl

/-- Before a point that is not the first. -/
theorem PhiS_pos (c : Dev nD) (n : ℕ) (h : n ≤ cfg0.N) (hz : n ≠ 0) :
    PhiS m c n h = iprop(iprop(owns (c : Thread nD τ) (Memref.whole cc0_scratch0) fullShare (acc m c (n - 1) (by omega))) ∗ (∃ r, prngReg c r)) := by
  cases n with
  | zero => exact absurd rfl hz
  | succ n => rfl

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ
    = iprop(iprop(owns (c : Thread nD τ) (Memref.whole cc0_scratch0) fullShare (acc m c t.val t.isLt)) ∗ (∃ r, prngReg c r)) from rfl]
  rw [leaves_live m c 0 t (live_in 0 (by decide) t), leaves_live m c 1 t (live_in 1 (by decide) t), leaves_live m c 2 t (live_in 2 (by decide) t),
    leaves_live m c 3 t (live_in 3 (by decide) t), leaves_live m c 4 t (live_in 4 (by decide) t),
    after0_0, after0_1, after0_2, after0_3, after0_4, Phi_castSucc]
  by_cases h2 : t.val % 4 = 3
  · have hz : t.val ≠ 0 := by omega
    rw [leaves_live m c 5 t (live_out 5 t h2), leaves_live m c 6 t (live_out 6 t h2), leaves_live m c 7 t (live_out 7 t h2), after0_5, after0_6,
      after0_7, dgAt_last m c t h2, acc_pos m c t hz, PhiS_pos m c _ _ hz]
    simp only [before_dg m c t h2]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c (grid0.coords t) _ _ _ _ _ _ _ _ _ _ _ _ _ _ _ _ _ _ (iblk m c 0 t) (iblk m c 1 t) (iblk m c 2 t) (iblk m c 3 t) (iblk m c 4 t)
      _ _ (fun h => hz ((cond1 t).mp h)) ((cond2 t).mpr h2) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dats m 0 c) 5 t (idle_out 5 (by decide) t h2).1 (idle_out 5 (by decide) t h2).2,
      Dat.leavesExact_idle (dats m 0 c) 6 t (idle_out 6 (by decide) t h2).1 (idle_out 6 (by decide) t h2).2]
    by_cases hz : t.val = 0
    · rw [leaves_live m c 7 t (live_dg t hz), after0_7]
      rw [PhiS_zero m c _ _ hz, PhiA_eq, dgAt_zero m c _ _ hz]
      iintro ⟨⟨⟨%a, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      rw [acc_row m c t (by omega) a]
      iapply (run_first c (grid0.coords t) _ _ _ _ _ _ _ _ _ _ _ _ _ _ _ _ _ _ (iblk m c 0 t) (iblk m c 1 t)
        a ((cond1 t).mpr hz) (fun h => h2 ((cond2 t).mp h)) Set.univ _)
      isplitl [H0]; · iexact H0
      isplitl [H1]; · iexact H1
      isplitl [H7]; · iexists _; iexact H7
      isplitl [HS]; · iexact HS
      iintro ⟨H0, H1, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexact H7
    · rw [Dat.leavesExact_idle (dats m 0 c) 7 t (idle_dg t hz h2).1 (idle_dg t hz h2).2, acc_pos m c t hz, PhiS_pos m c _ _ hz]
      iintro ⟨⟨HS, Hg⟩, Ho, ⟨%d0, H0⟩, ⟨%d1, H1⟩, H⟩
      iapply (run_mid c (grid0.coords t) _ _ _ _ _ _ _ _ _ _ _ _ _ _ _ _ _ _ (iblk m c 0 t) (iblk m c 1 t)
        _ (fun h => hz ((cond1 t).mp h)) (fun h => h2 ((cond2 t).mp h)) Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      icases H with ⟨⟨%d2, H2⟩, ⟨%d3, H3⟩, ⟨%d4, H4⟩, H5, H6, H7⟩
      isplitl [H2]; · iexact H2
      isplitl [H3]; · iexact H3
      isplitl [H4]; · iexact H4
      isplitl [H5]; · iexact H5
      isplitl [H6]; · iexact H6
      iexact H7

/-! ## The run -/

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-- What the launch hands the region is the invariant before the first point, -/
theorem hin (c : Dev nD) : Pipeline.ΦA spec0 c ⊢ (dats m 0 c).Φ 0 := Idealize.SL.BI.Entails.refl _

/-- and the invariant after the last gives it back. -/
theorem hout (c : Dev nD) : (dats m 0 c).Φ (Fin.last cfg0.N) ⊢ Pipeline.ΦA spec0 c := by
  have hN : cfg0.N = 16 := N_0
  rw [show (dats m 0 c).Φ (Fin.last cfg0.N) = PhiS m c cfg0.N (Nat.le_refl _) from rfl, PhiS_pos m c _ _ (by omega), PhiA_eq]
  iintro ⟨HS, Hg⟩
  isplitl [HS]
  · iexists _; iexact HS
  iexact Hg

set_option backward.isDefEq.respectTransparency.types false in
/-- Every execution ends with the arrays at what the proof data says, and the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.InKernelIdeal.Run

end
-- ==== Proof.In.Spec.lean ====
/- The gradient of the input norm and the in-projection, over the real numbers. -/
module

public import proofs.«01_k».proof.Proof.RmsNorm

@[expose] public section

noncomputable section

namespace Cert.In

open Cert.RmsNorm

/-- The arrays of one device: the residual stream's rows, the norm's scale, the projection's weight, the cotangents of the stream and of
    the projection. The stream's cotangent may be infinite. -/
structure In where
  x : Fin 4096 → Fin 1024 → ℝ
  g : Fin 1024 → ℝ
  w : Fin 1024 → Fin 3584 → ℝ
  dres : Fin 4096 → Fin 1024 → EReal
  dz : Fin 4096 → Fin 3584 → ℝ

variable (A : In)

/-- The gradient at the projection's input. -/
def dh (r : Fin 4096) (l : Fin 1024) : ℝ := ∑ e, A.dz r e * A.w l e

/-- The gradient at the residual stream: what passes by, and what comes through the norm. -/
def dx (r : Fin 4096) (l : Fin 1024) : EReal := A.dres r l + (grad (A.x r) (fun k => dh A r k * A.g k) l : ℝ)

/-- The gradient of the scale. -/
def dg (l : Fin 1024) : ℝ := ∑ r, dh A r l * (A.x r l * rstd (A.x r))

end Cert.In

end
-- ==== Proof.In.Kernel.lean ====
/- What the input norm's backward kernel leaves in its three results, at real arguments. -/
module

public import proofs.«01_k».proof.Proof.In.Frame
public import proofs.«01_k».proof.Proof.In.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InKernelIdeal.Run

open Cert.InKernelIdeal Cert.InKernelIdeal.Gen Idealize.ShloMosaic Idealize.ShloMosaic.TcCoe Idealize.SL.Sem
open Idealize.ShloMosaic.Pipeline (Dat)
open Cert.Reals Cert.RmsNorm Cert.In

variable (m : (ℓ : Loc nD τ sig) → Buf (Elt Ideal) ℓ)

/-- The arguments of device `c` hold the arrays `A`. -/
structure Holds (c : Dev nD) (A : In) : Prop where
  x : ∀ r l, m (c.tc.loc main_arg0) (ix2 r l) = (A.x r l : EReal)
  g : ∀ l, m (c.tc.loc main_arg1) (ix1 l) = (A.g l : EReal)
  w : ∀ l e, m (c.tc.loc main_arg2) (ix2 l e) = (A.w l e : EReal)
  dres : ∀ r l, m (c.tc.loc main_arg3) (ix2 r l) = A.dres r l
  dz : ∀ r e, m (c.tc.loc main_arg4) (ix2 r e) = (A.dz r e : EReal)

theorem idx : ∀ t : Fin grid0.N, (win0_0.index t 0 = t.val / 4 ∧ win0_0.index t 1 = t.val % 4) ∧ (win0_1.index t 0 = t.val % 4 ∧ win0_1.index t 1 = 0)
    ∧ (win0_2.index t 0 = t.val / 4 ∧ win0_2.index t 1 = 0) ∧ (win0_3.index t 0 = 0 ∧ win0_3.index t 1 = 0)
    ∧ (win0_4.index t 0 = t.val / 4 ∧ win0_4.index t 1 = 0) ∧ (win0_5.index t 0 = t.val / 4 ∧ win0_5.index t 1 = 0)
    ∧ (win0_6.index t 0 = t.val / 4 ∧ win0_6.index t 1 = 0) := by decide +kernel

/-- Row `r` of the rows of point `t`. -/
def row (t : Fin cfg0.N) (r : Fin 1024) : Fin 4096 :=
  ⟨1024 * (t.val / 4) + r.val, by have := t.isLt; have := r.isLt; have : cfg0.N = 16 := N_0; omega⟩

/-- Column `e` of the columns of point `t`. -/
def col (t : Fin cfg0.N) (e : Fin 896) : Fin 3584 :=
  ⟨896 * (t.val % 4) + e.val, by have := e.isLt; omega⟩

section Blocks

variable {m} {c : Dev nD} {A : In} (h : Holds m c A) (t : Fin cfg0.N)
include h

theorem iblk0 (r : Fin 1024) (e : Fin 896) : (iblk m c 0 t : Vec Ideal S1024x896 .bf16) (ix2 r e) = (A.dz (row t r) (col t e) : EReal) := by
  rw [← h.dz]; unfold row col; blk_point [iblk, V, idx t]

theorem iblk1 (e : Fin 896) (l : Fin 1024) : (iblk m c 1 t : Vec Ideal S896x1024 .bf16) (ix2 e l) = (A.w l (col t e) : EReal) := by
  rw [← h.w]; unfold col; blk_point [iblk, V, idx t]

theorem iblk2 (r l : Fin 1024) : (iblk m c 2 t : Vec Ideal S1024x1024 .f32) (ix2 r l) = (A.x (row t r) l : EReal) := by
  rw [← h.x]; unfold row; blk_point [iblk, V, idx t]

theorem iblk3 (l : Fin 1024) : (iblk m c 3 t : Vec Ideal S1x1024 .f32) (ix2 0 l) = (A.g l : EReal) := by
  rw [← h.g]; blk_point [iblk, V, idx t]

theorem iblk4 (r l : Fin 1024) : (iblk m c 4 t : Vec Ideal S1024x1024 .f32) (ix2 r l) = A.dres (row t r) l := by
  rw [← h.dres]; unfold row; blk_point [iblk, V, idx t]

end Blocks

section Reads

variable (i : grid0.Coords) (dz : FVec Ideal S1024x896 .bf16) (w : FVec Ideal S896x1024 .bf16) (a x dres : FVec Ideal S1024x1024 .f32)
  (g v : FVec Ideal S1x1024 .f32) (r l : Fin 1024)

theorem read2_first (hi : (i 1).val = 0) : k0_pay2 (F := Ideal) i dz w a (ix2 r l) = (∑ e, (dz (ix2 r e) : EReal) * (w (ix2 e l) : EReal) : EReal) := by
  unfold k0_pay2
  rw [hi]
  simp only [show Scalar.cmpi .sgt (BitVec.ofNat 32 0) 0#32 = 0#1 from rfl, show ∀ (p q : Vec Ideal S1024x1024 .f32), Scalar.select 0#1 p q = q from fun _ _ => rfl]
  pointwise []

theorem read2_next (hi : Scalar.cmpi .sgt (BitVec.ofNat 32 (i 1).val) 0#32 = 1#1) :
    k0_pay2 (F := Ideal) i dz w a (ix2 r l) = (∑ e, (dz (ix2 r e) : EReal) * (w (ix2 e l) : EReal) : EReal) + a (ix2 r l) := by
  unfold k0_pay2
  simp only [hi, show ∀ (p q : Vec Ideal S1024x1024 .f32), Scalar.select 1#1 p q = p from fun _ _ => rfl]
  pointwise []

theorem read3 : k0_pay3 (F := Ideal) x (ix2 r 0) = Ideal.rsqrt (Ideal.div (∑ k, x (ix2 r k) * x (ix2 r k)) (Ideal.ofBits .f32 0x44800000#32)
    + Ideal.ofBits .f32 0x358637BD#32) := by pointwise [k0_pay3]

theorem read4 : k0_pay4 x (ix2 r l) = x (ix2 r l) * k0_pay3 x (ix2 r 0) := by pointwise [k0_pay4]

theorem read5 : k0_pay5 a x g dres (ix2 r l) = dres (ix2 r l) + k0_pay3 (F := Ideal) x (ix2 r 0) * (a (ix2 r l) * g (ix2 0 l)
    - k0_pay4 (F := Ideal) x (ix2 r l) * Ideal.div (∑ k, a (ix2 r k) * g (ix2 0 k) * k0_pay4 (F := Ideal) x (ix2 r k)) (Ideal.ofBits .f32 0x44800000#32)) := by
  pointwise [k0_pay5]

theorem read6 : (k0_pay6 (F := Ideal) a x g dres (ix2 r l) : EReal) = k0_pay5 (F := Ideal) a x g dres (ix2 r l) := by pointwise [k0_pay6]

theorem read7 : k0_pay7 a x v (ix2 0 l) = v (ix2 0 l) + ∑ q, a (ix2 q l) * k0_pay4 (F := Ideal) x (ix2 q l) := by pointwise [k0_pay7]

theorem read1 (r : Fin 8) : k0_pay1 (F := Ideal) (ix2 r l) = 0 := by pointwise [k0_pay1]

end Reads

theorem next_col : ∀ t : Fin cfg0.N, t.val % 4 ≠ 0 → Scalar.cmpi .sgt (BitVec.ofNat 32 (grid0.coords t 1).val) 0#32 = 1#1 := by decide +kernel

section Values

variable {m} {c : Dev nD} {A : In} (h : Holds m c A)
include h

/-- What one block of columns adds to the gradient at the projection's input. -/
def colSum (A : In) (t : Fin cfg0.N) (r l : Fin 1024) : ℝ := ∑ e, A.dz (row t r) (col t e) * A.w l (col t e)

theorem acc_first (t : Fin cfg0.N) (ht : t.val % 4 = 0) (r l : Fin 1024) : acc m c t.val t.isLt (ix2 r l) = (colSum A t r l : EReal) := by
  rw [acc_row m c t ht (fun _ => (0 : EReal)), read2_first _ _ _ _ _ _ (first_col t ht)]
  simp only [iblk0 h, iblk1 h, ← EReal.coe_mul, ← coe_sum]
  rfl

theorem acc_next (t : Fin cfg0.N) (ht : t.val % 4 ≠ 0) (r l : Fin 1024) : acc m c t.val t.isLt (ix2 r l)
    = (colSum A t r l : EReal) + acc m c (t.val - 1) (Nat.lt_of_le_of_lt (Nat.sub_le _ _) t.isLt) (ix2 r l) := by
  rw [acc_pos m c t (by omega), read2_next _ _ _ _ _ _ (next_col t ht)]
  simp only [iblk0 h, iblk1 h, ← EReal.coe_mul, ← coe_sum]
  rfl

/-- At the last block of columns the accumulator holds that gradient. -/
theorem acc_last (t : Fin cfg0.N) (ht : t.val % 4 = 3) (r l : Fin 1024) :
    acc m c t.val t.isLt (ix2 r l) = (dh A (row t r) l : EReal) := by
  have hN : cfg0.N = 16 := N_0
  have e1 := acc_next h t (by omega) r l
  have e2 := acc_next h ⟨t.val - 1, by omega⟩ (by dsimp only; omega) r l
  have e3 := acc_next h ⟨t.val - 1 - 1, by omega⟩ (by dsimp only; omega) r l
  have e4 := acc_first h ⟨t.val - 1 - 1 - 1, by omega⟩ (by dsimp only; omega) r l
  dsimp only at e2 e3 e4
  rw [e1, e2, e3, e4, ← EReal.coe_add, ← EReal.coe_add, ← EReal.coe_add]
  congr 1
  have hs (k : ℕ) (hk : k < 4) (n : ℕ) (hn : n = t.val - 3 + k) (hl : n < cfg0.N) : colSum A ⟨n, hl⟩ r l
      = ∑ e : Fin 896, A.dz (row t r) ⟨k * 896 + e.val, by omega⟩ * A.w l ⟨k * 896 + e.val, by omega⟩ := by
    unfold colSum
    refine Finset.sum_congr rfl fun e _ => ?_
    rw [show row ⟨n, hl⟩ r = row t r from Fin.ext (by show 1024 * (n / 4) + r.val = 1024 * (t.val / 4) + r.val; omega),
      show col ⟨n, hl⟩ e = ⟨k * 896 + e.val, by omega⟩ from Fin.ext (by show 896 * (n % 4) + e.val = k * 896 + e.val; omega)]
  unfold dh
  rw [← Fin.sum_mul_add_congr (S := 4) (n := 896) (f := fun e => A.dz (row t r) e * A.w l e)
    (F := fun k e => A.dz (row t r) ⟨k.val * 896 + e.val, by omega⟩ * A.w l ⟨k.val * 896 + e.val, by omega⟩)
    (fun k e hl => rfl) (by norm_num), Fin.sum_univ_four]
  rw [show colSum A t r l = _ from hs 3 (by omega) t.val (by omega) t.isLt, hs 2 (by omega) _ (by omega), hs 1 (by omega) _ (by omega), hs 0 (by omega) _ (by omega)]
  exact (by intro a b c d; ring : ∀ a b c d : ℝ, a + (b + (c + d)) = d + c + b + a) _ _ _ _

variable (t : Fin cfg0.N)

theorem pay3 (r : Fin 1024) : k0_pay3 (iblk m c 2 t) (ix2 r 0) = (rstd (A.x (row t r)) : EReal) := by
  rw [read3]; simp only [iblk2 h]; exact rstd_coe _

theorem pay4 (r l : Fin 1024) : k0_pay4 (iblk m c 2 t) (ix2 r l) = ((A.x (row t r) l * rstd (A.x (row t r)) : ℝ) : EReal) := by
  rw [read4, pay3 h, iblk2 h, EReal.coe_mul]

/-- The block of the gradient. -/
theorem pay5 (ht : t.val % 4 = 3) (r l : Fin 1024) :
    k0_pay5 (acc m c t.val t.isLt) (iblk m c 2 t) (iblk m c 3 t) (iblk m c 4 t) (ix2 r l) = dx A (row t r) l := by
  rw [read5]
  simp only [pay3 h, pay4 h, acc_last h t ht, iblk3 h, iblk4 h, ← EReal.coe_mul, ← coe_sum, w1024]
  rw [div_real (by norm_num), ← EReal.coe_mul, ← EReal.coe_sub, ← EReal.coe_mul]; rfl

/-- The rows' part of the scale's gradient. -/
theorem pay7 (ht : t.val % 4 = 3) (v : Vec Ideal S1x1024 .f32) (l : Fin 1024) :
    k0_pay7 (acc m c t.val t.isLt) (iblk m c 2 t) v (ix2 0 l)
      = v (ix2 0 l) + ((∑ q, dh A (row t q) l * (A.x (row t q) l * rstd (A.x (row t q))) : ℝ) : EReal) := by
  rw [read7]
  simp only [pay4 h, acc_last h t ht, ← EReal.coe_mul, ← coe_sum]

end Values

/-- A position of a matrix by its two coordinates. -/
theorem eta2 {a b : ℕ} (j : (⟨2, ![a, b]⟩ : Shape).Idx) : j = ix2 (j 0) (j 1) := by funext x; fin_cases x <;> rfl

/-- The first row of what `putRow` leaves, -/
theorem putRow_zero (g : Vec Ideal S8x1024 .f32) (w : Vec Ideal S1x1024 .f32) (l : Fin 1024) : putRow g w (ix2 (0 : Fin 8) l) = w (ix2 (0 : Fin 1) l) := by
  refine (dif_pos fun a => ?_).trans (congrArg w (funext fun a => Fin.ext ?_))
  · fin_cases a
    · exact ⟨Nat.zero_le _, Nat.zero_lt_one⟩
    · exact ⟨Nat.zero_le _, by show l.val < 0 + 1024; have := l.isLt; omega⟩
  · fin_cases a <;> rfl

/-- and the others. -/
theorem putRow_ne (g : Vec Ideal S8x1024 .f32) (w : Vec Ideal S1x1024 .f32) (r : Fin 8) (hr : r ≠ 0) (l : Fin 1024) : putRow g w (ix2 r l) = g (ix2 r l) := by
  refine dif_neg fun hh => hr (Fin.ext ?_)
  have h1 : r.val < 0 + 1 := (hh 0).2
  show r.val = 0
  omega

theorem firstRow_apply (g : Vec Ideal S8x1024 .f32) (l : Fin 1024) : firstRow g (ix2 (0 : Fin 1) l) = g (ix2 (0 : Fin 8) l) := by
  refine congrArg g (funext fun a => Fin.ext ?_)
  fin_cases a
  · rfl
  · show 0 + 1 * l.val = l.val; omega

/-- What the rows of point `t` add to the scale's gradient. -/
def rowSum (A : In) (t : Fin cfg0.N) (l : Fin 1024) : ℝ := ∑ q, dh A (row t q) l * (A.x (row t q) l * rstd (A.x (row t q)))

theorem flush_out5 : ∀ t : Fin cfg0.N, (cfg0.win 5).flush t = true → t.val % 4 = 3 := by decide +kernel
theorem flush_out6 : ∀ t : Fin cfg0.N, (cfg0.win 6).flush t = true → t.val % 4 = 3 := by decide +kernel

section Finals

variable {m} {c : Dev nD} {A : In} (h : Holds m c A)
include h

/-- The first row of the scale's gradient after the last block of columns of some rows. -/
theorem dg_next (t : Fin cfg0.N) (ht : t.val % 4 = 3) (l : Fin 1024) : dgAt m c t.val t.isLt (ix2 (0 : Fin 8) l)
    = dgAt m c (t.val - 1) (Nat.lt_of_le_of_lt (Nat.sub_le _ _) t.isLt) (ix2 (0 : Fin 8) l) + (rowSum A t l : EReal) := by
  rw [dgAt_last m c t ht, putRow_zero, pay7 h t ht, firstRow_apply]; rfl

omit h in
theorem dg_other (t : Fin cfg0.N) (r : Fin 8) (hr : r ≠ 0) (l : Fin 1024) : dgAt m c t.val t.isLt (ix2 r l) = 0 := by
  obtain ⟨n, hn⟩ := t
  induction n with
  | zero => exact read1 _ _
  | succ n ih =>
    by_cases ht : (n + 1) % 4 = 3
    · rw [dgAt_last m c ⟨n + 1, hn⟩ ht, putRow_ne _ _ _ hr]; exact ih (Nat.lt_of_succ_lt hn)
    · rw [dgAt_mid m c ⟨n + 1, hn⟩ (Nat.succ_ne_zero _) ht]; exact ih (Nat.lt_of_succ_lt hn)

/-- The first row after point `4 i + 3`. -/
theorem dg_rows (i : ℕ) (hi : 4 * i + 3 < cfg0.N) (l : Fin 1024) : dgAt m c (4 * i + 3) hi (ix2 (0 : Fin 8) l)
    = ((∑ k : Fin (i + 1), rowSum A ⟨4 * k.val + 3, by have := k.isLt; omega⟩ l : ℝ) : EReal) := by
  have back (n : ℕ) (hn : n + 3 < cfg0.N) (h4 : n % 4 = 0) : dgAt m c (n + 2) (by omega) = dgAt m c n (by omega) :=
    (dgAt_mid m c ⟨n + 2, by omega⟩ (Nat.succ_ne_zero _) (by dsimp only; omega)).trans
      (dgAt_mid m c ⟨n + 1, by omega⟩ (Nat.succ_ne_zero _) (by dsimp only; omega))
  induction i with
  | zero =>
    have e := dg_next h ⟨4 * 0 + 3, hi⟩ rfl l
    refine e.trans ?_
    rw [show dgAt m c ((⟨4 * 0 + 3, hi⟩ : Fin cfg0.N).val - 1) _ = _ from back 0 hi rfl, Fin.sum_univ_one]
    exact (congrArg (· + _) (read1 l 0)).trans (zero_add _)
  | succ i ih =>
    have e := dg_next h ⟨4 * (i + 1) + 3, hi⟩ (by dsimp only; omega) l
    refine e.trans ?_
    rw [show dgAt m c ((⟨4 * (i + 1) + 3, hi⟩ : Fin cfg0.N).val - 1) _ = _ from back (4 * (i + 1)) hi (by omega),
      show dgAt m c (4 * (i + 1)) _ = dgAt m c (4 * i + 3) (by omega) from
        dgAt_mid m c ⟨4 * (i + 1), by omega⟩ (Nat.succ_ne_zero _) (by dsimp only; omega), ih (by omega) back,
      Fin.sum_univ_castSucc (n := i + 1), EReal.coe_add]
    rfl

/-- The first result: the gradient at the residual stream. -/
theorem final5 : (dats m 0 c).arrAt 5 cfg0.N = fun i => dx A (i 0) (i 1) := by
  refine (dats m 0 c).arrAt_eq_of_covers 5 _ (by decide +kernel) fun t hf y => ?_
  have ht : t.val % 4 = 3 := flush_out5 t hf
  blk_simp
  rw [after0_5]
  have he : (win0_5.blk t).view.emb y = (ix2 (row t (y 0)) (y 1) : S4096x1024.Idx) := by unfold row; blk_ext [idx t]
  rw [he]
  exact (congrArg _ (eta2 y)).trans (pay5 h t ht _ _)

/-- The second result: the same. -/
theorem final6 : (dats m 0 c).arrAt 6 cfg0.N = fun i => dx A (i 0) (i 1) := by
  refine (dats m 0 c).arrAt_eq_of_covers 6 _ (by decide +kernel) fun t hf y => ?_
  have ht : t.val % 4 = 3 := flush_out6 t hf
  blk_simp
  rw [after0_6]
  have he : (win0_6.blk t).view.emb y = (ix2 (row t (y 0)) (y 1) : S4096x1024.Idx) := by unfold row; blk_ext [idx t]
  rw [he]
  exact ((congrArg _ (eta2 y)).trans (read6 _ _ _ _ _ _)).trans (pay5 h t ht _ _)

/-- The third result: the scale's gradient in row 0, zero in the others. -/
theorem final7 : (dats m 0 c).arrAt 7 cfg0.N = fun i => if (i 0).val = 0 then (dg A (i 1) : EReal) else 0 := by
  have hN : cfg0.N = 16 := N_0
  have e : ∀ (r : Fin 8) (l : Fin 1024), dgAt m c t0_15.val t0_15.isLt (ix2 r l) = if r.val = 0 then (dg A l : EReal) else 0 := fun r l => by
    by_cases hr : r = 0
    · subst hr
      refine (dg_rows h 3 (by omega) l).trans ?_
      show _ = (dg A l : EReal)
      congr 1
      unfold dg
      rw [← Fin.sum_mul_add_congr (S := 4) (n := 1024) (f := fun q => dh A q l * (A.x q l * rstd (A.x q)))
        (F := fun k q => dh A ⟨k.val * 1024 + q.val, by omega⟩ l * (A.x ⟨k.val * 1024 + q.val, by omega⟩ l * rstd (A.x ⟨k.val * 1024 + q.val, by omega⟩)))
        (fun k q hl => rfl) (by norm_num)]
      refine Finset.sum_congr rfl fun k _ => Finset.sum_congr rfl fun q _ => ?_
      rw [show row ⟨4 * k.val + 3, by omega⟩ q = ⟨k.val * 1024 + q.val, by omega⟩ from
        Fin.ext (by show 1024 * ((4 * k.val + 3) / 4) + q.val = k.val * 1024 + q.val; omega)]
    · exact (dg_other t0_15 r hr l).trans (if_neg fun e => hr (Fin.ext e)).symm
  refine (dats m 0 c).arrAt_eq_of_after_last 7 t0_15 (by decide +kernel) _ fun j => ?_
  blk_simp
  rw [after0_7]
  exact (congrArg _ (eta2 j)).trans (e _ _)

end Finals

end Cert.InKernelIdeal.Run

end
-- ==== Proof.In.Reference.lean ====
/- What the reference of the input norm's backward computes, at real arguments. -/
module

public import proofs.«01_k».proof.Proof.Gen.InReferenceIdeal.Read
public import proofs.«01_k».proof.Defs
public import proofs.«01_k».proof.Proof.In.Spec
public import Idealize.ShloMosaic.Lib.Pointwise
public import Idealize.ShloMosaic.Lib.Claim

@[expose] public section

set_option maxRecDepth 16384

noncomputable section

namespace Cert.InReferenceIdeal.Read

open Cert.InReferenceIdeal Cert.InReferenceIdeal.Gen Idealize.ShloMosaic Idealize.ShloMosaic.TcCoe Idealize.SL.Sem
open Cert.Reals Cert.RmsNorm Cert.In

section

variable (x0 : FVec Ideal S4096x1024 .f32) (x1 : FVec Ideal S1024 .f32) (x2 : FVec Ideal S1024x3584 .f32) (x3 : FVec Ideal S4096x1024 .f32)
  (x4 : FVec Ideal S4096x3584 .f32)

/-- The arrays hold the arrays `A`. -/
structure Holds (A : In) : Prop where
  x : ∀ r l, x0 (ix2 r l) = (A.x r l : EReal)
  g : ∀ l, x1 (ix1 l) = (A.g l : EReal)
  w : ∀ l e, x2 (ix2 l e) = (A.w l e : EReal)
  dres : ∀ r l, x3 (ix2 r l) = A.dres r l
  dz : ∀ r e, x4 (ix2 r e) = (A.dz r e : EReal)

variable {x0 x1 x2 x3 x4} {A : In} (h : Holds x0 x1 x2 x3 x4 A)
include h

theorem v6 (r : Fin 4096) : val_main_v6 (F := Ideal) x0 (ix2 r 0) = (ms (A.x r) : EReal) := by
  pointwise [val_main_v6, val_main_v5, val_main_v4, val_main_v3, val_main_v2, val_main_v1, val_main_v0, val_main_cst, val_main_cst_0, val_main_cst_1]
  simp only [h.x]; exact ms_coe _

theorem v7 (r : Fin 4096) : val_main_v7 (F := Ideal) x0 (ix2 r 0) = (rstd (A.x r) : EReal) := by
  pointwise [val_main_v7]
  rw [v6 h, rsqrt_pos (ms_pos _)]; rfl

theorem v12 (r : Fin 4096) (l : Fin 1024) : val_main_v12 (F := Ideal) x0 (ix2 r l) = ((A.x r l * rstd (A.x r) : ℝ) : EReal) := by
  pointwise [val_main_v12, val_main_v11]
  rw [v7 h, h.x, EReal.coe_mul]

/-- The gradient at the projection's input. -/
theorem v17 (r : Fin 4096) (l : Fin 1024) : val_main_v17 (F := Ideal) x2 x4 (ix2 r l) = (dh A r l : EReal) := by
  pointwise [val_main_v17]
  simp only [h.dz, h.w, ← EReal.coe_mul, ← coe_sum]; rfl

theorem v22 (r : Fin 4096) (l : Fin 1024) : val_main_v22 (F := Ideal) x1 x2 x4 (ix2 r l) = ((dh A r l * A.g l : ℝ) : EReal) := by
  pointwise [val_main_v22, val_main_v21, val_main_v13]
  rw [v17 h, h.g, ← EReal.coe_mul]

/-- The gradient at the residual stream. -/
theorem v38 (r : Fin 4096) (l : Fin 1024) : val_main_v38 (F := Ideal) x0 x1 x2 x3 x4 (ix2 r l) = dx A r l := by
  pointwise [val_main_v38, val_main_v37, val_main_v36, val_main_v35, val_main_v34, val_main_v33, val_main_cst_7, val_main_v32, val_main_v31, val_main_cst_6, val_main_v30, val_main_v29, val_main_v28, val_main_v27, val_main_v26, val_main_v25, val_main_cst_5, val_main_v24, val_main_v10, val_main_v9, val_main_cst_2, val_main_v8]
  simp only [Finset.univ_unique, Finset.sum_singleton, Fin.default_eq_zero, Fin.isValue, v22 h, v7 h, v6 h, h.x, h.dres, wnhalf, w1024, div_real (ms_pos _).ne', ← EReal.coe_mul, ← coe_sum]
  simp only [div_real (show (1024 : ℝ) ≠ 0 by norm_num), ← EReal.coe_mul, add_assoc, ← EReal.coe_add]
  unfold dx
  rw [← grad_eq (A.x r) (fun k => dh A r k * A.g k) l, add_assoc]

/-- The same, the second result. -/
theorem v40 (r : Fin 4096) (l : Fin 1024) : val_main_v40 (F := Ideal) x0 x1 x2 x3 x4 (ix2 r l) = dx A r l := by
  rw [← v38 h]; pointwise [val_main_v40]

/-- The gradient of the scale, in row 0. -/
theorem v44 (r : Fin 8) (l : Fin 1024) : val_main_v44 (F := Ideal) x0 x2 x4 (ix2 r l) = if r.val = 0 then (dg A l : EReal) else 0 := by
  pointwise [val_main_v44, val_main_v43, val_main_v42, val_main_v41, val_main_v39, val_main_c, val_main_call0_v1, val_main_call0_v2, val_main_call0_v0, val_main_cst_8, val_main_v23, val_main_cst_4, val_main_v20, val_main_v19, val_main_cst_3, val_main_v18]
  simp only [Finset.univ_unique, Finset.sum_singleton, v12 h, v17 h, ← EReal.coe_mul, ← coe_sum]
  have hc : ∀ r : Fin 8, IntOp.cmpi CmpIPredicate.eq (BitVec.ofNat 32 r.val) 0#32 = if r.val = 0 then 1#1 else 0#1 := by decide
  rw [hc]
  by_cases hr : r.val = 0
  · rw [if_pos hr, if_pos hr]
    show ((∑ q, A.x q l * rstd (A.x q) * dh A q l : ℝ) : EReal) = ((∑ q, dh A q l * (A.x q l * rstd (A.x q)) : ℝ) : EReal)
    simp only [mul_comm]
  · rw [if_neg hr, if_neg hr]
    show Ideal.ofBits .f32 0x00000000#32 = 0
    exact wzero

end

theorem pre [Pre_in_finite.Facts] (x0 : FVec Ideal S4096x1024 .f32) (x1 : FVec Ideal S1024 .f32) (x2 : FVec Ideal S1024x3584 .f32) (x3 : FVec Ideal S4096x1024 .f32)
    (x4 : FVec Ideal S4096x3584 .f32) (h : Pre_in_finite.fn (F := Ideal) x0 x1 x2 x3 x4 = fun _ => 1#1) : ∃ A, Holds x0 x1 x2 x3 x4 A := by
  have := congrFun h (fun a => a.elim0)
  pointwise [Pre_in_finite.fn, Pre_in_finite.fn_part1] at this
  obtain ⟨h123, h4⟩ := bit_and this
  obtain ⟨h12, h3⟩ := bit_and h123
  obtain ⟨h1, h2⟩ := bit_and h12
  choose a ha using fun k => real_of_bit (bit_of_fold_univ h1 k)
  choose b hb using fun k => real_of_bit (bit_of_fold_univ h2 k)
  choose d hd using fun k => real_of_bit (bit_of_fold_univ h3 k)
  choose e he using fun k => real_of_bit (bit_of_fold_univ h4 k)
  exact ⟨⟨fun r l => a (r, l), b, fun r l => d (r, l), fun r l => x3 (ix2 r l), fun r l => e (r, l)⟩, fun r l => ha (r, l), hb, fun r l => hd (r, l),
    fun _ _ => rfl, fun r l => he (r, l)⟩

end Cert.InReferenceIdeal.Read

end
-- ==== Proof.In.Claim.lean ====
/- The input norm's backward: the frames, and kernel and reference leave the same three arrays. -/
module

public import proofs.«01_k».proof.Defs
public import proofs.«01_k».proof.Proof.Gen.InKernel
public import proofs.«01_k».proof.Proof.Gen.InReferenceIdeal.Run
public import proofs.«01_k».proof.Proof.Gen.Pre_in_finite
public import proofs.«01_k».proof.Proof.In.Kernel
public import proofs.«01_k».proof.Proof.In.Reference
public import Idealize.ShloMosaic.Lib.Quiescent

@[expose] public section

noncomputable section

namespace Cert.In

open Idealize.ShloMosaic Idealize.SL.Sem

/-- The frame over the words is the ideal one's: the programs have the same text and the run holds over any values. -/
theorem frame_kernel : Cert.quiescent_InKernel := fun m ρ _ =>
  cast (by sl_kernel_rfl) (Cert.InKernelIdeal.Run.frame (F := Bits) m ρ)

theorem frame_ideal : Cert.quiescent_InKernelIdeal := fun m ρ _ => Cert.InKernelIdeal.Run.frame m ρ

theorem frame_ideal_pre : Cert.quiescent_InKernelIdeal_pre_in_finite := fun m ρ _ => Cert.InKernelIdeal.Run.frame m ρ

theorem frame_reference : Cert.quiescent_InReferenceIdeal := fun m ρ _ =>
  (θ_run _ _ _).mono (fun r h => ⟨fun c => (h c).2.2.2, sem_eq_zero_of_no_sems (by decide) _⟩)
    (Cert.InReferenceIdeal.Value.run (F := Ideal) m ρ)

theorem frame_reference_pre : Cert.quiescent_InReferenceIdeal_pre_in_finite := fun m ρ _ => frame_reference m ρ trivial

open Cert.InReferenceIdeal.Read in
/-- Kernel and reference compute the same gradients. -/
theorem algebraic : Cert.algebraic_InKernelIdeal_InReferenceIdeal_pre_in_finite := fun m ρ m' ρ' hpre hagree => by
  choose A hA using fun c => pre _ _ _ _ _ (hpre c)
  have hK : ∀ c, Cert.InKernelIdeal.Run.Holds m c (A c) := fun c => ⟨(hA c).x, (hA c).g, (hA c).w, (hA c).dres, (hA c).dz⟩
  refine ⟨fun c i => dx (A c) (i 0) (i 1), fun c i => dx (A c) (i 0) (i 1),
    fun c i => if (i 0).val = 0 then (dg (A c) (i 1) : EReal) else (0 : EReal), ?_, ?_⟩
  · have hR := Cert.InKernelIdeal.Run.run_quiescent m ρ
    have hF := Cert.InKernelIdeal.Run.frame m ρ
    refine (θ_run _ _ _).mono (fun r h c => ?_) (θ_run_and hR hF)
    have hc := h.1.1 c
    exact ⟨(hc.1 5).trans (Cert.InKernelIdeal.Run.final5 (hK c)), (hc.1 6).trans (Cert.InKernelIdeal.Run.final6 (hK c)),
      (hc.1 7).trans (Cert.InKernelIdeal.Run.final7 (hK c)), h.2.1 c⟩
  · refine (θ_run _ _ _).mono (fun r h c => ?_) (Cert.InReferenceIdeal.Value.run (F := Ideal) m' ρ')
    obtain ⟨h0, h1, h2, ha⟩ := h c
    obtain ⟨e0, e1, e2, e3, e4⟩ := hagree c
    have eta : ∀ {a b : ℕ} (j : (⟨2, ![a, b]⟩ : Shape).Idx), j = ix2 (j 0) (j 1) := fun j => Cert.InKernelIdeal.Run.eta2 j
    refine ⟨h0.trans ?_, h1.trans ?_, h2.trans ?_, ha⟩
    · refine (val_main_v38_eq m' c).trans (funext fun i => ?_)
      rw [e0, e1, e2, e3, e4]; exact (congrArg _ (eta i)).trans (v38 (hA c) _ _)
    · refine (val_main_v40_eq m' c).trans (funext fun i => ?_)
      rw [e0, e1, e2, e3, e4]; exact (congrArg _ (eta i)).trans (v40 (hA c) _ _)
    · rw [e0, e2, e4]
      exact (val_main_v44_eq _ _ _).trans (funext fun i => (congrArg _ (eta i)).trans (v44 (hA c) _ _))

end Cert.In

end
-- ==== Proof.Straight.lean ====
/- A kernel body that only loads, stores, branches and loops, as data: what it leaves in its buffers is computed on plain vectors, and one theorem carries that to the program. -/
module

public import Idealize.ShloMosaic.Rules
public import Idealize.ShloMosaic.Lib.Scf
public import Idealize.ShloMosaic.Lib.VecWindow
public import Idealize.ShloMosaic.Lib.Writes
public import Idealize.ShloMosaic.Lib.WritesUnit

@[expose] public section

noncomputable section

namespace Cert.Straight

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type} {Λ : Labels}
variable {B : Type} {sh : B → Shape} {el : B → EltTy}

/-- One trip of a loop: it loads and stores, and yields the next carried value. -/
inductive Trip (Val : EltTy → Type) (α : Type) {κ : Kind} (M : ∀ b, Memref sig κ (CoreSpace.vmem : Space) (sh b) (el b)) : Type
  | ret (a : α)
  | load (b : B) (off size : Fin (sh b).rank → ℕ) (inb : ∀ a, off a + size a ≤ (sh b).size a)
      (h : (M b).view.LoadsAt (Rect.unit off size inb).toLoadRect) (k : ((Rect.unit off size inb).shape.Idx → Val (el b)) → Trip Val α M)
  | store (b : B) (off size : Fin (sh b).rank → ℕ) (inb : ∀ a, off a + size a ≤ (sh b).size a)
      (w : (Rect.unit off size inb).shape.Idx → Val (el b)) (h : ((M b).access (Rect.unit off size inb)).Stores Finset.univ) (k : Trip Val α M)

/-- A program over named buffers: it loads a window of one, stores into a window of one, goes on in one of two ways,
or loops with one carried vector. -/
inductive Code (Val : EltTy → Type) {κ : Kind} (M : ∀ b, Memref sig κ (CoreSpace.vmem : Space) (sh b) (el b)) : Type
  | halt
  | load (b : B) (off size : Fin (sh b).rank → ℕ) (inb : ∀ a, off a + size a ≤ (sh b).size a)
      (h : (M b).view.LoadsAt (Rect.unit off size inb).toLoadRect) (k : ((Rect.unit off size inb).shape.Idx → Val (el b)) → Code Val M)
  | store (b : B) (off size : Fin (sh b).rank → ℕ) (inb : ∀ a, off a + size a ≤ (sh b).size a)
      (w : (Rect.unit off size inb).shape.Idx → Val (el b)) (h : ((M b).access (Rect.unit off size inb)).Stores Finset.univ) (k : Code Val M)
  | branch (c : Prop) [Decidable c] (a b : Code Val M)
  | loop (s : Shape) (e : EltTy) (l : Scf.Loop 32) (ok : l.OK) (init : s.Idx → Val e) (body : Fin l.trips → (s.Idx → Val e) → Trip Val (s.Idx → Val e) M)
      (k : (s.Idx → Val e) → Code Val M)

/-- What the buffers hold, each as a vector of its shape. -/
abbrev State (Val : EltTy → Type) (sh : B → Shape) (el : B → EltTy) : Type := ∀ b, (sh b).Idx → Val (el b)

namespace Trip

/-- The program that a trip stands for. -/
def toProg {α : Type} {p : Proc τ} {M : ∀ b, Memref sig p.kind (CoreSpace.vmem : Space) (sh b) (el b)} : Trip Val α M → Prog (TpuEff nD τ sig Val Λ p) α
  | ret a => .ret a
  | load b off size inb h k => .op (.load (M b) (Rect.unit off size inb).toLoadRect h) fun x => (k x).toProg
  | store b off size inb w h k => .op (.store (M b) (Rect.unit off size inb) w Finset.univ h (.inl rfl)) fun _ => k.toProg

variable [DecidableEq B] {κ : Kind} {M : ∀ b, Memref sig κ (CoreSpace.vmem : Space) (sh b) (el b)}

/-- What a trip yields and leaves in the buffers. -/
def run {α : Type} : Trip Val α M → State Val sh el → α × State Val sh el
  | ret a, σ => (a, σ)
  | load b off size inb _ k, σ => (k (VecWindow.window (σ b) off size inb)).run σ
  | store b off size _ w _ k, σ => k.run (Function.update σ b (VecWindow.put (σ b) off size w))

/-- What the listed trips, in order, yield and leave. -/
def runAll {α : Type} {n : ℕ} (body : Fin n → α → Trip Val α M) : List (Fin n) → α → State Val sh el → α × State Val sh el
  | [], a, σ => (a, σ)
  | q :: qs, a, σ => runAll body qs ((body q a).run σ).1 ((body q a).run σ).2

end Trip

namespace Code

/-- The program that a code stands for. -/
def toProg {p : Proc τ} {M : ∀ b, Memref sig p.kind (CoreSpace.vmem : Space) (sh b) (el b)} : Code Val M → Prog (TpuEff nD τ sig Val Λ p) PUnit
  | halt => .ret ⟨⟩
  | load b off size inb h k => .op (.load (M b) (Rect.unit off size inb).toLoadRect h) fun x => (k x).toProg
  | store b off size inb w h k => .op (.store (M b) (Rect.unit off size inb) w Finset.univ h (.inl rfl)) fun _ => k.toProg
  | branch c a b => if _h : c then a.toProg else b.toProg
  | loop _ _ l ok init body k => (Scf.Loop.for l ok init fun q a => (body q a).toProg) >>= fun a => (k a).toProg

variable [DecidableEq B] {κ : Kind} {M : ∀ b, Memref sig κ (CoreSpace.vmem : Space) (sh b) (el b)}

/-- What a code leaves in the buffers. -/
def run : Code Val M → State Val sh el → State Val sh el
  | halt, σ => σ
  | load b off size inb _ k, σ => (k (VecWindow.window (σ b) off size inb)).run σ
  | store b off size _ w _ k, σ => k.run (Function.update σ b (VecWindow.put (σ b) off size w))
  | branch c a b, σ => if c then a.run σ else b.run σ
  | loop _ _ l _ init body k, σ =>
    (k (Trip.runAll body (List.finRange l.trips) init σ).1).run (Trip.runAll body (List.finRange l.trips) init σ).2

end Code

section Hoare

variable [DecidableEq B]
variable {Ix : Type} [DecidableEq Ix] {Name : Type} [DecidableEq Name] {U : Type} [URA U] {Lvl : Type} [Preorder Lvl]
variable {defs : Defs nD τ sig Val Λ} (𝒱 : Variants) (c : Thread nD τ) (bd : Option 𝒱.V) (E : Set Name)
variable (M : ∀ b, Memref sig c.2.kind (CoreSpace.vmem : Space) (sh b) (el b))

/-- The listed buffers, owned whole, with the state's contents. -/
def stars (σ : State Val sh el) : List B → sProp (MT nD τ sig Ix Val Name U Lvl)
  | [] => iprop(emp)
  | b :: L => iprop(owns c (M b) fullShare (σ b) ∗ stars σ L)

theorem stars_congr {σ σ' : State Val sh el} {L : List B} (h : ∀ b ∈ L, σ b = σ' b) :
    (stars c M σ L : sProp (MT nD τ sig Ix Val Name U Lvl)) = stars c M σ' L := by
  induction L with
  | nil => rfl
  | cons b L ih =>
    unfold stars
    rw [h b (List.mem_cons_self ..), ih fun b' hb => h b' (List.mem_cons_of_mem _ hb)]

/-- One of the listed buffers, taken out and put back with new contents. -/
theorem stars_take {σ : State Val sh el} {L : List B} (hL : L.Nodup) {b : B} (hb : b ∈ L) :
    (stars c M σ L : sProp (MT nD τ sig Ix Val Name U Lvl))
      ⊢ iprop(owns c (M b) fullShare (σ b) ∗ ∀ w, (owns c (M b) fullShare w -∗ stars c M (Function.update σ b w) L)) := by
  induction L with
  | nil => exact absurd hb (List.not_mem_nil)
  | cons b' L ih =>
    have hn := List.nodup_cons.1 hL
    by_cases he : b = b'
    · subst he
      unfold stars
      iintro ⟨H, HL⟩
      isplitl [H]
      · iexact H
      iintro %w H
      isplitl [H]
      · rw [Function.update_self]; iexact H
      rw [stars_congr c M (σ := Function.update σ b w) (σ' := σ) fun b'' hb'' => Function.update_of_ne (fun h => hn.1 (by rw [← h]; exact hb'')) _ _]
      iexact HL
    · have hb' : b ∈ L := (List.mem_cons.1 hb).resolve_left he
      unfold stars
      iintro ⟨H, HL⟩
      ihave HL := (ih hn.2 hb') $$ HL
      icases HL with ⟨Hb, HL⟩
      isplitl [Hb]
      · iexact Hb
      iintro %w Hb
      isplitl [H]
      · rw [Function.update_of_ne (fun h => he h.symm)]; iexact H
      iapply HL
      iexact Hb

variable {M}

/-- A load of a window, before any program. -/
theorem wp_load_then {α : Type} (L : List B) (hL : L.Nodup) {b : B} (hb : b ∈ L) (σ : State Val sh el) (off size : Fin (sh b).rank → ℕ)
    (inb : ∀ a, off a + size a ≤ (sh b).size a) (h : (M b).view.LoadsAt (Rect.unit off size inb).toLoadRect)
    (k : ((Rect.unit off size inb).shape.Idx → Val (el b)) → Prog (TpuEff nD τ sig Val Λ c.2) α) (K : α → sProp (MT nD τ sig Ix Val Name U Lvl)) :
    iprop(stars c M σ L ∗ (stars c M σ L -∗ wp frame (wpE defs 𝒱 c bd) E (k (VecWindow.window (σ b) off size inb)) K))
      ⊢ wp frame (wpE defs 𝒱 c bd) E (.op (.load (M b) (Rect.unit off size inb).toLoadRect h) k) K := by
  iintro ⟨H, Hk⟩
  ihave H := (stars_take c M hL hb) $$ H
  icases H with ⟨Hb, H⟩
  unfold owns
  icases Hb with ⟨%f, %hf, Hb⟩
  iapply (wp_load 𝒱 c bd E (S := (M b).view.set) ((M b).view.setOn_subset_set _)) $$ Hb
  iintro Hb
  rw [View.readAt_unit (M b).view f inb rfl inb, hf]
  iapply Hk
  ihave H := H $$ %(σ b)
  rw [Function.update_eq_self]
  iapply H
  iexists f; isplitr; · ipureintro; exact hf
  iexact Hb

/-- A store of a window, before any program. -/
theorem wp_store_then {α : Type} (L : List B) (hL : L.Nodup) {b : B} (hb : b ∈ L) (σ : State Val sh el) (off size : Fin (sh b).rank → ℕ)
    (inb : ∀ a, off a + size a ≤ (sh b).size a) (w : (Rect.unit off size inb).shape.Idx → Val (el b)) (h : ((M b).access (Rect.unit off size inb)).Stores Finset.univ)
    (k : PUnit → Prog (TpuEff nD τ sig Val Λ c.2) α) (K : α → sProp (MT nD τ sig Ix Val Name U Lvl)) :
    iprop(stars c M σ L ∗ (stars c M (Function.update σ b (VecWindow.put (σ b) off size w)) L -∗ wp frame (wpE defs 𝒱 c bd) E (k ⟨⟩) K))
      ⊢ wp frame (wpE defs 𝒱 c bd) E (.op (.store (M b) (Rect.unit off size inb) w Finset.univ h (.inl rfl)) k) K := by
  iintro ⟨H, Hk⟩
  ihave H := (stars_take c M hL hb) $$ H
  icases H with ⟨Hb, H⟩
  unfold owns
  icases Hb with ⟨%f, %hf, Hb⟩
  iapply (wp_store_writes₀ 𝒱 c bd E (S := (M b).view.set) ((M b).view.set_slice_subset _)) $$ Hb
  iintro Hb
  iapply Hk
  ihave H := H $$ %(VecWindow.put (σ b) off size w)
  iapply H
  iexists _; isplitr
  swap; · iexact Hb
  ipureintro
  refine (View.read_writes_cons_put (M b).view f inb w [] rfl).trans ?_
  rw [View.writes_nil, hf]

/-- A trip's program before any program. -/
theorem wp_trip {α β : Type} (L : List B) (hL : L.Nodup) (hall : ∀ b, b ∈ L) (t : Trip Val α M) (σ : State Val sh el)
    (f : α → Prog (TpuEff nD τ sig Val Λ c.2) β) (K : β → sProp (MT nD τ sig Ix Val Name U Lvl)) :
    iprop(stars c M σ L ∗ (stars c M (t.run σ).2 L -∗ wp frame (wpE defs 𝒱 c bd) E (f (t.run σ).1) K))
      ⊢ wp frame (wpE defs 𝒱 c bd) E (t.toProg (Λ := Λ) >>= f) K := by
  induction t generalizing σ with
  | ret a =>
    show _ ⊢ wp frame (wpE defs 𝒱 c bd) E (f a) K
    unfold Trip.run
    iintro ⟨H, Hk⟩
    iapply Hk
    iexact H
  | load b off size inb h k ih =>
    refine .trans ?_ (wp_load_then (defs := defs) 𝒱 c bd E L hL (hall b) σ off size inb h (fun x => (k x).toProg (Λ := Λ) >>= f) K)
    iintro ⟨H, Hk⟩
    isplitl [H]; · iexact H
    iintro H
    iapply (ih (VecWindow.window (σ b) off size inb) σ)
    isplitl [H]; · iexact H
    iexact Hk
  | store b off size inb w h k ih =>
    refine .trans ?_ (wp_store_then (defs := defs) 𝒱 c bd E L hL (hall b) σ off size inb w h (fun _ => k.toProg (Λ := Λ) >>= f) K)
    iintro ⟨H, Hk⟩
    isplitl [H]; · iexact H
    iintro H
    iapply (ih (Function.update σ b (VecWindow.put (σ b) off size w)))
    isplitl [H]; · iexact H
    iexact Hk

/-- The listed trips, in order, before any program. -/
theorem wp_trips {α β : Type} {n : ℕ} (L : List B) (hL : L.Nodup) (hall : ∀ b, b ∈ L) (body : Fin n → α → Trip Val α M) (qs : List (Fin n)) (a : α)
    (σ : State Val sh el) (f : α → Prog (TpuEff nD τ sig Val Λ c.2) β) (K : β → sProp (MT nD τ sig Ix Val Name U Lvl)) :
    iprop(stars c M σ L ∗ (stars c M (Trip.runAll body qs a σ).2 L -∗ wp frame (wpE defs 𝒱 c bd) E (f (Trip.runAll body qs a σ).1) K))
      ⊢ wp frame (wpE defs 𝒱 c bd) E (Scf.forFrom (fun q a => (body q a).toProg (Λ := Λ)) qs a >>= f) K := by
  induction qs generalizing a σ with
  | nil =>
    show _ ⊢ wp frame (wpE defs 𝒱 c bd) E (f a) K
    unfold Trip.runAll
    iintro ⟨H, Hk⟩
    iapply Hk
    iexact H
  | cons q qs ih =>
    rw [Scf.forFrom_cons, Prog.bind_assoc]
    unfold Trip.runAll
    refine .trans ?_ (wp_trip (defs := defs) 𝒱 c bd E L hL hall (body q a) σ _ K)
    iintro ⟨H, Hk⟩
    isplitl [H]; · iexact H
    iintro H
    iapply (ih ((body q a).run σ).1 ((body q a).run σ).2)
    isplitl [H]; · iexact H
    iexact Hk

/-- A code's program, from the listed buffers' contents, ends with what the code leaves in them. -/
theorem wp_code (L : List B) (hL : L.Nodup) (hall : ∀ b, b ∈ L) (p : Code Val M) (σ : State Val sh el)
    (K : PUnit → sProp (MT nD τ sig Ix Val Name U Lvl)) :
    iprop(stars c M σ L ∗ (stars c M (p.run σ) L -∗ K ⟨⟩)) ⊢ wp frame (wpE defs 𝒱 c bd) E (p.toProg (Λ := Λ)) K := by
  induction p generalizing σ K with
  | halt =>
    unfold Code.toProg Code.run
    iintro ⟨H, Hk⟩
    iapply (le_wp_ret _ _ _ _ K)
    iapply Hk
    iexact H
  | load b off size inb h k ih =>
    unfold Code.toProg Code.run
    iintro ⟨H, Hk⟩
    iapply (wp_load_then 𝒱 c bd E L hL (hall b) σ off size inb h _ K)
    isplitl [H]; · iexact H
    iintro H
    iapply (ih (VecWindow.window (σ b) off size inb) σ K)
    isplitl [H]; · iexact H
    iexact Hk
  | store b off size inb w h k ih =>
    unfold Code.toProg Code.run
    iintro ⟨H, Hk⟩
    iapply (wp_store_then 𝒱 c bd E L hL (hall b) σ off size inb w h _ K)
    isplitl [H]; · iexact H
    iintro H
    iapply (ih _ K)
    isplitl [H]; · iexact H
    iexact Hk
  | branch cc a b iha ihb =>
    unfold Code.toProg Code.run
    by_cases hc : cc
    · rw [dif_pos hc, if_pos hc]; exact iha σ K
    · rw [dif_neg hc, if_neg hc]; exact ihb σ K
  | loop s e l ok init body k ih =>
    unfold Code.toProg Code.run
    rw [show (Scf.Loop.for l ok init fun q a => (body q a).toProg (nD := nD) (τ := τ) (p := c.2) (Λ := Λ)) = _ from Scf.for_eq l.lb l.ub l.st ok init _]
    iintro ⟨H, Hk⟩
    iapply (wp_trips 𝒱 c bd E L hL hall body (List.finRange l.trips) init σ _ K)
    isplitl [H]; · iexact H
    iintro H
    iapply (ih _ _ K)
    isplitl [H]; · iexact H
    iexact Hk

end Hoare

end Cert.Straight

end
-- ==== Proof.Ffn.Body.lean ====
/- The body of the feed-forward block's backward kernel as a code over its twenty-one buffers: the clearing at the first point, the taps spread over rows,
   the cotangent of the product, the chunks of sixteen rows from the last to the first, two products over 256 rows, and what the last column and the last point add. -/
module

public import proofs.«01_k».proof.Proof.Straight
public import proofs.«01_k».proof.Proof.Gen.FfnKernelIdeal.Skeleton

@[expose] public section

set_option maxRecDepth 16384

noncomputable section

namespace Cert.FfnKernelIdeal.Body

open Idealize.ShloMosaic Idealize.SL.Sem Cert.Straight Cert.FfnKernelIdeal.Gen

/-- The buffers that the body touches: the blocks of its arguments, of its results, and its scratch. -/
inductive Bf
  | dxb | dxn | wd | p | u | un | fw | wg | wu | x2 | g | dx3 | dx2 | dx2b | dg | dp | dw | da | aw | ah | tp
  deriving DecidableEq

/-- A buffer's shape. -/
@[reducible] def sh : Bf → Shape
  | .dxb => S512x1024 | .dxn => S16x1024 | .wd => S768x1024 | .p => S2x512x768 | .u => S2x512x768 | .un => S2x16x768 | .fw => S2x3x768
  | .wg => S1x1024x768 | .wu => S1x1024x768 | .x2 => S512x1024 | .g => S1x1024 | .dx3 => S512x1024 | .dx2 => S512x1024 | .dx2b => S512x1024
  | .dg => S8x1024 | .dp => S2x512x768 | .dw => S2x8x3072 | .da => S528x768 | .aw => S4x2x3x8x768 | .ah => S512x1024 | .tp => S2x3x16x768

/-- A buffer's element type. -/
@[reducible] def el : Bf → EltTy
  | .dxb => .bf16 | .dxn => .bf16 | .wd => .bf16 | .p => .bf16 | .u => .bf16 | .un => .bf16 | .fw => .f32
  | .wg => .bf16 | .wu => .bf16 | .x2 => .f32 | .g => .f32 | .dx3 => .f32 | .dx2 => .f32 | .dx2b => .bf16
  | .dg => .f32 | .dp => .bf16 | .dw => .f32 | .da => .f32 | .aw => .f32 | .ah => .f32 | .tp => .f32

variable {F : FTy → Type} [FloatOps F] [Named F]
variable {M : ∀ b, Memref sig .tc (CoreSpace.vmem : Space) (sh b) (el b)} (hM : ∀ b, (M b).IsWhole) (i : grid0.Coords)

/-! ## Windows inside their buffers -/

theorem inb_fw {h k : ℕ} (hh : h < 2) (hk : k < 3) : ∀ a, (![h, k, 0] : Fin 3 → ℕ) a + S1x1x768.size a ≤ S2x3x768.size a := by
  intro a; fin_cases a <;> simp <;> omega
theorem inb_tp {h k : ℕ} (hh : h < 2) (hk : k < 3) : ∀ a, (![h, k, 0, 0] : Fin 4 → ℕ) a + S1x1x16x768.size a ≤ S2x3x16x768.size a := by
  intro a; fin_cases a <;> simp <;> omega
theorem inb_rows {h r : ℕ} (hh : h < 2) (hr : r + 16 ≤ 512) : ∀ a, (![h, r, 0] : Fin 3 → ℕ) a + S1x16x768.size a ≤ S2x512x768.size a := by
  intro a; fin_cases a <;> simp <;> omega
theorem inb_da {r : ℕ} (hr : r + 16 ≤ 528) : ∀ a, (![r, 0] : Fin 2 → ℕ) a + S16x768.size a ≤ S528x768.size a := by
  intro a; fin_cases a <;> simp <;> omega
theorem inb_aw {j h k : ℕ} (hj : j < 4) (hh : h < 2) (hk : k < 3) : ∀ a, (![j, h, k, 0, 0] : Fin 5 → ℕ) a + S1x1x1x8x768.size a ≤ S4x2x3x8x768.size a := by
  intro a; fin_cases a <;> simp <;> omega
theorem inb_dw {j h k : ℕ} (hj : j < 4) (hh : h < 2) (hk : k < 3) : ∀ a, (![h, k, 768 * j] : Fin 3 → ℕ) a + S1x1x768.size a ≤ S2x8x3072.size a := by
  intro a; fin_cases a <;> simp <;> omega
theorem packed_rows {h r : ℕ} (hh : h < 2) (hr : r + 16 ≤ 512) (h2 : 2 ∣ r) : (Rect.unit (s := S2x512x768) ![h, r, 0] S1x16x768.size (inb_rows hh hr)).PackedRows (EltTy.packing .bf16) := by
  refine .inr ⟨by decide, rfl, .inl ⟨?_, ⟨8, rfl⟩⟩⟩
  exact h2

/-! ## The body -/

/-- A tap spread over sixteen rows. -/
def spread (h k : ℕ) (hh : h < 2) (hk : k < 3) (K : Code (Elt F) M) : Code (Elt F) M :=
  .load .fw ![h, k, 0] S1x1x768.size (inb_fw hh hk) (View.loadsAt_vmem h_S1x1x768) fun v =>
  .load .tp ![h, k, 0, 0] S1x1x16x768.size (inb_tp hh hk) (View.loadsAt_vmem h_S1x1x16x768) fun _ =>
  .store .tp ![h, k, 0, 0] S1x1x16x768.size (inb_tp hh hk) (k0_pay37 v) (View.stores_vmem_bits_univ h_S1x1x16x768 rfl) K

/-- The product of sixteen rows added to the eight partial rows of one tap's gradient. -/
def addW (off : Fin 5 → ℕ) (inb : ∀ a, off a + S1x1x1x8x768.size a ≤ S4x2x3x8x768.size a) (d p : FVec F S16x768 .f32) (K : Code (Elt F) M) : Code (Elt F) M :=
  .load .aw off S1x1x1x8x768.size inb (View.loadsAt_vmem h_S1x1x1x8x768) fun v =>
  .load .aw off S1x1x1x8x768.size inb (View.loadsAt_vmem h_S1x1x1x8x768) fun _ =>
  .store .aw off S1x1x1x8x768.size inb (k0_pay103 d p v) (View.stores_vmem_bits_univ h_S1x1x1x8x768 rfl) K

/-- One half of a chunk: sixteen rows of the gradient of the projection, and what they add to the taps' gradient. -/
def half (h r : ℕ) (hh : h < 2) (hr : r + 16 ≤ 512) (h2 : 2 ∣ r) (o : Fin 3 → Fin 5 → ℕ) (inb : ∀ k a, o k a + S1x1x1x8x768.size a ≤ S4x2x3x8x768.size a)
    (b a : FVec F S16x768 .f32) (K : FVec F S16x768 .bf16 → Code (Elt F) M) : Code (Elt F) M :=
  .load .tp ![h, 2, 0, 0] S1x1x16x768.size (inb_tp hh (by decide)) (View.loadsAt_vmem h_S1x1x16x768) fun t2 =>
  .load .tp ![h, 0, 0, 0] S1x1x16x768.size (inb_tp hh (by decide)) (View.loadsAt_vmem h_S1x1x16x768) fun t0 =>
  .load .tp ![h, 1, 0, 0] S1x1x16x768.size (inb_tp hh (by decide)) (View.loadsAt_vmem h_S1x1x16x768) fun t1 =>
  .load .dp ![h, r, 0] S1x16x768.size (inb_rows hh hr) (View.loadsAt_vmem h_S1x16x768) fun _ =>
  .store .dp ![h, r, 0] S1x16x768.size (inb_rows hh hr) (k0_pay108 a b (k0_pay105 a b) t2 t0 t1)
    (View.stores_vmem h_S1x16x768 ((hM .dp).storeExact_slice rfl _ (packed_rows hh hr h2)) (fun _ => rfl)) <|
  .load .p ![h, r, 0] S1x16x768.size (inb_rows hh hr) (View.loadsAt_vmem h_S1x16x768) fun v =>
  addW (o 0) (inb 0) (k0_pay106 a b) (k0_pay109 v) <|
  addW (o 1) (inb 1) (k0_pay105 a b) (k0_pay109 v) <|
  addW (o 2) (inb 2) b (k0_pay109 v) <|
  K (k0_pay107 a b (k0_pay105 a b) t2 t0 t1)

/-- Where one column's partial rows of the first half's taps lie. -/
def offG : Fin 3 → Fin 5 → ℕ := ![k0_off1 i, k0_off2 i, k0_off3 i]
/-- Where one column's partial rows of the second half's taps lie. -/
def offU : Fin 3 → Fin 5 → ℕ := ![k0_off4 i, k0_off5 i, k0_off6 i]
theorem offG_inb : ∀ k a, offG i k a + S1x1x1x8x768.size a ≤ S4x2x3x8x768.size a := fun k => match k with
  | 0 => k0_off1_inb i | 1 => k0_off2_inb i | 2 => k0_off3_inb i
theorem offU_inb : ∀ k a, offU i k a + S1x1x1x8x768.size a ≤ S4x2x3x8x768.size a := fun k => match k with
  | 0 => k0_off4_inb i | 1 => k0_off5_inb i | 2 => k0_off6_inb i

/-- A chunk: sixteen rows of the gradient at the gate's two inputs, then each half. The rows after them are `a0` and `a1`. -/
def chunk (r : ℕ) (hr : r + 16 ≤ 512) (h2 : 2 ∣ r) (a0 a1 : FVec F S16x768 .f32)
    (K : FVec F S16x768 .f32 → FVec F S16x768 .f32 → FVec F S16x768 .bf16 → FVec F S16x768 .bf16 → Code (Elt F) M) : Code (Elt F) M :=
  .load .da ![r, 0] S16x768.size (inb_da (by omega)) (View.loadsAt_vmem h_S16x768) fun d =>
  .load .u ![0, r, 0] S1x16x768.size (inb_rows (by decide) hr) (View.loadsAt_vmem h_S1x16x768) fun ug =>
  .load .u ![1, r, 0] S1x16x768.size (inb_rows (by decide) hr) (View.loadsAt_vmem h_S1x16x768) fun uu =>
  half hM 0 r (by decide) hr h2 (offG i) (offG_inb i) (k0_pay93 d ug uu) a0 fun e0 =>
  half hM 1 r (by decide) hr h2 (offU i) (offU_inb i) (k0_pay94 d ug) a1 fun e1 =>
  K (k0_pay93 d ug uu) (k0_pay94 d ug) e0 e1

/-- The `n` chunks of sixteen rows from row `s` on, the last first. The rows of the gradient are kept by their number. -/
def chunks (s : ℕ) (hs : s + 256 ≤ 512) (h2 : 2 ∣ s) : (n : ℕ) → n ≤ 16 → FVec F S16x768 .f32 → FVec F S16x768 .f32 → (ℕ → FVec F S16x768 .bf16 × FVec F S16x768 .bf16)
    → (FVec F S16x768 .f32 → FVec F S16x768 .f32 → (ℕ → FVec F S16x768 .bf16 × FVec F S16x768 .bf16) → Code (Elt F) M) → Code (Elt F) M
  | 0, _, a0, a1, e, K => K a0 a1 e
  | n + 1, hn, a0, a1, e, K => chunk hM i (s + 16 * n) (by omega) (by omega) a0 a1 fun d0 d1 e0 e1 =>
      chunks s hs h2 n (by omega) d0 d1 (fun q => if q = n then (e0, e1) else e q) K

/-- The product of 256 rows of the gradient with the two projections, added to what the columns before gave. -/
def groupPay (e : ℕ → FVec F S16x768 .bf16 × FVec F S16x768 .bf16) (wg wu : Vec F S1x1024x768 .bf16) (old : Vec F S256x1024 .f32) : FVec F S256x1024 .f32 :=
  k0_pay488 (BitVec.ofNat 32 (i 1).val) (e 15).1 (e 15).2 (e 14).1 (e 14).2 (e 13).1 (e 13).2 (e 12).1 (e 12).2 (e 11).1 (e 11).2 (e 10).1 (e 10).2
    (e 9).1 (e 9).2 (e 8).1 (e 8).2 (e 7).1 (e 7).2 (e 6).1 (e 6).2 (e 5).1 (e 5).2 (e 4).1 (e 4).2 (e 3).1 (e 3).2 (e 2).1 (e 2).2 (e 1).1 (e 1).2 (e 0).1 (e 0).2 wg wu old

theorem inb_ah {s : ℕ} (hs : s + 256 ≤ 512) : ∀ a, (![s, 0] : Fin 2 → ℕ) a + S256x1024.size a ≤ S512x1024.size a := by
  intro a; fin_cases a <;> simp <;> omega

/-- A group of 256 rows: its chunks, then its product. -/
def group (s : ℕ) (hs : s + 256 ≤ 512) (h2 : 2 ∣ s) (a0 a1 : FVec F S16x768 .f32) (e : ℕ → FVec F S16x768 .bf16 × FVec F S16x768 .bf16)
    (K : FVec F S16x768 .f32 → FVec F S16x768 .f32 → (ℕ → FVec F S16x768 .bf16 × FVec F S16x768 .bf16) → Code (Elt F) M) : Code (Elt F) M :=
  chunks hM i s hs h2 16 le_rfl a0 a1 e fun d0 d1 e =>
  .load .wg ![0, 0, 0] S1x1024x768.size inb_S1x1024x768_S1x1024x768_0_0_0 (View.loadsAt_vmem h_S1x1024x768) fun wg =>
  .load .wu ![0, 0, 0] S1x1024x768.size inb_S1x1024x768_S1x1024x768_0_0_0 (View.loadsAt_vmem h_S1x1024x768) fun wu =>
  .load .ah ![s, 0] S256x1024.size (inb_ah hs) (View.loadsAt_vmem h_S256x1024) fun old =>
  .load .ah ![s, 0] S256x1024.size (inb_ah hs) (View.loadsAt_vmem h_S256x1024) fun _ =>
  .store .ah ![s, 0] S256x1024.size (inb_ah hs) (groupPay i e wg wu old) (View.stores_vmem_bits_univ h_S256x1024 rfl) <|
  K d0 d1 e

/-- The first point clears the two accumulators. -/
def clear (K : Code (Elt F) M) : Code (Elt F) M :=
  .load .aw ![0, 0, 0, 0, 0] S4x2x3x8x768.size inb_S4x2x3x8x768_S4x2x3x8x768_0_0_0_0_0 (View.loadsAt_vmem h_S4x2x3x8x768) fun _ =>
  .store .aw ![0, 0, 0, 0, 0] S4x2x3x8x768.size inb_S4x2x3x8x768_S4x2x3x8x768_0_0_0_0_0 k0_pay34 (View.stores_vmem_bits_univ h_S4x2x3x8x768 rfl) <|
  .load .dg ![0, 0] S8x1024.size inb_S8x1024_S8x1024_0_0 (View.loadsAt_vmem h_S8x1024) fun _ =>
  .store .dg ![0, 0] S8x1024.size inb_S8x1024_S8x1024_0_0 k0_pay35 (View.stores_vmem_bits_univ h_S8x1024 rfl) K

/-- The last column's branch: the gradient of the layer's input, and what it adds to the gradient of the norm's scale. -/
def lastCol (K : Code (Elt F) M) : Code (Elt F) M :=
  .load .ah ![0, 0] S512x1024.size inb_S512x1024_S512x1024_0_0 (View.loadsAt_vmem h_S512x1024) fun ah =>
  .load .x2 ![0, 0] S512x1024.size inb_S512x1024_S512x1024_0_0 (View.loadsAt_vmem h_S512x1024) fun x2 =>
  .load .g ![0, 0] S1x1024.size inb_S1x1024_S1x1024_0_0 (View.loadsAt_vmem h_S1x1024) fun g =>
  .load .dx3 ![0, 0] S512x1024.size inb_S512x1024_S512x1024_0_0 (View.loadsAt_vmem h_S512x1024) fun dx3 =>
  .load .dx2 ![0, 0] S512x1024.size inb_S512x1024_S512x1024_0_0 (View.loadsAt_vmem h_S512x1024) fun _ =>
  .store .dx2 ![0, 0] S512x1024.size inb_S512x1024_S512x1024_0_0 (k0_pay3 ah x2 g dx3) (View.stores_vmem_bits_univ h_S512x1024 rfl) <|
  .load .dx2b ![0, 0] S512x1024.size inb_S512x1024_S512x1024_0_0 (View.loadsAt_vmem h_S512x1024) fun _ =>
  .store .dx2b ![0, 0] S512x1024.size inb_S512x1024_S512x1024_0_0 (k0_pay4 ah x2 g dx3)
    (View.stores_vmem h_S512x1024 ((hM .dx2b).storeExact_slice rfl _ packedbf16_S512x1024_S512x1024_0_0) (fun _ => rfl)) <|
  .load .dg ![0, 0] S1x1024.size inb_S8x1024_S1x1024_0_0 (View.loadsAt_vmem h_S1x1024) fun old =>
  .load .dg ![0, 0] S1x1024.size inb_S8x1024_S1x1024_0_0 (View.loadsAt_vmem h_S1x1024) fun _ =>
  .store .dg ![0, 0] S1x1024.size inb_S8x1024_S1x1024_0_0 (k0_pay5 ah x2 old) (View.stores_vmem_bits_univ h_S1x1024 rfl) K

/-- One row of the taps' gradient, the sum of the eight partial rows. -/
def foldOne (j h k : ℕ) (hj : j < 4) (hh : h < 2) (hk : k < 3) (K : Code (Elt F) M) : Code (Elt F) M :=
  .load .aw ![j, h, k, 0, 0] S1x1x1x8x768.size (inb_aw hj hh hk) (View.loadsAt_vmem h_S1x1x1x8x768) fun v =>
  .load .dw ![h, k, 768 * j] S1x1x768.size (inb_dw hj hh hk) (View.loadsAt_vmem h_S1x1x768) fun _ =>
  .store .dw ![h, k, 768 * j] S1x1x768.size (inb_dw hj hh hk) (k0_pay7 v) (View.stores_vmem_bits_univ h_S1x1x768 rfl) K

/-- The first `n` of the rows' folds remain to be done, in order; row number `q` belongs to the block `q / 6`, the half `q / 3 % 2` and the tap `q % 3`. -/
def folds : (n q : ℕ) → n + q ≤ 24 → Code (Elt F) M → Code (Elt F) M
  | 0, _, _, K => K
  | n + 1, q, h, K => foldOne (q / 6) (q / 3 % 2) (q % 3) (by omega) (by omega) (by omega) (folds n (q + 1) (by omega) K)

/-- The last point's branch: the taps' gradient. -/
def lastPoint : Code (Elt F) M :=
  .load .dw ![0, 0, 0] S2x8x3072.size inb_S2x8x3072_S2x8x3072_0_0_0 (View.loadsAt_vmem h_S2x8x3072) fun _ =>
  .store .dw ![0, 0, 0] S2x8x3072.size inb_S2x8x3072_S2x8x3072_0_0_0 k0_pay6 (View.stores_vmem_bits_univ h_S2x8x3072 rfl) <|
  folds 24 0 le_rfl .halt

/-- Sixteen rows of zeros. -/
def noRows : FVec F S16x768 .bf16 := fun _ => Scalar.ofBits .bf16 0#16

/-- Both groups, from the rows after the block on. -/
def groups (K : Code (Elt F) M) : Code (Elt F) M :=
  .load .da ![512, 0] S16x768.size (inb_da le_rfl) (View.loadsAt_vmem h_S16x768) fun d =>
  .load .un ![0, 0, 0] S1x16x768.size inb_S2x16x768_S1x16x768_0_0_0 (View.loadsAt_vmem h_S1x16x768) fun ug =>
  .load .un ![1, 0, 0] S1x16x768.size inb_S2x16x768_S1x16x768_1_0_0 (View.loadsAt_vmem h_S1x16x768) fun uu =>
  group hM i 256 (by decide) (by decide) (k0_pay93 (k0_pay48 (k0_pay36 i) d) ug uu) (k0_pay94 (k0_pay48 (k0_pay36 i) d) ug) (fun _ => (noRows, noRows)) fun d0 d1 e =>
  group hM i 0 (by decide) (by decide) d0 d1 e fun _ _ _ => K

/-- The cotangent of the product at all rows of the block and the sixteen after it. -/
def cotangent (K : Code (Elt F) M) : Code (Elt F) M :=
  .load .dxb ![0, 0] S512x1024.size inb_S512x1024_S512x1024_0_0 (View.loadsAt_vmem h_S512x1024) fun x =>
  .load .dxn ![0, 0] S16x1024.size inb_S16x1024_S16x1024_0_0 (View.loadsAt_vmem h_S16x1024) fun xn =>
  .load .wd ![0, 0] S768x1024.size inb_S768x1024_S768x1024_0_0 (View.loadsAt_vmem h_S768x1024) fun w =>
  .load .da ![256, 0] S272x768.size inb_S528x768_S272x768_256_0 (View.loadsAt_vmem h_S272x768) fun _ =>
  .store .da ![256, 0] S272x768.size inb_S528x768_S272x768_256_0 (k0_pay46 (k0_pay44 x xn) (k0_pay45 w)) (View.stores_vmem_bits_univ h_S272x768 rfl) <|
  .load .wd ![0, 0] S768x1024.size inb_S768x1024_S768x1024_0_0 (View.loadsAt_vmem h_S768x1024) fun w =>
  .load .da ![0, 0] S256x768.size inb_S528x768_S256x768_0_0 (View.loadsAt_vmem h_S256x768) fun _ =>
  .store .da ![0, 0] S256x768.size inb_S528x768_S256x768_0_0 (k0_pay47 (k0_pay43 x xn) w) (View.stores_vmem_bits_univ h_S256x768 rfl) K

/-- The body's end. -/
def ending : Code (Elt F) M := .branch (k0_cond3 i = 1#1) lastPoint .halt

/-- The body after the clearing. -/
def rest : Code (Elt F) M :=
  spread 0 0 (by decide) (by decide) <| spread 0 1 (by decide) (by decide) <| spread 0 2 (by decide) (by decide) <|
  spread 1 0 (by decide) (by decide) <| spread 1 1 (by decide) (by decide) <| spread 1 2 (by decide) (by decide) <|
  cotangent <|
  groups hM i <|
  .branch (k0_cond2 i = 1#1) (lastCol hM (ending i)) (ending i)

/-- The whole body. -/
def body : Code (Elt F) M := .branch (k0_cond1 i = 1#1) (clear (rest hM i)) (rest hM i)

end Cert.FfnKernelIdeal.Body

end
-- ==== Proof.Ffn.BodyEq.lean ====
/- The printed body of the feed-forward block's backward kernel is the body written as a code. -/
module

public import proofs.«01_k».proof.Proof.Ffn.Body
public import Idealize.ShloMosaic.Lib.Tactic

@[expose] public section

set_option maxRecDepth 65536
set_option maxHeartbeats 4000000

noncomputable section

namespace Cert.FfnKernelIdeal.Body

open Idealize.ShloMosaic Idealize.SL.Sem Cert.Straight Cert.FfnKernelIdeal.Gen

variable {F : FTy → Type} [FloatOps F] [Named F]

/-- The printed body stands for the code `body`. -/
theorem body_eq (i : grid0.Coords) (M : ∀ b, Memref sig .tc (CoreSpace.vmem : Space) (sh b) (el b)) (hM : ∀ b, (M b).IsWhole)
    (T : Memref sig .tc .hbm S8x128 .f32) (hT : T.IsWhole) :
    cc0_ffn_bwd (F := F) i (M .dxb) (hM .dxb) (M .dxn) (hM .dxn) (M .wd) (hM .wd) (M .p) (hM .p) (M .u) (hM .u) (M .un) (hM .un) (M .fw) (hM .fw)
      (M .wg) (hM .wg) (M .wu) (hM .wu) (M .x2) (hM .x2) (M .g) (hM .g) (M .dx3) (hM .dx3) T hT (M .dx2) (hM .dx2) (M .dx2b) (hM .dx2b) (M .dg) (hM .dg)
      (M .dp) (hM .dp) (M .dw) (hM .dw) (M .da) (hM .da) (M .aw) (hM .aw) (M .ah) (hM .ah) (M .tp) (hM .tp)
      = (body (F := F) (M := M) hM i).toProg (nD := nD) (τ := τ) (p := .tc) := by
  show _ = dite (k0_cond1 i = 1#1) (fun _ => (clear (rest (F := F) (M := M) hM i)).toProg (nD := nD) (τ := τ) (p := .tc)) (fun _ => (rest (F := F) (M := M) hM i).toProg (nD := nD) (τ := τ) (p := .tc))
  unfold cc0_ffn_bwd k0_part167 k0_part9
  dsimp only
  by_cases hc : k0_cond1 i = 1#1
  · simp only [dif_pos hc]
    sl_kernel_rfl
  · simp only [dif_neg hc]
    sl_kernel_rfl

end Cert.FfnKernelIdeal.Body

end
-- ==== Proof.Ffn.Eval.lean ====
/- What the body of the feed-forward block's backward kernel leaves in its buffers, in closed form: the cotangent of the product, the taps spread over rows,
   the gradient at the gate's inputs by chunks of sixteen rows, and the accumulators. -/
module

public import proofs.«01_k».proof.Proof.Ffn.Body
public import Idealize.ShloMosaic.Lib.Pointwise

@[expose] public section

set_option maxRecDepth 16384

noncomputable section

namespace Cert.FfnKernelIdeal.Body

open Idealize.ShloMosaic Idealize.SL.Sem Cert.Straight Cert.FfnKernelIdeal.Gen
open VecWindow (window put)

variable {F : FTy → Type} [FloatOps F] [Named F]

/-- What the blocks of the arguments hold. -/
structure Ins (F : FTy → Type) where
  dxb : Vec F S512x1024 .bf16
  dxn : Vec F S16x1024 .bf16
  wd : Vec F S768x1024 .bf16
  p : Vec F S2x512x768 .bf16
  u : Vec F S2x512x768 .bf16
  un : Vec F S2x16x768 .bf16
  fw : Vec F S2x3x768 .f32
  wg : Vec F S1x1024x768 .bf16
  wu : Vec F S1x1024x768 .bf16
  x2 : Vec F S512x1024 .f32
  g : Vec F S1x1024 .f32
  dx3 : Vec F S512x1024 .f32

/-- What the blocks of the results and the scratch hold. -/
structure Outs (F : FTy → Type) where
  dx2 : Vec F S512x1024 .f32
  dx2b : Vec F S512x1024 .bf16
  dg : Vec F S8x1024 .f32
  dp : Vec F S2x512x768 .bf16
  dw : Vec F S2x8x3072 .f32
  da : Vec F S528x768 .f32
  aw : Vec F S4x2x3x8x768 .f32
  ah : Vec F S512x1024 .f32
  tp : Vec F S2x3x16x768 .f32

/-- The state they make. -/
def st (X : Ins F) (S : Outs F) : State (Elt F) sh el
  | .dxb => X.dxb | .dxn => X.dxn | .wd => X.wd | .p => X.p | .u => X.u | .un => X.un | .fw => X.fw
  | .wg => X.wg | .wu => X.wu | .x2 => X.x2 | .g => X.g | .dx3 => X.dx3 | .dx2 => S.dx2 | .dx2b => S.dx2b
  | .dg => S.dg | .dp => S.dp | .dw => S.dw | .da => S.da | .aw => S.aw | .ah => S.ah | .tp => S.tp

section Updates

variable (X : Ins F) (S : Outs F)

theorem upd_dx2 (w) : Function.update (st X S) .dx2 w = st X { S with dx2 := w } := by funext b; cases b <;> rfl
theorem upd_dx2b (w) : Function.update (st X S) .dx2b w = st X { S with dx2b := w } := by funext b; cases b <;> rfl
theorem upd_dg (w) : Function.update (st X S) .dg w = st X { S with dg := w } := by funext b; cases b <;> rfl
theorem upd_dp (w) : Function.update (st X S) .dp w = st X { S with dp := w } := by funext b; cases b <;> rfl
theorem upd_dw (w) : Function.update (st X S) .dw w = st X { S with dw := w } := by funext b; cases b <;> rfl
theorem upd_da (w) : Function.update (st X S) .da w = st X { S with da := w } := by funext b; cases b <;> rfl
theorem upd_aw (w) : Function.update (st X S) .aw w = st X { S with aw := w } := by funext b; cases b <;> rfl
theorem upd_ah (w) : Function.update (st X S) .ah w = st X { S with ah := w } := by funext b; cases b <;> rfl
theorem upd_tp (w) : Function.update (st X S) .tp w = st X { S with tp := w } := by funext b; cases b <;> rfl

end Updates

variable {M : ∀ b, Memref sig .tc (CoreSpace.vmem : Space) (sh b) (el b)} (hM : ∀ b, (M b).IsWhole) (i : grid0.Coords) (X : Ins F) (S : Outs F)

/-! ## The taps -/

/-- A tap spread over sixteen rows. -/
def tap (h k : ℕ) (hh : h < 2) (hk : k < 3) : Vec F S1x1x16x768 .f32 := k0_pay37 (window X.fw ![h, k, 0] S1x1x768.size (inb_fw hh hk))

/-- The taps' scratch after all six. -/
def tapsOf (T : Vec F S2x3x16x768 .f32) : Vec F S2x3x16x768 .f32 :=
  put (put (put (put (put (put T ![0, 0, 0, 0] S1x1x16x768.size (tap X 0 0 (by decide) (by decide))) ![0, 1, 0, 0] S1x1x16x768.size (tap X 0 1 (by decide) (by decide)))
    ![0, 2, 0, 0] S1x1x16x768.size (tap X 0 2 (by decide) (by decide))) ![1, 0, 0, 0] S1x1x16x768.size (tap X 1 0 (by decide) (by decide)))
    ![1, 1, 0, 0] S1x1x16x768.size (tap X 1 1 (by decide) (by decide))) ![1, 2, 0, 0] S1x1x16x768.size (tap X 1 2 (by decide) (by decide))

/-- A window of one tap, after a store of another or of that one. -/
theorem window_tap_ne (T : Vec F S2x3x16x768 .f32) (w : Vec F S1x1x16x768 .f32) (h k h' k' : ℕ) (inb) (hne : h' + 1 ≤ h ∨ h + 1 ≤ h' ∨ k' + 1 ≤ k ∨ k + 1 ≤ k') :
    window (put T ![h, k, 0, 0] S1x1x16x768.size w) ![h', k', 0, 0] S1x1x16x768.size inb = window T ![h', k', 0, 0] S1x1x16x768.size inb := by
  rcases hne with e | e | e | e
  · exact VecWindow.window_put_of_disjoint _ _ _ _ _ _ _ 0 (.inl e)
  · exact VecWindow.window_put_of_disjoint _ _ _ _ _ _ _ 0 (.inr e)
  · exact VecWindow.window_put_of_disjoint _ _ _ _ _ _ _ 1 (.inl e)
  · exact VecWindow.window_put_of_disjoint _ _ _ _ _ _ _ 1 (.inr e)

/-- Every tap is read back. -/
theorem window_tapsOf (T : Vec F S2x3x16x768 .f32) (h k : ℕ) (hh : h < 2) (hk : k < 3) :
    window (tapsOf X T) ![h, k, 0, 0] S1x1x16x768.size (inb_tp hh hk) = tap X h k hh hk := by
  have hs (T' : Vec F S2x3x16x768 .f32) (w) (a b : ℕ) (ha : a < 2) (hb : b < 3) : window (put T' ![a, b, 0, 0] S1x1x16x768.size w) ![a, b, 0, 0] S1x1x16x768.size (inb_tp ha hb) = w :=
    VecWindow.window_put_same _ _ _ _ _
  unfold tapsOf
  obtain rfl | rfl : h = 0 ∨ h = 1 := by omega
  all_goals obtain rfl | rfl | rfl : k = 0 ∨ k = 1 ∨ k = 2 := by omega
  all_goals repeat rw [window_tap_ne _ _ _ _ _ _ _ (by decide)]
  all_goals exact hs _ _ _ _ (by decide) (by decide)

theorem run_spread (h k : ℕ) (hh : h < 2) (hk : k < 3) (K : Code (Elt F) M) :
    (spread h k hh hk K).run (st X S) = K.run (st X { S with tp := put S.tp ![h, k, 0, 0] S1x1x16x768.size (tap X h k hh hk) }) := by
  unfold spread
  simp only [Code.run]
  rw [upd_tp]
  rfl

/-! ## The cotangent of the product -/

/-- The rows of the block and the sixteen after it, the last 272 in one product and the first 256 in another. -/
def daOf (A : Vec F S528x768 .f32) : Vec F S528x768 .f32 :=
  put (put A ![256, 0] S272x768.size (k0_pay46 (k0_pay44 X.dxb X.dxn) (k0_pay45 X.wd))) ![0, 0] S256x768.size (k0_pay47 (k0_pay43 X.dxb X.dxn) X.wd)

def daF : Vec F S528x768 .f32 := daOf X fun _ => Scalar.ofBits .f32 0#32

theorem daOf_eq (A : Vec F S528x768 .f32) : daOf X A = daF X := by
  funext y
  unfold daF daOf put
  split
  · rfl
  · next h0 =>
    split
    · rfl
    · next h1 =>
      exfalso
      have hy0 : (y 0).val < 528 := (y 0).isLt
      have hy1 : (y 1).val < 768 := (y 1).isLt
      by_cases hc : (y 0).val < 256
      · refine h0 fun a => ?_
        fin_cases a
        · exact ⟨Nat.zero_le _, by show (y 0).val < 0 + 256; omega⟩
        · exact ⟨Nat.zero_le _, by show (y 1).val < 0 + 768; omega⟩
      · refine h1 fun a => ?_
        fin_cases a
        · exact ⟨by show 256 ≤ (y 0).val; omega, by show (y 0).val < 256 + 272; omega⟩
        · exact ⟨Nat.zero_le _, by show (y 1).val < 0 + 768; omega⟩

theorem window_all2 {a b : ℕ} {Val : Type} (x : (⟨2, ![a, b]⟩ : Shape).Idx → Val) (inb) : window x ![0, 0] ![a, b] inb = x := by
  funext y
  refine congrArg x (funext fun c => Fin.ext ?_)
  fin_cases c
  · show 0 + 1 * (y 0).val = (y 0).val; omega
  · show 0 + 1 * (y 1).val = (y 1).val; omega

theorem put_all2 {a b : ℕ} {Val : Type} (x w : (⟨2, ![a, b]⟩ : Shape).Idx → Val) : put x ![0, 0] ![a, b] w = w := by
  funext y
  refine (dif_pos fun c => ?_).trans (congrArg w (funext fun c => Fin.ext ?_))
  · fin_cases c
    · exact ⟨Nat.zero_le _, by show (y 0).val < 0 + a; have : (y 0).val < a := (y 0).isLt; omega⟩
    · exact ⟨Nat.zero_le _, by show (y 1).val < 0 + b; have : (y 1).val < b := (y 1).isLt; omega⟩
  · fin_cases c <;> rfl

theorem window_all3 {a b c : ℕ} {Val : Type} (x : (⟨3, ![a, b, c]⟩ : Shape).Idx → Val) (inb) : window x ![0, 0, 0] ![a, b, c] inb = x := by
  funext y
  refine congrArg x (funext fun d => Fin.ext ?_)
  fin_cases d
  · show 0 + 1 * (y 0).val = (y 0).val; omega
  · show 0 + 1 * (y 1).val = (y 1).val; omega
  · show 0 + 1 * (y 2).val = (y 2).val; omega

theorem put_all3 {a b c : ℕ} {Val : Type} (x w : (⟨3, ![a, b, c]⟩ : Shape).Idx → Val) : put x ![0, 0, 0] ![a, b, c] w = w := by
  funext y
  refine (dif_pos fun d => ?_).trans (congrArg w (funext fun d => Fin.ext ?_))
  · fin_cases d
    · exact ⟨Nat.zero_le _, by show (y 0).val < 0 + a; have : (y 0).val < a := (y 0).isLt; omega⟩
    · exact ⟨Nat.zero_le _, by show (y 1).val < 0 + b; have : (y 1).val < b := (y 1).isLt; omega⟩
    · exact ⟨Nat.zero_le _, by show (y 2).val < 0 + c; have : (y 2).val < c := (y 2).isLt; omega⟩
  · fin_cases d <;> rfl

theorem put_all5 {a b c d e : ℕ} {Val : Type} (x w : (⟨5, ![a, b, c, d, e]⟩ : Shape).Idx → Val) : put x ![0, 0, 0, 0, 0] ![a, b, c, d, e] w = w := by
  funext y
  refine (dif_pos fun f => ?_).trans (congrArg w (funext fun f => Fin.ext ?_))
  · fin_cases f
    · exact ⟨Nat.zero_le _, by show (y 0).val < 0 + a; have : (y 0).val < a := (y 0).isLt; omega⟩
    · exact ⟨Nat.zero_le _, by show (y 1).val < 0 + b; have : (y 1).val < b := (y 1).isLt; omega⟩
    · exact ⟨Nat.zero_le _, by show (y 2).val < 0 + c; have : (y 2).val < c := (y 2).isLt; omega⟩
    · exact ⟨Nat.zero_le _, by show (y 3).val < 0 + d; have : (y 3).val < d := (y 3).isLt; omega⟩
    · exact ⟨Nat.zero_le _, by show (y 4).val < 0 + e; have : (y 4).val < e := (y 4).isLt; omega⟩
  · fin_cases f <;> rfl

theorem run_cotangent (K : Code (Elt F) M) : (cotangent K).run (st X S) = K.run (st X { S with da := daF X }) := by
  unfold cotangent
  simp only [Code.run]
  rw [upd_da, upd_da, ← daOf_eq X S.da]
  unfold daOf
  simp only [st, window_all2]

/-! ## The chunks -/

/-- The gradient at the gate's first input, in sixteen rows of the block, or in the sixteen after it. -/
def duG (r : ℕ) : FVec F S16x768 .f32 :=
  if hr : r + 16 ≤ 512 then k0_pay93 (window (daF X) ![r, 0] S16x768.size (inb_da (by omega))) (window X.u ![0, r, 0] S1x16x768.size (inb_rows (by decide) hr))
    (window X.u ![1, r, 0] S1x16x768.size (inb_rows (by decide) hr))
  else k0_pay93 (k0_pay48 (k0_pay36 i) (window (daF X) ![512, 0] S16x768.size (inb_da le_rfl))) (window X.un ![0, 0, 0] S1x16x768.size inb_S2x16x768_S1x16x768_0_0_0)
    (window X.un ![1, 0, 0] S1x16x768.size inb_S2x16x768_S1x16x768_1_0_0)

/-- The gradient at its second input. -/
def duU (r : ℕ) : FVec F S16x768 .f32 :=
  if hr : r + 16 ≤ 512 then k0_pay94 (window (daF X) ![r, 0] S16x768.size (inb_da (by omega))) (window X.u ![0, r, 0] S1x16x768.size (inb_rows (by decide) hr))
  else k0_pay94 (k0_pay48 (k0_pay36 i) (window (daF X) ![512, 0] S16x768.size (inb_da le_rfl))) (window X.un ![0, 0, 0] S1x16x768.size inb_S2x16x768_S1x16x768_0_0_0)

/-- Sixteen rows of the projection. -/
def pRows (h r : ℕ) (hh : h < 2) (hr : r + 16 ≤ 512) : FVec F S16x768 .f32 := k0_pay109 (window X.p ![h, r, 0] S1x16x768.size (inb_rows hh hr))

/-- Sixteen rows of the gradient at the projection, from their own rows `b` and the rows after them `a`; as a matrix, -/
def dpRow (h : ℕ) (hh : h < 2) (b a : FVec F S16x768 .f32) : FVec F S16x768 .bf16 :=
  k0_pay107 a b (k0_pay105 a b) (tap X h 2 hh (by decide)) (tap X h 0 hh (by decide)) (tap X h 1 hh (by decide))

/-- and as a block of the result. -/
def dpBlk (h : ℕ) (hh : h < 2) (b a : FVec F S16x768 .f32) : FVec F S1x16x768 .bf16 :=
  k0_pay108 a b (k0_pay105 a b) (tap X h 2 hh (by decide)) (tap X h 0 hh (by decide)) (tap X h 1 hh (by decide))

/-- A product of sixteen rows added to the partial rows at `off`. -/
def add1 (off : Fin 5 → ℕ) (inb : ∀ a, off a + S1x1x1x8x768.size a ≤ S4x2x3x8x768.size a) (d p : FVec F S16x768 .f32) (A : Vec F S4x2x3x8x768 .f32) :
    Vec F S4x2x3x8x768 .f32 := put A off S1x1x1x8x768.size (k0_pay103 d p (window A off S1x1x1x8x768.size inb))

/-- What the three taps of one half add. -/
def add3 (o : Fin 3 → Fin 5 → ℕ) (inb : ∀ k a, o k a + S1x1x1x8x768.size a ≤ S4x2x3x8x768.size a) (b a p : FVec F S16x768 .f32) (A : Vec F S4x2x3x8x768 .f32) :
    Vec F S4x2x3x8x768 .f32 :=
  add1 (o 2) (inb 2) b p (add1 (o 1) (inb 1) (k0_pay105 a b) p (add1 (o 0) (inb 0) (k0_pay106 a b) p A))

/-- The taps that the scratch holds. -/
def Taps : Prop := ∀ h k (hh : h < 2) (hk : k < 3), window S.tp ![h, k, 0, 0] S1x1x16x768.size (inb_tp hh hk) = tap X h k hh hk

variable {X S}

theorem run_half (hT : Taps X S) (h r : ℕ) (hh : h < 2) (hr : r + 16 ≤ 512) (h2 : 2 ∣ r) (o : Fin 3 → Fin 5 → ℕ) (inb) (b a : FVec F S16x768 .f32)
    (K : FVec F S16x768 .bf16 → Code (Elt F) M) :
    (half hM h r hh hr h2 o inb b a K).run (st X S) = (K (dpRow X h hh b a)).run (st X { S with
      dp := put S.dp ![h, r, 0] S1x16x768.size (dpBlk X h hh b a), aw := add3 o inb b a (pRows X h r hh hr) S.aw }) := by
  have e0 := hT h 0 hh (by decide)
  have e1 := hT h 1 hh (by decide)
  have e2 := hT h 2 hh (by decide)
  unfold half addW
  simp only [Code.run]
  rw [upd_dp, upd_aw, upd_aw, upd_aw]
  unfold dpRow dpBlk add3 add1 pRows
  rw [← e0, ← e1, ← e2]
  rfl

variable (X) in
/-- What a chunk leaves in the taps' partial rows, -/
def awChunk (r : ℕ) (hr : r + 16 ≤ 512) (A : Vec F S4x2x3x8x768 .f32) : Vec F S4x2x3x8x768 .f32 :=
  add3 (offU i) (offU_inb i) (duU i X r) (duU i X (r + 16)) (pRows X 1 r (by decide) hr)
    (add3 (offG i) (offG_inb i) (duG i X r) (duG i X (r + 16)) (pRows X 0 r (by decide) hr) A)

variable (X) in
/-- and in the gradient at the projection. -/
def dpChunk (r : ℕ) (D : Vec F S2x512x768 .bf16) : Vec F S2x512x768 .bf16 :=
  put (put D ![0, r, 0] S1x16x768.size (dpBlk X 0 (by decide) (duG i X r) (duG i X (r + 16)))) ![1, r, 0] S1x16x768.size
    (dpBlk X 1 (by decide) (duU i X r) (duU i X (r + 16)))

theorem run_chunk (hT : Taps X S) (hda : S.da = daF X) (r : ℕ) (hr : r + 16 ≤ 512) (h2 : 2 ∣ r) (a0 a1 : FVec F S16x768 .f32) (h0 : a0 = duG i X (r + 16)) (h1 : a1 = duU i X (r + 16))
    (K : FVec F S16x768 .f32 → FVec F S16x768 .f32 → FVec F S16x768 .bf16 → FVec F S16x768 .bf16 → Code (Elt F) M) :
    (chunk hM i r hr h2 a0 a1 K).run (st X S) = (K (duG i X r) (duU i X r) (dpRow X 0 (by decide) (duG i X r) (duG i X (r + 16)))
      (dpRow X 1 (by decide) (duU i X r) (duU i X (r + 16)))).run (st X { S with dp := dpChunk i X r S.dp, aw := awChunk i X r hr S.aw }) := by
  subst h0 h1
  have eG : k0_pay93 (window (st X S .da) ![r, 0] S16x768.size (inb_da (by omega))) (window (st X S .u) ![0, r, 0] S1x16x768.size (inb_rows (by decide) hr))
      (window (st X S .u) ![1, r, 0] S1x16x768.size (inb_rows (by decide) hr)) = duG i X r := by
    unfold duG; rw [dif_pos hr, ← hda]; rfl
  have eU : k0_pay94 (window (st X S .da) ![r, 0] S16x768.size (inb_da (by omega))) (window (st X S .u) ![0, r, 0] S1x16x768.size (inb_rows (by decide) hr)) = duU i X r := by
    unfold duU; rw [dif_pos hr, ← hda]; rfl
  unfold chunk
  simp only [Code.run]
  rw [eG, eU, run_half, run_half]
  · rfl
  · exact hT
  · exact hT

variable (X) in
/-- What the chunks of a group leave in the taps' partial rows, -/
def awChunks (s : ℕ) (hs : s + 256 ≤ 512) : (n : ℕ) → n ≤ 16 → Vec F S4x2x3x8x768 .f32 → Vec F S4x2x3x8x768 .f32
  | 0, _, A => A
  | n + 1, hn, A => awChunks s hs n (by omega) (awChunk i X (s + 16 * n) (by omega) A)

variable (X) in
/-- and in the gradient at the projection. -/
def dpChunks (s : ℕ) : ℕ → Vec F S2x512x768 .bf16 → Vec F S2x512x768 .bf16
  | 0, D => D
  | n + 1, D => dpChunks s n (dpChunk i X (s + 16 * n) D)

variable (X) in
/-- The rows that a group's chunks hand to its product. -/
def rowsOf (s q : ℕ) : FVec F S16x768 .bf16 × FVec F S16x768 .bf16 :=
  (dpRow X 0 (by decide) (duG i X (s + 16 * q)) (duG i X (s + 16 * q + 16)), dpRow X 1 (by decide) (duU i X (s + 16 * q)) (duU i X (s + 16 * q + 16)))

theorem run_chunks (hT : Taps X S) (hda : S.da = daF X) (s : ℕ) (hs : s + 256 ≤ 512) (h2 : 2 ∣ s) (n : ℕ) (hn : n ≤ 16) (a0 a1 : FVec F S16x768 .f32)
    (h0 : a0 = duG i X (s + 16 * n)) (h1 : a1 = duU i X (s + 16 * n)) (e : ℕ → FVec F S16x768 .bf16 × FVec F S16x768 .bf16)
    (K : FVec F S16x768 .f32 → FVec F S16x768 .f32 → (ℕ → FVec F S16x768 .bf16 × FVec F S16x768 .bf16) → Code (Elt F) M) :
    (chunks hM i s hs h2 n hn a0 a1 e K).run (st X S) = (K (duG i X s) (duU i X s) (fun q => if q < n then rowsOf i X s q else e q)).run
      (st X { S with dp := dpChunks i X s n S.dp, aw := awChunks i X s hs n hn S.aw }) := by
  induction n generalizing S a0 a1 e with
  | zero =>
    unfold chunks dpChunks awChunks
    simp only [Nat.not_lt_zero, if_false, h0, h1, Nat.mul_zero, Nat.add_zero]
  | succ n ih =>
    unfold chunks dpChunks awChunks
    rw [run_chunk hM i hT hda _ _ _ a0 a1 (h0.trans (by congr 1)) (h1.trans (by congr 1)), ih (S := { S with dp := dpChunk i X (s + 16 * n) S.dp, aw := awChunk i X (s + 16 * n) (by omega) S.aw }) hT hda _ _ _ rfl rfl]
    congr 2
    funext q
    by_cases hq : q < n
    · rw [if_pos hq, if_pos (by omega)]
    · by_cases hq' : q = n
      · subst hq'; rw [if_neg hq, if_pos rfl, if_pos (by omega)]; rfl
      · rw [if_neg hq, if_neg hq', if_neg (by omega)]

variable (X) in
/-- What a group leaves in the product's accumulator. -/
def ahGroup (s : ℕ) (hs : s + 256 ≤ 512) (H : Vec F S512x1024 .f32) : Vec F S512x1024 .f32 :=
  put H ![s, 0] S256x1024.size (groupPay i (rowsOf i X s) X.wg X.wu (window H ![s, 0] S256x1024.size (inb_ah hs)))

theorem run_group (hT : Taps X S) (hda : S.da = daF X) (s : ℕ) (hs : s + 256 ≤ 512) (h2 : 2 ∣ s) (a0 a1 : FVec F S16x768 .f32)
    (h0 : a0 = duG i X (s + 256)) (h1 : a1 = duU i X (s + 256)) (e : ℕ → FVec F S16x768 .bf16 × FVec F S16x768 .bf16)
    (K : FVec F S16x768 .f32 → FVec F S16x768 .f32 → (ℕ → FVec F S16x768 .bf16 × FVec F S16x768 .bf16) → Code (Elt F) M) :
    ∃ e', (group hM i s hs h2 a0 a1 e K).run (st X S) = (K (duG i X s) (duU i X s) e').run
      (st X { S with dp := dpChunks i X s 16 S.dp, aw := awChunks i X s hs 16 le_rfl S.aw, ah := ahGroup i X s hs S.ah }) := by
  refine ⟨fun q => if q < 16 then rowsOf i X s q else e q, ?_⟩
  unfold group
  rw [run_chunks hM i hT hda _ _ _ _ _ a0 a1 h0 h1]
  simp only [Code.run]
  rw [upd_ah]
  unfold ahGroup
  simp only [st, window_all3]
  rfl

/-! ## The whole body -/

variable (X) in
/-- The gradient at the projection, in one block. -/
def dpAll (y : S2x512x768.Idx) : Elt F .bf16 :=
  (if (y 0).val = 0 then dpBlk X 0 (by decide) (duG i X (16 * ((y 1).val / 16))) (duG i X (16 * ((y 1).val / 16) + 16))
    else dpBlk X 1 (by decide) (duU i X (16 * ((y 1).val / 16))) (duU i X (16 * ((y 1).val / 16) + 16))) (ix3 (0 : Fin 1) (⟨(y 1).val % 16, by omega⟩ : Fin 16) (y 2 : Fin 768))

theorem put_rows (D : Vec F S2x512x768 .bf16) (h r : ℕ) (w : FVec F S1x16x768 .bf16) (y : S2x512x768.Idx) :
    put D ![h, r, 0] S1x16x768.size w y = if hy : (y 0).val = h ∧ r ≤ (y 1).val ∧ (y 1).val < r + 16 then
      w (ix3 (0 : Fin 1) (⟨(y 1).val - r, by omega⟩ : Fin 16) (y 2 : Fin 768)) else D y := by
  have hy2 : (y 2).val < 768 := (y 2).isLt
  unfold put
  by_cases hy : (y 0).val = h ∧ r ≤ (y 1).val ∧ (y 1).val < r + 16
  · rw [dif_pos hy, dif_pos]
    · refine congrArg w (funext fun a => Fin.ext ?_)
      fin_cases a
      · show (y 0).val - h = 0; omega
      · rfl
      · rfl
    · intro a
      fin_cases a
      · show h ≤ (y 0).val ∧ (y 0).val < h + 1; omega
      · show r ≤ (y 1).val ∧ (y 1).val < r + 16; omega
      · show 0 ≤ (y 2).val ∧ (y 2).val < 0 + 768; omega
  · rw [dif_neg hy, dif_neg]
    intro hh
    refine hy ⟨?_, (hh 1).1, (hh 1).2⟩
    have h0 : h ≤ (y 0).val ∧ (y 0).val < h + 1 := hh 0
    omega

theorem dpChunk_apply (r : ℕ) (h16 : r % 16 = 0) (D : Vec F S2x512x768 .bf16) (y : S2x512x768.Idx) :
    dpChunk i X r D y = if r ≤ (y 1).val ∧ (y 1).val < r + 16 then dpAll i X y else D y := by
  have hy0 : (y 0).val < 2 := (y 0).isLt
  unfold dpChunk
  rw [put_rows, put_rows]
  by_cases hr : r ≤ (y 1).val ∧ (y 1).val < r + 16
  · rw [if_pos hr]
    have e : 16 * ((y 1).val / 16) = r := by omega
    have e' : (⟨(y 1).val - r, by omega⟩ : Fin 16) = ⟨(y 1).val % 16, by omega⟩ := Fin.ext (by show (y 1).val - r = (y 1).val % 16; omega)
    unfold dpAll
    rw [e]
    by_cases h0 : (y 0).val = 0
    · rw [dif_neg (by omega), dif_pos ⟨h0, hr⟩, if_pos h0, e']
    · rw [dif_pos ⟨by omega, hr⟩, if_neg h0, e']
  · rw [dif_neg fun h => hr h.2, dif_neg fun h => hr h.2, if_neg hr]

theorem dpChunks_apply (s : ℕ) (h16 : s % 16 = 0) (n : ℕ) (D : Vec F S2x512x768 .bf16) (y : S2x512x768.Idx) :
    dpChunks i X s n D y = if s ≤ (y 1).val ∧ (y 1).val < s + 16 * n then dpAll i X y else D y := by
  induction n generalizing D with
  | zero => unfold dpChunks; rw [if_neg (by omega)]
  | succ n ih =>
    unfold dpChunks
    rw [ih, dpChunk_apply _ _ (by omega)]
    by_cases h1 : s ≤ (y 1).val ∧ (y 1).val < s + 16 * n
    · rw [if_pos h1, if_pos (by omega)]
    · rw [if_neg h1]
      by_cases h2 : s + 16 * n ≤ (y 1).val ∧ (y 1).val < s + 16 * n + 16
      · rw [if_pos h2, if_pos (by omega)]
      · rw [if_neg h2, if_neg (by omega)]

theorem dpChunks_all (D : Vec F S2x512x768 .bf16) : dpChunks i X 0 16 (dpChunks i X 256 16 D) = dpAll i X := by
  funext y
  have hy1 : (y 1).val < 512 := (y 1).isLt
  rw [dpChunks_apply _ _ (by decide), dpChunks_apply _ _ (by decide)]
  by_cases h1 : 0 ≤ (y 1).val ∧ (y 1).val < 0 + 16 * 16
  · rw [if_pos h1]
  · rw [if_neg h1, if_pos (by omega)]

variable (X) in
/-- What one point leaves in the taps' partial rows, -/
def awAll (A : Vec F S4x2x3x8x768 .f32) : Vec F S4x2x3x8x768 .f32 := awChunks i X 0 (by decide) 16 le_rfl (awChunks i X 256 (by decide) 16 le_rfl A)

variable (X) in
/-- and in the product's accumulator. -/
def ahAll (H : Vec F S512x1024 .f32) : Vec F S512x1024 .f32 := ahGroup i X 0 (by decide) (ahGroup i X 256 (by decide) H)

theorem run_groups (hT : Taps X S) (hda : S.da = daF X) (K : Code (Elt F) M) :
    (groups hM i K).run (st X S) = K.run (st X { S with dp := dpAll i X, aw := awAll i X S.aw, ah := ahAll i X S.ah }) := by
  unfold groups
  simp only [Code.run]
  obtain ⟨e1, h1⟩ := run_group (M := M) (X := X) (S := S) hM i hT hda 256 (by decide) (by decide)
    (k0_pay93 (k0_pay48 (k0_pay36 i) (window (st X S .da) ![512, 0] S16x768.size (inb_da le_rfl))) (window (st X S .un) ![0, 0, 0] S1x16x768.size inb_S2x16x768_S1x16x768_0_0_0)
      (window (st X S .un) ![1, 0, 0] S1x16x768.size inb_S2x16x768_S1x16x768_1_0_0))
    (k0_pay94 (k0_pay48 (k0_pay36 i) (window (st X S .da) ![512, 0] S16x768.size (inb_da le_rfl))) (window (st X S .un) ![0, 0, 0] S1x16x768.size inb_S2x16x768_S1x16x768_0_0_0))
    (by unfold duG; rw [dif_neg (by decide), ← hda]; rfl) (by unfold duU; rw [dif_neg (by decide), ← hda]; rfl) (fun _ => (noRows, noRows))
    (fun d0 d1 e => group hM i 0 (by decide) (by decide) d0 d1 e fun _ _ _ => K)
  rw [h1]
  obtain ⟨e0, h0⟩ := run_group (M := M) (X := X) (S := { S with dp := dpChunks i X 256 16 S.dp, aw := awChunks i X 256 (by decide) 16 le_rfl S.aw, ah := ahGroup i X 256 (by decide) S.ah })
    hM i hT hda 0 (by decide) (by decide) (duG i X 256) (duU i X 256) rfl rfl e1 (fun _ _ _ => K)
  rw [h0, dpChunks_all]
  rfl

variable (X) in
/-- The norm's scale's gradient after a last column. -/
def dgNew (H : Vec F S512x1024 .f32) (G : Vec F S8x1024 .f32) : Vec F S8x1024 .f32 :=
  put G ![0, 0] S1x1024.size (k0_pay5 H X.x2 (window G ![0, 0] S1x1024.size inb_S8x1024_S1x1024_0_0))

variable (X) in
/-- The state after a last column. -/
def lastColSt (S : Outs F) : Outs F := { S with dx2 := k0_pay3 S.ah X.x2 X.g X.dx3, dx2b := k0_pay4 S.ah X.x2 X.g X.dx3, dg := dgNew X S.ah S.dg }

theorem run_lastCol (K : Code (Elt F) M) : (lastCol hM K).run (st X S) = K.run (st X (lastColSt X S)) := by
  unfold lastCol
  simp only [Code.run]
  rw [upd_dx2, upd_dx2b, upd_dg]
  unfold lastColSt dgNew
  simp only [st, window_all2, put_all2]

/-- The taps' gradient, `n` rows from number `q` on, from the partial rows `A`. -/
def dwFold (A : Vec F S4x2x3x8x768 .f32) : (n q : ℕ) → n + q ≤ 24 → Vec F S2x8x3072 .f32 → Vec F S2x8x3072 .f32
  | 0, _, _, D => D
  | n + 1, q, h, D => dwFold A n (q + 1) (by omega) (put D ![q / 3 % 2, q % 3, 768 * (q / 6)] S1x1x768.size
      (k0_pay7 (window A ![q / 6, q / 3 % 2, q % 3, 0, 0] S1x1x1x8x768.size (inb_aw (by omega) (by omega) (by omega)))))

/-- The taps' gradient from the partial rows. -/
def dwAll (A : Vec F S4x2x3x8x768 .f32) : Vec F S2x8x3072 .f32 := dwFold A 24 0 le_rfl k0_pay6

theorem run_folds (n q : ℕ) (h : n + q ≤ 24) (K : Code (Elt F) M) : (folds n q h K).run (st X S) = K.run (st X { S with dw := dwFold S.aw n q h S.dw }) := by
  induction n generalizing S q with
  | zero => rfl
  | succ n ih =>
    unfold folds foldOne dwFold
    simp only [Code.run]
    rw [upd_dw, ih]
    rfl

theorem run_lastPoint : (lastPoint (M := M)).run (st X S) = st X { S with dw := dwAll S.aw } := by
  unfold lastPoint
  simp only [Code.run]
  rw [upd_dw, run_folds, put_all3]
  rfl

theorem run_ending : (ending (M := M) i).run (st X S) = st X (if k0_cond3 i = 1#1 then { S with dw := dwAll S.aw } else S) := by
  unfold ending
  simp only [Code.run]
  by_cases hc : k0_cond3 i = 1#1
  · rw [if_pos hc, if_pos hc, run_lastPoint]
  · rw [if_neg hc, if_neg hc]

/-- The state after a first point's clearing. -/
def clearSt (S : Outs F) : Outs F := { S with aw := k0_pay34, dg := k0_pay35 }

variable (X) in
/-- The state after the chunks. -/
def midSt (S : Outs F) : Outs F := { S with tp := tapsOf X S.tp, da := daF X, dp := dpAll i X, aw := awAll i X S.aw, ah := ahAll i X S.ah }

variable (X) in
/-- The state after one point. -/
def bodySt (S : Outs F) : Outs F :=
  let S1 := if k0_cond1 i = 1#1 then clearSt S else S
  let S2 := midSt i X S1
  let S3 := if k0_cond2 i = 1#1 then lastColSt X S2 else S2
  if k0_cond3 i = 1#1 then { S3 with dw := dwAll S3.aw } else S3

theorem run_rest : (rest hM i).run (st X S) = st X (let S2 := midSt i X S
    let S3 := if k0_cond2 i = 1#1 then lastColSt X S2 else S2
    if k0_cond3 i = 1#1 then { S3 with dw := dwAll S3.aw } else S3) := by
  unfold rest
  rw [run_spread, run_spread, run_spread, run_spread, run_spread, run_spread, run_cotangent, run_groups]
  rotate_left
  · exact fun h k hh hk => window_tapsOf X S.tp h k hh hk
  · rfl
  simp only [Code.run]
  by_cases hc : k0_cond2 i = 1#1
  · rw [if_pos hc, run_lastCol, run_ending]; simp only [if_pos hc]; rfl
  · rw [if_neg hc, run_ending]; simp only [if_neg hc]; rfl

/-- What one point leaves. -/
theorem run_body : (body hM i).run (st X S) = st X (bodySt i X S) := by
  unfold body bodySt
  simp only [Code.run]
  by_cases hc : k0_cond1 i = 1#1
  · simp only [if_pos hc]
    unfold clear
    simp only [Code.run]
    rw [upd_aw, upd_dg, run_rest, put_all2, put_all5]
    rfl
  · simp only [if_neg hc]
    rw [run_rest]

end Cert.FfnKernelIdeal.Body

end
-- ==== Proof.Ffn.Frame.lean ====
/- The frame of the feed-forward block's backward kernel: what its buffers hold after each grid point, the body's obligation there, the run. -/
module

public import proofs.«01_k».proof.Proof.Ffn.BodyEq
public import proofs.«01_k».proof.Proof.Ffn.Eval
public import proofs.«01_k».proof.Proof.Gen.FfnKernelIdeal.Frame
public import Idealize.ShloMosaic.Lib.Pipeline.ValueKit
public import Idealize.ShloMosaic.Lib.Pipeline.ReadBack
public import Idealize.ShloMosaic.Lib.Pipeline.TableIdle

@[expose] public section

set_option maxRecDepth 16384

noncomputable section

namespace Cert.FfnKernelIdeal.Run

open Idealize.ShloMosaic Idealize.ShloMosaic.TcCoe Idealize.ShloMosaic.Tactic Cert.FfnKernelIdeal.Gen Cert.FfnKernelIdeal.Body Cert.Straight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One point -/

/-- The buffers at point `t`. -/
def mem (t : Fin cfg0.N) : ∀ b, Memref sig .tc (CoreSpace.vmem : Space) (sh b) (el b)
  | .dxb => win0_0.stage (cfg0.slots t 0)
  | .dxn => win0_1.stage (cfg0.slots t 1)
  | .wd => win0_2.stage (cfg0.slots t 2)
  | .p => win0_3.stage (cfg0.slots t 3)
  | .u => win0_4.stage (cfg0.slots t 4)
  | .un => win0_5.stage (cfg0.slots t 5)
  | .fw => win0_6.stage (cfg0.slots t 6)
  | .wg => win0_7.stage (cfg0.slots t 7)
  | .wu => win0_8.stage (cfg0.slots t 8)
  | .x2 => win0_9.stage (cfg0.slots t 9)
  | .g => win0_10.stage (cfg0.slots t 10)
  | .dx3 => win0_11.stage (cfg0.slots t 11)
  | .dx2 => win0_12.stage (cfg0.slots t 12)
  | .dx2b => win0_13.stage (cfg0.slots t 13)
  | .dg => win0_14.stage (cfg0.slots t 14)
  | .dp => win0_15.stage (cfg0.slots t 15)
  | .dw => win0_16.stage (cfg0.slots t 16)
  | .da => Memref.whole cc0_scratch0
  | .aw => Memref.whole cc0_scratch1
  | .ah => Memref.whole cc0_scratch2
  | .tp => Memref.whole cc0_scratch3

/-- Each is a whole buffer. -/
def mem_whole (t : Fin cfg0.N) : ∀ b, (mem t b).IsWhole
  | .dxb => hstage0_0 ((cfg0.slots t 0).cast nbuf0_0)
  | .dxn => hstage0_1 ((cfg0.slots t 1).cast nbuf0_1)
  | .wd => hstage0_2 ((cfg0.slots t 2).cast nbuf0_2)
  | .p => hstage0_3 ((cfg0.slots t 3).cast nbuf0_3)
  | .u => hstage0_4 ((cfg0.slots t 4).cast nbuf0_4)
  | .un => hstage0_5 ((cfg0.slots t 5).cast nbuf0_5)
  | .fw => hstage0_6 ((cfg0.slots t 6).cast nbuf0_6)
  | .wg => hstage0_7 ((cfg0.slots t 7).cast nbuf0_7)
  | .wu => hstage0_8 ((cfg0.slots t 8).cast nbuf0_8)
  | .x2 => hstage0_9 ((cfg0.slots t 9).cast nbuf0_9)
  | .g => hstage0_10 ((cfg0.slots t 10).cast nbuf0_10)
  | .dx3 => hstage0_11 ((cfg0.slots t 11).cast nbuf0_11)
  | .dx2 => hstage0_12 ((cfg0.slots t 12).cast nbuf0_12)
  | .dx2b => hstage0_13 ((cfg0.slots t 13).cast nbuf0_13)
  | .dg => hstage0_14 ((cfg0.slots t 14).cast nbuf0_14)
  | .dp => hstage0_15 ((cfg0.slots t 15).cast nbuf0_15)
  | .dw => hstage0_16 ((cfg0.slots t 16).cast nbuf0_16)
  | .da => Memref.isWhole_whole _
  | .aw => Memref.isWhole_whole _
  | .ah => Memref.isWhole_whole _
  | .tp => Memref.isWhole_whole _

/-- All buffers, in the order of the body's arguments. -/
def all : List Bf := [.dxb, .dxn, .wd, .p, .u, .un, .fw, .wg, .wu, .x2, .g, .dx3, .dx2, .dx2b, .dg, .dp, .dw, .da, .aw, .ah, .tp]

/-- The buffers at point `t`, with their contents. -/
def held (c : Dev nD) (t : Fin cfg0.N) (X : Ins F) (S : Outs F) : sProp 𝕄 :=
  iprop(owns (c : Thread nD τ) (win0_0.stage (cfg0.slots t 0)) fullShare X.dxb
    ∗ owns (c : Thread nD τ) (win0_1.stage (cfg0.slots t 1)) fullShare X.dxn
    ∗ owns (c : Thread nD τ) (win0_2.stage (cfg0.slots t 2)) fullShare X.wd
    ∗ owns (c : Thread nD τ) (win0_3.stage (cfg0.slots t 3)) fullShare X.p
    ∗ owns (c : Thread nD τ) (win0_4.stage (cfg0.slots t 4)) fullShare X.u
    ∗ owns (c : Thread nD τ) (win0_5.stage (cfg0.slots t 5)) fullShare X.un
    ∗ owns (c : Thread nD τ) (win0_6.stage (cfg0.slots t 6)) fullShare X.fw
    ∗ owns (c : Thread nD τ) (win0_7.stage (cfg0.slots t 7)) fullShare X.wg
    ∗ owns (c : Thread nD τ) (win0_8.stage (cfg0.slots t 8)) fullShare X.wu
    ∗ owns (c : Thread nD τ) (win0_9.stage (cfg0.slots t 9)) fullShare X.x2
    ∗ owns (c : Thread nD τ) (win0_10.stage (cfg0.slots t 10)) fullShare X.g
    ∗ owns (c : Thread nD τ) (win0_11.stage (cfg0.slots t 11)) fullShare X.dx3
    ∗ owns (c : Thread nD τ) (win0_12.stage (cfg0.slots t 12)) fullShare S.dx2
    ∗ owns (c : Thread nD τ) (win0_13.stage (cfg0.slots t 13)) fullShare S.dx2b
    ∗ owns (c : Thread nD τ) (win0_14.stage (cfg0.slots t 14)) fullShare S.dg
    ∗ owns (c : Thread nD τ) (win0_15.stage (cfg0.slots t 15)) fullShare S.dp
    ∗ owns (c : Thread nD τ) (win0_16.stage (cfg0.slots t 16)) fullShare S.dw
    ∗ owns (c : Thread nD τ) (Memref.whole cc0_scratch0) fullShare S.da
    ∗ owns (c : Thread nD τ) (Memref.whole cc0_scratch1) fullShare S.aw
    ∗ owns (c : Thread nD τ) (Memref.whole cc0_scratch2) fullShare S.ah
    ∗ owns (c : Thread nD τ) (Memref.whole cc0_scratch3) fullShare S.tp
    ∗ emp)

theorem held_eq (c : Dev nD) (t : Fin cfg0.N) (X : Ins F) (S : Outs F) : (held c t X S : sProp 𝕄) = stars (c : Thread nD τ) (mem t) (st X S) all := rfl

/-- The body at point `t`: from the buffers' contents to what `bodySt` says. -/
theorem run_point (c : Dev nD) (t : Fin cfg0.N) (X : Ins F) (S : Outs F) (K : PUnit → sProp 𝕄) :
    iprop(held c t X S ∗ (held c t X (bodySt (grid0.coords t) X S) -∗ K ⟨⟩)) ⊢ wp frame (wpE (defs₀ (F := F)) Variants.none c none) Set.univ (bodyAt0 t) K := by
  rw [show (bodyAt0 (F := F) t) = _ from body_eq (F := F) (grid0.coords t) (mem t) (mem_whole t) (Memref.whole main_v65) (Memref.isWhole_whole _),
    held_eq, held_eq, ← run_body (mem_whole t) (grid0.coords t) (X := X) (S := S)]
  exact wp_code (defs := defs₀ (F := F)) Variants.none (c : Thread nD τ) none Set.univ all (by decide) (fun b => by cases b <;> decide) _ _ K

/-! ## What the buffers hold -/

/-- The blocks of the arguments at point `t`. -/
def ins (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- Two halves stored cover the whole. -/
theorem put_halves (P Q : Vec F S512x1024 .f32) (w u : Vec F S256x1024 .f32) :
    put (put P ![256, 0] S256x1024.size w) ![0, 0] S256x1024.size u = put (put Q ![256, 0] S256x1024.size w) ![0, 0] S256x1024.size u := by
  funext y
  unfold put
  split
  · rfl
  · next h0 =>
    split
    · rfl
    · next h1 =>
      exfalso
      have hy0 : (y 0).val < 512 := (y 0).isLt
      have hy1 : (y 1).val < 1024 := (y 1).isLt
      by_cases hc : (y 0).val < 256
      · refine h0 fun a => ?_
        fin_cases a
        · exact ⟨Nat.zero_le _, by show (y 0).val < 0 + 256; omega⟩
        · exact ⟨Nat.zero_le _, by show (y 1).val < 0 + 1024; omega⟩
      · refine h1 fun a => ?_
        fin_cases a
        · exact ⟨by show 256 ≤ (y 0).val; omega, by show (y 0).val < 256 + 256; omega⟩
        · exact ⟨Nat.zero_le _, by show (y 1).val < 0 + 1024; omega⟩

/-- At the first column of blocks the accumulator's old contents are not used. -/
theorem ahAll_first (i : grid0.Coords) (h : (i 1).val = 0) (X : Ins F) (A B : Vec F S512x1024 .f32) : ahAll i X A = ahAll i X B := by
  have hg (e : ℕ → FVec F S16x768 .bf16 × FVec F S16x768 .bf16) (wg wu) (a b : Vec F S256x1024 .f32) : groupPay i e wg wu a = groupPay i e wg wu b := by
    unfold groupPay k0_pay488
    rw [h]
    rfl
  have hp (w w' : Vec F S256x1024 .f32) (P Q : Vec F S512x1024 .f32) (u u' : Vec F S256x1024 .f32) (hw : w = w') (hu : u = u') :
      put (put P ![256, 0] S256x1024.size w) ![0, 0] S256x1024.size u = put (put Q ![256, 0] S256x1024.size w') ![0, 0] S256x1024.size u' := by
    subst hw hu
    exact put_halves _ _ _ _
  exact hp _ _ _ _ _ _ (hg _ _ _ _ _) (hg _ _ _ _ _)

/-- The taps' partial rows after point `n`. -/
def aws (c : Dev nD) : (n : ℕ) → n < cfg0.N → Vec F S4x2x3x8x768 .f32
  | 0, h => awAll (grid0.coords ⟨0, h⟩) (ins m c ⟨0, h⟩) k0_pay34
  | n + 1, h => awAll (grid0.coords ⟨n + 1, h⟩) (ins m c ⟨n + 1, h⟩) (aws c n (Nat.lt_of_succ_lt h))

/-- The product's accumulator after point `n`. -/
def ahs (c : Dev nD) : (n : ℕ) → n < cfg0.N → Vec F S512x1024 .f32
  | 0, h => ahAll (grid0.coords ⟨0, h⟩) (ins m c ⟨0, h⟩) (fun _ => Scalar.ofBits .f32 0#32)
  | n + 1, h => ahAll (grid0.coords ⟨n + 1, h⟩) (ins m c ⟨n + 1, h⟩) (ahs c n (Nat.lt_of_succ_lt h))

/-- The scale's gradient after point `n`: cleared at the first point, added to at the last column of blocks. -/
def dgs (c : Dev nD) : (n : ℕ) → n < cfg0.N → Vec F S8x1024 .f32
  | 0, _ => k0_pay35 (F := F)
  | n + 1, h => if (n + 1) % 4 = 3 then dgNew (ins m c ⟨n + 1, h⟩) (ahs m c (n + 1) h) (dgs c n (Nat.lt_of_succ_lt h)) else dgs c n (Nat.lt_of_succ_lt h)

theorem aws_first (c : Dev nD) (t : Fin cfg0.N) (h : t.val = 0) : aws m c t.val t.isLt = awAll (grid0.coords t) (ins m c t) k0_pay34 := by
  obtain ⟨n, hn⟩ := t
  obtain rfl : n = 0 := h
  rfl

theorem aws_next (c : Dev nD) (t : Fin cfg0.N) (h : t.val ≠ 0) : aws m c t.val t.isLt = awAll (grid0.coords t) (ins m c t)
    (aws m c (t.val - 1) (Nat.lt_of_le_of_lt (Nat.sub_le _ _) t.isLt)) := by
  obtain ⟨n, hn⟩ := t
  cases n with
  | zero => exact absurd rfl h
  | succ n => rfl

theorem first_col : ∀ t : Fin cfg0.N, t.val % 4 = 0 → (grid0.coords t 1).val = 0 := by decide +kernel

theorem ahs_first (c : Dev nD) (t : Fin cfg0.N) (h : t.val % 4 = 0) (A : Vec F S512x1024 .f32) : ahs m c t.val t.isLt = ahAll (grid0.coords t) (ins m c t) A := by
  obtain ⟨n, hn⟩ := t
  cases n with
  | zero => exact ahAll_first _ (first_col _ h) _ _ _
  | succ n => exact ahAll_first _ (first_col _ h) _ _ _

theorem ahs_next (c : Dev nD) (t : Fin cfg0.N) (h : t.val ≠ 0) : ahs m c t.val t.isLt = ahAll (grid0.coords t) (ins m c t)
    (ahs m c (t.val - 1) (Nat.lt_of_le_of_lt (Nat.sub_le _ _) t.isLt)) := by
  obtain ⟨n, hn⟩ := t
  cases n with
  | zero => exact absurd rfl h
  | succ n => rfl

theorem dgs_zero (c : Dev nD) (n : ℕ) (h : n < cfg0.N) (hz : n = 0) : dgs m c n h = k0_pay35 (F := F) := by subst hz; rfl

theorem dgs_last (c : Dev nD) (t : Fin cfg0.N) (h : t.val % 4 = 3) :
    dgs m c t.val t.isLt = dgNew (ins m c t) (ahs m c t.val t.isLt) (dgs m c (t.val - 1) (Nat.lt_of_le_of_lt (Nat.sub_le _ _) t.isLt)) := by
  obtain ⟨n, hn⟩ := t
  cases n with
  | zero => exact absurd (show (0:ℕ) % 4 = 3 from h) (by decide)
  | succ n => exact if_pos h

theorem dgs_mid (c : Dev nD) (t : Fin cfg0.N) (h0 : t.val ≠ 0) (h : ¬t.val % 4 = 3) :
    dgs m c t.val t.isLt = dgs m c (t.val - 1) (Nat.lt_of_le_of_lt (Nat.sub_le _ _) t.isLt) := by
  obtain ⟨n, hn⟩ := t
  cases n with
  | zero => exact absurd rfl h0
  | succ n => exact if_neg h

/-- The invariant before position `n`: the two accumulators at what the point before left in them. -/
def PhiS (c : Dev nD) : (n : ℕ) → n ≤ cfg0.N → sProp 𝕄
  | 0, _ => Pipeline.ΦA spec0 c
  | n + 1, hn => iprop(iprop((∃ d, owns (c : Thread nD τ) (Memref.whole cc0_scratch0) fullShare d) ∗ owns (c : Thread nD τ) (Memref.whole cc0_scratch1) fullShare (aws m c n hn)
      ∗ owns (c : Thread nD τ) (Memref.whole cc0_scratch2) fullShare (ahs m c n hn) ∗ (∃ d, owns (c : Thread nD τ) (Memref.whole cc0_scratch3) fullShare d)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => k0_pay3 (ahs m c t.val t.isLt) (ins m c t).x2 (ins m c t).g (ins m c t).dx3
    | ⟨13, _⟩ => k0_pay4 (ahs m c t.val t.isLt) (ins m c t).x2 (ins m c t).g (ins m c t).dx3
    | ⟨14, _⟩ => dgs m c t.val t.isLt
    | ⟨15, _⟩ => dpAll (grid0.coords t) (ins m c t)
    | ⟨16, _⟩ => dwAll (aws m c t.val t.isLt)
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = k0_pay3 (ahs m c t.val t.isLt) (ins m c t).x2 (ins m c t).g (ins m c t).dx3 := by dsimp only [dats]
theorem after0_13 (c : Dev nD) (t : Fin cfg0.N) : (dats m 0 c).after 13 t = k0_pay4 (ahs m c t.val t.isLt) (ins m c t).x2 (ins m c t).g (ins m c t).dx3 := by dsimp only [dats]
theorem after0_14 (c : Dev nD) (t : Fin cfg0.N) : (dats m 0 c).after 14 t = dgs m c t.val t.isLt := by dsimp only [dats]
theorem after0_15 (c : Dev nD) (t : Fin cfg0.N) : (dats m 0 c).after 15 t = dpAll (grid0.coords t) (ins m c t) := by dsimp only [dats]
theorem after0_16 (c : Dev nD) (t : Fin cfg0.N) : (dats m 0 c).after 16 t = dwAll (aws m c t.val t.isLt) := by dsimp only [dats]

/-! ## Which kind of point a point is -/

theorem cond1 : ∀ t : Fin cfg0.N, k0_cond1 (grid0.coords t) = 1#1 ↔ t.val = 0 := by decide +kernel
theorem cond2 : ∀ t : Fin cfg0.N, k0_cond2 (grid0.coords t) = 1#1 ↔ t.val % 4 = 3 := by decide +kernel
theorem cond3 : ∀ t : Fin cfg0.N, k0_cond3 (grid0.coords t) = 1#1 ↔ t.val = 31 := by decide +kernel
theorem live_in (w : Fin cfg0.W) (h : w.val < 12 ∨ w.val = 15) (t : Fin cfg0.N) : cfg0.idle w (grid0.coords t) = false := by
  revert h t; revert w; decide +kernel
theorem live_out (w : Fin cfg0.W) (h : w.val = 12 ∨ w.val = 13 ∨ w.val = 14) (t : Fin cfg0.N) (ht : t.val % 4 = 3) : cfg0.idle w (grid0.coords t) = false := by
  revert ht t; revert h w; decide +kernel
theorem live_dg (t : Fin cfg0.N) (h : t.val = 0) : cfg0.idle 14 (grid0.coords t) = false := by revert h t; decide +kernel
theorem live_dw (t : Fin cfg0.N) (h : t.val = 31) : cfg0.idle 16 (grid0.coords t) = false := by revert h t; decide +kernel
theorem idle_out (w : Fin cfg0.W) (hw : w.val = 12 ∨ w.val = 13) (t : Fin cfg0.N) (h : ¬t.val % 4 = 3) :
    cfg0.idle w (grid0.coords t) = true ∧ (cfg0.win w).flush t = false := by revert h t hw; revert w; decide +kernel
theorem idle_dg (t : Fin cfg0.N) (h0 : t.val ≠ 0) (h : ¬t.val % 4 = 3) :
    cfg0.idle 14 (grid0.coords t) = true ∧ (cfg0.win 14).flush t = false := by revert h h0 t; decide +kernel
theorem idle_dw (t : Fin cfg0.N) (h : t.val ≠ 31) :
    cfg0.idle 16 (grid0.coords t) = true ∧ (cfg0.win 16).flush t = false := by revert h t; decide +kernel

/-- The scale's gradient's buffer holds nothing of the kernel's only before the first point and after the last. -/
theorem fresh_dg (t : Fin cfg0.N) : cfg0.fresh 14 t.val = (t.val == 0 || t.val == 32) :=
  Pipeline.Cfg.fresh_tab cfg0 14 (fun n => n == 0 || n == 32) rfl (by decide +kernel) t.val (Nat.le_of_lt t.isLt)

theorem carry (c : Dev nD) (t : Fin cfg0.N) (h0 : t.val ≠ 0) (hi : cfg0.idle 14 (grid0.coords t) = true) (_ : cfg0.fresh 14 t.val = false) :
    (dats m 0 c).after 14 t = (dats m 0 c).after 14 ⟨t.val - 1, by omega⟩ := by
  rw [after0_14, after0_14]
  refine dgs_mid m c t h0 fun h => ?_
  rw [live_out 14 (by decide) t h] at hi
  exact Bool.false_ne_true hi

/-- At the last column of blocks the scale's gradient is what the point before left. -/
theorem before_dg (c : Dev nD) (t : Fin cfg0.N) (h : t.val % 4 = 3) (d) :
    (dats m 0 c).before 14 t d = dgs m c (t.val - 1) (Nat.lt_of_le_of_lt (Nat.sub_le _ _) t.isLt) := by
  have hN : t.val < 32 := lt_of_lt_of_eq t.isLt (show cfg0.N = 32 from N_0)
  rw [Dat.before_out_traj _ 14 rfl (fun _ _ => rfl) (carry m c) t.val t rfl d, if_neg (by
    rw [fresh_dg, Bool.not_eq_true, Bool.or_eq_false_iff]; exact ⟨beq_false_of_ne (by omega), beq_false_of_ne (by omega)⟩)]
  dsimp only [dats]

/-- What a point leaves, by its kind. -/
theorem bodySt_first (t : Fin cfg0.N) (h : t.val = 0) (X : Ins F) (S : Outs F) : bodySt (grid0.coords t) X S = midSt (grid0.coords t) X (clearSt S) := by
  unfold bodySt
  simp only [if_pos ((cond1 t).mpr h), if_neg fun h2 => absurd ((cond2 t).mp h2) (by omega), if_neg fun h3 => absurd ((cond3 t).mp h3) (by omega)]
theorem bodySt_mid (t : Fin cfg0.N) (h : t.val ≠ 0) (h2 : ¬t.val % 4 = 3) (X : Ins F) (S : Outs F) : bodySt (grid0.coords t) X S = midSt (grid0.coords t) X S := by
  unfold bodySt
  simp only [if_neg fun h1 => h ((cond1 t).mp h1), if_neg fun h2' => h2 ((cond2 t).mp h2'), if_neg fun h3 => absurd ((cond3 t).mp h3) (by omega)]
theorem bodySt_col (t : Fin cfg0.N) (h2 : t.val % 4 = 3) (h3 : t.val ≠ 31) (X : Ins F) (S : Outs F) :
    bodySt (grid0.coords t) X S = lastColSt X (midSt (grid0.coords t) X S) := by
  unfold bodySt
  simp only [if_neg fun h1 => absurd ((cond1 t).mp h1) (by omega), if_pos ((cond2 t).mpr h2), if_neg fun h3' => h3 ((cond3 t).mp h3')]
theorem bodySt_end (t : Fin cfg0.N) (h3 : t.val = 31) (X : Ins F) (S : Outs F) :
    bodySt (grid0.coords t) X S = { lastColSt X (midSt (grid0.coords t) X S) with dw := dwAll (awAll (grid0.coords t) X S.aw) } := by
  unfold bodySt
  simp only [if_neg fun h1 => absurd ((cond1 t).mp h1) (by omega), if_pos ((cond2 t).mpr (by omega)), if_pos ((cond3 t).mpr h3)]
  rfl

/-! ## The body's obligation -/

theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- Before the first point. -/
theorem PhiS_zero (c : Dev nD) (n : ℕ) (h : n ≤ cfg0.N) (hz : n = 0) : PhiS m c n h = Pipeline.ΦA spec0 c := by subst hz; rfl

/-- Before a point that is not the first. -/
theorem PhiS_pos (c : Dev nD) (n : ℕ) (h : n ≤ cfg0.N) (hz : n ≠ 0) :
    PhiS m c n h = iprop(iprop((∃ d, owns (c : Thread nD τ) (Memref.whole cc0_scratch0) fullShare d) ∗ owns (c : Thread nD τ) (Memref.whole cc0_scratch1) fullShare (aws m c (n - 1) (by omega))
      ∗ owns (c : Thread nD τ) (Memref.whole cc0_scratch2) fullShare (ahs m c (n - 1) (by omega)) ∗ (∃ d, owns (c : Thread nD τ) (Memref.whole cc0_scratch3) fullShare d)) ∗ (∃ r, prngReg c r)) := by
  cases n with
  | zero => exact absurd rfl hz
  | succ n => rfl

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t)

set_option maxHeartbeats 40000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = iprop(iprop((∃ d, owns (c : Thread nD τ) (Memref.whole cc0_scratch0) fullShare d)
      ∗ owns (c : Thread nD τ) (Memref.whole cc0_scratch1) fullShare (aws m c t.val t.isLt) ∗ owns (c : Thread nD τ) (Memref.whole cc0_scratch2) fullShare (ahs m c t.val t.isLt)
      ∗ (∃ d, owns (c : Thread nD τ) (Memref.whole cc0_scratch3) fullShare d)) ∗ (∃ r, prngReg c r)) from rfl]
  rw [leaves_live m c 0 t (live_in 0 (by decide) t), leaves_live m c 1 t (live_in 1 (by decide) t), leaves_live m c 2 t (live_in 2 (by decide) t), leaves_live m c 3 t (live_in 3 (by decide) t), leaves_live m c 4 t (live_in 4 (by decide) t), leaves_live m c 5 t (live_in 5 (by decide) t), leaves_live m c 6 t (live_in 6 (by decide) t), leaves_live m c 7 t (live_in 7 (by decide) t), leaves_live m c 8 t (live_in 8 (by decide) t), leaves_live m c 9 t (live_in 9 (by decide) t), leaves_live m c 10 t (live_in 10 (by decide) t), leaves_live m c 11 t (live_in 11 (by decide) t), leaves_live m c 15 t (live_in 15 (by decide) t),
    after0_0, after0_1, after0_2, after0_3, after0_4, after0_5, after0_6, after0_7, after0_8, after0_9, after0_10, after0_11, after0_15, Phi_castSucc]
  by_cases h2 : t.val % 4 = 3
  · have hz : t.val ≠ 0 := by omega
    rw [leaves_live m c 12 t (live_out 12 (by decide) t h2), leaves_live m c 13 t (live_out 13 (by decide) t h2), leaves_live m c 14 t (live_out 14 (by decide) t h2),
      after0_12, after0_13, after0_14, dgs_last m c t h2, ahs_next m c t hz, aws_next m c t hz, PhiS_pos m c _ _ hz]
    simp only [before_dg m c t h2]
    by_cases h3 : t.val = 31
    · rw [leaves_live m c 16 t (live_dw t h3), after0_16, aws_next m c t hz]
      iintro ⟨⟨⟨⟨%dA, HA⟩, HW, HH, ⟨%dT, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (run_point c t (ins m c t) ⟨_, _, _, _, _, dA, _, _, dT⟩ _)
      isplitl [HA HW HH HT H0 H1 H2 H3 H4 H5 H6 H7 H8 H9 H10 H11 H12 H13 H14 H15 H16]
      · unfold held
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HA]; · iexact HA
        isplitl [HW]; · iexact HW
        isplitl [HH]; · iexact HH
        isplitl [HT]; · iexact HT
        iempintro
      rw [bodySt_end t h3]
      unfold held
      dsimp only [midSt, lastColSt, clearSt]
      iintro ⟨H0, H1, H2, H3, H4, H5, H6, H7, H8, H9, H10, H11, H12, H13, H14, H15, H16, HA, HW, HH, HT, -⟩
      isplitl [HA HW HH HT Hg]
      · isplitl [HA HW HH HT]
        · isplitl [HA]; · iexists _; iexact HA
          isplitl [HW]; · iexact HW
          isplitl [HH]; · iexact HH
          iexists _; iexact HT
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · rw [Dat.leavesExact_idle (dats m 0 c) 16 t (idle_dw t h3).1 (idle_dw t h3).2]
      iintro ⟨⟨⟨⟨%dA, HA⟩, HW, HH, ⟨%dT, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (run_point c t (ins m c t) ⟨_, _, _, _, _, dA, _, _, dT⟩ _)
      isplitl [HA HW HH HT H0 H1 H2 H3 H4 H5 H6 H7 H8 H9 H10 H11 H12 H13 H14 H15 H16]
      · unfold held
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HA]; · iexact HA
        isplitl [HW]; · iexact HW
        isplitl [HH]; · iexact HH
        isplitl [HT]; · iexact HT
        iempintro
      rw [bodySt_col t h2 h3]
      unfold held
      dsimp only [midSt, lastColSt, clearSt]
      iintro ⟨H0, H1, H2, H3, H4, H5, H6, H7, H8, H9, H10, H11, H12, H13, H14, H15, H16, HA, HW, HH, HT, -⟩
      isplitl [HA HW HH HT Hg]
      · isplitl [HA HW HH HT]
        · isplitl [HA]; · iexists _; iexact HA
          isplitl [HW]; · iexact HW
          isplitl [HH]; · iexact HH
          iexists _; iexact HT
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexists _; iexact H16
  · rw [Dat.leavesExact_idle (dats m 0 c) 12 t (idle_out 12 (by decide) t h2).1 (idle_out 12 (by decide) t h2).2,
      Dat.leavesExact_idle (dats m 0 c) 13 t (idle_out 13 (by decide) t h2).1 (idle_out 13 (by decide) t h2).2,
      Dat.leavesExact_idle (dats m 0 c) 16 t (idle_dw t (by omega)).1 (idle_dw t (by omega)).2]
    by_cases hz : t.val = 0
    · rw [leaves_live m c 14 t (live_dg t hz), after0_14, PhiS_zero m c _ _ hz, PhiA_eq, dgs_zero m c _ _ hz, aws_first m c t hz]
      iintro ⟨⟨⟨⟨%dA, HA⟩, ⟨%dW, HW⟩, ⟨%dH, HH⟩, ⟨%dT, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      rw [ahs_first m c t (by omega) dH]
      iapply (run_point c t (ins m c t) ⟨_, _, _, _, _, dA, _, _, dT⟩ _)
      isplitl [HA HW HH HT H0 H1 H2 H3 H4 H5 H6 H7 H8 H9 H10 H11 H12 H13 H14 H15 H16]
      · unfold held
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HA]; · iexact HA
        isplitl [HW]; · iexact HW
        isplitl [HH]; · iexact HH
        isplitl [HT]; · iexact HT
        iempintro
      rw [bodySt_first t hz]
      unfold held
      dsimp only [midSt, lastColSt, clearSt]
      iintro ⟨H0, H1, H2, H3, H4, H5, H6, H7, H8, H9, H10, H11, H12, H13, H14, H15, H16, HA, HW, HH, HT, -⟩
      isplitl [HA HW HH HT Hg]
      · isplitl [HA HW HH HT]
        · isplitl [HA]; · iexists _; iexact HA
          isplitl [HW]; · iexact HW
          isplitl [HH]; · iexact HH
          iexists _; iexact HT
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexact H14
      isplitl [H15]; · iexact H15
      iexists _; iexact H16
    · rw [Dat.leavesExact_idle (dats m 0 c) 14 t (idle_dg t hz h2).1 (idle_dg t hz h2).2, ahs_next m c t hz, aws_next m c t hz, PhiS_pos m c _ _ hz]
      iintro ⟨⟨⟨⟨%dA, HA⟩, HW, HH, ⟨%dT, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (run_point c t (ins m c t) ⟨_, _, _, _, _, dA, _, _, dT⟩ _)
      isplitl [HA HW HH HT H0 H1 H2 H3 H4 H5 H6 H7 H8 H9 H10 H11 H12 H13 H14 H15 H16]
      · unfold held
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HA]; · iexact HA
        isplitl [HW]; · iexact HW
        isplitl [HH]; · iexact HH
        isplitl [HT]; · iexact HT
        iempintro
      rw [bodySt_mid t hz h2]
      unfold held
      dsimp only [midSt, lastColSt, clearSt]
      iintro ⟨H0, H1, H2, H3, H4, H5, H6, H7, H8, H9, H10, H11, H12, H13, H14, H15, H16, HA, HW, HH, HT, -⟩
      isplitl [HA HW HH HT Hg]
      · isplitl [HA HW HH HT]
        · isplitl [HA]; · iexists _; iexact HA
          isplitl [HW]; · iexact HW
          isplitl [HH]; · iexact HH
          iexists _; iexact HT
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexact H15
      iexists _; iexact H16

/-! ## The run -/

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-- What the launch hands the region is the invariant before the first point, -/
theorem hin (c : Dev nD) : Pipeline.ΦA spec0 c ⊢ (dats m 0 c).Φ 0 := Idealize.SL.BI.Entails.refl _

/-- and the invariant after the last gives it back. -/
theorem hout (c : Dev nD) : (dats m 0 c).Φ (Fin.last cfg0.N) ⊢ Pipeline.ΦA spec0 c := by
  have hN : cfg0.N = 32 := N_0
  rw [show (dats m 0 c).Φ (Fin.last cfg0.N) = PhiS m c cfg0.N (Nat.le_refl _) from rfl, PhiS_pos m c _ _ (by omega), PhiA_eq]
  iintro ⟨⟨HA, HW, HH, HT⟩, Hg⟩
  isplitl [HA HW HH HT]
  · isplitl [HA]; · iexact HA
    isplitl [HW]; · iexists _; iexact HW
    isplitl [HH]; · iexists _; iexact HH
    iexact HT
  iexact Hg

set_option backward.isDefEq.respectTransparency.types false in
/-- Every execution ends with the arrays at what the proof data says, and the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.FfnKernelIdeal.Run

end
-- ==== Proof.Ffn.Spec.lean ====
/- The gradients of the feed-forward block (row norm, up-projection, short convolution, gated product, down-projection), over the real numbers. Rows and
   columns are natural numbers; outside the arrays the entries are not used. -/
module

public import proofs.«01_k».proof.Proof.RmsNorm
public import Mathlib.Analysis.SpecialFunctions.Trigonometric.DerivHyp

@[expose] public section

noncomputable section

namespace Cert.Ffn

open Cert.RmsNorm Cert.Reals Idealize.ShloMosaic

/-! ## The gate -/

/-- The factor within the tangent, the number that the printed word is. -/
def gc : ℝ := 13386282 / 2 ^ 24

theorem wgc : Ideal.ofBits .f32 0x3F4C422A#32 = (gc : EReal) := by
  simp [Ideal.ofBits, Ideal.ieee, gc]; rw [← EReal.coe_mul]; norm_num

/-- The factor of the cube. -/
def ga : ℝ := 8943 / 200000

/-- The tangent. -/
def th (v : ℝ) : ℝ := Real.tanh (gc * (v + ga * v * (v * v)))

/-- The gate's function, -/
def gelu (v : ℝ) : ℝ := v * (1 / 2 * (1 + th v))

/-- and its derivative. -/
def dgelu (v : ℝ) : ℝ := 1 / 2 * (1 + th v) + 1 / 2 * v * (1 - th v * th v) * (gc * (1 + 3 * ga * (v * v)))

/-! ## The block -/

/-- The arrays of one device: the residual stream's rows, the norm's scale, the up-projection, the convolution's taps, the down-projection, the
    cotangent. -/
structure In where
  x : ℕ → ℕ → ℝ
  g : ℕ → ℝ
  w : ℕ → ℕ → ℝ
  cw : ℕ → ℕ → ℝ
  wd : ℕ → ℕ → ℝ
  dx3 : ℕ → ℕ → ℝ

variable (A : In)

/-- A row of the residual stream. -/
def row (s : ℕ) (k : Fin 1024) : ℝ := A.x s k.val

/-- The normalised row. -/
def n (s e : ℕ) : ℝ := A.x s e * rstd (row A s)

/-- The up-projection, -/
def p (s f : ℕ) : ℝ := ∑ e : Fin 1024, n A s e * A.g e * A.w e f

/-- with two rows of zeros before it, -/
def pz (s f : ℕ) : ℝ := if s < 2 then 0 else p A (s - 2) f

/-- and its convolution. -/
def u (s f : ℕ) : ℝ := pz A s f * A.cw 0 f + pz A (s + 1) f * A.cw 1 f + pz A (s + 2) f * A.cw 2 f

/-- The cotangent of the gated product. -/
def a (s f : ℕ) : ℝ := ∑ e : Fin 1024, A.dx3 s e * A.wd f e

/-- The cotangent of the convolution: its first half (the gate's) and its second (the other factor's), zero after the last row. -/
def du (h s f : ℕ) : ℝ :=
  if s < 4096 then (if h = 0 then a A s f * u A s (3072 + f) * dgelu (u A s f) else a A s f * gelu (u A s f)) else 0

/-- The cotangent of the up-projection. -/
def dp (h s f : ℕ) : ℝ := A.cw 2 (3072 * h + f) * du A h s f + A.cw 0 (3072 * h + f) * du A h (s + 2) f + A.cw 1 (3072 * h + f) * du A h (s + 1) f

/-- A row's part in the gradient of a tap, -/
def dwT (h k f s : ℕ) : ℝ := du A h (s + 2 - k) f * p A s (3072 * h + f)

/-- and that gradient. -/
def dw (h k f : ℕ) : ℝ := ∑ s ∈ Finset.range 4096, dwT A h k f s

/-- A column's part in the cotangent of the norm's output, -/
def dhT (s e f : ℕ) : ℝ := dp A 0 s f * A.w e f + dp A 1 s f * A.w e (3072 + f)

/-- and that cotangent. -/
def dh (s e : ℕ) : ℝ := ∑ f ∈ Finset.range 3072, dhT A s e f

/-- The gradient of the residual stream. -/
def dx (s : ℕ) (e : Fin 1024) : ℝ := A.dx3 s e + grad (row A s) (fun k => dh A s k * A.g k) e

/-- The gradient of the norm's scale. -/
def dg (e : ℕ) : ℝ := ∑ s ∈ Finset.range 4096, dh A s e * n A s e

end Cert.Ffn

end
-- ==== Proof.Ffn.Read.lean ====
/- The payloads of the feed-forward block's backward kernel, read at an index over the extended reals, and at the arrays' blocks. -/
module

public import proofs.«01_k».proof.Proof.Ffn.Eval
public import proofs.«01_k».proof.Proof.Ffn.Spec
public import Idealize.ShloMosaic.Lib.KernelVsHost

@[expose] public section

set_option maxRecDepth 16384

noncomputable section

namespace Cert.FfnKernelIdeal.Body

open Idealize.ShloMosaic Idealize.SL.Sem Cert.Straight Cert.FfnKernelIdeal.Gen Cert.Ffn Cert.Reals Cert.RmsNorm
open VecWindow (window put)

/-! ## Rows -/

/-- Rows `r0` to `r0 + n` stored over, read at an index. -/
theorem put_rows2 {a b n : ℕ} {Val : Type} (A : (⟨2, ![a, b]⟩ : Shape).Idx → Val) (r0 : ℕ) (w : (⟨2, ![n, b]⟩ : Shape).Idx → Val) (r : Fin a) (l : Fin b) :
    put A ![r0, 0] ![n, b] w (ix2 r l) = if hr : r0 ≤ r.val ∧ r.val < r0 + n then w (ix2 ⟨r.val - r0, by omega⟩ l) else A (ix2 r l) := by
  unfold put
  by_cases hr : r0 ≤ r.val ∧ r.val < r0 + n
  · rw [dif_pos hr, dif_pos]
    · refine congrArg w (funext fun c => Fin.ext ?_)
      fin_cases c <;> rfl
    · intro c
      fin_cases c
      · exact hr
      · exact ⟨Nat.zero_le _, by show l.val < 0 + b; omega⟩
  · rw [dif_neg hr, dif_neg]
    exact fun hh => hr (hh 0)

/-- Some rows of an array read at an index. -/
theorem window_rows2 {a b n : ℕ} {Val : Type} (A : (⟨2, ![a, b]⟩ : Shape).Idx → Val) (r0 : ℕ) (inb) (q : Fin n) (l : Fin b) (hq : r0 + q.val < a) :
    window A ![r0, 0] ![n, b] inb (ix2 q l) = A (ix2 ⟨r0 + q.val, hq⟩ l) := by
  refine congrArg A (funext fun c => Fin.ext ?_)
  fin_cases c
  · show r0 + 1 * q.val = r0 + q.val; omega
  · show 0 + 1 * l.val = l.val; omega

/-- The same of an array of three axes. -/
theorem window_rows3 {a b c n : ℕ} {Val : Type} (A : (⟨3, ![a, b, c]⟩ : Shape).Idx → Val) (h r0 : ℕ) (hh : h < a) (inb) (q : Fin n) (l : Fin c) (hq : r0 + q.val < b) :
    window A ![h, r0, 0] ![1, n, c] inb (ix3 (0 : Fin 1) q l) = A (ix3 ⟨h, hh⟩ ⟨r0 + q.val, hq⟩ l) := by
  refine congrArg A (funext fun d => Fin.ext ?_)
  fin_cases d
  · rfl
  · show r0 + 1 * q.val = r0 + q.val; omega
  · show 0 + 1 * l.val = l.val; omega

/-! ## The payloads -/

section Payloads

/-- The cotangent's rows: the block's and the sixteen after it. -/
def dxf (X : Ins Ideal) (r : Fin 528) (e : Fin 1024) : EReal :=
  if h : r.val < 512 then X.dxb (ix2 ⟨r.val, h⟩ e) else X.dxn (ix2 ⟨r.val - 512, by omega⟩ e)

theorem pay43_apply (X : Ins Ideal) (r : Fin 528) (e : Fin 1024) : k0_pay43 X.dxb X.dxn (ix2 r e) = dxf X r e := by
  pointwise [k0_pay43]
  rfl

/-- The cotangent of the gated product, in the rows of the block and the sixteen after it. -/
theorem daF_apply (X : Ins Ideal) (r : Fin 528) (l : Fin 768) : daF X (ix2 r l) = ∑ e, (dxf X r e : EReal) * (X.wd (ix2 l e) : EReal) := by
  unfold daF daOf
  refine (put_rows2 _ _ _ _ _).trans ?_
  split
  · pointwise [k0_pay47]
    simp only [pay43_apply]
  · refine (put_rows2 _ _ _ _ _).trans ?_
    rw [dif_pos (by omega)]
    pointwise [k0_pay46, k0_pay45, k0_pay44]
    simp only [pay43_apply]
    refine Finset.sum_congr rfl fun x _ => congrArg (fun k => dxf X k x * X.wd (ix2 l x)) (Fin.ext ?_)
    show 256 + (r.val - 256) = r.val; omega

/-- Sixteen rows moved up by one, the last the first of the next sixteen; -/
theorem pay105_apply (a b : FVec Ideal S16x768 .f32) (q : Fin 16) (l : Fin 768) :
    k0_pay105 a b (ix2 q l) = if h : q.val + 1 < 16 then b (ix2 ⟨q.val + 1, h⟩ l) else a (ix2 ⟨q.val - 15, by omega⟩ l) := by
  pointwise [k0_pay105]
  by_cases h : q.val + 1 < 16
  · rw [dif_pos h, dif_pos (by omega)]
    exact congrArg (fun k => b (ix2 k l)) (Fin.ext (by show (q.val + 32 - 31) % 32 = q.val + 1; omega))
  · rw [dif_neg h, dif_neg (by omega)]
    exact congrArg (fun k => a (ix2 k l)) (Fin.ext (by show (q.val + 32 - 31) % 32 - 16 = q.val - 15; omega))

/-- and by two. -/
theorem pay106_apply (a b : FVec Ideal S16x768 .f32) (q : Fin 16) (l : Fin 768) :
    k0_pay106 a b (ix2 q l) = if h : q.val + 2 < 16 then b (ix2 ⟨q.val + 2, h⟩ l) else a (ix2 ⟨q.val - 14, by omega⟩ l) := by
  pointwise [k0_pay106]
  by_cases h : q.val + 2 < 16
  · rw [dif_pos h, dif_pos (by omega)]
    exact congrArg (fun k => b (ix2 k l)) (Fin.ext (by show (q.val + 32 - 30) % 32 = q.val + 2; omega))
  · rw [dif_neg h, dif_neg (by omega)]
    exact congrArg (fun k => a (ix2 k l)) (Fin.ext (by show (q.val + 32 - 30) % 32 - 16 = q.val - 14; omega))

theorem pay107_apply (a b c : FVec Ideal S16x768 .f32) (t2 t0 t1 : Vec Ideal S1x1x16x768 .f32) (q : Fin 16) (l : Fin 768) :
    k0_pay107 a b c t2 t0 t1 (ix2 q l) = ((t2 (ix4 0 0 q l) : EReal) * (b (ix2 q l) : EReal) + (t0 (ix4 0 0 q l) : EReal) * (k0_pay106 a b (ix2 q l) : EReal)
      + (t1 (ix4 0 0 q l) : EReal) * (c (ix2 q l) : EReal) : EReal) := by
  pointwise [k0_pay107]
theorem pay108_apply (a b c : FVec Ideal S16x768 .f32) (t2 t0 t1 : Vec Ideal S1x1x16x768 .f32) (q : Fin 16) (l : Fin 768) :
    k0_pay108 a b c t2 t0 t1 (ix3 0 q l) = k0_pay107 a b c t2 t0 t1 (ix2 q l) := by
  pointwise [k0_pay108]
theorem pay37_apply (v : Vec Ideal S1x1x768 .f32) (q : Fin 16) (l : Fin 768) : k0_pay37 v (ix4 0 0 q l) = v (ix3 0 0 l) := by
  pointwise [k0_pay37]
theorem pay109_apply (v : Vec Ideal S1x16x768 .bf16) (q : Fin 16) (l : Fin 768) : k0_pay109 v (ix2 q l) = v (ix3 0 q l) := by
  pointwise [k0_pay109]
theorem pay89_apply (v : Vec Ideal S1x16x768 .bf16) (q : Fin 16) (l : Fin 768) : k0_pay89 v (ix2 q l) = v (ix3 0 q l) := by
  pointwise [k0_pay89]
theorem pay48_apply (s : Ideal .f32) (v : Vec Ideal S16x768 .f32) (q : Fin 16) (l : Fin 768) : k0_pay48 s v (ix2 q l) = ((v (ix2 q l) : EReal) * s : EReal) := by
  pointwise [k0_pay48]

/-- The gate's tangent at a real number. -/
theorem tanh_coe (v : ℝ) : Ideal.tanh (Ideal.ofBits .f32 0x3F4C422A#32 * ((v : EReal) + Named.named (F := Ideal) κ "gelu_a" (φ := .f32) 0x3D372713#32 * (v : EReal) * ((v : EReal) * (v : EReal))))
    = (th v : EReal) := by
  rw [wgc, show Named.named (F := Ideal) κ "gelu_a" (φ := .f32) 0x3D372713#32 = (ga : EReal) from rfl]
  simp only [← EReal.coe_mul, ← EReal.coe_add]
  rfl

/-- The second factor's cotangent. -/
theorem pay94_apply (d : FVec Ideal S16x768 .f32) (v : Vec Ideal S1x16x768 .bf16) (q : Fin 16) (l : Fin 768) (y : ℝ) (hv : v (ix3 0 q l) = (y : EReal)) :
    k0_pay94 d v (ix2 q l) = ((d (ix2 q l) : EReal) * (gelu y : EReal) : EReal) := by
  pointwise [k0_pay94, k0_pay92, k0_pay91, k0_pay90, pay89_apply]
  rw [hv, tanh_coe, whalf, ← EReal.coe_one]
  simp only [← EReal.coe_mul, ← EReal.coe_add]
  rfl

/-- The gate's input's. -/
theorem pay93_apply (d : FVec Ideal S16x768 .f32) (v w : Vec Ideal S1x16x768 .bf16) (q : Fin 16) (l : Fin 768) (y : ℝ) (hv : v (ix3 0 q l) = (y : EReal)) :
    k0_pay93 d v w (ix2 q l) = ((d (ix2 q l) : EReal) * (w (ix3 0 q l) : EReal) * (dgelu y : EReal) : EReal) := by
  pointwise [k0_pay93, k0_pay92, k0_pay91, k0_pay90, pay89_apply]
  rw [hv, tanh_coe, whalf, wgc, ← EReal.coe_one, show Named.named (F := Ideal) κ "gelu_a3" (φ := .f32) 0x3E095D4F#32 = ((3 * ga : ℝ) : EReal) from
    congrArg ((↑) : ℝ → EReal) (by unfold ga; norm_num : (26829 / 200000 : ℝ) = 3 * ga)]
  simp only [← EReal.coe_mul, ← EReal.coe_add, ← EReal.coe_sub]
  rfl

theorem pay103_apply (d p : FVec Ideal S16x768 .f32) (o : Vec Ideal S1x1x1x8x768 .f32) (q : Fin 8) (l : Fin 768) :
    k0_pay103 d p o (ix5 0 0 0 q l) = ((o (ix5 0 0 0 q l) : EReal) + ((d (ix2 ⟨q.val, by omega⟩ l) : EReal) * (p (ix2 ⟨q.val, by omega⟩ l) : EReal)
      + (d (ix2 ⟨8 + q.val, by omega⟩ l) : EReal) * (p (ix2 ⟨8 + q.val, by omega⟩ l) : EReal)) : EReal) := by
  pointwise [k0_pay103]
theorem pay7_apply (o : Vec Ideal S1x1x1x8x768 .f32) (l : Fin 768) : k0_pay7 o (ix3 0 0 l) = ∑ q, (o (ix5 0 0 0 q l) : EReal) := by
  pointwise [k0_pay7]

/-- The halo counts but at the last rows. -/
theorem pay36_eq (i : grid0.Coords) : k0_pay36 (F := Ideal) i = if (i 0).val = 7 then (0 : EReal) else (1 : EReal) := by
  have hb : Scalar.cmpi .eq (BitVec.ofNat 32 (i 0).val) 7#32 = if (i 0).val = 7 then 1#1 else 0#1 := by
    have h : ∀ k : Fin 8, Scalar.cmpi .eq (BitVec.ofNat 32 k.val) 7#32 = if k.val = 7 then 1#1 else 0#1 := by decide
    exact h (i 0)
  show Scalar.select (Scalar.cmpi .eq (BitVec.ofNat 32 (i 0).val) 7#32) (Ideal.ofBits .f32 0x00000000#32) (Ideal.ofBits .f32 0x3F800000#32) = _
  rw [hb]
  by_cases h : (i 0).val = 7
  · rw [if_pos h, if_pos h]; exact wzero
  · rw [if_neg h, if_neg h]; exact wone

/-- Sixteen pieces of sixteen rows one after the other. -/
theorem concat16_apply (f : Fin 16 → FVec Ideal S16x768 .bf16) (h) (r : Fin 256) (l : Fin 768) :
    concatenate S256x768 0 (List.ofFn fun k : Fin 16 => (⟨S16x768, f k⟩ : (s : Shape) × (s.Idx → Ideal .bf16))) h (ix2 r l)
      = f ⟨r.val / 16, by omega⟩ (ix2 ⟨r.val % 16, by omega⟩ l) :=
  concatenate_ofFn_apply (α := Ideal .bf16) 0 f h rfl 16 rfl (ix2 r l) ⟨r.val / 16, by omega⟩ rfl (ix2 ⟨r.val % 16, by omega⟩ l) rfl fun b hb => by
    fin_cases b
    · exact absurd rfl hb
    · rfl

/-- Two products and an addend, read at an index. -/
theorem prods_apply (C D : FVec Ideal S256x768 .bf16) (wg wu : Vec Ideal S1x1024x768 .bf16) (b : BitVec 1) (old : Vec Ideal S256x1024 .f32) (r : Fin 256) (c : Fin 1024) :
    shapeCast S256x1024 (addf (addf
        (matmul dot_S256x768_S1024x768_S256x1024_1_1_0_0_n_n none C (shapeCast S1024x768 wg shapeCasts_S1x1024x768_S1024x768 : FVec Ideal S1024x768 .bf16) (constant S256x1024 .f32 0x00000000#32))
        (matmul dot_S256x768_S1024x768_S256x1024_1_1_0_0_n_n none D (shapeCast S1024x768 wu shapeCasts_S1x1024x768_S1024x768 : FVec Ideal S1024x768 .bf16) (constant S256x1024 .f32 0x00000000#32)))
        (Scalar.select b old (broadcast S256x1024 (FloatOps.ofBits (F := Ideal) .f32 0x00000000#32)))) shapeCasts_S256x1024_S256x1024 (ix2 r c)
      = ((∑ l, (C (ix2 r l) : EReal) * (wg (ix3 0 c l) : EReal)) + (∑ l, (D (ix2 r l) : EReal) * (wu (ix3 0 c l) : EReal))
        + (Scalar.select b old (broadcast S256x1024 (FloatOps.ofBits (F := Ideal) .f32 0x00000000#32)) (ix2 r c) : EReal) : EReal) := by
  pointwise []

/-- A group's product: both halves' rows times the up-projection's columns, added to what was there but at the first column of blocks. -/
theorem groupPay_apply (i : grid0.Coords) (e : ℕ → FVec Ideal S16x768 .bf16 × FVec Ideal S16x768 .bf16) (wg wu : Vec Ideal S1x1024x768 .bf16) (old : Vec Ideal S256x1024 .f32)
    (r : Fin 256) (c : Fin 1024) : groupPay i e wg wu old (ix2 r c)
      = ((∑ l, ((e (r.val / 16)).1 (ix2 ⟨r.val % 16, by omega⟩ l) : EReal) * (wg (ix3 0 c l) : EReal))
        + (∑ l, ((e (r.val / 16)).2 (ix2 ⟨r.val % 16, by omega⟩ l) : EReal) * (wu (ix3 0 c l) : EReal))
        + (if (i 1).val = 0 then (0 : EReal) else (old (ix2 r c) : EReal)) : EReal) := by
  have hb : Scalar.cmpi .sgt (BitVec.ofNat 32 (i 1).val) 0#32 = if (i 1).val = 0 then 0#1 else 1#1 := by
    have h : ∀ k : Fin 4, Scalar.cmpi .sgt (BitVec.ofNat 32 k.val) 0#32 = if k.val = 0 then 0#1 else 1#1 := by decide
    exact h (i 1)
  have e1 (h) (l : Fin 768) := concat16_apply (fun k => (e k.val).1) h r l
  have e2 (h) (l : Fin 768) := concat16_apply (fun k => (e k.val).2) h r l
  unfold groupPay k0_pay488
  rw [hb]
  refine (prods_apply _ _ _ _ _ _ _ _).trans ?_
  refine congrArg₂ (· + ·) (congrArg₂ (· + ·) (Finset.sum_congr rfl fun l _ => ?_) (Finset.sum_congr rfl fun l _ => ?_)) ?_
  · exact congrArg (· * (wg (ix3 0 c l) : EReal)) (e1 _ l)
  · exact congrArg (· * (wu (ix3 0 c l) : EReal)) (e2 _ l)
  · by_cases h : (i 1).val = 0
    · rw [if_pos h, if_pos h]; exact wzero
    · rw [if_neg h, if_neg h]; rfl

end Payloads

end Cert.FfnKernelIdeal.Body

end
-- ==== Proof.Ffn.Block.lean ====
/- What one point of the feed-forward block's backward kernel computes at the arrays' blocks: the gradient at the projection, what it adds to the
   product's accumulator and to the taps' partial rows. -/
module

public import proofs.«01_k».proof.Proof.Ffn.Read

@[expose] public section

set_option maxRecDepth 16384

noncomputable section

namespace Cert.FfnKernelIdeal.Body

open Idealize.ShloMosaic Idealize.SL.Sem Cert.Straight Cert.FfnKernelIdeal.Gen Cert.Ffn Cert.Reals Cert.RmsNorm
open VecWindow (window put)

/-- The blocks hold the arrays `A` at the point `i`; the halo after the last rows may hold anything. -/
structure BlockOf (A : In) (i : grid0.Coords) (X : Ins Ideal) : Prop where
  dxb : ∀ (r : Fin 512) (e : Fin 1024), X.dxb (ix2 r e) = (A.dx3 (512 * (i 0).val + r.val) e.val : EReal)
  dxn : (i 0).val ≠ 7 → ∀ (r : Fin 16) (e : Fin 1024), X.dxn (ix2 r e) = (A.dx3 (512 * (i 0).val + (512 + r.val)) e.val : EReal)
  wd : ∀ (l : Fin 768) (e : Fin 1024), X.wd (ix2 l e) = (A.wd (768 * (i 1).val + l.val) e.val : EReal)
  p : ∀ (h : Fin 2) (r : Fin 512) (l : Fin 768), X.p (ix3 h r l) = (p A (512 * (i 0).val + r.val) (3072 * h.val + (768 * (i 1).val + l.val)) : EReal)
  u : ∀ (h : Fin 2) (r : Fin 512) (l : Fin 768), X.u (ix3 h r l) = (u A (512 * (i 0).val + r.val) (3072 * h.val + (768 * (i 1).val + l.val)) : EReal)
  un : (i 0).val ≠ 7 → ∀ (h : Fin 2) (r : Fin 16) (l : Fin 768),
    X.un (ix3 h r l) = (Ffn.u A (512 * (i 0).val + (512 + r.val)) (3072 * h.val + (768 * (i 1).val + l.val)) : EReal)
  un' : ∀ (h : Fin 2) (r : Fin 16) (l : Fin 768), ∃ y : ℝ, X.un (ix3 h r l) = (y : EReal)
  fw : ∀ (h : Fin 2) (k : Fin 3) (l : Fin 768), X.fw (ix3 h k l) = (A.cw k.val (3072 * h.val + (768 * (i 1).val + l.val)) : EReal)
  wg : ∀ (e : Fin 1024) (l : Fin 768), X.wg (ix3 0 e l) = (A.w e.val (768 * (i 1).val + l.val) : EReal)
  wu : ∀ (e : Fin 1024) (l : Fin 768), X.wu (ix3 0 e l) = (A.w e.val (3072 + (768 * (i 1).val + l.val)) : EReal)
  x2 : ∀ (r : Fin 512) (e : Fin 1024), X.x2 (ix2 r e) = (A.x (512 * (i 0).val + r.val) e.val : EReal)
  g : ∀ e : Fin 1024, X.g (ix2 0 e) = (A.g e.val : EReal)
  dx3 : ∀ (r : Fin 512) (e : Fin 1024), X.dx3 (ix2 r e) = (A.dx3 (512 * (i 0).val + r.val) e.val : EReal)

section

variable {A : In} {i : grid0.Coords} {X : Ins Ideal} (H : BlockOf A i X)
include H

/-! ## The cotangents -/

theorem dxf_apply (r : Fin 528) (hr : r.val < 512 ∨ (i 0).val ≠ 7) (e : Fin 1024) : dxf X r e = (A.dx3 (512 * (i 0).val + r.val) e.val : EReal) := by
  unfold dxf
  split
  · exact H.dxb _ _
  · next h =>
    rw [H.dxn (by omega)]
    show (A.dx3 (512 * (i 0).val + (512 + (r.val - 512))) e.val : EReal) = _
    rw [show 512 + (r.val - 512) = r.val by omega]

theorem daF_real (r : Fin 528) (hr : r.val < 512 ∨ (i 0).val ≠ 7) (l : Fin 768) :
    daF X (ix2 r l) = (a A (512 * (i 0).val + r.val) (768 * (i 1).val + l.val) : EReal) := by
  rw [daF_apply]
  simp only [dxf_apply H r hr, H.wd, ← EReal.coe_mul, ← coe_sum]
  rfl

/-- Sixteen rows of the cotangent at the gate's input, -/
theorem duG_apply (r : ℕ) (hr : r + 16 ≤ 512 ∨ r = 512) (q : Fin 16) (l : Fin 768) :
    duG i X r (ix2 q l) = (du A 0 (512 * (i 0).val + (r + q.val)) (768 * (i 1).val + l.val) : EReal) := by
  have hi : (i 0).val < 8 := (i 0).isLt
  have hq : q.val < 16 := q.isLt
  unfold duG du
  split
  · next h =>
    have e0 : ∀ inb, window X.u ![0, r, 0] S1x16x768.size inb (ix3 0 q l) = (u A (512 * (i 0).val + (r + q.val)) (768 * (i 1).val + l.val) : EReal) := fun inb => by
      refine (window_rows3 X.u 0 r (by decide) inb q l (by omega)).trans ((H.u _ _ _).trans ?_)
      rw [show 3072 * (⟨0, by decide⟩ : Fin 2).val + (768 * (i 1).val + l.val) = 768 * (i 1).val + l.val by simp]
    have e1 : ∀ inb, window X.u ![1, r, 0] S1x16x768.size inb (ix3 0 q l) = (u A (512 * (i 0).val + (r + q.val)) (3072 + (768 * (i 1).val + l.val)) : EReal) := fun inb =>
      (window_rows3 X.u 1 r (by decide) inb q l (by omega)).trans (H.u _ _ _)
    have e2 : ∀ inb, window (daF X) ![r, 0] S16x768.size inb (ix2 q l) = (a A (512 * (i 0).val + (r + q.val)) (768 * (i 1).val + l.val) : EReal) := fun inb =>
      (window_rows2 (daF X) r inb q l (by omega)).trans (daF_real H _ (.inl (by show r + q.val < 512; omega)) _)
    rw [pay93_apply _ _ _ _ _ _ (e0 _), e1, e2, if_pos (by omega), if_pos rfl]
    simp only [← EReal.coe_mul]
  · next h =>
    obtain rfl : r = 512 := by omega
    have e0 : ∀ inb, window X.un ![0, 0, 0] S1x16x768.size inb (ix3 0 q l) = X.un (ix3 0 q l) := fun inb =>
      (window_rows3 X.un 0 0 (by decide) inb q l (by omega)).trans (congrArg (fun k => X.un (ix3 0 k l)) (Fin.ext (Nat.zero_add _)))
    have e1 : ∀ inb, window X.un ![1, 0, 0] S1x16x768.size inb (ix3 0 q l) = X.un (ix3 1 q l) := fun inb =>
      (window_rows3 X.un 1 0 (by decide) inb q l (by omega)).trans (congrArg (fun k => X.un (ix3 1 k l)) (Fin.ext (Nat.zero_add _)))
    have e2 : ∀ inb, window (daF X) ![512, 0] S16x768.size inb (ix2 q l) = daF X (ix2 ⟨512 + q.val, by omega⟩ l) := fun inb =>
      window_rows2 (daF X) 512 inb q l (by omega)
    by_cases h7 : (i 0).val = 7
    · obtain ⟨y, hy⟩ := H.un' 0 q l
      rw [pay93_apply _ _ _ _ _ _ ((e0 _).trans hy), pay48_apply, pay36_eq, if_pos h7, if_neg (by omega)]
      simp
    · rw [pay93_apply _ _ _ _ _ _ ((e0 _).trans (H.un h7 0 q l)), pay48_apply, pay36_eq, if_neg h7, e1, H.un h7, e2, daF_real H _ (.inr h7), if_pos (by omega), if_pos rfl, mul_one]
      simp only [← EReal.coe_mul]
      simp

/-- and of that at the second factor. -/
theorem duU_apply (r : ℕ) (hr : r + 16 ≤ 512 ∨ r = 512) (q : Fin 16) (l : Fin 768) :
    duU i X r (ix2 q l) = (du A 1 (512 * (i 0).val + (r + q.val)) (768 * (i 1).val + l.val) : EReal) := by
  have hi : (i 0).val < 8 := (i 0).isLt
  have hq : q.val < 16 := q.isLt
  unfold duU du
  split
  · next h =>
    have e0 : ∀ inb, window X.u ![0, r, 0] S1x16x768.size inb (ix3 0 q l) = (u A (512 * (i 0).val + (r + q.val)) (768 * (i 1).val + l.val) : EReal) := fun inb => by
      refine (window_rows3 X.u 0 r (by decide) inb q l (by omega)).trans ((H.u _ _ _).trans ?_)
      rw [show 3072 * (⟨0, by decide⟩ : Fin 2).val + (768 * (i 1).val + l.val) = 768 * (i 1).val + l.val by simp]
    have e2 : ∀ inb, window (daF X) ![r, 0] S16x768.size inb (ix2 q l) = (a A (512 * (i 0).val + (r + q.val)) (768 * (i 1).val + l.val) : EReal) := fun inb =>
      (window_rows2 (daF X) r inb q l (by omega)).trans (daF_real H _ (.inl (by show r + q.val < 512; omega)) _)
    rw [pay94_apply _ _ _ _ _ (e0 _), e2, if_pos (by omega), if_neg (by decide)]
    simp only [← EReal.coe_mul]
  · next h =>
    obtain rfl : r = 512 := by omega
    have e0 : ∀ inb, window X.un ![0, 0, 0] S1x16x768.size inb (ix3 0 q l) = X.un (ix3 0 q l) := fun inb =>
      (window_rows3 X.un 0 0 (by decide) inb q l (by omega)).trans (congrArg (fun k => X.un (ix3 0 k l)) (Fin.ext (Nat.zero_add _)))
    have e2 : ∀ inb, window (daF X) ![512, 0] S16x768.size inb (ix2 q l) = daF X (ix2 ⟨512 + q.val, by omega⟩ l) := fun inb =>
      window_rows2 (daF X) 512 inb q l (by omega)
    by_cases h7 : (i 0).val = 7
    · obtain ⟨y, hy⟩ := H.un' 0 q l
      rw [pay94_apply _ _ _ _ _ ((e0 _).trans hy), pay48_apply, pay36_eq, if_pos h7, if_neg (by omega)]
      simp
    · rw [pay94_apply _ _ _ _ _ ((e0 _).trans (H.un h7 0 q l)), pay48_apply, pay36_eq, if_neg h7, e2, daF_real H _ (.inr h7), if_pos (by omega), if_neg (by decide), mul_one]
      simp only [← EReal.coe_mul]
      simp

/-! ## The gradient at the projection -/

/-- Sixteen rows `b` are rows `r` on of the cotangent of half `h`. -/
def RowsAt (A : In) (i : grid0.Coords) (h r : ℕ) (b : FVec Ideal S16x768 .f32) : Prop :=
  ∀ (q : Fin 16) (l : Fin 768), b (ix2 q l) = (du A h (512 * (i 0).val + (r + q.val)) (768 * (i 1).val + l.val) : EReal)

omit H in
theorem shift1 {h r : ℕ} {b a : FVec Ideal S16x768 .f32} (hb : RowsAt A i h r b) (ha : RowsAt A i h (r + 16) a) (q : Fin 16) (l : Fin 768) :
    k0_pay105 a b (ix2 q l) = (du A h (512 * (i 0).val + (r + q.val) + 1) (768 * (i 1).val + l.val) : EReal) := by
  rw [pay105_apply]
  split
  · refine (hb _ _).trans ?_
    rw [show 512 * (i 0).val + (r + (q.val + 1)) = 512 * (i 0).val + (r + q.val) + 1 by omega]
  · refine (ha _ _).trans ?_
    rw [show 512 * (i 0).val + (r + 16 + (q.val - 15)) = 512 * (i 0).val + (r + q.val) + 1 by omega]

omit H in
theorem shift2 {h r : ℕ} {b a : FVec Ideal S16x768 .f32} (hb : RowsAt A i h r b) (ha : RowsAt A i h (r + 16) a) (q : Fin 16) (l : Fin 768) :
    k0_pay106 a b (ix2 q l) = (du A h (512 * (i 0).val + (r + q.val) + 2) (768 * (i 1).val + l.val) : EReal) := by
  rw [pay106_apply]
  split
  · refine (hb _ _).trans ?_
    rw [show 512 * (i 0).val + (r + (q.val + 2)) = 512 * (i 0).val + (r + q.val) + 2 by omega]
  · refine (ha _ _).trans ?_
    rw [show 512 * (i 0).val + (r + 16 + (q.val - 14)) = 512 * (i 0).val + (r + q.val) + 2 by omega]

theorem tap_apply (h k : ℕ) (hh : h < 2) (hk : k < 3) (q : Fin 16) (l : Fin 768) :
    tap X h k hh hk (ix4 0 0 q l) = (A.cw k (3072 * h + (768 * (i 1).val + l.val)) : EReal) := by
  unfold tap
  rw [pay37_apply]
  refine Eq.trans ?_ (H.fw ⟨h, hh⟩ ⟨k, hk⟩ l)
  exact window_rows3 X.fw h k hh (n := 1) _ 0 l hk

theorem dpRow_apply {h r : ℕ} (hh : h < 2) {b a : FVec Ideal S16x768 .f32} (hb : RowsAt A i h r b) (ha : RowsAt A i h (r + 16) a) (q : Fin 16) (l : Fin 768) :
    dpRow X h hh b a (ix2 q l) = (dp A h (512 * (i 0).val + (r + q.val)) (768 * (i 1).val + l.val) : EReal) := by
  unfold dpRow
  rw [pay107_apply, tap_apply H, tap_apply H, tap_apply H, hb q l, shift1 hb ha, shift2 hb ha]
  simp only [← EReal.coe_mul, ← EReal.coe_add]
  rfl

theorem dpBlk_apply {h r : ℕ} (hh : h < 2) {b a : FVec Ideal S16x768 .f32} (hb : RowsAt A i h r b) (ha : RowsAt A i h (r + 16) a) (q : Fin 16) (l : Fin 768) :
    dpBlk X h hh b a (ix3 0 q l) = (dp A h (512 * (i 0).val + (r + q.val)) (768 * (i 1).val + l.val) : EReal) := by
  unfold dpBlk
  rw [pay108_apply]
  exact dpRow_apply H hh hb ha q l

/-- The block of the gradient at the projection. -/
theorem dpAll_apply (h : Fin 2) (r : Fin 512) (l : Fin 768) :
    dpAll i X (ix3 h r l) = (dp A h.val (512 * (i 0).val + r.val) (768 * (i 1).val + l.val) : EReal) := by
  have hr : r.val < 512 := r.isLt
  have e : 16 * (r.val / 16) + r.val % 16 = r.val := by omega
  show (if h.val = 0 then dpBlk X 0 _ (duG i X (16 * (r.val / 16))) (duG i X (16 * (r.val / 16) + 16))
    else dpBlk X 1 _ (duU i X (16 * (r.val / 16))) (duU i X (16 * (r.val / 16) + 16))) (ix3 (0 : Fin 1) (⟨r.val % 16, _⟩ : Fin 16) l) = _
  by_cases h0 : h.val = 0
  · rw [if_pos h0, h0]
    refine (dpBlk_apply H (by decide) (fun q l => duG_apply H _ (by omega) q l) (fun q l => duG_apply H _ (by omega) q l) _ _).trans ?_
    rw [e]
  · obtain h1 : h.val = 1 := by omega
    rw [if_neg h0, h1]
    refine (dpBlk_apply H (by decide) (fun q l => duU_apply H _ (by omega) q l) (fun q l => duU_apply H _ (by omega) q l) _ _).trans ?_
    rw [e]

/-! ## The product's accumulator -/

theorem groupAt (s : ℕ) (hs : s = 0 ∨ s = 256) (old : Vec Ideal S256x1024 .f32) (r : Fin 256) (c : Fin 1024) :
    groupPay i (rowsOf i X s) X.wg X.wu old (ix2 r c) = ((∑ l : Fin 768, dhT A (512 * (i 0).val + (s + r.val)) c.val (768 * (i 1).val + l.val) : ℝ) : EReal)
      + (if (i 1).val = 0 then (0 : EReal) else (old (ix2 r c) : EReal)) := by
  have hr : r.val < 256 := r.isLt
  have e : s + 16 * (r.val / 16) + r.val % 16 = s + r.val := by omega
  rw [groupPay_apply]
  congr 1
  have h0 (l : Fin 768) : (rowsOf i X s (r.val / 16)).1 (ix2 ⟨r.val % 16, by omega⟩ l) = (dp A 0 (512 * (i 0).val + (s + r.val)) (768 * (i 1).val + l.val) : EReal) := by
    refine (dpRow_apply H (by decide) (fun q l => duG_apply H _ (by omega) q l) (fun q l => duG_apply H _ (by omega) q l) _ _).trans ?_
    rw [e]
  have h1 (l : Fin 768) : (rowsOf i X s (r.val / 16)).2 (ix2 ⟨r.val % 16, by omega⟩ l) = (dp A 1 (512 * (i 0).val + (s + r.val)) (768 * (i 1).val + l.val) : EReal) := by
    refine (dpRow_apply H (by decide) (fun q l => duU_apply H _ (by omega) q l) (fun q l => duU_apply H _ (by omega) q l) _ _).trans ?_
    rw [e]
  simp only [h0, h1, H.wg, H.wu, ← EReal.coe_mul, ← coe_sum, ← EReal.coe_add, ← Finset.sum_add_distrib]
  rfl

/-- What a point adds to the accumulator; at the first column of blocks it starts anew. -/
theorem ahAll_apply (B : Vec Ideal S512x1024 .f32) (r : Fin 512) (c : Fin 1024) :
    ahAll i X B (ix2 r c) = ((∑ l : Fin 768, dhT A (512 * (i 0).val + r.val) c.val (768 * (i 1).val + l.val) : ℝ) : EReal)
      + (if (i 1).val = 0 then (0 : EReal) else (B (ix2 r c) : EReal)) := by
  have hr : r.val < 512 := r.isLt
  have hB : ahGroup i X 256 (by decide) B (ix2 r c) = if r.val < 256 then B (ix2 r c) else
      ((∑ l : Fin 768, dhT A (512 * (i 0).val + r.val) c.val (768 * (i 1).val + l.val) : ℝ) : EReal) + (if (i 1).val = 0 then (0 : EReal) else (B (ix2 r c) : EReal)) := by
    unfold ahGroup
    refine (put_rows2 B 256 _ r c).trans ?_
    by_cases h : r.val < 256
    · rw [dif_neg (by omega), if_pos h]
    · have er : 256 + (r.val - 256) = r.val := by omega
      rw [dif_pos (by omega), if_neg h, groupAt H 256 (.inr rfl)]
      refine congrArg₂ (· + ·) (by show ((∑ l : Fin 768, dhT A (512 * (i 0).val + (256 + (r.val - 256))) c.val (768 * (i 1).val + l.val) : ℝ) : EReal) = _; rw [er]) ?_
      rw [show window B ![256, 0] S256x1024.size _ (ix2 ⟨r.val - 256, by omega⟩ c) = B (ix2 r c) from
        (window_rows2 B 256 _ _ c (by show 256 + (r.val - 256) < 512; omega)).trans (congrArg (fun k => B (ix2 k c)) (Fin.ext er))]
  unfold ahAll
  rw [show ∀ B', ahGroup i X 0 (by decide) B' = put B' ![0, 0] S256x1024.size _ from fun _ => rfl]
  refine (put_rows2 _ 0 _ r c).trans ?_
  by_cases h : r.val < 256
  · rw [dif_pos (by omega), groupAt H 0 (.inl rfl)]
    refine congrArg₂ (· + ·) (by show ((∑ l : Fin 768, dhT A (512 * (i 0).val + (0 + (r.val - 0))) c.val (768 * (i 1).val + l.val) : ℝ) : EReal) = _; rw [Nat.sub_zero, Nat.zero_add]) ?_
    rw [show ∀ B' : Vec Ideal S512x1024 .f32, window B' ![0, 0] S256x1024.size (inb_ah (by decide)) (ix2 ⟨r.val - 0, by omega⟩ c) = B' (ix2 r c) from fun B' =>
      (window_rows2 B' 0 _ _ c (by show 0 + (r.val - 0) < 512; omega)).trans (congrArg (fun k => B' (ix2 k c)) (Fin.ext (by show 0 + (r.val - 0) = r.val; omega))), hB, if_pos h]
  · rw [dif_neg (by omega), hB, if_neg h]

end

end Cert.FfnKernelIdeal.Body

end
-- ==== Proof.Ffn.Taps.lean ====
/- The gradient of the convolution's taps: what a point adds to the partial rows, summed over them, and how the result reads them. -/
module

public import proofs.«01_k».proof.Proof.Ffn.Block

@[expose] public section

set_option maxRecDepth 16384

noncomputable section

namespace Cert.FfnKernelIdeal.Body

open Idealize.ShloMosaic Idealize.SL.Sem Cert.Straight Cert.FfnKernelIdeal.Gen Cert.Ffn Cert.Reals Cert.RmsNorm
open VecWindow (window put)

/-- The sum of the eight partial rows of column block `b`, half `h`, tap `k`. -/
def sumRows (B : Vec Ideal S4x2x3x8x768 .f32) (b : Fin 4) (h : Fin 2) (k : Fin 3) (l : Fin 768) : EReal := ∑ a : Fin 8, (B (ix5 b h k a l) : EReal)

/-- Partial rows stored over, read at an index. -/
theorem put_part (B : Vec Ideal S4x2x3x8x768 .f32) (b0 h0 k0 : ℕ) (w : Vec Ideal S1x1x1x8x768 .f32) (b : Fin 4) (h : Fin 2) (k : Fin 3) (a : Fin 8) (l : Fin 768) :
    put B ![b0, h0, k0, 0, 0] S1x1x1x8x768.size w (ix5 b h k a l)
      = if b.val = b0 ∧ h.val = h0 ∧ k.val = k0 then w (ix5 0 0 0 a l) else B (ix5 b h k a l) := by
  unfold put
  by_cases hy : b.val = b0 ∧ h.val = h0 ∧ k.val = k0
  · rw [if_pos hy, dif_pos]
    · refine congrArg w (funext fun c => Fin.ext ?_)
      fin_cases c
      · show b.val - b0 = 0; omega
      · show h.val - h0 = 0; omega
      · show k.val - k0 = 0; omega
      · rfl
      · rfl
    · intro c
      fin_cases c
      · show b0 ≤ b.val ∧ b.val < b0 + 1; omega
      · show h0 ≤ h.val ∧ h.val < h0 + 1; omega
      · show k0 ≤ k.val ∧ k.val < k0 + 1; omega
      · show 0 ≤ a.val ∧ a.val < 0 + 8; omega
      · show 0 ≤ l.val ∧ l.val < 0 + 768; omega
  · rw [if_neg hy, dif_neg]
    intro hh
    have e0 : b0 ≤ b.val ∧ b.val < b0 + 1 := hh 0
    have e1 : h0 ≤ h.val ∧ h.val < h0 + 1 := hh 1
    have e2 : k0 ≤ k.val ∧ k.val < k0 + 1 := hh 2
    exact hy (by omega)

/-- Partial rows read. -/
theorem window_part (B : Vec Ideal S4x2x3x8x768 .f32) (b : Fin 4) (h : Fin 2) (k : Fin 3) (inb) (a : Fin 8) (l : Fin 768) :
    window B ![b.val, h.val, k.val, 0, 0] S1x1x1x8x768.size inb (ix5 0 0 0 a l) = B (ix5 b h k a l) := by
  refine congrArg B (funext fun c => Fin.ext ?_)
  fin_cases c
  · rfl
  · rfl
  · rfl
  · show 0 + 1 * a.val = a.val; omega
  · show 0 + 1 * l.val = l.val; omega

theorem window_at (B : Vec Ideal S4x2x3x8x768 .f32) (b0 h0 k0 : ℕ) (inb) (b : Fin 4) (h : Fin 2) (k : Fin 3) (a : Fin 8) (l : Fin 768) (eb : b.val = b0) (eh : h.val = h0) (ek : k.val = k0) :
    window B ![b0, h0, k0, 0, 0] S1x1x1x8x768.size inb (ix5 0 0 0 a l) = B (ix5 b h k a l) := by
  subst eb eh ek
  exact window_part B b h k inb a l

/-- A product of sixteen rows adds its sum over them. -/
theorem sumRows_add1 (off : Fin 5 → ℕ) (inb) (d p : FVec Ideal S16x768 .f32) (B : Vec Ideal S4x2x3x8x768 .f32) (b0 : Fin 4) (h0 : Fin 2) (k0 : Fin 3)
    (hoff : off = ![b0.val, h0.val, k0.val, 0, 0]) (b : Fin 4) (h : Fin 2) (k : Fin 3) (l : Fin 768) :
    sumRows (add1 off inb d p B) b h k l = sumRows B b h k l
      + if b = b0 ∧ h = h0 ∧ k = k0 then ∑ q : Fin 16, (d (ix2 q l) : EReal) * (p (ix2 q l) : EReal) else 0 := by
  subst hoff
  unfold sumRows add1
  by_cases hc : b = b0 ∧ h = h0 ∧ k = k0
  · obtain ⟨rfl, rfl, rfl⟩ := hc
    rw [if_pos ⟨rfl, rfl, rfl⟩, Fin.sum_univ_add (a := 8) (b := 8) (fun q : Fin (8 + 8) => (d (ix2 q l) : EReal) * (p (ix2 q l) : EReal)), ← Finset.sum_add_distrib,
      ← Finset.sum_add_distrib]
    refine Finset.sum_congr rfl fun a _ => ?_
    rw [put_part, if_pos ⟨rfl, rfl, rfl⟩, pay103_apply, window_part]
    rfl
  · rw [if_neg hc, add_zero]
    refine Finset.sum_congr rfl fun a _ => ?_
    rw [put_part, if_neg fun e => hc ⟨Fin.ext e.1, Fin.ext e.2.1, Fin.ext e.2.2⟩]

section

variable {A : In} {i : grid0.Coords} {X : Ins Ideal}

theorem offG_eq (i : grid0.Coords) : offG i = fun k : Fin 3 => ![(i 1).val, 0, k.val, 0, 0] := by
  funext k
  fin_cases k
  · exact k0_off1_eq i
  · exact k0_off2_eq i
  · exact k0_off3_eq i

theorem offU_eq (i : grid0.Coords) : offU i = fun k : Fin 3 => ![(i 1).val, 1, k.val, 0, 0] := by
  funext k
  fin_cases k
  · exact k0_off4_eq i
  · exact k0_off5_eq i
  · exact k0_off6_eq i

/-- The three taps of one half at a chunk. -/
theorem sumRows_add3 (o : Fin 3 → Fin 5 → ℕ) (inb) (h0 : Fin 2) (ho : ∀ k : Fin 3, o k = ![(i 1).val, h0.val, k.val, 0, 0]) (r : ℕ) (b a p : FVec Ideal S16x768 .f32)
    (hb : RowsAt A i h0.val r b) (ha : RowsAt A i h0.val (r + 16) a)
    (hp : ∀ (q : Fin 16) (l : Fin 768), p (ix2 q l) = (Ffn.p A (512 * (i 0).val + (r + q.val)) (3072 * h0.val + (768 * (i 1).val + l.val)) : EReal))
    (B : Vec Ideal S4x2x3x8x768 .f32) (b' : Fin 4) (h : Fin 2) (k : Fin 3) (l : Fin 768) :
    sumRows (add3 o inb b a p B) b' h k l = sumRows B b' h k l
      + if b'.val = (i 1).val ∧ h = h0 then ((∑ q : Fin 16, dwT A h.val k.val (768 * (i 1).val + l.val) (512 * (i 0).val + (r + q.val)) : ℝ) : EReal) else 0 := by
  unfold add3
  have e1 : (i 1).val < 4 := (i 1).isLt
  rw [sumRows_add1 (o 2) _ _ _ _ ⟨(i 1).val, e1⟩ h0 2 (ho 2), sumRows_add1 (o 1) _ _ _ _ ⟨(i 1).val, e1⟩ h0 1 (ho 1), sumRows_add1 (o 0) _ _ _ _ ⟨(i 1).val, e1⟩ h0 0 (ho 0)]
  by_cases hc : b'.val = (i 1).val ∧ h = h0
  · obtain ⟨hb', rfl⟩ := hc
    have hb'' : b' = ⟨(i 1).val, e1⟩ := Fin.ext hb'
    simp only [hb'', true_and, and_true, hp, hb _ _, shift1 hb ha, shift2 hb ha, ← EReal.coe_mul, ← coe_sum, if_true]
    obtain rfl | rfl | rfl : k = 0 ∨ k = 1 ∨ k = 2 := by omega
    · rw [if_pos rfl, if_neg (by decide), if_neg (by decide), add_zero, add_zero]; rfl
    · rw [if_neg (by decide), if_pos rfl, if_neg (by decide), add_zero, add_zero]; rfl
    · rw [if_neg (by decide), if_neg (by decide), if_pos rfl, add_zero, add_zero]; rfl
  · have hn (k' : Fin 3) : ¬(b' = ⟨(i 1).val, e1⟩ ∧ h = h0 ∧ k = k') := fun e => hc ⟨congrArg Fin.val e.1, e.2.1⟩
    rw [if_neg (hn 0), if_neg (hn 1), if_neg (hn 2), if_neg hc]
    simp only [add_zero]

variable (H : BlockOf A i X)
include H

theorem pRows_apply (h r : ℕ) (hh : h < 2) (hr : r + 16 ≤ 512) (q : Fin 16) (l : Fin 768) :
    pRows X h r hh hr (ix2 q l) = (p A (512 * (i 0).val + (r + q.val)) (3072 * h + (768 * (i 1).val + l.val)) : EReal) := by
  unfold pRows
  rw [pay109_apply]
  exact (window_rows3 X.p h r hh _ q l (by omega)).trans (H.p _ _ _)

/-- A chunk adds its rows' parts. -/
theorem sumRows_chunk (r : ℕ) (hr : r + 16 ≤ 512) (h16 : r % 16 = 0) (B : Vec Ideal S4x2x3x8x768 .f32) (b : Fin 4) (h : Fin 2) (k : Fin 3) (l : Fin 768) :
    sumRows (awChunk i X r hr B) b h k l = sumRows B b h k l
      + if b.val = (i 1).val then ((∑ q ∈ Finset.range 16, dwT A h.val k.val (768 * (i 1).val + l.val) (512 * (i 0).val + (r + q)) : ℝ) : EReal) else 0 := by
  unfold awChunk
  rw [sumRows_add3 (A := A) _ _ 1 (fun k => congrFun (offU_eq i) k) r _ _ _ (fun q l => duU_apply H r (.inl hr) q l) (fun q l => duU_apply H (r + 16) (by omega) q l)
      (fun q l => pRows_apply H 1 r (by decide) hr q l),
    sumRows_add3 (A := A) _ _ 0 (fun k => congrFun (offG_eq i) k) r _ _ _ (fun q l => duG_apply H r (.inl hr) q l) (fun q l => duG_apply H (r + 16) (by omega) q l)
      (fun q l => pRows_apply H 0 r (by decide) hr q l), add_assoc]
  congr 1
  by_cases hb : b.val = (i 1).val
  · rw [if_pos hb, Finset.sum_range]
    obtain rfl | rfl : h = 0 ∨ h = 1 := by omega
    · rw [if_pos ⟨hb, rfl⟩, if_neg (fun e => absurd e.2 (by decide)), add_zero]
    · rw [if_neg (fun e => absurd e.2 (by decide)), if_pos ⟨hb, rfl⟩, zero_add]
  · rw [if_neg (fun e => hb e.1), if_neg (fun e => hb e.1), if_neg hb, add_zero]

theorem sumRows_chunks (s : ℕ) (hs : s + 256 ≤ 512) (h16 : s % 16 = 0) (n : ℕ) (hn : n ≤ 16) (B : Vec Ideal S4x2x3x8x768 .f32) (b : Fin 4) (h : Fin 2) (k : Fin 3) (l : Fin 768) :
    sumRows (awChunks i X s hs n hn B) b h k l = sumRows B b h k l
      + if b.val = (i 1).val then ((∑ q ∈ Finset.range (16 * n), dwT A h.val k.val (768 * (i 1).val + l.val) (512 * (i 0).val + (s + q)) : ℝ) : EReal) else 0 := by
  induction n generalizing B with
  | zero => unfold awChunks; simp
  | succ n ih =>
    unfold awChunks
    rw [ih, sumRows_chunk H _ _ (by omega), add_assoc]
    congr 1
    by_cases hb : b.val = (i 1).val
    · rw [if_pos hb, if_pos hb, if_pos hb, ← EReal.coe_add, Nat.mul_succ, Finset.sum_range_add, add_comm]
      simp only [Nat.add_assoc]
    · rw [if_neg hb, if_neg hb, if_neg hb, add_zero]

/-- A point adds its 512 rows' parts to the partial rows of its column block. -/
theorem sumRows_all (B : Vec Ideal S4x2x3x8x768 .f32) (b : Fin 4) (h : Fin 2) (k : Fin 3) (l : Fin 768) :
    sumRows (awAll i X B) b h k l = sumRows B b h k l
      + if b.val = (i 1).val then ((∑ q ∈ Finset.range 512, dwT A h.val k.val (768 * b.val + l.val) (512 * (i 0).val + q) : ℝ) : EReal) else 0 := by
  unfold awAll
  rw [sumRows_chunks H 0 _ rfl, sumRows_chunks H 256 _ rfl, add_assoc]
  congr 1
  by_cases hb : b.val = (i 1).val
  · rw [if_pos hb, if_pos hb, if_pos hb, ← EReal.coe_add, show (512 : ℕ) = 16 * 16 + 256 from rfl, Finset.sum_range_add, add_comm, hb]
    simp only [Nat.zero_add]
  · rw [if_neg hb, if_neg hb, if_neg (hb), add_zero]

end

/-! ## The result -/

/-- A row of the taps' gradient stored over, read at an index. -/
theorem put_tapRow (D : Vec Ideal S2x8x3072 .f32) (h0 k0 c : ℕ) (w : FVec Ideal S1x1x768 .f32) (h : Fin 2) (k : Fin 8) (f : Fin 3072) :
    put D ![h0, k0, 768 * c] S1x1x768.size w (ix3 h k f) = if hc : h.val = h0 ∧ k.val = k0 ∧ f.val / 768 = c then w (ix3 0 0 ⟨f.val % 768, by omega⟩) else D (ix3 h k f) := by
  unfold put
  by_cases hy : h.val = h0 ∧ k.val = k0 ∧ f.val / 768 = c
  · rw [dif_pos hy, dif_pos]
    · refine congrArg w (funext fun d => Fin.ext ?_)
      fin_cases d
      · show h.val - h0 = 0; omega
      · show k.val - k0 = 0; omega
      · show f.val - 768 * c = f.val % 768; omega
    · intro d
      fin_cases d
      · show h0 ≤ h.val ∧ h.val < h0 + 1; omega
      · show k0 ≤ k.val ∧ k.val < k0 + 1; omega
      · show 768 * c ≤ f.val ∧ f.val < 768 * c + 768; omega
  · rw [dif_neg hy, dif_neg]
    intro hh
    have e0 : h0 ≤ h.val ∧ h.val < h0 + 1 := hh 0
    have e1 : k0 ≤ k.val ∧ k.val < k0 + 1 := hh 1
    have e2 : 768 * c ≤ f.val ∧ f.val < 768 * c + 768 := hh 2
    exact hy (by omega)

theorem dwFold_apply (B : Vec Ideal S4x2x3x8x768 .f32) (n q : ℕ) (hq : n + q ≤ 24) (D : Vec Ideal S2x8x3072 .f32) (h : Fin 2) (k : Fin 8) (f : Fin 3072) :
    dwFold B n q hq D (ix3 h k f) = if hk : k.val < 3 ∧ q ≤ 6 * (f.val / 768) + 3 * h.val + k.val ∧ 6 * (f.val / 768) + 3 * h.val + k.val < q + n then
      sumRows B ⟨f.val / 768, by omega⟩ h ⟨k.val, hk.1⟩ ⟨f.val % 768, by omega⟩ else D (ix3 h k f) := by
  have hf : f.val < 3072 := f.isLt
  have hh : h.val < 2 := h.isLt
  induction n generalizing q D with
  | zero => unfold dwFold; rw [dif_neg (by omega)]
  | succ n ih =>
    unfold dwFold
    rw [ih]
    by_cases h1 : k.val < 3 ∧ q + 1 ≤ 6 * (f.val / 768) + 3 * h.val + k.val ∧ 6 * (f.val / 768) + 3 * h.val + k.val < q + 1 + n
    · rw [dif_pos h1, dif_pos (by omega)]
    · rw [dif_neg h1, put_tapRow]
      by_cases h2 : k.val < 3 ∧ q = 6 * (f.val / 768) + 3 * h.val + k.val
      · have eb : q / 6 = f.val / 768 := by omega
        have eh : q / 3 % 2 = h.val := by omega
        have ek : q % 3 = k.val := by omega
        rw [dif_pos (by omega), dif_pos (by omega), pay7_apply]
        unfold sumRows
        refine Finset.sum_congr rfl fun a _ => ?_
        exact window_at B _ _ _ _ ⟨f.val / 768, by omega⟩ h ⟨k.val, h2.1⟩ a ⟨f.val % 768, by omega⟩ eb.symm eh.symm ek.symm
      · rw [dif_neg (by omega), dif_neg (by omega)]

/-- The taps' gradient: the partial rows' sums, and zero in the five rows that fill it up. -/
theorem dwAll_apply (B : Vec Ideal S4x2x3x8x768 .f32) (h : Fin 2) (k : Fin 8) (f : Fin 3072) :
    dwAll B (ix3 h k f) = if hk : k.val < 3 then sumRows B ⟨f.val / 768, by omega⟩ h ⟨k.val, hk⟩ ⟨f.val % 768, by omega⟩ else (0 : EReal) := by
  have hf : f.val < 3072 := f.isLt
  have hh : h.val < 2 := h.isLt
  unfold dwAll
  rw [dwFold_apply]
  by_cases hk : k.val < 3
  · rw [dif_pos (by omega), dif_pos hk]
  · rw [dif_neg (by omega), dif_neg hk]
    exact wzero

end Cert.FfnKernelIdeal.Body

end
-- ==== Proof.Ffn.Points.lean ====
/- What the feed-forward block's backward kernel has gathered after each point, where the blocks hold real arrays. -/
module

public import proofs.«01_k».proof.Proof.Ffn.Frame
public import proofs.«01_k».proof.Proof.Ffn.Taps

@[expose] public section

set_option maxRecDepth 16384

noncomputable section

namespace Cert.FfnKernelIdeal.Run

open Cert.FfnKernelIdeal Cert.FfnKernelIdeal.Gen Cert.FfnKernelIdeal.Body Idealize.ShloMosaic Idealize.ShloMosaic.TcCoe Idealize.SL.Sem
open Cert.Reals Cert.RmsNorm Cert.Ffn
open VecWindow (window put)

/-! ## Sums over points -/

/-- A sum over `4 n` points of what every fourth of them gives. -/
theorem sum_fourth (b : ℕ) (hb : b < 4) (f : ℕ → ℝ) (n : ℕ) : ∑ t ∈ Finset.range (4 * n), (if t % 4 = b then f (t / 4) else 0) = ∑ i ∈ Finset.range n, f i := by
  induction n with
  | zero => rfl
  | succ n ih =>
    rw [Nat.mul_succ, Finset.sum_range_add, ih, Finset.sum_range_succ f]
    congr 1
    simp only [Finset.sum_range_succ, Finset.sum_range_zero, zero_add, show ∀ k, k < 4 → (4 * n + k) % 4 = k ∧ (4 * n + k) / 4 = n from fun k hk => by omega,
      show ((4 * n + 0) % 4 = 0 ∧ (4 * n + 0) / 4 = n) from by omega]
    have h0 : (4 * n) % 4 = 0 ∧ (4 * n) / 4 = n := by omega
    have h1 : (4 * n + 1) % 4 = 1 ∧ (4 * n + 1) / 4 = n := by omega
    have h2 : (4 * n + 2) % 4 = 2 ∧ (4 * n + 2) / 4 = n := by omega
    have h3 : (4 * n + 3) % 4 = 3 ∧ (4 * n + 3) / 4 = n := by omega
    simp only [h0.1, h0.2, h1.1, h1.2, h2.1, h2.2, h3.1, h3.2]
    obtain rfl | rfl | rfl | rfl : b = 0 ∨ b = 1 ∨ b = 2 ∨ b = 3 := by omega
    all_goals simp

/-- A sum over blocks of `k`. -/
theorem sum_blocks (k : ℕ) (f : ℕ → ℝ) (n : ℕ) : ∑ i ∈ Finset.range n, ∑ q ∈ Finset.range k, f (k * i + q) = ∑ s ∈ Finset.range (k * n), f s := by
  induction n with
  | zero => simp
  | succ n ih => rw [Finset.sum_range_succ, ih, Nat.mul_succ, Finset.sum_range_add]

theorem coords_row : ∀ t : Fin cfg0.N, (grid0.coords t 0).val = t.val / 4 := by decide +kernel
theorem coords_col : ∀ t : Fin cfg0.N, (grid0.coords t 1).val = t.val % 4 := by decide +kernel

/-! ## Readings -/

section Reads

variable (a x dres : FVec Ideal S512x1024 .f32) (g v : FVec Ideal S1x1024 .f32) (r : Fin 512) (l : Fin 1024)

theorem read1 : k0_pay1 (F := Ideal) x (ix2 r 0) = Ideal.rsqrt (Ideal.div (∑ k, x (ix2 r k) * x (ix2 r k)) (Ideal.ofBits .f32 0x44800000#32)
    + Ideal.ofBits .f32 0x358637BD#32) := by pointwise [k0_pay1]

theorem read2 : k0_pay2 x (ix2 r l) = x (ix2 r l) * k0_pay1 x (ix2 r 0) := by pointwise [k0_pay2]

theorem read3 : k0_pay3 a x g dres (ix2 r l) = dres (ix2 r l) + k0_pay1 (F := Ideal) x (ix2 r 0) * (a (ix2 r l) * g (ix2 0 l)
    - k0_pay2 (F := Ideal) x (ix2 r l) * Ideal.div (∑ k, a (ix2 r k) * g (ix2 0 k) * k0_pay2 (F := Ideal) x (ix2 r k)) (Ideal.ofBits .f32 0x44800000#32)) := by
  pointwise [k0_pay3]

theorem read4 : (k0_pay4 (F := Ideal) a x g dres (ix2 r l) : EReal) = k0_pay3 (F := Ideal) a x g dres (ix2 r l) := by pointwise [k0_pay4]

theorem read5 : k0_pay5 a x v (ix2 0 l) = v (ix2 0 l) + ∑ q, a (ix2 q l) * k0_pay2 (F := Ideal) x (ix2 q l) := by pointwise [k0_pay5]

theorem read35 (r : Fin 8) : k0_pay35 (F := Ideal) (ix2 r l) = 0 := by pointwise [k0_pay35]

theorem read34 (b : Fin 4) (h : Fin 2) (k : Fin 3) (a : Fin 8) (l : Fin 768) : k0_pay34 (F := Ideal) (ix5 b h k a l) = 0 := by
  unfold k0_pay34; rw [shapeCast_self]; exact wzero

end Reads

variable {m : (ℓ : Loc nD τ sig) → Buf (Elt Ideal) ℓ} {c : Dev nD} {A : In} (H : ∀ t : Fin cfg0.N, BlockOf A (grid0.coords t) (ins m c t))
include H

/-- The product's accumulator after a point: the columns up to the point's. -/
theorem ahs_apply (n : ℕ) (hn : n < cfg0.N) (r : Fin 512) (e : Fin 1024) :
    ahs m c n hn (ix2 r e) = ((∑ f ∈ Finset.range (768 * (n % 4 + 1)), dhT A (512 * (n / 4) + r.val) e.val f : ℝ) : EReal) := by
  have h1 := coords_row ⟨n, hn⟩
  have h2 := coords_col ⟨n, hn⟩
  dsimp only at h1 h2
  by_cases h4 : n % 4 = 0
  · rw [show ahs m c n hn = _ from ahs_first m c ⟨n, hn⟩ h4 (fun _ => (0 : EReal)), ahAll_apply (H ⟨n, hn⟩), h1, h2, h4, if_pos rfl, add_zero, Finset.sum_range]
    simp
  · induction n with
    | zero => exact absurd rfl h4
    | succ n ih =>
      have hr : (n + 1) / 4 = n / 4 := by omega
      have hc : (n + 1) % 4 = n % 4 + 1 := by omega
      rw [show ahs m c (n + 1) hn = _ from ahs_next m c ⟨n + 1, hn⟩ (Nat.succ_ne_zero _), ahAll_apply (H ⟨n + 1, hn⟩), h1, h2, if_neg h4, hr, hc]
      have hp : ahs m c n (Nat.lt_of_succ_lt hn) (ix2 r e) = ((∑ f ∈ Finset.range (768 * (n % 4 + 1)), dhT A (512 * (n / 4) + r.val) e.val f : ℝ) : EReal) := by
        by_cases h0 : n % 4 = 0
        · rw [show ahs m c n _ = _ from ahs_first m c ⟨n, Nat.lt_of_succ_lt hn⟩ h0 (fun _ => (0 : EReal)), ahAll_apply (H ⟨n, Nat.lt_of_succ_lt hn⟩),
            show (grid0.coords ⟨n, Nat.lt_of_succ_lt hn⟩ 0).val = n / 4 from coords_row _, show (grid0.coords ⟨n, Nat.lt_of_succ_lt hn⟩ 1).val = n % 4 from coords_col _,
            h0, if_pos rfl, add_zero, Finset.sum_range]
          simp
        · exact ih (Nat.lt_of_succ_lt hn) (coords_row ⟨n, Nat.lt_of_succ_lt hn⟩) (coords_col ⟨n, Nat.lt_of_succ_lt hn⟩) h0
      have hq : ahs m c ((⟨n + 1, hn⟩ : Fin cfg0.N).val - 1) (Nat.lt_of_le_of_lt (Nat.sub_le _ _) (⟨n + 1, hn⟩ : Fin cfg0.N).isLt) (ix2 r e) = _ := hp
      rw [hq, ← EReal.coe_add, Nat.mul_succ 768 (n % 4 + 1), Finset.sum_range_add, add_comm, Finset.sum_range (n := 768)]

/-- At a last column it holds the cotangent of the norm's output. -/
theorem ahs_last (t : Fin cfg0.N) (ht : t.val % 4 = 3) (r : Fin 512) (e : Fin 1024) :
    ahs m c t.val t.isLt (ix2 r e) = (dh A (512 * (t.val / 4) + r.val) e.val : EReal) := by
  rw [ahs_apply H, ht]; rfl

/-- The sums of the taps' partial rows after a point. -/
theorem aws_apply (n : ℕ) (hn : n < cfg0.N) (b : Fin 4) (h : Fin 2) (k : Fin 3) (l : Fin 768) :
    sumRows (aws m c n hn) b h k l = ((∑ t ∈ Finset.range (n + 1), (if t % 4 = b.val then
      ∑ q ∈ Finset.range 512, dwT A h.val k.val (768 * b.val + l.val) (512 * (t / 4) + q) else 0) : ℝ) : EReal) := by
  have step (n : ℕ) (hn : n < cfg0.N) (B) : sumRows (awAll (grid0.coords ⟨n, hn⟩) (ins m c ⟨n, hn⟩) B) b h k l = sumRows B b h k l
      + ((if n % 4 = b.val then ∑ q ∈ Finset.range 512, dwT A h.val k.val (768 * b.val + l.val) (512 * (n / 4) + q) else 0 : ℝ) : EReal) := by
    rw [sumRows_all (H ⟨n, hn⟩), show (grid0.coords ⟨n, hn⟩ 0).val = n / 4 from coords_row _, show (grid0.coords ⟨n, hn⟩ 1).val = n % 4 from coords_col _]
    congr 1
    by_cases hb : n % 4 = b.val
    · rw [if_pos hb, if_pos hb.symm]
    · rw [if_neg hb, if_neg fun e => hb e.symm]; rfl
  induction n with
  | zero =>
    rw [show aws m c 0 hn = _ from aws_first m c ⟨0, hn⟩ rfl, step]
    unfold sumRows
    simp only [read34, Finset.sum_const_zero, zero_add, Finset.sum_range_one]
  | succ n ih =>
    rw [show aws m c (n + 1) hn = _ from aws_next m c ⟨n + 1, hn⟩ (Nat.succ_ne_zero _), step, show sumRows (aws m c ((⟨n + 1, hn⟩ : Fin cfg0.N).val - 1) _) b h k l = _ from ih (Nat.lt_of_succ_lt hn),
      ← EReal.coe_add, ← Finset.sum_range_succ]

/-- After the last point they are the taps' gradient. -/
theorem aws_last (b : Fin 4) (h : Fin 2) (k : Fin 3) (l : Fin 768) :
    sumRows (aws m c 31 (by decide)) b h k l = (dw A h.val k.val (768 * b.val + l.val) : EReal) := by
  rw [aws_apply H]
  congr 1
  refine (sum_fourth b.val b.isLt (fun i => ∑ q ∈ Finset.range 512, dwT A h.val k.val (768 * b.val + l.val) (512 * i + q)) 8).trans ?_
  exact sum_blocks 512 _ 8

/-! ## The norm's part -/

variable (t : Fin cfg0.N)

theorem pay1 (r : Fin 512) : k0_pay1 (ins m c t).x2 (ix2 r 0) = (rstd (row A (512 * (t.val / 4) + r.val)) : EReal) := by
  rw [read1]; simp only [(H t).x2, coords_row]; exact rstd_coe (row A (512 * (t.val / 4) + r.val))

theorem pay2 (r : Fin 512) (l : Fin 1024) : k0_pay2 (ins m c t).x2 (ix2 r l) = (n A (512 * (t.val / 4) + r.val) l.val : EReal) := by
  rw [read2, pay1 H, (H t).x2, coords_row, ← EReal.coe_mul]; rfl

/-- The block of the gradient. -/
theorem pay3 (ht : t.val % 4 = 3) (r : Fin 512) (l : Fin 1024) :
    k0_pay3 (ahs m c t.val t.isLt) (ins m c t).x2 (ins m c t).g (ins m c t).dx3 (ix2 r l) = (dx A (512 * (t.val / 4) + r.val) l : EReal) := by
  rw [read3]
  simp only [pay1 H, pay2 H, ahs_last H t ht, (H t).g, (H t).dx3, coords_row, ← EReal.coe_mul, ← coe_sum, w1024]
  rw [div_real (by norm_num), ← EReal.coe_mul, ← EReal.coe_sub, ← EReal.coe_mul, ← EReal.coe_add]; rfl

omit H in
theorem putRow_zero (g : Vec Ideal S8x1024 .f32) (w : Vec Ideal S1x1024 .f32) (l : Fin 1024) : put g ![0, 0] S1x1024.size w (ix2 (0 : Fin 8) l) = w (ix2 (0 : Fin 1) l) := by
  refine (dif_pos fun a => ?_).trans (congrArg w (funext fun a => Fin.ext ?_))
  · fin_cases a
    · exact ⟨Nat.zero_le _, Nat.zero_lt_one⟩
    · exact ⟨Nat.zero_le _, by show l.val < 0 + 1024; have := l.isLt; omega⟩
  · fin_cases a <;> rfl

omit H in
theorem putRow_ne (g : Vec Ideal S8x1024 .f32) (w : Vec Ideal S1x1024 .f32) (r : Fin 8) (hr : r ≠ 0) (l : Fin 1024) : put g ![0, 0] S1x1024.size w (ix2 r l) = g (ix2 r l) := by
  refine dif_neg fun hh => hr (Fin.ext ?_)
  have h1 : r.val < 0 + 1 := (hh 0).2
  show r.val = 0
  omega

omit H in
theorem firstRow (g : Vec Ideal S8x1024 .f32) (inb) (l : Fin 1024) : window g ![0, 0] S1x1024.size inb (ix2 (0 : Fin 1) l) = g (ix2 (0 : Fin 8) l) := by
  refine congrArg g (funext fun a => Fin.ext ?_)
  fin_cases a
  · rfl
  · show 0 + 1 * l.val = l.val; omega

/-- The scale's gradient after a point: the rows of the points that closed a row of blocks, -/
theorem dgs_apply (N : ℕ) (hN : N < cfg0.N) (l : Fin 1024) : dgs m c N hN (ix2 (0 : Fin 8) l)
    = ((∑ t ∈ Finset.range (N + 1), (if t % 4 = 3 then ∑ q ∈ Finset.range 512, dh A (512 * (t / 4) + q) l.val * n A (512 * (t / 4) + q) l.val else 0) : ℝ) : EReal) := by
  induction N with
  | zero => exact (read35 l 0).trans (by simp)
  | succ N ih =>
    rw [Finset.sum_range_succ, EReal.coe_add, ← ih (Nat.lt_of_succ_lt hN)]
    by_cases h : (N + 1) % 4 = 3
    · rw [show dgs m c (N + 1) hN = _ from dgs_last m c ⟨N + 1, hN⟩ h, if_pos h]
      unfold dgNew
      rw [putRow_zero, read5, firstRow, Finset.sum_range]
      simp only [show ∀ r : Fin 512, ahs m c (N + 1) hN (ix2 r l) = _ from fun r => ahs_last H ⟨N + 1, hN⟩ h r l, pay2 H, ← EReal.coe_mul, ← coe_sum]
      rfl
    · rw [show dgs m c (N + 1) hN = _ from dgs_mid m c ⟨N + 1, hN⟩ (Nat.succ_ne_zero _) h, if_neg h]
      exact (add_zero _).symm

omit H in
/-- and zero in the other rows. -/
theorem dgs_other (N : ℕ) (hN : N < cfg0.N) (r : Fin 8) (hr : r ≠ 0) (l : Fin 1024) : dgs m c N hN (ix2 r l) = 0 := by
  induction N with
  | zero => exact read35 l r
  | succ N ih =>
    by_cases h : (N + 1) % 4 = 3
    · rw [show dgs m c (N + 1) hN = _ from dgs_last m c ⟨N + 1, hN⟩ h]
      unfold dgNew
      rw [putRow_ne _ _ _ hr]; exact ih (Nat.lt_of_succ_lt hN)
    · rw [show dgs m c (N + 1) hN = _ from dgs_mid m c ⟨N + 1, hN⟩ (Nat.succ_ne_zero _) h]; exact ih (Nat.lt_of_succ_lt hN)

theorem dgs_end (r : Fin 8) (l : Fin 1024) : dgs m c 31 (by decide) (ix2 r l) = if r.val = 0 then (dg A l.val : EReal) else 0 := by
  by_cases hr : r = 0
  · subst hr
    rw [dgs_apply H]
    refine Eq.trans ?_ (if_pos rfl).symm
    congr 1
    refine (sum_fourth 3 (by decide) (fun i => ∑ q ∈ Finset.range 512, dh A (512 * i + q) l.val * n A (512 * i + q) l.val) 8).trans ?_
    exact sum_blocks 512 (fun s => dh A s l.val * n A s l.val) 8
  · exact (dgs_other _ _ _ hr l).trans (if_neg fun e => hr (Fin.ext e)).symm

/-- The taps' gradient after the last point. -/
theorem dw_end (h : Fin 2) (k : Fin 8) (f : Fin 3072) :
    dwAll (aws m c 31 (by decide)) (ix3 h k f) = if k.val < 3 then (dw A h.val k.val f.val : EReal) else 0 := by
  rw [dwAll_apply]
  by_cases hk : k.val < 3
  · rw [dif_pos hk, if_pos hk, aws_last H, show 768 * (⟨f.val / 768, _⟩ : Fin 4).val + (⟨f.val % 768, _⟩ : Fin 768).val = f.val from Nat.div_add_mod _ _]
  · rw [dif_neg hk, if_neg hk]

end Cert.FfnKernelIdeal.Run

end
-- ==== Proof.Ffn.Host.lean ====
/- The host lines before the feed-forward block's backward kernel: the weights' blocks, the up-projection and its convolution. -/
module

public import proofs.«01_k».proof.Proof.Ffn.Frame
public import proofs.«01_k».proof.Proof.Ffn.Spec
public import Idealize.ShloMosaic.Lib.Claim
public import Idealize.ShloMosaic.Lib.KernelVsHost

@[expose] public section

set_option maxRecDepth 16384

noncomputable section

namespace Cert.FfnKernelIdeal.Run

open Cert.FfnKernelIdeal Cert.FfnKernelIdeal.Gen Cert.FfnKernelIdeal.Body Idealize.ShloMosaic Idealize.ShloMosaic.TcCoe Idealize.SL.Sem
open Cert.Reals Cert.RmsNorm Cert.Ffn

/-- The up-projection of the normalised rows. -/
def hP (x : FVec Ideal S4096x1024 .f32) (g : FVec Ideal S1024 .f32) (w : FVec Ideal S1024x6144 .f32) : FVec Ideal S4096x6144 .f32 :=
  Host.dotGeneral dot_S4096x1024_S1024x6144_S4096x6144_1_0_0_1_n_n none
    (mulf (mulf x (broadcastInDim S4096x1024 ![0, 1] bcast_S4096x1_S4096x1024_0_1
        (Host.rsqrt (addf (Host.divf (broadcastInDim S4096x1 ![0] bcast_S4096_S4096x1_0
              (Host.reduceAdd (mulf x x) (constant S_ .f32 0x00000000#32) reducesTo_S4096x1024_S4096_d1 h_S_))
            (broadcastInDim S4096x1 ![] bcast_S_S4096x1 (constant S_ .f32 0x44800000#32)))
          (broadcastInDim S4096x1 ![] bcast_S_S4096x1 (constant S_ .f32 0x358637BD#32))))))
      (broadcastInDim S4096x1024 ![0, 1] bcast_S1x1024_S4096x1024_0_1 (broadcastInDim S1x1024 ![1] bcast_S1024_S1x1024_1 g))) w

/-- Two rows of zeros before it. -/
def hPz (P : FVec Ideal S4096x6144 .f32) : FVec Ideal S4098x6144 .f32 :=
  concatenate S4098x6144 0 [⟨S2x6144, broadcastInDim S2x6144 ![] bcast_S_S2x6144 (constant S_ .f32 0x00000000#32)⟩, ⟨S4096x6144, P⟩]
    concatenates_S2x6144_S4096x6144_S4098x6144_d0

/-- A row of the taps, repeated. -/
def hTap (r : FVec Ideal S1x6144 .f32) : FVec Ideal S4096x6144 .f32 :=
  broadcastInDim S4096x6144 ![0, 1] bcast_S1x6144_S4096x6144_0_1 (broadcastInDim S1x6144 ![1] bcast_S6144_S1x6144_1 (shapeCast S6144 r shapeCasts_S1x6144_S6144))

/-- The convolution. -/
def hU (P : FVec Ideal S4096x6144 .f32) (cw : FVec Ideal S3x6144 .f32) : FVec Ideal S4096x6144 .f32 :=
  addf (addf
    (mulf (extractStridedSlice S4096x6144 ![0, 0] (hPz P) slices_S4098x6144_S4096x6144_0_0) (hTap (extractStridedSlice S1x6144 ![0, 0] cw slices_S3x6144_S1x6144_0_0)))
    (mulf (extractStridedSlice S4096x6144 ![1, 0] (hPz P) slices_S4098x6144_S4096x6144_1_0) (hTap (extractStridedSlice S1x6144 ![1, 0] cw slices_S3x6144_S1x6144_1_0))))
    (mulf (extractStridedSlice S4096x6144 ![2, 0] (hPz P) slices_S4098x6144_S4096x6144_2_0) (hTap (extractStridedSlice S1x6144 ![2, 0] cw slices_S3x6144_S1x6144_2_0)))

/-- The two halves of the columns, one after the other. -/
def hSplit (P : FVec Ideal S4096x6144 .f32) : FVec Ideal S2x4096x3072 .bf16 :=
  truncf .bf16 (transpose S2x4096x3072 [1, 0, 2] (shapeCast S4096x2x3072 P shapeCasts_S4096x6144_S4096x2x3072) transposes_S4096x2x3072_S2x4096x3072_1_0_2) bitsLt_bf16_f32

/-- The halves of the taps. -/
def hCw (cw : FVec Ideal S3x6144 .f32) : FVec Ideal S2x3x3072 .f32 :=
  transpose S2x3x3072 [1, 0, 2] (shapeCast S3x2x3072 cw shapeCasts_S3x6144_S3x2x3072) transposes_S3x2x3072_S2x3x3072_1_0_2

variable (m : (ℓ : Loc nD τ sig) → Buf (Elt Ideal) ℓ) (c : Dev nD)

theorem V_p : V m c main_v59 = hSplit (hP (m (c.tc.loc main_arg0)) (m (c.tc.loc main_arg1)) (m (c.tc.loc main_arg2))) := by
  unfold_abbrev_sides; after_results; rfl

theorem V_u : V m c main_v62 = hSplit (hU (hP (m (c.tc.loc main_arg0)) (m (c.tc.loc main_arg1)) (m (c.tc.loc main_arg2))) (m (c.tc.loc main_arg3))) := by
  unfold_abbrev_sides; after_results; rfl

theorem V_cw : V m c main_v19 = hCw (m (c.tc.loc main_arg3)) := by
  unfold_abbrev_sides; after_results; rfl

theorem V_wd (r l) : V m c main_v20 (ix2 r l) = m (c.tc.loc main_arg4) (ix2 r l) := by
  unfold_abbrev_sides; after_results; rfl

theorem V_x (r l) : V m c main_arg0 (ix2 r l) = m (c.tc.loc main_arg0) (ix2 r l) := by
  unfold_abbrev_sides; after_results

theorem V_dx3 (r l) : V m c main_arg5 (ix2 r l) = m (c.tc.loc main_arg5) (ix2 r l) := by
  unfold_abbrev_sides; after_results

theorem V_g (l : Fin 1024) : (V m c main_v64 : FVec Ideal S1x1024 .f32) (ix2 0 l) = (m (c.tc.loc main_arg1) : FVec Ideal S1024 .f32) (ix1 l) := by
  have e : (V m c main_v64 : FVec Ideal S1x1024 .f32) = shapeCast S1x1024 (m (c.tc.loc main_arg1) : FVec Ideal S1024 .f32) shapeCasts_S1024_S1x1024 := by
    unfold_abbrev_sides; after_results; rfl
  rw [e]; pointwise []

theorem V_dxb (r l) : V m c main_v63 (ix2 r l) = m (c.tc.loc main_arg5) (ix2 r l) := by
  unfold_abbrev_sides; after_results; rfl

theorem slices_col (k : Fin 8) : S1024x6144.Slices ![0, 768 * k.val] S1024x768 := by
  fin_cases k
  · exact slices_S1024x6144_S1024x768_0_0
  · exact slices_S1024x6144_S1024x768_0_768
  · exact slices_S1024x6144_S1024x768_0_1536
  · exact slices_S1024x6144_S1024x768_0_2304
  · exact slices_S1024x6144_S1024x768_0_3072
  · exact slices_S1024x6144_S1024x768_0_3840
  · exact slices_S1024x6144_S1024x768_0_4608
  · exact slices_S1024x6144_S1024x768_0_5376

/-- The eight blocks of the up-projection's columns. -/
def wPiece (w : FVec Ideal S1024x6144 .f32) (k : Fin 8) : FVec Ideal S1x1024x768 .f32 :=
  broadcastInDim S1x1024x768 ![1, 2] bcast_S1024x768_S1x1024x768_1_2 (extractStridedSlice S1024x768 ![0, 768 * k.val] w (slices_col k))

theorem V_w : (V m c main_v17 : FVec Ideal S8x1024x768 .bf16) = truncf (F := Ideal) .bf16 (concatenate S8x1024x768 0
    (List.ofFn fun k : Fin 8 => (⟨S1x1024x768, wPiece (m (c.tc.loc main_arg2)) k⟩ : (s : Shape) × (s.Idx → Ideal .f32)))
    concatenates_S1x1024x768_S1x1024x768_S1x1024x768_S1x1024x768_S1x1024x768_S1x1024x768_S1x1024x768_S1x1024x768_S8x1024x768_d0) bitsLt_bf16_f32 := by
  unfold_abbrev_sides; after_results; rfl

theorem wPiece_apply (w : FVec Ideal S1024x6144 .f32) (k : Fin 8) (e : Fin 1024) (l : Fin 768) :
    wPiece w k (ix3 0 e l) = w (ix2 e ⟨768 * k.val + l.val, by omega⟩) := by
  unfold wPiece
  refine Eq.trans (b := extractStridedSlice S1024x768 ![0, 768 * k.val] w (slices_col k) (ix2 e l)) (by generalize extractStridedSlice S1024x768 _ w _ = y; pointwise []) ?_
  exact extractStridedSlice_apply _ w (slices_col k) (ix2 e l) _ fun a => by fin_cases a <;> [exact (Nat.zero_add _).symm; rfl]

theorem concat8_apply (f : Fin 8 → FVec Ideal S1x1024x768 .f32) (h) (k : Fin 8) (e : Fin 1024) (l : Fin 768) :
    concatenate S8x1024x768 0 (List.ofFn fun k : Fin 8 => (⟨S1x1024x768, f k⟩ : (s : Shape) × (s.Idx → Ideal .f32))) h (ix3 k e l) = f k (ix3 0 e l) :=
  concatenate_ofFn_apply (α := Ideal .f32) 0 f h rfl 1 rfl (ix3 k e l) k (Nat.div_one _) (ix3 0 e l) (Nat.mod_one _).symm fun b hb => by
    fin_cases b
    · exact absurd rfl hb
    · rfl
    · rfl

/-- A block of the up-projection's columns. -/
theorem V_w_apply (k : Fin 8) (e : Fin 1024) (l : Fin 768) : (V m c main_v17 : FVec Ideal S8x1024x768 .bf16) (ix3 k e l)
    = (m (c.tc.loc main_arg2) : FVec Ideal S1024x6144 .f32) (ix2 e ⟨768 * k.val + l.val, by omega⟩) :=
  (congrFun (V_w m c) (ix3 k e l)).trans ((concat8_apply (wPiece (m (c.tc.loc main_arg2)))
    concatenates_S1x1024x768_S1x1024x768_S1x1024x768_S1x1024x768_S1x1024x768_S1x1024x768_S1x1024x768_S1x1024x768_S8x1024x768_d0 k e l).trans (wPiece_apply (m (c.tc.loc main_arg2)) k e l))

/-! ## Entries -/

section Entries

variable {x : FVec Ideal S4096x1024 .f32} {g : FVec Ideal S1024 .f32} {w : FVec Ideal S1024x6144 .f32} {cw : FVec Ideal S3x6144 .f32} {A : In}
  (hx : ∀ (s : Fin 4096) (e : Fin 1024), x (ix2 s e) = (A.x s.val e.val : EReal)) (hg : ∀ e : Fin 1024, g (ix1 e) = (A.g e.val : EReal))
  (hw : ∀ (e : Fin 1024) (f : Fin 6144), w (ix2 e f) = (A.w e.val f.val : EReal)) (hcw : ∀ (k : Fin 3) (f : Fin 6144), cw (ix2 k f) = (A.cw k.val f.val : EReal))

include hx hg hw in
theorem hP_apply (s : Fin 4096) (f : Fin 6144) : hP x g w (ix2 s f) = (p A s.val f.val : EReal) := by
  have e : hP x g w (ix2 s f) = ∑ e : Fin 1024, (x (ix2 s e) * Ideal.rsqrt (Ideal.div (∑ k, x (ix2 s k) * x (ix2 s k)) (Ideal.ofBits .f32 0x44800000#32)
    + Ideal.ofBits .f32 0x358637BD#32)) * g (ix1 e) * w (ix2 e f) := by pointwise [hP]
  rw [e]
  simp only [hx, hg, hw]
  rw [show Ideal.rsqrt (Ideal.div (∑ k : Fin 1024, (A.x s.val k.val : EReal) * (A.x s.val k.val : EReal)) (Ideal.ofBits .f32 0x44800000#32)
    + Ideal.ofBits .f32 0x358637BD#32) = (rstd (row A s.val) : EReal) from rstd_coe (row A s.val)]
  simp only [← EReal.coe_mul, ← coe_sum]
  rfl

include hcw in
theorem hU_apply {P : FVec Ideal S4096x6144 .f32} (hP : ∀ (s : Fin 4096) (f : Fin 6144), P (ix2 s f) = (p A s.val f.val : EReal)) (s : Fin 4096) (f : Fin 6144) :
    hU P cw (ix2 s f) = (u A s.val f.val : EReal) := by
  have hz (s : Fin 4098) : hPz P (ix2 s f) = (pz A s.val f.val : EReal) := by
    unfold pz
    by_cases h : s.val < 2
    · rw [if_pos h]
      refine Eq.trans (b := (0 : EReal)) ?_ EReal.coe_zero.symm
      unfold hPz
      refine (concatenate_pair_apply_left (α := Ideal .f32) (t := S4098x6144) (s₁ := S2x6144) (s₂ := S4096x6144) 0 _ _ _ (ix2 s f) rfl (ix2 ⟨s.val, h⟩ f) fun b => ?_).trans ?_
      · fin_cases b <;> rfl
      pointwise []
    · rw [if_neg h]
      unfold hPz
      refine (concatenate_pair_apply_right (α := Ideal .f32) (t := S4098x6144) (s₁ := S2x6144) (s₂ := S4096x6144) 0 _ P _ (ix2 s f) rfl rfl (ix2 ⟨s.val - 2, by omega⟩ f) (fun b hb => ?_) ?_).trans (hP _ _)
      · fin_cases b
        · exact absurd rfl hb
        · rfl
      · show s.val - 2 + 2 = s.val
        omega
  have e : hU P cw (ix2 s f) = hPz P (ix2 ⟨s.val, by omega⟩ f) * cw (ix2 0 f) + hPz P (ix2 ⟨s.val + 1, by omega⟩ f) * cw (ix2 1 f)
      + hPz P (ix2 ⟨s.val + 2, by omega⟩ f) * cw (ix2 2 f) := by
    unfold hU
    generalize hPz P = Q
    pointwise [hTap]
    rw [show (⟨1 + s.val, _⟩ : Fin 4098) = ⟨s.val + 1, by omega⟩ from Fin.ext (Nat.add_comm _ _), show (⟨2 + s.val, _⟩ : Fin 4098) = ⟨s.val + 2, by omega⟩ from Fin.ext (Nat.add_comm _ _)]
  rw [e, hz, hz, hz, hcw, hcw, hcw, ← EReal.coe_mul, ← EReal.coe_mul, ← EReal.coe_mul, ← EReal.coe_add, ← EReal.coe_add]
  rfl

theorem hSplit_apply (P : FVec Ideal S4096x6144 .f32) (h : Fin 2) (s : Fin 4096) (f : Fin 3072) :
    (hSplit P (ix3 h s f) : EReal) = P (ix2 s ⟨h.val * 3072 + f.val, by omega⟩) := by
  pointwise [hSplit]

theorem hCw_apply (h : Fin 2) (k : Fin 3) (f : Fin 3072) : hCw cw (ix3 h k f) = cw (ix2 k ⟨h.val * 3072 + f.val, by omega⟩) := by
  pointwise [hCw]

end Entries

end Cert.FfnKernelIdeal.Run

end
-- ==== Proof.Ffn.Kernel.lean ====
/- What the feed-forward block's backward kernel leaves in its five results, at real arguments. -/
module

public import proofs.«01_k».proof.Proof.Ffn.Points
public import proofs.«01_k».proof.Proof.Ffn.Host
public import Idealize.ShloMosaic.Lib.Pipeline.ValueKit
public import Idealize.ShloMosaic.Lib.Pipeline.ReadBack

@[expose] public section

set_option maxRecDepth 16384

noncomputable section

namespace Cert.FfnKernelIdeal.Run

open Cert.FfnKernelIdeal Cert.FfnKernelIdeal.Gen Cert.FfnKernelIdeal.Body Idealize.ShloMosaic Idealize.ShloMosaic.TcCoe Idealize.SL.Sem
open Idealize.ShloMosaic.Pipeline (Dat)
open Cert.Reals Cert.RmsNorm Cert.Ffn

variable (m : (ℓ : Loc nD τ sig) → Buf (Elt Ideal) ℓ)

/-- The arguments of device `c` hold the arrays `A`. -/
structure Holds (c : Dev nD) (A : In) : Prop where
  x : ∀ (s : Fin 4096) (e : Fin 1024), m (c.tc.loc main_arg0) (ix2 s e) = (A.x s.val e.val : EReal)
  g : ∀ e : Fin 1024, m (c.tc.loc main_arg1) (ix1 e) = (A.g e.val : EReal)
  w : ∀ (e : Fin 1024) (f : Fin 6144), m (c.tc.loc main_arg2) (ix2 e f) = (A.w e.val f.val : EReal)
  cw : ∀ (k : Fin 3) (f : Fin 6144), m (c.tc.loc main_arg3) (ix2 k f) = (A.cw k.val f.val : EReal)
  wd : ∀ (f : Fin 3072) (e : Fin 1024), m (c.tc.loc main_arg4) (ix2 f e) = (A.wd f.val e.val : EReal)
  dx3 : ∀ (s : Fin 4096) (e : Fin 1024), m (c.tc.loc main_arg5) (ix2 s e) = (A.dx3 s.val e.val : EReal)

theorem idx_in : ∀ t : Fin grid0.N, (win0_0.index t 0 = t.val / 4 ∧ win0_0.index t 1 = 0)
    ∧ (win0_1.index t 0 = min (32 * (t.val / 4 + 1)) 255 ∧ win0_1.index t 1 = 0)
    ∧ (win0_2.index t 0 = t.val % 4 ∧ win0_2.index t 1 = 0)
    ∧ (win0_3.index t 0 = 0 ∧ win0_3.index t 1 = t.val / 4 ∧ win0_3.index t 2 = t.val % 4)
    ∧ (win0_4.index t 0 = 0 ∧ win0_4.index t 1 = t.val / 4 ∧ win0_4.index t 2 = t.val % 4)
    ∧ (win0_5.index t 0 = 0 ∧ win0_5.index t 1 = min (32 * (t.val / 4 + 1)) 255 ∧ win0_5.index t 2 = t.val % 4)
    ∧ (win0_6.index t 0 = 0 ∧ win0_6.index t 1 = 0 ∧ win0_6.index t 2 = t.val % 4)
    ∧ (win0_7.index t 0 = t.val % 4 ∧ win0_7.index t 1 = 0 ∧ win0_7.index t 2 = 0)
    ∧ (win0_8.index t 0 = t.val % 4 + 4 ∧ win0_8.index t 1 = 0 ∧ win0_8.index t 2 = 0)
    ∧ (win0_9.index t 0 = t.val / 4 ∧ win0_9.index t 1 = 0)
    ∧ (win0_10.index t 0 = 0 ∧ win0_10.index t 1 = 0)
    ∧ (win0_11.index t 0 = t.val / 4 ∧ win0_11.index t 1 = 0) := by decide +kernel

theorem idx_out : ∀ t : Fin grid0.N, (win0_12.index t 0 = t.val / 4 ∧ win0_12.index t 1 = 0)
    ∧ (win0_13.index t 0 = t.val / 4 ∧ win0_13.index t 1 = 0)
    ∧ (win0_14.index t 0 = 0 ∧ win0_14.index t 1 = 0)
    ∧ (win0_15.index t 0 = 0 ∧ win0_15.index t 1 = t.val / 4 ∧ win0_15.index t 2 = t.val % 4)
    ∧ (win0_16.index t 0 = 0 ∧ win0_16.index t 1 = 0 ∧ win0_16.index t 2 = 0) := by decide +kernel

theorem lt32 (t : Fin cfg0.N) : t.val < 32 := by have := t.isLt; have : cfg0.N = 32 := N_0; omega

/-- Row `r` of the rows of point `t`. -/
def rw_ (t : Fin cfg0.N) (r : Fin 512) : Fin 4096 := ⟨512 * (t.val / 4) + r.val, by have := lt32 t; omega⟩

/-- Row `r` of the sixteen after them. -/
def nxt (t : Fin cfg0.N) (r : Fin 16) : Fin 4096 := ⟨16 * min (32 * (t.val / 4 + 1)) 255 + r.val, by omega⟩

/-- Column `l` of the columns of point `t`. -/
def cl (t : Fin cfg0.N) (l : Fin 768) : Fin 3072 := ⟨768 * (t.val % 4) + l.val, by omega⟩

section Windows

variable (c : Dev nD) (t : Fin cfg0.N)

theorem w0 (r : Fin 512) (e : Fin 1024) : (iblk m c 0 t : Vec Ideal S512x1024 .bf16) (ix2 r e) = V m c main_v63 (ix2 (rw_ t r) e) := by
  unfold rw_; blk_point [iblk, idx_in t]
theorem w1 (r : Fin 16) (e : Fin 1024) : (iblk m c 1 t : Vec Ideal S16x1024 .bf16) (ix2 r e) = V m c main_v63 (ix2 (nxt t r) e) := by
  unfold nxt; blk_point [iblk, idx_in t]
theorem w2 (l : Fin 768) (e : Fin 1024) : (iblk m c 2 t : Vec Ideal S768x1024 .bf16) (ix2 l e) = V m c main_v20 (ix2 (cl t l) e) := by
  unfold cl; blk_point [iblk, idx_in t]
theorem w3 (h : Fin 2) (r : Fin 512) (l : Fin 768) : (iblk m c 3 t : Vec Ideal S2x512x768 .bf16) (ix3 h r l) = V m c main_v59 (ix3 h (rw_ t r) (cl t l)) := by
  unfold rw_ cl; blk_point [iblk, idx_in t]
theorem w4 (h : Fin 2) (r : Fin 512) (l : Fin 768) : (iblk m c 4 t : Vec Ideal S2x512x768 .bf16) (ix3 h r l) = V m c main_v62 (ix3 h (rw_ t r) (cl t l)) := by
  unfold rw_ cl; blk_point [iblk, idx_in t]
theorem w5 (h : Fin 2) (r : Fin 16) (l : Fin 768) : (iblk m c 5 t : Vec Ideal S2x16x768 .bf16) (ix3 h r l) = V m c main_v62 (ix3 h (nxt t r) (cl t l)) := by
  unfold nxt cl; blk_point [iblk, idx_in t]
theorem w6 (h : Fin 2) (k : Fin 3) (l : Fin 768) : (iblk m c 6 t : Vec Ideal S2x3x768 .f32) (ix3 h k l) = V m c main_v19 (ix3 h k (cl t l)) := by
  unfold cl; blk_point [iblk, idx_in t]
theorem w7 (e : Fin 1024) (l : Fin 768) : (iblk m c 7 t : Vec Ideal S1x1024x768 .bf16) (ix3 0 e l) = V m c main_v17 (ix3 (⟨t.val % 4, by omega⟩ : Fin 8) e l) := by
  blk_point [iblk, idx_in t]
theorem w8 (e : Fin 1024) (l : Fin 768) : (iblk m c 8 t : Vec Ideal S1x1024x768 .bf16) (ix3 0 e l) = V m c main_v17 (ix3 (⟨t.val % 4 + 4, by omega⟩ : Fin 8) e l) := by
  blk_point [iblk, idx_in t]
theorem w9 (r : Fin 512) (e : Fin 1024) : (iblk m c 9 t : Vec Ideal S512x1024 .f32) (ix2 r e) = V m c main_arg0 (ix2 (rw_ t r) e) := by
  unfold rw_; blk_point [iblk, idx_in t]
theorem w10 (e : Fin 1024) : (iblk m c 10 t : Vec Ideal S1x1024 .f32) (ix2 0 e) = V m c main_v64 (ix2 0 e) := by
  blk_point [iblk, idx_in t]
theorem w11 (r : Fin 512) (e : Fin 1024) : (iblk m c 11 t : Vec Ideal S512x1024 .f32) (ix2 r e) = V m c main_arg5 (ix2 (rw_ t r) e) := by
  unfold rw_; blk_point [iblk, idx_in t]

end Windows

section Values

variable {m} {c : Dev nD} {A : In} (h : Holds m c A)
include h

theorem v_p (b : Fin 2) (s : Fin 4096) (f : Fin 3072) : (V m c main_v59 : FVec Ideal S2x4096x3072 .bf16) (ix3 b s f) = (p A s.val (3072 * b.val + f.val) : EReal) := by
  rw [V_p, hSplit_apply]
  refine (hP_apply h.x h.g h.w _ _).trans (congrArg (fun k => (p A s.val k : EReal)) ?_)
  show b.val * 3072 + f.val = 3072 * b.val + f.val
  omega

theorem v_u (b : Fin 2) (s : Fin 4096) (f : Fin 3072) : (V m c main_v62 : FVec Ideal S2x4096x3072 .bf16) (ix3 b s f) = (u A s.val (3072 * b.val + f.val) : EReal) := by
  rw [V_u, hSplit_apply]
  refine (hU_apply h.cw (hP_apply h.x h.g h.w) _ _).trans (congrArg (fun k => (u A s.val k : EReal)) ?_)
  show b.val * 3072 + f.val = 3072 * b.val + f.val
  omega

variable (t : Fin cfg0.N)

omit h in
theorem nxt_val (h7 : (grid0.coords t 0).val ≠ 7) (r : Fin 16) : (nxt t r).val = 512 * (grid0.coords t 0).val + (512 + r.val) := by
  have hr := coords_row t
  have ht := lt32 t
  unfold nxt; dsimp only; omega

omit h in
theorem rw_val (r : Fin 512) : (rw_ t r).val = 512 * (grid0.coords t 0).val + r.val := by
  rw [coords_row]; rfl

omit h in
theorem cl_val (l : Fin 768) : (cl t l).val = 768 * (grid0.coords t 1).val + l.val := by
  rw [coords_col]; rfl

theorem b0 (r : Fin 512) (e : Fin 1024) : (ins m c t).dxb (ix2 r e) = (A.dx3 (512 * (grid0.coords t 0).val + r.val) e.val : EReal) := by
  rw [← rw_val]; exact (w0 m c t r e).trans ((V_dxb m c _ _).trans (h.dx3 _ _))
theorem b1 (h7 : (grid0.coords t 0).val ≠ 7) (r : Fin 16) (e : Fin 1024) :
    (ins m c t).dxn (ix2 r e) = (A.dx3 (512 * (grid0.coords t 0).val + (512 + r.val)) e.val : EReal) := by
  rw [← nxt_val t h7]; exact (w1 m c t r e).trans ((V_dxb m c _ _).trans (h.dx3 _ _))
theorem b2 (l : Fin 768) (e : Fin 1024) : (ins m c t).wd (ix2 l e) = (A.wd (768 * (grid0.coords t 1).val + l.val) e.val : EReal) := by
  rw [← cl_val]; exact (w2 m c t l e).trans ((V_wd m c _ _).trans (h.wd _ _))
theorem b3 (b : Fin 2) (r : Fin 512) (l : Fin 768) :
    (ins m c t).p (ix3 b r l) = (p A (512 * (grid0.coords t 0).val + r.val) (3072 * b.val + (768 * (grid0.coords t 1).val + l.val)) : EReal) := by
  rw [← cl_val, ← rw_val]; exact (w3 m c t b r l).trans (v_p h _ _ _)
theorem b4 (b : Fin 2) (r : Fin 512) (l : Fin 768) :
    (ins m c t).u (ix3 b r l) = (u A (512 * (grid0.coords t 0).val + r.val) (3072 * b.val + (768 * (grid0.coords t 1).val + l.val)) : EReal) := by
  rw [← cl_val, ← rw_val]; exact (w4 m c t b r l).trans (v_u h _ _ _)
theorem b5 (h7 : (grid0.coords t 0).val ≠ 7) (b : Fin 2) (r : Fin 16) (l : Fin 768) :
    (ins m c t).un (ix3 b r l) = (u A (512 * (grid0.coords t 0).val + (512 + r.val)) (3072 * b.val + (768 * (grid0.coords t 1).val + l.val)) : EReal) := by
  rw [← cl_val, ← nxt_val t h7]; exact (w5 m c t b r l).trans (v_u h _ _ _)
theorem b5' (b : Fin 2) (r : Fin 16) (l : Fin 768) : ∃ y : ℝ, (ins m c t).un (ix3 b r l) = (y : EReal) := ⟨_, (w5 m c t b r l).trans (v_u h _ _ _)⟩
theorem b6 (b : Fin 2) (k : Fin 3) (l : Fin 768) :
    (ins m c t).fw (ix3 b k l) = (A.cw k.val (3072 * b.val + (768 * (grid0.coords t 1).val + l.val)) : EReal) := by
  rw [← cl_val]
  refine (w6 m c t b k l).trans ((congrFun (V_cw m c) _).trans ((hCw_apply _ _ _).trans ((h.cw _ _).trans (congrArg (fun q => (A.cw k.val q : EReal)) ?_))))
  show b.val * 3072 + (cl t l).val = 3072 * b.val + (cl t l).val
  omega
theorem b7 (e : Fin 1024) (l : Fin 768) : (ins m c t).wg (ix3 0 e l) = (A.w e.val (768 * (grid0.coords t 1).val + l.val) : EReal) := by
  rw [← cl_val]; exact (w7 m c t e l).trans ((V_w_apply m c _ _ _).trans (h.w _ _))
theorem b8 (e : Fin 1024) (l : Fin 768) : (ins m c t).wu (ix3 0 e l) = (A.w e.val (3072 + (768 * (grid0.coords t 1).val + l.val)) : EReal) := by
  rw [coords_col]
  refine (w8 m c t e l).trans ((V_w_apply m c _ _ _).trans ((h.w _ _).trans (congrArg (fun q => (A.w e.val q : EReal)) ?_)))
  show 768 * (t.val % 4 + 4) + l.val = 3072 + (768 * (t.val % 4) + l.val)
  omega
theorem b9 (r : Fin 512) (e : Fin 1024) : (ins m c t).x2 (ix2 r e) = (A.x (512 * (grid0.coords t 0).val + r.val) e.val : EReal) := by
  rw [← rw_val]; exact (w9 m c t r e).trans ((V_x m c _ _).trans (h.x _ _))
theorem b10 (e : Fin 1024) : (ins m c t).g (ix2 0 e) = (A.g e.val : EReal) := (w10 m c t e).trans ((V_g m c _).trans (h.g _))
theorem b11 (r : Fin 512) (e : Fin 1024) : (ins m c t).dx3 (ix2 r e) = (A.dx3 (512 * (grid0.coords t 0).val + r.val) e.val : EReal) := by
  rw [← rw_val]; exact (w11 m c t r e).trans ((V_dx3 m c _ _).trans (h.dx3 _ _))

/-- The blocks of a point. -/
theorem blockOf : BlockOf A (grid0.coords t) (ins m c t) :=
  ⟨b0 h t, b1 h t, b2 h t, b3 h t, b4 h t, b5 h t, b5' h t, b6 h t, b7 h t, b8 h t, b9 h t, b10 h t, b11 h t⟩

end Values

/-! ## The results -/

/-- A position by its coordinates. -/
theorem eta2 {a b : ℕ} (j : (⟨2, ![a, b]⟩ : Shape).Idx) : j = ix2 (j 0) (j 1) := by funext x; fin_cases x <;> rfl
theorem eta3 {a b c : ℕ} (j : (⟨3, ![a, b, c]⟩ : Shape).Idx) : j = ix3 (j 0) (j 1) (j 2) := by funext x; fin_cases x <;> rfl

theorem flush_out12 : ∀ t : Fin cfg0.N, (cfg0.win 12).flush t = true → t.val % 4 = 3 := by decide +kernel
theorem flush_out13 : ∀ t : Fin cfg0.N, (cfg0.win 13).flush t = true → t.val % 4 = 3 := by decide +kernel

/-- The results. -/
def oDx (A : In) (i : S4096x1024.Idx) : EReal := (dx A (i 0).val (i 1) : EReal)
def oDg (A : In) (i : S8x1024.Idx) : EReal := if (i 0).val = 0 then (dg A (i 1).val : EReal) else 0
def oDp (A : In) (i : S2x4096x3072.Idx) : EReal := (dp A (i 0).val (i 1).val (i 2).val : EReal)
def oDw (A : In) (i : S2x8x3072.Idx) : EReal := if (i 1).val < 3 then (dw A (i 0).val (i 1).val (i 2).val : EReal) else 0

/-- The last point. -/
def tEnd : Fin cfg0.N := ⟨31, by decide⟩

section Finals

variable {m} {c : Dev nD} {A : In} (h : Holds m c A)
include h

/-- The first result: the gradient at the residual stream. -/
theorem final12 : (dats m 0 c).arrAt 12 cfg0.N = oDx A := by
  refine (dats m 0 c).arrAt_eq_of_covers 12 _ (by decide +kernel) fun t hf y => ?_
  have ht : t.val % 4 = 3 := flush_out12 t hf
  blk_simp
  rw [after0_12]
  have he : (win0_12.blk t).view.emb y = (ix2 (rw_ t (y 0)) (y 1) : S4096x1024.Idx) := by unfold rw_; blk_ext [idx_out t]
  rw [he]
  exact (congrArg _ (eta2 y)).trans (pay3 (blockOf h) t ht _ _)

/-- The second result: the same. -/
theorem final13 : (dats m 0 c).arrAt 13 cfg0.N = oDx A := by
  refine (dats m 0 c).arrAt_eq_of_covers 13 _ (by decide +kernel) fun t hf y => ?_
  have ht : t.val % 4 = 3 := flush_out13 t hf
  blk_simp
  rw [after0_13]
  have he : (win0_13.blk t).view.emb y = (ix2 (rw_ t (y 0)) (y 1) : S4096x1024.Idx) := by unfold rw_; blk_ext [idx_out t]
  rw [he]
  exact ((congrArg _ (eta2 y)).trans (read4 _ _ _ _ _ _)).trans (pay3 (blockOf h) t ht _ _)

/-- The third result: the scale's gradient in row 0, zero in the others. -/
theorem final14 : (dats m 0 c).arrAt 14 cfg0.N = oDg A := by
  have e : ∀ (r : Fin 8) (l : Fin 1024), dgs m c 31 (by decide) (ix2 r l) = if r.val = 0 then (dg A l.val : EReal) else 0 := dgs_end (blockOf h)
  refine (dats m 0 c).arrAt_eq_of_after_last 14 tEnd (by decide +kernel) _ fun j => ?_
  blk_simp
  rw [after0_14]
  exact (congrArg _ (eta2 j)).trans (e _ _)

/-- The fourth result: the cotangent of the up-projection, its two halves one after the other. -/
theorem final15 : (dats m 0 c).arrAt 15 cfg0.N = oDp A := by
  refine (dats m 0 c).arrAt_eq_of_covers 15 _ (by decide +kernel) fun t hf y => ?_
  blk_simp
  rw [after0_15]
  have he : (win0_15.blk t).view.emb y = (ix3 (y 0) (rw_ t (y 1)) (cl t (y 2)) : S2x4096x3072.Idx) := by unfold rw_ cl; blk_ext [idx_out t]
  rw [he]
  refine (congrArg _ (eta3 y)).trans ((dpAll_apply (blockOf h t) (y 0) (y 1) (y 2)).trans ?_)
  rw [coords_row, coords_col]; rfl

/-- The fifth result: the taps' gradient, its two halves one after the other, filled up with rows of zeros. -/
theorem final16 : (dats m 0 c).arrAt 16 cfg0.N = oDw A := by
  have e : ∀ (b : Fin 2) (k : Fin 8) (f : Fin 3072), dwAll (aws m c 31 (by decide)) (ix3 b k f) = if k.val < 3 then (dw A b.val k.val f.val : EReal) else 0 := dw_end (blockOf h)
  refine (dats m 0 c).arrAt_eq_of_after_last 16 tEnd (by decide +kernel) _ fun j => ?_
  blk_simp
  rw [after0_16]
  exact (congrArg _ (eta3 j)).trans (e _ _ _)

end Finals

end Cert.FfnKernelIdeal.Run

end
-- ==== Proof.Ffn.Reference.lean ====
/- What the reference of the feed-forward block's backward computes, at real arguments. -/
module

public import proofs.«01_k».proof.Proof.Gen.FfnReferenceIdeal.Read
public import proofs.«01_k».proof.Defs
public import proofs.«01_k».proof.Proof.Ffn.Spec
public import Idealize.ShloMosaic.Lib.Pointwise
public import Idealize.ShloMosaic.Lib.KernelVsHost
public import Idealize.ShloMosaic.Lib.Claim

@[expose] public section

set_option maxRecDepth 16384

noncomputable section

namespace Cert.FfnReferenceIdeal.Read

open Cert.FfnReferenceIdeal Cert.FfnReferenceIdeal.Gen Idealize.ShloMosaic Idealize.ShloMosaic.TcCoe Idealize.SL.Sem
open Cert.Reals Cert.RmsNorm Cert.Ffn

/-! ## Lines of the reference over the reals -/

theorem w3 : Ideal.ofBits .f32 0x40400000#32 = ((3 : ℝ) : EReal) := by
  simp [Ideal.ofBits, Ideal.ieee]; rw [← EReal.coe_mul]; norm_num

theorem w8943 : Ideal.ofBits .f32 0x460BBC00#32 = ((8943 : ℝ) : EReal) := by
  simp [Ideal.ofBits, Ideal.ieee]; rw [← EReal.coe_mul]; norm_num

theorem w200000 : Ideal.ofBits .f32 0x48435000#32 = ((200000 : ℝ) : EReal) := by
  simp [Ideal.ofBits, Ideal.ieee]; rw [← EReal.coe_mul]; norm_num

/-- The factor of the cube, as the reference writes it. -/
theorem quotient : Ideal.div (Ideal.ofBits .f32 0x460BBC00#32) (Ideal.ofBits .f32 0x48435000#32) = (ga : EReal) := by
  rw [w8943, w200000, div_real (by norm_num)]; rfl

/-- Rows padded with rows of zeros. -/
theorem pad_rows {n m c lo hi : ℕ} (x : FVec Ideal ⟨2, ![n, c]⟩ .f32) {u : Shape} (v : FVec Ideal u .f32) (h : (⟨2, ![n, c]⟩ : Shape).Pads ![lo, 0] ![hi, 0] ![0, 0] ⟨2, ![m, c]⟩)
    (hu : 0 < u.numel) (hv : v (Shape.Idx.first hu) = (0 : EReal)) (f : ℕ → ℝ) (j : Fin c) (hx : ∀ s : Fin n, x (ix2 s j) = (f s.val : EReal)) (r : Fin m) :
    pad ⟨2, ![m, c]⟩ ![lo, 0] ![hi, 0] ![0, 0] x v h hu (ix2 r j) = ((if lo ≤ r.val ∧ r.val - lo < n then f (r.val - lo) else 0 : ℝ) : EReal) := by
  by_cases hr : lo ≤ r.val ∧ r.val - lo < n
  · rw [if_pos hr]
    refine (pad_apply_of_inside _ _ _ x v h hu (ix2 r j) (ix2 ⟨r.val - lo, hr.2⟩ j) fun a => ?_).trans (hx ⟨r.val - lo, hr.2⟩)
    fin_cases a
    · show r.val = lo + (r.val - lo) * (0 + 1); omega
    · show j.val = 0 + j.val * (0 + 1); omega
  · rw [if_neg hr, EReal.coe_zero]
    refine (pad_apply_of_not_inside _ _ _ x v h hu (ix2 r j) 0 fun hh => hr ?_).trans hv
    have h1 : lo ≤ r.val := hh.1
    have h2 : (r.val - lo) / (0 + 1) < n := hh.2.2
    rw [Nat.zero_add, Nat.div_one] at h2
    exact ⟨h1, h2⟩

/-- The gate's derivative, as the chain rule leaves it. -/
theorem gate_eq (a up g : ℝ) :
    a * up * (1 / 2 * (1 + th g)) + gc * (1 / 2 * (g * (a * up)) * ((1 + th g) * (1 - th g))) + ga * (gc * (1 / 2 * (g * (a * up)) * ((1 + th g) * (1 - th g)))) * (3 * (g * g))
      = a * up * dgelu g := by
  unfold dgelu; ring

/-- A tap's gradient: the sum over the convolution's rows is the sum over the up-projection's. -/
theorem tap_eq (A : In) (h f : ℕ) (k : ℕ) (hk : k ≤ 2) :
    ∑ s : Fin 4096, pz A (k + s.val) (3072 * h + f) * du A h s.val f = dw A h k f := by
  rw [← Finset.sum_range (fun s => pz A (k + s) (3072 * h + f) * du A h s f)]
  have hd : ∀ s, 4096 ≤ s → du A h s f = 0 := fun s hs => by unfold du; rw [if_neg (by omega)]
  have hp : ∀ s, s < 2 → pz A s (3072 * h + f) = 0 := fun s hs => by unfold pz; rw [if_pos hs]
  have hq : ∀ s, pz A (s + 2) (3072 * h + f) = p A s (3072 * h + f) := fun s => by unfold pz; rw [if_neg (by omega), Nat.add_sub_cancel]
  unfold dw dwT
  obtain rfl | rfl | rfl : k = 0 ∨ k = 1 ∨ k = 2 := by omega
  · rw [Finset.sum_range_succ' _ 4095, Finset.sum_range_succ' _ 4094, Finset.sum_range_succ _ 4095, Finset.sum_range_succ _ 4094]
    rw [hp 0 (by omega), hp (0 + (0 + 1)) (by omega), hd (4095 + 2 - 0) (by omega), hd (4094 + 2 - 0) (by omega)]
    simp only [zero_mul, add_zero]
    refine Finset.sum_congr rfl fun s _ => ?_
    rw [show 0 + (s + 1 + 1) = s + 2 by omega, hq, show s + 2 - 0 = s + 1 + 1 by omega, mul_comm]
  · rw [Finset.sum_range_succ' _ 4095, Finset.sum_range_succ _ 4095]
    rw [hp (1 + 0) (by omega), hd (4095 + 2 - 1) (by omega)]
    simp only [zero_mul, add_zero]
    refine Finset.sum_congr rfl fun s _ => ?_
    rw [show 1 + (s + 1) = s + 2 by omega, hq, show s + 2 - 1 = s + 1 by omega, mul_comm]
  · refine Finset.sum_congr rfl fun s _ => ?_
    rw [Nat.add_comm 2 s, hq, Nat.add_sub_cancel, mul_comm]

/-- The sum over all columns is the sum over both halves. -/
theorem halves (A : In) (s e : ℕ) : ∑ j : Fin 6144, dp A (j.val / 3072) s (j.val % 3072) * A.w e j.val = dh A s e := by
  rw [← Finset.sum_range (fun j => dp A (j / 3072) s (j % 3072) * A.w e j), show 6144 = 3072 + 3072 from rfl, Finset.sum_range_add, ← Finset.sum_add_distrib]
  unfold dh dhT
  refine Finset.sum_congr rfl fun f hf => ?_
  have hf' : f < 3072 := Finset.mem_range.mp hf
  rw [show f / 3072 = 0 by omega, show f % 3072 = f by omega, show (3072 + f) / 3072 = 1 by omega, show (3072 + f) % 3072 = f by omega]

section

variable (x0 : FVec Ideal S4096x1024 .f32) (x1 : FVec Ideal S1024 .f32) (x2 : FVec Ideal S1024x6144 .f32) (x3 : FVec Ideal S3x6144 .f32)
  (x4 : FVec Ideal S3072x1024 .f32) (x5 : FVec Ideal S4096x1024 .f32)

/-- The arrays hold the arrays `A`. -/
structure Holds (A : In) : Prop where
  x : ∀ (s : Fin 4096) (e : Fin 1024), x0 (ix2 s e) = (A.x s.val e.val : EReal)
  g : ∀ e : Fin 1024, x1 (ix1 e) = (A.g e.val : EReal)
  w : ∀ (e : Fin 1024) (f : Fin 6144), x2 (ix2 e f) = (A.w e.val f.val : EReal)
  cw : ∀ (k : Fin 3) (f : Fin 6144), x3 (ix2 k f) = (A.cw k.val f.val : EReal)
  wd : ∀ (f : Fin 3072) (e : Fin 1024), x4 (ix2 f e) = (A.wd f.val e.val : EReal)
  dx3 : ∀ (s : Fin 4096) (e : Fin 1024), x5 (ix2 s e) = (A.dx3 s.val e.val : EReal)

variable {x0 x1 x2 x3 x4 x5} {A : In} (h : Holds x0 x1 x2 x3 x4 x5 A)
include h

/-! ## The forward lines -/

theorem v7 (s : Fin 4096) : val_main_v7 (F := Ideal) x0 (ix2 s 0) = (ms (row A s.val) : EReal) := by
  pointwise [val_main_v7, val_main_v6, val_main_v5, val_main_v4, val_main_v3, val_main_v2, val_main_v1, val_main_cst_0, val_main_cst_1, val_main_cst_2]
  simp only [h.x]; exact ms_coe (row A s.val)

theorem v8 (s : Fin 4096) : val_main_v8 (F := Ideal) x0 (ix2 s 0) = (rstd (row A s.val) : EReal) := by
  pointwise [val_main_v8]
  rw [v7 h, rsqrt_pos (ms_pos _)]; rfl

theorem v13 (s : Fin 4096) (e : Fin 1024) : val_main_v13 (F := Ideal) x0 (ix2 s e) = (n A s.val e.val : EReal) := by
  pointwise [val_main_v13, val_main_v12]
  rw [v8 h, h.x, ← EReal.coe_mul]; rfl

/-- The up-projection. -/
theorem v18 (s : Fin 4096) (f : Fin 6144) : val_main_v18 (F := Ideal) x0 x1 x2 (ix2 s f) = (p A s.val f.val : EReal) := by
  pointwise [val_main_v18, val_main_v17, val_main_v16, val_main_v15, val_main_v14, val_main_v0, val_main_cst]
  simp only [v13 h, h.g, h.w, ← EReal.coe_mul, ← coe_sum, add_zero]
  rfl

theorem v20 (s : Fin 4098) (f : Fin 6144) : val_main_v20 (F := Ideal) x0 x1 x2 (ix2 s f) = (pz A s.val f.val : EReal) := by
  unfold pz val_main_v20
  by_cases hs : s.val < 2
  · rw [if_pos hs]
    refine Eq.trans (b := (0 : EReal)) ?_ EReal.coe_zero.symm
    refine (concatenate_pair_apply_left (α := Ideal .f32) (t := S4098x6144) (s₁ := S2x6144) (s₂ := S4096x6144) 0 _ _ _ (ix2 s f) rfl (ix2 ⟨s.val, hs⟩ f) fun b => ?_).trans ?_
    · fin_cases b <;> rfl
    pointwise [val_main_v19, val_main_cst_4]
  · rw [if_neg hs]
    refine (concatenate_pair_apply_right (α := Ideal .f32) (t := S4098x6144) (s₁ := S2x6144) (s₂ := S4096x6144) 0 _ _ _ (ix2 s f) rfl rfl (ix2 ⟨s.val - 2, by omega⟩ f) (fun b hb => ?_) ?_).trans (v18 h _ _)
    · fin_cases b
      · exact absurd rfl hb
      · rfl
    · show s.val - 2 + 2 = s.val
      omega

theorem v22 (s : Fin 4096) (f : Fin 6144) : val_main_v22 (F := Ideal) x0 x1 x2 (ix2 s f) = (pz A s.val f.val : EReal) := by
  pointwise [val_main_v22]
  exact v20 h _ _

theorem v28 (s : Fin 4096) (f : Fin 6144) : val_main_v28 (F := Ideal) x0 x1 x2 (ix2 s f) = (pz A (1 + s.val) f.val : EReal) := by
  pointwise [val_main_v28]
  rw [v20 h]

theorem v35 (s : Fin 4096) (f : Fin 6144) : val_main_v35 (F := Ideal) x0 x1 x2 (ix2 s f) = (pz A (2 + s.val) f.val : EReal) := by
  pointwise [val_main_v35]
  rw [v20 h]

theorem v25 (f : Fin 6144) : val_main_v25 (F := Ideal) x3 (ix2 0 f) = (A.cw 0 f.val : EReal) := by
  pointwise [val_main_v25, val_main_v24, val_main_v23]
  exact h.cw 0 f

theorem v31 (f : Fin 6144) : val_main_v31 (F := Ideal) x3 (ix2 0 f) = (A.cw 1 f.val : EReal) := by
  pointwise [val_main_v31, val_main_v30, val_main_v29]
  exact h.cw 1 f

theorem v38 (f : Fin 6144) : val_main_v38 (F := Ideal) x3 (ix2 0 f) = (A.cw 2 f.val : EReal) := by
  pointwise [val_main_v38, val_main_v37, val_main_v36]
  exact h.cw 2 f

/-- The convolution. -/
theorem v41 (s : Fin 4096) (f : Fin 6144) : val_main_v41 (F := Ideal) x0 x1 x2 x3 (ix2 s f) = (u A s.val f.val : EReal) := by
  pointwise [val_main_v41, val_main_v40, val_main_v39, val_main_v34, val_main_v33, val_main_v32, val_main_v27, val_main_v26]
  rw [v22 h, v28 h, v35 h, v25 h, v31 h, v38 h, ← EReal.coe_mul, ← EReal.coe_mul, ← EReal.coe_mul, ← EReal.coe_add, ← EReal.coe_add,
    Nat.add_comm 1, Nat.add_comm 2]
  rfl

theorem v42 (s : Fin 4096) (f : Fin 3072) : val_main_v42 (F := Ideal) x0 x1 x2 x3 (ix2 s f) = (u A s.val f.val : EReal) := by
  pointwise [val_main_v42]
  rw [v41 h]

theorem v43 (s : Fin 4096) (f : Fin 3072) : val_main_v43 (F := Ideal) x0 x1 x2 x3 (ix2 s f) = (u A s.val (3072 + f.val) : EReal) := by
  pointwise [val_main_v43]
  rw [v41 h]

/-- The gate's tangent. -/
theorem v55 (s : Fin 4096) (f : Fin 3072) : val_main_v55 (F := Ideal) x0 x1 x2 x3 (ix2 s f) = (th (u A s.val f.val) : EReal) := by
  pointwise [val_main_v55, val_main_v54, val_main_v53, val_main_v52, val_main_v51, val_main_v50, val_main_v46, val_main_v45, val_main_v44, val_main_cst_6, val_main_cst_7, val_main_cst_9]
  rw [v42 h, quotient, wgc]
  simp only [← EReal.coe_mul, ← EReal.coe_add]
  refine Eq.trans (b := ((Real.tanh (gc * (u A s.val f.val + ga * (u A s.val f.val * u A s.val f.val * u A s.val f.val))) : ℝ) : EReal)) rfl ?_
  refine congrArg (fun x : ℝ => ((Real.tanh x : ℝ) : EReal)) ?_
  ring

theorem v64 (s : Fin 4096) (f : Fin 3072) : val_main_v64 (F := Ideal) x0 x1 x2 x3 (ix2 s f) = ((1 / 2 * (1 + th (u A s.val f.val)) : ℝ) : EReal) := by
  pointwise [val_main_v64, val_main_v63, val_main_v62, val_main_v61, val_main_cst_12, val_main_cst_13]
  rw [v55 h, whalf, ← EReal.coe_one, ← EReal.coe_add, ← EReal.coe_mul]

/-- The gate's function. -/
theorem v65 (s : Fin 4096) (f : Fin 3072) : val_main_v65 (F := Ideal) x0 x1 x2 x3 (ix2 s f) = (gelu (u A s.val f.val) : EReal) := by
  pointwise [val_main_v65]
  rw [v42 h, v64 h, ← EReal.coe_mul]; rfl

/-! ## The backward lines -/

/-- The gated product's cotangent. -/
theorem v70 (s : Fin 4096) (f : Fin 3072) : val_main_v70 (F := Ideal) x4 x5 (ix2 s f) = (a A s.val f.val : EReal) := by
  pointwise [val_main_v70, val_main_v69]
  simp only [h.dx3, h.wd, ← EReal.coe_mul, ← coe_sum]
  rfl

theorem v71 (s : Fin 4096) (f : Fin 3072) : val_main_v71 (F := Ideal) x0 x1 x2 x3 x4 x5 (ix2 s f) = (du A 1 s.val f.val : EReal) := by
  pointwise [val_main_v71]
  rw [v65 h, v70 h, ← EReal.coe_mul, mul_comm]
  unfold du
  rw [if_pos s.isLt, if_neg (by omega)]

theorem v84 (s : Fin 4096) (f : Fin 3072) : val_main_v84 (F := Ideal) x0 x1 x2 x3 x4 x5 (ix2 s f) = (du A 0 s.val f.val : EReal) := by
  pointwise [val_main_v84, val_main_v83, val_main_v82, val_main_v81, val_main_v80, val_main_v79, val_main_v78, val_main_v77, val_main_v76, val_main_v75, val_main_v74, val_main_v73, val_main_v72,
    val_main_v60, val_main_v59, val_main_v58, val_main_v57, val_main_v56, val_main_v49, val_main_v48, val_main_v47, val_main_v44, val_main_cst_6, val_main_cst_7, val_main_cst_8, val_main_cst_10, val_main_cst_11, val_main_cst_14, val_main_cst_15]
  rw [v70 h, v43 h, v42 h, v55 h, v64 h, quotient, wgc, whalf, w3, ← EReal.coe_one]
  simp only [← EReal.coe_mul, ← EReal.coe_add, ← EReal.coe_sub]
  unfold du
  rw [if_pos s.isLt, if_pos rfl, ← gate_eq]

/-- The convolution's cotangent. -/
theorem v85 (s : Fin 4096) (j : Fin 6144) : val_main_v85 (F := Ideal) x0 x1 x2 x3 x4 x5 (ix2 s j) = (du A (j.val / 3072) s.val (j.val % 3072) : EReal) := by
  unfold val_main_v85
  by_cases hj : j.val < 3072
  · rw [show j.val / 3072 = 0 by omega, show j.val % 3072 = j.val by omega]
    refine (concatenate_pair_apply_left (α := Ideal .f32) (t := S4096x6144) (s₁ := S4096x3072) (s₂ := S4096x3072) 1 _ _ _ (ix2 s j) rfl (ix2 s ⟨j.val, hj⟩) fun b => ?_).trans (v84 h _ _)
    fin_cases b <;> rfl
  · rw [show j.val / 3072 = 1 by omega, show j.val % 3072 = j.val - 3072 by omega]
    refine (concatenate_pair_apply_right (α := Ideal .f32) (t := S4096x6144) (s₁ := S4096x3072) (s₂ := S4096x3072) 1 _ _ _ (ix2 s j) rfl rfl (ix2 s ⟨j.val - 3072, by omega⟩) (fun b hb => ?_) ?_).trans (v71 h _ _)
    · fin_cases b
      · rfl
      · exact absurd rfl hb
    · show j.val - 3072 + 3072 = j.val
      omega

theorem v90 (s : Fin 4096) (j : Fin 6144) : val_main_v90 (F := Ideal) x0 x1 x2 x3 x4 x5 (ix2 s j) = ((du A (j.val / 3072) s.val (j.val % 3072) * A.cw 2 j.val : ℝ) : EReal) := by
  pointwise [val_main_v90, val_main_v89]
  rw [v85 h, v38 h, ← EReal.coe_mul]

theorem v99 (s : Fin 4096) (j : Fin 6144) : val_main_v99 (F := Ideal) x0 x1 x2 x3 x4 x5 (ix2 s j) = ((du A (j.val / 3072) s.val (j.val % 3072) * A.cw 1 j.val : ℝ) : EReal) := by
  pointwise [val_main_v99, val_main_v98]
  rw [v85 h, v31 h, ← EReal.coe_mul]

theorem v110 (s : Fin 4096) (j : Fin 6144) : val_main_v110 (F := Ideal) x0 x1 x2 x3 x4 x5 (ix2 s j) = ((du A (j.val / 3072) s.val (j.val % 3072) * A.cw 0 j.val : ℝ) : EReal) := by
  pointwise [val_main_v110, val_main_v109]
  rw [v85 h, v25 h, ← EReal.coe_mul]

/-- The up-projection's cotangent. -/
theorem v118 (s : Fin 4096) (j : Fin 6144) : val_main_v118 (F := Ideal) x0 x1 x2 x3 x4 x5 (ix2 s j) = (dp A (j.val / 3072) s.val (j.val % 3072) : EReal) := by
  pointwise [val_main_v118, val_main_v116, val_main_v105]
  unfold val_main_v94 val_main_v104 val_main_v115
  rw [pad_rows (n := 4096) (m := 4098) (c := 6144) (hi := 0) _ _ _ _ wzero (fun s => du A (j.val / 3072) s (j.val % 3072) * A.cw 2 j.val) j (fun s => v90 h s j) ⟨2 + s.val, by omega⟩,
    pad_rows (n := 4096) (m := 4098) (c := 6144) (hi := 1) _ _ _ _ wzero (fun s => du A (j.val / 3072) s (j.val % 3072) * A.cw 1 j.val) j (fun s => v99 h s j) ⟨2 + s.val, by omega⟩,
    pad_rows (n := 4096) (m := 4098) (c := 6144) (hi := 2) _ _ _ _ wzero (fun s => du A (j.val / 3072) s (j.val % 3072) * A.cw 0 j.val) j (fun s => v110 h s j) ⟨2 + s.val, by omega⟩,
    ← EReal.coe_add, ← EReal.coe_add]
  have hd : ∀ s, ¬ s < 4096 → du A (j.val / 3072) s (j.val % 3072) = 0 := fun s hs => by unfold du; rw [if_neg hs]
  have hz : ∀ (s : ℕ) (c : ℝ), (if s < 4096 then du A (j.val / 3072) s (j.val % 3072) * c else 0) = du A (j.val / 3072) s (j.val % 3072) * c := fun s c => by
    by_cases hs : s < 4096
    · rw [if_pos hs]
    · rw [if_neg hs, hd s hs, zero_mul]
  unfold dp
  simp only [show 2 ≤ 2 + s.val from by omega, show 1 ≤ 2 + s.val from by omega, show 0 ≤ 2 + s.val from by omega, true_and, hz, Nat.div_add_mod]
  rw [show 2 + s.val - 2 = s.val by omega, show 2 + s.val - 1 = s.val + 1 by omega, show 2 + s.val - 0 = s.val + 2 by omega]
  exact congrArg _ (by ring)

/-- The cotangent of the norm's output. -/
theorem v119 (s : Fin 4096) (e : Fin 1024) : val_main_v119 (F := Ideal) x0 x1 x2 x3 x4 x5 (ix2 s e) = (dh A s.val e.val : EReal) := by
  pointwise [val_main_v119]
  simp only [v118 h, h.w, ← EReal.coe_mul, ← coe_sum]
  rw [halves]

theorem v124 (s : Fin 4096) (e : Fin 1024) : val_main_v124 (F := Ideal) x0 x1 x2 x3 x4 x5 (ix2 s e) = ((dh A s.val e.val * A.g e.val : ℝ) : EReal) := by
  pointwise [val_main_v124, val_main_v123, val_main_v14]
  rw [v119 h, h.g, ← EReal.coe_mul]

/-! ## The results -/

/-- The gradient of the residual stream. -/
theorem v140 (s : Fin 4096) (e : Fin 1024) : val_main_v140 (F := Ideal) x0 x1 x2 x3 x4 x5 (ix2 s e) = (dx A s.val e : EReal) := by
  pointwise [val_main_v140, val_main_v139, val_main_v138, val_main_v137, val_main_v136, val_main_v135, val_main_v134, val_main_v133, val_main_v132, val_main_v131, val_main_v130, val_main_v129,
    val_main_v128, val_main_v127, val_main_v126, val_main_v11, val_main_v10, val_main_v9, val_main_cst_3, val_main_cst_30, val_main_cst_31, val_main_cst_32]
  simp only [Finset.univ_unique, Finset.sum_singleton, Fin.default_eq_zero, Fin.isValue, v124 h, v7 h, v8 h, h.x, h.dx3, wnhalf, w1024, div_real (ms_pos _).ne', ← EReal.coe_mul, ← coe_sum]
  simp only [div_real (show (1024 : ℝ) ≠ 0 by norm_num), ← EReal.coe_mul, add_assoc, ← EReal.coe_add]
  unfold dx
  rw [← grad_eq (row A s.val) (fun k => dh A s.val k.val * A.g k.val) e, add_assoc]
  rfl

/-- The same, the second result. -/
theorem v145 (s : Fin 4096) (e : Fin 1024) : val_main_v145 (F := Ideal) x0 x1 x2 x3 x4 x5 (ix2 s e) = (dx A s.val e : EReal) := by
  rw [← v140 h]; pointwise [val_main_v145]

/-- The gradient of the scale, in row 0. -/
theorem v149 (r : Fin 8) (e : Fin 1024) : val_main_v149 (F := Ideal) x0 x1 x2 x3 x4 x5 (ix2 r e) = if r.val = 0 then (dg A e.val : EReal) else 0 := by
  pointwise [val_main_v149, val_main_v148, val_main_v147, val_main_v146, val_main_v141, val_main_c_33, val_main_call1_v1, val_main_call1_v2, val_main_call1_v0, val_main_cst_34, val_main_v125, val_main_cst_29,
    val_main_v122, val_main_v121, val_main_cst_28, val_main_v120]
  simp only [Finset.univ_unique, Finset.sum_singleton, v13 h, v119 h, ← EReal.coe_mul, ← coe_sum]
  have hc : ∀ r : Fin 8, IntOp.cmpi CmpIPredicate.eq (BitVec.ofNat 32 r.val) 0#32 = if r.val = 0 then 1#1 else 0#1 := by decide
  rw [hc]
  by_cases hr : r.val = 0
  · rw [if_pos hr, if_pos hr]
    refine congrArg ((↑) : ℝ → EReal) ?_
    unfold dg
    rw [Finset.sum_range (fun s => dh A s e.val * n A s e.val)]
    exact Finset.sum_congr rfl fun s _ => mul_comm _ _
  · rw [if_neg hr, if_neg hr]
    show Ideal.ofBits .f32 0x00000000#32 = 0
    exact wzero

/-- The up-projection's cotangent, its halves one after the other. -/
theorem v152 (b : Fin 2) (s : Fin 4096) (f : Fin 3072) : val_main_v152 (F := Ideal) x0 x1 x2 x3 x4 x5 (ix3 b s f) = (dp A b.val s.val f.val : EReal) := by
  have e : val_main_v152 (F := Ideal) x0 x1 x2 x3 x4 x5 (ix3 b s f) = val_main_v118 (F := Ideal) x0 x1 x2 x3 x4 x5 (ix2 s ⟨b.val * 3072 + f.val, by omega⟩) := by
    pointwise [val_main_v152, val_main_v151, val_main_v150]
  rw [e, v118 h]
  show ((dp A ((b.val * 3072 + f.val) / 3072) s.val ((b.val * 3072 + f.val) % 3072) : ℝ) : EReal) = _
  rw [show (b.val * 3072 + f.val) / 3072 = b.val by omega, show (b.val * 3072 + f.val) % 3072 = f.val by omega]

theorem tap_row (k : ℕ) (hk : k ≤ 2) (j : Fin 6144) :
    ∑ s : Fin 4096, pz A (k + s.val) j.val * du A (j.val / 3072) s.val (j.val % 3072) = dw A (j.val / 3072) k (j.val % 3072) := by
  have := tap_eq A (j.val / 3072) (j.val % 3072) k hk
  rwa [Nat.div_add_mod] at this

theorem v92 (j : Fin 6144) (q : Fin 1) : val_main_v92 (F := Ideal) x0 x1 x2 x3 x4 x5 (ix2 q j) = (dw A (j.val / 3072) 2 (j.val % 3072) : EReal) := by
  pointwise [val_main_v92, val_main_v91, val_main_v88, val_main_v87, val_main_v86, val_main_cst_16, val_main_cst_17]
  simp only [Finset.univ_unique, Finset.sum_singleton, v35 h, v85 h, ← EReal.coe_mul, ← coe_sum]
  rw [tap_row h 2 (by omega)]

theorem v101 (j : Fin 6144) (q : Fin 1) : val_main_v101 (F := Ideal) x0 x1 x2 x3 x4 x5 (ix2 q j) = (dw A (j.val / 3072) 1 (j.val % 3072) : EReal) := by
  pointwise [val_main_v101, val_main_v100, val_main_v97, val_main_v96, val_main_v95, val_main_cst_20, val_main_cst_21]
  simp only [Finset.univ_unique, Finset.sum_singleton, v28 h, v85 h, ← EReal.coe_mul, ← coe_sum]
  rw [tap_row h 1 (by omega)]

theorem v112 (j : Fin 6144) (q : Fin 1) : val_main_v112 (F := Ideal) x0 x1 x2 x3 x4 x5 (ix2 q j) = (dw A (j.val / 3072) 0 (j.val % 3072) : EReal) := by
  pointwise [val_main_v112, val_main_v111, val_main_v108, val_main_v107, val_main_v106, val_main_cst_24, val_main_cst_25]
  simp only [Finset.univ_unique, Finset.sum_singleton, v22 h, v85 h, ← EReal.coe_mul, ← coe_sum]
  have e := tap_row h 0 (by omega) j
  simp only [Nat.zero_add] at e
  rw [e]

/-- The taps' gradient. -/
theorem v114 (k : Fin 3) (j : Fin 6144) : val_main_v114 (F := Ideal) x0 x1 x2 x3 x4 x5 (ix2 k j) = (dw A (j.val / 3072) k.val (j.val % 3072) : EReal) := by
  pointwise [val_main_v114, val_main_v103]
  unfold val_main_v93 val_main_v102 val_main_v113
  rw [pad_rows (n := 1) (m := 3) (c := 6144) (hi := 0) _ _ _ _ wzero (fun _ => dw A (j.val / 3072) 2 (j.val % 3072)) j (fun q => v92 h j q) k,
    pad_rows (n := 1) (m := 3) (c := 6144) (hi := 1) _ _ _ _ wzero (fun _ => dw A (j.val / 3072) 1 (j.val % 3072)) j (fun q => v101 h j q) k,
    pad_rows (n := 1) (m := 3) (c := 6144) (hi := 2) _ _ _ _ wzero (fun _ => dw A (j.val / 3072) 0 (j.val % 3072)) j (fun q => v112 h j q) k,
    ← EReal.coe_add, ← EReal.coe_add]
  fin_cases k <;> simp

theorem v143 (b : Fin 2) (k : Fin 3) (f : Fin 3072) : val_main_v143 (F := Ideal) x0 x1 x2 x3 x4 x5 (ix3 b k f) = (dw A b.val k.val f.val : EReal) := by
  have e : val_main_v143 (F := Ideal) x0 x1 x2 x3 x4 x5 (ix3 b k f) = val_main_v114 (F := Ideal) x0 x1 x2 x3 x4 x5 (ix2 k ⟨b.val * 3072 + f.val, by omega⟩) := by
    pointwise [val_main_v143, val_main_v142]
  rw [e, v114 h]
  show ((dw A ((b.val * 3072 + f.val) / 3072) k.val ((b.val * 3072 + f.val) % 3072) : ℝ) : EReal) = _
  rw [show (b.val * 3072 + f.val) / 3072 = b.val by omega, show (b.val * 3072 + f.val) % 3072 = f.val by omega]

/-- The same, in the first three of eight rows. -/
theorem v144 (b : Fin 2) (k : Fin 8) (f : Fin 3072) : val_main_v144 (F := Ideal) x0 x1 x2 x3 x4 x5 (ix3 b k f) = if k.val < 3 then (dw A b.val k.val f.val : EReal) else 0 := by
  unfold val_main_v144
  by_cases hk : k.val < 3
  · rw [if_pos hk]
    refine (pad_apply_of_inside _ _ _ _ _ _ _ (ix3 b k f) (ix3 b ⟨k.val, hk⟩ f) fun a => ?_).trans (v143 h b ⟨k.val, hk⟩ f)
    fin_cases a
    · show b.val = 0 + b.val * (0 + 1); omega
    · show k.val = 0 + k.val * (0 + 1); omega
    · show f.val = 0 + f.val * (0 + 1); omega
  · rw [if_neg hk]
    refine (pad_apply_of_not_inside _ _ _ _ _ _ _ (ix3 b k f) 1 fun hh => hk ?_).trans ?_
    · have h2 : (k.val - 0) / (0 + 1) < 3 := hh.2.2
      rwa [Nat.zero_add, Nat.div_one, Nat.sub_zero] at h2
    · show ((((0#32 : BitVec 32).toInt : ℤ) : ℝ) : EReal) = 0
      simp

end

theorem pre [Pre_ffn_finite.Facts] (x0 : FVec Ideal S4096x1024 .f32) (x1 : FVec Ideal S1024 .f32) (x2 : FVec Ideal S1024x6144 .f32) (x3 : FVec Ideal S3x6144 .f32)
    (x4 : FVec Ideal S3072x1024 .f32) (x5 : FVec Ideal S4096x1024 .f32) (h : Pre_ffn_finite.fn (F := Ideal) x0 x1 x2 x3 x4 x5 = fun _ => 1#1) : ∃ A, Holds x0 x1 x2 x3 x4 x5 A := by
  have := congrFun h (fun a => a.elim0)
  pointwise [Pre_ffn_finite.fn, Pre_ffn_finite.fn_part1] at this
  obtain ⟨h12345, h6⟩ := bit_and this
  obtain ⟨h1234, h5⟩ := bit_and h12345
  obtain ⟨h123, h4⟩ := bit_and h1234
  obtain ⟨h12, h3⟩ := bit_and h123
  obtain ⟨h1, h2⟩ := bit_and h12
  choose a1 e1 using fun k => real_of_bit (bit_of_fold_univ h1 k)
  choose a2 e2 using fun k => real_of_bit (bit_of_fold_univ h2 k)
  choose a3 e3 using fun k => real_of_bit (bit_of_fold_univ h3 k)
  choose a4 e4 using fun k => real_of_bit (bit_of_fold_univ h4 k)
  choose a5 e5 using fun k => real_of_bit (bit_of_fold_univ h5 k)
  choose a6 e6 using fun k => real_of_bit (bit_of_fold_univ h6 k)
  refine ⟨⟨fun s e => if hh : s < 4096 ∧ e < 1024 then a1 (⟨s, hh.1⟩, ⟨e, hh.2⟩) else 0, fun e => if hh : e < 1024 then a2 ⟨e, hh⟩ else 0,
    fun e f => if hh : e < 1024 ∧ f < 6144 then a3 (⟨e, hh.1⟩, ⟨f, hh.2⟩) else 0, fun k f => if hh : k < 3 ∧ f < 6144 then a4 (⟨k, hh.1⟩, ⟨f, hh.2⟩) else 0,
    fun f e => if hh : f < 3072 ∧ e < 1024 then a5 (⟨f, hh.1⟩, ⟨e, hh.2⟩) else 0, fun s e => if hh : s < 4096 ∧ e < 1024 then a6 (⟨s, hh.1⟩, ⟨e, hh.2⟩) else 0⟩,
    fun s e => ?_, fun e => ?_, fun e f => ?_, fun k f => ?_, fun f e => ?_, fun s e => ?_⟩
  · exact (e1 (s, e)).trans (congrArg ((↑) : ℝ → EReal) (Eq.symm (dif_pos (c := s.val < 4096 ∧ e.val < 1024) ⟨s.isLt, e.isLt⟩)))
  · exact (e2 e).trans (congrArg ((↑) : ℝ → EReal) (Eq.symm (dif_pos (c := e.val < 1024) e.isLt)))
  · exact (e3 (e, f)).trans (congrArg ((↑) : ℝ → EReal) (Eq.symm (dif_pos (c := e.val < 1024 ∧ f.val < 6144) ⟨e.isLt, f.isLt⟩)))
  · exact (e4 (k, f)).trans (congrArg ((↑) : ℝ → EReal) (Eq.symm (dif_pos (c := k.val < 3 ∧ f.val < 6144) ⟨k.isLt, f.isLt⟩)))
  · exact (e5 (f, e)).trans (congrArg ((↑) : ℝ → EReal) (Eq.symm (dif_pos (c := f.val < 3072 ∧ e.val < 1024) ⟨f.isLt, e.isLt⟩)))
  · exact (e6 (s, e)).trans (congrArg ((↑) : ℝ → EReal) (Eq.symm (dif_pos (c := s.val < 4096 ∧ e.val < 1024) ⟨s.isLt, e.isLt⟩)))

end Cert.FfnReferenceIdeal.Read

end
-- ==== Proof.Ffn.Claim.lean ====
/- The feed-forward block's backward: the frames, and kernel and reference leave the same five arrays. -/
module

public import proofs.«01_k».proof.Defs
public import proofs.«01_k».proof.Proof.Gen.FfnKernel
public import proofs.«01_k».proof.Proof.Gen.FfnReferenceIdeal.Run
public import proofs.«01_k».proof.Proof.Gen.Pre_ffn_finite
public import proofs.«01_k».proof.Proof.Ffn.Kernel
public import proofs.«01_k».proof.Proof.Ffn.Reference
public import Idealize.ShloMosaic.Lib.Quiescent

@[expose] public section

noncomputable section

namespace Cert.Ffn

open Idealize.ShloMosaic Idealize.SL.Sem

/-- Over the words a named constant is its word. -/
@[reducible] def namedBits : Named Bits := ⟨fun _ _ _ bits => Scalar.ofBits _ bits⟩

/-- The frame over the words is the ideal one's: the programs have the same text, the named constants being their words, and the run holds over any
    values. -/
theorem frame_kernel : Cert.quiescent_FfnKernel := fun m ρ _ =>
  cast (by sl_kernel_rfl) (@Cert.FfnKernelIdeal.Run.frame Bits _ namedBits m ρ)

theorem frame_ideal : Cert.quiescent_FfnKernelIdeal := fun m ρ _ => Cert.FfnKernelIdeal.Run.frame m ρ

theorem frame_ideal_pre : Cert.quiescent_FfnKernelIdeal_pre_ffn_finite := fun m ρ _ => Cert.FfnKernelIdeal.Run.frame m ρ

theorem frame_reference : Cert.quiescent_FfnReferenceIdeal := fun m ρ _ =>
  (θ_run _ _ _).mono (fun r h => ⟨fun c => (h c).2.2.2.2.2, sem_eq_zero_of_no_sems (by decide) _⟩)
    (Cert.FfnReferenceIdeal.Value.run (F := Ideal) m ρ)

theorem frame_reference_pre : Cert.quiescent_FfnReferenceIdeal_pre_ffn_finite := fun m ρ _ => frame_reference m ρ trivial

/-- The named constants are what the table says. -/
theorem preserves : Cert.preserves_FfnKernel_FfnKernelIdeal :=
  ⟨IdealRules.named_const.statement Cert.FfnKernelIdeal.κ "gelu_a" .f32 0x3D372713#32 ((8943 / 200000 : ℝ) : EReal) rfl,
    IdealRules.named_const.statement Cert.FfnKernelIdeal.κ "gelu_a3" .f32 0x3E095D4F#32 ((26829 / 200000 : ℝ) : EReal) rfl⟩

open Cert.FfnKernelIdeal Cert.FfnKernelIdeal.Gen Cert.FfnKernelIdeal.Run in
/-- What the kernel leaves. -/
theorem run_values (m : (ℓ : Loc nD τ sig) → Buf (Elt Ideal) ℓ) (ρ : Dev nD → PrngReg) (A : Dev nD → In) (hK : ∀ c, Holds m c (A c)) :
    θ_run defs (onTc (τ := τ) (main (F := Ideal))) ⟨m, fun _ => 0, ρ⟩ fun r => ∀ c : Dev nD,
      r.2.mem ((c.tc : Thread nD τ).loc main_v66_0) = oDx (A c) ∧ r.2.mem ((c.tc : Thread nD τ).loc main_v66_1) = oDx (A c)
      ∧ r.2.mem ((c.tc : Thread nD τ).loc main_v66_2) = oDg (A c) ∧ r.2.mem ((c.tc : Thread nD τ).loc main_v66_3) = oDp (A c)
      ∧ r.2.mem ((c.tc : Thread nD τ).loc main_v66_4) = oDw (A c) := by
  refine (θ_run _ _ _).mono (fun r h c => ?_) (run_quiescent m ρ)
  have hc : ∀ W, r.2.mem _ = (dats m 0 c).arrAt W cfg0.N := (h.1 c).1
  have h12 := hc 12
  have h13 := hc 13
  have h14 := hc 14
  have h15 := hc 15
  have h16 := hc 16
  rw [final12 (hK c)] at h12
  rw [final13 (hK c)] at h13
  rw [final14 (hK c)] at h14
  rw [final15 (hK c)] at h15
  rw [final16 (hK c)] at h16
  exact ⟨h12, h13, h14, h15, h16⟩

open Cert.FfnReferenceIdeal Cert.FfnReferenceIdeal.Gen Cert.FfnReferenceIdeal.Read in
/-- What the reference leaves. -/
theorem reference_values (m : (ℓ : Loc nD τ sig) → Buf (Elt Ideal) ℓ) (ρ : Dev nD → PrngReg) (A : Dev nD → In)
    (hA : ∀ c : Dev nD, Holds (m (c.tc.loc main_arg0)) (m (c.tc.loc main_arg1)) (m (c.tc.loc main_arg2)) (m (c.tc.loc main_arg3)) (m (c.tc.loc main_arg4))
      (m (c.tc.loc main_arg5)) (A c)) :
    θ_run defs (onTc (τ := τ) (main (F := Ideal))) ⟨m, fun _ => 0, ρ⟩ fun r => ∀ c : Dev nD,
      r.2.mem ((c.tc : Thread nD τ).loc main_v140) = Cert.FfnKernelIdeal.Run.oDx (A c) ∧ r.2.mem ((c.tc : Thread nD τ).loc main_v145) = Cert.FfnKernelIdeal.Run.oDx (A c)
      ∧ r.2.mem ((c.tc : Thread nD τ).loc main_v149) = Cert.FfnKernelIdeal.Run.oDg (A c) ∧ r.2.mem ((c.tc : Thread nD τ).loc main_v152) = Cert.FfnKernelIdeal.Run.oDp (A c)
      ∧ r.2.mem ((c.tc : Thread nD τ).loc main_v144) = Cert.FfnKernelIdeal.Run.oDw (A c) := by
  refine (θ_run _ _ _).mono (fun r h c => ?_) (Cert.FfnReferenceIdeal.Value.run (F := Ideal) m ρ)
  obtain ⟨h0, h1, h2, h3, h4, -⟩ := h c
  have hR : Holds (StableHlo.launchContents m c (Proc.devRef .tc main_arg0)) (StableHlo.launchContents m c (Proc.devRef .tc main_arg1)) (StableHlo.launchContents m c (Proc.devRef .tc main_arg2))
      (StableHlo.launchContents m c (Proc.devRef .tc main_arg3)) (StableHlo.launchContents m c (Proc.devRef .tc main_arg4)) (StableHlo.launchContents m c (Proc.devRef .tc main_arg5)) (A c) := hA c
  rw [val_main_v140_eq] at h0
  rw [val_main_v145_eq] at h1
  rw [val_main_v149_eq] at h2
  rw [val_main_v152_eq] at h3
  rw [val_main_v144_eq] at h4
  refine ⟨h0.trans (funext fun i => ?_), h1.trans (funext fun i => ?_), h2.trans (funext fun i => ?_), h3.trans (funext fun i => ?_), h4.trans (funext fun i => ?_)⟩
  · rw [Cert.FfnKernelIdeal.Run.eta2 i]; exact v140 hR _ _
  · rw [Cert.FfnKernelIdeal.Run.eta2 i]; exact v145 hR _ _
  · rw [Cert.FfnKernelIdeal.Run.eta2 i]; exact v149 hR _ _
  · rw [Cert.FfnKernelIdeal.Run.eta3 i]; exact v152 hR _ _ _
  · rw [Cert.FfnKernelIdeal.Run.eta3 i]; exact v144 hR _ _ _

open Cert.FfnReferenceIdeal.Read in
/-- Kernel and reference compute the same gradients. -/
theorem algebraic : Cert.algebraic_FfnKernelIdeal_FfnReferenceIdeal_pre_ffn_finite := fun m ρ m' ρ' hpre hagree => by
  choose A hA using fun c => pre _ _ _ _ _ _ (hpre c)
  have hK : ∀ c, Cert.FfnKernelIdeal.Run.Holds m c (A c) := fun c => ⟨(hA c).x, (hA c).g, (hA c).w, (hA c).cw, (hA c).wd, (hA c).dx3⟩
  refine ⟨fun c => Cert.FfnKernelIdeal.Run.oDx (A c), fun c => Cert.FfnKernelIdeal.Run.oDx (A c), fun c => Cert.FfnKernelIdeal.Run.oDg (A c),
    fun c => Cert.FfnKernelIdeal.Run.oDp (A c), fun c => Cert.FfnKernelIdeal.Run.oDw (A c), ?_, ?_⟩
  · refine (θ_run _ _ _).mono (fun r h c => ?_) (θ_run_and (run_values m ρ A hK) (Cert.FfnKernelIdeal.Run.frame m ρ))
    obtain ⟨h0, h1, h2, h3, h4⟩ := h.1 c
    exact ⟨h0, h1, h2, h3, h4, h.2.1 c⟩
  · refine (θ_run _ _ _).mono (fun r h c => ?_) (θ_run_and (reference_values m' ρ' A fun c => ?_) (frame_reference m' ρ' trivial))
    · obtain ⟨h0, h1, h2, h3, h4⟩ := h.1 c
      exact ⟨h0, h1, h2, h3, h4, h.2.1 c⟩
    · obtain ⟨e0, e1, e2, e3, e4, e5⟩ := hagree c
      rw [e0, e1, e2, e3, e4, e5]; exact hA c

end Cert.Ffn

end
-- ==== Proof.Mix.Body.lean ====
/- The body of the mixer's backward kernel as a code over its buffers: the clearing and the spreading of the parameters at the first point; then, in groups of
   sixteen rows, the two convolutions, the gates' products, the gates, the scan from the last row to the first, the gates' gradient, its products, the
   convolutions' gradient; and what the last point adds up. -/
module

public import proofs.«01_k».proof.Proof.Straight
public import proofs.«01_k».proof.Proof.Gen.MixKernelIdeal.Skeleton

@[expose] public section

set_option maxRecDepth 16384

noncomputable section

namespace Cert.MixKernelIdeal.Body

open Idealize.ShloMosaic Idealize.SL.Sem Cert.Straight Cert.MixKernelIdeal.Gen

/-- The scratch buffers that hold 256 rows of 1024 numbers. -/
inductive Wide
  | lx | pr | pi | r | ig | a | mult | inv | ash | b | lam | dlx | back
  deriving DecidableEq

/-- The scratch buffers that hold 256 rows of 1024 rounded numbers. -/
inductive Narrow
  | lx | dpr | dpi
  deriving DecidableEq

/-- The buffers that the body touches: the blocks of its arguments, of its results, and its scratch. -/
inductive Bf
  | z | zp | hs | hsp | dy | cw | cb | wa | wx | ba | bx | lamb | scw
  | dz | dcw | dvec | dwa | dwx | dscw
  | par | parS | cq | carA | carX | carQ | carL | acc | accS
  | wide (k : Wide) | narrow (k : Narrow)
  deriving DecidableEq

/-- A buffer's shape. -/
@[reducible] def sh : Bf → Shape
  | .z => S256x3584 | .zp => S8x3584 | .hs => S256x1024 | .hsp => S8x1024 | .dy => S256x1536 | .cw => S4x1024 | .cb => S1x1024
  | .wa => S4x256x256 | .wx => S4x256x256 | .ba => S1x1024 | .bx => S1x1024 | .lamb => S1x1024 | .scw => S3x512
  | .dz => S256x3584 | .dcw => S8x1024 | .dvec => S8x1024 | .dwa => S4x256x256 | .dwx => S4x256x256 | .dscw => S8x512
  | .par => S9x16x1024 | .parS => S3x16x512 | .cq => S256x512 | .carA => S16x1024 | .carX => S16x1024 | .carQ => S16x512 | .carL => S8x1024
  | .acc => S8x8x1024 | .accS => S3x8x512 | .wide _ => S256x1024 | .narrow _ => S256x1024

/-- A buffer's element type. -/
@[reducible] def el : Bf → EltTy
  | .wa => .bf16 | .wx => .bf16 | .dz => .bf16 | .narrow _ => .bf16
  | .z => .f32 | .zp => .f32 | .hs => .f32 | .hsp => .f32 | .dy => .f32 | .cw => .f32 | .cb => .f32 | .ba => .f32 | .bx => .f32 | .lamb => .f32 | .scw => .f32
  | .dcw => .f32 | .dvec => .f32 | .dwa => .f32 | .dwx => .f32 | .dscw => .f32
  | .par => .f32 | .parS => .f32 | .cq => .f32 | .carA => .f32 | .carX => .f32 | .carQ => .f32 | .carL => .f32 | .acc => .f32 | .accS => .f32 | .wide _ => .f32

variable {F : FTy → Type} [FloatOps F]
variable {M : ∀ b, Memref sig .tc (CoreSpace.vmem : Space) (sh b) (el b)} (hM : ∀ b, (M b).IsWhole) (i : grid0.Coords)

/-! ## Windows inside their buffers -/

theorem inb2 {R C h w r c : ℕ} (hr : r + h ≤ R) (hc : c + w ≤ C) : ∀ a, (![r, c] : Fin 2 → ℕ) a + (![h, w] : Fin 2 → ℕ) a ≤ (![R, C] : Fin 2 → ℕ) a := by
  intro a; fin_cases a <;> simp <;> omega
theorem inb3 {A R C k h w : ℕ} (hk : k + 1 ≤ A) (hr : h ≤ R) (hc : w ≤ C) : ∀ a, (![k, 0, 0] : Fin 3 → ℕ) a + (![1, h, w] : Fin 3 → ℕ) a ≤ (![A, R, C] : Fin 3 → ℕ) a := by
  intro a; fin_cases a <;> simp <;> omega
theorem rows {r : ℕ} (hr : r + 16 ≤ 256) : ∀ a, (![r, 0] : Fin 2 → ℕ) a + S16x1024.size a ≤ S256x1024.size a := inb2 hr (by decide)
theorem packed_rows {r : ℕ} (hr : r + 16 ≤ 256) (h2 : 2 ∣ r) : (Rect.unit (s := S256x1024) ![r, 0] S16x1024.size (rows hr)).PackedRows (EltTy.packing .bf16) :=
  .inr ⟨by decide, rfl, .inl ⟨by show 2 ∣ r; exact h2, ⟨8, rfl⟩⟩⟩
theorem zrows {r c : ℕ} (hr : r + 16 ≤ 256) (hc : c + 1024 ≤ 3584) : ∀ a, (![r, c] : Fin 2 → ℕ) a + S16x1024.size a ≤ S256x3584.size a := inb2 hr hc
theorem zrowsS {r c : ℕ} (hr : r + 16 ≤ 256) (hc : c + 512 ≤ 3584) : ∀ a, (![r, c] : Fin 2 → ℕ) a + S16x512.size a ≤ S256x3584.size a := inb2 hr hc
theorem packed_z {r c : ℕ} (hr : r + 16 ≤ 256) (hc : c + 1024 ≤ 3584) (h2 : 2 ∣ r) : (Rect.unit (s := S256x3584) ![r, c] S16x1024.size (zrows hr hc)).PackedRows (EltTy.packing .bf16) :=
  .inr ⟨by decide, rfl, .inl ⟨by show 2 ∣ r; exact h2, ⟨8, rfl⟩⟩⟩
theorem packed_zS {r c : ℕ} (hr : r + 16 ≤ 256) (hc : c + 512 ≤ 3584) (h2 : 2 ∣ r) : (Rect.unit (s := S256x3584) ![r, c] S16x512.size (zrowsS hr hc)).PackedRows (EltTy.packing .bf16) :=
  .inr ⟨by decide, rfl, .inl ⟨by show 2 ∣ r; exact h2, ⟨8, rfl⟩⟩⟩

/-! ## Loads and stores of a few kinds -/

/-- A splat of one number given by its word. -/
def num (s : Shape) (b : BitVec 32) : FVec F s .f32 := broadcast s (Scalar.ofBits .f32 b)

/-- Sixteen rows of a wide buffer. -/
def rd (k : Wide) {r : ℕ} (hr : r + 16 ≤ 256) (K : FVec F S16x1024 .f32 → Code (Elt F) M) : Code (Elt F) M :=
  .load (.wide k) ![r, 0] S16x1024.size (rows hr) (View.loadsAt_vmem h_S16x1024) K
/-- Sixteen rows stored into a wide buffer. -/
def wr (k : Wide) {r : ℕ} (hr : r + 16 ≤ 256) (v : FVec F S16x1024 .f32) (K : Code (Elt F) M) : Code (Elt F) M :=
  .load (.wide k) ![r, 0] S16x1024.size (rows hr) (View.loadsAt_vmem h_S16x1024) fun _ =>
  .store (.wide k) ![r, 0] S16x1024.size (rows hr) (shapeCast S16x1024 v shapeCasts_S16x1024_S16x1024) (View.stores_vmem_bits_univ h_S16x1024 rfl) K
/-- Sixteen rows, rounded, stored into a buffer of rounded numbers. -/
def wrN (k : Narrow) {r : ℕ} (hr : r + 16 ≤ 256) (h2 : 2 ∣ r) (v : FVec F S16x1024 .f32) (K : Code (Elt F) M) : Code (Elt F) M :=
  .load (.narrow k) ![r, 0] S16x1024.size (rows hr) (View.loadsAt_vmem h_S16x1024) fun _ =>
  .store (.narrow k) ![r, 0] S16x1024.size (rows hr) (shapeCast S16x1024 (truncf .bf16 v bitsLt_bf16_f32) shapeCasts_S16x1024_S16x1024)
    (View.stores_vmem h_S16x1024 ((hM (.narrow k)).storeExact_slice rfl _ (packed_rows hr h2)) (fun _ => rfl)) K
/-- A parameter spread over sixteen rows. -/
def par (k : ℕ) (hk : k + 1 ≤ 9) (K : FVec F S16x1024 .f32 → Code (Elt F) M) : Code (Elt F) M :=
  .load .par ![k, 0, 0] S1x16x1024.size (inb3 hk le_rfl le_rfl) (View.loadsAt_vmem h_S1x16x1024) fun v => K (shapeCast S16x1024 v shapeCasts_S1x16x1024_S16x1024)
/-- A tap of the short convolution spread over sixteen rows. -/
def parS (k : ℕ) (hk : k + 1 ≤ 3) (K : FVec F S16x512 .f32 → Code (Elt F) M) : Code (Elt F) M :=
  .load .parS ![k, 0, 0] S1x16x512.size (inb3 hk le_rfl le_rfl) (View.loadsAt_vmem h_S1x16x512) fun v => K (shapeCast S16x512 v shapeCasts_S1x16x512_S16x512)
/-- Sixteen rows and 1024 columns of the layer's inputs. -/
def rdZ {r : ℕ} (c : ℕ) (hr : r + 16 ≤ 256) (hc : c + 1024 ≤ 3584) (K : FVec F S16x1024 .f32 → Code (Elt F) M) : Code (Elt F) M :=
  .load .z ![r, c] S16x1024.size (zrows hr hc) (View.loadsAt_vmem h_S16x1024) K
/-- Sixteen rows and 512 columns of the layer's inputs. -/
def rdZS {r : ℕ} (c : ℕ) (hr : r + 16 ≤ 256) (hc : c + 512 ≤ 3584) (K : FVec F S16x512 .f32 → Code (Elt F) M) : Code (Elt F) M :=
  .load .z ![r, c] S16x512.size (zrowsS hr hc) (View.loadsAt_vmem h_S16x512) K
/-- Sixteen rows and 1024 columns, rounded, stored into the block of the inputs' gradient. -/
def wrZ {r : ℕ} (c : ℕ) (hr : r + 16 ≤ 256) (hc : c + 1024 ≤ 3584) (h2 : 2 ∣ r) (v : FVec F S16x1024 .f32) (K : Code (Elt F) M) : Code (Elt F) M :=
  .load .dz ![r, c] S16x1024.size (zrows hr hc) (View.loadsAt_vmem h_S16x1024) fun _ =>
  .store .dz ![r, c] S16x1024.size (zrows hr hc) (truncf .bf16 v bitsLt_bf16_f32)
    (View.stores_vmem h_S16x1024 ((hM .dz).storeExact_slice rfl _ (packed_z hr hc h2)) (fun _ => rfl)) K
/-- Sixteen rows and 512 columns, rounded, stored into the block of the inputs' gradient. -/
def wrZS {r : ℕ} (c : ℕ) (hr : r + 16 ≤ 256) (hc : c + 512 ≤ 3584) (h2 : 2 ∣ r) (v : FVec F S16x512 .f32) (K : Code (Elt F) M) : Code (Elt F) M :=
  .load .dz ![r, c] S16x512.size (zrowsS hr hc) (View.loadsAt_vmem h_S16x512) fun _ =>
  .store .dz ![r, c] S16x512.size (zrowsS hr hc) (truncf .bf16 v bitsLt_bf16_f32)
    (View.stores_vmem h_S16x512 ((hM .dz).storeExact_slice rfl _ (packed_zS hr hc h2)) (fun _ => rfl)) K

/-- The two halves of sixteen rows, added. -/
def fold8 (x : FVec F S16x1024 .f32) : FVec F S8x1024 .f32 :=
  addf (addf (num S8x1024 0x00000000#32) (extractStridedSlice S8x1024 ![0, 0] x slices_S16x1024_o0_0_S8x1024)) (extractStridedSlice S8x1024 ![8, 0] x slices_S16x1024_o8_0_S8x1024)
/-- The two halves of sixteen rows, added. -/
def fold8S (x : FVec F S16x512 .f32) : FVec F S8x512 .f32 :=
  addf (addf (num S8x512 0x00000000#32) (extractStridedSlice S8x512 ![0, 0] x slices_S16x512_o0_0_S8x512)) (extractStridedSlice S8x512 ![8, 0] x slices_S16x512_o8_0_S8x512)
/-- Sixteen rows added to the eight partial rows of one sum. -/
def add (k : ℕ) (hk : k + 1 ≤ 8) (x : FVec F S16x1024 .f32) (K : Code (Elt F) M) : Code (Elt F) M :=
  .load .acc ![k, 0, 0] S1x8x1024.size (inb3 hk le_rfl le_rfl) (View.loadsAt_vmem h_S1x8x1024) fun v =>
  .load .acc ![k, 0, 0] S1x8x1024.size (inb3 hk le_rfl le_rfl) (View.loadsAt_vmem h_S1x8x1024) fun _ =>
  .store .acc ![k, 0, 0] S1x8x1024.size (inb3 hk le_rfl le_rfl) (shapeCast S1x8x1024 (addf (shapeCast S8x1024 v shapeCasts_S1x8x1024_S8x1024) (fold8 x)) shapeCasts_S8x1024_S1x8x1024)
    (View.stores_vmem_bits_univ h_S1x8x1024 rfl) K
/-- What eight partial rows of the short convolution's gradient become with sixteen rows added. -/
def addedS (v : FVec F S1x8x512 .f32) (x : FVec F S16x512 .f32) : FVec F S1x8x512 .f32 :=
  shapeCast S1x8x512 (addf (shapeCast S8x512 v shapeCasts_S1x8x512_S8x512) (fold8S x)) shapeCasts_S8x512_S1x8x512
/-- Sixteen rows added to the eight partial rows of one tap of the short convolution. -/
def addS (k : ℕ) (hk : k + 1 ≤ 3) (x : FVec F S16x512 .f32) (K : Code (Elt F) M) : Code (Elt F) M :=
  .load .accS ![k, 0, 0] S1x8x512.size (inb3 hk le_rfl le_rfl) (View.loadsAt_vmem h_S1x8x512) fun v =>
  .load .accS ![k, 0, 0] S1x8x512.size (inb3 hk le_rfl le_rfl) (View.loadsAt_vmem h_S1x8x512) fun _ =>
  .store .accS ![k, 0, 0] S1x8x512.size (inb3 hk le_rfl le_rfl) (addedS v x) (View.stores_vmem_bits_univ h_S1x8x512 rfl) K

/-- The first sixteen of 32 rows turned by `k`. -/
def turn (k : BitVec 32) (x y : FVec F S16x1024 .f32) : FVec F S16x1024 .f32 :=
  extractStridedSlice S16x1024 ![0, 0]
    (dynamicRotate 0 k none (concatenate S32x1024 0 [⟨S16x1024, x⟩, ⟨S16x1024, y⟩] concatenates_S16x1024_S16x1024_S32x1024_d0) rotates_S32x1024_d0) slices_S32x1024_o0_0_S16x1024
/-- The first sixteen of 32 rows turned by `k`. -/
def turnS (k : BitVec 32) (x y : FVec F S16x512 .f32) : FVec F S16x512 .f32 :=
  extractStridedSlice S16x512 ![0, 0]
    (dynamicRotate 0 k none (concatenate S32x512 0 [⟨S16x512, x⟩, ⟨S16x512, y⟩] concatenates_S16x512_S16x512_S32x512_d0) rotates_S32x512_d0) slices_S32x512_o0_0_S16x512

/-! ## The first point -/

/-- A tap of the long convolution spread. -/
def spreadC (k : ℕ) (hk : k + 1 ≤ 4) (K : Code (Elt F) M) : Code (Elt F) M :=
  .load .cw ![k, 0] S1x1024.size (inb2 hk le_rfl) (View.loadsAt_vmem h_S1x1024) fun v =>
  .load .par ![k, 0, 0] S1x16x1024.size (inb3 (by omega) le_rfl le_rfl) (View.loadsAt_vmem h_S1x16x1024) fun _ =>
  .store .par ![k, 0, 0] S1x16x1024.size (inb3 (by omega) le_rfl le_rfl)
    (shapeCast S1x16x1024 (broadcastTo S16x1024 (shapeCast S1x1024 v shapeCasts_S1x1024_S1x1024) broadcasts_S1x1024_S16x1024) shapeCasts_S16x1024_S1x16x1024)
    (View.stores_vmem_bits_univ h_S1x16x1024 rfl) K
/-- A row stored, spread, as a parameter. -/
def putPar (k : ℕ) (hk : k + 1 ≤ 9) (v : FVec F S1x1024 .f32) (K : Code (Elt F) M) : Code (Elt F) M :=
  .load .par ![k, 0, 0] S1x16x1024.size (inb3 hk le_rfl le_rfl) (View.loadsAt_vmem h_S1x16x1024) fun _ =>
  .store .par ![k, 0, 0] S1x16x1024.size (inb3 hk le_rfl le_rfl)
    (shapeCast S1x16x1024 (broadcastTo S16x1024 (shapeCast S1x1024 v shapeCasts_S1x1024_S1x1024) broadcasts_S1x1024_S16x1024) shapeCasts_S16x1024_S1x16x1024)
    (View.stores_vmem_bits_univ h_S1x16x1024 rfl) K
/-- A tap of the short convolution spread. -/
def spreadS (k : ℕ) (hk : k + 1 ≤ 3) (K : Code (Elt F) M) : Code (Elt F) M :=
  .load .scw ![k, 0] S1x512.size (inb2 hk le_rfl) (View.loadsAt_vmem h_S1x512) fun v =>
  .load .parS ![k, 0, 0] S1x16x512.size (inb3 hk le_rfl le_rfl) (View.loadsAt_vmem h_S1x16x512) fun _ =>
  .store .parS ![k, 0, 0] S1x16x512.size (inb3 hk le_rfl le_rfl)
    (shapeCast S1x16x512 (broadcastTo S16x512 (shapeCast S1x512 v shapeCasts_S1x512_S1x512) broadcasts_S1x512_S16x512) shapeCasts_S16x512_S1x16x512)
    (View.stores_vmem_bits_univ h_S1x16x512 rfl) K

/-- The decay's factor of the gate: minus eight times the soft plus of minus the parameter. -/
def decay (v : FVec F S1x1024 .f32) : FVec F S1x1024 .f32 :=
  let x := subf (num S1x1024 0x00000000#32) v
  let e := exp (subf (num S1x1024 0x00000000#32) (absf x))
  let u := addf (num S1x1024 0x3F800000#32) e
  mulf (num S1x1024 0xC1000000#32) (addf (maximumf x (num S1x1024 0x00000000#32))
    (select (cmpf .oeq u (num S1x1024 0x3F800000#32)) e (mulf (log u) (divf e (subf u (num S1x1024 0x3F800000#32))))))
/-- The decay's derivative in its parameter, but for a factor. -/
def slope (v : FVec F S1x1024 .f32) : FVec F S1x1024 .f32 :=
  subf (num S1x1024 0x00000000#32) (addf (mulf (num S1x1024 0x3F000000#32) (tanh (mulf (num S1x1024 0x3F000000#32) (subf (num S1x1024 0x00000000#32) v)))) (num S1x1024 0x3F000000#32))

/-- The first point clears the accumulators and the carried rows. -/
def clear (K : Code (Elt F) M) : Code (Elt F) M :=
  .load .dwa ![0, 0, 0] S4x256x256.size inb_S4x256x256_S4x256x256_0_0_0 (View.loadsAt_vmem h_S4x256x256) fun _ =>
  .store .dwa ![0, 0, 0] S4x256x256.size inb_S4x256x256_S4x256x256_0_0_0 (num S4x256x256 0x00000000#32) (View.stores_vmem_bits_univ h_S4x256x256 rfl) <|
  .load .dwx ![0, 0, 0] S4x256x256.size inb_S4x256x256_S4x256x256_0_0_0 (View.loadsAt_vmem h_S4x256x256) fun _ =>
  .store .dwx ![0, 0, 0] S4x256x256.size inb_S4x256x256_S4x256x256_0_0_0 (num S4x256x256 0x00000000#32) (View.stores_vmem_bits_univ h_S4x256x256 rfl) <|
  .load .carL ![0, 0] S8x1024.size inb_S8x1024_S8x1024_0_0 (View.loadsAt_vmem h_S8x1024) fun _ =>
  .store .carL ![0, 0] S8x1024.size inb_S8x1024_S8x1024_0_0 (shapeCast S8x1024 (num S8x1024 0x00000000#32) shapeCasts_S8x1024_S8x1024) (View.stores_vmem_bits_univ h_S8x1024 rfl) <|
  .load .carA ![0, 0] S16x1024.size inb_S16x1024_S16x1024_0_0 (View.loadsAt_vmem h_S16x1024) fun _ =>
  .store .carA ![0, 0] S16x1024.size inb_S16x1024_S16x1024_0_0 (shapeCast S16x1024 (num S16x1024 0x00000000#32) shapeCasts_S16x1024_S16x1024) (View.stores_vmem_bits_univ h_S16x1024 rfl) <|
  .load .carX ![0, 0] S16x1024.size inb_S16x1024_S16x1024_0_0 (View.loadsAt_vmem h_S16x1024) fun _ =>
  .store .carX ![0, 0] S16x1024.size inb_S16x1024_S16x1024_0_0 (shapeCast S16x1024 (num S16x1024 0x00000000#32) shapeCasts_S16x1024_S16x1024) (View.stores_vmem_bits_univ h_S16x1024 rfl) <|
  .load .carQ ![0, 0] S16x512.size inb_S16x512_S16x512_0_0 (View.loadsAt_vmem h_S16x512) fun _ =>
  .store .carQ ![0, 0] S16x512.size inb_S16x512_S16x512_0_0 (shapeCast S16x512 (num S16x512 0x00000000#32) shapeCasts_S16x512_S16x512) (View.stores_vmem_bits_univ h_S16x512 rfl) <|
  .load .acc ![0, 0, 0] S8x8x1024.size inb_S8x8x1024_S8x8x1024_0_0_0 (View.loadsAt_vmem h_S8x8x1024) fun _ =>
  .store .acc ![0, 0, 0] S8x8x1024.size inb_S8x8x1024_S8x8x1024_0_0_0 (shapeCast S8x8x1024 (num S8x8x1024 0x00000000#32) shapeCasts_S8x8x1024_S8x8x1024) (View.stores_vmem_bits_univ h_S8x8x1024 rfl) <|
  .load .accS ![0, 0, 0] S3x8x512.size inb_S3x8x512_S3x8x512_0_0_0 (View.loadsAt_vmem h_S3x8x512) fun _ =>
  .store .accS ![0, 0, 0] S3x8x512.size inb_S3x8x512_S3x8x512_0_0_0 (shapeCast S3x8x512 (num S3x8x512 0x00000000#32) shapeCasts_S3x8x512_S3x8x512) (View.stores_vmem_bits_univ h_S3x8x512 rfl) K

/-- The first point spreads the parameters. -/
def spread (K : Code (Elt F) M) : Code (Elt F) M :=
  spreadC 0 (by decide) <| spreadC 1 (by decide) <| spreadC 2 (by decide) <| spreadC 3 (by decide) <|
  .load .cb ![0, 0] S1x1024.size inb_S1x1024_S1x1024_0_0 (View.loadsAt_vmem h_S1x1024) fun v =>
  putPar 4 (by decide) (shapeCast S1x1024 v shapeCasts_S1x1024_S1x1024) <|
  .load .ba ![0, 0] S1x1024.size inb_S1x1024_S1x1024_0_0 (View.loadsAt_vmem h_S1x1024) fun v =>
  putPar 5 (by decide) (shapeCast S1x1024 v shapeCasts_S1x1024_S1x1024) <|
  .load .bx ![0, 0] S1x1024.size inb_S1x1024_S1x1024_0_0 (View.loadsAt_vmem h_S1x1024) fun v =>
  putPar 6 (by decide) (shapeCast S1x1024 v shapeCasts_S1x1024_S1x1024) <|
  .load .lamb ![0, 0] S1x1024.size inb_S1x1024_S1x1024_0_0 (View.loadsAt_vmem h_S1x1024) fun v =>
  putPar 7 (by decide) (decay (shapeCast S1x1024 v shapeCasts_S1x1024_S1x1024)) <|
  .load .lamb ![0, 0] S1x1024.size inb_S1x1024_S1x1024_0_0 (View.loadsAt_vmem h_S1x1024) fun v =>
  putPar 8 (by decide) (slope (shapeCast S1x1024 v shapeCasts_S1x1024_S1x1024)) <|
  spreadS 0 (by decide) <| spreadS 1 (by decide) <| spreadS 2 (by decide) K

/-! ## The convolutions, forward -/

/-- One, and nought at the first rows of all. -/
def notFirst : F .f32 :=
  Scalar.select (Scalar.cmpi .eq (BitVec.ofNat 32 (i 0).val) 15#32) (Scalar.ofBits .f32 0x00000000#32) (Scalar.ofBits .f32 0x3F800000#32)

/-- Sixteen rows of both convolutions; `x` and `q` are the rows before. -/
def conv (r : ℕ) (hr : r + 16 ≤ 256) (h2 : 2 ∣ r) (x : FVec F S16x1024 .f32) (q : FVec F S16x512 .f32) (K : FVec F S16x1024 .f32 → FVec F S16x512 .f32 → Code (Elt F) M) : Code (Elt F) M :=
  rdZ 0 hr (by decide) fun y =>
  par 4 (by decide) fun p4 => par 3 (by decide) fun p3 => par 0 (by decide) fun p0 => par 1 (by decide) fun p1 => par 2 (by decide) fun p2 =>
  let l := addf (addf (addf (addf p4 (mulf p3 y)) (mulf p0 (turn 19#32 x y))) (mulf p1 (turn 18#32 x y))) (mulf p2 (turn 17#32 x y))
  wr .lx hr l <| wrN hM .lx hr h2 l <|
  rdZS 2560 hr (by decide) fun c => rdZS 3072 hr (by decide) fun s =>
  parS 2 (by decide) fun t2 => parS 0 (by decide) fun t0 => parS 1 (by decide) fun t1 =>
  .load .cq ![r, 0] S16x512.size (inb2 hr le_rfl) (View.loadsAt_vmem h_S16x512) fun _ =>
  .store .cq ![r, 0] S16x512.size (inb2 hr le_rfl)
    (shapeCast S16x512 (addf (addf (mulf t2 (mulf c s)) (mulf t0 (turnS 18#32 q (mulf c s)))) (mulf t1 (turnS 17#32 q (mulf c s)))) shapeCasts_S16x512_S16x512)
    (View.stores_vmem_bits_univ h_S16x512 rfl) <|
  K y (mulf c s)

/-- `n` groups of sixteen rows of the convolutions, up to the last. -/
def convs : (n : ℕ) → n ≤ 16 → FVec F S16x1024 .f32 → FVec F S16x512 .f32 → Code (Elt F) M → Code (Elt F) M
  | 0, _, _, _, K => K
  | n + 1, hn, x, q, K => conv hM (16 * (15 - n)) (by omega) (by omega) x q fun y p => convs n (by omega) y p K

/-- The convolutions at all rows of the block. -/
def forwardConv (K : Code (Elt F) M) : Code (Elt F) M :=
  .load .zp ![0, 0] S8x1024.size inb_S8x3584_S8x1024_0_0 (View.loadsAt_vmem h_S8x1024) fun x =>
  .load .zp ![0, 2560] S8x512.size inb_S8x3584_S8x512_0_2560 (View.loadsAt_vmem h_S8x512) fun c =>
  .load .zp ![0, 3072] S8x512.size inb_S8x3584_S8x512_0_3072 (View.loadsAt_vmem h_S8x512) fun s =>
  convs hM 16 le_rfl
    (concatenate S16x1024 0 [⟨S8x1024, num S8x1024 0x00000000#32⟩, ⟨S8x1024, mulf x (broadcast S8x1024 (notFirst i))⟩] concatenates_S8x1024_S8x1024_S16x1024_d0)
    (concatenate S16x512 0 [⟨S8x512, num S8x512 0x00000000#32⟩, ⟨S8x512, mulf (mulf c s) (broadcast S8x512 (notFirst i))⟩] concatenates_S8x512_S8x512_S16x512_d0) K

/-! ## The gates' products -/

theorem cols {g : ℕ} (hg : g + 1 ≤ 4) : ∀ a, (![0, 256 * g] : Fin 2 → ℕ) a + S256x256.size a ≤ S256x1024.size a := inb2 le_rfl (by omega)

/-- A group of 256 columns of a buffer of rounded numbers. -/
def rdC (k : Narrow) {g : ℕ} (hg : g + 1 ≤ 4) (K : FVec F S256x256 .bf16 → Code (Elt F) M) : Code (Elt F) M :=
  .load (.narrow k) ![0, 256 * g] S256x256.size (cols hg) (View.loadsAt_vmem h_S256x256) K
/-- A group of 256 columns stored into a wide buffer. -/
def wrC (k : Wide) {g : ℕ} (hg : g + 1 ≤ 4) (v : FVec F S256x256 .f32) (K : Code (Elt F) M) : Code (Elt F) M :=
  .load (.wide k) ![0, 256 * g] S256x256.size (cols hg) (View.loadsAt_vmem h_S256x256) fun _ =>
  .store (.wide k) ![0, 256 * g] S256x256.size (cols hg) (shapeCast S256x256 v shapeCasts_S256x256_S256x256) (View.stores_vmem_bits_univ h_S256x256 rfl) K
/-- A block of the first gate's weight. -/
def rdWa {g : ℕ} (hg : g + 1 ≤ 4) (K : FVec F S256x256 .bf16 → Code (Elt F) M) : Code (Elt F) M :=
  .load .wa ![g, 0, 0] S1x256x256.size (inb3 hg le_rfl le_rfl) (View.loadsAt_vmem h_S1x256x256) fun v => K (shapeCast S256x256 v shapeCasts_S1x256x256_S256x256)
/-- A block of the second gate's weight. -/
def rdWx {g : ℕ} (hg : g + 1 ≤ 4) (K : FVec F S256x256 .bf16 → Code (Elt F) M) : Code (Elt F) M :=
  .load .wx ![g, 0, 0] S1x256x256.size (inb3 hg le_rfl le_rfl) (View.loadsAt_vmem h_S1x256x256) fun v => K (shapeCast S256x256 v shapeCasts_S1x256x256_S256x256)

/-- Both gates' products at 256 columns. -/
def gateProd (g : ℕ) (hg : g + 1 ≤ 4) (K : Code (Elt F) M) : Code (Elt F) M :=
  rdC .lx hg fun x => rdWa hg fun w =>
  wrC .pr hg (matmul dot_S256x256_S256x256_S256x256_1_0_0_1_n_n none x w (constant S256x256 .f32 0x00000000#32)) <|
  rdC .lx hg fun x => rdWx hg fun w =>
  wrC .pi hg (matmul dot_S256x256_S256x256_S256x256_1_0_0_1_n_n none x w (constant S256x256 .f32 0x00000000#32)) K

/-! ## The gates -/

/-- The logistic function, by the hyperbolic tangent. -/
def logistic (x : FVec F S16x1024 .f32) : FVec F S16x1024 .f32 :=
  addf (mulf (num S16x1024 0x3F000000#32) (tanh (mulf (num S16x1024 0x3F000000#32) x))) (num S16x1024 0x3F000000#32)
/-- The curve's inner tangent. -/
def inner (x : FVec F S16x1024 .f32) : FVec F S16x1024 .f32 :=
  tanh (mulf (num S16x1024 0x3F4C422A#32) (addf x (mulf (mulf (num S16x1024 0x3D372713#32) x) (mulf x x))))
/-- Half of one and the inner tangent. -/
def halfOne (x : FVec F S16x1024 .f32) : FVec F S16x1024 .f32 := mulf (num S16x1024 0x3F000000#32) (addf (num S16x1024 0x3F800000#32) (inner x))
/-- The curve's derivative. -/
def curve' (x : FVec F S16x1024 .f32) : FVec F S16x1024 .f32 :=
  addf (halfOne x) (mulf (mulf (mulf (num S16x1024 0x3F000000#32) x) (subf (num S16x1024 0x3F800000#32) (mulf (inner x) (inner x))))
    (mulf (num S16x1024 0x3F4C422A#32) (addf (num S16x1024 0x3F800000#32) (mulf (num S16x1024 0x3E095D4F#32) (mulf x x)))))

/-- Sixteen rows of the gates, of the scan's factors and terms, and of the gradient at the curve's input; `c` are the decays of the rows after. -/
def gate (r : ℕ) (hr : r + 16 ≤ 256) (h2 : 2 ∣ r) (c : FVec F S16x1024 .f32) (K : FVec F S16x1024 .f32 → Code (Elt F) M) : Code (Elt F) M :=
  rd .pr hr fun pr => rd .pi hr fun pi =>
  par 5 (by decide) fun p5 => par 6 (by decide) fun p6 => par 7 (by decide) fun p7 =>
  let s := logistic (addf pr p5)
  let p := mulf s p7
  let v := mulf (subf (num S16x1024 0x00000000#32) (tanh p)) (addf (mulf (exp p) (exp p)) (num S16x1024 0x3F800000#32))
  wr .r hr s <| wr .ig hr (logistic (addf pi p6)) <| wr .a hr (exp p) <| wr .mult hr (sqrt v) <| wr .inv hr (rsqrt v) <| wr .ash hr (turn 31#32 (exp p) c) <|
  rdZ 1024 hr (by decide) fun x =>
  .load .dy ![r, 0] S16x1024.size (inb2 hr (by decide)) (View.loadsAt_vmem h_S16x1024) fun dy =>
  .load .hs ![r, 0] S16x1024.size (rows hr) (View.loadsAt_vmem h_S16x1024) fun hs =>
  wrZ hM 1024 hr (by decide) h2 (mulf (mulf dy (shapeCast S16x1024 hs shapeCasts_S16x1024_S16x1024)) (curve' x)) <|
  wr .b hr (mulf dy (mulf x (halfOne x))) <|
  K (exp p)

/-- The first `n` groups of the gates, the last first. -/
def gates : (n : ℕ) → n ≤ 16 → FVec F S16x1024 .f32 → (FVec F S16x1024 .f32 → Code (Elt F) M) → Code (Elt F) M
  | 0, _, c, K => K c
  | n + 1, hn, c, K => gate hM (16 * n) (by omega) (by omega) c fun a => gates n (by omega) a K

/-! ## The scan, from the last row to the first -/

/-- One doubling of the scan over eight rows: the pair of factors and terms with the rows `8 - k` after taken in. -/
def double (k : BitVec 32) (ab : FVec F S8x1024 .f32 × FVec F S8x1024 .f32) : FVec F S8x1024 .f32 × FVec F S8x1024 .f32 :=
  let m := cmpi .slt (iota .tc S8x1024 32 [0] iota_S8x1024_d0_w32) (broadcast S8x1024 k)
  (select m (mulf ab.1 (dynamicRotate 0 k none ab.1 rotates_S8x1024_d0)) ab.1,
   select m (addf (mulf ab.1 (dynamicRotate 0 k none ab.2 rotates_S8x1024_d0)) ab.2) ab.2)
/-- The scan of eight rows, from the carried row. -/
def scan8 (a b : FVec F S8x1024 .f32) (c : FVec F S1x1024 .f32) : FVec F S8x1024 .f32 :=
  let ab := double 4#32 (double 6#32 (double 7#32 (a, b)))
  addf (mulf ab.1 (broadcastTo S8x1024 c broadcasts_S1x1024_S8x1024)) ab.2

/-- Eight rows of the scan. -/
def trip (q : Fin k0_t1_loop.trips) (c : FVec F S1x1024 .f32) : Trip (Elt F) (FVec F S1x1024 .f32) M :=
  .load (.wide .ash) (k0_off1 q) S8x1024.size (k0_off1_inb q) (View.loadsAt_vmem h_S8x1024) fun a =>
  .load (.wide .b) (k0_off1 q) S8x1024.size (k0_off1_inb q) (View.loadsAt_vmem h_S8x1024) fun b =>
  .load (.wide .lam) (k0_off1 q) S8x1024.size (k0_off1_inb q) (View.loadsAt_vmem h_S8x1024) fun _ =>
  .store (.wide .lam) (k0_off1 q) S8x1024.size (k0_off1_inb q) (shapeCast S8x1024 (scan8 a b c) shapeCasts_S8x1024_S8x1024) (View.stores_vmem_bits_univ h_S8x1024 rfl) <|
  .ret (extractStridedSlice S1x1024 ![0, 0] (scan8 a b c) slices_S8x1024_o0_0_S1x1024)

/-- The gates of the block, and the scan over it. -/
def gatesAndScan (K : Code (Elt F) M) : Code (Elt F) M :=
  .load .carA ![0, 0] S16x1024.size inb_S16x1024_S16x1024_0_0 (View.loadsAt_vmem h_S16x1024) fun c =>
  gates hM 16 le_rfl c fun a =>
  .load .carA ![0, 0] S16x1024.size inb_S16x1024_S16x1024_0_0 (View.loadsAt_vmem h_S16x1024) fun _ =>
  .store .carA ![0, 0] S16x1024.size inb_S16x1024_S16x1024_0_0 (shapeCast S16x1024 a shapeCasts_S16x1024_S16x1024) (View.stores_vmem_bits_univ h_S16x1024 rfl) <|
  .load .carL ![0, 0] S1x1024.size inb_S8x1024_S1x1024_0_0 (View.loadsAt_vmem h_S1x1024) fun l =>
  .loop S1x1024 .f32 k0_t1_loop k0_t1_ok l trip fun l =>
  .load .carL ![0, 0] S1x1024.size inb_S8x1024_S1x1024_0_0 (View.loadsAt_vmem h_S1x1024) fun _ =>
  .store .carL ![0, 0] S1x1024.size inb_S8x1024_S1x1024_0_0 (shapeCast S1x1024 l shapeCasts_S1x1024_S1x1024) (View.stores_vmem_bits_univ h_S1x1024 rfl) K

/-! ## The gates' gradient -/

/-- Sixteen rows of the gates' gradient; `x` are the states of the rows before. -/
def gateGrad (r : ℕ) (hr : r + 16 ≤ 256) (h2 : 2 ∣ r) (x : FVec F S16x1024 .f32) (K : FVec F S16x1024 .f32 → Code (Elt F) M) : Code (Elt F) M :=
  rd .lam hr fun lam =>
  .load .hs ![r, 0] S16x1024.size (rows hr) (View.loadsAt_vmem h_S16x1024) fun hs =>
  rd .lx hr fun lx => rd .r hr fun rr => rd .ig hr fun ig => rd .a hr fun a => rd .mult hr fun mult =>
  wr .dlx hr (mulf (mulf lam mult) ig) <|
  rd .inv hr fun inv => par 7 (by decide) fun p7 =>
  let hs' := shapeCast S16x1024 hs shapeCasts_S16x1024_S16x1024
  let dla := subf (mulf (mulf lam (turn 17#32 x hs')) a) (mulf (mulf (mulf (mulf lam ig) lx) (mulf a a)) inv)
  let dpr := mulf (mulf (mulf dla p7) rr) (subf (num S16x1024 0x3F800000#32) rr)
  let dpi := mulf (mulf (mulf (mulf lam mult) lx) ig) (subf (num S16x1024 0x3F800000#32) ig)
  add 1 (by decide) dpr <| add 2 (by decide) dpi <| add 3 (by decide) (mulf dla rr) <|
  wrN hM .dpr hr h2 dpr <| wrN hM .dpi hr h2 dpi <|
  K hs'

/-- `n` groups of the gates' gradient, up to the last. -/
def gateGrads : (n : ℕ) → n ≤ 16 → FVec F S16x1024 .f32 → Code (Elt F) M → Code (Elt F) M
  | 0, _, _, K => K
  | n + 1, hn, x, K => gateGrad hM (16 * (15 - n)) (by omega) (by omega) x fun y => gateGrads n (by omega) y K

/-- The gates' gradient at all rows of the block. -/
def gatesGrad (K : Code (Elt F) M) : Code (Elt F) M :=
  .load .hsp ![0, 0] S8x1024.size inb_S8x1024_S8x1024_0_0 (View.loadsAt_vmem h_S8x1024) fun x =>
  gateGrads hM 16 le_rfl
    (concatenate S16x1024 0 [⟨S8x1024, num S8x1024 0x00000000#32⟩, ⟨S8x1024, mulf (shapeCast S8x1024 x shapeCasts_S8x1024_S8x1024) (broadcast S8x1024 (notFirst i))⟩]
      concatenates_S8x1024_S8x1024_S16x1024_d0) K

/-! ## The products of the gates' gradient -/

/-- The products of 256 columns: both weights' gradient, and the gradient at the convolution's output. -/
def gradProd (g : ℕ) (hg : g + 1 ≤ 4) (K : Code (Elt F) M) : Code (Elt F) M :=
  .load .dwa ![g, 0, 0] S1x256x256.size (inb3 hg le_rfl le_rfl) (View.loadsAt_vmem h_S1x256x256) fun v =>
  rdC .lx hg fun x => rdC .dpr hg fun d =>
  .load .dwa ![g, 0, 0] S1x256x256.size (inb3 hg le_rfl le_rfl) (View.loadsAt_vmem h_S1x256x256) fun _ =>
  .store .dwa ![g, 0, 0] S1x256x256.size (inb3 hg le_rfl le_rfl)
    (shapeCast S1x256x256 (addf (shapeCast S256x256 v shapeCasts_S1x256x256_S256x256) (matmul dot_S256x256_S256x256_S256x256_0_0_1_1_n_n none x d (constant S256x256 .f32 0x00000000#32))) shapeCasts_S256x256_S1x256x256)
    (View.stores_vmem_bits_univ h_S1x256x256 rfl) <|
  .load .dwx ![g, 0, 0] S1x256x256.size (inb3 hg le_rfl le_rfl) (View.loadsAt_vmem h_S1x256x256) fun v =>
  rdC .lx hg fun x => rdC .dpi hg fun d =>
  .load .dwx ![g, 0, 0] S1x256x256.size (inb3 hg le_rfl le_rfl) (View.loadsAt_vmem h_S1x256x256) fun _ =>
  .store .dwx ![g, 0, 0] S1x256x256.size (inb3 hg le_rfl le_rfl)
    (shapeCast S1x256x256 (addf (shapeCast S256x256 v shapeCasts_S1x256x256_S256x256) (matmul dot_S256x256_S256x256_S256x256_0_0_1_1_n_n none x d (constant S256x256 .f32 0x00000000#32))) shapeCasts_S256x256_S1x256x256)
    (View.stores_vmem_bits_univ h_S1x256x256 rfl) <|
  rdC .dpr hg fun d => rdWa hg fun w => rdC .dpi hg fun e => rdWx hg fun u =>
  wrC .back hg (addf (matmul dot_S256x256_S256x256_S256x256_1_1_0_0_n_n none d w (constant S256x256 .f32 0x00000000#32))
    (matmul dot_S256x256_S256x256_S256x256_1_1_0_0_n_n none e u (constant S256x256 .f32 0x00000000#32))) K

/-! ## The convolutions' gradient -/

/-- Sixteen rows of the long convolution's gradient; `c` is the gradient at the output of the rows after. -/
def convGrad (r : ℕ) (hr : r + 16 ≤ 256) (h2 : 2 ∣ r) (c : FVec F S16x1024 .f32) (K : FVec F S16x1024 .f32 → Code (Elt F) M) : Code (Elt F) M :=
  rd .dlx hr fun d => rd .back hr fun e => rdZ 0 hr (by decide) fun x =>
  let s := addf d e
  add 0 (by decide) s <| add 7 (by decide) (mulf s x) <|
  par 3 (by decide) fun p3 => par 2 (by decide) fun p2 =>
  add 6 (by decide) (mulf (turn 31#32 s c) x) <|
  par 1 (by decide) fun p1 =>
  add 5 (by decide) (mulf (turn 30#32 s c) x) <|
  par 0 (by decide) fun p0 =>
  add 4 (by decide) (mulf (turn 29#32 s c) x) <|
  wrZ hM 0 hr (by decide) h2 (addf (addf (addf (mulf p3 s) (mulf p2 (turn 31#32 s c))) (mulf p1 (turn 30#32 s c))) (mulf p0 (turn 29#32 s c))) <|
  K s

/-- Sixteen rows of the short convolution's gradient; `c` is the gradient at the output of the rows after. -/
def shortGrad (r : ℕ) (hr : r + 16 ≤ 256) (h2 : 2 ∣ r) (c : FVec F S16x512 .f32) (K : FVec F S16x512 .f32 → Code (Elt F) M) : Code (Elt F) M :=
  .load .dy ![r, 1024] S16x512.size (inb2 hr (by decide)) (View.loadsAt_vmem h_S16x512) fun dy =>
  rdZS 2048 hr (by decide) fun b => rdZS 2560 hr (by decide) fun g => rdZS 3072 hr (by decide) fun x =>
  .load .cq ![r, 0] S16x512.size (inb2 hr le_rfl) (View.loadsAt_vmem h_S16x512) fun cq =>
  wrZS hM 2048 hr (by decide) h2 (mulf dy cq) <|
  addS 2 (by decide) (mulf (mulf dy b) (mulf g x)) <|
  parS 2 (by decide) fun t2 => parS 1 (by decide) fun t1 =>
  addS 1 (by decide) (mulf (turnS 31#32 (mulf dy b) c) (mulf g x)) <|
  parS 0 (by decide) fun t0 =>
  addS 0 (by decide) (mulf (turnS 30#32 (mulf dy b) c) (mulf g x)) <|
  wrZS hM 2560 hr (by decide) h2 (mulf (addf (addf (mulf t2 (mulf dy b)) (mulf t1 (turnS 31#32 (mulf dy b) c))) (mulf t0 (turnS 30#32 (mulf dy b) c))) x) <|
  wrZS hM 3072 hr (by decide) h2 (mulf (addf (addf (mulf t2 (mulf dy b)) (mulf t1 (turnS 31#32 (mulf dy b) c))) (mulf t0 (turnS 30#32 (mulf dy b) c))) g) <|
  K (mulf dy b)

/-- The first `n` groups of the convolutions' gradient, the last first. -/
def convGrads : (n : ℕ) → n ≤ 16 → FVec F S16x1024 .f32 → FVec F S16x512 .f32 → (FVec F S16x1024 .f32 → FVec F S16x512 .f32 → Code (Elt F) M) → Code (Elt F) M
  | 0, _, c, d, K => K c d
  | n + 1, hn, c, d, K => convGrad hM (16 * n) (by omega) (by omega) c fun c' => shortGrad hM (16 * n) (by omega) (by omega) d fun d' => convGrads n (by omega) c' d' K

/-- The convolutions' gradient at all rows of the block. -/
def backwardConv (K : Code (Elt F) M) : Code (Elt F) M :=
  .load .carX ![0, 0] S16x1024.size inb_S16x1024_S16x1024_0_0 (View.loadsAt_vmem h_S16x1024) fun c =>
  .load .carQ ![0, 0] S16x512.size inb_S16x512_S16x512_0_0 (View.loadsAt_vmem h_S16x512) fun d =>
  convGrads hM 16 le_rfl c d fun c d =>
  .load .carX ![0, 0] S16x1024.size inb_S16x1024_S16x1024_0_0 (View.loadsAt_vmem h_S16x1024) fun _ =>
  .store .carX ![0, 0] S16x1024.size inb_S16x1024_S16x1024_0_0 (shapeCast S16x1024 c shapeCasts_S16x1024_S16x1024) (View.stores_vmem_bits_univ h_S16x1024 rfl) <|
  .load .carQ ![0, 0] S16x512.size inb_S16x512_S16x512_0_0 (View.loadsAt_vmem h_S16x512) fun _ =>
  .store .carQ ![0, 0] S16x512.size inb_S16x512_S16x512_0_0 (shapeCast S16x512 d shapeCasts_S16x512_S16x512) (View.stores_vmem_bits_univ h_S16x512 rfl) K

/-! ## The last point -/

/-- The sum of eight partial rows. -/
def total (v : FVec F S1x8x1024 .f32) : FVec F S1x1024 .f32 :=
  shapeCast S1x1024 (multiReduction .add [0] S1024 (shapeCast S8x1024 v shapeCasts_S1x8x1024_S8x1024) 0x00000000#32 reduces_S8x1024_S1024 (.inl rfl) rfl) shapeCasts_S1024_S1x1024
/-- The sum of eight partial rows of the short convolution's gradient. -/
def totalS (v : FVec F S1x8x512 .f32) : FVec F S1x512 .f32 :=
  shapeCast S1x512 (multiReduction .add [0] S512 (shapeCast S8x512 v shapeCasts_S1x8x512_S8x512) 0x00000000#32 reduces_S8x512_S512 (.inl rfl) rfl) shapeCasts_S512_S1x512

/-- One row of the long convolution's gradient. -/
def rowC (k : ℕ) (hk : k + 1 ≤ 4) (K : Code (Elt F) M) : Code (Elt F) M :=
  .load .acc ![4 + k, 0, 0] S1x8x1024.size (inb3 (by omega) le_rfl le_rfl) (View.loadsAt_vmem h_S1x8x1024) fun v =>
  .load .dcw ![k, 0] S1x1024.size (inb2 (by omega) le_rfl) (View.loadsAt_vmem h_S1x1024) fun _ =>
  .store .dcw ![k, 0] S1x1024.size (inb2 (by omega) le_rfl) (total v) (View.stores_vmem_bits_univ h_S1x1024 rfl) K
/-- One row of the parameters' gradient, and one of the short convolution's. -/
def rowS (k : ℕ) (hk : k + 1 ≤ 3) (K : Code (Elt F) M) : Code (Elt F) M :=
  .load .acc ![k, 0, 0] S1x8x1024.size (inb3 (by omega) le_rfl le_rfl) (View.loadsAt_vmem h_S1x8x1024) fun v =>
  .load .dvec ![k, 0] S1x1024.size (inb2 (by omega) le_rfl) (View.loadsAt_vmem h_S1x1024) fun _ =>
  .store .dvec ![k, 0] S1x1024.size (inb2 (by omega) le_rfl) (total v) (View.stores_vmem_bits_univ h_S1x1024 rfl) <|
  .load .accS ![k, 0, 0] S1x8x512.size (inb3 hk le_rfl le_rfl) (View.loadsAt_vmem h_S1x8x512) fun v =>
  .load .dscw ![k, 0] S1x512.size (inb2 (by omega) le_rfl) (View.loadsAt_vmem h_S1x512) fun _ =>
  .store .dscw ![k, 0] S1x512.size (inb2 (by omega) le_rfl) (totalS v) (View.stores_vmem_bits_univ h_S1x512 rfl) K

/-- The last point's branch. -/
def lastPoint : Code (Elt F) M :=
  .load .dcw ![0, 0] S8x1024.size inb_S8x1024_S8x1024_0_0 (View.loadsAt_vmem h_S8x1024) fun _ =>
  .store .dcw ![0, 0] S8x1024.size inb_S8x1024_S8x1024_0_0 (num S8x1024 0x00000000#32) (View.stores_vmem_bits_univ h_S8x1024 rfl) <|
  .load .dvec ![0, 0] S8x1024.size inb_S8x1024_S8x1024_0_0 (View.loadsAt_vmem h_S8x1024) fun _ =>
  .store .dvec ![0, 0] S8x1024.size inb_S8x1024_S8x1024_0_0 (num S8x1024 0x00000000#32) (View.stores_vmem_bits_univ h_S8x1024 rfl) <|
  .load .dscw ![0, 0] S8x512.size inb_S8x512_S8x512_0_0 (View.loadsAt_vmem h_S8x512) fun _ =>
  .store .dscw ![0, 0] S8x512.size inb_S8x512_S8x512_0_0 (num S8x512 0x00000000#32) (View.stores_vmem_bits_univ h_S8x512 rfl) <|
  rowC 0 (by decide) <| rowC 1 (by decide) <| rowC 2 (by decide) <| rowC 3 (by decide) <|
  rowS 0 (by decide) <| rowS 1 (by decide) <| rowS 2 (by decide) <|
  .load .acc ![3, 0, 0] S1x8x1024.size (inb3 (by decide) le_rfl le_rfl) (View.loadsAt_vmem h_S1x8x1024) fun v =>
  par 8 (by decide) fun p =>
  .load .dvec ![3, 0] S1x1024.size (inb2 (by decide) le_rfl) (View.loadsAt_vmem h_S1x1024) fun _ =>
  .store .dvec ![3, 0] S1x1024.size (inb2 (by decide) le_rfl)
    (mulf (mulf (total v) (num S1x1024 0xC1000000#32)) (extractStridedSlice S1x1024 ![0, 0] p slices_S16x1024_o0_0_S1x1024)) (View.stores_vmem_bits_univ h_S1x1024 rfl) .halt

/-! ## The body -/

/-- The body after the first point's branch. -/
def rest : Code (Elt F) M :=
  forwardConv hM i <|
  gateProd 0 (by decide) <| gateProd 1 (by decide) <| gateProd 2 (by decide) <| gateProd 3 (by decide) <|
  gatesAndScan hM <|
  gatesGrad hM i <|
  gradProd 0 (by decide) <| gradProd 1 (by decide) <| gradProd 2 (by decide) <| gradProd 3 (by decide) <|
  backwardConv hM <|
  .branch (k0_cond2 i = 1#1) lastPoint .halt

/-- Whether a point is the first. -/
abbrev isFirst : Prop := Scalar.cmpi .ne (Scalar.extui (Scalar.cmpi .eq (BitVec.ofNat 32 (i 0).val) 0#32) : BitVec 32) 0#32 = 1#1

/-- The whole body. -/
def body : Code (Elt F) M := .branch (isFirst i) (clear (spread (rest hM i))) (rest hM i)

end Cert.MixKernelIdeal.Body

end
-- ==== Proof.Mix.BodyEq.lean ====
/- The printed body of the mixer's backward kernel is the body written as a code. -/
module

public import proofs.«01_k».proof.Proof.Mix.Body
public import Idealize.ShloMosaic.Lib.Tactic

@[expose] public section

set_option maxRecDepth 65536
set_option maxHeartbeats 4000000

noncomputable section

namespace Cert.MixKernelIdeal.Body

open Idealize.ShloMosaic Idealize.SL.Sem Cert.Straight Cert.MixKernelIdeal.Gen

variable {F : FTy → Type} [FloatOps F]

/-- The printed body stands for the code `body`. -/
theorem body_eq (i : grid0.Coords) (M : ∀ b, Memref sig .tc (CoreSpace.vmem : Space) (sh b) (el b)) (hM : ∀ b, (M b).IsWhole)
    (T : Memref sig .tc .hbm S8x128 .f32) (hT : T.IsWhole) :
    cc0_mixer_bwd (F := F) i (M .z) (hM .z) (M .zp) (hM .zp) (M .hs) (hM .hs) (M .hsp) (hM .hsp) (M .dy) (hM .dy) (M .cw) (hM .cw) (M .cb) (hM .cb) (M .wa) (hM .wa) (M .wx) (hM .wx) (M .ba) (hM .ba) (M .bx) (hM .bx) (M .lamb) (hM .lamb) (M .scw) (hM .scw)
      T hT (M .dz) (hM .dz) (M .dcw) (hM .dcw) (M .dvec) (hM .dvec) (M .dwa) (hM .dwa) (M .dwx) (hM .dwx) (M .dscw) (hM .dscw)
      (M .par) (hM .par) (M .parS) (hM .parS) (M (.wide .lx)) (hM (.wide .lx)) (M (.narrow .lx)) (hM (.narrow .lx)) (M .cq) (hM .cq) (M (.wide .pr)) (hM (.wide .pr)) (M (.wide .pi)) (hM (.wide .pi)) (M (.wide .r)) (hM (.wide .r)) (M (.wide .ig)) (hM (.wide .ig)) (M (.wide .a)) (hM (.wide .a)) (M (.wide .mult)) (hM (.wide .mult)) (M (.wide .inv)) (hM (.wide .inv)) (M (.wide .ash)) (hM (.wide .ash))
      (M (.wide .b)) (hM (.wide .b)) (M (.wide .lam)) (hM (.wide .lam)) (M (.wide .dlx)) (hM (.wide .dlx)) (M (.narrow .dpr)) (hM (.narrow .dpr)) (M (.narrow .dpi)) (hM (.narrow .dpi)) (M (.wide .back)) (hM (.wide .back)) (M .carA) (hM .carA) (M .carX) (hM .carX) (M .carQ) (hM .carQ) (M .carL) (hM .carL) (M .acc) (hM .acc) (M .accS) (hM .accS)
      = (body (F := F) (M := M) hM i).toProg (nD := nD) (τ := τ) (p := .tc) := by
  show _ = dite (isFirst i) (fun _ => (clear (spread (rest (F := F) (M := M) hM i))).toProg (nD := nD) (τ := τ) (p := .tc)) (fun _ => (rest (F := F) (M := M) hM i).toProg (nD := nD) (τ := τ) (p := .tc))
  unfold cc0_mixer_bwd k0_part193 k0_part7 k0_part194 k0_part78
  dsimp only
  simp only [bind_assoc]
  by_cases hc : isFirst i
  · simp only [dif_pos hc]
    sl_kernel_rfl
  · simp only [dif_neg hc]
    sl_kernel_rfl

end Cert.MixKernelIdeal.Body

end
-- ==== Proof.Mix.Eval.lean ====
/- What the mixer's backward body leaves in the buffers that the short convolution's gradient needs: the carried rows, the partial sums of the taps'
   gradient, and, at the last point, the taps' gradient itself. Of the other buffers only that the arguments' blocks stay. -/
module

public import proofs.«01_k».proof.Proof.Mix.Body

@[expose] public section

set_option maxRecDepth 16384

noncomputable section

namespace Cert.MixKernelIdeal.Body

open Idealize.ShloMosaic Idealize.SL.Sem Cert.Straight Cert.MixKernelIdeal.Gen
open VecWindow (window put)

variable {F : FTy → Type} [FloatOps F]
variable {M : ∀ b, Memref sig .tc (CoreSpace.vmem : Space) (sh b) (el b)} (hM : ∀ b, (M b).IsWhole) (i : grid0.Coords)

/-! ## Buffers that stay -/

/-- The arguments' blocks. -/
def isIn : Bf → Bool
  | .z | .zp | .hs | .hsp | .dy | .cw | .cb | .wa | .wx | .ba | .bx | .lamb | .scw => true
  | _ => false
/-- The arguments' blocks and the block of the taps' gradient. -/
def keepIn : Bf → Bool
  | .dscw => true
  | b => isIn b
/-- Those, the carried rows, and the partial sums of the taps' gradient. -/
def keep : Bf → Bool
  | .carQ | .accS => true
  | b => keepIn b

/-- The buffers of `keep` hold the same. -/
def Kept (σ σ' : State (Elt F) sh el) : Prop := ∀ b, keep b = true → σ' b = σ b

theorem Kept.refl (σ : State (Elt F) sh el) : Kept σ σ := fun _ _ => rfl
theorem Kept.trans {σ σ' σ'' : State (Elt F) sh el} (h : Kept σ σ') (h' : Kept σ' σ'') : Kept σ σ'' := fun b hb => (h' b hb).trans (h b hb)
theorem Kept.update {σ : State (Elt F) sh el} {b : Bf} (hb : keep b = false) (w : (sh b).Idx → Elt F (el b)) : Kept σ (Function.update σ b w) :=
  fun b' hb' => Function.update_of_ne (fun h => by rw [h, hb] at hb'; exact absurd hb' (by decide)) _ _

/-- From any contents the code comes to one of the continuations, the buffers of `keep` unchanged. -/
def Goes {α : Type} (p : Code (Elt F) M) (K : α → Code (Elt F) M) : Prop :=
  ∀ σ : State (Elt F) sh el, ∃ (x : α) (σ' : State (Elt F) sh el), p.run σ = (K x).run σ' ∧ Kept σ σ'

variable {α β : Type}

theorem Goes.here (K : α → Code (Elt F) M) (x : α) : Goes (K x) K := fun σ => ⟨x, σ, rfl, .refl σ⟩
theorem Goes.done (K : Code (Elt F) M) : Goes K (fun _ : Unit => K) := fun σ => ⟨(), σ, rfl, .refl σ⟩
theorem Goes.then {p : Code (Elt F) M} {q : β → Code (Elt F) M} {K : α → Code (Elt F) M} (h : Goes p q) (h' : ∀ x, Goes (q x) K) : Goes p K := fun σ => by
  obtain ⟨x, σ', e, k⟩ := h σ
  obtain ⟨y, σ'', e', k'⟩ := h' x σ'
  exact ⟨y, σ'', e.trans e', k.trans k'⟩
theorem Goes.load {b : Bf} {off size : Fin (sh b).rank → ℕ} {inb : ∀ a, off a + size a ≤ (sh b).size a} {h : (M b).view.LoadsAt (Rect.unit off size inb).toLoadRect}
    {k : ((Rect.unit off size inb).shape.Idx → Elt F (el b)) → Code (Elt F) M} {K : α → Code (Elt F) M} (hk : ∀ v, Goes (k v) K) :
    Goes (.load b off size inb h k) K := fun σ => hk _ σ
theorem Goes.store {b : Bf} (hb : keep b = false) {off size : Fin (sh b).rank → ℕ} {inb : ∀ a, off a + size a ≤ (sh b).size a} {w : (Rect.unit off size inb).shape.Idx → Elt F (el b)}
    {h : ((M b).access (Rect.unit off size inb)).Stores Finset.univ} {k : Code (Elt F) M} {K : α → Code (Elt F) M} (hk : Goes k K) :
    Goes (.store b off size inb w h k) K := fun σ => by
  obtain ⟨x, σ', e, k⟩ := hk (Function.update σ b (put (σ b) off size w))
  exact ⟨x, σ', e, (Kept.update hb _).trans k⟩

theorem goes_rd {k : Wide} {r : ℕ} {hr : r + 16 ≤ 256} {k' : FVec F S16x1024 .f32 → Code (Elt F) M} {K : α → Code (Elt F) M} (h : ∀ v, Goes (k' v) K) : Goes (rd k hr k') K := .load h
theorem goes_wr {k : Wide} {r : ℕ} {hr : r + 16 ≤ 256} {v : FVec F S16x1024 .f32} {k' : Code (Elt F) M} {K : α → Code (Elt F) M} (h : Goes k' K) : Goes (wr k hr v k') K :=
  .load fun _ => .store rfl h
theorem goes_wrN {k : Narrow} {r : ℕ} {hr : r + 16 ≤ 256} {h2 : 2 ∣ r} {v : FVec F S16x1024 .f32} {k' : Code (Elt F) M} {K : α → Code (Elt F) M} (h : Goes k' K) : Goes (wrN hM k hr h2 v k') K :=
  .load fun _ => .store rfl h
theorem goes_par {k : ℕ} {hk : k + 1 ≤ 9} {k' : FVec F S16x1024 .f32 → Code (Elt F) M} {K : α → Code (Elt F) M} (h : ∀ v, Goes (k' v) K) : Goes (par k hk k') K := .load fun v => h _
theorem goes_parS {k : ℕ} {hk : k + 1 ≤ 3} {k' : FVec F S16x512 .f32 → Code (Elt F) M} {K : α → Code (Elt F) M} (h : ∀ v, Goes (k' v) K) : Goes (parS k hk k') K := .load fun v => h _
theorem goes_rdZ {r c : ℕ} {hr : r + 16 ≤ 256} {hc : c + 1024 ≤ 3584} {k' : FVec F S16x1024 .f32 → Code (Elt F) M} {K : α → Code (Elt F) M} (h : ∀ v, Goes (k' v) K) : Goes (rdZ c hr hc k') K := .load h
theorem goes_rdZS {r c : ℕ} {hr : r + 16 ≤ 256} {hc : c + 512 ≤ 3584} {k' : FVec F S16x512 .f32 → Code (Elt F) M} {K : α → Code (Elt F) M} (h : ∀ v, Goes (k' v) K) : Goes (rdZS c hr hc k') K := .load h
theorem goes_wrZ {r c : ℕ} {hr : r + 16 ≤ 256} {hc : c + 1024 ≤ 3584} {h2 : 2 ∣ r} {v : FVec F S16x1024 .f32} {k' : Code (Elt F) M} {K : α → Code (Elt F) M} (h : Goes k' K) :
    Goes (wrZ hM c hr hc h2 v k') K := .load fun _ => .store rfl h
theorem goes_add {k : ℕ} {hk : k + 1 ≤ 8} {x : FVec F S16x1024 .f32} {k' : Code (Elt F) M} {K : α → Code (Elt F) M} (h : Goes k' K) : Goes (add k hk x k') K :=
  .load fun _ => .load fun _ => .store rfl h
theorem goes_rdC {k : Narrow} {g : ℕ} {hg : g + 1 ≤ 4} {k' : FVec F S256x256 .bf16 → Code (Elt F) M} {K : α → Code (Elt F) M} (h : ∀ v, Goes (k' v) K) : Goes (rdC k hg k') K := .load h
theorem goes_wrC {k : Wide} {g : ℕ} {hg : g + 1 ≤ 4} {v : FVec F S256x256 .f32} {k' : Code (Elt F) M} {K : α → Code (Elt F) M} (h : Goes k' K) : Goes (wrC k hg v k') K :=
  .load fun _ => .store rfl h
theorem goes_rdWa {g : ℕ} {hg : g + 1 ≤ 4} {k' : FVec F S256x256 .bf16 → Code (Elt F) M} {K : α → Code (Elt F) M} (h : ∀ v, Goes (k' v) K) : Goes (rdWa hg k') K := .load fun v => h _
theorem goes_rdWx {g : ℕ} {hg : g + 1 ≤ 4} {k' : FVec F S256x256 .bf16 → Code (Elt F) M} {K : α → Code (Elt F) M} (h : ∀ v, Goes (k' v) K) : Goes (rdWx hg k') K := .load fun v => h _
theorem goes_putPar {k : ℕ} {hk : k + 1 ≤ 9} {v : FVec F S1x1024 .f32} {k' : Code (Elt F) M} {K : α → Code (Elt F) M} (h : Goes k' K) : Goes (putPar k hk v k') K :=
  .load fun _ => .store rfl h
theorem goes_spreadC {k : ℕ} {hk : k + 1 ≤ 4} {k' : Code (Elt F) M} {K : α → Code (Elt F) M} (h : Goes k' K) : Goes (spreadC k hk k') K :=
  .load fun _ => .load fun _ => .store rfl h
theorem goes_spreadS {k : ℕ} {hk : k + 1 ≤ 3} {k' : Code (Elt F) M} {K : α → Code (Elt F) M} (h : Goes k' K) : Goes (spreadS k hk k') K :=
  .load fun _ => .load fun _ => .store rfl h

/-! ## The phases that keep them -/

theorem goes_spread (K : Code (Elt F) M) : Goes (spread K) (fun _ : Unit => K) :=
  goes_spreadC <| goes_spreadC <| goes_spreadC <| goes_spreadC <| .load fun _ => goes_putPar <| .load fun _ => goes_putPar <| .load fun _ => goes_putPar <|
  .load fun _ => goes_putPar <| .load fun _ => goes_putPar <| goes_spreadS <| goes_spreadS <| goes_spreadS <| .done K

theorem goes_conv (r : ℕ) (hr : r + 16 ≤ 256) (h2 : 2 ∣ r) (x : FVec F S16x1024 .f32) (q : FVec F S16x512 .f32) (k : FVec F S16x1024 .f32 → FVec F S16x512 .f32 → Code (Elt F) M)
    (K : α → Code (Elt F) M) (h : ∀ y p, Goes (k y p) K) : Goes (conv hM r hr h2 x q k) K :=
  goes_rdZ fun _ => goes_par fun _ => goes_par fun _ => goes_par fun _ => goes_par fun _ => goes_par fun _ => goes_wr <| goes_wrN hM <|
  goes_rdZS fun _ => goes_rdZS fun _ => goes_parS fun _ => goes_parS fun _ => goes_parS fun _ => .load fun _ => .store rfl <| h _ _
theorem goes_convs (K : Code (Elt F) M) : ∀ (n : ℕ) (hn : n ≤ 16) (x : FVec F S16x1024 .f32) (q : FVec F S16x512 .f32), Goes (convs hM n hn x q K) (fun _ : Unit => K)
  | 0, _, _, _ => .done K
  | n + 1, hn, x, q => goes_conv hM _ _ _ x q _ _ fun y p => goes_convs K n (by omega) y p
theorem goes_forwardConv (K : Code (Elt F) M) : Goes (forwardConv hM i K) (fun _ : Unit => K) := .load fun _ => .load fun _ => .load fun _ => goes_convs hM K 16 le_rfl _ _

theorem goes_gateProd (g : ℕ) (hg : g + 1 ≤ 4) (K : Code (Elt F) M) : Goes (gateProd g hg K) (fun _ : Unit => K) :=
  goes_rdC fun _ => goes_rdWa fun _ => goes_wrC <| goes_rdC fun _ => goes_rdWx fun _ => goes_wrC <| .done K

theorem goes_gate (r : ℕ) (hr : r + 16 ≤ 256) (h2 : 2 ∣ r) (c : FVec F S16x1024 .f32) (k : FVec F S16x1024 .f32 → Code (Elt F) M)
    (K : α → Code (Elt F) M) (h : ∀ y, Goes (k y) K) : Goes (gate hM r hr h2 c k) K :=
  goes_rd fun _ => goes_rd fun _ => goes_par fun _ => goes_par fun _ => goes_par fun _ => goes_wr <| goes_wr <| goes_wr <| goes_wr <| goes_wr <| goes_wr <|
  goes_rdZ fun _ => .load fun _ => .load fun _ => goes_wrZ hM <| goes_wr <| h _
theorem goes_gates (K : FVec F S16x1024 .f32 → Code (Elt F) M) : ∀ (n : ℕ) (hn : n ≤ 16) (c : FVec F S16x1024 .f32), Goes (gates hM n hn c K) K
  | 0, _, c => .here K c
  | n + 1, hn, c => goes_gate hM _ _ _ c _ _ fun y => goes_gates K n (by omega) y

theorem kept_trip (q : Fin k0_t1_loop.trips) (c : FVec F S1x1024 .f32) (σ : State (Elt F) sh el) : Kept σ ((trip (M := M) q c).run σ).2 := Kept.update rfl _
theorem kept_trips {s : Shape} {e : EltTy} {n : ℕ} {body : Fin n → (s.Idx → Elt F e) → Trip (Elt F) (s.Idx → Elt F e) M} (hb : ∀ q c (σ : State (Elt F) sh el), Kept σ ((body q c).run σ).2) :
    ∀ (qs : List (Fin n)) (c : s.Idx → Elt F e) (σ : State (Elt F) sh el), Kept σ (Trip.runAll body qs c σ).2
  | [], _, σ => .refl σ
  | q :: qs, c, σ => (hb q c σ).trans (kept_trips hb qs _ _)
theorem Goes.loop {s : Shape} {e : EltTy} {l : Scf.Loop 32} {ok : l.OK} {init : s.Idx → Elt F e} {body : Fin l.trips → (s.Idx → Elt F e) → Trip (Elt F) (s.Idx → Elt F e) M}
    {k : (s.Idx → Elt F e) → Code (Elt F) M} {K : α → Code (Elt F) M} (hb : ∀ q c (σ : State (Elt F) sh el), Kept σ ((body q c).run σ).2) (hk : ∀ c, Goes (k c) K) :
    Goes (.loop s e l ok init body k) K := fun σ => by
  obtain ⟨x, σ', h, kept⟩ := hk (Trip.runAll body (List.finRange l.trips) init σ).1 (Trip.runAll body (List.finRange l.trips) init σ).2
  exact ⟨x, σ', h, (kept_trips hb _ _ _).trans kept⟩
theorem goes_gatesAndScan (K : Code (Elt F) M) : Goes (gatesAndScan hM K) (fun _ : Unit => K) :=
  .load fun c => (goes_gates hM _ 16 le_rfl c).then fun _ => .load fun _ => by
    refine .store rfl (.load fun l => .loop kept_trip fun l => .load fun _ => ?_)
    refine .store rfl ?_
    exact .done K

theorem goes_gateGrad (r : ℕ) (hr : r + 16 ≤ 256) (h2 : 2 ∣ r) (x : FVec F S16x1024 .f32) (k : FVec F S16x1024 .f32 → Code (Elt F) M)
    (K : α → Code (Elt F) M) (h : ∀ y, Goes (k y) K) : Goes (gateGrad hM r hr h2 x k) K :=
  goes_rd fun _ => .load fun _ => goes_rd fun _ => goes_rd fun _ => goes_rd fun _ => goes_rd fun _ => goes_rd fun _ => goes_wr <| goes_rd fun _ => goes_par fun _ =>
  goes_add <| goes_add <| goes_add <| goes_wrN hM <| goes_wrN hM <| h _
theorem goes_gateGrads (K : Code (Elt F) M) : ∀ (n : ℕ) (hn : n ≤ 16) (x : FVec F S16x1024 .f32), Goes (gateGrads hM n hn x K) (fun _ : Unit => K)
  | 0, _, _ => .done K
  | n + 1, hn, x => goes_gateGrad hM _ _ _ x _ _ fun y => goes_gateGrads K n (by omega) y
theorem goes_gatesGrad (K : Code (Elt F) M) : Goes (gatesGrad hM i K) (fun _ : Unit => K) := .load fun _ => goes_gateGrads hM K 16 le_rfl _

theorem goes_gradProd (g : ℕ) (hg : g + 1 ≤ 4) (K : Code (Elt F) M) : Goes (gradProd g hg K) (fun _ : Unit => K) :=
  .load fun _ => goes_rdC fun _ => goes_rdC fun _ => .load fun _ => by
    refine .store rfl (.load fun _ => goes_rdC fun _ => goes_rdC fun _ => .load fun _ => ?_)
    refine .store rfl ?_
    exact goes_rdC fun _ => goes_rdWa fun _ => goes_rdC fun _ => goes_rdWx fun _ => goes_wrC <| .done K

theorem goes_convGrad (r : ℕ) (hr : r + 16 ≤ 256) (h2 : 2 ∣ r) (c : FVec F S16x1024 .f32) (K : FVec F S16x1024 .f32 → Code (Elt F) M) : Goes (convGrad hM r hr h2 c K) K :=
  goes_rd fun _ => goes_rd fun _ => goes_rdZ fun _ => goes_add <| goes_add <| goes_par fun _ => goes_par fun _ => goes_add <| goes_par fun _ => goes_add <|
  goes_par fun _ => goes_add <| goes_wrZ hM <| .here K _

/-- All phases before the convolutions' gradient. -/
theorem goes_before (K : Code (Elt F) M) :
    Goes (forwardConv hM i <| gateProd 0 (by decide) <| gateProd 1 (by decide) <| gateProd 2 (by decide) <| gateProd 3 (by decide) <| gatesAndScan hM <| gatesGrad hM i <|
      gradProd 0 (by decide) <| gradProd 1 (by decide) <| gradProd 2 (by decide) <| gradProd 3 (by decide) K) (fun _ : Unit => K) :=
  (goes_forwardConv hM i _).then fun _ => (goes_gateProd _ _ _).then fun _ => (goes_gateProd _ _ _).then fun _ => (goes_gateProd _ _ _).then fun _ => (goes_gateProd _ _ _).then fun _ =>
  (goes_gatesAndScan hM _).then fun _ => (goes_gatesGrad hM i _).then fun _ =>
  (goes_gradProd _ _ _).then fun _ => (goes_gradProd _ _ _).then fun _ => (goes_gradProd _ _ _).then fun _ => (goes_gradProd _ _ _)

/-! ## The short convolution's gradient -/

/-- The gradient at the convolution's output, sixteen rows from `r`. -/
def dcq (z : Vec F S256x3584 .f32) (dy : Vec F S256x1536 .f32) (r : ℕ) (hr : r + 16 ≤ 256) : FVec F S16x512 .f32 :=
  mulf (window dy ![r, 1024] S16x512.size (inb2 hr (by decide))) (window z ![r, 2048] S16x512.size (zrowsS hr (by decide)))
/-- The convolution's input, sixteen rows from `r`. -/
def cqIn (z : Vec F S256x3584 .f32) (r : ℕ) (hr : r + 16 ≤ 256) : FVec F S16x512 .f32 :=
  mulf (window z ![r, 2560] S16x512.size (zrowsS hr (by decide))) (window z ![r, 3072] S16x512.size (zrowsS hr (by decide)))
/-- One tap's partial sums, with sixteen rows added. -/
def addTap (a : Vec F S3x8x512 .f32) (k : ℕ) (hk : k + 1 ≤ 3) (x : FVec F S16x512 .f32) : Vec F S3x8x512 .f32 :=
  put a ![k, 0, 0] S1x8x512.size (addedS (window a ![k, 0, 0] S1x8x512.size (inb3 hk le_rfl le_rfl)) x)
/-- The three taps' partial sums, with sixteen rows added: `d` is the gradient at the output, `c` that of the rows after, `q` the input. -/
def addTaps (a : Vec F S3x8x512 .f32) (d c q : FVec F S16x512 .f32) : Vec F S3x8x512 .f32 :=
  addTap (addTap (addTap a 2 (by decide) (mulf d q)) 1 (by decide) (mulf (turnS 31#32 d c) q)) 0 (by decide) (mulf (turnS 30#32 d c) q)

theorem run_shortGrad (r : ℕ) (hr : r + 16 ≤ 256) (h2 : 2 ∣ r) (c : FVec F S16x512 .f32) (K : FVec F S16x512 .f32 → Code (Elt F) M) (σ : State (Elt F) sh el) :
    ∃ σ' : State (Elt F) sh el, (shortGrad hM r hr h2 c K).run σ = (K (dcq (σ .z) (σ .dy) r hr)).run σ'
      ∧ σ' .accS = addTaps (σ .accS) (dcq (σ .z) (σ .dy) r hr) c (cqIn (σ .z) r hr) ∧ ∀ b, keepIn b = true → σ' b = σ b := by
  refine ⟨_, rfl, rfl, fun b hb => ?_⟩
  cases b <;> first | rfl | exact absurd hb (by decide)

/-- The carried rows and the partial sums after the first `n` groups, the last first. -/
def taps (z : Vec F S256x3584 .f32) (dy : Vec F S256x1536 .f32) : (n : ℕ) → n ≤ 16 → FVec F S16x512 .f32 → Vec F S3x8x512 .f32 → FVec F S16x512 .f32 × Vec F S3x8x512 .f32
  | 0, _, c, a => (c, a)
  | n + 1, hn, c, a => taps z dy n (by omega) (dcq z dy (16 * n) (by omega)) (addTaps a (dcq z dy (16 * n) (by omega)) c (cqIn z (16 * n) (by omega)))

theorem run_convGrads (K : FVec F S16x1024 .f32 → FVec F S16x512 .f32 → Code (Elt F) M) : ∀ (n : ℕ) (hn : n ≤ 16) (c : FVec F S16x1024 .f32) (d : FVec F S16x512 .f32) (σ : State (Elt F) sh el),
    ∃ (x : FVec F S16x1024 .f32) (σ' : State (Elt F) sh el), (convGrads hM n hn c d K).run σ = (K x (taps (σ .z) (σ .dy) n hn d (σ .accS)).1).run σ'
      ∧ σ' .accS = (taps (σ .z) (σ .dy) n hn d (σ .accS)).2 ∧ ∀ b, keepIn b = true → σ' b = σ b
  | 0, _, c, d, σ => ⟨c, σ, rfl, rfl, fun _ _ => rfl⟩
  | n + 1, hn, c, d, σ => by
    obtain ⟨c', σ₁, e₁, k₁⟩ := goes_convGrad hM (16 * n) (by omega) (by omega) c (fun c' => shortGrad hM (16 * n) (by omega) (by omega) d fun d' => convGrads hM n (by omega) c' d' K) σ
    obtain ⟨σ₂, e₂, a₂, k₂⟩ := run_shortGrad hM (16 * n) (by omega) (by omega) d (fun d' => convGrads hM n (by omega) c' d' K) σ₁
    obtain ⟨x, σ₃, e₃, a₃, k₃⟩ := run_convGrads K n (by omega) c' (dcq (σ₁ .z) (σ₁ .dy) (16 * n) (by omega)) σ₂
    have hz : σ₁ .z = σ .z := k₁ .z rfl
    have hy : σ₁ .dy = σ .dy := k₁ .dy rfl
    have ha : σ₁ .accS = σ .accS := k₁ .accS rfl
    have hz2 : σ₂ .z = σ .z := (k₂ .z rfl).trans hz
    have hy2 : σ₂ .dy = σ .dy := (k₂ .dy rfl).trans hy
    rw [hz2, hy2, a₂, hz, hy, ha] at e₃ a₃
    rw [hz, hy] at e₂
    exact ⟨x, σ₃, (e₁.trans e₂).trans e₃, a₃, fun b hb => (k₃ b hb).trans ((k₂ b hb).trans (k₁ b (by cases b <;> first | rfl | exact hb)))⟩

/-- A store at the whole array. -/
theorem put_whole2 {a b : ℕ} {Val : Type} (x w : (⟨2, ![a, b]⟩ : Shape).Idx → Val) : put x ![0, 0] ![a, b] w = w := by
  funext y
  unfold put
  rw [dif_pos (fun k => by fin_cases k; exacts [⟨Nat.zero_le _, by simpa using (y 0).isLt⟩, ⟨Nat.zero_le _, by simpa using (y 1).isLt⟩])]
  exact congrArg w (funext fun k => by fin_cases k <;> exact Fin.ext (Nat.sub_zero _))
/-- A store at the whole array. -/
theorem put_whole3 {a b c : ℕ} {Val : Type} (x w : (⟨3, ![a, b, c]⟩ : Shape).Idx → Val) : put x ![0, 0, 0] ![a, b, c] w = w := by
  funext y
  unfold put
  rw [dif_pos (fun k => by fin_cases k; exacts [⟨Nat.zero_le _, by simpa using (y 0).isLt⟩, ⟨Nat.zero_le _, by simpa using (y 1).isLt⟩, ⟨Nat.zero_le _, by simpa using (y 2).isLt⟩])]
  exact congrArg w (funext fun k => by fin_cases k <;> exact Fin.ext (Nat.sub_zero _))

/-- The carried rows as they are stored. -/
def stored (d : FVec F S16x512 .f32) : Vec F S16x512 .f32 := shapeCast S16x512 d shapeCasts_S16x512_S16x512
/-- The carried rows and the partial sums after a point, from those before it. -/
def point (z : Vec F S256x3584 .f32) (dy : Vec F S256x1536 .f32) (p : Vec F S16x512 .f32 × Vec F S3x8x512 .f32) : Vec F S16x512 .f32 × Vec F S3x8x512 .f32 :=
  let t := taps z dy 16 le_rfl (window p.1 ![0, 0] S16x512.size inb_S16x512_S16x512_0_0) p.2
  (stored t.1, t.2)

/-- The rows carried to the next point, stored. -/
def carry (K : Code (Elt F) M) (c : FVec F S16x1024 .f32) (d : FVec F S16x512 .f32) : Code (Elt F) M :=
  .load .carX ![0, 0] S16x1024.size inb_S16x1024_S16x1024_0_0 (View.loadsAt_vmem h_S16x1024) fun _ =>
  .store .carX ![0, 0] S16x1024.size inb_S16x1024_S16x1024_0_0 (shapeCast S16x1024 c shapeCasts_S16x1024_S16x1024) (View.stores_vmem_bits_univ h_S16x1024 rfl) <|
  .load .carQ ![0, 0] S16x512.size inb_S16x512_S16x512_0_0 (View.loadsAt_vmem h_S16x512) fun _ =>
  .store .carQ ![0, 0] S16x512.size inb_S16x512_S16x512_0_0 (stored d) (View.stores_vmem_bits_univ h_S16x512 rfl) K

theorem run_carry (K : Code (Elt F) M) (c : FVec F S16x1024 .f32) (d : FVec F S16x512 .f32) (σ : State (Elt F) sh el) :
    ∃ σ' : State (Elt F) sh el, (carry K c d).run σ = K.run σ' ∧ σ' .carQ = stored d ∧ σ' .accS = σ .accS ∧ ∀ b, keepIn b = true → σ' b = σ b := by
  refine ⟨Function.update (Function.update σ .carX (put (σ .carX) ![0, 0] S16x1024.size (shapeCast S16x1024 c shapeCasts_S16x1024_S16x1024))) .carQ
    (put (σ .carQ) ![0, 0] S16x512.size (stored d)), rfl, ?_, rfl, fun b hb => ?_⟩
  · rw [Function.update_self]; exact put_whole2 _ _
  · cases b <;> first | rfl | exact absurd hb (by decide)

theorem backwardConv_eq (K : Code (Elt F) M) : backwardConv hM K =
    .load .carX ![0, 0] S16x1024.size inb_S16x1024_S16x1024_0_0 (View.loadsAt_vmem h_S16x1024) fun x =>
    .load .carQ ![0, 0] S16x512.size inb_S16x512_S16x512_0_0 (View.loadsAt_vmem h_S16x512) fun q => convGrads hM 16 le_rfl x q (carry K) := rfl

attribute [local irreducible] taps convGrads in
theorem run_backwardConv (K : Code (Elt F) M) (σ : State (Elt F) sh el) :
    ∃ σ' : State (Elt F) sh el, (backwardConv hM K).run σ = K.run σ' ∧ (σ' .carQ, σ' .accS) = point (σ .z) (σ .dy) (σ .carQ, σ .accS) ∧ ∀ b, keepIn b = true → σ' b = σ b := by
  obtain ⟨x, σ₁, e, a, k⟩ := run_convGrads hM (carry K) 16 le_rfl
    (window (σ .carX) ![0, 0] S16x1024.size inb_S16x1024_S16x1024_0_0) (window (σ .carQ) ![0, 0] S16x512.size inb_S16x512_S16x512_0_0) σ
  obtain ⟨σ₂, e₂, q₂, a₂, k₂⟩ := run_carry K x (taps (σ .z) (σ .dy) 16 le_rfl (window (σ .carQ) ![0, 0] S16x512.size inb_S16x512_S16x512_0_0) (σ .accS)).1 σ₁
  rw [backwardConv_eq]
  exact ⟨σ₂, e.trans e₂, by rw [q₂, a₂, a]; rfl, fun b hb => (k₂ b hb).trans (k b hb)⟩

/-! ## The first and the last point -/

/-- The carried rows and the partial sums as the first point clears them. -/
def cleared : Vec F S16x512 .f32 × Vec F S3x8x512 .f32 :=
  (shapeCast S16x512 (num S16x512 0x00000000#32) shapeCasts_S16x512_S16x512, shapeCast S3x8x512 (num S3x8x512 0x00000000#32) shapeCasts_S3x8x512_S3x8x512)

theorem run_clear (K : Code (Elt F) M) (σ : State (Elt F) sh el) :
    ∃ σ' : State (Elt F) sh el, (clear K).run σ = K.run σ' ∧ (σ' .carQ, σ' .accS) = cleared ∧ ∀ b, keepIn b = true → σ' b = σ b := by
  refine ⟨_, rfl, Prod.ext ?_ ?_, fun b hb => ?_⟩
  · exact put_whole2 _ _
  · exact put_whole3 _ _
  · cases b <;> first | rfl | exact absurd hb (by decide)

/-- The taps' gradient from the partial sums. -/
def tapsOut (a : Vec F S3x8x512 .f32) : Vec F S8x512 .f32 :=
  put (put (put (num S8x512 0x00000000#32) ![0, 0] S1x512.size (totalS (window a ![0, 0, 0] S1x8x512.size (inb3 (by decide) le_rfl le_rfl))))
    ![1, 0] S1x512.size (totalS (window a ![1, 0, 0] S1x8x512.size (inb3 (by decide) le_rfl le_rfl))))
    ![2, 0] S1x512.size (totalS (window a ![2, 0, 0] S1x8x512.size (inb3 (by decide) le_rfl le_rfl)))

theorem run_lastPoint (σ : State (Elt F) sh el) :
    (lastPoint (M := M)).run σ .dscw = tapsOut (σ .accS) ∧ (lastPoint (M := M)).run σ .carQ = σ .carQ ∧ (lastPoint (M := M)).run σ .accS = σ .accS
      ∧ ∀ b, isIn b = true → (lastPoint (M := M)).run σ b = σ b := by
  refine ⟨?_, rfl, rfl, fun b hb => ?_⟩
  · unfold tapsOut
    rw [← put_whole2 (σ .dscw) (num S8x512 0x00000000#32)]
    rfl
  · cases b <;> first | rfl | exact absurd hb (by decide)

/-! ## The body -/

theorem run_rest (σ : State (Elt F) sh el) :
    ((rest hM i).run σ .carQ, (rest hM i).run σ .accS) = point (σ .z) (σ .dy) (σ .carQ, σ .accS)
      ∧ (k0_cond2 i = 1#1 → (rest hM i).run σ .dscw = tapsOut ((rest hM i).run σ .accS)) ∧ ∀ b, isIn b = true → (rest hM i).run σ b = σ b := by
  obtain ⟨_, σ₁, e₁, k₁⟩ := goes_before hM i (backwardConv hM <| .branch (k0_cond2 i = 1#1) lastPoint .halt) σ
  obtain ⟨σ₂, e₂, a₂, k₂⟩ := run_backwardConv hM (.branch (k0_cond2 i = 1#1) lastPoint .halt) σ₁
  have e : (rest hM i).run σ = (if k0_cond2 i = 1#1 then lastPoint (M := M) else .halt).run σ₂ := by
    refine (e₁.trans e₂).trans ?_
    by_cases h : k0_cond2 i = 1#1
    · rw [if_pos h]; exact if_pos h
    · rw [if_neg h]; exact if_neg h
  rw [k₁ .z rfl, k₁ .dy rfl, k₁ .carQ rfl, k₁ .accS rfl] at a₂
  have kin : ∀ b, isIn b = true → σ₂ b = σ b := fun b hb =>
    (k₂ b (by cases b <;> first | rfl | exact hb)).trans (k₁ b (by cases b <;> first | rfl | exact hb))
  rw [e]
  by_cases h : k0_cond2 i = 1#1
  · rw [if_pos h]
    obtain ⟨h₁, h₂, h₃, h₄⟩ := run_lastPoint (M := M) σ₂
    exact ⟨by rw [h₂, h₃]; exact a₂, fun _ => by rw [h₁, h₃], fun b hb => (h₄ b hb).trans (kin b hb)⟩
  · rw [if_neg h]
    exact ⟨a₂, fun h' => absurd h' h, kin⟩

/-- What the body leaves in the buffers of the short convolution's gradient. -/
theorem run_body (σ : State (Elt F) sh el) :
    ((body hM i).run σ .carQ, (body hM i).run σ .accS) = point (σ .z) (σ .dy) (if isFirst i then cleared else (σ .carQ, σ .accS))
      ∧ (k0_cond2 i = 1#1 → (body hM i).run σ .dscw = tapsOut ((body hM i).run σ .accS)) ∧ ∀ b, isIn b = true → (body hM i).run σ b = σ b := by
  by_cases h : isFirst i
  · obtain ⟨σ₁, e₁, a₁, k₁⟩ := run_clear (spread (rest hM i)) σ
    obtain ⟨_, σ₂, e₂, k₂⟩ := goes_spread (rest hM i) σ₁
    have e : (body hM i).run σ = (rest hM i).run σ₂ := (if_pos h).trans (e₁.trans e₂)
    obtain ⟨h₁, h₂, h₃⟩ := run_rest hM i σ₂
    rw [k₂ .z rfl, k₂ .dy rfl, k₂ .carQ rfl, k₂ .accS rfl, k₁ .z rfl, k₁ .dy rfl, a₁] at h₁
    rw [e, if_pos h]
    exact ⟨h₁, h₂, fun b hb => (h₃ b hb).trans ((k₂ b (by cases b <;> first | rfl | exact hb)).trans (k₁ b (by cases b <;> first | rfl | exact hb)))⟩
  · have e : (body hM i).run σ = (rest hM i).run σ := if_neg h
    rw [e, if_neg h]
    exact run_rest hM i σ

end Cert.MixKernelIdeal.Body

end
-- ==== Proof.Mix.Kit.lean ====
/- The mixer's backward program up to its region: the host lines before it leave the arguments as launched; each window's block at a point. -/
module

public import proofs.«01_k».proof.Proof.Gen.MixKernelIdeal.Launch
public import proofs.«01_k».proof.Proof.Gen.MixKernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixKernelIdeal.Kit

open Idealize.ShloMosaic Idealize.ShloMosaic.TcCoe Cert.MixKernelIdeal.Gen
open Idealize.SL Idealize.SL.RA Idealize.SL.Sem
open Idealize.ShloMosaic.Rounds

variable {F : FTy → Type} [FloatOps F]
variable (m : (ℓ : Loc nD τ sig) → Buf (Elt F) ℓ)

/-- The host lines before the region. -/
abbrev lines : List (List (HloOp τ sig (Elt F))) := [hostOps0, hostOps0_1, hostOps0_2]

/-- Core `c`'s buffers when the region is entered. -/
def V (c : Dev nD) (b : Ref sig .tc) : Buf (Elt F) ((c : Thread nD τ).loc b) := StableHlo.after (List.flatten lines) (fun b => m (c, b)) b

theorem V_eq (c : Dev nD) (b : Ref sig .tc) : V m c b = StableHlo.after (List.flatten lines) (fun b => m (c, b)) b := rfl

theorem fresh_all : (lines (F := F)).Forall fun ops => ops.Forall fun op => op.fresh = ∅ := by
  refine ⟨?_, ?_, ?_⟩ <;> (simp only [List.Forall]; repeat' constructor)

set_option maxHeartbeats 1600000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main lines (by simp only [List.Forall]; exact ⟨hostOps0_sub, hostOps0_1_sub, hostOps0_2_sub⟩) fresh_all main_chain

/-- The program's arguments. -/
def isArg (b : Ref sig .tc) : Bool :=
  decide (b = main_arg0 ∨ b = main_arg1 ∨ b = main_arg2 ∨ b = main_arg3 ∨ b = main_arg4 ∨ b = main_arg5 ∨ b = main_arg6 ∨ b = main_arg7 ∨ b = main_arg8 ∨ b = main_arg9)

theorem ne_of_isArg {b b' : Ref sig .tc} (h : isArg b = true) (h' : isArg b' = false) : b ≠ b' := fun e => by rw [e, h'] at h; exact absurd h (by decide)

set_option maxHeartbeats 4000000 in
/-- No host line writes an argument. -/
theorem writes_free (b : Ref sig .tc) (hb : isArg b = true) : (lines (F := F)).Forall fun ops => ops.Forall fun op => Proc.devRef .tc b ∉ op.writes := by
  refine ⟨?_, ?_, ?_⟩ <;>
    (simp only [List.Forall, StableHlo.nullary_writes, StableHlo.unary_writes, StableHlo.binary_writes, StableHlo.ternary_writes, StableHlo.quaternary_writes,
      StableHlo.reshape_writes, StableHlo.binaryIndexed_writes, Finset.mem_singleton]
     repeat' apply And.intro
     all_goals exact StableHlo.devRef_ne_of_ne (ne_of_isArg hb (by decide)))

/-- The region finds the arguments as launched. -/
theorem V_arg (c : Dev nD) (b : Ref sig .tc) (hb : isArg b = true) : V m c b = m ((c : Thread nD τ).loc b) :=
  StableHlo.after_of_forall_not_mem (b := Proc.devRef .tc b) _ _ fun op h => by
    obtain ⟨ops, h₁, h₂⟩ := List.mem_flatten.1 h
    exact List.forall_iff_forall_mem.1 (List.forall_iff_forall_mem.1 (writes_free b hb) ops h₁) op h₂

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

attribute [irreducible] V

end Cert.MixKernelIdeal.Kit

end
-- ==== Proof.Mix.Point.lean ====
/- The run of the mixer's backward kernel. Each argument's block is in place at every point; the rows carried between the points and the partial sums of the
   taps' gradient are followed from point to point; the block of the taps' gradient is known at the last point; of the other results nothing is said. -/
module

public import proofs.«01_k».proof.Proof.Mix.BodyEq
public import proofs.«01_k».proof.Proof.Mix.Eval
public import proofs.«01_k».proof.Proof.Mix.Kit
public import Idealize.ShloMosaic.Lib.Pipeline.ValueKit
public import Idealize.ShloMosaic.Lib.Pipeline.ReadBack
public import Idealize.ShloMosaic.Lib.Pipeline.TableIdle
public import Idealize.ShloMosaic.Lib.Pipeline.DatRel
public import Idealize.ShloMosaic.Lib.Pipeline.ArrRel

@[expose] public section

set_option maxRecDepth 16384

noncomputable section

namespace Cert.MixKernelIdeal.Run

open Idealize.ShloMosaic Idealize.ShloMosaic.TcCoe Idealize.ShloMosaic.Tactic Cert.MixKernelIdeal.Gen Cert.MixKernelIdeal.Kit Cert.MixKernelIdeal.Body Cert.Straight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- The buffers at point `t`. -/
def mem (t : Fin cfg0.N) : ∀ b, Memref sig .tc (CoreSpace.vmem : Space) (sh b) (el b)
  | .z => win0_0.stage (cfg0.slots t 0)
  | .zp => win0_1.stage (cfg0.slots t 1)
  | .hs => win0_2.stage (cfg0.slots t 2)
  | .hsp => win0_3.stage (cfg0.slots t 3)
  | .dy => win0_4.stage (cfg0.slots t 4)
  | .cw => win0_5.stage (cfg0.slots t 5)
  | .cb => win0_6.stage (cfg0.slots t 6)
  | .wa => win0_7.stage (cfg0.slots t 7)
  | .wx => win0_8.stage (cfg0.slots t 8)
  | .ba => win0_9.stage (cfg0.slots t 9)
  | .bx => win0_10.stage (cfg0.slots t 10)
  | .lamb => win0_11.stage (cfg0.slots t 11)
  | .scw => win0_12.stage (cfg0.slots t 12)
  | .dz => win0_13.stage (cfg0.slots t 13)
  | .dcw => win0_14.stage (cfg0.slots t 14)
  | .dvec => win0_15.stage (cfg0.slots t 15)
  | .dwa => win0_16.stage (cfg0.slots t 16)
  | .dwx => win0_17.stage (cfg0.slots t 17)
  | .dscw => win0_18.stage (cfg0.slots t 18)
  | .par => Memref.whole cc0_scratch0
  | .parS => Memref.whole cc0_scratch1
  | (.wide .lx) => Memref.whole cc0_scratch2
  | (.narrow .lx) => Memref.whole cc0_scratch3
  | .cq => Memref.whole cc0_scratch4
  | (.wide .pr) => Memref.whole cc0_scratch5
  | (.wide .pi) => Memref.whole cc0_scratch6
  | (.wide .r) => Memref.whole cc0_scratch7
  | (.wide .ig) => Memref.whole cc0_scratch8
  | (.wide .a) => Memref.whole cc0_scratch9
  | (.wide .mult) => Memref.whole cc0_scratch10
  | (.wide .inv) => Memref.whole cc0_scratch11
  | (.wide .ash) => Memref.whole cc0_scratch12
  | (.wide .b) => Memref.whole cc0_scratch13
  | (.wide .lam) => Memref.whole cc0_scratch14
  | (.wide .dlx) => Memref.whole cc0_scratch15
  | (.narrow .dpr) => Memref.whole cc0_scratch16
  | (.narrow .dpi) => Memref.whole cc0_scratch17
  | (.wide .back) => Memref.whole cc0_scratch18
  | .carA => Memref.whole cc0_scratch19
  | .carX => Memref.whole cc0_scratch20
  | .carQ => Memref.whole cc0_scratch21
  | .carL => Memref.whole cc0_scratch22
  | .acc => Memref.whole cc0_scratch23
  | .accS => Memref.whole cc0_scratch24

/-- Each is a whole buffer. -/
def mem_whole (t : Fin cfg0.N) : ∀ b, (mem t b).IsWhole
  | .z => hstage0_0 ((cfg0.slots t 0).cast nbuf0_0)
  | .zp => hstage0_1 ((cfg0.slots t 1).cast nbuf0_1)
  | .hs => hstage0_2 ((cfg0.slots t 2).cast nbuf0_2)
  | .hsp => hstage0_3 ((cfg0.slots t 3).cast nbuf0_3)
  | .dy => hstage0_4 ((cfg0.slots t 4).cast nbuf0_4)
  | .cw => hstage0_5 ((cfg0.slots t 5).cast nbuf0_5)
  | .cb => hstage0_6 ((cfg0.slots t 6).cast nbuf0_6)
  | .wa => hstage0_7 ((cfg0.slots t 7).cast nbuf0_7)
  | .wx => hstage0_8 ((cfg0.slots t 8).cast nbuf0_8)
  | .ba => hstage0_9 ((cfg0.slots t 9).cast nbuf0_9)
  | .bx => hstage0_10 ((cfg0.slots t 10).cast nbuf0_10)
  | .lamb => hstage0_11 ((cfg0.slots t 11).cast nbuf0_11)
  | .scw => hstage0_12 ((cfg0.slots t 12).cast nbuf0_12)
  | .dz => hstage0_13 ((cfg0.slots t 13).cast nbuf0_13)
  | .dcw => hstage0_14 ((cfg0.slots t 14).cast nbuf0_14)
  | .dvec => hstage0_15 ((cfg0.slots t 15).cast nbuf0_15)
  | .dwa => hstage0_16 ((cfg0.slots t 16).cast nbuf0_16)
  | .dwx => hstage0_17 ((cfg0.slots t 17).cast nbuf0_17)
  | .dscw => hstage0_18 ((cfg0.slots t 18).cast nbuf0_18)
  | .par => Memref.isWhole_whole _
  | .parS => Memref.isWhole_whole _
  | (.wide .lx) => Memref.isWhole_whole _
  | (.narrow .lx) => Memref.isWhole_whole _
  | .cq => Memref.isWhole_whole _
  | (.wide .pr) => Memref.isWhole_whole _
  | (.wide .pi) => Memref.isWhole_whole _
  | (.wide .r) => Memref.isWhole_whole _
  | (.wide .ig) => Memref.isWhole_whole _
  | (.wide .a) => Memref.isWhole_whole _
  | (.wide .mult) => Memref.isWhole_whole _
  | (.wide .inv) => Memref.isWhole_whole _
  | (.wide .ash) => Memref.isWhole_whole _
  | (.wide .b) => Memref.isWhole_whole _
  | (.wide .lam) => Memref.isWhole_whole _
  | (.wide .dlx) => Memref.isWhole_whole _
  | (.narrow .dpr) => Memref.isWhole_whole _
  | (.narrow .dpi) => Memref.isWhole_whole _
  | (.wide .back) => Memref.isWhole_whole _
  | .carA => Memref.isWhole_whole _
  | .carX => Memref.isWhole_whole _
  | .carQ => Memref.isWhole_whole _
  | .carL => Memref.isWhole_whole _
  | .acc => Memref.isWhole_whole _
  | .accS => Memref.isWhole_whole _

/-- The buffers no window stages. -/
def scr : List Bf := [.par, .parS, .wide .lx, .narrow .lx, .cq, .wide .pr, .wide .pi, .wide .r, .wide .ig, .wide .a, .wide .mult, .wide .inv, .wide .ash, .wide .b, .wide .lam, .wide .dlx, .narrow .dpr, .narrow .dpi, .wide .back, .carA, .carX, .carQ, .carL, .acc, .accS]
/-- All buffers, in the order of the body's arguments. -/
def all : List Bf := .z :: .zp :: .hs :: .hsp :: .dy :: .cw :: .cb :: .wa :: .wx :: .ba :: .bx :: .lamb :: .scw :: .dz :: .dcw :: .dvec :: .dwa :: .dwx :: .dscw :: scr

/-- The buffers at point `t`, with their contents. -/
def held (c : Dev nD) (t : Fin cfg0.N) (σ : State (Elt F) sh el) : sProp 𝕄 :=
  iprop(owns (c : Thread nD τ) (win0_0.stage (cfg0.slots t 0)) fullShare (σ .z)
    ∗ owns (c : Thread nD τ) (win0_1.stage (cfg0.slots t 1)) fullShare (σ .zp)
    ∗ owns (c : Thread nD τ) (win0_2.stage (cfg0.slots t 2)) fullShare (σ .hs)
    ∗ owns (c : Thread nD τ) (win0_3.stage (cfg0.slots t 3)) fullShare (σ .hsp)
    ∗ owns (c : Thread nD τ) (win0_4.stage (cfg0.slots t 4)) fullShare (σ .dy)
    ∗ owns (c : Thread nD τ) (win0_5.stage (cfg0.slots t 5)) fullShare (σ .cw)
    ∗ owns (c : Thread nD τ) (win0_6.stage (cfg0.slots t 6)) fullShare (σ .cb)
    ∗ owns (c : Thread nD τ) (win0_7.stage (cfg0.slots t 7)) fullShare (σ .wa)
    ∗ owns (c : Thread nD τ) (win0_8.stage (cfg0.slots t 8)) fullShare (σ .wx)
    ∗ owns (c : Thread nD τ) (win0_9.stage (cfg0.slots t 9)) fullShare (σ .ba)
    ∗ owns (c : Thread nD τ) (win0_10.stage (cfg0.slots t 10)) fullShare (σ .bx)
    ∗ owns (c : Thread nD τ) (win0_11.stage (cfg0.slots t 11)) fullShare (σ .lamb)
    ∗ owns (c : Thread nD τ) (win0_12.stage (cfg0.slots t 12)) fullShare (σ .scw)
    ∗ owns (c : Thread nD τ) (win0_13.stage (cfg0.slots t 13)) fullShare (σ .dz)
    ∗ owns (c : Thread nD τ) (win0_14.stage (cfg0.slots t 14)) fullShare (σ .dcw)
    ∗ owns (c : Thread nD τ) (win0_15.stage (cfg0.slots t 15)) fullShare (σ .dvec)
    ∗ owns (c : Thread nD τ) (win0_16.stage (cfg0.slots t 16)) fullShare (σ .dwa)
    ∗ owns (c : Thread nD τ) (win0_17.stage (cfg0.slots t 17)) fullShare (σ .dwx)
    ∗ owns (c : Thread nD τ) (win0_18.stage (cfg0.slots t 18)) fullShare (σ .dscw)
    ∗ stars (c : Thread nD τ) (mem t) σ scr)

theorem held_eq (c : Dev nD) (t : Fin cfg0.N) (σ : State (Elt F) sh el) : (held c t σ : sProp 𝕄) = stars (c : Thread nD τ) (mem t) σ all := rfl

/-- The body at point `t`. -/
theorem run_point (c : Dev nD) (t : Fin cfg0.N) (σ : State (Elt F) sh el) (K : PUnit → sProp 𝕄) :
    iprop(held c t σ ∗ (held c t ((body (mem_whole t) (grid0.coords t)).run σ) -∗ K ⟨⟩)) ⊢ wp frame (wpE (defs₀ (F := F)) Variants.none c none) Set.univ (bodyAt0 t) K := by
  rw [show (bodyAt0 (F := F) t) = _ from body_eq (F := F) (grid0.coords t) (mem t) (mem_whole t) (Memref.whole main_v393) (Memref.isWhole_whole _), held_eq, held_eq]
  exact wp_code (defs := defs₀ (F := F)) Variants.none (c : Thread nD τ) none Set.univ all (by decide) (fun b => by cases b <;> first | decide | (rename_i k; cases k <;> decide)) _ _ K

/-! ## What the buffers hold -/

/-- The block of `z` at point `n`. -/
def zb (c : Dev nD) (n : ℕ) : Vec F S256x3584 .f32 := iblk m c 0 ⟨n % cfg0.N, Nat.mod_lt _ (by decide)⟩
/-- The block of the gradient at the mixer's output at point `n`. -/
def dyb (c : Dev nD) (n : ℕ) : Vec F S256x1536 .f32 := iblk m c 4 ⟨n % cfg0.N, Nat.mod_lt _ (by decide)⟩
/-- The carried rows and the partial sums before point `n`. -/
def pairs (c : Dev nD) : ℕ → Vec F S16x512 .f32 × Vec F S3x8x512 .f32
  | 0 => cleared
  | n + 1 => point (zb m c n) (dyb m c n) (pairs c n)
/-- The taps' gradient. -/
def result (c : Dev nD) : Vec F S8x512 .f32 := tapsOut (pairs m c 16).2

/-- What is known of the scratch buffers before point `n`. -/
def Inv (c : Dev nD) (n : ℕ) (σ : State (Elt F) sh el) : Prop := n ≠ 0 → (σ .carQ, σ .accS) = pairs m c n

/-- The scratch buffers before point `n`. -/
def Phi (c : Dev nD) (n : ℕ) : sProp 𝕄 :=
  iprop((∃ σ : State (Elt F) sh el, ⌜Inv m c n σ⌝ ∗ stars (c : Thread nD τ) (mem t0_0) σ scr) ∗ (∃ r, prngReg c r))

/-- The proof data of the pipeline on core `c`; of the results' windows the contents named here mean nothing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨_ + 19, h⟩ => absurd h (Nat.not_lt.2 (Nat.le_add_left _ _))
  Φ t := Phi m c t.val
  q w := Pipeline.shareOf spec0 w
  owed _ := 0

/-- The results' windows. -/
def isRes (w : Fin cfg0.W) : Bool := decide (13 ≤ w.val)
/-- What the body leaves in a result's window: the taps' gradient at the last point, anything else. -/
def left (c : Dev nD) (w : Fin cfg0.W) (t : Fin cfg0.N) : ((cfg0.win w).block.Idx → Elt F (cfg0.win w).elt) → Prop := match w with
  | ⟨18, _⟩ => fun X => t.val = 15 → X = result m c
  | _ => fun _ => True

theorem A_eq (c : Dev nD) (w : Fin cfg0.W) : (dats m 0 c).A w = V m c (Pipeline.arrRef spec0 w) := by
  dsimp only [dats]

/-! ## The body's obligation -/

theorem first : ∀ t : Fin cfg0.N, isFirst (grid0.coords t) ↔ t.val = 0 := by decide +kernel
theorem last : ∀ t : Fin cfg0.N, k0_cond2 (grid0.coords t) = 1#1 ↔ t.val = 15 := by decide +kernel
theorem live : ∀ (w : Fin cfg0.W) (t : Fin cfg0.N), isRes w = false → cfg0.idle w (grid0.coords t) = false := by decide +kernel
theorem exact' : ∀ (w : Fin cfg0.W), isRes w = false → cfg0.loose w = false := by decide +kernel

theorem leaves_in (c : Dev nD) (w : Fin cfg0.W) (t : Fin cfg0.N) (h : isRes w = false) :
    (dats m 0 c).leaves w t = owns (c : Thread nD τ) ((cfg0.win w).stage (cfg0.slots t w)) fullShare ((dats m 0 c).after w t) := by
  unfold Dat.leaves; rw [show cfg0.idle w (cfg0.grid.coords t) = false from live w t h, show cfg0.loose w = false from exact' w h]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]

/-! An argument's window holds its block at every point. -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans (by unfold Dat.fetched Dat.blockOf iblk; rw [A_eq]; try rfl)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ Y, ⌜((dats m 0 c).toRRel isRes (left m c)).Finds 13 t Y⌝ ∗ owns (c : Thread nD τ) (win0_13.stage (cfg0.slots t 13)) fullShare Y)
    ∗ (∃ Y, ⌜((dats m 0 c).toRRel isRes (left m c)).Finds 14 t Y⌝ ∗ owns (c : Thread nD τ) (win0_14.stage (cfg0.slots t 14)) fullShare Y)
    ∗ (∃ Y, ⌜((dats m 0 c).toRRel isRes (left m c)).Finds 15 t Y⌝ ∗ owns (c : Thread nD τ) (win0_15.stage (cfg0.slots t 15)) fullShare Y)
    ∗ (∃ Y, ⌜((dats m 0 c).toRRel isRes (left m c)).Finds 16 t Y⌝ ∗ owns (c : Thread nD τ) (win0_16.stage (cfg0.slots t 16)) fullShare Y)
    ∗ (∃ Y, ⌜((dats m 0 c).toRRel isRes (left m c)).Finds 17 t Y⌝ ∗ owns (c : Thread nD τ) (win0_17.stage (cfg0.slots t 17)) fullShare Y)
    ∗ (∃ Y, ⌜((dats m 0 c).toRRel isRes (left m c)).Finds 18 t Y⌝ ∗ owns (c : Thread nD τ) (win0_18.stage (cfg0.slots t 18)) fullShare Y))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t
    ∗ (∃ X, ⌜left m c 13 t X⌝ ∗ owns (c : Thread nD τ) (win0_13.stage (cfg0.slots t 13)) fullShare X)
    ∗ (∃ X, ⌜left m c 14 t X⌝ ∗ owns (c : Thread nD τ) (win0_14.stage (cfg0.slots t 14)) fullShare X)
    ∗ (∃ X, ⌜left m c 15 t X⌝ ∗ owns (c : Thread nD τ) (win0_15.stage (cfg0.slots t 15)) fullShare X)
    ∗ (∃ X, ⌜left m c 16 t X⌝ ∗ owns (c : Thread nD τ) (win0_16.stage (cfg0.slots t 16)) fullShare X)
    ∗ (∃ X, ⌜left m c 17 t X⌝ ∗ owns (c : Thread nD τ) (win0_17.stage (cfg0.slots t 17)) fullShare X)
    ∗ (∃ X, ⌜left m c 18 t X⌝ ∗ owns (c : Thread nD τ) (win0_18.stage (cfg0.slots t 18)) fullShare X))

/-- The arguments' blocks at point `t`, the results' windows and the scratch buffers. -/
def merge (c : Dev nD) (t : Fin cfg0.N) (Y13 : (sh .dz).Idx → Elt F (el .dz)) (Y14 : (sh .dcw).Idx → Elt F (el .dcw)) (Y15 : (sh .dvec).Idx → Elt F (el .dvec))
    (Y16 : (sh .dwa).Idx → Elt F (el .dwa)) (Y17 : (sh .dwx).Idx → Elt F (el .dwx)) (Y18 : (sh .dscw).Idx → Elt F (el .dscw)) (σ : State (Elt F) sh el) : State (Elt F) sh el
  | .z => iblk m c 0 t
  | .zp => iblk m c 1 t
  | .hs => iblk m c 2 t
  | .hsp => iblk m c 3 t
  | .dy => iblk m c 4 t
  | .cw => iblk m c 5 t
  | .cb => iblk m c 6 t
  | .wa => iblk m c 7 t
  | .wx => iblk m c 8 t
  | .ba => iblk m c 9 t
  | .bx => iblk m c 10 t
  | .lamb => iblk m c 11 t
  | .scw => iblk m c 12 t
  | .dz => Y13
  | .dcw => Y14
  | .dvec => Y15
  | .dwa => Y16
  | .dwx => Y17
  | .dscw => Y18
  | b => σ b

/-- The scratch buffers are the same at every point. -/
theorem stars_any (c : Dev nD) (t : Fin cfg0.N) (σ : State (Elt F) sh el) : (stars (c : Thread nD τ) (mem t0_0) σ scr : sProp 𝕄) = stars (c : Thread nD τ) (mem t) σ scr := rfl

theorem stars_in (c : Dev nD) (t : Fin cfg0.N) (Y13 Y14 Y15 Y16 Y17 Y18) (σ : State (Elt F) sh el) :
    (stars (c : Thread nD τ) (mem t0_0) σ scr : sProp 𝕄) ⊢ stars (c : Thread nD τ) (mem t) (merge m c t Y13 Y14 Y15 Y16 Y17 Y18 σ) scr := by
  rw [stars_any c t, stars_congr (c : Thread nD τ) (mem t) (σ := σ) (σ' := merge m c t Y13 Y14 Y15 Y16 Y17 Y18 σ) (fun b hb => by cases b <;> first | rfl | exact absurd hb (by decide))]

theorem stars_out (c : Dev nD) (t : Fin cfg0.N) (σ : State (Elt F) sh el) :
    (stars (c : Thread nD τ) (mem t) σ scr : sProp 𝕄) ⊢ stars (c : Thread nD τ) (mem t0_0) σ scr := by
  rw [stars_any c t]

/-- What is known after a point. -/
theorem inv_point (c : Dev nD) (t : Fin cfg0.N) (Y13 Y14 Y15 Y16 Y17 Y18) (σ : State (Elt F) sh el) (h : Inv m c t.val σ) :
    let σ' := (body (mem_whole t) (grid0.coords t)).run (merge m c t Y13 Y14 Y15 Y16 Y17 Y18 σ)
    Inv m c (t.val + 1) σ' ∧ (t.val = 15 → σ' .dscw = result m c) ∧ ∀ b, isIn b = true → σ' b = merge m c t Y13 Y14 Y15 Y16 Y17 Y18 σ b := by
  obtain ⟨h₁, h₂, h₃⟩ := run_body (mem_whole t) (grid0.coords t) (merge m c t Y13 Y14 Y15 Y16 Y17 Y18 σ)
  have ht : (⟨t.val % cfg0.N, Nat.mod_lt _ (by decide)⟩ : Fin cfg0.N) = t := Fin.ext (Nat.mod_eq_of_lt t.isLt)
  have hp : (if isFirst (grid0.coords t) then cleared else (σ .carQ, σ .accS)) = pairs m c t.val := by
    by_cases h0 : t.val = 0
    · rw [if_pos ((first t).2 h0), h0]; rfl
    · rw [if_neg (fun h' => h0 ((first t).1 h'))]; exact h h0
  have hn : ((body (mem_whole t) (grid0.coords t)).run (merge m c t Y13 Y14 Y15 Y16 Y17 Y18 σ) .carQ, (body (mem_whole t) (grid0.coords t)).run (merge m c t Y13 Y14 Y15 Y16 Y17 Y18 σ) .accS) = pairs m c (t.val + 1) := by
    refine h₁.trans ?_
    show point (iblk m c 0 t) (iblk m c 4 t) (if isFirst (grid0.coords t) then cleared else (σ .carQ, σ .accS)) = point (zb m c t.val) (dyb m c t.val) (pairs m c t.val)
    rw [hp]; unfold zb dyb; rw [ht]
  refine ⟨fun _ => hn, fun h15 => ?_, h₃⟩
  rw [h₂ ((last t).2 h15)]
  unfold result
  rw [show (16 : ℕ) = t.val + 1 by omega, ← hn]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, before10, before11, before12]
  rw [show (dats m 0 c).owesAt () t.succ = (dats m 0 c).owesAt () t.castSucc from rfl, show (dats m 0 c).Φ t.succ = Phi m c (t.val + 1) from rfl, show (dats m 0 c).Φ t.castSucc = Phi m c t.val from rfl,
    leaves_in m c 0 t rfl, leaves_in m c 1 t rfl, leaves_in m c 2 t rfl, leaves_in m c 3 t rfl, leaves_in m c 4 t rfl, leaves_in m c 5 t rfl, leaves_in m c 6 t rfl, leaves_in m c 7 t rfl, leaves_in m c 8 t rfl, leaves_in m c 9 t rfl, leaves_in m c 10 t rfl, leaves_in m c 11 t rfl, leaves_in m c 12 t rfl]
  unfold Phi
  iintro ⟨⟨⟨%σ, %hσ, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y13, %hY13, H13⟩, ⟨%Y14, %hY14, H14⟩, ⟨%Y15, %hY15, H15⟩, ⟨%Y16, %hY16, H16⟩, ⟨%Y17, %hY17, H17⟩, ⟨%Y18, %hY18, H18⟩⟩
  obtain ⟨h₁, h₂, h₃⟩ := inv_point m c t Y13 Y14 Y15 Y16 Y17 Y18 σ hσ
  iapply (run_point c t (merge m c t Y13 Y14 Y15 Y16 Y17 Y18 σ) _)
  isplitl [Hs H0 H1 H2 H3 H4 H5 H6 H7 H8 H9 H10 H11 H12 H13 H14 H15 H16 H17 H18]
  · unfold held
    dsimp only [merge]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    ihave Hs := (stars_in m c t Y13 Y14 Y15 Y16 Y17 Y18 σ) $$ Hs
    iexact Hs
  generalize (body (mem_whole t) (grid0.coords t)).run (merge m c t Y13 Y14 Y15 Y16 Y17 Y18 σ) = σ' at h₁ h₂ h₃ ⊢
  unfold held
  rw [h₃ .z rfl, h₃ .zp rfl, h₃ .hs rfl, h₃ .hsp rfl, h₃ .dy rfl, h₃ .cw rfl, h₃ .cb rfl, h₃ .wa rfl, h₃ .wx rfl, h₃ .ba rfl, h₃ .bx rfl, h₃ .lamb rfl, h₃ .scw rfl]
  iintro ⟨H0, H1, H2, H3, H4, H5, H6, H7, H8, H9, H10, H11, H12, H13, H14, H15, H16, H17, H18, Hs⟩
  isplitl [Hs Hg]
  · isplitl [Hs]
    · iexists σ'
      isplitr; · ipureintro; exact h₁
      ihave Hs := (stars_out c t σ') $$ Hs
      iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists (σ' .dz)
    isplitr; · ipureintro; exact trivial
    iexact H13
  isplitl [H14]
  · iexists (σ' .dcw)
    isplitr; · ipureintro; exact trivial
    iexact H14
  isplitl [H15]
  · iexists (σ' .dvec)
    isplitr; · ipureintro; exact trivial
    iexact H15
  isplitl [H16]
  · iexists (σ' .dwa)
    isplitr; · ipureintro; exact trivial
    iexact H16
  isplitl [H17]
  · iexists (σ' .dwx)
    isplitr; · ipureintro; exact trivial
    iexact H17
  iexists (σ' .dscw)
  isplitr; · ipureintro; exact h₂
  iexact H18

theorem body_obligation (c : Dev nD) : BodyObligationRel (dats (F := F) m 0 c) (defs₀ (F := F)) Variants.none () Set.univ isRes (left m c) := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

end Cert.MixKernelIdeal.Run

end
-- ==== Proof.Mix.Frame.lean ====
/- The launch of the mixer's backward kernel: the run, the arguments at its end, the taps' gradient at its end. -/
module

public import proofs.«01_k».proof.Proof.Mix.Point
public import Idealize.ShloMosaic.Lib.Pipeline.ValueKit
public import Idealize.ShloMosaic.Lib.Pipeline.ReadBack
public import Idealize.ShloMosaic.Lib.Pipeline.TableIdle
public import Idealize.ShloMosaic.Lib.Pipeline.DatRel
public import Idealize.ShloMosaic.Lib.Pipeline.ArrRel

@[expose] public section

set_option maxRecDepth 16384

noncomputable section

namespace Cert.MixKernelIdeal.Run

open Idealize.ShloMosaic Idealize.ShloMosaic.TcCoe Idealize.ShloMosaic.Tactic Cert.MixKernelIdeal.Gen Cert.MixKernelIdeal.Kit Cert.MixKernelIdeal.Body Cert.Straight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

theorem PhiA_eq (c : Dev nD) : (Pipeline.ΦA spec0 c : sProp 𝕄)
    = iprop(iprop((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)
      ∗ (∃ d, owns (c : Thread nD τ) (Memref.whole cc0_scratch7) fullShare d)
      ∗ (∃ d, owns (c : Thread nD τ) (Memref.whole cc0_scratch8) fullShare d)
      ∗ (∃ d, owns (c : Thread nD τ) (Memref.whole cc0_scratch9) fullShare d)
      ∗ (∃ d, owns (c : Thread nD τ) (Memref.whole cc0_scratch10) fullShare d)
      ∗ (∃ d, owns (c : Thread nD τ) (Memref.whole cc0_scratch11) fullShare d)
      ∗ (∃ d, owns (c : Thread nD τ) (Memref.whole cc0_scratch12) fullShare d)
      ∗ (∃ d, owns (c : Thread nD τ) (Memref.whole cc0_scratch13) fullShare d)
      ∗ (∃ d, owns (c : Thread nD τ) (Memref.whole cc0_scratch14) fullShare d)
      ∗ (∃ d, owns (c : Thread nD τ) (Memref.whole cc0_scratch15) fullShare d)
      ∗ (∃ d, owns (c : Thread nD τ) (Memref.whole cc0_scratch16) fullShare d)
      ∗ (∃ d, owns (c : Thread nD τ) (Memref.whole cc0_scratch17) fullShare d)
      ∗ (∃ d, owns (c : Thread nD τ) (Memref.whole cc0_scratch18) fullShare d)
      ∗ (∃ d, owns (c : Thread nD τ) (Memref.whole cc0_scratch19) fullShare d)
      ∗ (∃ d, owns (c : Thread nD τ) (Memref.whole cc0_scratch20) fullShare d)
      ∗ (∃ d, owns (c : Thread nD τ) (Memref.whole cc0_scratch21) fullShare d)
      ∗ (∃ d, owns (c : Thread nD τ) (Memref.whole cc0_scratch22) fullShare d)
      ∗ (∃ d, owns (c : Thread nD τ) (Memref.whole cc0_scratch23) fullShare d)
      ∗ (∃ d, owns (c : Thread nD τ) (Memref.whole cc0_scratch24) fullShare d)) ∗ (∃ r, prngReg c r)) := by
  unfold Pipeline.ΦA; rw [scopedRest0_eq]; simp only [owns_whole]; try rfl

/-- A state with given scratch contents. -/
def start (c : Dev nD) (d0 : (sh .par).Idx → Elt F (el .par)) (d1 : (sh .parS).Idx → Elt F (el .parS)) (d2 : (sh (.wide .lx)).Idx → Elt F (el (.wide .lx))) (d3 : (sh (.narrow .lx)).Idx → Elt F (el (.narrow .lx))) (d4 : (sh .cq).Idx → Elt F (el .cq)) (d5 : (sh (.wide .pr)).Idx → Elt F (el (.wide .pr))) (d6 : (sh (.wide .pi)).Idx → Elt F (el (.wide .pi))) (d7 : (sh (.wide .r)).Idx → Elt F (el (.wide .r))) (d8 : (sh (.wide .ig)).Idx → Elt F (el (.wide .ig))) (d9 : (sh (.wide .a)).Idx → Elt F (el (.wide .a))) (d10 : (sh (.wide .mult)).Idx → Elt F (el (.wide .mult))) (d11 : (sh (.wide .inv)).Idx → Elt F (el (.wide .inv))) (d12 : (sh (.wide .ash)).Idx → Elt F (el (.wide .ash))) (d13 : (sh (.wide .b)).Idx → Elt F (el (.wide .b))) (d14 : (sh (.wide .lam)).Idx → Elt F (el (.wide .lam))) (d15 : (sh (.wide .dlx)).Idx → Elt F (el (.wide .dlx))) (d16 : (sh (.narrow .dpr)).Idx → Elt F (el (.narrow .dpr))) (d17 : (sh (.narrow .dpi)).Idx → Elt F (el (.narrow .dpi))) (d18 : (sh (.wide .back)).Idx → Elt F (el (.wide .back))) (d19 : (sh .carA).Idx → Elt F (el .carA)) (d20 : (sh .carX).Idx → Elt F (el .carX)) (d21 : (sh .carQ).Idx → Elt F (el .carQ)) (d22 : (sh .carL).Idx → Elt F (el .carL)) (d23 : (sh .acc).Idx → Elt F (el .acc)) (d24 : (sh .accS).Idx → Elt F (el .accS)) : State (Elt F) sh el
  | .z => iblk m c 0 t0_0
  | .zp => iblk m c 1 t0_0
  | .hs => iblk m c 2 t0_0
  | .hsp => iblk m c 3 t0_0
  | .dy => iblk m c 4 t0_0
  | .cw => iblk m c 5 t0_0
  | .cb => iblk m c 6 t0_0
  | .wa => iblk m c 7 t0_0
  | .wx => iblk m c 8 t0_0
  | .ba => iblk m c 9 t0_0
  | .bx => iblk m c 10 t0_0
  | .lamb => iblk m c 11 t0_0
  | .scw => iblk m c 12 t0_0
  | .dz => iblk m c 13 t0_0
  | .dcw => iblk m c 14 t0_0
  | .dvec => iblk m c 15 t0_0
  | .dwa => iblk m c 16 t0_0
  | .dwx => iblk m c 17 t0_0
  | .dscw => iblk m c 18 t0_0
  | .par => d0
  | .parS => d1
  | (.wide .lx) => d2
  | (.narrow .lx) => d3
  | .cq => d4
  | (.wide .pr) => d5
  | (.wide .pi) => d6
  | (.wide .r) => d7
  | (.wide .ig) => d8
  | (.wide .a) => d9
  | (.wide .mult) => d10
  | (.wide .inv) => d11
  | (.wide .ash) => d12
  | (.wide .b) => d13
  | (.wide .lam) => d14
  | (.wide .dlx) => d15
  | (.narrow .dpr) => d16
  | (.narrow .dpi) => d17
  | (.wide .back) => d18
  | .carA => d19
  | .carX => d20
  | .carQ => d21
  | .carL => d22
  | .acc => d23
  | .accS => d24

/-- What the launch hands the region is the invariant before the first point, -/
theorem hin (c : Dev nD) : Pipeline.ΦA spec0 c ⊢ (dats m 0 c).Φ 0 := by
  rw [show (dats m 0 c).Φ 0 = Phi m c 0 from rfl, PhiA_eq]
  unfold Phi
  iintro ⟨⟨⟨%d0, S0⟩, ⟨%d1, S1⟩, ⟨%d2, S2⟩, ⟨%d3, S3⟩, ⟨%d4, S4⟩, ⟨%d5, S5⟩, ⟨%d6, S6⟩, ⟨%d7, S7⟩, ⟨%d8, S8⟩, ⟨%d9, S9⟩, ⟨%d10, S10⟩, ⟨%d11, S11⟩, ⟨%d12, S12⟩, ⟨%d13, S13⟩, ⟨%d14, S14⟩, ⟨%d15, S15⟩, ⟨%d16, S16⟩, ⟨%d17, S17⟩, ⟨%d18, S18⟩, ⟨%d19, S19⟩, ⟨%d20, S20⟩, ⟨%d21, S21⟩, ⟨%d22, S22⟩, ⟨%d23, S23⟩, ⟨%d24, S24⟩⟩, Hg⟩
  isplitr [Hg]
  · iexists (start m c d0 d1 d2 d3 d4 d5 d6 d7 d8 d9 d10 d11 d12 d13 d14 d15 d16 d17 d18 d19 d20 d21 d22 d23 d24)
    isplitr; · ipureintro; exact fun h => absurd rfl h
    simp only [scr, stars]
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    iempintro
  iexact Hg

/-- and the invariant after the last gives it back. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  simp only [scr, stars]
  iintro ⟨⟨%σ, -, S0, S1, S2, S3, S4, S5, S6, S7, S8, S9, S10, S11, S12, S13, S14, S15, S16, S17, S18, S19, S20, S21, S22, S23, S24, -⟩, Hg⟩
  isplitr [Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    isplitl [S21]; · iexists _; iexact S21
    isplitl [S22]; · iexists _; iexact S22
    isplitl [S23]; · iexists _; iexact S23
    iexists _; iexact S24
  iexact Hg

/-- The relational data. -/
abbrev rdats (c : Dev nD) : RDat τ (Elt F) Unit ℕ (UR sig nD τ) ℕ cfg0 c := (dats m 0 c).toRRel isRes (left m c)

set_option backward.isDefEq.respectTransparency.types false in
/-- Every execution ends with the arrays at what the data says, and the counters at zero. -/
theorem run_quiescent : θ_run defs (onTc (τ := τ) (main (F := F))) (s₀ m ρ) (fun r => RDat.FramePost cfg0 (rdats m) (V m) r ∧ r.2.sem = fun _ => 0) :=
  RDat.θ_run_frame_track_shared (Q' := _) cfgs (0 : Fin 1) launch₀0 defs₀ Variants.none (rdats m) m ρ main
    (hbody := fun c => (body_obligation m c).toRRel) (hq := fun _ _ _ => rfl)
    (howed := fun _ _ => rfl) (V := V m) (hmain := hmain m Variants.none) (hA := A_eq m) (hin := hin m) (hout := hout m)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => by
    have hst : ∀ (c : Dev nD) (w : Fin cfg0.W) (b : Ref sig .tc) (hb : isArg b = true) (e : Pipeline.arrRef spec0 w = b) (hw : (spec0 w).isOut = false),
        r.2.mem ((c.tc : Thread nD τ).loc b) = m ((c.tc : Thread nD τ).loc b) := by
      intro c w b hb e hw
      subst e
      exact (RDat.FramePost.arr_in h.1 c w hw).trans ((A_eq m c w).trans (V_arg m c _ hb))
    have hfree : ∀ (c : Dev nD) (b : Ref sig .tc) (hb : isArg b = true) (hr : b ∈ Pipeline.restRefs sig spec0), r.2.mem ((c.tc : Thread nD τ).loc b) = m ((c.tc : Thread nD τ).loc b) :=
      fun c b hb hr => ((h.1 c).2 b hr).trans (V_arg m c b hb)
    exact ⟨fun c => ⟨hst c 1 _ rfl rfl rfl, hst c 5 _ rfl rfl rfl,
      hfree c _ rfl (Pipeline.mem_restRefs_of main_arg2 (by decide) (by decide)), hfree c _ rfl (Pipeline.mem_restRefs_of main_arg3 (by decide) (by decide)),
      hfree c _ rfl (Pipeline.mem_restRefs_of main_arg4 (by decide) (by decide)), hfree c _ rfl (Pipeline.mem_restRefs_of main_arg5 (by decide) (by decide)),
      hfree c _ rfl (Pipeline.mem_restRefs_of main_arg6 (by decide) (by decide)), hfree c _ rfl (Pipeline.mem_restRefs_of main_arg7 (by decide) (by decide)),
      hst c 12 _ rfl rfl rfl, hst c 4 _ rfl rfl rfl⟩, h.2⟩) (run_quiescent m ρ)

end Cert.MixKernelIdeal.Run

end
-- ==== Proof.Mix.Spec.lean ====
/- The gradient of the short convolution's three taps, as a formula in the arrays. -/
module

public import Idealize.ShloMosaic.Lib.Pointwise

@[expose] public section

noncomputable section

namespace Cert.Mix

open Idealize.ShloMosaic Idealize.ShloMosaic.TcCoe

/-- An array of two axes by numbers, zero outside. -/
def ext {a b : ℕ} (A : (⟨2, ![a, b]⟩ : Shape).Idx → EReal) (j l : ℕ) : EReal := if h : j < a ∧ l < b then A (ix2 ⟨j, h.1⟩ ⟨l, h.2⟩) else 0

theorem ext_ix2 {a b : ℕ} (A : (⟨2, ![a, b]⟩ : Shape).Idx → EReal) (j : Fin a) (l : Fin b) : ext A j.val l.val = A (ix2 j l) := dif_pos ⟨j.isLt, l.isLt⟩

variable (Z Y : ℕ → ℕ → EReal)

/-- The gradient at the convolution's output: row `j`, zero after the last. -/
def G (j l : ℕ) : EReal := if j < 4096 then Y j (1024 + l) * Z j (2048 + l) else 0
/-- The convolution's input. -/
def Q (j l : ℕ) : EReal := Z j (2560 + l) * Z j (3072 + l)
/-- The part of tap `k`'s gradient that the rows from `s` on give. -/
def part (k l s : ℕ) : EReal := ∑ j ∈ Finset.Ico s 4096, G Z Y (j + 2 - k) l * Q Z j l
/-- The taps' gradient, filled up with rows of zeros. -/
def dTaps (i : (⟨2, ![8, 512]⟩ : Shape).Idx) : EReal := if (i 0).val < 3 then part Z Y (i 0).val (i 1).val 0 else 0

end Cert.Mix
-- ==== Proof.Mix.Sums.lean ====
/- What one group of sixteen rows adds to the partial sums of the short convolution's taps, over the extended reals, and what a point's sixteen groups add. -/
module

public import proofs.«01_k».proof.Proof.Mix.Eval
public import proofs.«01_k».proof.Proof.Mix.Spec
public import Idealize.ShloMosaic.Lib.Pointwise
public import Idealize.ShloMosaic.Lib.KernelVsHost

@[expose] public section

set_option maxRecDepth 16384

noncomputable section

namespace Cert.MixKernelIdeal.Body

open Idealize.ShloMosaic Idealize.ShloMosaic.TcCoe Idealize.SL.Sem Cert.Straight Cert.MixKernelIdeal.Gen Cert.Mix
open VecWindow (window put)

theorem word0 : Ideal.ofBits .f32 0x00000000#32 = 0 := by simp [Ideal.ofBits, Ideal.ieee]

/-! ## Readings -/

theorem window_at {a b n k : ℕ} {Val : Type} (A : (⟨2, ![a, b]⟩ : Shape).Idx → Val) (r c : ℕ) (inb) (i : Fin n) (l : Fin k) (hi : r + i.val < a) (hl : c + l.val < b) :
    window A ![r, c] ![n, k] inb (ix2 i l) = A (ix2 ⟨r + i.val, hi⟩ ⟨c + l.val, hl⟩) := by
  refine congrArg A (funext fun d => Fin.ext ?_)
  fin_cases d
  · show r + 1 * i.val = r + i.val; omega
  · show c + 1 * l.val = c + l.val; omega

theorem window_tap (a : Vec Ideal S3x8x512 .f32) (k : ℕ) (hk : k < 3) (inb) (p : Fin 8) (l : Fin 512) :
    window a ![k, 0, 0] S1x8x512.size inb (ix3 0 p l) = a (ix3 ⟨k, hk⟩ p l) := by
  refine congrArg a (funext fun d => Fin.ext ?_)
  fin_cases d
  · rfl
  · show 0 + 1 * p.val = p.val; omega
  · show 0 + 1 * l.val = l.val; omega

theorem put_tap (a : Vec Ideal S3x8x512 .f32) (k0 : ℕ) (w : Vec Ideal S1x8x512 .f32) (k : Fin 3) (p : Fin 8) (l : Fin 512) :
    put a ![k0, 0, 0] S1x8x512.size w (ix3 k p l) = if k.val = k0 then w (ix3 0 p l) else a (ix3 k p l) := by
  unfold put
  by_cases hy : k.val = k0
  · rw [if_pos hy, dif_pos]
    · refine congrArg w (funext fun c => Fin.ext ?_)
      fin_cases c
      · show k.val - k0 = 0; omega
      · rfl
      · rfl
    · intro c
      fin_cases c
      · show k0 ≤ k.val ∧ k.val < k0 + 1; omega
      · show 0 ≤ p.val ∧ p.val < 0 + 8; omega
      · show 0 ≤ l.val ∧ l.val < 0 + 512; omega
  · rw [if_neg hy, dif_neg]
    intro hh
    have e0 : k0 ≤ k.val ∧ k.val < k0 + 1 := hh 0
    exact hy (by omega)

theorem addedS_apply (v : FVec Ideal S1x8x512 .f32) (x : FVec Ideal S16x512 .f32) (p : Fin 8) (l : Fin 512) :
    (addedS v x (ix3 0 p l) : EReal) = (v (ix3 0 p l) : EReal) + ((x (ix2 ⟨p.val, by omega⟩ l) : EReal) + (x (ix2 ⟨8 + p.val, by omega⟩ l) : EReal)) := by
  pointwise [addedS, fold8S, num]

theorem totalS_apply (v : FVec Ideal S1x8x512 .f32) (l : Fin 512) : (totalS v (ix2 0 l) : EReal) = ∑ p, (v (ix3 0 p l) : EReal) := by
  pointwise [totalS]

/-- Rows of two groups turned up by `s`. -/
theorem turnS_apply (k : BitVec 32) (s : ℕ) (hs : s ≤ 16) (hk : k.toNat = 32 - s) (h0 : 0 < s) (x y : FVec Ideal S16x512 .f32) (i : Fin 16) (l : Fin 512) :
    (turnS k x y (ix2 i l) : EReal) = if h : i.val + s < 16 then (x (ix2 ⟨i.val + s, h⟩ l) : EReal) else (y (ix2 ⟨i.val + s - 16, by omega⟩ l) : EReal) := by
  unfold turnS
  have e : ∀ (w : FVec Ideal S32x512 .f32), (extractStridedSlice S16x512 ![0, 0] (dynamicRotate 0 k none w rotates_S32x512_d0) slices_S32x512_o0_0_S16x512 (ix2 i l) : EReal)
      = w (ix2 ⟨i.val + s, by omega⟩ l) := fun w => by
    refine (dynamicRotate_apply (0 : Fin 2) k w rotates_S32x512_d0 _ (ix2 ⟨i.val + s, by omega⟩ l) fun b => ?_)
    fin_cases b
    · show i.val + s = ((0 + i.val) + 32 - k.toNat % 32) % 32
      rw [hk]; omega
    · show l.val = 0 + l.val; omega
  rw [e]
  split
  · next h =>
    refine concatenate_pair_apply_left (α := Ideal .f32) (t := S32x512) (s₁ := S16x512) (s₂ := S16x512) 0 x y _ _ rfl (ix2 ⟨i.val + s, h⟩ l) fun b => ?_
    fin_cases b <;> rfl
  · next h =>
    refine concatenate_pair_apply_right (α := Ideal .f32) (t := S32x512) (s₁ := S16x512) (s₂ := S16x512) 0 x y _ _ rfl rfl (ix2 (⟨i.val + s - 16, by omega⟩ : Fin 16) l) (fun b hb => ?_) ?_
    · fin_cases b
      · exact absurd rfl hb
      · rfl
    · show i.val + s - 16 + 16 = i.val + s; omega

/-! ## The sums -/

/-- The sum of the eight partial rows of tap `k`. -/
def sumRows (a : Vec Ideal S3x8x512 .f32) (k : Fin 3) (l : Fin 512) : EReal := ∑ p : Fin 8, (a (ix3 k p l) : EReal)

theorem sumRows_addTap (a : Vec Ideal S3x8x512 .f32) (k0 : ℕ) (hk) (x : FVec Ideal S16x512 .f32) (k : Fin 3) (l : Fin 512) :
    sumRows (addTap a k0 hk x) k l = sumRows a k l + if k.val = k0 then ∑ i : Fin 16, (x (ix2 i l) : EReal) else 0 := by
  unfold sumRows addTap
  by_cases hc : k.val = k0
  · subst hc
    rw [if_pos rfl, Fin.sum_univ_add (a := 8) (b := 8) (fun q : Fin (8 + 8) => (x (ix2 q l) : EReal)), ← Finset.sum_add_distrib, ← Finset.sum_add_distrib]
    refine Finset.sum_congr rfl fun p _ => ?_
    rw [put_tap, if_pos rfl, addedS_apply, window_tap a k.val k.isLt]
    rfl
  · rw [if_neg hc, add_zero]
    refine Finset.sum_congr rfl fun p _ => ?_
    rw [put_tap, if_neg hc]

/-! ## The whole arrays -/

section

variable (Z Y : ℕ → ℕ → EReal)

/-- Carried rows and partial sums after the rows from `s` on. -/
structure Good (s : ℕ) (c : FVec Ideal S16x512 .f32) (a : Vec Ideal S3x8x512 .f32) : Prop where
  rows : ∀ (i : Fin 16) (l : Fin 512), (c (ix2 i l) : EReal) = G Z Y (s + i.val) l.val
  sums : ∀ (k : Fin 3) (l : Fin 512), sumRows a k l = part Z Y k.val l.val s

variable {Z Y}

theorem part_group (k l s : ℕ) (hs : s + 16 ≤ 4096) :
    part Z Y k l s = part Z Y k l (s + 16) + ∑ i : Fin 16, G Z Y (s + i.val + 2 - k) l * Q Z (s + i.val) l := by
  unfold part
  rw [← Finset.sum_Ico_consecutive _ (Nat.le_add_right s 16) hs, add_comm, Finset.sum_Ico_eq_sum_range (n := s + 16), Nat.add_sub_cancel_left, Finset.sum_range]

variable {z : Vec Ideal S256x3584 .f32} {dy : Vec Ideal S256x1536 .f32} {B : ℕ} (hB : B + 256 ≤ 4096)
  (hz : ∀ (r : Fin 256) (c : Fin 3584), (z (ix2 r c) : EReal) = Z (B + r.val) c.val) (hy : ∀ (r : Fin 256) (c : Fin 1536), (dy (ix2 r c) : EReal) = Y (B + r.val) c.val)

include hz in
theorem cqIn_apply (r : ℕ) (hr : r + 16 ≤ 256) (i : Fin 16) (l : Fin 512) : (cqIn z r hr (ix2 i l) : EReal) = Q Z (B + r + i.val) l.val := by
  have e : (cqIn z r hr (ix2 i l) : EReal) = (window z ![r, 2560] ![16, 512] (zrowsS hr (by decide)) (ix2 i l) : EReal) * (window z ![r, 3072] ![16, 512] (zrowsS hr (by decide)) (ix2 i l) : EReal) := rfl
  rw [e, window_at z r 2560 _ i l (by omega) (by omega), window_at z r 3072 _ i l (by omega) (by omega), hz, hz]
  show Z (B + (r + i.val)) (2560 + l.val) * Z (B + (r + i.val)) (3072 + l.val) = _
  rw [← Nat.add_assoc]; rfl

include hB hz hy in
theorem dcq_apply (r : ℕ) (hr : r + 16 ≤ 256) (i : Fin 16) (l : Fin 512) : (dcq z dy r hr (ix2 i l) : EReal) = G Z Y (B + r + i.val) l.val := by
  have e : (dcq z dy r hr (ix2 i l) : EReal) = (window dy ![r, 1024] ![16, 512] (inb2 hr (by decide)) (ix2 i l) : EReal) * (window z ![r, 2048] ![16, 512] (zrowsS hr (by decide)) (ix2 i l) : EReal) := rfl
  rw [e, window_at dy r 1024 _ i l (by omega) (by omega), window_at z r 2048 _ i l (by omega) (by omega), hz, hy]
  show Y (B + (r + i.val)) (1024 + l.val) * Z (B + (r + i.val)) (2048 + l.val) = _
  rw [← Nat.add_assoc]
  exact (if_pos (by omega)).symm

include hB hz hy in
theorem addTaps_good (r : ℕ) (hr : r + 16 ≤ 256) {c : FVec Ideal S16x512 .f32} {a : Vec Ideal S3x8x512 .f32} (h : Good Z Y (B + r + 16) c a) :
    Good Z Y (B + r) (dcq z dy r hr) (addTaps a (dcq z dy r hr) c (cqIn z r hr)) := by
  refine ⟨dcq_apply hB hz hy r hr, fun k l => ?_⟩
  have turn : ∀ (w : BitVec 32) (s : ℕ) (hs : s ≤ 16) (hw : w.toNat = 32 - s) (h0 : 0 < s) (i : Fin 16),
      (mulf (turnS w (dcq z dy r hr) c) (cqIn z r hr) (ix2 i l) : EReal) = G Z Y (B + r + i.val + s) l.val * Q Z (B + r + i.val) l.val := fun w s hs hw h0 i => by
    have e : (mulf (turnS w (dcq z dy r hr) c) (cqIn z r hr) (ix2 i l) : EReal) = (turnS w (dcq z dy r hr) c (ix2 i l) : EReal) * (cqIn z r hr (ix2 i l) : EReal) := rfl
    rw [e, cqIn_apply hz, turnS_apply w s hs hw h0]
    congr 1
    split
    · rw [dcq_apply hB hz hy, Nat.add_assoc (B + r)]
    · rw [h.rows]; congr 1; show B + r + 16 + (i.val + s - 16) = _; omega
  have same : ∀ i : Fin 16, (mulf (dcq z dy r hr) (cqIn z r hr) (ix2 i l) : EReal) = G Z Y (B + r + i.val) l.val * Q Z (B + r + i.val) l.val := fun i => by
    have e : (mulf (dcq z dy r hr) (cqIn z r hr) (ix2 i l) : EReal) = (dcq z dy r hr (ix2 i l) : EReal) * (cqIn z r hr (ix2 i l) : EReal) := rfl
    rw [e, cqIn_apply hz, dcq_apply hB hz hy]
  unfold addTaps
  rw [sumRows_addTap _ 0, sumRows_addTap _ 1, sumRows_addTap _ 2, h.sums, part_group _ _ (B + r) (by omega)]
  simp only [turn 31#32 1 (by decide) rfl (by decide), turn 30#32 2 (by decide) rfl (by decide), same]
  obtain rfl | rfl | rfl : k = 0 ∨ k = 1 ∨ k = 2 := by omega
  · rw [if_neg (show ¬((0 : Fin 3).val = 2) by decide), if_neg (show ¬((0 : Fin 3).val = 1) by decide), if_pos (show (0 : Fin 3).val = 0 by decide), add_zero, add_zero]; rfl
  · rw [if_neg (show ¬((1 : Fin 3).val = 2) by decide), if_pos (show (1 : Fin 3).val = 1 by decide), if_neg (show ¬((1 : Fin 3).val = 0) by decide), add_zero, add_zero]; rfl
  · rw [if_pos (show (2 : Fin 3).val = 2 by decide), if_neg (show ¬((2 : Fin 3).val = 1) by decide), if_neg (show ¬((2 : Fin 3).val = 0) by decide), add_zero, add_zero]; rfl

include hB hz hy in
theorem taps_good : ∀ (n : ℕ) (hn : n ≤ 16) (c : FVec Ideal S16x512 .f32) (a : Vec Ideal S3x8x512 .f32), Good Z Y (B + 16 * n) c a → Good Z Y B (taps z dy n hn c a).1 (taps z dy n hn c a).2
  | 0, _, _, _, h => h
  | n + 1, hn, c, a, h => taps_good n (by omega) _ _ (addTaps_good hB hz hy (16 * n) (by omega) h)

include hB hz hy in
theorem point_good {p : Vec Ideal S16x512 .f32 × Vec Ideal S3x8x512 .f32} (h : Good Z Y (B + 256) p.1 p.2) : Good Z Y B (point z dy p).1 (point z dy p).2 := by
  have e : window p.1 ![0, 0] S16x512.size inb_S16x512_S16x512_0_0 = p.1 := by
    funext y
    refine congrArg p.1 (funext fun d => Fin.ext ?_)
    show ![0, 0] d + 1 * (y d).val = (y d).val
    fin_cases d <;> exact (Nat.zero_add _).trans (Nat.one_mul _)
  have g := taps_good hB hz hy 16 le_rfl p.1 p.2 h
  unfold point stored
  dsimp only
  rw [e, shapeCast_self]
  exact g

theorem cleared_good : Good Z Y 4096 (cleared (F := Ideal)).1 (cleared (F := Ideal)).2 := by
  refine ⟨fun i l => ?_, fun k l => ?_⟩
  · unfold cleared G
    rw [if_neg (by omega), shapeCast_self]
    exact word0
  · unfold sumRows cleared part
    rw [Finset.Ico_self, Finset.sum_empty, shapeCast_self]
    exact Finset.sum_eq_zero fun _ _ => word0

end

/-! ## The taps' gradient -/

theorem put_row (a : Vec Ideal S8x512 .f32) (k0 : ℕ) (w : Vec Ideal S1x512 .f32) (k : Fin 8) (l : Fin 512) :
    put a ![k0, 0] S1x512.size w (ix2 k l) = if k.val = k0 then w (ix2 0 l) else a (ix2 k l) := by
  unfold put
  by_cases hy : k.val = k0
  · rw [if_pos hy, dif_pos]
    · refine congrArg w (funext fun c => Fin.ext ?_)
      fin_cases c
      · show k.val - k0 = 0; omega
      · rfl
    · intro c
      fin_cases c
      · show k0 ≤ k.val ∧ k.val < k0 + 1; omega
      · show 0 ≤ l.val ∧ l.val < 0 + 512; omega
  · rw [if_neg hy, dif_neg]
    intro hh
    have e0 : k0 ≤ k.val ∧ k.val < k0 + 1 := hh 0
    exact hy (by omega)

theorem tapsOut_apply (a : Vec Ideal S3x8x512 .f32) (k : Fin 8) (l : Fin 512) :
    (tapsOut a (ix2 k l) : EReal) = if h : k.val < 3 then sumRows a ⟨k.val, h⟩ l else 0 := by
  unfold tapsOut
  rw [put_row, put_row, put_row]
  by_cases h : k.val < 3
  · rw [dif_pos h]
    have h' : k.val = 2 ∨ k.val = 1 ∨ k.val = 0 := by omega
    rcases h' with h' | h' | h'
    · rw [if_pos h', totalS_apply]
      exact Finset.sum_congr rfl fun p _ => (window_tap a 2 (by decide) _ p l).trans (congrArg (fun q => (a (ix3 q p l) : EReal)) (Fin.ext h'.symm))
    · rw [if_neg (by omega), if_pos h', totalS_apply]
      exact Finset.sum_congr rfl fun p _ => (window_tap a 1 (by decide) _ p l).trans (congrArg (fun q => (a (ix3 q p l) : EReal)) (Fin.ext h'.symm))
    · rw [if_neg (by omega), if_neg (by omega), if_pos h', totalS_apply]
      exact Finset.sum_congr rfl fun p _ => (window_tap a 0 (by decide) _ p l).trans (congrArg (fun q => (a (ix3 q p l) : EReal)) (Fin.ext h'.symm))
  · rw [dif_neg h, if_neg (by omega), if_neg (by omega), if_neg (by omega)]
    exact word0

end Cert.MixKernelIdeal.Body
-- ==== Proof.Mix.Kernel.lean ====
/- What the mixer's backward kernel leaves as the gradient of the short convolution's taps. -/
module

public import proofs.«01_k».proof.Proof.Mix.Frame
public import proofs.«01_k».proof.Proof.Mix.Sums
public import Idealize.ShloMosaic.Lib.Pipeline.ValueKit

@[expose] public section

set_option maxRecDepth 16384

noncomputable section

namespace Cert.MixKernelIdeal.Run

open Cert.MixKernelIdeal Cert.MixKernelIdeal.Gen Cert.MixKernelIdeal.Body Cert.MixKernelIdeal.Kit Idealize.ShloMosaic Idealize.ShloMosaic.TcCoe Idealize.SL.Sem
open Idealize.ShloMosaic.Pipeline (Dat RDat)
open Cert.Mix

variable (m : (ℓ : Loc nD τ sig) → Buf (Elt Ideal) ℓ) (ρ : Dev nD → PrngReg) (c : Dev nD)

/-- The projections by numbers, -/
def Zm : ℕ → ℕ → EReal := ext (a := 4096) (b := 3584) (m (c.tc.loc main_arg0))
/-- and the cotangent of the mixer's output. -/
def Ym : ℕ → ℕ → EReal := ext (a := 4096) (b := 1536) (m (c.tc.loc main_arg9))

theorem idx_in : ∀ t : Fin grid0.N, (win0_0.index t 0 = 15 - t.val ∧ win0_0.index t 1 = 0) ∧ (win0_4.index t 0 = 15 - t.val ∧ win0_4.index t 1 = 0) := by decide +kernel

theorem lt16 (t : Fin cfg0.N) : t.val < 16 := by have := t.isLt; have : cfg0.N = 16 := N_0; omega

/-- Row `r` of the rows of point `t`: the last rows come first. -/
def rw_ (t : Fin cfg0.N) (r : Fin 256) : Fin 4096 := ⟨256 * (15 - t.val) + r.val, by omega⟩

theorem z_apply (t : Fin cfg0.N) (r : Fin 256) (e : Fin 3584) : (iblk m c 0 t : Vec Ideal S256x3584 .f32) (ix2 r e) = m (c.tc.loc main_arg0) (ix2 (rw_ t r) e) := by
  refine Eq.trans (b := V m c main_arg0 (ix2 (rw_ t r) e)) ?_ (congrFun (V_arg m c main_arg0 rfl) _)
  unfold rw_; blk_point [iblk, idx_in t]
theorem dy_apply (t : Fin cfg0.N) (r : Fin 256) (e : Fin 1536) : (iblk m c 4 t : Vec Ideal S256x1536 .f32) (ix2 r e) = m (c.tc.loc main_arg9) (ix2 (rw_ t r) e) := by
  refine Eq.trans (b := V m c main_arg9 (ix2 (rw_ t r) e)) ?_ (congrFun (V_arg m c main_arg9 rfl) _)
  unfold rw_; blk_point [iblk, idx_in t]

/-- After `n` points the carried rows and the partial sums are those of the last `256 n` rows. -/
theorem pairs_good : ∀ n, n ≤ 16 → Good (Zm m c) (Ym m c) (256 * (16 - n)) (pairs m c n).1 (pairs m c n).2
  | 0, _ => cleared_good
  | n + 1, hn => by
    have ht : n % cfg0.N = n := Nat.mod_eq_of_lt (by have : cfg0.N = 16 := N_0; omega)
    have e : 256 * (16 - (n + 1)) = 256 * (15 - n) := by omega
    rw [e]
    refine point_good (z := zb m c n) (dy := dyb m c n) (B := 256 * (15 - n)) (by omega) (fun r l => ?_) (fun r l => ?_) ?_
    · refine (z_apply m c _ r l).trans ((ext_ix2 (a := 4096) (b := 3584) (m (c.tc.loc main_arg0)) (rw_ _ r) l).symm.trans ?_)
      show Zm m c (256 * (15 - n % cfg0.N) + r.val) l.val = _
      rw [ht]
    · refine (dy_apply m c _ r l).trans ((ext_ix2 (a := 4096) (b := 1536) (m (c.tc.loc main_arg9)) (rw_ _ r) l).symm.trans ?_)
      show Ym m c (256 * (15 - n % cfg0.N) + r.val) l.val = _
      rw [ht]
    · rw [show 256 * (15 - n) + 256 = 256 * (16 - n) by omega]
      exact pairs_good n (by omega)

theorem result_apply (k : Fin 8) (l : Fin 512) : (result m c (ix2 k l) : EReal) = dTaps (Zm m c) (Ym m c) (ix2 k l) := by
  unfold result dTaps
  rw [tapsOut_apply]
  show _ = if k.val < 3 then part (Zm m c) (Ym m c) k.val l.val 0 else 0
  by_cases h : k.val < 3
  · rw [dif_pos h, if_pos h]; exact (pairs_good m c 16 le_rfl).sums ⟨k.val, h⟩ l
  · rw [dif_neg h, if_neg h]

theorem eta2 {a b : ℕ} (j : (⟨2, ![a, b]⟩ : Shape).Idx) : j = ix2 (j 0) (j 1) := by funext x; fin_cases x <;> rfl

theorem final (G : Buf (Elt Ideal) ((cfg0.win 18).arr.view.loc (c.tc : Thread nD τ))) (h : (rdats m c).ArrAt 18 cfg0.N G) : G = (dTaps (Zm m c) (Ym m c) : S8x512.Idx → EReal) := by
  obtain ⟨X, hX, hG⟩ := h.emb_eq_of_wholeAt (t₀ := t0_15) (by decide +kernel)
  have hX' : X = result m c := Dat.toRRel_leaves _ rfl hX rfl
  subst hX'
  funext j
  have e : (cfg0.win 18).arr.view.emb j = j := rfl
  refine (congrArg G e.symm).trans ((hG j).trans ?_)
  refine (congrArg (result m c) (eta2 (a := 8) (b := 512) _)).trans ((result_apply m c (j 0) (j 1)).trans ?_)
  exact congrArg _ (eta2 (a := 8) (b := 512) j).symm

end Cert.MixKernelIdeal.Run
-- ==== Proof.Mix.Reference.lean ====
/- What the reference of the short convolution's gradient computes. -/
module

public import proofs.«01_k».proof.Proof.Gen.MixReferenceIdeal.Read
public import proofs.«01_k».proof.Defs
public import proofs.«01_k».proof.Proof.Mix.Spec
public import Idealize.ShloMosaic.Lib.Pointwise
public import Idealize.ShloMosaic.Lib.KernelVsHost
public import Idealize.ShloMosaic.Lib.Claim

@[expose] public section

set_option maxRecDepth 16384

noncomputable section

namespace Cert.MixReferenceIdeal.Read

open Cert.MixReferenceIdeal Cert.MixReferenceIdeal.Gen Idealize.ShloMosaic Idealize.ShloMosaic.TcCoe Idealize.SL.Sem
open Cert.Mix

theorem word0 : Ideal.ofBits .f32 0x00000000#32 = 0 := by simp [Ideal.ofBits, Ideal.ieee]

/-- One row padded with rows of zeros. -/
theorem pad_row {m c lo hi : ℕ} (x : FVec Ideal ⟨2, ![1, c]⟩ .f32) {u : Shape} (v : FVec Ideal u .f32) (h : (⟨2, ![1, c]⟩ : Shape).Pads ![lo, 0] ![hi, 0] ![0, 0] ⟨2, ![m, c]⟩)
    (hu : 0 < u.numel) (hv : v (Shape.Idx.first hu) = (0 : EReal)) (j : Fin c) (r : Fin m) :
    pad ⟨2, ![m, c]⟩ ![lo, 0] ![hi, 0] ![0, 0] x v h hu (ix2 r j) = (if r.val = lo then x (ix2 0 j) else 0 : EReal) := by
  by_cases hr : r.val = lo
  · rw [if_pos hr]
    refine pad_apply_of_inside _ _ _ x v h hu (ix2 r j) (ix2 0 j) fun a => ?_
    fin_cases a
    · show r.val = lo + 0 * (0 + 1); omega
    · show j.val = 0 + j.val * (0 + 1); omega
  · rw [if_neg hr]
    refine (pad_apply_of_not_inside _ _ _ x v h hu (ix2 r j) 0 fun hh => hr ?_).trans hv
    have h1 : lo ≤ r.val := hh.1
    have h2 : (r.val - lo) / (0 + 1) < 1 := hh.2.2
    rw [Nat.zero_add, Nat.div_one] at h2
    omega

/-- The convolution's input after two rows of zeros. -/
def Qz (Z : ℕ → ℕ → EReal) (j l : ℕ) : EReal := if j < 2 then 0 else Q Z (j - 2) l

/-- A tap's gradient: the sum over the convolution's output rows is the sum over its input rows. -/
theorem tap_eq (Z Y : ℕ → ℕ → EReal) (l k : ℕ) (hk : k ≤ 2) : ∑ s ∈ Finset.range 4096, Qz Z (k + s) l * (Z s (2048 + l) * Y s (1024 + l)) = part Z Y k l 0 := by
  have e : ∀ s ∈ Finset.range 4096, Qz Z (k + s) l * (Z s (2048 + l) * Y s (1024 + l)) = G Z Y s l * Qz Z (k + s) l := fun s hs => by
    unfold G; rw [if_pos (Finset.mem_range.mp hs), mul_comm, mul_comm (Z s _)]
  rw [Finset.sum_congr rfl e]
  have hd : ∀ s, 4096 ≤ s → G Z Y s l = 0 := fun s hs => if_neg (by omega)
  have hp : ∀ s, s < 2 → Qz Z s l = 0 := fun s hs => if_pos hs
  have hq : ∀ s, Qz Z (s + 2) l = Q Z s l := fun s => by unfold Qz; rw [if_neg (by omega), Nat.add_sub_cancel]
  unfold part
  rw [← Finset.range_eq_Ico]
  obtain rfl | rfl | rfl : k = 0 ∨ k = 1 ∨ k = 2 := by omega
  · rw [Finset.sum_range_succ' _ 4095, Finset.sum_range_succ' _ 4094, Finset.sum_range_succ _ 4095, Finset.sum_range_succ _ 4094]
    rw [hp 0 (by omega), hp (0 + (0 + 1)) (by omega), hd (4095 + 2 - 0) (by omega), hd (4094 + 2 - 0) (by omega)]
    simp only [zero_mul, mul_zero, add_zero]
    refine Finset.sum_congr rfl fun s _ => ?_
    rw [show 0 + (s + 1 + 1) = s + 2 by omega, hq, show s + 2 - 0 = s + 1 + 1 by omega]
  · rw [Finset.sum_range_succ' _ 4095, Finset.sum_range_succ _ 4095]
    rw [hp (1 + 0) (by omega), hd (4095 + 2 - 1) (by omega)]
    simp only [zero_mul, mul_zero, add_zero]
    refine Finset.sum_congr rfl fun s _ => ?_
    rw [show 1 + (s + 1) = s + 2 by omega, hq, show s + 2 - 1 = s + 1 by omega]
  · refine Finset.sum_congr rfl fun s _ => ?_
    rw [Nat.add_comm 2 s, hq, Nat.add_sub_cancel]

section

variable (x0 : FVec Ideal S4096x3584 .f32) (x9 : FVec Ideal S4096x1536 .f32)

local notation "Zx" => ext (a := 4096) (b := 3584) x0
local notation "Yx" => ext (a := 4096) (b := 1536) x9

theorem v4 (r : Fin 4096) (l : Fin 512) : (val_main_v4 (F := Ideal) x0 (ix2 r l) : EReal) = Q Zx r.val l.val := by
  have e : (val_main_v4 (F := Ideal) x0 (ix2 r l) : EReal) = x0 (ix2 r ⟨2048 + (512 + l.val), by omega⟩) * x0 (ix2 r ⟨2048 + (1024 + l.val), by omega⟩) := by
    pointwise [val_main_v4, val_main_v3, val_main_v2, val_main_v0]
  rw [e]
  unfold Q
  rw [show 2560 + l.val = 2048 + (512 + l.val) by omega, show 3072 + l.val = 2048 + (1024 + l.val) by omega]
  exact congrArg₂ (· * ·) (ext_ix2 (a := 4096) (b := 3584) x0 r ⟨2048 + (512 + l.val), by omega⟩).symm (ext_ix2 (a := 4096) (b := 3584) x0 r ⟨2048 + (1024 + l.val), by omega⟩).symm

theorem v30 (r : Fin 4096) (l : Fin 512) : (val_main_v30 (F := Ideal) x0 x9 (ix2 r l) : EReal) = Zx r.val (2048 + l.val) * Yx r.val (1024 + l.val) := by
  have e : (val_main_v30 (F := Ideal) x0 x9 (ix2 r l) : EReal) = x0 (ix2 r ⟨2048 + l.val, by omega⟩) * x9 (ix2 r ⟨1024 + l.val, by omega⟩) := by
    pointwise [val_main_v30, val_main_v29, val_main_v1, val_main_v0]
  rw [e]
  exact congrArg₂ (· * ·) (ext_ix2 (a := 4096) (b := 3584) x0 r ⟨2048 + l.val, by omega⟩).symm (ext_ix2 (a := 4096) (b := 1536) x9 r ⟨1024 + l.val, by omega⟩).symm

theorem v6 (r : Fin 4098) (l : Fin 512) : (val_main_v6 (F := Ideal) x0 (ix2 r l) : EReal) = Qz Zx r.val l.val := by
  unfold val_main_v6 Qz
  by_cases hr : r.val < 2
  · rw [if_pos hr]
    refine (concatenate_pair_apply_left (α := Ideal .f32) (t := S4098x512) (s₁ := S2x512) (s₂ := S4096x512) 0 _ _ _ (ix2 r l) rfl (ix2 ⟨r.val, hr⟩ l) fun b => ?_).trans ?_
    · fin_cases b <;> rfl
    · pointwise [val_main_v5, val_main_cst]
  · rw [if_neg hr]
    refine (concatenate_pair_apply_right (α := Ideal .f32) (t := S4098x512) (s₁ := S2x512) (s₂ := S4096x512) 0 _ _ _ (ix2 r l) rfl rfl (ix2 (⟨r.val - 2, by omega⟩ : Fin 4096) l)
      (fun b hb => ?_) ?_).trans (v4 x0 _ _)
    · fin_cases b
      · exact absurd rfl hb
      · rfl
    · show r.val - 2 + 2 = r.val; omega

theorem v38 (l : Fin 512) : (val_main_v38 (F := Ideal) x0 x9 (ix2 0 l) : EReal) = part Zx Yx 2 l.val 0 := by
  have e : (val_main_v38 (F := Ideal) x0 x9 (ix2 0 l) : EReal) = ∑ s : Fin 4096, (val_main_v6 (F := Ideal) x0 (ix2 ⟨2 + s.val, by omega⟩ l) : EReal) * (val_main_v30 (F := Ideal) x0 x9 (ix2 s l) : EReal) := by
    pointwise [val_main_v38, val_main_v37, val_main_v34, val_main_v33, val_main_v32, val_main_v21, val_main_cst_1, val_main_cst_2]
    exact Fin.sum_univ_one _
  rw [e, ← tap_eq _ _ _ 2 (by decide), Finset.sum_range]
  exact Finset.sum_congr rfl fun s _ => by rw [v6, v30]

theorem v47 (l : Fin 512) : (val_main_v47 (F := Ideal) x0 x9 (ix2 0 l) : EReal) = part Zx Yx 1 l.val 0 := by
  have e : (val_main_v47 (F := Ideal) x0 x9 (ix2 0 l) : EReal) = ∑ s : Fin 4096, (val_main_v6 (F := Ideal) x0 (ix2 ⟨1 + s.val, by omega⟩ l) : EReal) * (val_main_v30 (F := Ideal) x0 x9 (ix2 s l) : EReal) := by
    pointwise [val_main_v47, val_main_v46, val_main_v43, val_main_v42, val_main_v41, val_main_v14, val_main_cst_5, val_main_cst_6]
    exact Fin.sum_univ_one _
  rw [e, ← tap_eq _ _ _ 1 (by decide), Finset.sum_range]
  exact Finset.sum_congr rfl fun s _ => by rw [v6, v30]

theorem v58 (l : Fin 512) : (val_main_v58 (F := Ideal) x0 x9 (ix2 0 l) : EReal) = part Zx Yx 0 l.val 0 := by
  have e : (val_main_v58 (F := Ideal) x0 x9 (ix2 0 l) : EReal) = ∑ s : Fin 4096, (val_main_v6 (F := Ideal) x0 (ix2 ⟨0 + s.val, by omega⟩ l) : EReal) * (val_main_v30 (F := Ideal) x0 x9 (ix2 s l) : EReal) := by
    pointwise [val_main_v58, val_main_v57, val_main_v54, val_main_v53, val_main_v52, val_main_v8, val_main_cst_9, val_main_cst_10]
    exact Fin.sum_univ_one _
  rw [e, ← tap_eq _ _ _ 0 (by decide), Finset.sum_range]
  exact Finset.sum_congr rfl fun s _ => by rw [v6, v30]

theorem v60 (k : Fin 3) (l : Fin 512) : (val_main_v60 (F := Ideal) x0 x9 (ix2 k l) : EReal) = part Zx Yx k.val l.val 0 := by
  have e : (val_main_v60 (F := Ideal) x0 x9 (ix2 k l) : EReal) = (val_main_v39 (F := Ideal) x0 x9 (ix2 k l) : EReal) + (val_main_v48 (F := Ideal) x0 x9 (ix2 k l) : EReal)
      + (val_main_v59 (F := Ideal) x0 x9 (ix2 k l) : EReal) := rfl
  rw [e]
  unfold val_main_v39 val_main_v48 val_main_v59
  rw [pad_row (m := 3) (c := 512) (hi := 0) _ _ _ _ word0, pad_row (m := 3) (c := 512) (hi := 1) _ _ _ _ word0, pad_row (m := 3) (c := 512) (hi := 2) _ _ _ _ word0,
    v38, v47, v58]
  obtain rfl | rfl | rfl : k = 0 ∨ k = 1 ∨ k = 2 := by omega
  · exact (congrArg₂ (· + ·) (add_zero (0 : EReal)) rfl).trans (zero_add _)
  · exact (add_zero _).trans (zero_add _)
  · exact (add_zero _).trans (add_zero _)

theorem v70 (k : Fin 8) (l : Fin 512) : (val_main_v70 (F := Ideal) x0 x9 (ix2 k l) : EReal) = dTaps Zx Yx (ix2 k l) := by
  show _ = if k.val < 3 then part Zx Yx k.val l.val 0 else 0
  unfold val_main_v70
  by_cases hk : k.val < 3
  · rw [if_pos hk]
    refine (concatenate_pair_apply_left (α := Ideal .f32) (t := S8x512) (s₁ := S3x512) (s₂ := S5x512) 0 _ _ _ (ix2 k l) rfl (ix2 ⟨k.val, hk⟩ l) fun b => ?_).trans (v60 x0 x9 _ _)
    fin_cases b <;> rfl
  · rw [if_neg hk]
    refine (concatenate_pair_apply_right (α := Ideal .f32) (t := S8x512) (s₁ := S3x512) (s₂ := S5x512) 0 _ _ _ (ix2 k l) rfl rfl (ix2 (⟨k.val - 3, by omega⟩ : Fin 5) l)
      (fun b hb => ?_) ?_).trans ?_
    · fin_cases b
      · exact absurd rfl hb
      · rfl
    · show k.val - 3 + 3 = k.val; omega
    · pointwise [val_main_v69, val_main_cst_14]

end

end Cert.MixReferenceIdeal.Read

end
-- ==== Proof.Mix.Claim.lean ====
/- The mixer's backward: the frames, and kernel and reference leave the same gradient of the short convolution's taps. -/
module

public import proofs.«01_k».proof.Defs
public import proofs.«01_k».proof.Proof.Gen.MixKernel
public import proofs.«01_k».proof.Proof.Gen.MixReferenceIdeal.Run
public import proofs.«01_k».proof.Proof.Mix.Kernel
public import proofs.«01_k».proof.Proof.Mix.Reference
public import Idealize.ShloMosaic.Lib.Quiescent

@[expose] public section

noncomputable section

namespace Cert.Mix

open Idealize.ShloMosaic Idealize.SL.Sem

/-- The frame over the words is the ideal one's: the programs have the same text, and the run holds over any values. -/
theorem frame_kernel : Cert.quiescent_MixKernel := fun m ρ _ =>
  cast (by sl_kernel_rfl) (Cert.MixKernelIdeal.Run.frame (F := Bits) m ρ)

theorem frame_ideal : Cert.quiescent_MixKernelIdeal := fun m ρ _ => Cert.MixKernelIdeal.Run.frame m ρ

theorem frame_reference : Cert.quiescent_MixReferenceIdeal := fun m ρ _ =>
  (θ_run _ _ _).mono (fun r h => ⟨fun c => (h c).2, sem_eq_zero_of_no_sems (by decide) _⟩)
    (Cert.MixReferenceIdeal.Value.run (F := Ideal) m ρ)

open Cert.MixKernelIdeal Cert.MixKernelIdeal.Gen Cert.MixKernelIdeal.Run in
/-- What the kernel leaves. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v394_5) = dTaps (Zm m c) (Ym m c) :=
  (θ_run _ _ _).mono (fun _ h c => final m c _ ((h.1 c).1 18)) (run_quiescent m ρ)

open Cert.MixReferenceIdeal Cert.MixReferenceIdeal.Gen Cert.MixReferenceIdeal.Read in
/-- What the reference leaves. -/
theorem reference_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70)
        = dTaps (ext (a := 4096) (b := 3584) (m (c.tc.loc main_arg0))) (ext (a := 4096) (b := 1536) (m (c.tc.loc main_arg9))) := by
  refine (θ_run _ _ _).mono (fun r h c => ?_) (Cert.MixReferenceIdeal.Value.run (F := Ideal) m ρ)
  obtain ⟨h0, -⟩ := h c
  rw [val_main_v70_eq] at h0
  refine h0.trans (funext fun i => ?_)
  rw [Cert.MixKernelIdeal.Run.eta2 (a := 8) (b := 512) i]; exact v70 _ _ _ _

/-- Kernel and reference compute the same gradient. -/
theorem algebraic : Cert.algebraic_MixKernelIdeal_MixReferenceIdeal := fun m ρ m' ρ' _ hagree => by
  refine ⟨fun c => dTaps (Cert.MixKernelIdeal.Run.Zm m c) (Cert.MixKernelIdeal.Run.Ym m c), ?_, ?_⟩
  · exact (θ_run _ _ _).mono (fun r h c => ⟨h.1 c, h.2.1 c⟩) (θ_run_and (run_values m ρ) (Cert.MixKernelIdeal.Run.frame m ρ))
  · refine (θ_run _ _ _).mono (fun r h c => ⟨(h.1 c).trans ?_, h.2.1 c⟩) (θ_run_and (reference_values m' ρ') (frame_reference m' ρ' trivial))
    obtain ⟨e0, -, -, -, -, -, -, -, -, e9⟩ := hagree c
    rw [e0, e9]; rfl

end Cert.Mix

end
-- ==== Proof.Nin.Frame.lean ====
/- The frame of the input norm's forward kernel: one point of the grid run, what its buffers hold after it, the run of the whole grid. -/
module

public import proofs.«01_k».proof.Proof.Gen.NinKernelIdeal.Frame
public import proofs.«01_k».proof.Proof.Gen.NinKernelIdeal.Skeleton
public import Idealize.ShloMosaic.Lib.Pipeline.ValueKit
public import Idealize.ShloMosaic.Lib.Pipeline.ReadBack
public import Idealize.ShloMosaic.Lib.Pipeline.TableIdle
public import Idealize.ShloMosaic.Lib.VecWindow
public import Idealize.ShloMosaic.Lib.WritesUnit

@[expose] public section

set_option maxRecDepth 16384

noncomputable section

namespace Cert.NinKernelIdeal.Run

open Idealize.ShloMosaic Idealize.ShloMosaic.TcCoe Idealize.ShloMosaic.Tactic Cert.NinKernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point -/

section

variable (c : Dev nD) (i : grid0.Coords)
  (arg2 : Memref sig .tc .vmem S2048x1024 .f32) (harg2 : arg2.IsWhole) (arg3 : Memref sig .tc .vmem S1x1024 .f32) (harg3 : arg3.IsWhole)
  (arg4 : Memref sig .tc .vmem S896x1024 .bf16) (harg4 : arg4.IsWhole) (arg5 : Memref sig .tc .vmem S2048x896 .f32) (harg5 : arg5.IsWhole)
  (arg6 : Memref sig .tc .vmem S2048x1024 .bf16) (harg6 : arg6.IsWhole)
  (x : Vec F S2048x1024 .f32) (g : Vec F S1x1024 .f32) (w : Vec F S896x1024 .bf16) (h : Vec F S2048x1024 .bf16)

/-- The first column of blocks normalises the rows and multiplies them by the weight's block. -/
theorem run_first (hc : k0_cond1 i = 1#1) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (k0_pay2 (k0_pay1 x g) w) ∗ owns (c : Thread nD τ) arg6 fullShare (k0_pay1 x g)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  have r0 : View.readAt (Elt F) arg2.view (Rect.unit ![0, 0] ![2048, 1024] inb_S2048x1024_S2048x1024_0_0).toLoadRect (harg2.unread x) = x := (View.readAt_full _ _ _).trans hf0
  have r1 : View.readAt (Elt F) arg3.view (Rect.unit ![0, 0] ![1, 1024] inb_S1x1024_S1x1024_0_0).toLoadRect (harg3.unread g) = g := (View.readAt_full _ _ _).trans hf1
  have r2 : View.readAt (Elt F) arg4.view (Rect.unit ![0, 0] ![896, 1024] inb_S896x1024_S896x1024_0_0).toLoadRect (harg4.unread w) = w := (View.readAt_full _ _ _).trans hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_full]
    simp (disch := decide) only [↓ View.readCov_cons_toLoadRect, ↓ View.readCov_fill, r0, r1, r2]
  iexists _; isplitr
  swap; · iexact H4
  ipureintro
  sl_unfold_words
  rw [View.read_writes_full]

/-- The other columns of blocks multiply the rows kept from the first. -/
theorem run_next (hc : ¬k0_cond1 i = 1#1) (E : Set ℕ) (K : PUnit → sProp 𝕄) :
    iprop(owns (c : Thread nD τ) arg4 fullShare w ∗ (∃ d, owns (c : Thread nD τ) arg5 fullShare d) ∗ owns (c : Thread nD τ) arg6 fullShare h
        ∗ (iprop(owns (c : Thread nD τ) arg4 fullShare w
            ∗ owns (c : Thread nD τ) arg5 fullShare (k0_pay2 h w) ∗ owns (c : Thread nD τ) arg6 fullShare h) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f2, %hf2, H2⟩, ⟨%d3, %f3, -, H3⟩, ⟨%f4, %hf4, H4⟩, Hk⟩
  obtain rfl := harg4.eq_unread hf2; obtain rfl := harg6.eq_unread hf4
  have r2 : View.readAt (Elt F) arg4.view (Rect.unit ![0, 0] ![896, 1024] inb_S896x1024_S896x1024_0_0).toLoadRect (harg4.unread w) = w := (View.readAt_full _ _ _).trans hf2
  have r4 : View.readAt (Elt F) arg6.view (Rect.unit ![0, 0] ![2048, 1024] inb_S2048x1024_S2048x1024_0_0).toLoadRect (harg6.unread h) = h := (View.readAt_full _ _ _).trans hf4
  sl_exec (disch := first | sl_exact hc)
  sl_step
  iapply Hk
  isplitl [H2]
  · iexists _; isplitr; · ipureintro; exact harg4.read_unread _
    iexact H2
  isplitl [H3]
  · iexists _; isplitr
    swap; · iexact H3
    ipureintro
    rw [View.read_writes_full]
  iexists _; isplitr; · ipureintro; exact harg6.read_unread _
  iexact H4

end

variable (m : (ℓ : Loc nD τ sig) → Buf (Elt F) ℓ) (ρ : Dev nD → PrngReg)

/-! ## What the buffers hold -/

/-- The normalised rows after point `n`: computed at the first column of blocks, kept at the others. -/
def hAt (c : Dev nD) : (n : ℕ) → n < cfg0.N → Vec F S2048x1024 .bf16
  | 0, h => k0_pay1 (iblk m c 0 ⟨0, h⟩) (iblk m c 1 ⟨0, h⟩)
  | n + 1, h => if (n + 1) % 4 = 0 then k0_pay1 (iblk m c 0 ⟨n + 1, h⟩) (iblk m c 1 ⟨n + 1, h⟩) else hAt c n (Nat.lt_of_succ_lt h)

theorem hAt_first (c : Dev nD) (t : Fin cfg0.N) (h : t.val % 4 = 0) : hAt m c t.val t.isLt = k0_pay1 (iblk m c 0 t) (iblk m c 1 t) := by
  obtain ⟨n, hn⟩ := t
  cases n with
  | zero => rfl
  | succ n => exact if_pos h

theorem hAt_next (c : Dev nD) (t : Fin cfg0.N) (h : ¬t.val % 4 = 0) :
    hAt m c t.val t.isLt = hAt m c (t.val - 1) (Nat.lt_of_le_of_lt (Nat.sub_le _ _) t.isLt) := by
  obtain ⟨n, hn⟩ := t
  cases n with
  | zero => exact absurd rfl h
  | succ n => exact if_neg h

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (hAt m c t.val t.isLt) (iblk m c 2 t)
    | ⟨4, _⟩ => hAt m c t.val t.isLt
  Φ t := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay2 (hAt m c t.val t.isLt) (iblk m c 2 t) := by dsimp only [dats]
theorem after0_4 (c : Dev nD) (t : Fin cfg0.N) : (dats m 0 c).after 4 t = hAt m c t.val t.isLt := by dsimp only [dats]

/-! ## Which kind of point a point is -/

theorem cond1 : ∀ t : Fin cfg0.N, k0_cond1 (grid0.coords t) = 1#1 ↔ t.val % 4 = 0 := by decide +kernel
theorem live (w : Fin cfg0.W) (h : w.val < 4) (t : Fin cfg0.N) : cfg0.idle w (grid0.coords t) = false := by
  revert h t; revert w; decide +kernel
theorem live_h (t : Fin cfg0.N) (h : t.val % 4 = 0) : cfg0.idle 4 (grid0.coords t) = false := by revert h t; decide +kernel
theorem idle_h (t : Fin cfg0.N) (h : ¬t.val % 4 = 0) : cfg0.idle 4 (grid0.coords t) = true := by revert h t; decide +kernel
theorem flush_h (t : Fin cfg0.N) (h : ¬t.val % 4 = 3) : (cfg0.win 4).flush t = false := by revert h t; decide +kernel
theorem flush_h3 (t : Fin cfg0.N) (h : t.val % 4 = 3) : (cfg0.win 4).flush t = true := by revert h t; decide +kernel

/-- The normalised rows' buffer holds nothing of the kernel's only before the first column of blocks. -/
theorem fresh_h (t : Fin cfg0.N) : cfg0.fresh 4 t.val = (t.val == 0 || t.val == 4 || t.val == 8) :=
  Pipeline.Cfg.fresh_tab cfg0 4 (fun n => n == 0 || n == 4 || n == 8) rfl (by decide +kernel) t.val (Nat.le_of_lt t.isLt)

theorem carry (c : Dev nD) (t : Fin cfg0.N) (h0 : t.val ≠ 0) (hi : cfg0.idle 4 (grid0.coords t) = true) (_ : cfg0.fresh 4 t.val = false) :
    (dats m 0 c).after 4 t = (dats m 0 c).after 4 ⟨t.val - 1, by omega⟩ := by
  rw [after0_4, after0_4]
  refine hAt_next m c t fun h => ?_
  rw [live_h t h] at hi
  exact Bool.false_ne_true hi

/-- At the other columns of blocks the rows are what the point before left. -/
theorem before_h (c : Dev nD) (t : Fin cfg0.N) (h : ¬t.val % 4 = 0) (d) : (dats m 0 c).before 4 t d = hAt m c t.val t.isLt := by
  have hN : t.val < 8 := lt_of_lt_of_eq t.isLt (show cfg0.N = 8 from N_0)
  rw [Dat.before_out_traj _ 4 rfl (fun _ _ => rfl) (carry m c) t.val t rfl d, if_neg (by
    rw [fresh_h, Bool.not_eq_true, Bool.or_eq_false_iff, Bool.or_eq_false_iff]
    exact ⟨⟨beq_false_of_ne (by omega), beq_false_of_ne (by omega)⟩, beq_false_of_ne (by omega)⟩), after0_4]
  exact (hAt_next m c t h).symm

/-! ## The body's obligation -/

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- A buffer written back at a point that leaves it alone is written back as it is. -/
theorem leaves_flush (c : Dev nD) (t : Fin cfg0.N) (h : t.val % 4 = 3) :
    (dats m 0 c).leavesExact 4 t = owns (c : Thread nD τ) ((cfg0.win 4).stage (cfg0.slots t 4)) fullShare ((dats m 0 c).after 4 t) := by
  unfold Dat.leavesExact; rw [show cfg0.idle 4 (cfg0.grid.coords t) = true from idle_h t (by omega), flush_h3 t h]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl]
  rw [leaves_live m c 0 t (live 0 (by decide) t), leaves_live m c 1 t (live 1 (by decide) t), leaves_live m c 2 t (live 2 (by decide) t),
    leaves_live m c 3 t (live 3 (by decide) t), after0_0, after0_1, after0_2, after0_3]
  by_cases h0 : t.val % 4 = 0
  · rw [leaves_live m c 4 t (live_h t h0), after0_4, hAt_first m c t h0]
    iintro ⟨HP, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((cond1 t).mpr h0) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HP]; · iexact HP
    isplitl [Ho]; · iexact Ho
    isplitl [H0]; · iexact H0
    isplitl [H1]; · iexact H1
    isplitl [H2]; · iexact H2
    isplitl [H3]; · iexact H3
    iexact H4
  · have hb : ∀ d, (dats m 0 c).before 4 t d = hAt m c t.val t.isLt := before_h m c t h0
    have hl : owns (c : Thread nD τ) (win0_4.stage (cfg0.slots t 4)) fullShare (hAt m c t.val t.isLt) ⊢ ((dats m 0 c).leavesExact 4 t : sProp 𝕄) := by
      by_cases h3 : t.val % 4 = 3
      · rw [leaves_flush m c t h3, after0_4]
      · rw [Dat.leavesExact_idle (dats m 0 c) 4 t (idle_h t h0) (flush_h t h3)]
        iintro H; iexists (hAt m c t.val t.isLt); rw [hb]; iexact H
    simp only [hb]
    iintro ⟨HP, Ho, ⟨%d0, H0⟩, ⟨%d1, H1⟩, ⟨%d2, H2⟩, ⟨%d3, H3⟩, ⟨%d4, H4⟩⟩
    iapply (run_next c (grid0.coords t) _ _ _ _ _ _ _ _ _ _ (iblk m c 2 t) (hAt m c t.val t.isLt) (fun h => h0 ((cond1 t).mp h)) Set.univ _)
    isplitl [H2]; · iexact H2
    isplitl [H3]; · iexists _; iexact H3
    isplitl [H4]; · iexact H4
    iintro ⟨H2, H3, H4⟩
    isplitl [HP]; · iexact HP
    isplitl [Ho]; · iexact Ho
    isplitl [H0]; · iexact H0
    isplitl [H1]; · iexact H1
    isplitl [H2]; · iexact H2
    isplitl [H3]; · iexact H3
    iapply hl; iexact H4

/-! ## The run -/

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
/-- Every execution ends with the arrays at what the proof data says, and the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.NinKernelIdeal.Run

end
-- ==== Proof.Nin.Spec.lean ====
/- The input norm and the projection after it, entry by entry. -/
module

public import Idealize.ShloMosaic.Lib.Pointwise
public import Idealize.ShloMosaic.Lib.Claim

@[expose] public section

noncomputable section

namespace Cert.Nin

open Idealize.ShloMosaic

/-- The arrays of one device: the residual stream's rows, the norm's scale and the projection's weight. -/
structure In where
  x : Fin 4096 → Fin 1024 → EReal
  g : Fin 1024 → EReal
  w : Fin 1024 → Fin 3584 → EReal

variable (A : In)

/-- The reciprocal root of a row's mean square. -/
def scale (x : Fin 1024 → EReal) : EReal :=
  Ideal.rsqrt (Ideal.div (∑ k, x k * x k) (Ideal.ofBits .f32 0x44800000#32) + Ideal.ofBits .f32 0x358637BD#32)

/-- The normalised row. -/
def normed (r : Fin 4096) (l : Fin 1024) : EReal := A.x r l * scale (A.x r) * A.g l

/-- Its projection. -/
def proj (r : Fin 4096) (e : Fin 3584) : EReal := ∑ l, normed A r l * A.w l e

end Cert.Nin

end
-- ==== Proof.Nin.Kernel.lean ====
/- What the input norm's forward kernel leaves in its two results. -/
module

public import proofs.«01_k».proof.Proof.Nin.Frame
public import proofs.«01_k».proof.Proof.Nin.Spec

@[expose] public section

set_option maxRecDepth 16384

noncomputable section

namespace Cert.NinKernelIdeal.Run

open Cert.NinKernelIdeal Cert.NinKernelIdeal.Gen Idealize.ShloMosaic Idealize.ShloMosaic.TcCoe Idealize.SL.Sem
open Idealize.ShloMosaic.Pipeline (Dat)
open Cert.Nin

variable (m : (ℓ : Loc nD τ sig) → Buf (Elt Ideal) ℓ) (c : Dev nD)

/-- The arrays device `c` is given. -/
def args : In where
  x r l := m (c.tc.loc main_arg0) (ix2 r l)
  g l := m (c.tc.loc main_arg1) (ix1 l)
  w l e := m (c.tc.loc main_arg2) (ix2 l e)

theorem idx : ∀ t : Fin grid0.N, (win0_0.index t 0 = t.val / 4 ∧ win0_0.index t 1 = 0) ∧ (win0_1.index t 0 = 0 ∧ win0_1.index t 1 = 0)
    ∧ (win0_2.index t 0 = t.val % 4 ∧ win0_2.index t 1 = 0) ∧ (win0_3.index t 0 = t.val / 4 ∧ win0_3.index t 1 = t.val % 4)
    ∧ (win0_4.index t 0 = t.val / 4 ∧ win0_4.index t 1 = 0) := by decide +kernel

/-- Row `r` of the rows of point `t`. -/
def row (t : Fin cfg0.N) (r : Fin 2048) : Fin 4096 :=
  ⟨2048 * (t.val / 4) + r.val, by have := t.isLt; have := r.isLt; have : cfg0.N = 8 := N_0; omega⟩

/-- Column `e` of the columns of point `t`. -/
def col (t : Fin cfg0.N) (e : Fin 896) : Fin 3584 := ⟨896 * (t.val % 4) + e.val, by have := e.isLt; omega⟩

variable (t : Fin cfg0.N)

theorem iblk0 (r : Fin 2048) (l : Fin 1024) : (iblk m c 0 t : Vec Ideal S2048x1024 .f32) (ix2 r l) = (args m c).x (row t r) l := by
  unfold row args; blk_point [iblk, V, idx t]

theorem iblk1 (l : Fin 1024) : (iblk m c 1 t : Vec Ideal S1x1024 .f32) (ix2 0 l) = (args m c).g l := by
  unfold args; blk_point [iblk, V, idx t]

theorem iblk2 (e : Fin 896) (l : Fin 1024) : (iblk m c 2 t : Vec Ideal S896x1024 .bf16) (ix2 e l) = (args m c).w l (col t e) := by
  unfold col args; blk_point [iblk, V, idx t]

theorem read1 (x : FVec Ideal S2048x1024 .f32) (g : FVec Ideal S1x1024 .f32) (r : Fin 2048) (l : Fin 1024) :
    (k0_pay1 (F := Ideal) x g (ix2 r l) : EReal) = x (ix2 r l) * scale (fun k => x (ix2 r k)) * g (ix2 0 l) := by
  pointwise [k0_pay1]; rfl

theorem read2 (h : FVec Ideal S2048x1024 .bf16) (w : FVec Ideal S896x1024 .bf16) (r : Fin 2048) (e : Fin 896) :
    k0_pay2 (F := Ideal) h w (ix2 r e) = (∑ l, (h (ix2 r l) : EReal) * (w (ix2 e l) : EReal) : EReal) := by
  pointwise [k0_pay2]

/-- The normalised rows after any point. -/
theorem rows (n : ℕ) (hn : n < cfg0.N) (r : Fin 2048) (l : Fin 1024) : (hAt m c n hn (ix2 r l) : EReal) = normed (args m c) (row ⟨n, hn⟩ r) l := by
  induction n with
  | zero =>
    refine (congrFun (hAt_first m c ⟨0, hn⟩ rfl) _).trans ((read1 _ _ _ _).trans ?_)
    simp only [iblk0, iblk1]; rfl
  | succ n ih =>
    by_cases h : (n + 1) % 4 = 0
    · refine (congrFun (hAt_first m c ⟨n + 1, hn⟩ h) _).trans ((read1 _ _ _ _).trans ?_)
      simp only [iblk0, iblk1]; rfl
    · refine (congrFun (hAt_next m c ⟨n + 1, hn⟩ h) _).trans ((ih (Nat.lt_of_succ_lt hn)).trans ?_)
      rw [show row ⟨n, Nat.lt_of_succ_lt hn⟩ r = row ⟨n + 1, hn⟩ r from
        Fin.ext (by show 2048 * (n / 4) + r.val = 2048 * ((n + 1) / 4) + r.val; omega)]

/-- The block of the projection. -/
theorem block (r : Fin 2048) (e : Fin 896) :
    k0_pay2 (hAt m c t.val t.isLt) (iblk m c 2 t) (ix2 r e) = proj (args m c) (row t r) (col t e) := by
  refine (read2 _ _ _ _).trans ?_
  simp only [iblk2, rows]; rfl

/-- A position of a matrix by its two coordinates. -/
theorem eta2 {a b : ℕ} (j : (⟨2, ![a, b]⟩ : Shape).Idx) : j = ix2 (j 0) (j 1) := by funext x; fin_cases x <;> rfl

/-- The first result: the projection. -/
theorem final3 : (dats m 0 c).arrAt 3 cfg0.N = fun i => proj (args m c) (i 0) (i 1) := by
  refine (dats m 0 c).arrAt_eq_of_covers 3 _ (by decide +kernel) fun t hf y => ?_
  blk_simp
  rw [after0_3]
  have he : (win0_3.blk t).view.emb y = (ix2 (row t (y 0)) (col t (y 1)) : S4096x3584.Idx) := by unfold row col; blk_ext [idx t]
  rw [he]
  exact (congrArg _ (eta2 y)).trans (block m c t _ _)

/-- The second result: the normalised rows. -/
theorem final4 : (dats m 0 c).arrAt 4 cfg0.N = fun i => normed (args m c) (i 0) (i 1) := by
  refine (dats m 0 c).arrAt_eq_of_covers 4 _ (by decide +kernel) fun t hf y => ?_
  blk_simp
  rw [after0_4]
  have he : (win0_4.blk t).view.emb y = (ix2 (row t (y 0)) (y 1) : S4096x1024.Idx) := by unfold row; blk_ext [idx t]
  rw [he]
  exact (congrArg _ (eta2 y)).trans (rows m c t.val t.isLt _ _)

end Cert.NinKernelIdeal.Run

end
-- ==== Proof.Nin.Claim.lean ====
/- The input norm and the projection after it: the frames, and kernel and reference leave the same two arrays. -/
module

public import proofs.«01_k».proof.Defs
public import proofs.«01_k».proof.Proof.Gen.NinKernel
public import proofs.«01_k».proof.Proof.Gen.NinReferenceIdeal.Run
public import proofs.«01_k».proof.Proof.Gen.NinReferenceIdeal.Read
public import proofs.«01_k».proof.Proof.Nin.Kernel
public import Idealize.ShloMosaic.Lib.Quiescent

@[expose] public section

noncomputable section

namespace Cert.Nin

open Idealize.ShloMosaic Idealize.SL.Sem

/-- The frame over the words is the ideal one's: the programs have the same text, and the run holds over any values. -/
theorem frame_kernel : Cert.quiescent_NinKernel := fun m ρ _ =>
  cast (by sl_kernel_rfl) (Cert.NinKernelIdeal.Run.frame (F := Bits) m ρ)

theorem frame_ideal : Cert.quiescent_NinKernelIdeal := fun m ρ _ => Cert.NinKernelIdeal.Run.frame m ρ

theorem frame_reference : Cert.quiescent_NinReferenceIdeal := fun m ρ _ =>
  (θ_run _ _ _).mono (fun r h => ⟨fun c => (h c).2.2, sem_eq_zero_of_no_sems (by decide) _⟩)
    (Cert.NinReferenceIdeal.Value.run (F := Ideal) m ρ)

section Reference

open Cert.NinReferenceIdeal Cert.NinReferenceIdeal.Read Cert.NinReferenceIdeal.Gen

variable (x0 : FVec Ideal S4096x1024 .f32) (x1 : FVec Ideal S1024 .f32) (x2 : FVec Ideal S1024x3584 .f32)

/-- The arrays the reference is given. -/
def given : In := ⟨fun r l => x0 (ix2 r l), fun l => x1 (ix1 l), fun l e => x2 (ix2 l e)⟩

/-- The reference's normalised rows, -/
theorem v12 (r : Fin 4096) (l : Fin 1024) : val_main_v12 (F := Ideal) x0 x1 (ix2 r l) = normed (given x0 x1 x2) r l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- the same as a result, -/
theorem v14 (r : Fin 4096) (l : Fin 1024) : (val_main_v14 (F := Ideal) x0 x1 (ix2 r l) : EReal) = normed (given x0 x1 x2) r l := by
  rw [← v12]; pointwise [val_main_v14]

/-- and their projection. -/
theorem v13 (r : Fin 4096) (e : Fin 3584) : val_main_v13 (F := Ideal) x0 x1 x2 (ix2 r e) = proj (given x0 x1 x2) r e := by
  pointwise [val_main_v13]
  simp only [v12 x0 x1 x2]; rfl

end Reference

open Cert.NinReferenceIdeal.Read in
/-- Kernel and reference compute the same rows. -/
theorem algebraic : Cert.algebraic_NinKernelIdeal_NinReferenceIdeal := fun m ρ m' ρ' _ hagree => by
  refine ⟨fun c i => proj (Cert.NinKernelIdeal.Run.args m c) (i 0) (i 1), fun c i => normed (Cert.NinKernelIdeal.Run.args m c) (i 0) (i 1), ?_, ?_⟩
  · have hR := Cert.NinKernelIdeal.Run.run_quiescent m ρ
    have hF := Cert.NinKernelIdeal.Run.frame m ρ
    refine (θ_run _ _ _).mono (fun r h c => ?_) (θ_run_and hR hF)
    have hc := h.1.1 c
    exact ⟨(hc.1 3).trans (Cert.NinKernelIdeal.Run.final3 m c), (hc.1 4).trans (Cert.NinKernelIdeal.Run.final4 m c), h.2.1 c⟩
  · refine (θ_run _ _ _).mono (fun r h c => ?_) (Cert.NinReferenceIdeal.Value.run (F := Ideal) m' ρ')
    obtain ⟨h0, h1, ha⟩ := h c
    obtain ⟨e0, e1, e2⟩ := hagree c
    have eta : ∀ {a b : ℕ} (j : (⟨2, ![a, b]⟩ : Shape).Idx), j = ix2 (j 0) (j 1) := fun j => Cert.NinKernelIdeal.Run.eta2 j
    refine ⟨h0.trans ?_, h1.trans ?_, ha⟩
    · rw [e0, e1, e2]
      exact (val_main_v13_eq _ _ _).trans (funext fun i => (congrArg _ (eta i)).trans (v13 _ _ _ _ _))
    · rw [e0, e1]
      exact (val_main_v14_eq _ _).trans (funext fun i => (congrArg _ (eta i)).trans (v14 _ _ (m (c.tc.loc Cert.NinKernelIdeal.main_arg2)) _ _))

end Cert.Nin

end
-- ==== Proof.Fwd.Body.lean ====
/- The body of the feed-forward block's forward kernel as a code over its sixteen buffers: the taps spread over rows, the normalised rows at the first column, the up-projection
   in two groups of rows, the chunks of sixteen rows with a product over 512 rows after each half of them, and what the last column adds. -/
module

public import proofs.«01_k».proof.Proof.Straight
public import proofs.«01_k».proof.Proof.Gen.FwdKernelIdeal.Skeleton

@[expose] public section

set_option maxRecDepth 16384

noncomputable section

namespace Cert.FwdKernelIdeal.Body

open Idealize.ShloMosaic Idealize.SL.Sem Cert.Straight Cert.FwdKernelIdeal.Gen

/-- The buffers that the body touches: the blocks of its arguments, of its results, and its scratch. -/
inductive Bf
  | x2 | xp | g | wg | wu | fw | wd | x3 | h | act | p | u | ext | acc | tp | lhs
  deriving DecidableEq

/-- A buffer's shape. -/
@[reducible] def sh : Bf → Shape
  | .x2 => S1024x1024 | .xp => S16x1024 | .g => S1x1024 | .wg => S1x1024x768 | .wu => S1x1024x768 | .fw => S2x3x768 | .wd => S768x1024
  | .x3 => S1024x1024 | .h => S1024x1024 | .act => S1024x768 | .p => S2x1024x768 | .u => S2x1024x768
  | .ext => S2x1040x768 | .acc => S1024x1024 | .tp => S2x3x16x768 | .lhs => S1040x1024

/-- A buffer's element type. -/
@[reducible] def el : Bf → EltTy
  | .x2 => .f32 | .xp => .f32 | .g => .f32 | .wg => .bf16 | .wu => .bf16 | .fw => .f32 | .wd => .bf16
  | .x3 => .f32 | .h => .bf16 | .act => .bf16 | .p => .bf16 | .u => .bf16
  | .ext => .f32 | .acc => .f32 | .tp => .f32 | .lhs => .bf16

variable {F : FTy → Type} [FloatOps F]
variable {M : ∀ b, Memref sig .tc (CoreSpace.vmem : Space) (sh b) (el b)} (hM : ∀ b, (M b).IsWhole) (i : grid0.Coords)

/-! ## Windows inside their buffers -/

theorem inb_fw {h k : ℕ} (hh : h < 2) (hk : k < 3) : ∀ a, (![h, k, 0] : Fin 3 → ℕ) a + S1x1x768.size a ≤ S2x3x768.size a := by
  intro a; fin_cases a <;> simp <;> omega
theorem inb_tp {h k : ℕ} (hh : h < 2) (hk : k < 3) : ∀ a, (![h, k, 0, 0] : Fin 4 → ℕ) a + S1x1x16x768.size a ≤ S2x3x16x768.size a := by
  intro a; fin_cases a <;> simp <;> omega
theorem inb_rows {h r : ℕ} (hh : h < 2) (hr : r + 16 ≤ 1024) : ∀ a, (![h, r, 0] : Fin 3 → ℕ) a + S1x16x768.size a ≤ S2x1024x768.size a := by
  intro a; fin_cases a <;> simp <;> omega
theorem inb_ext {h r : ℕ} (hh : h < 2) (hr : r + 16 ≤ 1040) : ∀ a, (![h, r, 0] : Fin 3 → ℕ) a + S1x16x768.size a ≤ S2x1040x768.size a := by
  intro a; fin_cases a <;> simp <;> omega
theorem inb_act {r : ℕ} (hr : r + 16 ≤ 1024) : ∀ a, (![r, 0] : Fin 2 → ℕ) a + S16x768.size a ≤ S1024x768.size a := by
  intro a; fin_cases a <;> simp <;> omega
theorem inb_acc {s : ℕ} (hs : s + 512 ≤ 1024) : ∀ a, (![s, 0] : Fin 2 → ℕ) a + S512x1024.size a ≤ S1024x1024.size a := by
  intro a; fin_cases a <;> simp <;> omega
theorem packed_rows {h r : ℕ} (hh : h < 2) (hr : r + 16 ≤ 1024) (h2 : 2 ∣ r) : (Rect.unit (s := S2x1024x768) ![h, r, 0] S1x16x768.size (inb_rows hh hr)).PackedRows (EltTy.packing .bf16) := by
  refine .inr ⟨by decide, rfl, .inl ⟨?_, ⟨8, rfl⟩⟩⟩
  exact h2
theorem packed_act {r : ℕ} (hr : r + 16 ≤ 1024) (h2 : 2 ∣ r) : (Rect.unit (s := S1024x768) ![r, 0] S16x768.size (inb_act hr)).PackedRows (EltTy.packing .bf16) := by
  refine .inr ⟨by decide, rfl, .inl ⟨?_, ⟨8, rfl⟩⟩⟩
  exact h2

/-! ## The body -/

/-- A tap spread over sixteen rows. -/
def spread (h k : ℕ) (hh : h < 2) (hk : k < 3) (K : Code (Elt F) M) : Code (Elt F) M :=
  .load .fw ![h, k, 0] S1x1x768.size (inb_fw hh hk) (View.loadsAt_vmem h_S1x1x768) fun v =>
  .load .tp ![h, k, 0, 0] S1x1x16x768.size (inb_tp hh hk) (View.loadsAt_vmem h_S1x1x16x768) fun _ =>
  .store .tp ![h, k, 0, 0] S1x1x16x768.size (inb_tp hh hk) (k0_pay7 v) (View.stores_vmem_bits_univ h_S1x1x16x768 rfl) K

/-- The first column's branch: the normalised rows of the block and of the sixteen before it. -/
def firstCol (K : Code (Elt F) M) : Code (Elt F) M :=
  .load .xp ![0, 0] S16x1024.size inb_S16x1024_S16x1024_0_0 (View.loadsAt_vmem h_S16x1024) fun x =>
  .load .g ![0, 0] S1x1024.size inb_S1x1024_S1x1024_0_0 (View.loadsAt_vmem h_S1x1024) fun g =>
  .load .lhs ![0, 0] S16x1024.size inb_S1040x1024_S16x1024_0_0 (View.loadsAt_vmem h_S16x1024) fun _ =>
  .store .lhs ![0, 0] S16x1024.size inb_S1040x1024_S16x1024_0_0 (k0_pay4 x g)
    (View.stores_vmem h_S16x1024 ((hM .lhs).storeExact_slice rfl _ packedbf16_S1040x1024_S16x1024_0_0) (fun _ => rfl)) <|
  .load .x2 ![0, 0] S1024x1024.size inb_S1024x1024_S1024x1024_0_0 (View.loadsAt_vmem h_S1024x1024) fun x =>
  .load .g ![0, 0] S1x1024.size inb_S1x1024_S1x1024_0_0 (View.loadsAt_vmem h_S1x1024) fun g =>
  .load .lhs ![16, 0] S1024x1024.size inb_S1040x1024_S1024x1024_16_0 (View.loadsAt_vmem h_S1024x1024) fun _ =>
  .store .lhs ![16, 0] S1024x1024.size inb_S1040x1024_S1024x1024_16_0 (k0_pay5 x g)
    (View.stores_vmem h_S1024x1024 ((hM .lhs).storeExact_slice rfl _ packedbf16_S1040x1024_S1024x1024_16_0) (fun _ => rfl)) <|
  .load .lhs ![16, 0] S1024x1024.size inb_S1040x1024_S1024x1024_16_0 (View.loadsAt_vmem h_S1024x1024) fun v =>
  .load .h ![0, 0] S1024x1024.size inb_S1024x1024_S1024x1024_0_0 (View.loadsAt_vmem h_S1024x1024) fun _ =>
  .store .h ![0, 0] S1024x1024.size inb_S1024x1024_S1024x1024_0_0 v
    (View.stores_vmem h_S1024x1024 ((hM .h).storeExact_slice rfl _ packedbf16_S1024x1024_S1024x1024_0_0) (fun _ => rfl)) K

/-- The up-projection's first half, of the sixteen rows before the block and the block's first 512. -/
def upperG (K : Code (Elt F) M) : Code (Elt F) M :=
  .load .lhs ![0, 0] S528x1024.size inb_S1040x1024_S528x1024_0_0 (View.loadsAt_vmem h_S528x1024) fun l =>
  .load .wg ![0, 0, 0] S1x1024x768.size inb_S1x1024x768_S1x1024x768_0_0_0 (View.loadsAt_vmem h_S1x1024x768) fun w =>
  .load .ext ![0, 0, 0] S1x16x768.size inb_S2x1040x768_S1x16x768_0_0_0 (View.loadsAt_vmem h_S1x16x768) fun _ =>
  .store .ext ![0, 0, 0] S1x16x768.size inb_S2x1040x768_S1x16x768_0_0_0 (k0_pay20 (k0_pay6 i) l w) (View.stores_vmem_bits_univ h_S1x16x768 rfl) <|
  .load .ext ![0, 16, 0] S1x512x768.size inb_S2x1040x768_S1x512x768_0_16_0 (View.loadsAt_vmem h_S1x512x768) fun _ =>
  .store .ext ![0, 16, 0] S1x512x768.size inb_S2x1040x768_S1x512x768_0_16_0 (k0_pay21 l w) (View.stores_vmem_bits_univ h_S1x512x768 rfl) <|
  .load .p ![0, 0, 0] S1x512x768.size inb_S2x1024x768_S1x512x768_0_0_0 (View.loadsAt_vmem h_S1x512x768) fun _ =>
  .store .p ![0, 0, 0] S1x512x768.size inb_S2x1024x768_S1x512x768_0_0_0 (k0_pay22 l w)
    (View.stores_vmem h_S1x512x768 ((hM .p).storeExact_slice rfl _ packedbf16_S2x1024x768_S1x512x768_0_0_0) (fun _ => rfl)) K

/-- Its second half, of the same rows. -/
def upperU (K : Code (Elt F) M) : Code (Elt F) M :=
  .load .lhs ![0, 0] S528x1024.size inb_S1040x1024_S528x1024_0_0 (View.loadsAt_vmem h_S528x1024) fun l =>
  .load .wu ![0, 0, 0] S1x1024x768.size inb_S1x1024x768_S1x1024x768_0_0_0 (View.loadsAt_vmem h_S1x1024x768) fun w =>
  .load .ext ![1, 0, 0] S1x16x768.size inb_S2x1040x768_S1x16x768_1_0_0 (View.loadsAt_vmem h_S1x16x768) fun _ =>
  .store .ext ![1, 0, 0] S1x16x768.size inb_S2x1040x768_S1x16x768_1_0_0 (k0_pay20 (k0_pay6 i) l w) (View.stores_vmem_bits_univ h_S1x16x768 rfl) <|
  .load .ext ![1, 16, 0] S1x512x768.size inb_S2x1040x768_S1x512x768_1_16_0 (View.loadsAt_vmem h_S1x512x768) fun _ =>
  .store .ext ![1, 16, 0] S1x512x768.size inb_S2x1040x768_S1x512x768_1_16_0 (k0_pay21 l w) (View.stores_vmem_bits_univ h_S1x512x768 rfl) <|
  .load .p ![1, 0, 0] S1x512x768.size inb_S2x1024x768_S1x512x768_1_0_0 (View.loadsAt_vmem h_S1x512x768) fun _ =>
  .store .p ![1, 0, 0] S1x512x768.size inb_S2x1024x768_S1x512x768_1_0_0 (k0_pay22 l w)
    (View.stores_vmem h_S1x512x768 ((hM .p).storeExact_slice rfl _ packedbf16_S2x1024x768_S1x512x768_1_0_0) (fun _ => rfl)) K

/-- The up-projection of the block's last 512 rows, one half after the other. -/
def lower (K : Code (Elt F) M) : Code (Elt F) M :=
  .load .lhs ![528, 0] S512x1024.size inb_S1040x1024_S512x1024_528_0 (View.loadsAt_vmem h_S512x1024) fun l =>
  .load .wg ![0, 0, 0] S1x1024x768.size inb_S1x1024x768_S1x1024x768_0_0_0 (View.loadsAt_vmem h_S1x1024x768) fun w =>
  .load .ext ![0, 528, 0] S1x512x768.size inb_S2x1040x768_S1x512x768_0_528_0 (View.loadsAt_vmem h_S1x512x768) fun _ =>
  .store .ext ![0, 528, 0] S1x512x768.size inb_S2x1040x768_S1x512x768_0_528_0 (k0_pay24 l w) (View.stores_vmem_bits_univ h_S1x512x768 rfl) <|
  .load .p ![0, 512, 0] S1x512x768.size inb_S2x1024x768_S1x512x768_0_512_0 (View.loadsAt_vmem h_S1x512x768) fun _ =>
  .store .p ![0, 512, 0] S1x512x768.size inb_S2x1024x768_S1x512x768_0_512_0 (k0_pay25 l w)
    (View.stores_vmem h_S1x512x768 ((hM .p).storeExact_slice rfl _ packedbf16_S2x1024x768_S1x512x768_0_512_0) (fun _ => rfl)) <|
  .load .lhs ![528, 0] S512x1024.size inb_S1040x1024_S512x1024_528_0 (View.loadsAt_vmem h_S512x1024) fun l =>
  .load .wu ![0, 0, 0] S1x1024x768.size inb_S1x1024x768_S1x1024x768_0_0_0 (View.loadsAt_vmem h_S1x1024x768) fun w =>
  .load .ext ![1, 528, 0] S1x512x768.size inb_S2x1040x768_S1x512x768_1_528_0 (View.loadsAt_vmem h_S1x512x768) fun _ =>
  .store .ext ![1, 528, 0] S1x512x768.size inb_S2x1040x768_S1x512x768_1_528_0 (k0_pay24 l w) (View.stores_vmem_bits_univ h_S1x512x768 rfl) <|
  .load .p ![1, 512, 0] S1x512x768.size inb_S2x1024x768_S1x512x768_1_512_0 (View.loadsAt_vmem h_S1x512x768) fun _ =>
  .store .p ![1, 512, 0] S1x512x768.size inb_S2x1024x768_S1x512x768_1_512_0 (k0_pay25 l w)
    (View.stores_vmem h_S1x512x768 ((hM .p).storeExact_slice rfl _ packedbf16_S2x1024x768_S1x512x768_1_512_0) (fun _ => rfl)) K

/-- The convolution of sixteen rows, from themselves and the sixteen before them. -/
def conv (a b : Vec F S1x16x768 .f32) (t2 t0 t1 : Vec F S1x1x16x768 .f32) : FVec F S16x768 .f32 := k0_pay31 (k0_pay29 a) (k0_pay30 b) t2 t0 t1

/-- The gate's product of sixteen rows, the second factor's convolution given by its rows. -/
def gated (v : FVec F S16x768 .f32) (a b : Vec F S1x16x768 .f32) (t2 t0 t1 : Vec F S1x1x16x768 .f32) : FVec F S16x768 .bf16 :=
  k0_pay38 v (k0_pay32 a) (k0_pay33 b) (k0_pay34 a b t2 t0) t1

/-- The convolution of one half of a chunk, read. -/
def half (h r : ℕ) (hh : h < 2) (hr : r + 16 ≤ 1024) (K : Vec F S1x16x768 .f32 → Vec F S1x16x768 .f32 → Vec F S1x1x16x768 .f32 → Vec F S1x1x16x768 .f32 → Vec F S1x1x16x768 .f32 → Code (Elt F) M) :
    Code (Elt F) M :=
  .load .ext ![h, r, 0] S1x16x768.size (inb_ext hh (by omega)) (View.loadsAt_vmem h_S1x16x768) fun a =>
  .load .ext ![h, r + 16, 0] S1x16x768.size (inb_ext hh (by omega)) (View.loadsAt_vmem h_S1x16x768) fun b =>
  .load .tp ![h, 2, 0, 0] S1x1x16x768.size (inb_tp hh (by decide)) (View.loadsAt_vmem h_S1x1x16x768) fun t2 =>
  .load .tp ![h, 0, 0, 0] S1x1x16x768.size (inb_tp hh (by decide)) (View.loadsAt_vmem h_S1x1x16x768) fun t0 =>
  .load .tp ![h, 1, 0, 0] S1x1x16x768.size (inb_tp hh (by decide)) (View.loadsAt_vmem h_S1x1x16x768) fun t1 =>
  K a b t2 t0 t1

/-- A chunk: sixteen rows of the convolution's two halves and of the gate's product. -/
def chunk (r : ℕ) (hr : r + 16 ≤ 1024) (h2 : 2 ∣ r) (K : FVec F S16x768 .bf16 → Code (Elt F) M) : Code (Elt F) M :=
  half 0 r (by decide) hr fun a b t2 t0 t1 =>
  half 1 r (by decide) hr fun a' b' t2' t0' t1' =>
  .load .u ![0, r, 0] S1x16x768.size (inb_rows (by decide) hr) (View.loadsAt_vmem h_S1x16x768) fun _ =>
  .store .u ![0, r, 0] S1x16x768.size (inb_rows (by decide) hr) (k0_pay36 (conv a b t2 t0 t1))
    (View.stores_vmem h_S1x16x768 ((hM .u).storeExact_slice rfl _ (packed_rows (by decide) hr h2)) (fun _ => rfl)) <|
  .load .u ![1, r, 0] S1x16x768.size (inb_rows (by decide) hr) (View.loadsAt_vmem h_S1x16x768) fun _ =>
  .store .u ![1, r, 0] S1x16x768.size (inb_rows (by decide) hr) (k0_pay36 (conv a' b' t2' t0' t1'))
    (View.stores_vmem h_S1x16x768 ((hM .u).storeExact_slice rfl _ (packed_rows (by decide) hr h2)) (fun _ => rfl)) <|
  .load .act ![r, 0] S16x768.size (inb_act hr) (View.loadsAt_vmem h_S16x768) fun _ =>
  .store .act ![r, 0] S16x768.size (inb_act hr) (gated (conv a b t2 t0 t1) a' b' t2' t0' t1')
    (View.stores_vmem h_S16x768 ((hM .act).storeExact_slice rfl _ (packed_act hr h2)) (fun _ => rfl)) <|
  K (gated (conv a b t2 t0 t1) a' b' t2' t0' t1')

/-- The chunks number `q` to `q + n` of sixteen rows from row `s` on. The rows of the gate's product are kept by their number. -/
def chunks (s : ℕ) (hs : s + 512 ≤ 1024) (h2 : 2 ∣ s) : (n q : ℕ) → n + q ≤ 32 → (ℕ → FVec F S16x768 .bf16) → ((ℕ → FVec F S16x768 .bf16) → Code (Elt F) M) → Code (Elt F) M
  | 0, _, _, e, K => K e
  | n + 1, q, h, e, K => chunk hM (s + 16 * q) (by omega) (by omega) fun v => chunks s hs h2 n (q + 1) (by omega) (fun x => if x = q then v else e x) K

/-- Thirty-two times sixteen rows, one under the other. -/
def stack (e : ℕ → FVec F S16x768 .bf16) : FVec F S512x768 .bf16 :=
  concatenate S512x768 0 [⟨S16x768, e 0⟩, ⟨S16x768, e 1⟩, ⟨S16x768, e 2⟩, ⟨S16x768, e 3⟩, ⟨S16x768, e 4⟩, ⟨S16x768, e 5⟩, ⟨S16x768, e 6⟩, ⟨S16x768, e 7⟩, ⟨S16x768, e 8⟩, ⟨S16x768, e 9⟩, ⟨S16x768, e 10⟩, ⟨S16x768, e 11⟩, ⟨S16x768, e 12⟩, ⟨S16x768, e 13⟩, ⟨S16x768, e 14⟩, ⟨S16x768, e 15⟩, ⟨S16x768, e 16⟩, ⟨S16x768, e 17⟩, ⟨S16x768, e 18⟩, ⟨S16x768, e 19⟩, ⟨S16x768, e 20⟩, ⟨S16x768, e 21⟩, ⟨S16x768, e 22⟩, ⟨S16x768, e 23⟩, ⟨S16x768, e 24⟩, ⟨S16x768, e 25⟩, ⟨S16x768, e 26⟩, ⟨S16x768, e 27⟩, ⟨S16x768, e 28⟩, ⟨S16x768, e 29⟩, ⟨S16x768, e 30⟩, ⟨S16x768, e 31⟩] concatenates_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S512x768_d0

/-- The product of 512 rows with the down-projection's rows, added to what the columns before gave. -/
def groupPay (e : ℕ → FVec F S16x768 .bf16) (w : Vec F S768x1024 .bf16) (old : Vec F S512x1024 .f32) : FVec F S512x1024 .f32 :=
  k0_pay2 (BitVec.ofNat 32 (i 1).val) (stack e) w old

/-- A group of 512 rows: its chunks, then its product. -/
def group (s : ℕ) (hs : s + 512 ≤ 1024) (h2 : 2 ∣ s) (e : ℕ → FVec F S16x768 .bf16) (K : (ℕ → FVec F S16x768 .bf16) → Code (Elt F) M) : Code (Elt F) M :=
  chunks hM s hs h2 32 0 le_rfl e fun e =>
  .load .wd ![0, 0] S768x1024.size inb_S768x1024_S768x1024_0_0 (View.loadsAt_vmem h_S768x1024) fun w =>
  .load .acc ![s, 0] S512x1024.size (inb_acc hs) (View.loadsAt_vmem h_S512x1024) fun old =>
  .load .acc ![s, 0] S512x1024.size (inb_acc hs) (View.loadsAt_vmem h_S512x1024) fun _ =>
  .store .acc ![s, 0] S512x1024.size (inb_acc hs) (groupPay i e w old) (View.stores_vmem_bits_univ h_S512x1024 rfl) <|
  K e

/-- The last column's branch: the rows plus what the columns gave. -/
def lastCol : Code (Elt F) M :=
  .load .x2 ![0, 0] S1024x1024.size inb_S1024x1024_S1024x1024_0_0 (View.loadsAt_vmem h_S1024x1024) fun x =>
  .load .acc ![0, 0] S1024x1024.size inb_S1024x1024_S1024x1024_0_0 (View.loadsAt_vmem h_S1024x1024) fun a =>
  .load .x3 ![0, 0] S1024x1024.size inb_S1024x1024_S1024x1024_0_0 (View.loadsAt_vmem h_S1024x1024) fun _ =>
  .store .x3 ![0, 0] S1024x1024.size inb_S1024x1024_S1024x1024_0_0 (k0_pay3 x a) (View.stores_vmem_bits_univ h_S1024x1024 rfl) .halt

/-- Sixteen rows of zeros. -/
def noRows : FVec F S16x768 .bf16 := fun _ => Scalar.ofBits .bf16 0#16

/-- The body after the normalised rows. -/
def rest : Code (Elt F) M :=
  upperG hM i <| upperU hM i <| lower hM <|
  group hM i 0 (by decide) (by decide) (fun _ => noRows) fun e => group hM i 512 (by decide) (by decide) e fun _ =>
  .branch (k0_cond2 i = 1#1) lastCol .halt

/-- The body after the taps. -/
def cols : Code (Elt F) M := .branch (k0_cond1 i = 1#1) (firstCol hM (rest hM i)) (rest hM i)

/-- The whole body. -/
def body : Code (Elt F) M :=
  spread 0 0 (by decide) (by decide) <| spread 0 1 (by decide) (by decide) <| spread 0 2 (by decide) (by decide) <|
  spread 1 0 (by decide) (by decide) <| spread 1 1 (by decide) (by decide) <| spread 1 2 (by decide) (by decide) <|
  cols hM i

end Cert.FwdKernelIdeal.Body

end
-- ==== Proof.Windows.lean ====
/- Blocks of rows stored into an array and read from it, entry by entry. -/
module

public import Idealize.ShloMosaic.Lib.VecWindow
public import Idealize.ShloMosaic.Lib.Pointwise

@[expose] public section

noncomputable section

namespace Cert.Windows

open Idealize.ShloMosaic
open VecWindow (window put)

variable {Val : Type}

/-- The window that is the whole matrix. -/
theorem window_whole2 {a b : ℕ} (x : (⟨2, ![a, b]⟩ : Shape).Idx → Val) (inb) : window x ![0, 0] ![a, b] inb = x := by
  funext y
  refine congrArg x (funext fun c => Fin.ext ?_)
  fin_cases c
  · show 0 + 1 * (y 0).val = (y 0).val; omega
  · show 0 + 1 * (y 1).val = (y 1).val; omega

/-- The window that is the whole of a stack of matrices. -/
theorem window_whole3 {a b c : ℕ} (x : (⟨3, ![a, b, c]⟩ : Shape).Idx → Val) (inb) : window x ![0, 0, 0] ![a, b, c] inb = x := by
  funext y
  refine congrArg x (funext fun d => Fin.ext ?_)
  fin_cases d
  · show 0 + 1 * (y 0).val = (y 0).val; omega
  · show 0 + 1 * (y 1).val = (y 1).val; omega
  · show 0 + 1 * (y 2).val = (y 2).val; omega

/-- Rows of one matrix of a stack, stored. -/
theorem put_rows3 {a b c n : ℕ} (D : (⟨3, ![a, b, c]⟩ : Shape).Idx → Val) (h r : ℕ) (w : (⟨3, ![1, n, c]⟩ : Shape).Idx → Val) (y : (⟨3, ![a, b, c]⟩ : Shape).Idx) :
    put D ![h, r, 0] ![1, n, c] w y = if hy : (y 0).val = h ∧ r ≤ (y 1).val ∧ (y 1).val < r + n then
      w (ix3 (0 : Fin 1) (⟨(y 1).val - r, by omega⟩ : Fin n) (y 2 : Fin c)) else D y := by
  have hy2 : (y 2).val < c := (y 2).isLt
  unfold put
  by_cases hy : (y 0).val = h ∧ r ≤ (y 1).val ∧ (y 1).val < r + n
  · rw [dif_pos hy, dif_pos]
    · refine congrArg w (funext fun a => Fin.ext ?_)
      fin_cases a
      · show (y 0).val - h = 0; omega
      · rfl
      · rfl
    · intro a
      fin_cases a
      · show h ≤ (y 0).val ∧ (y 0).val < h + 1; omega
      · show r ≤ (y 1).val ∧ (y 1).val < r + n; omega
      · show 0 ≤ (y 2).val ∧ (y 2).val < 0 + c; omega
  · rw [dif_neg hy, dif_neg]
    intro hh
    refine hy ⟨?_, (hh 1).1, (hh 1).2⟩
    have h0 : h ≤ (y 0).val ∧ (y 0).val < h + 1 := hh 0
    omega

/-- Rows of a matrix, stored. -/
theorem put_rows2 {b c n : ℕ} (D : (⟨2, ![b, c]⟩ : Shape).Idx → Val) (r : ℕ) (w : (⟨2, ![n, c]⟩ : Shape).Idx → Val) (y : (⟨2, ![b, c]⟩ : Shape).Idx) :
    put D ![r, 0] ![n, c] w y = if hy : r ≤ (y 0).val ∧ (y 0).val < r + n then w (ix2 (⟨(y 0).val - r, by omega⟩ : Fin n) (y 1 : Fin c)) else D y := by
  have hy1 : (y 1).val < c := (y 1).isLt
  unfold put
  by_cases hy : r ≤ (y 0).val ∧ (y 0).val < r + n
  · rw [dif_pos hy, dif_pos]
    · refine congrArg w (funext fun a => Fin.ext ?_)
      fin_cases a
      · rfl
      · rfl
    · intro a
      fin_cases a
      · exact hy
      · show 0 ≤ (y 1).val ∧ (y 1).val < 0 + c; omega
  · rw [dif_neg hy, dif_neg]
    exact fun hh => hy (hh 0)

/-- Rows of one matrix of a stack, read. -/
theorem window_rows3 {a b c n : ℕ} (D : (⟨3, ![a, b, c]⟩ : Shape).Idx → Val) (h r : ℕ) (inb) (q : Fin n) (l : Fin c) (hh : h < a) (hr : r + q.val < b) :
    window D ![h, r, 0] ![1, n, c] inb (ix3 (0 : Fin 1) q l) = D (ix3 (⟨h, hh⟩ : Fin a) (⟨r + q.val, hr⟩ : Fin b) l) := by
  refine congrArg D (funext fun d => Fin.ext ?_)
  fin_cases d
  · show h + 1 * 0 = h; omega
  · show r + 1 * q.val = r + q.val; omega
  · show 0 + 1 * l.val = l.val; omega

/-- Rows of a matrix, read. -/
theorem window_rows2 {b c n : ℕ} (D : (⟨2, ![b, c]⟩ : Shape).Idx → Val) (r : ℕ) (inb) (q : Fin n) (l : Fin c) (hr : r + q.val < b) :
    window D ![r, 0] ![n, c] inb (ix2 q l) = D (ix2 (⟨r + q.val, hr⟩ : Fin b) l) := by
  refine congrArg D (funext fun d => Fin.ext ?_)
  fin_cases d
  · show r + 1 * q.val = r + q.val; omega
  · show 0 + 1 * l.val = l.val; omega

end Cert.Windows

end
-- ==== Proof.Fwd.Eval.lean ====
/- What the body of the feed-forward block's forward kernel leaves in its buffers, in closed form. -/
module

public import proofs.«01_k».proof.Proof.Fwd.Body
public import proofs.«01_k».proof.Proof.Windows

@[expose] public section

set_option maxRecDepth 16384

noncomputable section

namespace Cert.FwdKernelIdeal.Body

open Idealize.ShloMosaic Idealize.SL.Sem Cert.Straight Cert.FwdKernelIdeal.Gen Cert.Windows
open VecWindow (window put)

variable {F : FTy → Type} [FloatOps F]

/-- What the blocks of the arguments hold. -/
structure Ins (F : FTy → Type) where
  x2 : Vec F S1024x1024 .f32
  xp : Vec F S16x1024 .f32
  g : Vec F S1x1024 .f32
  wg : Vec F S1x1024x768 .bf16
  wu : Vec F S1x1024x768 .bf16
  fw : Vec F S2x3x768 .f32
  wd : Vec F S768x1024 .bf16

/-- What the blocks of the results and the scratch hold. -/
structure Outs (F : FTy → Type) where
  x3 : Vec F S1024x1024 .f32
  h : Vec F S1024x1024 .bf16
  act : Vec F S1024x768 .bf16
  p : Vec F S2x1024x768 .bf16
  u : Vec F S2x1024x768 .bf16
  ext : Vec F S2x1040x768 .f32
  acc : Vec F S1024x1024 .f32
  tp : Vec F S2x3x16x768 .f32
  lhs : Vec F S1040x1024 .bf16

/-- The state they make. -/
def st (X : Ins F) (S : Outs F) : State (Elt F) sh el
  | .x2 => X.x2 | .xp => X.xp | .g => X.g | .wg => X.wg | .wu => X.wu | .fw => X.fw | .wd => X.wd
  | .x3 => S.x3 | .h => S.h | .act => S.act | .p => S.p | .u => S.u | .ext => S.ext | .acc => S.acc | .tp => S.tp | .lhs => S.lhs

section Updates

variable (X : Ins F) (S : Outs F)

theorem upd_x3 (w) : Function.update (st X S) .x3 w = st X { S with x3 := w } := by funext b; cases b <;> rfl
theorem upd_h (w) : Function.update (st X S) .h w = st X { S with h := w } := by funext b; cases b <;> rfl
theorem upd_act (w) : Function.update (st X S) .act w = st X { S with act := w } := by funext b; cases b <;> rfl
theorem upd_p (w) : Function.update (st X S) .p w = st X { S with p := w } := by funext b; cases b <;> rfl
theorem upd_u (w) : Function.update (st X S) .u w = st X { S with u := w } := by funext b; cases b <;> rfl
theorem upd_ext (w) : Function.update (st X S) .ext w = st X { S with ext := w } := by funext b; cases b <;> rfl
theorem upd_acc (w) : Function.update (st X S) .acc w = st X { S with acc := w } := by funext b; cases b <;> rfl
theorem upd_tp (w) : Function.update (st X S) .tp w = st X { S with tp := w } := by funext b; cases b <;> rfl
theorem upd_lhs (w) : Function.update (st X S) .lhs w = st X { S with lhs := w } := by funext b; cases b <;> rfl

end Updates

variable {M : ∀ b, Memref sig .tc (CoreSpace.vmem : Space) (sh b) (el b)} (hM : ∀ b, (M b).IsWhole) (i : grid0.Coords) (X : Ins F) (S : Outs F)

/-! ## The taps -/

/-- A tap spread over sixteen rows. -/
def tap (h k : ℕ) (hh : h < 2) (hk : k < 3) : Vec F S1x1x16x768 .f32 := k0_pay7 (window X.fw ![h, k, 0] S1x1x768.size (inb_fw hh hk))

/-- The taps' scratch after all six. -/
def tapsOf (T : Vec F S2x3x16x768 .f32) : Vec F S2x3x16x768 .f32 :=
  put (put (put (put (put (put T ![0, 0, 0, 0] S1x1x16x768.size (tap X 0 0 (by decide) (by decide))) ![0, 1, 0, 0] S1x1x16x768.size (tap X 0 1 (by decide) (by decide)))
    ![0, 2, 0, 0] S1x1x16x768.size (tap X 0 2 (by decide) (by decide))) ![1, 0, 0, 0] S1x1x16x768.size (tap X 1 0 (by decide) (by decide)))
    ![1, 1, 0, 0] S1x1x16x768.size (tap X 1 1 (by decide) (by decide))) ![1, 2, 0, 0] S1x1x16x768.size (tap X 1 2 (by decide) (by decide))

/-- A window of one tap, after a store of another. -/
theorem window_tap_ne (T : Vec F S2x3x16x768 .f32) (w : Vec F S1x1x16x768 .f32) (h k h' k' : ℕ) (inb) (hne : h' + 1 ≤ h ∨ h + 1 ≤ h' ∨ k' + 1 ≤ k ∨ k + 1 ≤ k') :
    window (put T ![h, k, 0, 0] S1x1x16x768.size w) ![h', k', 0, 0] S1x1x16x768.size inb = window T ![h', k', 0, 0] S1x1x16x768.size inb := by
  rcases hne with e | e | e | e
  · exact VecWindow.window_put_of_disjoint _ _ _ _ _ _ _ 0 (.inl e)
  · exact VecWindow.window_put_of_disjoint _ _ _ _ _ _ _ 0 (.inr e)
  · exact VecWindow.window_put_of_disjoint _ _ _ _ _ _ _ 1 (.inl e)
  · exact VecWindow.window_put_of_disjoint _ _ _ _ _ _ _ 1 (.inr e)

/-- Every tap is read back. -/
theorem window_tapsOf (T : Vec F S2x3x16x768 .f32) (h k : ℕ) (hh : h < 2) (hk : k < 3) :
    window (tapsOf X T) ![h, k, 0, 0] S1x1x16x768.size (inb_tp hh hk) = tap X h k hh hk := by
  have hs (T' : Vec F S2x3x16x768 .f32) (w) (a b : ℕ) (ha : a < 2) (hb : b < 3) : window (put T' ![a, b, 0, 0] S1x1x16x768.size w) ![a, b, 0, 0] S1x1x16x768.size (inb_tp ha hb) = w :=
    VecWindow.window_put_same _ _ _ _ _
  unfold tapsOf
  obtain rfl | rfl : h = 0 ∨ h = 1 := by omega
  all_goals obtain rfl | rfl | rfl : k = 0 ∨ k = 1 ∨ k = 2 := by omega
  all_goals repeat rw [window_tap_ne _ _ _ _ _ _ _ (by decide)]
  all_goals exact hs _ _ _ _ (by decide) (by decide)

theorem run_spread (h k : ℕ) (hh : h < 2) (hk : k < 3) (K : Code (Elt F) M) :
    (spread h k hh hk K).run (st X S) = K.run (st X { S with tp := put S.tp ![h, k, 0, 0] S1x1x16x768.size (tap X h k hh hk) }) := by
  unfold spread
  simp only [Code.run]
  rw [upd_tp]
  rfl

/-! ## The normalised rows -/

/-- The normalised rows: sixteen before the block, then the block's. -/
def lhsAll : Vec F S1040x1024 .bf16 := fun y =>
  if hy : (y 0).val < 16 then k0_pay4 X.xp X.g (ix2 (⟨(y 0).val, hy⟩ : Fin 16) (y 1 : Fin 1024))
  else k0_pay5 X.x2 X.g (ix2 (⟨(y 0).val - 16, by have : (y 0).val < 1040 := (y 0).isLt; omega⟩ : Fin 1024) (y 1 : Fin 1024))

theorem lhs_puts (L : Vec F S1040x1024 .bf16) : put (put L ![0, 0] S16x1024.size (k0_pay4 X.xp X.g)) ![16, 0] S1024x1024.size (k0_pay5 X.x2 X.g) = lhsAll X := by
  funext y
  have hy : (y 0).val < 1040 := (y 0).isLt
  refine (put_rows2 (b := 1040) (c := 1024) (n := 1024) _ 16 _ y).trans ?_
  unfold lhsAll
  by_cases h : (y 0).val < 16
  · rw [dif_neg (by omega), dif_pos h]
    refine (put_rows2 (b := 1040) (c := 1024) (n := 16) L 0 _ y).trans ?_
    rw [dif_pos ⟨Nat.zero_le _, by omega⟩]
    rfl
  · rw [dif_pos ⟨by omega, by omega⟩, dif_neg h]

theorem lhs_window : window (lhsAll X) ![16, 0] S1024x1024.size inb_S1040x1024_S1024x1024_16_0 = k0_pay5 X.x2 X.g := by
  rw [← lhs_puts X (fun _ => Scalar.ofBits .bf16 0#16)]
  exact VecWindow.window_put_same _ _ _ _ _

theorem run_firstCol (K : Code (Elt F) M) : (firstCol hM K).run (st X S) = K.run (st X { S with lhs := lhsAll X, h := k0_pay5 X.x2 X.g }) := by
  unfold firstCol
  simp only [Code.run]
  rw [upd_lhs, upd_lhs, upd_h]
  simp only [st]
  rw [window_whole2 X.xp, window_whole2 X.x2, window_whole2 X.g, lhs_puts, lhs_window]
  congr 2
  congr 1
  funext y
  exact (put_rows2 (b := 1024) (c := 1024) (n := 1024) S.h 0 _ y).trans (dif_pos ⟨Nat.zero_le _, by have : (y 0).val < 1024 := (y 0).isLt; omega⟩)

/-! ## The up-projection -/

/-- The first 528 rows. -/
def top (L : Vec F S1040x1024 .bf16) : Vec F S528x1024 .bf16 := window L ![0, 0] S528x1024.size inb_S1040x1024_S528x1024_0_0
/-- The last 512 rows. -/
def bot (L : Vec F S1040x1024 .bf16) : Vec F S512x1024 .bf16 := window L ![528, 0] S512x1024.size inb_S1040x1024_S512x1024_528_0

/-- The projected rows, with the sixteen before the block. -/
def extAll (L : Vec F S1040x1024 .bf16) : Vec F S2x1040x768 .f32 := fun y =>
  if hy : (y 1).val < 16 then k0_pay20 (k0_pay6 i) (top L) (if (y 0).val = 0 then X.wg else X.wu) (ix3 (0 : Fin 1) (⟨(y 1).val, hy⟩ : Fin 16) (y 2 : Fin 768))
  else if hz : (y 1).val < 528 then k0_pay21 (top L) (if (y 0).val = 0 then X.wg else X.wu) (ix3 (0 : Fin 1) (⟨(y 1).val - 16, by omega⟩ : Fin 512) (y 2 : Fin 768))
  else k0_pay24 (bot L) (if (y 0).val = 0 then X.wg else X.wu) (ix3 (0 : Fin 1) (⟨(y 1).val - 528, by have : (y 1).val < 1040 := (y 1).isLt; omega⟩ : Fin 512) (y 2 : Fin 768))

/-- The projected rows of the block. -/
def pAll (L : Vec F S1040x1024 .bf16) : Vec F S2x1024x768 .bf16 := fun y =>
  if hy : (y 1).val < 512 then k0_pay22 (top L) (if (y 0).val = 0 then X.wg else X.wu) (ix3 (0 : Fin 1) (⟨(y 1).val, hy⟩ : Fin 512) (y 2 : Fin 768))
  else k0_pay25 (bot L) (if (y 0).val = 0 then X.wg else X.wu) (ix3 (0 : Fin 1) (⟨(y 1).val - 512, by have : (y 1).val < 1024 := (y 1).isLt; omega⟩ : Fin 512) (y 2 : Fin 768))

theorem ext_puts (L : Vec F S1040x1024 .bf16) (E : Vec F S2x1040x768 .f32) :
    put (put (put (put (put (put E ![0, 0, 0] S1x16x768.size (k0_pay20 (k0_pay6 i) (top L) X.wg)) ![0, 16, 0] S1x512x768.size (k0_pay21 (top L) X.wg))
      ![1, 0, 0] S1x16x768.size (k0_pay20 (k0_pay6 i) (top L) X.wu)) ![1, 16, 0] S1x512x768.size (k0_pay21 (top L) X.wu))
      ![0, 528, 0] S1x512x768.size (k0_pay24 (bot L) X.wg)) ![1, 528, 0] S1x512x768.size (k0_pay24 (bot L) X.wu) = extAll i X L := by
  funext y
  have h0 : (y 0).val < 2 := (y 0).isLt
  have h1 : (y 1).val < 1040 := (y 1).isLt
  refine (put_rows3 (a := 2) (b := 1040) (c := 768) (n := 512) _ 1 528 _ y).trans ?_
  rw [put_rows3 (a := 2) (b := 1040) (c := 768) (n := 512) _ 0 528 _ y, put_rows3 (a := 2) (b := 1040) (c := 768) (n := 512) _ 1 16 _ y, put_rows3 (a := 2) (b := 1040) (c := 768) (n := 16) _ 1 0 _ y,
    put_rows3 (a := 2) (b := 1040) (c := 768) (n := 512) _ 0 16 _ y, put_rows3 (a := 2) (b := 1040) (c := 768) (n := 16) _ 0 0 _ y]
  unfold extAll
  by_cases hy : (y 1).val < 16
  · rw [dif_neg (by omega), dif_neg (by omega), dif_neg (by omega), dif_pos hy]
    by_cases hh : (y 0).val = 0
    · rw [dif_neg (by omega), dif_neg (by omega), dif_pos ⟨hh, by omega, by omega⟩, if_pos hh]; rfl
    · rw [dif_pos ⟨by omega, by omega, by omega⟩, if_neg hh]; rfl
  · rw [dif_neg hy]
    by_cases hz : (y 1).val < 528
    · rw [dif_neg (by omega), dif_neg (by omega), dif_pos hz]
      by_cases hh : (y 0).val = 0
      · rw [dif_neg (by omega), dif_neg (by omega), dif_pos ⟨hh, by omega, by omega⟩, if_pos hh]
      · rw [dif_pos ⟨by omega, by omega, by omega⟩, if_neg hh]
    · rw [dif_neg hz]
      by_cases hh : (y 0).val = 0
      · rw [dif_neg (by omega), dif_pos ⟨hh, by omega, by omega⟩, if_pos hh]
      · rw [dif_pos ⟨by omega, by omega, by omega⟩, if_neg hh]

theorem p_puts (L : Vec F S1040x1024 .bf16) (P : Vec F S2x1024x768 .bf16) :
    put (put (put (put P ![0, 0, 0] S1x512x768.size (k0_pay22 (top L) X.wg)) ![1, 0, 0] S1x512x768.size (k0_pay22 (top L) X.wu))
      ![0, 512, 0] S1x512x768.size (k0_pay25 (bot L) X.wg)) ![1, 512, 0] S1x512x768.size (k0_pay25 (bot L) X.wu) = pAll X L := by
  funext y
  have h0 : (y 0).val < 2 := (y 0).isLt
  have h1 : (y 1).val < 1024 := (y 1).isLt
  refine (put_rows3 (a := 2) (b := 1024) (c := 768) (n := 512) _ 1 512 _ y).trans ?_
  rw [put_rows3 (a := 2) (b := 1024) (c := 768) (n := 512) _ 0 512 _ y, put_rows3 (a := 2) (b := 1024) (c := 768) (n := 512) _ 1 0 _ y,
    put_rows3 (a := 2) (b := 1024) (c := 768) (n := 512) _ 0 0 _ y]
  unfold pAll
  by_cases hy : (y 1).val < 512
  · rw [dif_neg (by omega), dif_neg (by omega), dif_pos hy]
    by_cases hh : (y 0).val = 0
    · rw [dif_neg (by omega), dif_pos ⟨hh, by omega, by omega⟩, if_pos hh]; rfl
    · rw [dif_pos ⟨by omega, by omega, by omega⟩, if_neg hh]; rfl
  · rw [dif_neg hy]
    by_cases hh : (y 0).val = 0
    · rw [dif_neg (by omega), dif_pos ⟨hh, by omega, by omega⟩, if_pos hh]
    · rw [dif_pos ⟨by omega, by omega, by omega⟩, if_neg hh]

theorem run_up (K : Code (Elt F) M) : (upperG hM i (upperU hM i (lower hM K))).run (st X S) = K.run (st X { S with ext := extAll i X S.lhs, p := pAll X S.lhs }) := by
  unfold upperG upperU lower
  simp only [Code.run, upd_ext, upd_p]
  simp only [st]
  rw [← ext_puts i X S.lhs S.ext, ← p_puts X S.lhs S.p, window_whole3 X.wg, window_whole3 X.wu]
  rfl

/-! ## The chunks -/

/-- Sixteen of the projected rows, from row `r` of the stack that begins sixteen rows before the block. -/
def exRows (L : Vec F S1040x1024 .bf16) (h r : ℕ) (hh : h < 2) (hr : r + 16 ≤ 1040) : Vec F S1x16x768 .f32 := window (extAll i X L) ![h, r, 0] S1x16x768.size (inb_ext hh hr)

/-- The convolution in sixteen rows of the block. -/
def cv (L : Vec F S1040x1024 .bf16) (h r : ℕ) (hh : h < 2) (hr : r + 16 ≤ 1024) : FVec F S16x768 .f32 :=
  conv (exRows i X L h r hh (by omega)) (exRows i X L h (r + 16) hh (by omega)) (tap X h 2 hh (by decide)) (tap X h 0 hh (by decide)) (tap X h 1 hh (by decide))

/-- The gate's product in sixteen rows of the block. -/
def gt (L : Vec F S1040x1024 .bf16) (r : ℕ) (hr : r + 16 ≤ 1024) : FVec F S16x768 .bf16 :=
  gated (cv i X L 0 r (by decide) hr) (exRows i X L 1 r (by decide) (by omega)) (exRows i X L 1 (r + 16) (by decide) (by omega))
    (tap X 1 2 (by decide) (by decide)) (tap X 1 0 (by decide) (by decide)) (tap X 1 1 (by decide) (by decide))

/-- The taps that the scratch holds. -/
def Taps : Prop := ∀ h k (hh : h < 2) (hk : k < 3), window S.tp ![h, k, 0, 0] S1x1x16x768.size (inb_tp hh hk) = tap X h k hh hk

variable {X S}

variable (X) in
/-- What a chunk leaves in the convolution, -/
def uChunk (L : Vec F S1040x1024 .bf16) (r : ℕ) (hr : r + 16 ≤ 1024) (U : Vec F S2x1024x768 .bf16) : Vec F S2x1024x768 .bf16 :=
  put (put U ![0, r, 0] S1x16x768.size (k0_pay36 (cv i X L 0 r (by decide) hr))) ![1, r, 0] S1x16x768.size (k0_pay36 (cv i X L 1 r (by decide) hr))

variable (X) in
/-- and in the gate's product. -/
def actChunk (L : Vec F S1040x1024 .bf16) (r : ℕ) (hr : r + 16 ≤ 1024) (A : Vec F S1024x768 .bf16) : Vec F S1024x768 .bf16 :=
  put A ![r, 0] S16x768.size (gt i X L r hr)

theorem run_chunk {L : Vec F S1040x1024 .bf16} (hT : Taps X S) (hE : S.ext = extAll i X L) (r : ℕ) (hr : r + 16 ≤ 1024) (h2 : 2 ∣ r) (K : FVec F S16x768 .bf16 → Code (Elt F) M) :
    (chunk hM r hr h2 K).run (st X S) = (K (gt i X L r hr)).run (st X { S with u := uChunk i X L r hr S.u, act := actChunk i X L r hr S.act }) := by
  unfold chunk half
  simp only [Code.run]
  rw [upd_u, upd_u, upd_act]
  unfold uChunk actChunk gt cv exRows
  rw [← hE, ← hT 0 0 (by decide) (by decide), ← hT 0 1 (by decide) (by decide), ← hT 0 2 (by decide) (by decide), ← hT 1 0 (by decide) (by decide), ← hT 1 1 (by decide) (by decide),
    ← hT 1 2 (by decide) (by decide)]
  rfl

variable (X) in
/-- What the chunks of a group leave in the convolution, -/
def uChunks (L : Vec F S1040x1024 .bf16) (s : ℕ) (hs : s + 512 ≤ 1024) : (n q : ℕ) → n + q ≤ 32 → Vec F S2x1024x768 .bf16 → Vec F S2x1024x768 .bf16
  | 0, _, _, U => U
  | n + 1, q, h, U => uChunks L s hs n (q + 1) (by omega) (uChunk i X L (s + 16 * q) (by omega) U)

variable (X) in
/-- and in the gate's product. -/
def actChunks (L : Vec F S1040x1024 .bf16) (s : ℕ) (hs : s + 512 ≤ 1024) : (n q : ℕ) → n + q ≤ 32 → Vec F S1024x768 .bf16 → Vec F S1024x768 .bf16
  | 0, _, _, A => A
  | n + 1, q, h, A => actChunks L s hs n (q + 1) (by omega) (actChunk i X L (s + 16 * q) (by omega) A)

variable (X) in
/-- The rows of the gate's product that a group hands to its product. -/
def rowsOf (L : Vec F S1040x1024 .bf16) (s : ℕ) (hs : s + 512 ≤ 1024) (q : ℕ) : FVec F S16x768 .bf16 := if hq : q < 32 then gt i X L (s + 16 * q) (by omega) else noRows

theorem run_chunks {L : Vec F S1040x1024 .bf16} (hT : Taps X S) (hE : S.ext = extAll i X L) (s : ℕ) (hs : s + 512 ≤ 1024) (h2 : 2 ∣ s) (n q : ℕ) (h : n + q ≤ 32) (e : ℕ → FVec F S16x768 .bf16)
    (K : (ℕ → FVec F S16x768 .bf16) → Code (Elt F) M) :
    (chunks hM s hs h2 n q h e K).run (st X S) = (K fun x => if q ≤ x ∧ x < q + n then rowsOf i X L s hs x else e x).run
      (st X { S with u := uChunks i X L s hs n q h S.u, act := actChunks i X L s hs n q h S.act }) := by
  induction n generalizing S q e with
  | zero =>
    unfold chunks uChunks actChunks
    congr 2
    funext x
    rw [if_neg (by omega)]
  | succ n ih =>
    unfold chunks uChunks actChunks
    rw [run_chunk hM i hT hE, ih (S := { S with u := uChunk i X L (s + 16 * q) (by omega) S.u, act := actChunk i X L (s + 16 * q) (by omega) S.act }) hT hE]
    congr 2
    funext x
    by_cases hx : x = q
    · subst hx
      rw [if_neg (by omega), if_pos rfl, if_pos ⟨le_rfl, by omega⟩]
      unfold rowsOf
      rw [dif_pos (by omega)]
    · by_cases hq : q ≤ x ∧ x < q + (n + 1)
      · rw [if_pos ⟨by omega, by omega⟩, if_pos hq]
      · rw [if_neg (by omega), if_neg hx, if_neg hq]

variable (X) in
/-- What a group leaves in the product's accumulator. -/
def accGroup (L : Vec F S1040x1024 .bf16) (s : ℕ) (hs : s + 512 ≤ 1024) (A : Vec F S1024x1024 .f32) : Vec F S1024x1024 .f32 :=
  put A ![s, 0] S512x1024.size (groupPay i (rowsOf i X L s hs) X.wd (window A ![s, 0] S512x1024.size (inb_acc hs)))

theorem groupPay_congr (e e' : ℕ → FVec F S16x768 .bf16) (w old) (h : ∀ q < 32, e q = e' q) : groupPay i e w old = groupPay i e' w old := by
  have hs : stack e = stack e' :=
    (show stack e = stack fun q => if q < 32 then e q else noRows from rfl).trans ((congrArg stack (funext fun q => by
      by_cases hq : q < 32
      · rw [if_pos hq, if_pos hq, h q hq]
      · rw [if_neg hq, if_neg hq])).trans (show (stack fun q => if q < 32 then e' q else noRows) = stack e' from rfl))
  unfold groupPay
  rw [hs]

theorem run_group {L : Vec F S1040x1024 .bf16} (hT : Taps X S) (hE : S.ext = extAll i X L) (s : ℕ) (hs : s + 512 ≤ 1024) (h2 : 2 ∣ s) (e : ℕ → FVec F S16x768 .bf16)
    (K : (ℕ → FVec F S16x768 .bf16) → Code (Elt F) M) :
    ∃ e', (group hM i s hs h2 e K).run (st X S) = (K e').run
      (st X { S with u := uChunks i X L s hs 32 0 le_rfl S.u, act := actChunks i X L s hs 32 0 le_rfl S.act, acc := accGroup i X L s hs S.acc }) := by
  refine ⟨fun x => if 0 ≤ x ∧ x < 0 + 32 then rowsOf i X L s hs x else e x, ?_⟩
  unfold group
  rw [run_chunks hM i hT hE]
  simp only [Code.run]
  rw [upd_acc]
  unfold accGroup
  simp only [st, window_whole2]
  rw [groupPay_congr i _ (rowsOf i X L s hs) _ _ fun q hq => if_pos ⟨Nat.zero_le _, by omega⟩]

/-! ## The convolution and the gate's product of a whole block -/

variable (X) in
/-- The convolution of the block's rows. -/
def uAll (L : Vec F S1040x1024 .bf16) : Vec F S2x1024x768 .bf16 := fun y =>
  if hy : (y 1).val < 1024 then
    k0_pay36 (if (y 0).val = 0 then cv i X L 0 (16 * ((y 1).val / 16)) (by decide) (by omega) else cv i X L 1 (16 * ((y 1).val / 16)) (by decide) (by omega))
      (ix3 (0 : Fin 1) (⟨(y 1).val % 16, by omega⟩ : Fin 16) (y 2 : Fin 768))
  else Scalar.ofBits .bf16 0#16

variable (X) in
/-- The gate's product in the block's rows. -/
def actAll (L : Vec F S1040x1024 .bf16) : Vec F S1024x768 .bf16 := fun y =>
  if hy : (y 0).val < 1024 then gt i X L (16 * ((y 0).val / 16)) (by omega) (ix2 (⟨(y 0).val % 16, by omega⟩ : Fin 16) (y 1 : Fin 768)) else Scalar.ofBits .bf16 0#16

theorem uChunk_apply (L : Vec F S1040x1024 .bf16) (r : ℕ) (hr : r + 16 ≤ 1024) (h16 : r % 16 = 0) (U : Vec F S2x1024x768 .bf16) (y : S2x1024x768.Idx) :
    uChunk i X L r hr U y = if r ≤ (y 1).val ∧ (y 1).val < r + 16 then uAll i X L y else U y := by
  have h0 : (y 0).val < 2 := (y 0).isLt
  have h1 : (y 1).val < 1024 := (y 1).isLt
  unfold uChunk
  refine (put_rows3 (a := 2) (b := 1024) (c := 768) (n := 16) _ 1 r _ y).trans ?_
  rw [put_rows3 (a := 2) (b := 1024) (c := 768) (n := 16) _ 0 r _ y]
  by_cases hy : r ≤ (y 1).val ∧ (y 1).val < r + 16
  · rw [if_pos hy]
    unfold uAll
    rw [dif_pos h1]
    obtain rfl : r = 16 * ((y 1).val / 16) := by omega
    have e' : (⟨(y 1).val - 16 * ((y 1).val / 16), by omega⟩ : Fin 16) = ⟨(y 1).val % 16, by omega⟩ := Fin.ext (by show (y 1).val - 16 * ((y 1).val / 16) = (y 1).val % 16; omega)
    by_cases hh : (y 0).val = 0
    · rw [dif_neg (by omega), dif_pos ⟨hh, hy⟩, if_pos hh, e']
    · rw [dif_pos ⟨by omega, hy⟩, if_neg hh, e']
  · rw [dif_neg fun h => hy h.2, dif_neg fun h => hy h.2, if_neg hy]

theorem actChunk_apply (L : Vec F S1040x1024 .bf16) (r : ℕ) (hr : r + 16 ≤ 1024) (h16 : r % 16 = 0) (A : Vec F S1024x768 .bf16) (y : S1024x768.Idx) :
    actChunk i X L r hr A y = if r ≤ (y 0).val ∧ (y 0).val < r + 16 then actAll i X L y else A y := by
  have h1 : (y 0).val < 1024 := (y 0).isLt
  unfold actChunk
  refine (put_rows2 (b := 1024) (c := 768) (n := 16) A r _ y).trans ?_
  by_cases hy : r ≤ (y 0).val ∧ (y 0).val < r + 16
  · rw [if_pos hy, dif_pos hy]
    unfold actAll
    rw [dif_pos h1]
    obtain rfl : r = 16 * ((y 0).val / 16) := by omega
    exact congrArg (fun q => gt i X L (16 * ((y 0).val / 16)) hr (ix2 (q : Fin 16) (y 1 : Fin 768))) (Fin.ext (by show (y 0).val - 16 * ((y 0).val / 16) = (y 0).val % 16; omega))
  · rw [dif_neg hy, if_neg hy]

theorem uChunks_apply (L : Vec F S1040x1024 .bf16) (s : ℕ) (hs : s + 512 ≤ 1024) (h16 : s % 16 = 0) (n q : ℕ) (h : n + q ≤ 32) (U : Vec F S2x1024x768 .bf16) (y : S2x1024x768.Idx) :
    uChunks i X L s hs n q h U y = if s + 16 * q ≤ (y 1).val ∧ (y 1).val < s + 16 * (q + n) then uAll i X L y else U y := by
  induction n generalizing q U with
  | zero => unfold uChunks; rw [if_neg (by omega)]
  | succ n ih =>
    unfold uChunks
    rw [ih, uChunk_apply _ _ _ _ (by omega)]
    by_cases h1 : s + 16 * (q + 1) ≤ (y 1).val ∧ (y 1).val < s + 16 * (q + 1 + n)
    · rw [if_pos h1, if_pos (by omega)]
    · rw [if_neg h1]
      by_cases h2 : s + 16 * q ≤ (y 1).val ∧ (y 1).val < s + 16 * q + 16
      · rw [if_pos h2, if_pos (by omega)]
      · rw [if_neg h2, if_neg (by omega)]

theorem actChunks_apply (L : Vec F S1040x1024 .bf16) (s : ℕ) (hs : s + 512 ≤ 1024) (h16 : s % 16 = 0) (n q : ℕ) (h : n + q ≤ 32) (A : Vec F S1024x768 .bf16) (y : S1024x768.Idx) :
    actChunks i X L s hs n q h A y = if s + 16 * q ≤ (y 0).val ∧ (y 0).val < s + 16 * (q + n) then actAll i X L y else A y := by
  induction n generalizing q A with
  | zero => unfold actChunks; rw [if_neg (by omega)]
  | succ n ih =>
    unfold actChunks
    rw [ih, actChunk_apply _ _ _ _ (by omega)]
    by_cases h1 : s + 16 * (q + 1) ≤ (y 0).val ∧ (y 0).val < s + 16 * (q + 1 + n)
    · rw [if_pos h1, if_pos (by omega)]
    · rw [if_neg h1]
      by_cases h2 : s + 16 * q ≤ (y 0).val ∧ (y 0).val < s + 16 * q + 16
      · rw [if_pos h2, if_pos (by omega)]
      · rw [if_neg h2, if_neg (by omega)]

theorem uChunks_all (L : Vec F S1040x1024 .bf16) (U : Vec F S2x1024x768 .bf16) :
    uChunks i X L 512 (by decide) 32 0 le_rfl (uChunks i X L 0 (by decide) 32 0 le_rfl U) = uAll i X L := by
  funext y
  have h1 : (y 1).val < 1024 := (y 1).isLt
  rw [uChunks_apply _ _ _ _ (by decide), uChunks_apply _ _ _ _ (by decide)]
  by_cases h : 512 + 16 * 0 ≤ (y 1).val ∧ (y 1).val < 512 + 16 * (0 + 32)
  · rw [if_pos h]
  · rw [if_neg h, if_pos (by omega)]

theorem actChunks_all (L : Vec F S1040x1024 .bf16) (A : Vec F S1024x768 .bf16) :
    actChunks i X L 512 (by decide) 32 0 le_rfl (actChunks i X L 0 (by decide) 32 0 le_rfl A) = actAll i X L := by
  funext y
  have h1 : (y 0).val < 1024 := (y 0).isLt
  rw [actChunks_apply _ _ _ _ (by decide), actChunks_apply _ _ _ _ (by decide)]
  by_cases h : 512 + 16 * 0 ≤ (y 0).val ∧ (y 0).val < 512 + 16 * (0 + 32)
  · rw [if_pos h]
  · rw [if_neg h, if_pos (by omega)]

/-! ## The whole body -/

variable (X) in
/-- What one point leaves in the product's accumulator. -/
def accAll (L : Vec F S1040x1024 .bf16) (A : Vec F S1024x1024 .f32) : Vec F S1024x1024 .f32 := accGroup i X L 512 (by decide) (accGroup i X L 0 (by decide) A)

variable (X) in
/-- The state after the chunks. -/
def midSt (S : Outs F) : Outs F :=
  { S with ext := extAll i X S.lhs, p := pAll X S.lhs, u := uAll i X S.lhs, act := actAll i X S.lhs, acc := accAll i X S.lhs S.acc }

variable (X) in
/-- The state after one point. -/
def bodySt (S : Outs F) : Outs F :=
  let S0 : Outs F := { S with tp := tapsOf X S.tp }
  let S1 : Outs F := if k0_cond1 i = 1#1 then { S0 with lhs := lhsAll X, h := k0_pay5 X.x2 X.g } else S0
  let S2 := midSt i X S1
  if k0_cond2 i = 1#1 then { S2 with x3 := k0_pay3 X.x2 S2.acc } else S2

theorem run_rest (hT : Taps X S) : (rest hM i).run (st X S) = st X (let S2 := midSt i X S
    if k0_cond2 i = 1#1 then { S2 with x3 := k0_pay3 X.x2 S2.acc } else S2) := by
  unfold rest
  rw [run_up]
  obtain ⟨e1, h1⟩ := run_group (M := M) (X := X) (S := { S with ext := extAll i X S.lhs, p := pAll X S.lhs }) hM i hT rfl 0 (by decide) (by decide) (fun _ => noRows)
    (fun e => group hM i 512 (by decide) (by decide) e fun _ => .branch (k0_cond2 i = 1#1) lastCol .halt)
  rw [h1]
  obtain ⟨e2, h2⟩ := run_group (M := M) (X := X) (S := { S with ext := extAll i X S.lhs, p := pAll X S.lhs, u := uChunks i X S.lhs 0 (by decide) 32 0 le_rfl S.u, act := actChunks i X S.lhs 0 (by decide) 32 0 le_rfl S.act, acc := accGroup i X S.lhs 0 (by decide) S.acc })
    hM i hT rfl 512 (by decide) (by decide) e1 (fun _ => .branch (k0_cond2 i = 1#1) lastCol .halt)
  rw [h2, uChunks_all, actChunks_all]
  simp only [Code.run]
  by_cases hc : k0_cond2 i = 1#1
  · rw [if_pos hc]
    simp only [if_pos hc]
    unfold lastCol
    simp only [Code.run]
    rw [upd_x3]
    simp only [st]
    rw [window_whole2 X.x2, window_whole2]
    congr 1
    have hp (D w : Vec F S1024x1024 .f32) : put D ![0, 0] S1024x1024.size w = w := by
      funext y
      exact (put_rows2 (b := 1024) (c := 1024) (n := 1024) D 0 w y).trans ((dif_pos ⟨Nat.zero_le _, by have : (y 0).val < 1024 := (y 0).isLt; omega⟩).trans (congrArg w (funext fun a => by fin_cases a <;> rfl)))
    rw [hp]
    rfl
  · rw [if_neg hc]
    simp only [if_neg hc]
    rfl

/-- What one point leaves. -/
theorem run_body : (body hM i).run (st X S) = st X (bodySt i X S) := by
  unfold body bodySt
  rw [run_spread, run_spread, run_spread, run_spread, run_spread, run_spread]
  unfold cols
  simp only [Code.run]
  have hT (S' : Outs F) (h : S'.tp = tapsOf X S.tp) : Taps X S' := fun h' k hh hk => by rw [h]; exact window_tapsOf X S.tp h' k hh hk
  by_cases hc : k0_cond1 i = 1#1
  · simp only [if_pos hc]
    rw [run_firstCol, run_rest hM i (hT _ rfl)]
    rfl
  · simp only [if_neg hc]
    rw [run_rest hM i (hT _ rfl)]
    rfl

end Cert.FwdKernelIdeal.Body

end
-- ==== Proof.Fwd.Spec.lean ====
/- The feed-forward block, entry by entry: the norm, the up-projection, the convolution of three taps along the rows, the gate and the down-projection. -/
module

public import Idealize.ShloMosaic.Lib.Pointwise
public import Idealize.ShloMosaic.Lib.Claim

@[expose] public section

noncomputable section

namespace Cert.Fwd

open Idealize.ShloMosaic

/-- The arrays of one device, by their positions: the residual stream's rows, the norm's scale, the up-projection, the taps and the down-projection. -/
structure In where
  x : ℕ → ℕ → EReal
  g : ℕ → EReal
  w : ℕ → ℕ → EReal
  cw : ℕ → ℕ → EReal
  wd : ℕ → ℕ → EReal

/-- The reciprocal root of a row's mean square. -/
def scale (x : Fin 1024 → EReal) : EReal :=
  Ideal.rsqrt (Ideal.div (∑ k, x k * x k) (Ideal.ofBits .f32 0x44800000#32) + Ideal.ofBits .f32 0x358637BD#32)

/-- A row times that, times the norm's scale. -/
def rms (x g : Fin 1024 → EReal) (e : Fin 1024) : EReal := x e * scale x * g e

variable (A : In)

/-- The normalised row. -/
def normed (s : ℕ) (e : Fin 1024) : EReal := rms (fun k => A.x s k.val) (fun k => A.g k.val) e

/-- Its up-projection. -/
def p (s f : ℕ) : EReal := ∑ e : Fin 1024, normed A s e * A.w e.val f

/-- The up-projection with sixteen rows of zeros before it. -/
def pz (s f : ℕ) : EReal := if s < 16 then 0 else p A (s - 16) f

/-- The convolution along the rows: each row, the one before it and the one before that. -/
def u (s f : ℕ) : EReal := A.cw 2 f * pz A (s + 16) f + A.cw 0 f * pz A (s + 14) f + A.cw 1 f * pz A (s + 15) f

/-- The gate's function. -/
def gelu (v : EReal) : EReal :=
  Ideal.ofBits .f32 0x3F000000#32 * v * (1 + Ideal.tanh (Ideal.ofBits .f32 0x3F4C422A#32 * (v + Ideal.ofBits .f32 0x3D372713#32 * v * v * v)))

/-- The gated product. -/
def act (s f : ℕ) : EReal := gelu (u A s f) * u A s (3072 + f)

/-- The first `n` terms of its down-projection. -/
def down (n s e : ℕ) : EReal := ∑ f ∈ Finset.range n, act A s f * A.wd f e

/-- The block's result. -/
def out (s e : ℕ) : EReal := A.x s e + down A 3072 s e

theorem down_add (a b s e : ℕ) : down A (a + b) s e = down A a s e + ∑ l : Fin b, act A s (a + l.val) * A.wd (a + l.val) e := by
  unfold down
  rw [Finset.sum_range_add, Finset.sum_range (n := b)]

/-! The kernel's results over the whole arrays. -/

def oX : (⟨2, ![4096, 1024]⟩ : Shape).Idx → EReal := fun i => out A (i 0).val (i 1).val
def oH : (⟨2, ![4096, 1024]⟩ : Shape).Idx → EReal := fun i => normed A (i 0).val (i 1)
def oAct : (⟨2, ![4096, 3072]⟩ : Shape).Idx → EReal := fun i => act A (i 0).val (i 1).val
def oP : (⟨3, ![2, 4096, 3072]⟩ : Shape).Idx → EReal := fun i => p A (i 1).val (3072 * (i 0).val + (i 2).val)
def oU : (⟨3, ![2, 4096, 3072]⟩ : Shape).Idx → EReal := fun i => u A (i 1).val (3072 * (i 0).val + (i 2).val)

end Cert.Fwd

end
-- ==== Proof.Fwd.Read.lean ====
/- The payloads of the feed-forward block's forward kernel, read at an index over the extended reals. -/
module

public import proofs.«01_k».proof.Proof.Fwd.Eval
public import proofs.«01_k».proof.Proof.Fwd.Spec
public import Idealize.ShloMosaic.Lib.KernelVsHost

@[expose] public section

set_option maxRecDepth 16384

noncomputable section

namespace Cert.FwdKernelIdeal.Body

open Idealize.ShloMosaic Idealize.SL.Sem Cert.Straight Cert.Windows Cert.FwdKernelIdeal.Gen Cert.Fwd
open VecWindow (window put)

theorem pay3_apply (x y : Vec Ideal S1024x1024 .f32) (r l : Fin 1024) : k0_pay3 x y (ix2 r l) = ((x (ix2 r l) : EReal) + (y (ix2 r l) : EReal) : EReal) := by
  pointwise [k0_pay3]

theorem pay4_apply (x : Vec Ideal S16x1024 .f32) (g : Vec Ideal S1x1024 .f32) (r : Fin 16) (l : Fin 1024) :
    (k0_pay4 (F := Ideal) x g (ix2 r l) : EReal) = rms (fun k => x (ix2 r k)) (fun k => g (ix2 0 k)) l := by
  pointwise [k0_pay4]; rfl

theorem pay5_apply (x : Vec Ideal S1024x1024 .f32) (g : Vec Ideal S1x1024 .f32) (r l : Fin 1024) :
    (k0_pay5 (F := Ideal) x g (ix2 r l) : EReal) = rms (fun k => x (ix2 r k)) (fun k => g (ix2 0 k)) l := by
  pointwise [k0_pay5]; rfl

theorem pay7_apply (v : Vec Ideal S1x1x768 .f32) (q : Fin 16) (l : Fin 768) : k0_pay7 v (ix4 0 0 q l) = v (ix3 0 0 l) := by
  pointwise [k0_pay7]

theorem wzero : Ideal.ofBits .f32 0x00000000#32 = (0 : EReal) := by simp [Ideal.ofBits, Ideal.ieee]
theorem wone : Ideal.ofBits .f32 0x3F800000#32 = (1 : EReal) := by
  simp [Ideal.ofBits, Ideal.ieee]; rw [← EReal.coe_mul, ← EReal.coe_one]; norm_num

/-- The rows before the block count but before the first. -/
theorem pay6_eq (i : grid0.Coords) : k0_pay6 (F := Ideal) i = if (i 0).val = 0 then (0 : EReal) else (1 : EReal) := by
  have hb : Scalar.cmpi .eq (BitVec.ofNat 32 (i 0).val) 0#32 = if (i 0).val = 0 then 1#1 else 0#1 := by
    have h : ∀ k : Fin 4, Scalar.cmpi .eq (BitVec.ofNat 32 k.val) 0#32 = if k.val = 0 then 1#1 else 0#1 := by decide
    exact h (i 0)
  show Scalar.select (Scalar.cmpi .eq (BitVec.ofNat 32 (i 0).val) 0#32) (Ideal.ofBits .f32 0x00000000#32) (Ideal.ofBits .f32 0x3F800000#32) = _
  rw [hb]
  by_cases h : (i 0).val = 0
  · rw [if_pos h, if_pos h]; exact wzero
  · rw [if_neg h, if_neg h]; exact wone

/-- A row's projection on a column. -/
def rowDot {n : ℕ} (L : (⟨2, ![n, 1024]⟩ : Shape).Idx → EReal) (w : Vec Ideal S1x1024x768 .bf16) (r : Fin n) (l : Fin 768) : EReal :=
  ∑ e : Fin 1024, L (ix2 r e) * (w (ix3 0 e l) : EReal)

theorem pay20_apply (s : Ideal .f32) (L : Vec Ideal S528x1024 .bf16) (w : Vec Ideal S1x1024x768 .bf16) (r : Fin 16) (l : Fin 768) :
    k0_pay20 s L w (ix3 0 r l) = (rowDot L w ⟨r.val, by omega⟩ l * s : EReal) := by
  pointwise [k0_pay20, k0_pay19]; rfl

theorem pay21_apply (L : Vec Ideal S528x1024 .bf16) (w : Vec Ideal S1x1024x768 .bf16) (r : Fin 512) (l : Fin 768) :
    k0_pay21 L w (ix3 0 r l) = (rowDot L w ⟨16 + r.val, by omega⟩ l : EReal) := by
  pointwise [k0_pay21, k0_pay19]; rfl

theorem pay22_apply (L : Vec Ideal S528x1024 .bf16) (w : Vec Ideal S1x1024x768 .bf16) (r : Fin 512) (l : Fin 768) :
    k0_pay22 L w (ix3 0 r l) = (rowDot L w ⟨16 + r.val, by omega⟩ l : EReal) := by
  pointwise [k0_pay22, k0_pay19]; rfl

theorem pay24_apply (L : Vec Ideal S512x1024 .bf16) (w : Vec Ideal S1x1024x768 .bf16) (r : Fin 512) (l : Fin 768) :
    k0_pay24 L w (ix3 0 r l) = (rowDot L w r l : EReal) := by
  pointwise [k0_pay24, k0_pay23]; rfl

theorem pay25_apply (L : Vec Ideal S512x1024 .bf16) (w : Vec Ideal S1x1024x768 .bf16) (r : Fin 512) (l : Fin 768) :
    k0_pay25 L w (ix3 0 r l) = (rowDot L w r l : EReal) := by
  pointwise [k0_pay25, k0_pay23]; rfl

theorem pay36_apply (v : FVec Ideal S16x768 .f32) (q : Fin 16) (l : Fin 768) : (k0_pay36 v (ix3 0 q l) : EReal) = v (ix2 q l) := by
  pointwise [k0_pay36]

/-- A row of the sixteen before and the sixteen here, `k` rows back. -/
def back (a b : Vec Ideal S1x16x768 .f32) (k : ℕ) (q : Fin 16) (l : Fin 768) : EReal :=
  if h : q.val + k < 16 then a (ix3 0 ⟨q.val + k, h⟩ l) else b (ix3 0 ⟨(q.val + k - 16) % 16, Nat.mod_lt _ (by decide)⟩ l)

theorem conv_apply (a b : Vec Ideal S1x16x768 .f32) (t2 t0 t1 : Vec Ideal S1x1x16x768 .f32) (q : Fin 16) (l : Fin 768) :
    conv a b t2 t0 t1 (ix2 q l) = ((t2 (ix4 0 0 q l) : EReal) * (b (ix3 0 q l) : EReal) + (t0 (ix4 0 0 q l) : EReal) * back a b 14 q l
      + (t1 (ix4 0 0 q l) : EReal) * back a b 15 q l : EReal) := by
  unfold conv
  pointwise [k0_pay31, k0_pay29, k0_pay30]
  refine congrArg₂ (· + ·) (congrArg₂ (· + ·) rfl (congrArg _ ?_)) (congrArg _ ?_)
  · unfold back
    by_cases h : q.val + 14 < 16
    · rw [dif_pos h, dif_pos (by omega)]
      exact congrArg (fun k => a (ix3 0 k l)) (Fin.ext (by show (q.val + 32 - 18) % 32 = q.val + 14; omega))
    · rw [dif_neg h, dif_neg (by omega)]
      exact congrArg (fun k => b (ix3 0 k l)) (Fin.ext (by show (q.val + 32 - 18) % 32 - 16 = (q.val + 14 - 16) % 16; omega))
  · unfold back
    by_cases h : q.val + 15 < 16
    · rw [dif_pos h, dif_pos (by omega)]
      exact congrArg (fun k => a (ix3 0 k l)) (Fin.ext (by show (q.val + 32 - 17) % 32 = q.val + 15; omega))
    · rw [dif_neg h, dif_neg (by omega)]
      exact congrArg (fun k => b (ix3 0 k l)) (Fin.ext (by show (q.val + 32 - 17) % 32 - 16 = (q.val + 15 - 16) % 16; omega))

theorem gated_apply (v : FVec Ideal S16x768 .f32) (a b : Vec Ideal S1x16x768 .f32) (t2 t0 t1 : Vec Ideal S1x1x16x768 .f32) (q : Fin 16) (l : Fin 768) :
    (gated v a b t2 t0 t1 (ix2 q l) : EReal) = gelu (v (ix2 q l)) * conv a b t2 t0 t1 (ix2 q l) := by
  have e : k0_pay35 (k0_pay32 a) (k0_pay33 b) (k0_pay34 a b t2 t0) t1 = conv a b t2 t0 t1 := rfl
  unfold gated k0_pay38
  rw [e]
  generalize conv a b t2 t0 t1 = z
  pointwise []
  rfl

/-- Thirty-two pieces of sixteen rows one after the other. -/
theorem concat32_apply (f : Fin 32 → FVec Ideal S16x768 .bf16) (h) (r : Fin 512) (l : Fin 768) :
    concatenate S512x768 0 (List.ofFn fun k : Fin 32 => (⟨S16x768, f k⟩ : (s : Shape) × (s.Idx → Ideal .bf16))) h (ix2 r l)
      = f ⟨r.val / 16, by omega⟩ (ix2 ⟨r.val % 16, by omega⟩ l) :=
  concatenate_ofFn_apply (α := Ideal .bf16) 0 f h rfl 16 rfl (ix2 r l) ⟨r.val / 16, by omega⟩ rfl (ix2 ⟨r.val % 16, by omega⟩ l) rfl fun b hb => by
    fin_cases b
    · exact absurd rfl hb
    · rfl

/-- A product and an addend, read at an index. -/
theorem prod_apply (C : FVec Ideal S512x768 .bf16) (w : Vec Ideal S768x1024 .bf16) (i : BitVec 32) (old : Vec Ideal S512x1024 .f32) (r : Fin 512) (c : Fin 1024) :
    k0_pay2 i C w old (ix2 r c) = ((∑ l, (C (ix2 r l) : EReal) * (w (ix2 l c) : EReal))
      + (Scalar.select (Scalar.cmpi .sgt i 0#32) old (broadcast S512x1024 (FloatOps.ofBits (F := Ideal) .f32 0x00000000#32)) (ix2 r c) : EReal) : EReal) := by
  pointwise [k0_pay2]

/-- A group's product: its rows times the down-projection's, added to what was there but at the first column of blocks. -/
theorem groupPay_apply (i : grid0.Coords) (e : ℕ → FVec Ideal S16x768 .bf16) (w : Vec Ideal S768x1024 .bf16) (old : Vec Ideal S512x1024 .f32)
    (r : Fin 512) (c : Fin 1024) : groupPay i e w old (ix2 r c)
      = ((∑ l, (e (r.val / 16) (ix2 ⟨r.val % 16, by omega⟩ l) : EReal) * (w (ix2 l c) : EReal))
        + (if (i 1).val = 0 then (0 : EReal) else (old (ix2 r c) : EReal)) : EReal) := by
  have hb : Scalar.cmpi .sgt (BitVec.ofNat 32 (i 1).val) 0#32 = if (i 1).val = 0 then 0#1 else 1#1 := by
    have h : ∀ k : Fin 4, Scalar.cmpi .sgt (BitVec.ofNat 32 k.val) 0#32 = if k.val = 0 then 0#1 else 1#1 := by decide
    exact h (i 1)
  have e1 (h) (l : Fin 768) := concat32_apply (fun k => e k.val) h r l
  unfold groupPay
  refine (prod_apply _ _ _ _ _ _).trans ?_
  rw [hb]
  refine congrArg₂ (· + ·) (Finset.sum_congr rfl fun l _ => congrArg (· * (w (ix2 l c) : EReal)) (e1 _ l)) ?_
  by_cases h : (i 1).val = 0
  · rw [if_pos h, if_pos h]; exact wzero
  · rw [if_neg h, if_neg h]; rfl

end Cert.FwdKernelIdeal.Body

end
-- ==== Proof.Fwd.Values.lean ====
/- What one point of the feed-forward block's forward kernel computes, where its buffers hold the arrays' blocks. -/
module

public import proofs.«01_k».proof.Proof.Fwd.Read

@[expose] public section

set_option maxRecDepth 16384

noncomputable section

namespace Cert.FwdKernelIdeal.Body

open Idealize.ShloMosaic Idealize.SL.Sem Cert.Straight Cert.Windows Cert.FwdKernelIdeal.Gen Cert.Fwd
open VecWindow (window put)

/-- The buffers hold the blocks of point `i`: its 1024 rows, the sixteen before them, its 768 columns of either half. -/
structure BlockOf (A : In) (i : grid0.Coords) (X : Ins Ideal) : Prop where
  x2 : ∀ (r l : Fin 1024), (X.x2 (ix2 r l) : EReal) = A.x (1024 * (i 0).val + r.val) l.val
  xp : ∀ (r : Fin 16) (l : Fin 1024), (i 0).val ≠ 0 → (X.xp (ix2 r l) : EReal) = A.x (1024 * (i 0).val + r.val - 16) l.val
  g : ∀ l : Fin 1024, (X.g (ix2 0 l) : EReal) = A.g l.val
  wg : ∀ (e : Fin 1024) (l : Fin 768), (X.wg (ix3 0 e l) : EReal) = A.w e.val (3072 * 0 + (768 * (i 1).val + l.val))
  wu : ∀ (e : Fin 1024) (l : Fin 768), (X.wu (ix3 0 e l) : EReal) = A.w e.val (3072 * 1 + (768 * (i 1).val + l.val))
  fw : ∀ (h : Fin 2) (k : Fin 3) (l : Fin 768), (X.fw (ix3 h k l) : EReal) = A.cw k.val (3072 * h.val + (768 * (i 1).val + l.val))
  wd : ∀ (l : Fin 768) (e : Fin 1024), (X.wd (ix2 l e) : EReal) = A.wd (768 * (i 1).val + l.val) e.val

/-- The scratch holds the normalised rows. -/
def LhsOf (A : In) (i : grid0.Coords) (L : Vec Ideal S1040x1024 .bf16) : Prop :=
  ∀ (r : Fin 1040) (l : Fin 1024), 16 ≤ 1024 * (i 0).val + r.val → (L (ix2 r l) : EReal) = normed A (1024 * (i 0).val + r.val - 16) l

variable {A : In} {i : grid0.Coords} {X : Ins Ideal} {L : Vec Ideal S1040x1024 .bf16}

theorem h_of (hB : BlockOf A i X) (r l : Fin 1024) : (k0_pay5 X.x2 X.g (ix2 r l) : EReal) = normed A (1024 * (i 0).val + r.val) l := by
  refine (pay5_apply _ _ _ _).trans ?_
  simp only [hB.x2, hB.g]
  rfl

theorem lhs_of (hB : BlockOf A i X) : LhsOf A i (lhsAll X) := fun r l h => by
  unfold lhsAll
  by_cases hr : r.val < 16
  · refine (dif_pos (c := ((ix2 r l : S1040x1024.Idx) 0).val < 16) hr).trans ((pay4_apply _ _ _ _).trans ?_)
    simp only [hB.xp _ _ (by omega : (i 0).val ≠ 0), hB.g]
    rfl
  · refine (dif_neg (c := ((ix2 r l : S1040x1024.Idx) 0).val < 16) hr).trans ((h_of hB _ _).trans ?_)
    exact congrArg (fun s => normed A s l) (by show 1024 * (i 0).val + (r.val - 16) = 1024 * (i 0).val + r.val - 16; omega)

/-- A row's projection. -/
theorem rowDot_of {n : ℕ} {M : (⟨2, ![n, 1024]⟩ : Shape).Idx → EReal} {w : Vec Ideal S1x1024x768 .bf16} {r : Fin n} {l : Fin 768} {s f : ℕ}
    (hM : ∀ e, M (ix2 r e) = normed A s e) (hw : ∀ e : Fin 1024, (w (ix3 0 e l) : EReal) = A.w e.val f) : rowDot M w r l = p A s f := by
  unfold rowDot
  simp only [hM, hw]
  rfl

theorem w_of (hB : BlockOf A i X) (h : Fin 2) (e : Fin 1024) (l : Fin 768) :
    ((if h.val = 0 then X.wg else X.wu) (ix3 0 e l) : EReal) = A.w e.val (3072 * h.val + (768 * (i 1).val + l.val)) := by
  fin_cases h
  · exact hB.wg e l
  · exact hB.wu e l

theorem top_of (hL : LhsOf A i L) (q : Fin 528) (s : ℕ) (hs : 1024 * (i 0).val + q.val = s + 16) (e : Fin 1024) : (top L (ix2 q e) : EReal) = normed A s e := by
  refine (window_rows2 (n := 528) L 0 _ q e (by omega)).trans ((hL _ _ (by show 16 ≤ 1024 * (i 0).val + (0 + q.val); omega)).trans ?_)
  exact congrArg (fun s => normed A s e) (by show 1024 * (i 0).val + (0 + q.val) - 16 = s; omega)

theorem bot_of (hL : LhsOf A i L) (q : Fin 512) (s : ℕ) (hs : 1024 * (i 0).val + 512 + q.val = s) (e : Fin 1024) : (bot L (ix2 q e) : EReal) = normed A s e := by
  refine (window_rows2 (n := 512) L 528 _ q e (by omega)).trans ((hL _ _ (by show 16 ≤ 1024 * (i 0).val + (528 + q.val); omega)).trans ?_)
  exact congrArg (fun s => normed A s e) (by show 1024 * (i 0).val + (528 + q.val) - 16 = s; omega)

/-- The projected rows, the sixteen before the block first. -/
theorem ext_of (hB : BlockOf A i X) (hL : LhsOf A i L) (h : Fin 2) (r : Fin 1040) (l : Fin 768) :
    (extAll i X L (ix3 h r l) : EReal) = pz A (1024 * (i 0).val + r.val) (3072 * h.val + (768 * (i 1).val + l.val)) := by
  unfold extAll
  by_cases hr : r.val < 16
  · refine (dif_pos (c := ((ix3 h r l : S2x1040x768.Idx) 1).val < 16) hr).trans
      ((pay20_apply (k0_pay6 i) (top L) (if h.val = 0 then X.wg else X.wu) ⟨r.val, hr⟩ l).trans ?_)
    by_cases h0 : (i 0).val = 0
    · have hk : k0_pay6 (F := Ideal) i = (0 : EReal) := (pay6_eq i).trans (if_pos h0)
      rw [hk]
      exact (mul_zero _).trans (if_pos (by omega)).symm
    · have hk : k0_pay6 (F := Ideal) i = (1 : EReal) := (pay6_eq i).trans (if_neg h0)
      rw [hk]
      refine (mul_one _).trans (Eq.trans ?_ (if_neg (by omega : ¬1024 * (i 0).val + r.val < 16)).symm)
      exact rowDot_of (fun e => top_of hL ⟨r.val, by omega⟩ _ (by show 1024 * (i 0).val + r.val = 1024 * (i 0).val + r.val - 16 + 16; omega) e) fun e => w_of hB h e l
  · refine (dif_neg (c := ((ix3 h r l : S2x1040x768.Idx) 1).val < 16) hr).trans (Eq.trans ?_ (if_neg (by omega : ¬1024 * (i 0).val + r.val < 16)).symm)
    by_cases h2 : r.val < 528
    · refine (dif_pos (c := ((ix3 h r l : S2x1040x768.Idx) 1).val < 528) h2).trans
        ((pay21_apply (top L) (if h.val = 0 then X.wg else X.wu) ⟨r.val - 16, by omega⟩ l).trans ?_)
      exact rowDot_of (fun e => top_of hL ⟨16 + (r.val - 16), by omega⟩ _ (by show 1024 * (i 0).val + (16 + (r.val - 16)) = 1024 * (i 0).val + r.val - 16 + 16; omega) e)
        fun e => w_of hB h e l
    · refine (dif_neg (c := ((ix3 h r l : S2x1040x768.Idx) 1).val < 528) h2).trans
        ((pay24_apply (bot L) (if h.val = 0 then X.wg else X.wu) ⟨r.val - 528, by omega⟩ l).trans ?_)
      exact rowDot_of (fun e => bot_of hL ⟨r.val - 528, by omega⟩ _ (by show 1024 * (i 0).val + 512 + (r.val - 528) = 1024 * (i 0).val + r.val - 16; omega) e) fun e => w_of hB h e l

theorem p_of (hB : BlockOf A i X) (hL : LhsOf A i L) (h : Fin 2) (r : Fin 1024) (l : Fin 768) :
    (pAll X L (ix3 h r l) : EReal) = p A (1024 * (i 0).val + r.val) (3072 * h.val + (768 * (i 1).val + l.val)) := by
  unfold pAll
  by_cases hr : r.val < 512
  · refine (dif_pos (c := ((ix3 h r l : S2x1024x768.Idx) 1).val < 512) hr).trans ((pay22_apply (top L) (if h.val = 0 then X.wg else X.wu) ⟨r.val, hr⟩ l).trans ?_)
    exact rowDot_of (fun e => top_of hL ⟨16 + r.val, by omega⟩ _ (by show 1024 * (i 0).val + (16 + r.val) = 1024 * (i 0).val + r.val + 16; omega) e) fun e => w_of hB h e l
  · refine (dif_neg (c := ((ix3 h r l : S2x1024x768.Idx) 1).val < 512) hr).trans ((pay25_apply (bot L) (if h.val = 0 then X.wg else X.wu) ⟨r.val - 512, by omega⟩ l).trans ?_)
    exact rowDot_of (fun e => bot_of hL ⟨r.val - 512, by omega⟩ _ (by show 1024 * (i 0).val + 512 + (r.val - 512) = 1024 * (i 0).val + r.val; omega) e) fun e => w_of hB h e l

theorem tap_of (hB : BlockOf A i X) (h : Fin 2) (k : Fin 3) (q : Fin 16) (l : Fin 768) :
    (tap X h.val k.val h.isLt k.isLt (ix4 0 0 q l) : EReal) = A.cw k.val (3072 * h.val + (768 * (i 1).val + l.val)) := by
  unfold tap
  refine (pay7_apply _ _ _).trans ((window_rows3 (n := 1) X.fw h.val k.val _ 0 l h.isLt (by show k.val + 0 < 3; omega)).trans ?_)
  exact hB.fw h k l

theorem exRows_of (hB : BlockOf A i X) (hL : LhsOf A i L) (h : Fin 2) (r : ℕ) (hr : r + 16 ≤ 1040) (q : Fin 16) (l : Fin 768) :
    (exRows i X L h.val r h.isLt hr (ix3 0 q l) : EReal) = pz A (1024 * (i 0).val + (r + q.val)) (3072 * h.val + (768 * (i 1).val + l.val)) := by
  unfold exRows
  exact (window_rows3 (n := 16) (extAll i X L) h.val r _ q l h.isLt (by omega)).trans (ext_of hB hL h _ l)

theorem back_of (hB : BlockOf A i X) (hL : LhsOf A i L) (h : Fin 2) (r : ℕ) (hr : r + 16 ≤ 1024) (k : ℕ) (hk : k < 16) (q : Fin 16) (l : Fin 768) :
    back (exRows i X L h.val r h.isLt (by omega)) (exRows i X L h.val (r + 16) h.isLt (by omega)) k q l
      = pz A (1024 * (i 0).val + (r + q.val) + k) (3072 * h.val + (768 * (i 1).val + l.val)) := by
  unfold back
  by_cases hq : q.val + k < 16
  · rw [dif_pos hq]
    refine (exRows_of hB hL h r _ _ l).trans (congrArg (fun s => pz A s _) ?_)
    show 1024 * (i 0).val + (r + (q.val + k)) = _; omega
  · rw [dif_neg hq]
    refine (exRows_of hB hL h (r + 16) _ _ l).trans (congrArg (fun s => pz A s _) ?_)
    show 1024 * (i 0).val + (r + 16 + (q.val + k - 16) % 16) = _; omega

theorem cv_of (hB : BlockOf A i X) (hL : LhsOf A i L) (h : Fin 2) (r : ℕ) (hr : r + 16 ≤ 1024) (q : Fin 16) (l : Fin 768) :
    (cv i X L h.val r h.isLt hr (ix2 q l) : EReal) = u A (1024 * (i 0).val + (r + q.val)) (3072 * h.val + (768 * (i 1).val + l.val)) := by
  unfold cv
  refine (conv_apply _ _ _ _ _ _ _).trans ?_
  unfold u
  refine congrArg₂ (· + ·) (congrArg₂ (· + ·) (congrArg₂ (· * ·) (tap_of hB h 2 q l) ((exRows_of hB hL h (r + 16) (by omega) q l).trans (congrArg (fun s => pz A s _) (by omega))))
    (congrArg₂ (· * ·) (tap_of hB h 0 q l) (back_of hB hL h r hr 14 (by decide) q l))) (congrArg₂ (· * ·) (tap_of hB h 1 q l) (back_of hB hL h r hr 15 (by decide) q l))

theorem gt_of (hB : BlockOf A i X) (hL : LhsOf A i L) (r : ℕ) (hr : r + 16 ≤ 1024) (q : Fin 16) (l : Fin 768) :
    (gt i X L r hr (ix2 q l) : EReal) = act A (1024 * (i 0).val + (r + q.val)) (768 * (i 1).val + l.val) := by
  unfold gt
  refine (gated_apply _ _ _ _ _ _ _ _).trans ?_
  unfold act
  refine congrArg₂ (· * ·) (congrArg gelu ((cv_of hB hL 0 r hr q l).trans (congrArg (u A _) ?_))) (cv_of hB hL 1 r hr q l)
  show 3072 * 0 + (768 * (i 1).val + l.val) = _; omega

theorem act_of (hB : BlockOf A i X) (hL : LhsOf A i L) (r : Fin 1024) (l : Fin 768) :
    (actAll i X L (ix2 r l) : EReal) = act A (1024 * (i 0).val + r.val) (768 * (i 1).val + l.val) := by
  unfold actAll
  refine (dif_pos (c := ((ix2 r l : S1024x768.Idx) 0).val < 1024) r.isLt).trans ((gt_of hB hL _ _ _ _).trans (congrArg (fun s => act A s _) ?_))
  show 1024 * (i 0).val + (16 * (r.val / 16) + r.val % 16) = _; omega

theorem u_of (hB : BlockOf A i X) (hL : LhsOf A i L) (h : Fin 2) (r : Fin 1024) (l : Fin 768) :
    (uAll i X L (ix3 h r l) : EReal) = u A (1024 * (i 0).val + r.val) (3072 * h.val + (768 * (i 1).val + l.val)) := by
  unfold uAll
  refine (dif_pos (c := ((ix3 h r l : S2x1024x768.Idx) 1).val < 1024) r.isLt).trans ((pay36_apply _ _ _).trans ?_)
  have e (h : Fin 2) : (cv i X L h.val (16 * (r.val / 16)) h.isLt (by omega) (ix2 ⟨r.val % 16, by omega⟩ l) : EReal)
      = u A (1024 * (i 0).val + r.val) (3072 * h.val + (768 * (i 1).val + l.val)) :=
    (cv_of hB hL h _ _ _ _).trans (congrArg (fun s => u A s _) (by show 1024 * (i 0).val + (16 * (r.val / 16) + r.val % 16) = _; omega))
  fin_cases h
  · exact e 0
  · exact e 1

theorem group_of (hB : BlockOf A i X) (hL : LhsOf A i L) (s : ℕ) (hs : s + 512 ≤ 1024) (D : Vec Ideal S1024x1024 .f32) (r e : Fin 1024) :
    (accGroup i X L s hs D (ix2 r e) : EReal) = if s ≤ r.val ∧ r.val < s + 512 then
      (∑ l : Fin 768, act A (1024 * (i 0).val + r.val) (768 * (i 1).val + l.val) * A.wd (768 * (i 1).val + l.val) e.val)
        + (if (i 1).val = 0 then (0 : EReal) else (D (ix2 r e) : EReal)) else (D (ix2 r e) : EReal) := by
  unfold accGroup
  refine (put_rows2 (b := 1024) (c := 1024) (n := 512) D s _ (ix2 r e)).trans ?_
  by_cases h : s ≤ r.val ∧ r.val < s + 512
  · refine (dif_pos (c := s ≤ ((ix2 r e : S1024x1024.Idx) 0).val ∧ ((ix2 r e : S1024x1024.Idx) 0).val < s + 512) h).trans ?_
    rw [if_pos h]
    refine (groupPay_apply _ _ _ _ _ _).trans (congrArg₂ (· + ·) (Finset.sum_congr rfl fun l _ => congrArg₂ (· * ·) ?_ (hB.wd l e)) ?_)
    · refine (congrFun (dif_pos (c := (r.val - s) / 16 < 32) (by omega)) _).trans ((gt_of hB hL _ _ _ _).trans (congrArg (fun s => act A s _) ?_))
      show 1024 * (i 0).val + (s + 16 * ((r.val - s) / 16) + (r.val - s) % 16) = _; omega
    · refine congrArg (fun z : EReal => if (i 1).val = 0 then (0 : EReal) else z) ?_
      refine (window_rows2 (n := 512) D s _ _ _ (by show s + (r.val - s) < 1024; omega)).trans (congrArg (fun k => D (ix2 k e)) (Fin.ext ?_))
      show s + (r.val - s) = r.val; omega
  · rw [if_neg h]
    exact dif_neg (c := s ≤ ((ix2 r e : S1024x1024.Idx) 0).val ∧ ((ix2 r e : S1024x1024.Idx) 0).val < s + 512) h

theorem acc_of (hB : BlockOf A i X) (hL : LhsOf A i L) (D : Vec Ideal S1024x1024 .f32) (r e : Fin 1024) :
    (accAll i X L D (ix2 r e) : EReal) = (∑ l : Fin 768, act A (1024 * (i 0).val + r.val) (768 * (i 1).val + l.val) * A.wd (768 * (i 1).val + l.val) e.val)
        + (if (i 1).val = 0 then (0 : EReal) else (D (ix2 r e) : EReal)) := by
  unfold accAll
  rw [group_of hB hL, group_of hB hL]
  by_cases h : r.val < 512
  · rw [if_neg (by omega : ¬(512 ≤ r.val ∧ r.val < 512 + 512)), if_pos (by omega : 0 ≤ r.val ∧ r.val < 0 + 512)]
  · rw [if_pos (by omega : 512 ≤ r.val ∧ r.val < 512 + 512), if_neg (by omega : ¬(0 ≤ r.val ∧ r.val < 0 + 512))]

end Cert.FwdKernelIdeal.Body

end
-- ==== Proof.Fwd.BodyEq.lean ====
/- The printed body of the feed-forward block's forward kernel is the body written as a code. -/
module

public import proofs.«01_k».proof.Proof.Fwd.Body
public import Idealize.ShloMosaic.Lib.Tactic

@[expose] public section

set_option maxRecDepth 65536
set_option maxHeartbeats 4000000

noncomputable section

namespace Cert.FwdKernelIdeal.Body

open Idealize.ShloMosaic Idealize.SL.Sem Cert.Straight Cert.FwdKernelIdeal.Gen

variable {F : FTy → Type} [FloatOps F]

/-- The printed body stands for the code `body`. -/
theorem body_eq (i : grid0.Coords) (M : ∀ b, Memref sig .tc (CoreSpace.vmem : Space) (sh b) (el b)) (hM : ∀ b, (M b).IsWhole) :
    cc0_ffn_fwd (F := F) i (M .x2) (hM .x2) (M .xp) (hM .xp) (M .g) (hM .g) (M .wg) (hM .wg) (M .wu) (hM .wu) (M .fw) (hM .fw) (M .wd) (hM .wd)
      (M .x3) (hM .x3) (M .h) (hM .h) (M .act) (hM .act) (M .p) (hM .p) (M .u) (hM .u) (M .ext) (hM .ext) (M .acc) (hM .acc) (M .tp) (hM .tp) (M .lhs) (hM .lhs)
      = (body (F := F) (M := M) hM i).toProg (nD := nD) (τ := τ) (p := .tc) := by
  unfold cc0_ffn_fwd k0_part135 k0_part3
  unfold body spread cols
  simp only [Code.toProg]
  by_cases hc : k0_cond1 i = 1#1
  · simp only [dif_pos hc]
    sl_kernel_rfl
  · simp only [dif_neg hc]
    sl_kernel_rfl

end Cert.FwdKernelIdeal.Body

end
-- ==== Proof.Fwd.Frame.lean ====
/- The frame of the feed-forward block's forward kernel: what its buffers hold after each grid point, the body's obligation there, the run. -/
module

public import proofs.«01_k».proof.Proof.Fwd.BodyEq
public import proofs.«01_k».proof.Proof.Fwd.Eval
public import proofs.«01_k».proof.Proof.Gen.FwdKernelIdeal.Frame
public import Idealize.ShloMosaic.Lib.Pipeline.ValueKit
public import Idealize.ShloMosaic.Lib.Pipeline.ReadBack
public import Idealize.ShloMosaic.Lib.Pipeline.TableIdle

@[expose] public section

set_option maxRecDepth 16384

noncomputable section

namespace Cert.FwdKernelIdeal.Run

open Idealize.ShloMosaic Idealize.ShloMosaic.TcCoe Idealize.ShloMosaic.Tactic Cert.FwdKernelIdeal.Gen Cert.FwdKernelIdeal.Body Cert.Straight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow (window put)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- The buffers at point `t`. -/
def mem (t : Fin cfg0.N) : ∀ b, Memref sig .tc (CoreSpace.vmem : Space) (sh b) (el b)
  | .x2 => win0_0.stage (cfg0.slots t 0)
  | .xp => win0_1.stage (cfg0.slots t 1)
  | .g => win0_2.stage (cfg0.slots t 2)
  | .wg => win0_3.stage (cfg0.slots t 3)
  | .wu => win0_4.stage (cfg0.slots t 4)
  | .fw => win0_5.stage (cfg0.slots t 5)
  | .wd => win0_6.stage (cfg0.slots t 6)
  | .x3 => win0_7.stage (cfg0.slots t 7)
  | .h => win0_8.stage (cfg0.slots t 8)
  | .act => win0_9.stage (cfg0.slots t 9)
  | .p => win0_10.stage (cfg0.slots t 10)
  | .u => win0_11.stage (cfg0.slots t 11)
  | .ext => Memref.whole cc0_scratch0
  | .acc => Memref.whole cc0_scratch1
  | .tp => Memref.whole cc0_scratch2
  | .lhs => Memref.whole cc0_scratch3

/-- Each is a whole buffer. -/
def mem_whole (t : Fin cfg0.N) : ∀ b, (mem t b).IsWhole
  | .x2 => hstage0_0 ((cfg0.slots t 0).cast nbuf0_0)
  | .xp => hstage0_1 ((cfg0.slots t 1).cast nbuf0_1)
  | .g => hstage0_2 ((cfg0.slots t 2).cast nbuf0_2)
  | .wg => hstage0_3 ((cfg0.slots t 3).cast nbuf0_3)
  | .wu => hstage0_4 ((cfg0.slots t 4).cast nbuf0_4)
  | .fw => hstage0_5 ((cfg0.slots t 5).cast nbuf0_5)
  | .wd => hstage0_6 ((cfg0.slots t 6).cast nbuf0_6)
  | .x3 => hstage0_7 ((cfg0.slots t 7).cast nbuf0_7)
  | .h => hstage0_8 ((cfg0.slots t 8).cast nbuf0_8)
  | .act => hstage0_9 ((cfg0.slots t 9).cast nbuf0_9)
  | .p => hstage0_10 ((cfg0.slots t 10).cast nbuf0_10)
  | .u => hstage0_11 ((cfg0.slots t 11).cast nbuf0_11)
  | .ext => Memref.isWhole_whole _
  | .acc => Memref.isWhole_whole _
  | .tp => Memref.isWhole_whole _
  | .lhs => Memref.isWhole_whole _

/-- All buffers, in the order of the body's arguments. -/
def all : List Bf := [.x2, .xp, .g, .wg, .wu, .fw, .wd, .x3, .h, .act, .p, .u, .ext, .acc, .tp, .lhs]

/-- The buffers at point `t`, with their contents. -/
def held (c : Dev nD) (t : Fin cfg0.N) (X : Ins F) (S : Outs F) : sProp 𝕄 :=
  iprop(owns (c : Thread nD τ) (win0_0.stage (cfg0.slots t 0)) fullShare X.x2
    ∗ owns (c : Thread nD τ) (win0_1.stage (cfg0.slots t 1)) fullShare X.xp
    ∗ owns (c : Thread nD τ) (win0_2.stage (cfg0.slots t 2)) fullShare X.g
    ∗ owns (c : Thread nD τ) (win0_3.stage (cfg0.slots t 3)) fullShare X.wg
    ∗ owns (c : Thread nD τ) (win0_4.stage (cfg0.slots t 4)) fullShare X.wu
    ∗ owns (c : Thread nD τ) (win0_5.stage (cfg0.slots t 5)) fullShare X.fw
    ∗ owns (c : Thread nD τ) (win0_6.stage (cfg0.slots t 6)) fullShare X.wd
    ∗ owns (c : Thread nD τ) (win0_7.stage (cfg0.slots t 7)) fullShare S.x3
    ∗ owns (c : Thread nD τ) (win0_8.stage (cfg0.slots t 8)) fullShare S.h
    ∗ owns (c : Thread nD τ) (win0_9.stage (cfg0.slots t 9)) fullShare S.act
    ∗ owns (c : Thread nD τ) (win0_10.stage (cfg0.slots t 10)) fullShare S.p
    ∗ owns (c : Thread nD τ) (win0_11.stage (cfg0.slots t 11)) fullShare S.u
    ∗ owns (c : Thread nD τ) (Memref.whole cc0_scratch0) fullShare S.ext
    ∗ owns (c : Thread nD τ) (Memref.whole cc0_scratch1) fullShare S.acc
    ∗ owns (c : Thread nD τ) (Memref.whole cc0_scratch2) fullShare S.tp
    ∗ owns (c : Thread nD τ) (Memref.whole cc0_scratch3) fullShare S.lhs
    ∗ emp)

theorem held_eq (c : Dev nD) (t : Fin cfg0.N) (X : Ins F) (S : Outs F) : (held c t X S : sProp 𝕄) = stars (c : Thread nD τ) (mem t) (st X S) all := rfl

/-- The body at point `t`: from the buffers' contents to what `bodySt` says. -/
theorem run_point (c : Dev nD) (t : Fin cfg0.N) (X : Ins F) (S : Outs F) (K : PUnit → sProp 𝕄) :
    iprop(held c t X S ∗ (held c t X (bodySt (grid0.coords t) X S) -∗ K ⟨⟩)) ⊢ wp frame (wpE (defs₀ (F := F)) Variants.none c none) Set.univ (bodyAt0 t) K := by
  rw [show (bodyAt0 (F := F) t) = _ from body_eq (F := F) (grid0.coords t) (mem t) (mem_whole t),
    held_eq, held_eq, ← run_body (mem_whole t) (grid0.coords t) (X := X) (S := S)]
  exact wp_code (defs := defs₀ (F := F)) Variants.none (c : Thread nD τ) none Set.univ all (by decide) (fun b => by cases b <;> decide) _ _ K

/-! ## What the buffers hold -/

/-- The blocks of the arguments at point `t`. -/
def ins (c : Dev nD) (t : Fin cfg0.N) : Ins F := ⟨iblk m c 0 t, iblk m c 1 t, iblk m c 2 t, iblk m c 3 t, iblk m c 4 t, iblk m c 5 t, iblk m c 6 t⟩

/-- Two halves stored cover the whole. -/
theorem put_halves (P Q : Vec F S1024x1024 .f32) (w u : Vec F S512x1024 .f32) :
    put (put P ![0, 0] S512x1024.size w) ![512, 0] S512x1024.size u = put (put Q ![0, 0] S512x1024.size w) ![512, 0] S512x1024.size u := by
  funext y
  have hy : (y 0).val < 1024 := (y 0).isLt
  refine (Windows.put_rows2 (b := 1024) (c := 1024) (n := 512) _ 512 u y).trans (Eq.trans ?_ (Windows.put_rows2 (b := 1024) (c := 1024) (n := 512) _ 512 u y).symm)
  rw [Windows.put_rows2 (b := 1024) (c := 1024) (n := 512) P 0 w y, Windows.put_rows2 (b := 1024) (c := 1024) (n := 512) Q 0 w y]
  by_cases h : (y 0).val < 512
  · rw [dif_neg (by omega), dif_pos ⟨Nat.zero_le _, by omega⟩, dif_neg (by omega), dif_pos ⟨Nat.zero_le _, by omega⟩]
  · rw [dif_pos ⟨by omega, by omega⟩, dif_pos ⟨by omega, by omega⟩]

/-- At the first column of blocks the accumulator's old contents are not used. -/
theorem accAll_first (i : grid0.Coords) (h : (i 1).val = 0) (X : Ins F) (L : Vec F S1040x1024 .bf16) (A B : Vec F S1024x1024 .f32) : accAll i X L A = accAll i X L B := by
  have hg (e : ℕ → FVec F S16x768 .bf16) (w) (a b : Vec F S512x1024 .f32) : groupPay i e w a = groupPay i e w b := by
    unfold groupPay k0_pay2
    rw [h]
    rfl
  have hp (w w' : Vec F S512x1024 .f32) (P Q : Vec F S1024x1024 .f32) (u u' : Vec F S512x1024 .f32) (hw : w = w') (hu : u = u') :
      put (put P ![0, 0] S512x1024.size w) ![512, 0] S512x1024.size u = put (put Q ![0, 0] S512x1024.size w') ![512, 0] S512x1024.size u' := by
    subst hw hu
    exact put_halves _ _ _ _
  exact hp _ _ _ _ _ _ (hg _ _ _ _) (hg _ _ _ _)

/-- The normalised rows after point `n`: computed at the first column of blocks, kept at the others. -/
def lhss (c : Dev nD) : (n : ℕ) → n < cfg0.N → Vec F S1040x1024 .bf16
  | 0, h => lhsAll (ins m c ⟨0, h⟩)
  | n + 1, h => if (n + 1) % 4 = 0 then lhsAll (ins m c ⟨n + 1, h⟩) else lhss c n (Nat.lt_of_succ_lt h)

/-- The normalised rows of the block after point `n`. -/
def hs (c : Dev nD) : (n : ℕ) → n < cfg0.N → Vec F S1024x1024 .bf16
  | 0, h => k0_pay5 (ins m c ⟨0, h⟩).x2 (ins m c ⟨0, h⟩).g
  | n + 1, h => if (n + 1) % 4 = 0 then k0_pay5 (ins m c ⟨n + 1, h⟩).x2 (ins m c ⟨n + 1, h⟩).g else hs c n (Nat.lt_of_succ_lt h)

/-- The product's accumulator after point `n`. -/
def accs (c : Dev nD) : (n : ℕ) → n < cfg0.N → Vec F S1024x1024 .f32
  | 0, h => accAll (grid0.coords ⟨0, h⟩) (ins m c ⟨0, h⟩) (lhss m c 0 h) (fun _ => Scalar.ofBits .f32 0#32)
  | n + 1, h => accAll (grid0.coords ⟨n + 1, h⟩) (ins m c ⟨n + 1, h⟩) (lhss m c (n + 1) h) (accs c n (Nat.lt_of_succ_lt h))

theorem lhss_first (c : Dev nD) (t : Fin cfg0.N) (h : t.val % 4 = 0) : lhss m c t.val t.isLt = lhsAll (ins m c t) := by
  obtain ⟨n, hn⟩ := t
  cases n with
  | zero => rfl
  | succ n => exact if_pos h

theorem lhss_next (c : Dev nD) (t : Fin cfg0.N) (h : ¬t.val % 4 = 0) : lhss m c t.val t.isLt = lhss m c (t.val - 1) (Nat.lt_of_le_of_lt (Nat.sub_le _ _) t.isLt) := by
  obtain ⟨n, hn⟩ := t
  cases n with
  | zero => exact absurd rfl h
  | succ n => exact if_neg h

theorem hs_first (c : Dev nD) (t : Fin cfg0.N) (h : t.val % 4 = 0) : hs m c t.val t.isLt = k0_pay5 (ins m c t).x2 (ins m c t).g := by
  obtain ⟨n, hn⟩ := t
  cases n with
  | zero => rfl
  | succ n => exact if_pos h

theorem hs_next (c : Dev nD) (t : Fin cfg0.N) (h : ¬t.val % 4 = 0) : hs m c t.val t.isLt = hs m c (t.val - 1) (Nat.lt_of_le_of_lt (Nat.sub_le _ _) t.isLt) := by
  obtain ⟨n, hn⟩ := t
  cases n with
  | zero => exact absurd rfl h
  | succ n => exact if_neg h

theorem first_col : ∀ t : Fin cfg0.N, t.val % 4 = 0 → (grid0.coords t 1).val = 0 := by decide +kernel

theorem accs_first (c : Dev nD) (t : Fin cfg0.N) (h : t.val % 4 = 0) (A : Vec F S1024x1024 .f32) :
    accs m c t.val t.isLt = accAll (grid0.coords t) (ins m c t) (lhsAll (ins m c t)) A := by
  rw [← lhss_first m c t h]
  obtain ⟨n, hn⟩ := t
  cases n with
  | zero => exact accAll_first _ (first_col _ h) _ _ _ _
  | succ n => exact accAll_first _ (first_col _ h) _ _ _ _

theorem accs_next (c : Dev nD) (t : Fin cfg0.N) (h : t.val ≠ 0) : accs m c t.val t.isLt = accAll (grid0.coords t) (ins m c t) (lhss m c t.val t.isLt)
    (accs m c (t.val - 1) (Nat.lt_of_le_of_lt (Nat.sub_le _ _) t.isLt)) := by
  obtain ⟨n, hn⟩ := t
  cases n with
  | zero => exact absurd rfl h
  | succ n => rfl

/-- The invariant before position `n`: the accumulator and the normalised rows at what the point before left in them. -/
def PhiS (c : Dev nD) : (n : ℕ) → n ≤ cfg0.N → sProp 𝕄
  | 0, _ => Pipeline.ΦA spec0 c
  | n + 1, hn => iprop(iprop((∃ d, owns (c : Thread nD τ) (Memref.whole cc0_scratch0) fullShare d) ∗ owns (c : Thread nD τ) (Memref.whole cc0_scratch1) fullShare (accs m c n hn)
      ∗ (∃ d, owns (c : Thread nD τ) (Memref.whole cc0_scratch2) fullShare d) ∗ owns (c : Thread nD τ) (Memref.whole cc0_scratch3) fullShare (lhss m c n hn)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (ins m c t).x2 (accs m c t.val t.isLt)
    | ⟨8, _⟩ => hs m c t.val t.isLt
    | ⟨9, _⟩ => actAll (grid0.coords t) (ins m c t) (lhss m c t.val t.isLt)
    | ⟨10, _⟩ => pAll (ins m c t) (lhss m c t.val t.isLt)
    | ⟨11, _⟩ => uAll (grid0.coords t) (ins m c t) (lhss m c t.val t.isLt)
    | ⟨_ + 12, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay3 (ins m c t).x2 (accs m c t.val t.isLt) := by dsimp only [dats]
theorem after0_8 (c : Dev nD) (t : Fin cfg0.N) : (dats m 0 c).after 8 t = hs m c t.val t.isLt := by dsimp only [dats]
theorem after0_9 (c : Dev nD) (t : Fin cfg0.N) : (dats m 0 c).after 9 t = actAll (grid0.coords t) (ins m c t) (lhss m c t.val t.isLt) := by dsimp only [dats]
theorem after0_10 (c : Dev nD) (t : Fin cfg0.N) : (dats m 0 c).after 10 t = pAll (ins m c t) (lhss m c t.val t.isLt) := by dsimp only [dats]
theorem after0_11 (c : Dev nD) (t : Fin cfg0.N) : (dats m 0 c).after 11 t = uAll (grid0.coords t) (ins m c t) (lhss m c t.val t.isLt) := by dsimp only [dats]

/-! ## Which kind of point a point is -/

theorem cond1 : ∀ t : Fin cfg0.N, k0_cond1 (grid0.coords t) = 1#1 ↔ t.val % 4 = 0 := by decide +kernel
theorem cond2 : ∀ t : Fin cfg0.N, k0_cond2 (grid0.coords t) = 1#1 ↔ t.val % 4 = 3 := by decide +kernel
theorem live (w : Fin cfg0.W) (h : w.val ≠ 7 ∧ w.val ≠ 8) (t : Fin cfg0.N) : cfg0.idle w (grid0.coords t) = false := by
  revert h t; revert w; decide +kernel
theorem live_x (t : Fin cfg0.N) (h : t.val % 4 = 3) : cfg0.idle 7 (grid0.coords t) = false := by revert h t; decide +kernel
theorem idle_x (t : Fin cfg0.N) (h : ¬t.val % 4 = 3) : cfg0.idle 7 (grid0.coords t) = true ∧ (cfg0.win 7).flush t = false := by revert h t; decide +kernel
theorem live_h (t : Fin cfg0.N) (h : t.val % 4 = 0) : cfg0.idle 8 (grid0.coords t) = false := by revert h t; decide +kernel
theorem idle_h (t : Fin cfg0.N) (h : ¬t.val % 4 = 0) : cfg0.idle 8 (grid0.coords t) = true := by revert h t; decide +kernel
theorem flush_h (t : Fin cfg0.N) (h : ¬t.val % 4 = 3) : (cfg0.win 8).flush t = false := by revert h t; decide +kernel
theorem flush_h3 (t : Fin cfg0.N) (h : t.val % 4 = 3) : (cfg0.win 8).flush t = true := by revert h t; decide +kernel

/-- The normalised rows' buffer holds nothing of the kernel's only before the first column of blocks. -/
theorem fresh_h (t : Fin cfg0.N) : cfg0.fresh 8 t.val = (t.val % 4 == 0) :=
  Pipeline.Cfg.fresh_tab cfg0 8 (fun n => n % 4 == 0) rfl (by decide +kernel) t.val (Nat.le_of_lt t.isLt)

theorem carry (c : Dev nD) (t : Fin cfg0.N) (h0 : t.val ≠ 0) (hi : cfg0.idle 8 (grid0.coords t) = true) (_ : cfg0.fresh 8 t.val = false) :
    (dats m 0 c).after 8 t = (dats m 0 c).after 8 ⟨t.val - 1, by omega⟩ := by
  rw [after0_8, after0_8]
  refine hs_next m c t fun h => ?_
  rw [live_h t h] at hi
  exact Bool.false_ne_true hi

/-- At the other columns of blocks the rows are what the point before left. -/
theorem before_h (c : Dev nD) (t : Fin cfg0.N) (h : ¬t.val % 4 = 0) (d) : (dats m 0 c).before 8 t d = hs m c t.val t.isLt := by
  rw [Dat.before_out_traj _ 8 rfl (fun _ _ => rfl) (carry m c) t.val t rfl d, if_neg (by
    rw [fresh_h, Bool.not_eq_true]; exact beq_false_of_ne h), after0_8]
  exact (hs_next m c t h).symm

/-- What a point leaves, by its kind. -/
theorem bodySt_first (t : Fin cfg0.N) (h : t.val % 4 = 0) (X : Ins F) (S : Outs F) :
    bodySt (grid0.coords t) X S = midSt (grid0.coords t) X { S with tp := tapsOf X S.tp, lhs := lhsAll X, h := k0_pay5 X.x2 X.g } := by
  unfold bodySt
  simp only [if_pos ((cond1 t).mpr h), if_neg fun h2 => absurd ((cond2 t).mp h2) (by omega)]
theorem bodySt_mid (t : Fin cfg0.N) (h : ¬t.val % 4 = 0) (h2 : ¬t.val % 4 = 3) (X : Ins F) (S : Outs F) :
    bodySt (grid0.coords t) X S = midSt (grid0.coords t) X { S with tp := tapsOf X S.tp } := by
  unfold bodySt
  simp only [if_neg fun h1 => h ((cond1 t).mp h1), if_neg fun h2' => h2 ((cond2 t).mp h2')]
theorem bodySt_last (t : Fin cfg0.N) (h2 : t.val % 4 = 3) (X : Ins F) (S : Outs F) :
    bodySt (grid0.coords t) X S = { midSt (grid0.coords t) X { S with tp := tapsOf X S.tp } with x3 := k0_pay3 X.x2 (accAll (grid0.coords t) X S.lhs S.acc) } := by
  unfold bodySt
  simp only [if_neg fun h1 => absurd ((cond1 t).mp h1) (by omega), if_pos ((cond2 t).mpr h2)]
  rfl

/-! ## The body's obligation -/

theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- Before the first point. -/
theorem PhiS_zero (c : Dev nD) (n : ℕ) (h : n ≤ cfg0.N) (hz : n = 0) : PhiS m c n h = Pipeline.ΦA spec0 c := by subst hz; rfl

/-- Before a point that is not the first. -/
theorem PhiS_pos (c : Dev nD) (n : ℕ) (h : n ≤ cfg0.N) (hz : n ≠ 0) :
    PhiS m c n h = iprop(iprop((∃ d, owns (c : Thread nD τ) (Memref.whole cc0_scratch0) fullShare d) ∗ owns (c : Thread nD τ) (Memref.whole cc0_scratch1) fullShare (accs m c (n - 1) (by omega))
      ∗ (∃ d, owns (c : Thread nD τ) (Memref.whole cc0_scratch2) fullShare d) ∗ owns (c : Thread nD τ) (Memref.whole cc0_scratch3) fullShare (lhss m c (n - 1) (by omega))) ∗ (∃ r, prngReg c r)) := by
  cases n with
  | zero => exact absurd rfl hz
  | succ n => rfl

/-- Before any point the scratch holds something. -/
theorem PhiS_any (c : Dev nD) (n : ℕ) (h : n ≤ cfg0.N) : (PhiS m c n h : sProp 𝕄) ⊢ iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  by_cases hz : n = 0
  · rw [PhiS_zero m c n h hz, PhiA_eq]
  · rw [PhiS_pos m c n h hz]
    iintro ⟨⟨HE, HA, HT, HL⟩, Hg⟩
    isplitl [HE HA HT HL]
    · isplitl [HE]; · iexact HE
      isplitl [HA]; · iexists _; iexact HA
      isplitl [HT]; · iexact HT
      iexists _; iexact HL
    iexact Hg

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- A buffer written back at a point that leaves it alone is written back as it is. -/
theorem leaves_flush (c : Dev nD) (t : Fin cfg0.N) (h : t.val % 4 = 3) :
    (dats m 0 c).leavesExact 8 t = owns (c : Thread nD τ) ((cfg0.win 8).stage (cfg0.slots t 8)) fullShare ((dats m 0 c).after 8 t) := by
  unfold Dat.leavesExact; rw [show cfg0.idle 8 (cfg0.grid.coords t) = true from idle_h t (by omega), flush_h3 t h]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

set_option maxHeartbeats 40000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl]
  rw [show (dats m 0 c).Φ t.succ = iprop(iprop((∃ d, owns (c : Thread nD τ) (Memref.whole cc0_scratch0) fullShare d) ∗ owns (c : Thread nD τ) (Memref.whole cc0_scratch1) fullShare (accs m c t.val t.isLt)
      ∗ (∃ d, owns (c : Thread nD τ) (Memref.whole cc0_scratch2) fullShare d) ∗ owns (c : Thread nD τ) (Memref.whole cc0_scratch3) fullShare (lhss m c t.val t.isLt)) ∗ (∃ r, prngReg c r)) from rfl]
  rw [leaves_live m c 0 t (live 0 (by decide) t), leaves_live m c 1 t (live 1 (by decide) t), leaves_live m c 2 t (live 2 (by decide) t), leaves_live m c 3 t (live 3 (by decide) t), leaves_live m c 4 t (live 4 (by decide) t), leaves_live m c 5 t (live 5 (by decide) t), leaves_live m c 6 t (live 6 (by decide) t), leaves_live m c 9 t (live 9 (by decide) t), leaves_live m c 10 t (live 10 (by decide) t), leaves_live m c 11 t (live 11 (by decide) t),
    after0_0, after0_1, after0_2, after0_3, after0_4, after0_5, after0_6, after0_9, after0_10, after0_11, Phi_castSucc]
  by_cases h0 : t.val % 4 = 0
  · rw [Dat.leavesExact_idle (dats m 0 c) 7 t (idle_x t (by omega)).1 (idle_x t (by omega)).2, leaves_live m c 8 t (live_h t h0), after0_8, hs_first m c t h0, lhss_first m c t h0]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HP := (PhiS_any m c t.val (Nat.le_of_lt t.isLt)) $$ HP
    icases HP with ⟨⟨⟨%dE, HE⟩, ⟨%dA, HA⟩, ⟨%dT, HT⟩, ⟨%dL, HL⟩⟩, Hg⟩
    rw [accs_first m c t h0 dA]
    iapply (run_point c t (ins m c t) ⟨_, _, _, _, _, dE, dA, dT, dL⟩ _)
    isplitl [HE HA HT HL H0 H1 H2 H3 H4 H5 H6 H7 H8 H9 H10 H11]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HE]; · iexact HE
      isplitl [HA]; · iexact HA
      isplitl [HT]; · iexact HT
      isplitl [HL]; · iexact HL
      iempintro
    rw [bodySt_first t h0]
    unfold held
    dsimp only [midSt]
    iintro ⟨H0, H1, H2, H3, H4, H5, H6, H7, H8, H9, H10, H11, HE, HA, HT, HL, -⟩
    isplitl [HE HA HT HL Hg]
    · isplitl [HE HA HT HL]
      · isplitl [HE]; · iexists _; iexact HE
        isplitl [HA]; · iexact HA
        isplitl [HT]; · iexists _; iexact HT
        iexact HL
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iexact H11
  · have hz : t.val ≠ 0 := fun h => h0 (by rw [h])
    have hb : ∀ d, (dats m 0 c).before 8 t d = hs m c t.val t.isLt := before_h m c t h0
    rw [PhiS_pos m c _ _ hz, accs_next m c t hz, ← lhss_next m c t h0]
    simp only [hb]
    by_cases h2 : t.val % 4 = 3
    · rw [leaves_live m c 7 t (live_x t h2), after0_7, leaves_flush m c t h2, after0_8, accs_next m c t hz]
      iintro ⟨⟨⟨⟨%dE, HE⟩, HA, ⟨%dT, HT⟩, HL⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_point c t (ins m c t) ⟨_, _, _, _, _, dE, _, dT, _⟩ _)
      isplitl [HE HA HT HL H0 H1 H2 H3 H4 H5 H6 H7 H8 H9 H10 H11]
      · unfold held
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HE]; · iexact HE
        isplitl [HA]; · iexact HA
        isplitl [HT]; · iexact HT
        isplitl [HL]; · iexact HL
        iempintro
      rw [bodySt_last t h2]
      unfold held
      dsimp only [midSt]
      iintro ⟨H0, H1, H2, H3, H4, H5, H6, H7, H8, H9, H10, H11, HE, HA, HT, HL, -⟩
      isplitl [HE HA HT HL Hg]
      · isplitl [HE HA HT HL]
        · isplitl [HE]; · iexists _; iexact HE
          isplitl [HA]; · iexact HA
          isplitl [HT]; · iexists _; iexact HT
          iexact HL
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [Dat.leavesExact_idle (dats m 0 c) 7 t (idle_x t h2).1 (idle_x t h2).2, Dat.leavesExact_idle (dats m 0 c) 8 t (idle_h t h0) (flush_h t h2)]
      simp only [hb]
      iintro ⟨⟨⟨⟨%dE, HE⟩, HA, ⟨%dT, HT⟩, HL⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_point c t (ins m c t) ⟨_, _, _, _, _, dE, _, dT, _⟩ _)
      isplitl [HE HA HT HL H0 H1 H2 H3 H4 H5 H6 H7 H8 H9 H10 H11]
      · unfold held
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HE]; · iexact HE
        isplitl [HA]; · iexact HA
        isplitl [HT]; · iexact HT
        isplitl [HL]; · iexact HL
        iempintro
      rw [bodySt_mid t h0 h2]
      unfold held
      dsimp only [midSt]
      iintro ⟨H0, H1, H2, H3, H4, H5, H6, H7, H8, H9, H10, H11, HE, HA, HT, HL, -⟩
      isplitl [HE HA HT HL Hg]
      · isplitl [HE HA HT HL]
        · isplitl [HE]; · iexists _; iexact HE
          isplitl [HA]; · iexact HA
          isplitl [HT]; · iexists _; iexact HT
          iexact HL
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists (hs m c t.val t.isLt); iexact H8
      isplitl [H9]; · iexact H9
      isplitl [H10]; · iexact H10
      iexact H11

/-! ## The run -/

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-- What the launch hands the region is the invariant before the first point, -/
theorem hin (c : Dev nD) : Pipeline.ΦA spec0 c ⊢ (dats m 0 c).Φ 0 := Idealize.SL.BI.Entails.refl _

/-- and the invariant after the last gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA_eq]
  exact PhiS_any m c _ _

set_option backward.isDefEq.respectTransparency.types false in
/-- Every execution ends with the arrays at what the proof data says, and the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.FwdKernelIdeal.Run

end
-- ==== Proof.Fwd.Host.lean ====
/- The host lines before the feed-forward block's forward kernel: the weights' blocks, the taps' halves, the scale as a row. -/
module

public import proofs.«01_k».proof.Proof.Fwd.Frame
public import Idealize.ShloMosaic.Lib.Claim
public import Idealize.ShloMosaic.Lib.KernelVsHost

@[expose] public section

set_option maxRecDepth 16384

noncomputable section

namespace Cert.FwdKernelIdeal.Run

open Cert.FwdKernelIdeal Cert.FwdKernelIdeal.Gen Idealize.ShloMosaic Idealize.ShloMosaic.TcCoe Idealize.SL.Sem

variable (m : (ℓ : Loc nD τ sig) → Buf (Elt Ideal) ℓ) (c : Dev nD)

theorem V_x (r l) : V m c main_arg0 (ix2 r l) = m (c.tc.loc main_arg0) (ix2 r l) := by
  unfold_abbrev_sides; after_results

theorem V_wd (r l) : V m c main_v20 (ix2 r l) = m (c.tc.loc main_arg4) (ix2 r l) := by
  unfold_abbrev_sides; after_results; rfl

theorem V_g (l : Fin 1024) : (V m c main_v21 : FVec Ideal S1x1024 .f32) (ix2 0 l) = (m (c.tc.loc main_arg1) : FVec Ideal S1024 .f32) (ix1 l) := by
  have e : (V m c main_v21 : FVec Ideal S1x1024 .f32) = shapeCast S1x1024 (m (c.tc.loc main_arg1) : FVec Ideal S1024 .f32) shapeCasts_S1024_S1x1024 := by
    unfold_abbrev_sides; after_results; rfl
  rw [e]; pointwise []

theorem V_cw (h : Fin 2) (k : Fin 3) (f : Fin 3072) : (V m c main_v19 : FVec Ideal S2x3x3072 .f32) (ix3 h k f)
    = (m (c.tc.loc main_arg3) : FVec Ideal S3x6144 .f32) (ix2 k ⟨h.val * 3072 + f.val, by omega⟩) := by
  have e : (V m c main_v19 : FVec Ideal S2x3x3072 .f32) = transpose S2x3x3072 [1, 0, 2]
      (shapeCast S3x2x3072 (m (c.tc.loc main_arg3) : FVec Ideal S3x6144 .f32) shapeCasts_S3x6144_S3x2x3072) transposes_S3x2x3072_S2x3x3072_1_0_2 := by
    unfold_abbrev_sides; after_results; rfl
  rw [e]; pointwise []

theorem slices_at (k : Fin 8) : S1024x6144.Slices ![0, 768 * k.val] S1024x768 := by
  fin_cases k
  · exact slices_S1024x6144_S1024x768_0_0
  · exact slices_S1024x6144_S1024x768_0_768
  · exact slices_S1024x6144_S1024x768_0_1536
  · exact slices_S1024x6144_S1024x768_0_2304
  · exact slices_S1024x6144_S1024x768_0_3072
  · exact slices_S1024x6144_S1024x768_0_3840
  · exact slices_S1024x6144_S1024x768_0_4608
  · exact slices_S1024x6144_S1024x768_0_5376

/-- The columns of the up-projection from `768 k` on. -/
def cols (w : FVec Ideal S1024x6144 .f32) (k : Fin 8) : FVec Ideal S1x1024x768 .f32 :=
  broadcastInDim S1x1024x768 ![1, 2] bcast_S1024x768_S1x1024x768_1_2 (extractStridedSlice S1024x768 ![0, 768 * k.val] w (slices_at k))

theorem cols_apply (w : FVec Ideal S1024x6144 .f32) (k : Fin 8) (e : Fin 1024) (l : Fin 768) : cols w k (ix3 0 e l) = w (ix2 e ⟨768 * k.val + l.val, by omega⟩) := by
  have hs : extractStridedSlice S1024x768 ![0, 768 * k.val] w (slices_at k) (ix2 e l) = w (ix2 e ⟨768 * k.val + l.val, by omega⟩) :=
    extractStridedSlice_apply _ w (slices_at k) (ix2 e l) _ fun a => by fin_cases a <;> [exact (Nat.zero_add _).symm; rfl]
  rw [← hs]
  unfold cols
  generalize extractStridedSlice S1024x768 _ w _ = y
  pointwise []

theorem V_w (k : Fin 8) (e : Fin 1024) (l : Fin 768) : (V m c main_v17 : FVec Ideal S8x1024x768 .bf16) (ix3 k e l)
    = (m (c.tc.loc main_arg2) : FVec Ideal S1024x6144 .f32) (ix2 e ⟨768 * k.val + l.val, by omega⟩) := by
  have hV : (V m c main_v17 : FVec Ideal S8x1024x768 .bf16) = truncf (F := Ideal) .bf16 (concatenate S8x1024x768 0
      (List.ofFn fun k : Fin 8 => (⟨S1x1024x768, cols (m (c.tc.loc main_arg2)) k⟩ : (s : Shape) × (s.Idx → Ideal .f32)))
      concatenates_S1x1024x768_S1x1024x768_S1x1024x768_S1x1024x768_S1x1024x768_S1x1024x768_S1x1024x768_S1x1024x768_S8x1024x768_d0) bitsLt_bf16_f32 := by
    unfold_abbrev_sides; after_results; rfl
  refine (congrFun hV (ix3 k e l)).trans (Eq.trans ?_ (cols_apply (m (c.tc.loc main_arg2)) k e l))
  exact concatenate_ofFn_apply (α := Ideal .f32) 0 (cols (m (c.tc.loc main_arg2)))
    concatenates_S1x1024x768_S1x1024x768_S1x1024x768_S1x1024x768_S1x1024x768_S1x1024x768_S1x1024x768_S1x1024x768_S8x1024x768_d0 rfl 1 rfl (ix3 k e l) k (Nat.div_one _)
    (ix3 0 e l) (Nat.mod_one _).symm fun b hb => by
      fin_cases b
      · exact absurd rfl hb
      · rfl
      · rfl

end Cert.FwdKernelIdeal.Run

end
-- ==== Proof.Fwd.Kernel.lean ====
/- What the feed-forward block's forward kernel leaves in its five results. -/
module

public import proofs.«01_k».proof.Proof.Fwd.Values
public import proofs.«01_k».proof.Proof.Fwd.Host
public import Idealize.ShloMosaic.Lib.Pipeline.ValueKit
public import Idealize.ShloMosaic.Lib.Pipeline.ReadBack

@[expose] public section

set_option maxRecDepth 16384

noncomputable section

namespace Cert.FwdKernelIdeal.Run

open Cert.FwdKernelIdeal Cert.FwdKernelIdeal.Gen Cert.FwdKernelIdeal.Body Idealize.ShloMosaic Idealize.ShloMosaic.TcCoe Idealize.SL.Sem
open Idealize.ShloMosaic.Pipeline (Dat)
open Cert.Fwd

variable (m : (ℓ : Loc nD τ sig) → Buf (Elt Ideal) ℓ) (c : Dev nD)

/-- A matrix by its positions. -/
def tot2 {a b : ℕ} (f : (⟨2, ![a, b]⟩ : Shape).Idx → EReal) (s e : ℕ) : EReal := if h : s < a ∧ e < b then f (ix2 ⟨s, h.1⟩ ⟨e, h.2⟩) else 0

theorem tot2_eq {a b : ℕ} (f : (⟨2, ![a, b]⟩ : Shape).Idx → EReal) (s : Fin a) (e : Fin b) : f (ix2 s e) = tot2 f s.val e.val := by
  unfold tot2; rw [dif_pos ⟨s.isLt, e.isLt⟩]

/-- A vector by its positions. -/
def tot1 {a : ℕ} (f : (⟨1, ![a]⟩ : Shape).Idx → EReal) (s : ℕ) : EReal := if h : s < a then f (ix1 ⟨s, h⟩) else 0

theorem tot1_eq {a : ℕ} (f : (⟨1, ![a]⟩ : Shape).Idx → EReal) (s : Fin a) : f (ix1 s) = tot1 f s.val := by
  unfold tot1; rw [dif_pos s.isLt]

/-- The arrays device `c` is given. -/
def args : In where
  x := tot2 (a := 4096) (b := 1024) (m (c.tc.loc main_arg0))
  g := tot1 (a := 1024) (m (c.tc.loc main_arg1))
  w := tot2 (a := 1024) (b := 6144) (m (c.tc.loc main_arg2))
  cw := tot2 (a := 3) (b := 6144) (m (c.tc.loc main_arg3))
  wd := tot2 (a := 3072) (b := 1024) (m (c.tc.loc main_arg4))

/-- The arguments of device `c` hold the arrays `A`. -/
structure Holds (A : In) : Prop where
  x : ∀ (s : Fin 4096) (e : Fin 1024), ((m (c.tc.loc main_arg0) : FVec Ideal S4096x1024 .f32) (ix2 s e) : EReal) = A.x s.val e.val
  g : ∀ e : Fin 1024, ((m (c.tc.loc main_arg1) : FVec Ideal S1024 .f32) (ix1 e) : EReal) = A.g e.val
  w : ∀ (e : Fin 1024) (f : Fin 6144), ((m (c.tc.loc main_arg2) : FVec Ideal S1024x6144 .f32) (ix2 e f) : EReal) = A.w e.val f.val
  cw : ∀ (k : Fin 3) (f : Fin 6144), ((m (c.tc.loc main_arg3) : FVec Ideal S3x6144 .f32) (ix2 k f) : EReal) = A.cw k.val f.val
  wd : ∀ (f : Fin 3072) (e : Fin 1024), ((m (c.tc.loc main_arg4) : FVec Ideal S3072x1024 .f32) (ix2 f e) : EReal) = A.wd f.val e.val

theorem holds : Holds m c (args m c) where
  x s e := tot2_eq (a := 4096) (b := 1024) (m (c.tc.loc main_arg0)) s e
  g e := tot1_eq (a := 1024) (m (c.tc.loc main_arg1)) e
  w e f := tot2_eq (a := 1024) (b := 6144) (m (c.tc.loc main_arg2)) e f
  cw k f := tot2_eq (a := 3) (b := 6144) (m (c.tc.loc main_arg3)) k f
  wd f e := tot2_eq (a := 3072) (b := 1024) (m (c.tc.loc main_arg4)) f e

theorem idx_in : ∀ t : Fin grid0.N, (win0_0.index t 0 = t.val / 4 ∧ win0_0.index t 1 = 0)
    ∧ (win0_1.index t 0 = 64 * (t.val / 4) - 1 ∧ win0_1.index t 1 = 0)
    ∧ (win0_2.index t 0 = 0 ∧ win0_2.index t 1 = 0)
    ∧ (win0_3.index t 0 = t.val % 4 ∧ win0_3.index t 1 = 0 ∧ win0_3.index t 2 = 0)
    ∧ (win0_4.index t 0 = t.val % 4 + 4 ∧ win0_4.index t 1 = 0 ∧ win0_4.index t 2 = 0)
    ∧ (win0_5.index t 0 = 0 ∧ win0_5.index t 1 = 0 ∧ win0_5.index t 2 = t.val % 4)
    ∧ (win0_6.index t 0 = t.val % 4 ∧ win0_6.index t 1 = 0) := by decide +kernel

theorem idx_out : ∀ t : Fin grid0.N, (win0_7.index t 0 = t.val / 4 ∧ win0_7.index t 1 = 0)
    ∧ (win0_8.index t 0 = t.val / 4 ∧ win0_8.index t 1 = 0)
    ∧ (win0_9.index t 0 = t.val / 4 ∧ win0_9.index t 1 = t.val % 4)
    ∧ (win0_10.index t 0 = 0 ∧ win0_10.index t 1 = t.val / 4 ∧ win0_10.index t 2 = t.val % 4)
    ∧ (win0_11.index t 0 = 0 ∧ win0_11.index t 1 = t.val / 4 ∧ win0_11.index t 2 = t.val % 4) := by decide +kernel

theorem coords_row : ∀ t : Fin grid0.N, (grid0.coords t 0).val = t.val / 4 := by decide +kernel
theorem coords_col : ∀ t : Fin grid0.N, (grid0.coords t 1).val = t.val % 4 := by decide +kernel

theorem lt16 (t : Fin cfg0.N) : t.val < 16 := by have := t.isLt; have : cfg0.N = 16 := N_0; omega

/-- Row `r` of the rows of point `t`. -/
def rw_ (t : Fin cfg0.N) (r : Fin 1024) : Fin 4096 := ⟨1024 * (t.val / 4) + r.val, by have := lt16 t; omega⟩

/-- Row `r` of the sixteen before them. -/
def prv (t : Fin cfg0.N) (r : Fin 16) : Fin 4096 := ⟨16 * (64 * (t.val / 4) - 1) + r.val, by have := lt16 t; omega⟩

/-- Column `l` of the columns of point `t`. -/
def cl (t : Fin cfg0.N) (l : Fin 768) : Fin 3072 := ⟨768 * (t.val % 4) + l.val, by omega⟩

section Windows

variable (t : Fin cfg0.N)

theorem w0 (r e : Fin 1024) : (iblk m c 0 t : Vec Ideal S1024x1024 .f32) (ix2 r e) = V m c main_arg0 (ix2 (rw_ t r) e) := by
  unfold rw_; blk_point [iblk, idx_in t]
theorem w1 (r : Fin 16) (e : Fin 1024) : (iblk m c 1 t : Vec Ideal S16x1024 .f32) (ix2 r e) = V m c main_arg0 (ix2 (prv t r) e) := by
  unfold prv; blk_point [iblk, idx_in t]
theorem w2 (e : Fin 1024) : (iblk m c 2 t : Vec Ideal S1x1024 .f32) (ix2 0 e) = V m c main_v21 (ix2 0 e) := by
  blk_point [iblk, idx_in t]
theorem w3 (e : Fin 1024) (l : Fin 768) : (iblk m c 3 t : Vec Ideal S1x1024x768 .bf16) (ix3 0 e l) = V m c main_v17 (ix3 (⟨t.val % 4, by omega⟩ : Fin 8) e l) := by
  blk_point [iblk, idx_in t]
theorem w4 (e : Fin 1024) (l : Fin 768) : (iblk m c 4 t : Vec Ideal S1x1024x768 .bf16) (ix3 0 e l) = V m c main_v17 (ix3 (⟨t.val % 4 + 4, by omega⟩ : Fin 8) e l) := by
  blk_point [iblk, idx_in t]
theorem w5 (h : Fin 2) (k : Fin 3) (l : Fin 768) : (iblk m c 5 t : Vec Ideal S2x3x768 .f32) (ix3 h k l) = V m c main_v19 (ix3 h k (cl t l)) := by
  unfold cl; blk_point [iblk, idx_in t]
theorem w6 (l : Fin 768) (e : Fin 1024) : (iblk m c 6 t : Vec Ideal S768x1024 .bf16) (ix2 l e) = V m c main_v20 (ix2 (cl t l) e) := by
  unfold cl; blk_point [iblk, idx_in t]

end Windows

section Values

variable {m} {c} {A : In} (hA : Holds m c A)
include hA

variable (t : Fin cfg0.N)

/-- The buffers of point `t` hold its blocks. -/
theorem blockOf : BlockOf A (grid0.coords t) (ins m c t) where
  x2 r l := by rw [coords_row]; exact (w0 m c t r l).trans ((V_x m c _ _).trans (hA.x _ _))
  xp r l h0 := by
    rw [coords_row] at h0 ⊢
    refine (w1 m c t r l).trans ((V_x m c _ _).trans ((hA.x _ _).trans (congrArg (fun s => A.x s l.val) ?_)))
    show 16 * (64 * (t.val / 4) - 1) + r.val = 1024 * (t.val / 4) + r.val - 16
    omega
  g l := (w2 m c t l).trans ((V_g m c _).trans (hA.g _))
  wg e l := by
    rw [coords_col]
    refine (w3 m c t e l).trans ((V_w m c _ _ _).trans ((hA.w _ _).trans (congrArg (A.w e.val) ?_)))
    show 768 * (t.val % 4) + l.val = 3072 * 0 + (768 * (t.val % 4) + l.val); omega
  wu e l := by
    rw [coords_col]
    refine (w4 m c t e l).trans ((V_w m c _ _ _).trans ((hA.w _ _).trans (congrArg (A.w e.val) ?_)))
    show 768 * (t.val % 4 + 4) + l.val = 3072 * 1 + (768 * (t.val % 4) + l.val); omega
  fw h k l := by
    rw [coords_col]
    refine (w5 m c t h k l).trans ((V_cw m c _ _ _).trans ((hA.cw _ _).trans (congrArg (A.cw k.val) ?_)))
    show h.val * 3072 + (768 * (t.val % 4) + l.val) = 3072 * h.val + (768 * (t.val % 4) + l.val); omega
  wd l e := by rw [coords_col]; exact (w6 m c t l e).trans ((V_wd m c _ _).trans (hA.wd _ _))

/-- The scratch of the normalised rows, at any point. -/
theorem lhsOf (n : ℕ) (hn : n < cfg0.N) : LhsOf A (grid0.coords ⟨n, hn⟩) (lhss m c n hn) := by
  induction n with
  | zero => exact (lhss_first m c ⟨0, hn⟩ rfl).symm ▸ lhs_of (blockOf hA _)
  | succ n ih =>
    by_cases h : (n + 1) % 4 = 0
    · exact (lhss_first m c ⟨n + 1, hn⟩ h).symm ▸ lhs_of (blockOf hA _)
    · intro r l hr
      refine (congrFun (lhss_next m c ⟨n + 1, hn⟩ h) _).trans ?_
      have hc : (grid0.coords ⟨n + 1, hn⟩ 0).val = (grid0.coords ⟨n, Nat.lt_of_succ_lt hn⟩ 0).val := by
        rw [coords_row, coords_row]; show (n + 1) / 4 = n / 4; omega
      rw [hc] at hr ⊢
      exact ih (Nat.lt_of_succ_lt hn) r l hr

/-- The normalised rows of a point. -/
theorem hs_of (n : ℕ) (hn : n < cfg0.N) (r l : Fin 1024) : (hs m c n hn (ix2 r l) : EReal) = normed A (1024 * (n / 4) + r.val) l := by
  have first (t : Fin cfg0.N) (h : t.val % 4 = 0) : (hs m c t.val t.isLt (ix2 r l) : EReal) = normed A (1024 * (t.val / 4) + r.val) l := by
    refine (congrFun (hs_first m c t h) _).trans ((h_of (blockOf hA t) r l).trans ?_)
    rw [coords_row]
  induction n with
  | zero => exact first ⟨0, hn⟩ rfl
  | succ n ih =>
    by_cases h : (n + 1) % 4 = 0
    · exact first ⟨n + 1, hn⟩ h
    · refine (congrFun (hs_next m c ⟨n + 1, hn⟩ h) _).trans ((ih (Nat.lt_of_succ_lt hn)).trans ?_)
      rw [show (n + 1) / 4 = n / 4 by omega]

/-- The down-projection's part up to a point. -/
theorem accs_of (n : ℕ) (hn : n < cfg0.N) (r e : Fin 1024) : (accs m c n hn (ix2 r e) : EReal) = down A (768 * (n % 4) + 768) (1024 * (n / 4) + r.val) e.val := by
  have first (t : Fin cfg0.N) (h : t.val % 4 = 0) : (accs m c t.val t.isLt (ix2 r e) : EReal) = down A (768 * (t.val % 4) + 768) (1024 * (t.val / 4) + r.val) e.val := by
    refine (congrFun (accs_first m c t h fun _ => (0 : EReal)) _).trans ((acc_of (blockOf hA t) (lhs_of (blockOf hA t)) _ r e).trans ?_)
    rw [if_pos (by rw [coords_col]; exact h), add_zero, coords_row, coords_col, down_add, h]
    exact ((congrArg (· + _) (Finset.sum_range_zero _)).trans (zero_add _)).symm
  induction n with
  | zero => exact first ⟨0, hn⟩ rfl
  | succ n ih =>
    by_cases h : (n + 1) % 4 = 0
    · exact first ⟨n + 1, hn⟩ h
    · refine (congrFun (accs_next m c ⟨n + 1, hn⟩ (Nat.succ_ne_zero n)) _).trans ((acc_of (blockOf hA ⟨n + 1, hn⟩) (lhsOf hA (n + 1) hn) _ r e).trans ?_)
      rw [if_neg (by rw [coords_col]; exact h), coords_row, coords_col, down_add, add_comm]
      refine congrArg (· + _) ((ih (Nat.lt_of_succ_lt hn)).trans ?_)
      rw [show (n + 1) / 4 = n / 4 by omega, show 768 * (n % 4) + 768 = 768 * ((n + 1) % 4) by omega]

omit hA in
theorem eta2 {a b : ℕ} (j : (⟨2, ![a, b]⟩ : Shape).Idx) : j = ix2 (j 0) (j 1) := by funext x; fin_cases x <;> rfl
omit hA in
theorem eta3 {a b d : ℕ} (j : (⟨3, ![a, b, d]⟩ : Shape).Idx) : j = ix3 (j 0) (j 1) (j 2) := by funext x; fin_cases x <;> rfl

omit hA in
theorem flush7 : ∀ t : Fin cfg0.N, (cfg0.win 7).flush t = true → t.val % 4 = 3 := by decide +kernel

theorem final7 : (dats m 0 c).arrAt 7 cfg0.N = oX A := by
  refine (dats m 0 c).arrAt_eq_of_covers 7 _ (by decide +kernel) fun t hf y => ?_
  have h3 := flush7 t hf
  blk_simp
  rw [after0_7]
  have he : (win0_7.blk t).view.emb y = (ix2 (rw_ t (y 0)) (y 1) : S4096x1024.Idx) := by unfold rw_; blk_ext [idx_out t]
  rw [he]
  refine (congrArg _ (eta2 y)).trans ((pay3_apply _ _ _ _).trans ?_)
  refine (congrArg₂ (· + ·) ((blockOf hA t).x2 (y 0) (y 1)) (accs_of hA t.val t.isLt (y 0) (y 1))).trans ?_
  rw [coords_row, h3]
  rfl

theorem final8 : (dats m 0 c).arrAt 8 cfg0.N = oH A := by
  refine (dats m 0 c).arrAt_eq_of_covers 8 _ (by decide +kernel) fun t hf y => ?_
  blk_simp
  rw [after0_8]
  have he : (win0_8.blk t).view.emb y = (ix2 (rw_ t (y 0)) (y 1) : S4096x1024.Idx) := by unfold rw_; blk_ext [idx_out t]
  rw [he]
  exact (congrArg _ (eta2 y)).trans (hs_of hA t.val t.isLt (y 0) (y 1))

theorem final9 : (dats m 0 c).arrAt 9 cfg0.N = oAct A := by
  refine (dats m 0 c).arrAt_eq_of_covers 9 _ (by decide +kernel) fun t hf y => ?_
  blk_simp
  rw [after0_9]
  have he : (win0_9.blk t).view.emb y = (ix2 (rw_ t (y 0)) (cl t (y 1)) : S4096x3072.Idx) := by unfold rw_ cl; blk_ext [idx_out t]
  rw [he]
  refine (congrArg _ (eta2 y)).trans ((act_of (blockOf hA t) (lhsOf hA t.val t.isLt) (y 0) (y 1)).trans ?_)
  rw [coords_row, coords_col]
  rfl

theorem final10 : (dats m 0 c).arrAt 10 cfg0.N = oP A := by
  refine (dats m 0 c).arrAt_eq_of_covers 10 _ (by decide +kernel) fun t hf y => ?_
  blk_simp
  rw [after0_10]
  have he : (win0_10.blk t).view.emb y = (ix3 (y 0) (rw_ t (y 1)) (cl t (y 2)) : S2x4096x3072.Idx) := by unfold rw_ cl; blk_ext [idx_out t]
  rw [he]
  refine (congrArg _ (eta3 y)).trans ((p_of (blockOf hA t) (lhsOf hA t.val t.isLt) (y 0) (y 1) (y 2)).trans ?_)
  rw [coords_row, coords_col]
  rfl

theorem final11 : (dats m 0 c).arrAt 11 cfg0.N = oU A := by
  refine (dats m 0 c).arrAt_eq_of_covers 11 _ (by decide +kernel) fun t hf y => ?_
  blk_simp
  rw [after0_11]
  have he : (win0_11.blk t).view.emb y = (ix3 (y 0) (rw_ t (y 1)) (cl t (y 2)) : S2x4096x3072.Idx) := by unfold rw_ cl; blk_ext [idx_out t]
  rw [he]
  refine (congrArg _ (eta3 y)).trans ((u_of (blockOf hA t) (lhsOf hA t.val t.isLt) (y 0) (y 1) (y 2)).trans ?_)
  rw [coords_row, coords_col]
  rfl

end Values

end Cert.FwdKernelIdeal.Run

end
-- ==== Proof.Fwd.Reference.lean ====
/- What the plain forward pass of the feed-forward block computes, entry by entry. -/
module

public import proofs.«01_k».proof.Proof.Gen.FwdReferenceIdeal.Run
public import proofs.«01_k».proof.Proof.Gen.FwdReferenceIdeal.Read
public import proofs.«01_k».proof.Proof.Fwd.Spec
public import Idealize.ShloMosaic.Lib.KernelVsHost

@[expose] public section

set_option maxRecDepth 16384

noncomputable section

namespace Cert.Fwd

open Idealize.ShloMosaic Idealize.SL.Sem
open Cert.FwdReferenceIdeal Cert.FwdReferenceIdeal.Read Cert.FwdReferenceIdeal.Gen

variable {x0 : FVec Ideal S4096x1024 .f32} {x1 : FVec Ideal S1024 .f32} {x2 : FVec Ideal S1024x6144 .f32} {x3 : FVec Ideal S3x6144 .f32} {x4 : FVec Ideal S3072x1024 .f32}
  {A : In}

/-- The reference's arguments hold the arrays `A`. -/
structure Given (x0 : FVec Ideal S4096x1024 .f32) (x1 : FVec Ideal S1024 .f32) (x2 : FVec Ideal S1024x6144 .f32) (x3 : FVec Ideal S3x6144 .f32) (x4 : FVec Ideal S3072x1024 .f32)
    (A : In) : Prop where
  x : ∀ (s : Fin 4096) (e : Fin 1024), (x0 (ix2 s e) : EReal) = A.x s.val e.val
  g : ∀ e : Fin 1024, (x1 (ix1 e) : EReal) = A.g e.val
  w : ∀ (e : Fin 1024) (f : Fin 6144), (x2 (ix2 e f) : EReal) = A.w e.val f.val
  cw : ∀ (k : Fin 3) (f : Fin 6144), (x3 (ix2 k f) : EReal) = A.cw k.val f.val
  wd : ∀ (f : Fin 3072) (e : Fin 1024), (x4 (ix2 f e) : EReal) = A.wd f.val e.val

variable (hA : Given x0 x1 x2 x3 x4 A)
include hA

/-- The normalised rows. -/
theorem v12 (s : Fin 4096) (e : Fin 1024) : (val_main_v12 (F := Ideal) x0 x1 (ix2 s e) : EReal) = normed A s.val e := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [hA.x, hA.g]
  rfl

theorem v54 (s : Fin 4096) (e : Fin 1024) : (val_main_v54 (F := Ideal) x0 x1 (ix2 s e) : EReal) = normed A s.val e := by
  rw [← v12 hA]; pointwise [val_main_v54]

/-- The up-projection, -/
theorem v13 (s : Fin 4096) (f : Fin 6144) : (val_main_v13 (F := Ideal) x0 x1 x2 (ix2 s f) : EReal) = p A s.val f.val := by
  pointwise [val_main_v13]
  simp only [v12 hA, hA.w]
  rfl

/-- and with two rows of zeros before it. -/
theorem v15 (s : Fin 4098) (f : Fin 6144) : (val_main_v15 (F := Ideal) x0 x1 x2 (ix2 s f) : EReal) = pz A (s.val + 14) f.val := by
  unfold val_main_v15
  by_cases h : s.val < 2
  · refine Eq.trans (b := (0 : EReal)) ?_ (if_pos (by omega)).symm
    refine (concatenate_pair_apply_left (α := Ideal .f32) (t := S4098x6144) (s₁ := S2x6144) (s₂ := S4096x6144) 0 _ _ _ (ix2 s f) rfl (ix2 ⟨s.val, h⟩ f) fun b => ?_).trans ?_
    · fin_cases b <;> rfl
    pointwise [val_main_v14, val_main_cst_2]
  · refine Eq.trans ?_ (if_neg (by omega : ¬s.val + 14 < 16)).symm
    refine (concatenate_pair_apply_right (α := Ideal .f32) (t := S4098x6144) (s₁ := S2x6144) (s₂ := S4096x6144) 0 _ _ _ (ix2 s f) rfl rfl (ix2 ⟨s.val - 2, by omega⟩ f) (fun b hb => ?_) ?_).trans
      ((v13 hA _ _).trans (congrArg (fun k => p A k f.val) (by show s.val - 2 = s.val + 14 - 16; omega)))
    · fin_cases b
      · exact absurd rfl hb
      · rfl
    · show s.val - 2 + 2 = s.val
      omega

/-- The convolution. -/
theorem v35 (s : Fin 4096) (f : Fin 6144) : (val_main_v35 (F := Ideal) x0 x1 x2 x3 (ix2 s f) : EReal) = u A s.val f.val := by
  have e : (val_main_v35 (F := Ideal) x0 x1 x2 x3 (ix2 s f) : EReal)
      = val_main_v15 (F := Ideal) x0 x1 x2 (ix2 ⟨s.val, by omega⟩ f) * x3 (ix2 0 f) + val_main_v15 (F := Ideal) x0 x1 x2 (ix2 ⟨s.val + 1, by omega⟩ f) * x3 (ix2 1 f)
        + val_main_v15 (F := Ideal) x0 x1 x2 (ix2 ⟨s.val + 2, by omega⟩ f) * x3 (ix2 2 f) := by
    unfold val_main_v35 val_main_v34 val_main_v28 val_main_v27 val_main_v21 val_main_v16 val_main_v22 val_main_v29
    generalize val_main_v15 (F := Ideal) x0 x1 x2 = Q
    pointwise [val_main_v17, val_main_v18, val_main_v19, val_main_v20, val_main_v23, val_main_v24, val_main_v25, val_main_v26, val_main_v30, val_main_v31, val_main_v32, val_main_v33]
    rw [show (⟨1 + s.val, _⟩ : Fin 4098) = ⟨s.val + 1, by omega⟩ from Fin.ext (Nat.add_comm _ _), show (⟨2 + s.val, _⟩ : Fin 4098) = ⟨s.val + 2, by omega⟩ from Fin.ext (Nat.add_comm _ _)]
  rw [e, v15 hA, v15 hA, v15 hA, hA.cw, hA.cw, hA.cw]
  show pz A (s.val + 14) f.val * A.cw 0 f.val + pz A (s.val + 1 + 14) f.val * A.cw 1 f.val + pz A (s.val + 2 + 14) f.val * A.cw 2 f.val = u A s.val f.val
  unfold u
  rw [mul_comm (pz A (s.val + 14) f.val), mul_comm (pz A (s.val + 1 + 14) f.val), mul_comm (pz A (s.val + 2 + 14) f.val), add_comm, ← add_assoc]

/-- The gated product. -/
theorem v51 (s : Fin 4096) (f : Fin 3072) : (val_main_v51 (F := Ideal) x0 x1 x2 x3 (ix2 s f) : EReal) = act A s.val f.val := by
  have ha : (val_main_v36 (F := Ideal) x0 x1 x2 x3 (ix2 s f) : EReal) = u A s.val f.val := by
    refine Eq.trans ?_ (v35 hA s ⟨f.val, by omega⟩)
    unfold val_main_v36
    generalize val_main_v35 (F := Ideal) x0 x1 x2 x3 = Q
    pointwise []
  have hb : (val_main_v37 (F := Ideal) x0 x1 x2 x3 (ix2 s f) : EReal) = u A s.val (3072 + f.val) := by
    refine Eq.trans ?_ (v35 hA s ⟨3072 + f.val, by omega⟩)
    unfold val_main_v37
    generalize val_main_v35 (F := Ideal) x0 x1 x2 x3 = Q
    pointwise []
  unfold val_main_v51 val_main_v50 val_main_v49 val_main_v47 val_main_v45 val_main_v44 val_main_v42 val_main_v41 val_main_v39 val_main_v38
  generalize val_main_v36 (F := Ideal) x0 x1 x2 x3 = P at ha ⊢
  generalize val_main_v37 (F := Ideal) x0 x1 x2 x3 = Q at hb ⊢
  pointwise [val_main_v40, val_main_v43, val_main_v46, val_main_v48, val_main_cst_3, val_main_cst_4, val_main_cst_5, val_main_cst_6]
  rw [ha, hb]
  unfold act gelu
  generalize u A s.val f.val = v
  rw [mul_assoc (Ideal.ofBits .f32 0x3D372713#32 * v) v v, mul_assoc (Ideal.ofBits .f32 0x3D372713#32) v (v * v), ← mul_assoc v v v,
    mul_comm (Ideal.ofBits .f32 0x3F000000#32) v, ← mul_assoc v (Ideal.ofBits .f32 0x3F000000#32)]

theorem v55 (s : Fin 4096) (f : Fin 3072) : (val_main_v55 (F := Ideal) x0 x1 x2 x3 (ix2 s f) : EReal) = act A s.val f.val := by
  rw [← v51 hA]
  unfold val_main_v55
  generalize val_main_v51 (F := Ideal) x0 x1 x2 x3 = Q
  pointwise []

/-- The block's result. -/
theorem v53 (s : Fin 4096) (e : Fin 1024) : (val_main_v53 (F := Ideal) x0 x1 x2 x3 x4 (ix2 s e) : EReal) = out A s.val e.val := by
  have h : (val_main_v53 (F := Ideal) x0 x1 x2 x3 x4 (ix2 s e) : EReal)
      = x0 (ix2 s e) + ∑ f : Fin 3072, val_main_v51 (F := Ideal) x0 x1 x2 x3 (ix2 s f) * x4 (ix2 f e) := by
    unfold val_main_v53 val_main_v52
    generalize val_main_v51 (F := Ideal) x0 x1 x2 x3 = Q
    pointwise []
  rw [h, hA.x]
  unfold out down
  rw [Finset.sum_range]
  exact congrArg _ (Finset.sum_congr rfl fun f _ => congrArg₂ (· * ·) (v51 hA s f) (hA.wd f e))

omit hA in
theorem halves (Q : FVec Ideal S4096x6144 .f32) (h : Fin 2) (s : Fin 4096) (f : Fin 3072) :
    (truncf .bf16 (transpose S2x4096x3072 [1, 0, 2] (shapeCast S4096x2x3072 Q shapeCasts_S4096x6144_S4096x2x3072) transposes_S4096x2x3072_S2x4096x3072_1_0_2) bitsLt_bf16_f32
      (ix3 h s f) : EReal) = Q (ix2 s ⟨h.val * 3072 + f.val, by omega⟩) := by
  pointwise []

theorem v58 (h : Fin 2) (s : Fin 4096) (f : Fin 3072) : (val_main_v58 (F := Ideal) x0 x1 x2 (ix3 h s f) : EReal) = p A s.val (3072 * h.val + f.val) := by
  unfold val_main_v58 val_main_v57 val_main_v56
  refine (halves _ h s f).trans ((v13 hA _ _).trans (congrArg (p A s.val) ?_))
  show h.val * 3072 + f.val = 3072 * h.val + f.val; omega

theorem v61 (h : Fin 2) (s : Fin 4096) (f : Fin 3072) : (val_main_v61 (F := Ideal) x0 x1 x2 x3 (ix3 h s f) : EReal) = u A s.val (3072 * h.val + f.val) := by
  unfold val_main_v61 val_main_v60 val_main_v59
  refine (halves _ h s f).trans ((v35 hA _ _).trans (congrArg (u A s.val) ?_))
  show h.val * 3072 + f.val = 3072 * h.val + f.val; omega

end Cert.Fwd

end
-- ==== Proof.Fwd.Claim.lean ====
/- The feed-forward block's forward kernel: the frames, and kernel and reference leave the same five arrays. -/
module

public import proofs.«01_k».proof.Defs
public import proofs.«01_k».proof.Proof.Gen.FwdKernel
public import proofs.«01_k».proof.Proof.Fwd.Kernel
public import proofs.«01_k».proof.Proof.Fwd.Reference
public import Idealize.ShloMosaic.Lib.Quiescent

@[expose] public section

noncomputable section

namespace Cert.Fwd

open Idealize.ShloMosaic Idealize.SL.Sem

/-- The frame over the words is the ideal one's: the programs have the same text, and the run holds over any values. -/
theorem frame_kernel : Cert.quiescent_FwdKernel := fun m ρ _ =>
  cast (by sl_kernel_rfl) (Cert.FwdKernelIdeal.Run.frame (F := Bits) m ρ)

theorem frame_ideal : Cert.quiescent_FwdKernelIdeal := fun m ρ _ => Cert.FwdKernelIdeal.Run.frame m ρ

theorem frame_reference : Cert.quiescent_FwdReferenceIdeal := fun m ρ _ =>
  (θ_run _ _ _).mono (fun r h => ⟨fun c => (h c).2.2.2.2.2, sem_eq_zero_of_no_sems (by decide) _⟩)
    (Cert.FwdReferenceIdeal.Value.run (F := Ideal) m ρ)

open Cert.FwdReferenceIdeal.Read in
/-- Kernel and reference compute the same rows. -/
theorem algebraic : Cert.algebraic_FwdKernelIdeal_FwdReferenceIdeal := fun m ρ m' ρ' _ hagree => by
  refine ⟨fun c => oX (Cert.FwdKernelIdeal.Run.args m c), fun c => oH (Cert.FwdKernelIdeal.Run.args m c), fun c => oAct (Cert.FwdKernelIdeal.Run.args m c),
    fun c => oP (Cert.FwdKernelIdeal.Run.args m c), fun c => oU (Cert.FwdKernelIdeal.Run.args m c), ?_, ?_⟩
  · have hR := Cert.FwdKernelIdeal.Run.run_quiescent m ρ
    have hF := Cert.FwdKernelIdeal.Run.frame m ρ
    refine (θ_run _ _ _).mono (fun r h c => ?_) (θ_run_and hR hF)
    have hc := h.1.1 c
    have hA := Cert.FwdKernelIdeal.Run.holds m c
    exact ⟨(hc.1 7).trans (Cert.FwdKernelIdeal.Run.final7 hA), (hc.1 8).trans (Cert.FwdKernelIdeal.Run.final8 hA), (hc.1 9).trans (Cert.FwdKernelIdeal.Run.final9 hA),
      (hc.1 10).trans (Cert.FwdKernelIdeal.Run.final10 hA), (hc.1 11).trans (Cert.FwdKernelIdeal.Run.final11 hA), h.2.1 c⟩
  · refine (θ_run _ _ _).mono (fun r h c => ?_) (Cert.FwdReferenceIdeal.Value.run (F := Ideal) m' ρ')
    obtain ⟨h0, h1, h2, h3, h4, ha⟩ := h c
    obtain ⟨e0, e1, e2, e3, e4⟩ := hagree c
    have hK := Cert.FwdKernelIdeal.Run.holds m c
    have hA : Given (m' (c.tc.loc Cert.FwdReferenceIdeal.main_arg0)) (m' (c.tc.loc Cert.FwdReferenceIdeal.main_arg1)) (m' (c.tc.loc Cert.FwdReferenceIdeal.main_arg2))
        (m' (c.tc.loc Cert.FwdReferenceIdeal.main_arg3)) (m' (c.tc.loc Cert.FwdReferenceIdeal.main_arg4)) (Cert.FwdKernelIdeal.Run.args m c) :=
      ⟨fun s e => (congrFun e0 _).trans (hK.x s e), fun e => (congrFun e1 _).trans (hK.g e), fun e f => (congrFun e2 _).trans (hK.w e f),
        fun k f => (congrFun e3 _).trans (hK.cw k f), fun f e => (congrFun e4 _).trans (hK.wd f e)⟩
    have eta2 : ∀ {a b : ℕ} (j : (⟨2, ![a, b]⟩ : Shape).Idx), j = ix2 (j 0) (j 1) := fun j => Cert.FwdKernelIdeal.Run.eta2 j
    have eta3 : ∀ {a b d : ℕ} (j : (⟨3, ![a, b, d]⟩ : Shape).Idx), j = ix3 (j 0) (j 1) (j 2) := fun j => Cert.FwdKernelIdeal.Run.eta3 j
    refine ⟨h0.trans ?_, h1.trans ?_, h2.trans ?_, h3.trans ?_, h4.trans ?_, ha⟩
    · exact (val_main_v53_eq _ _).trans (funext fun i => (congrArg _ (eta2 i)).trans (v53 hA _ _))
    · exact (val_main_v54_eq _ _).trans (funext fun i => (congrArg _ (eta2 i)).trans (v54 hA _ _))
    · exact (val_main_v55_eq _ _).trans (funext fun i => (congrArg _ (eta2 i)).trans (v55 hA _ _))
    · exact (val_main_v58_eq _ _ _).trans (funext fun i => (congrArg _ (eta3 i)).trans (v58 hA _ _ _))
    · exact (val_main_v61_eq _ _).trans (funext fun i => (congrArg _ (eta3 i)).trans (v61 hA _ _ _))

end Cert.Fwd

end
-- ==== Proof.Tn.Halves.lean ====
/- A sum over a device's tokens, taken in two halves. -/
module

public import Idealize.ShloMosaic.Lib.Pointwise
public import Idealize.ShloMosaic.Lib.Claim
public import Idealize.ShloMosaic.Lib.Pipeline.ValueKit.Acc

@[expose] public section

noncomputable section

namespace Cert.Tn

/-- The sum over all tokens is that over the first half and that over the second. -/
theorem sum_halves (f : Fin 4096 → EReal) :
    ∑ r, f r = (∑ r : Fin 2048, f ⟨2048 * 0 + r.val, by omega⟩) + ∑ r : Fin 2048, f ⟨2048 * 1 + r.val, by omega⟩ := by
  rw [← Fin.sum_mul_add_congr (S := 2) (n := 2048) (f := f) (F := fun k r => f ⟨k.val * 2048 + r.val, by omega⟩) (fun k r hl => rfl) (by norm_num),
    Fin.sum_univ_two]
  refine congrArg₂ (fun x y : EReal => x + y) (Finset.sum_congr rfl fun r _ => congrArg f (Fin.ext ?_)) (Finset.sum_congr rfl fun r _ => congrArg f (Fin.ext ?_))
  · show 0 * 2048 + r.val = 2048 * 0 + r.val
    omega
  · show 1 * 2048 + r.val = 2048 * 1 + r.val
    omega

end Cert.Tn

end
-- ==== Proof.Tn.Kernel.lean ====
/- What the kernel of the in-projection's weight gradient leaves in its result: the product over all tokens, taken in two halves. -/
module

public import proofs.«01_k».proof.Proof.Gen.TnKernelIdeal.Value
public import proofs.«01_k».proof.Proof.Nin.Spec
public import proofs.«01_k».proof.Proof.Tn.Halves
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.Tn

open Idealize.ShloMosaic

/-- The arrays of one device: the projection's cotangent, the residual stream's rows and the norm's scale. -/
structure In where
  dz : Fin 4096 → Fin 3584 → EReal
  x : Fin 4096 → Fin 1024 → EReal
  g : Fin 1024 → EReal

/-- The normalised rows, which the projection is of. -/
def In.h (A : In) (r : Fin 4096) (l : Fin 1024) : EReal := A.x r l * Cert.Nin.scale (A.x r) * A.g l

/-- The gradient of the projection's weight, transposed: summed over the tokens. -/
def grad (A : In) (e : Fin 3584) (l : Fin 1024) : EReal := ∑ r, A.dz r e * A.h r l

end Cert.Tn

namespace Cert.TnKernelIdeal.Product

open Cert.TnKernelIdeal Cert.TnKernelIdeal.Gen Idealize.ShloMosaic Idealize.ShloMosaic.TcCoe Idealize.SL.Sem
open Idealize.ShloMosaic.Pipeline (Dat)
open Cert.Tn

variable (m : (ℓ : Loc nD τ sig) → Buf (Elt Ideal) ℓ) (c : Dev nD)

/-- The normalised rows, as the lines before the kernel compute them. -/
def host (x : FVec Ideal S4096x1024 .f32) (g : FVec Ideal S1024 .f32) : FVec Ideal S4096x1024 .f32 :=
  mulf (mulf x (broadcastInDim S4096x1024 ![0, 1] bcast_S4096x1_S4096x1024_0_1
        (Host.rsqrt (addf (Host.divf (broadcastInDim S4096x1 ![0] bcast_S4096_S4096x1_0
              (Host.reduceAdd (mulf x x) (constant S_ .f32 0x00000000#32) reducesTo_S4096x1024_S4096_d1 h_S_))
            (broadcastInDim S4096x1 ![] bcast_S_S4096x1 (constant S_ .f32 0x44800000#32)))
          (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))

/-- The arrays device `c` is given. -/
def args : In where
  dz r e := m (c.tc.loc main_arg0) (ix2 r e)
  x r l := m (c.tc.loc main_arg1) (ix2 r l)
  g l := m (c.tc.loc main_arg2) (ix1 l)

/-- The cotangent that the kernel reads, -/
theorem V_dz (r : Fin 4096) (e : Fin 3584) : (V m c main_v0 : FVec Ideal S4096x3584 .bf16) (ix2 r e) = (args m c).dz r e := by
  have h : (V m c main_v0 : FVec Ideal S4096x3584 .bf16) = truncf (F := Ideal) .bf16 (m (c.tc.loc main_arg0) : FVec Ideal S4096x3584 .f32) bitsLt_bf16_f32 := by
    unfold_abbrev_sides; after_results
  rw [h]; pointwise; rfl

/-- and the normalised rows, which the lines before it compute. -/
theorem V_h (r : Fin 4096) (l : Fin 1024) : (V m c main_v14 : FVec Ideal S4096x1024 .bf16) (ix2 r l) = (args m c).h r l := by
  have h : (V m c main_v14 : FVec Ideal S4096x1024 .bf16) = truncf (F := Ideal) .bf16 (host (m (c.tc.loc main_arg1)) (m (c.tc.loc main_arg2))) bitsLt_bf16_f32 := by
    unfold_abbrev_sides; after_results; rfl
  rw [h]; unfold host; pointwise; rfl

theorem idx : ∀ t : Fin grid0.N, (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) := by decide +kernel

/-- Token `r` of the tokens of point `t`. -/
def row (t : Fin cfg0.N) (r : Fin 2048) : Fin 4096 := ⟨2048 * (t.val % 2) + r.val, by have := r.isLt; omega⟩

/-- Column `e` of the projection's columns of point `t`. -/
def col (t : Fin cfg0.N) (e : Fin 896) : Fin 3584 :=
  ⟨896 * (t.val / 2) + e.val, by have := t.isLt; have := e.isLt; have : cfg0.N = 8 := N_0; omega⟩

variable (t : Fin cfg0.N)

theorem iblk0 (r : Fin 2048) (e : Fin 896) : (iblk m c 0 t : Vec Ideal S2048x896 .bf16) (ix2 r e) = (args m c).dz (row t r) (col t e) := by
  rw [← V_dz]; unfold row col; blk_point [iblk, idx t]

theorem iblk1 (r : Fin 2048) (l : Fin 1024) : (iblk m c 1 t : Vec Ideal S2048x1024 .bf16) (ix2 r l) = (args m c).h (row t r) l := by
  rw [← V_h]; unfold row; blk_point [iblk, idx t]

section Reads

variable (a : FVec Ideal S2048x896 .bf16) (b : FVec Ideal S2048x1024 .bf16) (e : Fin 896) (l : Fin 1024)

theorem read1 : (k0_pay1 (F := Ideal) a b (ix2 e l) : EReal) = ∑ r, (a (ix2 r e) : EReal) * (b (ix2 r l) : EReal) := by
  pointwise [k0_pay1]

theorem read2 : (k0_pay2 (F := Ideal) a b (ix2 e l) : EReal) = k0_pay1 (F := Ideal) a b (ix2 e l) := by pointwise [k0_pay2]

theorem read4 (s : FVec Ideal S896x1024 .f32) : (k0_pay4 (F := Ideal) a b s (ix2 e l) : EReal) = s (ix2 e l) + k0_pay1 (F := Ideal) a b (ix2 e l) := by
  pointwise [k0_pay4]

end Reads

/-- The part of the gradient that the tokens of point `t` give. -/
def part (e : Fin 896) (l : Fin 1024) : EReal := ∑ r, (args m c).dz (row t r) (col t e) * (args m c).h (row t r) l

theorem pay1 (e : Fin 896) (l : Fin 1024) : (k0_pay1 (F := Ideal) (iblk m c 0 t) (iblk m c 1 t) (ix2 e l) : EReal) = part m c t e l := by
  refine (read1 _ _ _ _).trans ?_
  simp only [iblk0, iblk1]; rfl

/-- After the first half of the tokens, the scratch holds their part. -/
theorem first (h0 : t.val % 2 = 0) (e : Fin 896) (l : Fin 1024) : ((outsAt0 m c t.val t.isLt).2 (ix2 e l) : EReal) = part m c t e l := by
  rw [outsAt0_A m c t h0 (by omega)]; dsimp only; frame_out
  exact (read2 _ _ _ _).trans (pay1 m c t e l)

/-- After the second half, the result's block is the whole gradient. -/
theorem second (h0 : t.val % 2 = 1) (e : Fin 896) (l : Fin 1024) :
    ((outsAt0 m c t.val t.isLt).1 (ix2 e l) : EReal) = grad (args m c) (col t e) l := by
  have hb : t.val - 1 < cfg0.N := Nat.lt_of_le_of_lt (Nat.sub_le _ _) t.isLt
  have hf := first m c ⟨t.val - 1, hb⟩ (show (t.val - 1) % 2 = 0 by omega) e l
  rw [outsAt0_B m c t (by omega) h0]; dsimp only; frame_out
  refine (read4 _ _ _ _ _).trans ?_
  simp only [read_unread_whole]
  refine (congrArg₂ (fun x y : EReal => x + y) hf (pay1 m c t e l)).trans ?_
  unfold grad
  rw [sum_halves]
  have hc : col ⟨t.val - 1, hb⟩ e = col t e := Fin.ext (by show 896 * ((t.val - 1) / 2) + e.val = 896 * (t.val / 2) + e.val; omega)
  have r0 : ∀ r, row ⟨t.val - 1, hb⟩ r = ⟨2048 * 0 + r.val, by omega⟩ := fun r => by simp only [row, show (t.val - 1) % 2 = 0 by omega]
  have r1 : ∀ r, row t r = ⟨2048 * 1 + r.val, by omega⟩ := fun r => by simp only [row, h0]
  unfold part
  simp only [hc, r0, r1]

/-- A position of a matrix by its two coordinates. -/
theorem eta2 {a b : ℕ} (j : (⟨2, ![a, b]⟩ : Shape).Idx) : j = ix2 (j 0) (j 1) := by funext x; fin_cases x <;> rfl

/-- The result: the gradient. -/
theorem final : (dats m 0 c).arrAt 2 cfg0.N = fun i => grad (args m c) (i 0) (i 1) := by
  refine (dats m 0 c).arrAt_eq_of_covers 2 _ (by decide +kernel) fun t hf y => ?_
  blk_simp
  rw [after0_2]
  have he : (win0_2.blk t).view.emb y = (ix2 (col t (y 0)) (y 1) : S3584x1024.Idx) := by unfold col; blk_ext [idx t]
  rw [he]
  exact (congrArg _ (eta2 y)).trans (second m c t ((flush0_2 t).mp hf) _ _)

end Cert.TnKernelIdeal.Product

end
-- ==== Proof.Tn.Claim.lean ====
/- The in-projection's weight gradient: the frames, and kernel and reference leave the same array. -/
module

public import proofs.«01_k».proof.Defs
public import proofs.«01_k».proof.Proof.Gen.TnKernel.Frame
public import proofs.«01_k».proof.Proof.Gen.TnReferenceIdeal.Run
public import proofs.«01_k».proof.Proof.Tn.Kernel
public import Idealize.ShloMosaic.Lib.Quiescent

@[expose] public section

noncomputable section

namespace Cert.Tn

open Idealize.ShloMosaic Idealize.SL.Sem

theorem frame_kernel : Cert.quiescent_TnKernel := fun m ρ _ => Cert.TnKernel.Gen.frame m ρ

theorem frame_ideal : Cert.quiescent_TnKernelIdeal := fun m ρ _ => Cert.TnKernelIdeal.Gen.frame m ρ

theorem frame_reference : Cert.quiescent_TnReferenceIdeal := fun m ρ _ =>
  (θ_run _ _ _).mono (fun r h => ⟨fun c => (h c).2, sem_eq_zero_of_no_sems (by decide) _⟩)
    (Cert.TnReferenceIdeal.Value.run (F := Ideal) m ρ)

section Reference

open Cert.TnReferenceIdeal Cert.TnReferenceIdeal.Gen

variable (x0 : FVec Ideal S4096x3584 .f32) (x1 : FVec Ideal S4096x1024 .f32) (x2 : FVec Ideal S1024 .f32)

/-- The arrays the reference is given. -/
def given : In := ⟨fun r e => x0 (ix2 r e), fun r l => x1 (ix2 r l), fun l => x2 (ix1 l)⟩

/-- The reference's normalised rows, -/
def rows : FVec Ideal S4096x1024 .f32 :=
  mulf (mulf x1 (broadcastInDim S4096x1024 ![0, 1] bcast_S4096x1_S4096x1024_0_1
        (Host.rsqrt (addf (Host.divf (broadcastInDim S4096x1 ![0] bcast_S4096_S4096x1_0
              (Host.reduceAdd (mulf x1 x1) (constant S_ .f32 0x00000000#32) reducesTo_S4096x1024_S4096_d1 h_S_))
            (broadcastInDim S4096x1 ![] bcast_S_S4096x1 (constant S_ .f32 0x44800000#32)))
          (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 x2))

/-- entry by entry, -/
theorem rows_apply (r : Fin 4096) (l : Fin 1024) : (rows x1 x2 (ix2 r l) : EReal) = (given x0 x1 x2).h r l := by
  unfold rows; pointwise; rfl

/-- and the gradient of the projection's weight, transposed twice. -/
theorem result (e : Fin 3584) (l : Fin 1024) :
    ((truncf .bf16 (transpose S3584x1024 [1, 0] (transpose S1024x3584 [1, 0] (Host.dotGeneral dot_S4096x3584_S4096x1024_S3584x1024_0_0_1_1_n_n none x0
      (rows x1 x2)) transposes_S3584x1024_S1024x3584_1_0) transposes_S1024x3584_S3584x1024_1_0) bitsLt_bf16_f32 : FVec Ideal S3584x1024 .bf16) (ix2 e l) : EReal)
      = grad (given x0 x1 x2) e l := by
  pointwise
  simp only [rows_apply x0 x1 x2]; rfl

end Reference

/-- Kernel and reference compute the same gradient. -/
theorem algebraic : Cert.algebraic_TnKernelIdeal_TnReferenceIdeal := fun m ρ m' ρ' _ hagree => by
  refine ⟨fun c i => grad (Cert.TnKernelIdeal.Product.args m c) (i 0) (i 1), ?_, ?_⟩
  · refine (θ_run _ _ _).mono (fun r h c => ?_) (Cert.TnKernelIdeal.Value.run_blocks (F := Ideal) m ρ)
    exact ⟨(h c).1.trans (Cert.TnKernelIdeal.Product.final m c), (h c).2⟩
  · refine (θ_run _ _ _).mono (fun r h c => ?_) (Cert.TnReferenceIdeal.Value.run (F := Ideal) m' ρ')
    obtain ⟨h0, ha⟩ := h c
    obtain ⟨e0, e1, e2⟩ := hagree c
    refine ⟨h0.trans (funext fun i => ?_), ha⟩
    rw [e0, e1, e2]
    exact (congrArg _ (Cert.TnKernelIdeal.Product.eta2 i)).trans (result _ _ _ _ _)

end Cert.Tn

end
-- ==== Proof.Nn.Kernel.lean ====
/- What the out-projection leaves in its result: the product of each tile of rows with the whole weight, and the residual. -/
module

public import proofs.«01_k».proof.Proof.Gen.NnKernelIdeal.Value
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.Nn

open Idealize.ShloMosaic

/-- The arrays of one device: the residual stream, the mixer's output and the projection's weight. -/
structure In where
  x : Fin 4096 → Fin 1024 → EReal
  y : Fin 4096 → Fin 1536 → EReal
  w : Fin 1536 → Fin 1024 → EReal

/-- The projection, added to the residual stream. -/
def out (A : In) (r : Fin 4096) (l : Fin 1024) : EReal := A.x r l + ∑ e, A.y r e * A.w e l

end Cert.Nn

namespace Cert.NnKernelIdeal.Product

open Cert.NnKernelIdeal Cert.NnKernelIdeal.Gen Idealize.ShloMosaic Idealize.ShloMosaic.TcCoe Idealize.SL.Sem
open Idealize.ShloMosaic.Pipeline (Dat)
open Cert.Nn

variable (m : (ℓ : Loc nD τ sig) → Buf (Elt Ideal) ℓ) (c : Dev nD)

/-- The arrays device `c` is given. -/
def args : In where
  x r l := m (c.tc.loc main_arg0) (ix2 r l)
  y r e := m (c.tc.loc main_arg1) (ix2 r e)
  w e l := m (c.tc.loc main_arg2) (ix2 e l)

/-- The kernel's copies of the mixer's output -/
theorem V_y (r : Fin 4096) (e : Fin 1536) : (V m c main_v0 : FVec Ideal S4096x1536 .bf16) (ix2 r e) = (args m c).y r e := by
  have h : (V m c main_v0 : FVec Ideal S4096x1536 .bf16) = truncf (F := Ideal) .bf16 (m (c.tc.loc main_arg1) : FVec Ideal S4096x1536 .f32) bitsLt_bf16_f32 := by
    unfold_abbrev_sides; after_results
  rw [h]; pointwise; rfl

/-- and of the weight. -/
theorem V_w (e : Fin 1536) (l : Fin 1024) : (V m c main_v1 : FVec Ideal S1536x1024 .bf16) (ix2 e l) = (args m c).w e l := by
  have h : (V m c main_v1 : FVec Ideal S1536x1024 .bf16) = truncf (F := Ideal) .bf16 (m (c.tc.loc main_arg2) : FVec Ideal S1536x1024 .f32) bitsLt_bf16_f32 := by
    unfold_abbrev_sides; after_results
  rw [h]; pointwise; rfl

theorem V_x (r : Fin 4096) (l : Fin 1024) : (V m c main_arg0 : FVec Ideal S4096x1024 .f32) (ix2 r l) = (args m c).x r l := by
  unfold_abbrev_sides; after_results

theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) := by decide +kernel

/-- Row `r` of the rows of point `t`. -/
def row (t : Fin cfg0.N) (r : Fin 1024) : Fin 4096 := ⟨1024 * t.val + r.val, by have := t.isLt; have := r.isLt; have : cfg0.N = 4 := N_0; omega⟩

variable (t : Fin cfg0.N)

theorem iblk0 (r : Fin 1024) (e : Fin 1536) : (iblk m c 0 t : Vec Ideal S1024x1536 .bf16) (ix2 r e) = (args m c).y (row t r) e := by
  rw [← V_y]; unfold row; blk_point [iblk, idx t]

theorem iblk1 (e : Fin 1536) (l : Fin 1024) : (iblk m c 1 t : Vec Ideal S1536x1024 .bf16) (ix2 e l) = (args m c).w e l := by
  rw [← V_w]; blk_point [iblk, idx t]

theorem iblk2 (r : Fin 1024) (l : Fin 1024) : (iblk m c 2 t : Vec Ideal S1024x1024 .f32) (ix2 r l) = (args m c).x (row t r) l := by
  rw [← V_x]; unfold row; blk_point [iblk, idx t]

/-- The body's value, from the blocks it reads. -/
theorem read (a : FVec Ideal S1024x1536 .bf16) (b : FVec Ideal S1536x1024 .bf16) (x : FVec Ideal S1024x1024 .f32) (r l : Fin 1024) :
    (k0_pay1 (F := Ideal) a b x (ix2 r l) : EReal) = (∑ e, (a (ix2 r e) : EReal) * (b (ix2 e l) : EReal)) + x (ix2 r l) := by
  pointwise [k0_pay1]

/-- A block of the result. -/
theorem block (r l : Fin 1024) : (out0_3 (iblk m c 0 t) (iblk m c 1 t) (iblk m c 2 t) (ix2 r l) : EReal) = out (args m c) (row t r) l := by
  unfold out0_3; frame_out
  refine (read _ _ _ _ _).trans ?_
  simp only [iblk0, iblk1, iblk2]
  exact add_comm _ _

/-- A position of a matrix by its two coordinates. -/
theorem eta2 {a b : ℕ} (j : (⟨2, ![a, b]⟩ : Shape).Idx) : j = ix2 (j 0) (j 1) := by funext x; fin_cases x <;> rfl

/-- The result. -/
theorem final : (dats m 0 c).arrAt 3 cfg0.N = fun i => out (args m c) (i 0) (i 1) := by
  refine (dats m 0 c).arrAt_eq_of_covers 3 _ (by decide +kernel) fun t hf y => ?_
  blk_simp
  rw [after0_3]
  have he : (win0_3.blk t).view.emb y = (ix2 (row t (y 0)) (y 1) : S4096x1024.Idx) := by unfold row; blk_ext [idx t]
  rw [he]
  exact (congrArg _ (eta2 y)).trans (block m c t _ _)

end Cert.NnKernelIdeal.Product

end
-- ==== Proof.Nn.Claim.lean ====
/- The out-projection: the frames, and kernel and reference leave the same array. -/
module

public import proofs.«01_k».proof.Defs
public import proofs.«01_k».proof.Proof.Gen.NnKernel.Frame
public import proofs.«01_k».proof.Proof.Gen.NnReferenceIdeal.Run
public import proofs.«01_k».proof.Proof.Nn.Kernel
public import Idealize.ShloMosaic.Lib.Quiescent

@[expose] public section

noncomputable section

namespace Cert.Nn

open Idealize.ShloMosaic Idealize.SL.Sem

theorem frame_kernel : Cert.quiescent_NnKernel := fun m ρ _ => Cert.NnKernel.Gen.frame m ρ

theorem frame_ideal : Cert.quiescent_NnKernelIdeal := fun m ρ _ => Cert.NnKernelIdeal.Gen.frame m ρ

theorem frame_reference : Cert.quiescent_NnReferenceIdeal := fun m ρ _ =>
  (θ_run _ _ _).mono (fun r h => ⟨fun c => (h c).2, sem_eq_zero_of_no_sems (by decide) _⟩)
    (Cert.NnReferenceIdeal.Value.run (F := Ideal) m ρ)

open Cert.NnReferenceIdeal Cert.NnReferenceIdeal.Gen in
/-- The reference's sum, entry by entry. -/
theorem result (x0 : FVec Ideal S4096x1024 .f32) (x1 : FVec Ideal S4096x1536 .f32) (x2 : FVec Ideal S1536x1024 .f32) (r : Fin 4096) (l : Fin 1024) :
    (addf x0 (Host.dotGeneral dot_S4096x1536_S1536x1024_S4096x1024_1_0_0_1_n_n none x1 x2) (ix2 r l) : EReal)
      = out ⟨fun r l => x0 (ix2 r l), fun r e => x1 (ix2 r e), fun e l => x2 (ix2 e l)⟩ r l := by
  unfold out; pointwise

/-- Kernel and reference compute the same projection. -/
theorem algebraic : Cert.algebraic_NnKernelIdeal_NnReferenceIdeal := fun m ρ m' ρ' _ hagree => by
  refine ⟨fun c i => out (Cert.NnKernelIdeal.Product.args m c) (i 0) (i 1), ?_, ?_⟩
  · refine (θ_run _ _ _).mono (fun r h c => ?_) (Cert.NnKernelIdeal.Value.run_blocks (F := Ideal) m ρ)
    exact ⟨(h c).1.trans (Cert.NnKernelIdeal.Product.final m c), (h c).2⟩
  · refine (θ_run _ _ _).mono (fun r h c => ?_) (Cert.NnReferenceIdeal.Value.run (F := Ideal) m' ρ')
    obtain ⟨h0, ha⟩ := h c
    obtain ⟨e0, e1, e2⟩ := hagree c
    refine ⟨h0.trans (funext fun i => ?_), ha⟩
    rw [e0, e1, e2]
    exact (congrArg _ (Cert.NnKernelIdeal.Product.eta2 i)).trans (result _ _ _ _ _)

end Cert.Nn

end
-- ==== Proof.Nt.Kernel.lean ====
/- What the out-projection's backward leaves in its result: blocks of the product of the cotangent with the transposed weight. -/
module

public import proofs.«01_k».proof.Proof.Gen.NtKernelIdeal.Value
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.Nt

open Idealize.ShloMosaic

/-- The arrays of one device: the projection's weight and the cotangent of its output. -/
structure In where
  w : Fin 1536 → Fin 1024 → EReal
  d : Fin 4096 → Fin 1024 → EReal

/-- The gradient at the mixer's output. -/
def grad (A : In) (r : Fin 4096) (e : Fin 1536) : EReal := ∑ l, A.d r l * A.w e l

end Cert.Nt

namespace Cert.NtKernelIdeal.Product

open Cert.NtKernelIdeal Cert.NtKernelIdeal.Gen Idealize.ShloMosaic Idealize.ShloMosaic.TcCoe Idealize.SL.Sem
open Idealize.ShloMosaic.Pipeline (Dat)
open Cert.Nt

variable (m : (ℓ : Loc nD τ sig) → Buf (Elt Ideal) ℓ) (c : Dev nD)

/-- The arrays device `c` is given. -/
def args : In where
  w e l := m (c.tc.loc main_arg0) (ix2 e l)
  d r l := m (c.tc.loc main_arg1) (ix2 r l)

/-- The kernel's copies of the cotangent -/
theorem V_d (r : Fin 4096) (l : Fin 1024) : (V m c main_v0 : FVec Ideal S4096x1024 .bf16) (ix2 r l) = (args m c).d r l := by
  have h : (V m c main_v0 : FVec Ideal S4096x1024 .bf16) = truncf (F := Ideal) .bf16 (m (c.tc.loc main_arg1) : FVec Ideal S4096x1024 .f32) bitsLt_bf16_f32 := by
    unfold_abbrev_sides; after_results
  rw [h]; pointwise; rfl

/-- and of the weight. -/
theorem V_w (e : Fin 1536) (l : Fin 1024) : (V m c main_v1 : FVec Ideal S1536x1024 .bf16) (ix2 e l) = (args m c).w e l := by
  have h : (V m c main_v1 : FVec Ideal S1536x1024 .bf16) = truncf (F := Ideal) .bf16 (m (c.tc.loc main_arg0) : FVec Ideal S1536x1024 .f32) bitsLt_bf16_f32 := by
    unfold_abbrev_sides; after_results
  rw [h]; pointwise; rfl

theorem idx : ∀ t : Fin grid0.N, (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) := by decide +kernel

/-- Row `r` of the rows of point `t`. -/
def row (t : Fin cfg0.N) (r : Fin 1024) : Fin 4096 := ⟨1024 * (t.val / 2) + r.val, by have := t.isLt; have := r.isLt; have : cfg0.N = 8 := N_0; omega⟩

/-- Column `e` of the columns of point `t`. -/
def col (t : Fin cfg0.N) (e : Fin 768) : Fin 1536 := ⟨768 * (t.val % 2) + e.val, by have := e.isLt; omega⟩

variable (t : Fin cfg0.N)

theorem iblk0 (r l : Fin 1024) : (iblk m c 0 t : Vec Ideal S1024x1024 .bf16) (ix2 r l) = (args m c).d (row t r) l := by
  rw [← V_d]; unfold row; blk_point [iblk, idx t]

theorem iblk1 (e : Fin 768) (l : Fin 1024) : (iblk m c 1 t : Vec Ideal S768x1024 .bf16) (ix2 e l) = (args m c).w (col t e) l := by
  rw [← V_w]; unfold col; blk_point [iblk, idx t]

/-- The body's value, from the blocks it reads. -/
theorem read (a : FVec Ideal S1024x1024 .bf16) (b : FVec Ideal S768x1024 .bf16) (r : Fin 1024) (e : Fin 768) :
    (k0_pay1 (F := Ideal) a b (ix2 r e) : EReal) = ∑ l, (a (ix2 r l) : EReal) * (b (ix2 e l) : EReal) := by
  pointwise [k0_pay1]

/-- A block of the result. -/
theorem block (r : Fin 1024) (e : Fin 768) : (out0_2 (iblk m c 0 t) (iblk m c 1 t) (ix2 r e) : EReal) = grad (args m c) (row t r) (col t e) := by
  unfold out0_2; frame_out
  refine (read _ _ _ _).trans ?_
  simp only [iblk0, iblk1]; rfl

/-- A position of a matrix by its two coordinates. -/
theorem eta2 {a b : ℕ} (j : (⟨2, ![a, b]⟩ : Shape).Idx) : j = ix2 (j 0) (j 1) := by funext x; fin_cases x <;> rfl

/-- The result. -/
theorem final : (dats m 0 c).arrAt 2 cfg0.N = fun i => grad (args m c) (i 0) (i 1) := by
  refine (dats m 0 c).arrAt_eq_of_covers 2 _ (by decide +kernel) fun t hf y => ?_
  blk_simp
  rw [after0_2]
  have he : (win0_2.blk t).view.emb y = (ix2 (row t (y 0)) (col t (y 1)) : S4096x1536.Idx) := by unfold row col; blk_ext [idx t]
  rw [he]
  exact (congrArg _ (eta2 y)).trans (block m c t _ _)

end Cert.NtKernelIdeal.Product

end
-- ==== Proof.Nt.Claim.lean ====
/- The out-projection's backward: the frames, and kernel and reference leave the same array. -/
module

public import proofs.«01_k».proof.Defs
public import proofs.«01_k».proof.Proof.Gen.NtKernel.Frame
public import proofs.«01_k».proof.Proof.Gen.NtReferenceIdeal.Run
public import proofs.«01_k».proof.Proof.Nt.Kernel
public import Idealize.ShloMosaic.Lib.Quiescent

@[expose] public section

noncomputable section

namespace Cert.Nt

open Idealize.ShloMosaic Idealize.SL.Sem

theorem frame_kernel : Cert.quiescent_NtKernel := fun m ρ _ => Cert.NtKernel.Gen.frame m ρ

theorem frame_ideal : Cert.quiescent_NtKernelIdeal := fun m ρ _ => Cert.NtKernelIdeal.Gen.frame m ρ

theorem frame_reference : Cert.quiescent_NtReferenceIdeal := fun m ρ _ =>
  (θ_run _ _ _).mono (fun r h => ⟨fun c => (h c).2, sem_eq_zero_of_no_sems (by decide) _⟩)
    (Cert.NtReferenceIdeal.Value.run (F := Ideal) m ρ)

open Cert.NtReferenceIdeal Cert.NtReferenceIdeal.Gen in
/-- The reference's product, entry by entry. -/
theorem result (x0 : FVec Ideal S1536x1024 .f32) (x1 : FVec Ideal S4096x1024 .f32) (r : Fin 4096) (e : Fin 1536) :
    (Host.dotGeneral dot_S4096x1024_S1536x1024_S4096x1536_1_1_0_0_n_n none x1 x0 (ix2 r e) : EReal)
      = grad ⟨fun e l => x0 (ix2 e l), fun r l => x1 (ix2 r l)⟩ r e := by
  unfold grad; pointwise

/-- Kernel and reference compute the same gradient. -/
theorem algebraic : Cert.algebraic_NtKernelIdeal_NtReferenceIdeal := fun m ρ m' ρ' _ hagree => by
  refine ⟨fun c i => grad (Cert.NtKernelIdeal.Product.args m c) (i 0) (i 1), ?_, ?_⟩
  · refine (θ_run _ _ _).mono (fun r h c => ?_) (Cert.NtKernelIdeal.Value.run_blocks (F := Ideal) m ρ)
    exact ⟨(h c).1.trans (Cert.NtKernelIdeal.Product.final m c), (h c).2⟩
  · refine (θ_run _ _ _).mono (fun r h c => ?_) (Cert.NtReferenceIdeal.Value.run (F := Ideal) m' ρ')
    obtain ⟨h0, ha⟩ := h c
    obtain ⟨e0, e1⟩ := hagree c
    refine ⟨h0.trans (funext fun i => ?_), ha⟩
    rw [e0, e1]
    exact (congrArg _ (Cert.NtKernelIdeal.Product.eta2 i)).trans (result _ _ _ _)

end Cert.Nt

end
-- ==== Proof.Up.Kernel.lean ====
/- What the kernel of the up-projection's weight gradient leaves in its result: for each block of the weight's columns, the product over all tokens, taken in two halves. -/
module

public import proofs.«01_k».proof.Proof.Gen.UpKernelIdeal.Value
public import proofs.«01_k».proof.Proof.Nin.Spec
public import proofs.«01_k».proof.Proof.Tn.Halves
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.Up

open Idealize.ShloMosaic

/-- The arrays of one device: the rows before the second norm, its scale and the up-projection's cotangent. -/
structure In where
  x : Fin 4096 → Fin 1024 → EReal
  g : Fin 1024 → EReal
  d : Fin 4096 → Fin 6144 → EReal

/-- The normalised rows, which the projection is of. -/
def In.h (A : In) (r : Fin 4096) (l : Fin 1024) : EReal := A.x r l * Cert.Nin.scale (A.x r) * A.g l

/-- Column `f` of block `k` of the weight's columns. -/
def colOf (k : Fin 8) (f : Fin 768) : Fin 6144 := ⟨k.val * 768 + f.val, by omega⟩

/-- The gradient of the projection's weight, block by block: summed over the tokens. -/
def grad (A : In) (k : Fin 8) (l : Fin 1024) (f : Fin 768) : EReal := ∑ r, A.h r l * A.d r (colOf k f)

end Cert.Up

namespace Cert.UpKernelIdeal.Product

open Cert.UpKernelIdeal Cert.UpKernelIdeal.Gen Idealize.ShloMosaic Idealize.ShloMosaic.TcCoe Idealize.SL.Sem
open Idealize.ShloMosaic.Pipeline (Dat)
open Cert.Up

variable (m : (ℓ : Loc nD τ sig) → Buf (Elt Ideal) ℓ) (c : Dev nD)

/-- The normalised rows, as the lines before the kernel compute them. -/
def host (x : FVec Ideal S4096x1024 .f32) (g : FVec Ideal S1024 .f32) : FVec Ideal S4096x1024 .f32 :=
  mulf (mulf x (broadcastInDim S4096x1024 ![0, 1] bcast_S4096x1_S4096x1024_0_1
        (Host.rsqrt (addf (Host.divf (broadcastInDim S4096x1 ![0] bcast_S4096_S4096x1_0
              (Host.reduceAdd (mulf x x) (constant S_ .f32 0x00000000#32) reducesTo_S4096x1024_S4096_d1 h_S_))
            (broadcastInDim S4096x1 ![] bcast_S_S4096x1 (constant S_ .f32 0x44800000#32)))
          (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))

/-- The arrays device `c` is given. -/
def args : In where
  x r l := m (c.tc.loc main_arg0) (ix2 r l)
  g l := m (c.tc.loc main_arg1) (ix1 l)
  d r f := m (c.tc.loc main_arg2) (ix2 r f)

/-- The normalised rows that the kernel reads, -/
theorem V_h (r : Fin 4096) (l : Fin 1024) : (V m c main_v16 : FVec Ideal S4096x1024 .bf16) (ix2 r l) = (args m c).h r l := by
  have h : (V m c main_v16 : FVec Ideal S4096x1024 .bf16) = truncf (F := Ideal) .bf16 (host (m (c.tc.loc main_arg0)) (m (c.tc.loc main_arg1))) bitsLt_bf16_f32 := by
    unfold_abbrev_sides; after_results; rfl
  rw [h]; unfold host; pointwise; rfl

/-- and the cotangent, the two halves of its columns one after the other. -/
theorem V_d (b : Fin 2) (r : Fin 4096) (f : Fin 3072) :
    (V m c main_v2 : FVec Ideal S2x4096x3072 .bf16) (ix3 b r f) = (args m c).d r ⟨b.val * 3072 + f.val, by omega⟩ := by
  have h : (V m c main_v2 : FVec Ideal S2x4096x3072 .bf16) = truncf (F := Ideal) .bf16 (transpose S2x4096x3072 [1, 0, 2]
      (shapeCast S4096x2x3072 (m (c.tc.loc main_arg2) : FVec Ideal S4096x6144 .f32) shapeCasts_S4096x6144_S4096x2x3072)
      transposes_S4096x2x3072_S2x4096x3072_1_0_2) bitsLt_bf16_f32 := by
    unfold_abbrev_sides; after_results; rfl
  rw [h]; pointwise; rfl

theorem idx : ∀ t : Fin grid0.N, (win0_0.index t 0 = t.val % 2 ∧ win0_0.index t 1 = 0)
    ∧ (win0_1.index t 0 = t.val / 8 ∧ win0_1.index t 1 = t.val % 2 ∧ win0_1.index t 2 = t.val / 2 % 4)
    ∧ (win0_2.index t 0 = t.val / 2 ∧ win0_2.index t 1 = 0 ∧ win0_2.index t 2 = 0) := by decide +kernel

/-- Token `r` of the tokens of point `t`. -/
def row (t : Fin cfg0.N) (r : Fin 2048) : Fin 4096 := ⟨2048 * (t.val % 2) + r.val, by have := r.isLt; omega⟩

/-- The block of columns of point `t`. -/
def blk (t : Fin cfg0.N) : Fin 8 := ⟨t.val / 2, by have := t.isLt; have : cfg0.N = 16 := N_0; omega⟩

variable (t : Fin cfg0.N)

theorem iblk0 (r : Fin 2048) (l : Fin 1024) : (iblk m c 0 t : Vec Ideal S2048x1024 .bf16) (ix2 r l) = (args m c).h (row t r) l := by
  rw [← V_h]; unfold row; blk_point [iblk, idx t]

theorem iblk1 (r : Fin 2048) (f : Fin 768) : (iblk m c 1 t : Vec Ideal S1x2048x768 .bf16) (ix3 0 r f) = (args m c).d (row t r) (colOf (blk t) f) := by
  have ht : t.val < 16 := lt_of_lt_of_eq t.isLt N_0
  have e : (iblk m c 1 t : Vec Ideal S1x2048x768 .bf16) (ix3 0 r f)
      = V m c main_v2 (ix3 (⟨t.val / 8, by omega⟩ : Fin 2) (row t r) (⟨768 * (t.val / 2 % 4) + f.val, by omega⟩ : Fin 3072)) := by
    unfold row; blk_point [iblk, idx t]
  refine e.trans ((V_d m c _ _ _).trans (congrArg ((args m c).d (row t r)) (Fin.ext ?_)))
  show t.val / 8 * 3072 + (768 * (t.val / 2 % 4) + f.val) = t.val / 2 * 768 + f.val
  omega

section Reads

variable (a : FVec Ideal S2048x1024 .bf16) (b : FVec Ideal S1x2048x768 .bf16) (l : Fin 1024) (f : Fin 768)

theorem read1 : (k0_pay1 (F := Ideal) a b (ix2 l f) : EReal) = ∑ r, (a (ix2 r l) : EReal) * (b (ix3 0 r f) : EReal) := by
  pointwise [k0_pay1]

theorem read2 : (k0_pay2 (F := Ideal) a b (ix2 l f) : EReal) = k0_pay1 (F := Ideal) a b (ix2 l f) := by pointwise [k0_pay2]

theorem read4 (s : FVec Ideal S1024x768 .f32) : (k0_pay4 (F := Ideal) a b s (ix3 0 l f) : EReal) = s (ix2 l f) + k0_pay1 (F := Ideal) a b (ix2 l f) := by
  pointwise [k0_pay4]

end Reads

/-- The part of the gradient that the tokens of point `t` give. -/
def part (l : Fin 1024) (f : Fin 768) : EReal := ∑ r, (args m c).h (row t r) l * (args m c).d (row t r) (colOf (blk t) f)

theorem pay1 (l : Fin 1024) (f : Fin 768) : (k0_pay1 (F := Ideal) (iblk m c 0 t) (iblk m c 1 t) (ix2 l f) : EReal) = part m c t l f := by
  refine (read1 _ _ _ _).trans ?_
  simp only [iblk0, iblk1]; rfl

/-- After the first half of the tokens, the scratch holds their part. -/
theorem first (h0 : t.val % 2 = 0) (l : Fin 1024) (f : Fin 768) : ((outsAt0 m c t.val t.isLt).2 (ix2 l f) : EReal) = part m c t l f := by
  rw [outsAt0_A m c t h0 (by omega)]; dsimp only; frame_out
  exact (read2 _ _ _ _).trans (pay1 m c t l f)

/-- After the second half, the result's block is the whole gradient. -/
theorem second (h0 : t.val % 2 = 1) (l : Fin 1024) (f : Fin 768) :
    ((outsAt0 m c t.val t.isLt).1 (ix3 0 l f) : EReal) = grad (args m c) (blk t) l f := by
  have hb : t.val - 1 < cfg0.N := Nat.lt_of_le_of_lt (Nat.sub_le _ _) t.isLt
  have hf := first m c ⟨t.val - 1, hb⟩ (show (t.val - 1) % 2 = 0 by omega) l f
  rw [outsAt0_B m c t (by omega) h0]; dsimp only; frame_out
  refine (read4 _ _ _ _ _).trans ?_
  simp only [read_unread_whole]
  refine (congrArg₂ (fun x y : EReal => x + y) hf (pay1 m c t l f)).trans ?_
  unfold grad
  rw [Cert.Tn.sum_halves]
  have hc : blk ⟨t.val - 1, hb⟩ = blk t := Fin.ext (by show (t.val - 1) / 2 = t.val / 2; omega)
  have r0 : ∀ r, row ⟨t.val - 1, hb⟩ r = ⟨2048 * 0 + r.val, by omega⟩ := fun r => by simp only [row, show (t.val - 1) % 2 = 0 by omega]
  have r1 : ∀ r, row t r = ⟨2048 * 1 + r.val, by omega⟩ := fun r => by simp only [row, h0]
  unfold part
  simp only [hc, r0, r1]

/-- A position by its three coordinates. -/
theorem eta3 {a b d : ℕ} (j : (⟨3, ![a, b, d]⟩ : Shape).Idx) : j = ix3 (j 0) (j 1) (j 2) := by funext x; fin_cases x <;> rfl

/-- The result: the gradient. -/
theorem final : (dats m 0 c).arrAt 2 cfg0.N = fun i => grad (args m c) (i 0) (i 1) (i 2) := by
  refine (dats m 0 c).arrAt_eq_of_covers 2 _ (by decide +kernel) fun t hf y => ?_
  blk_simp
  rw [after0_2]
  have he : (win0_2.blk t).view.emb y = (ix3 (blk t) (y 1) (y 2) : S8x1024x768.Idx) := by unfold blk; blk_ext [idx t]
  rw [he]
  have hy : y = ix3 0 (y 1) (y 2) := (eta3 y).trans (congrArg (fun k => ix3 k (y 1) (y 2)) (Subsingleton.elim (α := Fin 1) _ _))
  exact (congrArg _ hy).trans (second m c t ((flush0_2 t).mp hf) _ _)

end Cert.UpKernelIdeal.Product

end
-- ==== Proof.Up.Claim.lean ====
/- The up-projection's weight gradient: the frames, and kernel and reference leave the same array. -/
module

public import proofs.«01_k».proof.Defs
public import proofs.«01_k».proof.Proof.Gen.UpKernel.Frame
public import proofs.«01_k».proof.Proof.Gen.UpReferenceIdeal.Run
public import proofs.«01_k».proof.Proof.Up.Kernel
public import Idealize.ShloMosaic.Lib.Quiescent

@[expose] public section

noncomputable section

namespace Cert.Up

open Idealize.ShloMosaic Idealize.SL.Sem

theorem frame_kernel : Cert.quiescent_UpKernel := fun m ρ _ => Cert.UpKernel.Gen.frame m ρ

theorem frame_ideal : Cert.quiescent_UpKernelIdeal := fun m ρ _ => Cert.UpKernelIdeal.Gen.frame m ρ

theorem frame_reference : Cert.quiescent_UpReferenceIdeal := fun m ρ _ =>
  (θ_run _ _ _).mono (fun r h => ⟨fun c => (h c).2, sem_eq_zero_of_no_sems (by decide) _⟩)
    (Cert.UpReferenceIdeal.Value.run (F := Ideal) m ρ)

section Reference

open Cert.UpReferenceIdeal Cert.UpReferenceIdeal.Gen

variable (x0 : FVec Ideal S4096x1024 .f32) (x1 : FVec Ideal S1024 .f32) (x2 : FVec Ideal S4096x6144 .f32)

/-- The arrays the reference is given. -/
def given : In := ⟨fun r l => x0 (ix2 r l), fun l => x1 (ix1 l), fun r f => x2 (ix2 r f)⟩

/-- The reference's normalised rows, -/
def rows : FVec Ideal S4096x1024 .f32 :=
  mulf (mulf x0 (broadcastInDim S4096x1024 ![0, 1] bcast_S4096x1_S4096x1024_0_1
        (Host.rsqrt (addf (Host.divf (broadcastInDim S4096x1 ![0] bcast_S4096_S4096x1_0
              (Host.reduceAdd (mulf x0 x0) (constant S_ .f32 0x00000000#32) reducesTo_S4096x1024_S4096_d1 h_S_))
            (broadcastInDim S4096x1 ![] bcast_S_S4096x1 (constant S_ .f32 0x44800000#32)))
          (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 x1))

/-- entry by entry, -/
theorem rows_apply (r : Fin 4096) (l : Fin 1024) : (rows x0 x1 (ix2 r l) : EReal) = (given x0 x1 x2).h r l := by
  unfold rows; pointwise; rfl

/-- the product with the cotangent, -/
def prod : FVec Ideal S6144x1024 .f32 := Host.dotGeneral dot_S4096x6144_S4096x1024_S6144x1024_0_0_1_1_n_n none x2 (rows x0 x1)

theorem prod_apply (e : Fin 6144) (l : Fin 1024) : (prod x0 x1 x2 (ix2 e l) : EReal) = ∑ r, (given x0 x1 x2).d r e * (given x0 x1 x2).h r l := by
  unfold prod; pointwise
  simp only [rows_apply x0 x1 x2]; rfl

/-- and the gradient, in blocks of its columns. -/
theorem result (k : Fin 8) (l : Fin 1024) (f : Fin 768) :
    ((truncf .bf16 (transpose S8x1024x768 [1, 0, 2] (shapeCast S1024x8x768 (transpose S1024x6144 [1, 0] (prod x0 x1 x2)
      transposes_S6144x1024_S1024x6144_1_0) shapeCasts_S1024x6144_S1024x8x768) transposes_S1024x8x768_S8x1024x768_1_0_2) bitsLt_bf16_f32
      : FVec Ideal S8x1024x768 .bf16) (ix3 k l f) : EReal) = grad (given x0 x1 x2) k l f := by
  pointwise
  refine (prod_apply x0 x1 x2 (colOf k f) l).trans ?_
  exact Finset.sum_congr rfl fun r _ => mul_comm _ _

end Reference

/-- Kernel and reference compute the same gradient. -/
theorem algebraic : Cert.algebraic_UpKernelIdeal_UpReferenceIdeal := fun m ρ m' ρ' _ hagree => by
  refine ⟨fun c i => grad (Cert.UpKernelIdeal.Product.args m c) (i 0) (i 1) (i 2), ?_, ?_⟩
  · refine (θ_run _ _ _).mono (fun r h c => ?_) (Cert.UpKernelIdeal.Value.run_blocks (F := Ideal) m ρ)
    exact ⟨(h c).1.trans (Cert.UpKernelIdeal.Product.final m c), (h c).2⟩
  · refine (θ_run _ _ _).mono (fun r h c => ?_) (Cert.UpReferenceIdeal.Value.run (F := Ideal) m' ρ')
    obtain ⟨h0, ha⟩ := h c
    obtain ⟨e0, e1, e2⟩ := hagree c
    refine ⟨h0.trans (funext fun i => ?_), ha⟩
    rw [e0, e1, e2]
    exact (congrArg _ (Cert.UpKernelIdeal.Product.eta3 i)).trans (result _ _ _ _ _ _)

end Cert.Up

end
-- ==== Proof.Sum.Kernel.lean ====
/- What the sum of a gradient's parts leaves in its result: the devices' parts, added one after the other. -/
module

public import proofs.«01_k».proof.Proof.Gen.SumKernelIdeal.Value
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.Sum

open Idealize.ShloMosaic

/-- The parts that the devices gave. -/
structure In where
  p : Fin 8 → Fin 448 → Fin 1024 → EReal

/-- Their sum. -/
def total (A : In) (r : Fin 448) (l : Fin 1024) : EReal := ∑ d, A.p d r l

end Cert.Sum

namespace Cert.SumKernelIdeal.Product

open Cert.SumKernelIdeal Cert.SumKernelIdeal.Gen Idealize.ShloMosaic Idealize.ShloMosaic.TcCoe Idealize.SL.Sem
open Idealize.ShloMosaic.Pipeline (Dat)
open Cert.Sum

variable (m : (ℓ : Loc nD τ sig) → Buf (Elt Ideal) ℓ) (c : Dev nD)

/-- The array device `c` is given. -/
def args : In where
  p d r l := m (c.tc.loc main_arg0) (ix3 d r l)

theorem idx : ∀ t : Fin grid0.N, (win0_0.index t 0 = 0 ∧ win0_0.index t 1 = t.val ∧ win0_0.index t 2 = 0)
    ∧ (win0_1.index t 0 = t.val ∧ win0_1.index t 1 = 0) := by decide +kernel

/-- Row `r` of the rows of point `t`. -/
def row (t : Fin cfg0.N) (r : Fin 64) : Fin 448 := ⟨64 * t.val + r.val, by have := t.isLt; have := r.isLt; have : cfg0.N = 7 := N_0; omega⟩

variable (t : Fin cfg0.N)

theorem iblk0 (d : Fin 8) (r : Fin 64) (l : Fin 1024) : (iblk m c 0 t : Vec Ideal S8x64x1024 .bf16) (ix3 d r l) = (args m c).p d (row t r) l := by
  unfold row args; blk_point [iblk, V, idx t]

/-- The body's value, from the parts it reads. -/
theorem read (a0 a1 a2 a3 a4 a5 a6 a7 : FVec Ideal S1x64x1024 .bf16) (r : Fin 64) (l : Fin 1024) :
    (k0_pay1 (F := Ideal) a0 a1 a2 a3 a4 a5 a6 a7 (ix2 r l) : EReal) = a0 (ix3 0 r l) + a1 (ix3 0 r l) + a2 (ix3 0 r l) + a3 (ix3 0 r l)
      + a4 (ix3 0 r l) + a5 (ix3 0 r l) + a6 (ix3 0 r l) + a7 (ix3 0 r l) := by
  pointwise [k0_pay1]

/-- A block of the result. -/
theorem block (r : Fin 64) (l : Fin 1024) : (out0_1 (iblk m c 0 t) (ix2 r l) : EReal) = total (args m c) (row t r) l := by
  unfold out0_1; frame_out
  refine (read _ _ _ _ _ _ _ _ _ _).trans ?_
  have hl (d : Fin 8) : (iblk m c 0 t : Vec Ideal S8x64x1024 .bf16) (ix3 d r l) = (args m c).p d (row t r) l := iblk0 m c t d r l
  unfold total
  simp only [Fin.sum_univ_eight, ← hl]
  pointwise [View.ld]

/-- A position of a matrix by its two coordinates. -/
theorem eta2 {a b : ℕ} (j : (⟨2, ![a, b]⟩ : Shape).Idx) : j = ix2 (j 0) (j 1) := by funext x; fin_cases x <;> rfl

/-- The result. -/
theorem final : (dats m 0 c).arrAt 1 cfg0.N = fun i => total (args m c) (i 0) (i 1) := by
  refine (dats m 0 c).arrAt_eq_of_covers 1 _ (by decide +kernel) fun t hf y => ?_
  blk_simp
  rw [after0_1]
  have he : (win0_1.blk t).view.emb y = (ix2 (row t (y 0)) (y 1) : S448x1024.Idx) := by unfold row; blk_ext [idx t]
  rw [he]
  exact (congrArg _ (eta2 y)).trans (block m c t _ _)

end Cert.SumKernelIdeal.Product

end
-- ==== Proof.Sum.Claim.lean ====
/- The sum of a gradient's parts: the frames, and kernel and reference leave the same array. -/
module

public import proofs.«01_k».proof.Defs
public import proofs.«01_k».proof.Proof.Gen.SumKernel.Frame
public import proofs.«01_k».proof.Proof.Gen.SumReferenceIdeal.Run
public import proofs.«01_k».proof.Proof.Sum.Kernel
public import Idealize.ShloMosaic.Lib.Quiescent

@[expose] public section

noncomputable section

namespace Cert.Sum

open Idealize.ShloMosaic Idealize.SL.Sem

theorem frame_kernel : Cert.quiescent_SumKernel := fun m ρ _ => Cert.SumKernel.Gen.frame m ρ

theorem frame_ideal : Cert.quiescent_SumKernelIdeal := fun m ρ _ => Cert.SumKernelIdeal.Gen.frame m ρ

theorem frame_reference : Cert.quiescent_SumReferenceIdeal := fun m ρ _ =>
  (θ_run _ _ _).mono (fun r h => ⟨fun c => (h c).2, sem_eq_zero_of_no_sems (by decide) _⟩)
    (Cert.SumReferenceIdeal.Value.run (F := Ideal) m ρ)

open Cert.SumReferenceIdeal Cert.SumReferenceIdeal.Gen in
/-- The reference's sum, entry by entry. -/
theorem result (x0 : FVec Ideal S8x448x1024 .bf16) (r : Fin 448) (l : Fin 1024) :
    (Host.reduceAdd (extf .f32 x0 bitsLt_bf16_f32) (constant S_ .f32 0x00000000#32) reducesTo_S8x448x1024_S448x1024_d0 h_S_ (ix2 r l) : EReal)
      = total ⟨fun d r l => x0 (ix3 d r l)⟩ r l := by
  unfold total; pointwise

/-- Kernel and reference compute the same sum. -/
theorem algebraic : Cert.algebraic_SumKernelIdeal_SumReferenceIdeal := fun m ρ m' ρ' _ hagree => by
  refine ⟨fun c i => total (Cert.SumKernelIdeal.Product.args m c) (i 0) (i 1), ?_, ?_⟩
  · refine (θ_run _ _ _).mono (fun r h c => ?_) (Cert.SumKernelIdeal.Value.run_blocks (F := Ideal) m ρ)
    exact ⟨(h c).1.trans (Cert.SumKernelIdeal.Product.final m c), (h c).2⟩
  · refine (θ_run _ _ _).mono (fun r h c => ?_) (Cert.SumReferenceIdeal.Value.run (F := Ideal) m' ρ')
    obtain ⟨h0, ha⟩ := h c
    have e0 := hagree c
    refine ⟨h0.trans (funext fun i => ?_), ha⟩
    rw [e0]
    exact (congrArg _ (Cert.SumKernelIdeal.Product.eta2 i)).trans (result _ _ _)

end Cert.Sum

end
-- ==== Proof.Adam.Kernel.lean ====
/- What the optimiser's kernel leaves in its results: the array's change and the new means. -/
module

public import proofs.«01_k».proof.Proof.Gen.AdamKernelIdeal.Value
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 16384

noncomputable section

namespace Cert.Adam

open Idealize.ShloMosaic

/-- The arrays of one device: the weights, their gradient, and the running means of the gradient and of its square. -/
structure In where
  w : Fin 2048 → Fin 448 → EReal
  g : Fin 2048 → Fin 448 → EReal
  m : Fin 2048 → Fin 448 → EReal
  v : Fin 2048 → Fin 448 → EReal

/-- A literal of the optimiser, by its word. -/
def lit (w : BitVec 32) : EReal := Ideal.ofBits .f32 w

/-- The new mean of a gradient, -/
def mean (g m : EReal) : EReal := lit 0x3F666666#32 * m + lit 0x3DCCCCCD#32 * g

/-- of its square, -/
def square (g v : EReal) : EReal := lit 0x3F7FBE77#32 * v + lit 0x3A83126F#32 * (g * g)

/-- and a weight's change. -/
def change (w g m v : EReal) : EReal :=
  lit 0xBA83126F#32 * (Ideal.div (Ideal.div (mean g m) (lit 0x3F26BD02#32))
    (Ideal.sqrt (Ideal.div (square g v) (lit 0x3C231ACC#32)) + lit 0x322BCC77#32) + lit 0x3C23D70A#32 * w)

def first (A : In) (r : Fin 2048) (l : Fin 448) : EReal := mean (A.g r l) (A.m r l)

def second (A : In) (r : Fin 2048) (l : Fin 448) : EReal := square (A.g r l) (A.v r l)

def step (A : In) (r : Fin 2048) (l : Fin 448) : EReal := change (A.w r l) (A.g r l) (A.m r l) (A.v r l)

end Cert.Adam

namespace Cert.AdamKernelIdeal.Product

open Cert.AdamKernelIdeal Cert.AdamKernelIdeal.Gen Idealize.ShloMosaic Idealize.ShloMosaic.TcCoe Idealize.SL.Sem
open Idealize.ShloMosaic.Pipeline (Dat)
open Cert.Adam

variable (m : (ℓ : Loc nD τ sig) → Buf (Elt Ideal) ℓ) (c : Dev nD)

/-- The arrays device `c` is given. -/
def args : In where
  w r l := m (c.tc.loc main_arg0) (ix2 r l)
  g r l := m (c.tc.loc main_arg1) (ix2 r l)
  m r l := m (c.tc.loc main_arg2) (ix2 r l)
  v r l := m (c.tc.loc main_arg3) (ix2 r l)

theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by decide +kernel

/-- Row `r` of the rows of point `t`. -/
def row (t : Fin cfg0.N) (r : Fin 512) : Fin 2048 := ⟨512 * t.val + r.val, by have := t.isLt; have := r.isLt; have : cfg0.N = 4 := N_0; omega⟩

variable (t : Fin cfg0.N) (r : Fin 512) (l : Fin 448)

theorem iblk0 : (iblk m c 0 t : Vec Ideal S512x448 .f32) (ix2 r l) = (args m c).w (row t r) l := by
  unfold row args; blk_point [iblk, V, idx t]

theorem iblk1 : (iblk m c 1 t : Vec Ideal S512x448 .f32) (ix2 r l) = (args m c).g (row t r) l := by
  unfold row args; blk_point [iblk, V, idx t]

theorem iblk2 : (iblk m c 2 t : Vec Ideal S512x448 .f32) (ix2 r l) = (args m c).m (row t r) l := by
  unfold row args; blk_point [iblk, V, idx t]

theorem iblk3 : (iblk m c 3 t : Vec Ideal S512x448 .f32) (ix2 r l) = (args m c).v (row t r) l := by
  unfold row args; blk_point [iblk, V, idx t]

section Reads

variable (w g mm v : FVec Ideal S512x448 .f32)

theorem read1 : (k0_pay1 (F := Ideal) g mm (ix2 r l) : EReal) = mean (g (ix2 r l)) (mm (ix2 r l)) := by
  pointwise [k0_pay1]; rfl

theorem read2 : (k0_pay2 (F := Ideal) g v (ix2 r l) : EReal) = square (g (ix2 r l)) (v (ix2 r l)) := by
  pointwise [k0_pay2]; rfl

theorem read3 : (k0_pay3 (F := Ideal) w g mm v (ix2 r l) : EReal) = change (w (ix2 r l)) (g (ix2 r l)) (mm (ix2 r l)) (v (ix2 r l)) := by
  pointwise [k0_pay3]
  simp only [read1, read2]; rfl

end Reads

/-- A block of each result. -/
theorem block4 : (out0_4 (iblk m c 0 t) (iblk m c 1 t) (iblk m c 2 t) (iblk m c 3 t) (ix2 r l) : EReal) = step (args m c) (row t r) l := by
  unfold out0_4; frame_out
  refine (read3 _ _ _ _ _ _).trans ?_
  simp only [iblk0, iblk1, iblk2, iblk3]; rfl

theorem block5 : (out0_5 (iblk m c 0 t) (iblk m c 1 t) (iblk m c 2 t) (iblk m c 3 t) (ix2 r l) : EReal) = first (args m c) (row t r) l := by
  unfold out0_5; frame_out
  refine (read1 _ _ _ _).trans ?_
  simp only [iblk1, iblk2]; rfl

theorem block6 : (out0_6 (iblk m c 0 t) (iblk m c 1 t) (iblk m c 2 t) (iblk m c 3 t) (ix2 r l) : EReal) = second (args m c) (row t r) l := by
  unfold out0_6; frame_out
  refine (read2 _ _ _ _).trans ?_
  simp only [iblk1, iblk3]; rfl

/-- A position of a matrix by its two coordinates. -/
theorem eta2 {a b : ℕ} (j : (⟨2, ![a, b]⟩ : Shape).Idx) : j = ix2 (j 0) (j 1) := by funext x; fin_cases x <;> rfl

/-- The array's change, -/
theorem final4 : (dats m 0 c).arrAt 4 cfg0.N = fun i => step (args m c) (i 0) (i 1) := by
  refine (dats m 0 c).arrAt_eq_of_covers 4 _ (by decide +kernel) fun t hf y => ?_
  blk_simp
  rw [after0_4]
  have he : (win0_4.blk t).view.emb y = (ix2 (row t (y 0)) (y 1) : S2048x448.Idx) := by unfold row; blk_ext [idx t]
  rw [he]
  exact (congrArg _ (eta2 y)).trans (block4 m c t _ _)

/-- the mean -/
theorem final5 : (dats m 0 c).arrAt 5 cfg0.N = fun i => first (args m c) (i 0) (i 1) := by
  refine (dats m 0 c).arrAt_eq_of_covers 5 _ (by decide +kernel) fun t hf y => ?_
  blk_simp
  rw [after0_5]
  have he : (win0_5.blk t).view.emb y = (ix2 (row t (y 0)) (y 1) : S2048x448.Idx) := by unfold row; blk_ext [idx t]
  rw [he]
  exact (congrArg _ (eta2 y)).trans (block5 m c t _ _)

/-- and the mean square. -/
theorem final6 : (dats m 0 c).arrAt 6 cfg0.N = fun i => second (args m c) (i 0) (i 1) := by
  refine (dats m 0 c).arrAt_eq_of_covers 6 _ (by decide +kernel) fun t hf y => ?_
  blk_simp
  rw [after0_6]
  have he : (win0_6.blk t).view.emb y = (ix2 (row t (y 0)) (y 1) : S2048x448.Idx) := by unfold row; blk_ext [idx t]
  rw [he]
  exact (congrArg _ (eta2 y)).trans (block6 m c t _ _)

end Cert.AdamKernelIdeal.Product

end
-- ==== Proof.Adam.Claim.lean ====
/- The optimiser's step: the frames, and kernel and reference leave the same three arrays. -/
module

public import proofs.«01_k».proof.Defs
public import proofs.«01_k».proof.Proof.Gen.AdamKernel.Frame
public import proofs.«01_k».proof.Proof.Gen.AdamReferenceIdeal.Run
public import proofs.«01_k».proof.Proof.Gen.AdamReferenceIdeal.Read
public import proofs.«01_k».proof.Proof.Adam.Kernel
public import Idealize.ShloMosaic.Lib.Quiescent

@[expose] public section

noncomputable section

namespace Cert.Adam

open Idealize.ShloMosaic Idealize.SL.Sem

theorem frame_kernel : Cert.quiescent_AdamKernel := fun m ρ _ => Cert.AdamKernel.Gen.frame m ρ

theorem frame_ideal : Cert.quiescent_AdamKernelIdeal := fun m ρ _ => Cert.AdamKernelIdeal.Gen.frame m ρ

theorem frame_reference : Cert.quiescent_AdamReferenceIdeal := fun m ρ _ =>
  (θ_run _ _ _).mono (fun r h => ⟨fun c => (h c).2.2.2, sem_eq_zero_of_no_sems (by decide) _⟩)
    (Cert.AdamReferenceIdeal.Value.run (F := Ideal) m ρ)

section Reference

open Cert.AdamReferenceIdeal Cert.AdamReferenceIdeal.Read Cert.AdamReferenceIdeal.Gen

variable (x0 x1 x2 x3 : FVec Ideal S2048x448 .f32) (r : Fin 2048) (l : Fin 448)

/-- The arrays the reference is given. -/
def given : In := ⟨fun r l => x0 (ix2 r l), fun r l => x1 (ix2 r l), fun r l => x2 (ix2 r l), fun r l => x3 (ix2 r l)⟩

theorem result5 : (addf (mulf (broadcastInDim S2048x448 ![] bcast_S_S2048x448 (constant S_ .f32 0x3F666666#32)) x2) (mulf (broadcastInDim S2048x448 ![] bcast_S_S2048x448 (constant S_ .f32 0x3DCCCCCD#32)) x1) (ix2 r l) : EReal)
    = first (given x0 x1 x2 x3) r l := by
  unfold first given mean lit; pointwise

theorem result6 : (addf (mulf (broadcastInDim S2048x448 ![] bcast_S_S2048x448 (constant S_ .f32 0x3F7FBE77#32)) x3) (mulf (broadcastInDim S2048x448 ![] bcast_S_S2048x448 (constant S_ .f32 0x3A83126F#32)) (mulf x1 x1)) (ix2 r l) : EReal)
    = second (given x0 x1 x2 x3) r l := by
  unfold second given square lit; pointwise

theorem result4 : (val_main_v23 (F := Ideal) x0 x1 x2 x3 (ix2 r l) : EReal) = step (given x0 x1 x2 x3) r l := by
  unfold step change
  rw [show mean ((given x0 x1 x2 x3).g r l) ((given x0 x1 x2 x3).m r l) = val_main_v4 (F := Ideal) x1 x2 (ix2 r l) from (result5 x0 x1 x2 x3 r l).symm,
    show square ((given x0 x1 x2 x3).g r l) ((given x0 x1 x2 x3).v r l) = val_main_v10 (F := Ideal) x1 x3 (ix2 r l) from (result6 x0 x1 x2 x3 r l).symm]
  simp only [val_main_v23_apply, val_main_v22_apply, val_main_cst_7_apply, val_main_v21_apply, val_main_v20_apply, val_main_v19_apply, val_main_cst_6_apply,
    val_main_v18_apply, val_main_v12_apply, val_main_v11_apply, val_main_cst_3_apply, val_main_v17_apply, val_main_v16_apply, val_main_cst_5_apply,
    val_main_v15_apply, val_main_v14_apply, val_main_v13_apply, val_main_cst_4_apply]
  rfl

end Reference

/-- Kernel and reference compute the same step. -/
theorem algebraic : Cert.algebraic_AdamKernelIdeal_AdamReferenceIdeal := fun m ρ m' ρ' _ hagree => by
  refine ⟨fun c i => step (Cert.AdamKernelIdeal.Product.args m c) (i 0) (i 1), fun c i => first (Cert.AdamKernelIdeal.Product.args m c) (i 0) (i 1),
    fun c i => second (Cert.AdamKernelIdeal.Product.args m c) (i 0) (i 1), ?_, ?_⟩
  · refine (θ_run _ _ _).mono (fun r h c => ?_) (Cert.AdamKernelIdeal.Value.run_blocks (F := Ideal) m ρ)
    obtain ⟨h4, h5, h6, ha⟩ := h c
    exact ⟨h4.trans (Cert.AdamKernelIdeal.Product.final4 m c), h5.trans (Cert.AdamKernelIdeal.Product.final5 m c), h6.trans (Cert.AdamKernelIdeal.Product.final6 m c), ha⟩
  · refine (θ_run _ _ _).mono (fun r h c => ?_) (Cert.AdamReferenceIdeal.Value.run (F := Ideal) m' ρ')
    obtain ⟨h4, h5, h6, ha⟩ := h c
    obtain ⟨e0, e1, e2, e3⟩ := hagree c
    rw [e0, e1, e2, e3] at h4
    rw [e1, e2] at h5
    rw [e1, e3] at h6
    refine ⟨(h4.trans (Cert.AdamReferenceIdeal.Read.val_main_v23_eq _ _ _ _)).trans (funext fun i => ?_), h5.trans (funext fun i => ?_), h6.trans (funext fun i => ?_), ha⟩
    · exact (congrArg _ (Cert.AdamKernelIdeal.Product.eta2 i)).trans (result4 _ _ _ _ _ _)
    · exact (congrArg _ (Cert.AdamKernelIdeal.Product.eta2 i)).trans (result5 (m ((c.tc : Thread _ _).loc Cert.AdamKernelIdeal.main_arg0)) _ _ (m ((c.tc : Thread _ _).loc Cert.AdamKernelIdeal.main_arg3)) _ _)
    · exact (congrArg _ (Cert.AdamKernelIdeal.Product.eta2 i)).trans (result6 (m ((c.tc : Thread _ _).loc Cert.AdamKernelIdeal.main_arg0)) _ (m ((c.tc : Thread _ _).loc Cert.AdamKernelIdeal.main_arg2)) _ _ _)

end Cert.Adam

end
-- ==== Proof.lean ====
module

public import proofs.«01_k».proof.Defs
public import proofs.«01_k».proof.Proof.Loss.Claim
public import proofs.«01_k».proof.Proof.In.Claim
public import proofs.«01_k».proof.Proof.Ffn.Claim
public import proofs.«01_k».proof.Proof.Mix.Claim
public import proofs.«01_k».proof.Proof.Nin.Claim
public import proofs.«01_k».proof.Proof.Fwd.Claim
public import proofs.«01_k».proof.Proof.Tn.Claim
public import proofs.«01_k».proof.Proof.Nn.Claim
public import proofs.«01_k».proof.Proof.Nt.Claim
public import proofs.«01_k».proof.Proof.Up.Claim
public import proofs.«01_k».proof.Proof.Sum.Claim
public import proofs.«01_k».proof.Proof.Adam.Claim
public import proofs.«01_k».proof.Proof.Gen.LossKernel
public import proofs.«01_k».proof.Proof.Gen.LossKernelIdeal
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Pre_loss_finite
public import proofs.«01_k».proof.Proof.Gen.InKernel
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Pre_in_finite
public import proofs.«01_k».proof.Proof.Gen.FfnKernel
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.Gen.MixKernel
public import proofs.«01_k».proof.Proof.Gen.MixKernelIdeal
public import proofs.«01_k».proof.Proof.Gen.MixKernelIdeal.Skeleton
public import proofs.«01_k».proof.Proof.Gen.MixKernelIdeal.Loops
public import proofs.«01_k».proof.Proof.Gen.MixKernelIdeal.Launch
public import proofs.«01_k».proof.Proof.Gen.MixKernelIdeal.Points
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.NinKernel
public import proofs.«01_k».proof.Proof.Gen.NinKernelIdeal
public import proofs.«01_k».proof.Proof.Gen.NinKernelIdeal.Skeleton
public import proofs.«01_k».proof.Proof.Gen.NinKernelIdeal.Launch
public import proofs.«01_k».proof.Proof.Gen.NinKernelIdeal.Points
public import proofs.«01_k».proof.Proof.Gen.NinKernelIdeal.Frame
public import proofs.«01_k».proof.Proof.Gen.NinReferenceIdeal
public import proofs.«01_k».proof.Proof.Gen.NinReferenceIdeal.Run
public import proofs.«01_k».proof.Proof.Gen.NinReferenceIdeal.Read
public import proofs.«01_k».proof.Proof.Gen.FwdKernel
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.TnKernel
public import proofs.«01_k».proof.Proof.Gen.TnKernel.Frame
public import proofs.«01_k».proof.Proof.Gen.TnKernelIdeal
public import proofs.«01_k».proof.Proof.Gen.TnKernelIdeal.Skeleton
public import proofs.«01_k».proof.Proof.Gen.TnKernelIdeal.Launch
public import proofs.«01_k».proof.Proof.Gen.TnKernelIdeal.Points
public import proofs.«01_k».proof.Proof.Gen.TnKernelIdeal.Frame
public import proofs.«01_k».proof.Proof.Gen.TnKernelIdeal.Value
public import proofs.«01_k».proof.Proof.Gen.TnReferenceIdeal
public import proofs.«01_k».proof.Proof.Gen.TnReferenceIdeal.Run
public import proofs.«01_k».proof.Proof.Gen.NnKernel
public import proofs.«01_k».proof.Proof.Gen.NnKernel.Frame
public import proofs.«01_k».proof.Proof.Gen.NnKernelIdeal
public import proofs.«01_k».proof.Proof.Gen.NnKernelIdeal.Skeleton
public import proofs.«01_k».proof.Proof.Gen.NnKernelIdeal.Launch
public import proofs.«01_k».proof.Proof.Gen.NnKernelIdeal.Points
public import proofs.«01_k».proof.Proof.Gen.NnKernelIdeal.Frame
public import proofs.«01_k».proof.Proof.Gen.NnKernelIdeal.Value
public import proofs.«01_k».proof.Proof.Gen.NnReferenceIdeal
public import proofs.«01_k».proof.Proof.Gen.NnReferenceIdeal.Run
public import proofs.«01_k».proof.Proof.Gen.NtKernel
public import proofs.«01_k».proof.Proof.Gen.NtKernel.Frame
public import proofs.«01_k».proof.Proof.Gen.NtKernelIdeal
public import proofs.«01_k».proof.Proof.Gen.NtKernelIdeal.Skeleton
public import proofs.«01_k».proof.Proof.Gen.NtKernelIdeal.Launch
public import proofs.«01_k».proof.Proof.Gen.NtKernelIdeal.Points
public import proofs.«01_k».proof.Proof.Gen.NtKernelIdeal.Frame
public import proofs.«01_k».proof.Proof.Gen.NtKernelIdeal.Value
public import proofs.«01_k».proof.Proof.Gen.NtReferenceIdeal
public import proofs.«01_k».proof.Proof.Gen.NtReferenceIdeal.Run
public import proofs.«01_k».proof.Proof.Gen.UpKernel
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.SumKernel
public import proofs.«01_k».proof.Proof.Gen.SumKernel.Frame
public import proofs.«01_k».proof.Proof.Gen.SumKernelIdeal
public import proofs.«01_k».proof.Proof.Gen.SumKernelIdeal.Skeleton
public import proofs.«01_k».proof.Proof.Gen.SumKernelIdeal.Launch
public import proofs.«01_k».proof.Proof.Gen.SumKernelIdeal.Points
public import proofs.«01_k».proof.Proof.Gen.SumKernelIdeal.Frame
public import proofs.«01_k».proof.Proof.Gen.SumKernelIdeal.Value
public import proofs.«01_k».proof.Proof.Gen.SumReferenceIdeal
public import proofs.«01_k».proof.Proof.Gen.SumReferenceIdeal.Run
public import proofs.«01_k».proof.Proof.Gen.AdamKernel
public import proofs.«01_k».proof.Proof.Gen.AdamKernel.Frame
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Gen.AdamKernelIdeal.Value
public import proofs.«01_k».proof.Proof.Gen.AdamReferenceIdeal
public import proofs.«01_k».proof.Proof.Gen.AdamReferenceIdeal.Run
public import proofs.«01_k».proof.Proof.Gen.AdamReferenceIdeal.Read

@[expose] public section

noncomputable section

namespace Cert.Proof

/-- Every claim, under the generated witnesses of the programs' side conditions. -/
theorem claim : Cert.Claim := ⟨Cert.LossKernel.Gen.facts, Cert.LossKernelIdeal.Gen.facts, Cert.LossReferenceIdeal.Gen.facts, Cert.InKernel.Gen.facts,
  Cert.InKernelIdeal.Gen.facts, Cert.InReferenceIdeal.Gen.facts, Cert.FfnKernel.Gen.facts, Cert.FfnKernelIdeal.Gen.facts, Cert.FfnReferenceIdeal.Gen.facts,
  Cert.MixKernel.Gen.facts, Cert.MixKernelIdeal.Gen.facts, Cert.MixReferenceIdeal.Gen.facts,
  Cert.NinKernel.Gen.facts, Cert.NinKernelIdeal.Gen.facts, Cert.NinReferenceIdeal.Gen.facts,
  Cert.FwdKernel.Gen.facts, Cert.FwdKernelIdeal.Gen.facts, Cert.FwdReferenceIdeal.Gen.facts,
  Cert.TnKernel.Gen.facts, Cert.TnKernelIdeal.Gen.facts, Cert.TnReferenceIdeal.Gen.facts,
  Cert.NnKernel.Gen.facts, Cert.NnKernelIdeal.Gen.facts, Cert.NnReferenceIdeal.Gen.facts,
  Cert.NtKernel.Gen.facts, Cert.NtKernelIdeal.Gen.facts, Cert.NtReferenceIdeal.Gen.facts,
  Cert.UpKernel.Gen.facts, Cert.UpKernelIdeal.Gen.facts, Cert.UpReferenceIdeal.Gen.facts,
  Cert.SumKernel.Gen.facts, Cert.SumKernelIdeal.Gen.facts, Cert.SumReferenceIdeal.Gen.facts,
  Cert.AdamKernel.Gen.facts, Cert.AdamKernelIdeal.Gen.facts, Cert.AdamReferenceIdeal.Gen.facts,
  Cert.Pre_loss_finite.Gen.facts, Cert.Pre_in_finite.Gen.facts, Cert.Pre_ffn_finite.Gen.facts,
  Cert.Loss.frame_kernel, Cert.Loss.frame_ideal, Cert.Loss.frame_ideal_pre, Cert.Loss.frame_reference, Cert.Loss.frame_reference_pre,
  Cert.In.frame_kernel, Cert.In.frame_ideal, Cert.In.frame_ideal_pre, Cert.In.frame_reference, Cert.In.frame_reference_pre,
  Cert.Ffn.frame_kernel, Cert.Ffn.frame_ideal, Cert.Ffn.frame_ideal_pre, Cert.Ffn.frame_reference, Cert.Ffn.frame_reference_pre,
  Cert.Mix.frame_kernel, Cert.Mix.frame_ideal, Cert.Mix.frame_reference,
  Cert.Nin.frame_kernel, Cert.Nin.frame_ideal, Cert.Nin.frame_reference,
  Cert.Fwd.frame_kernel, Cert.Fwd.frame_ideal, Cert.Fwd.frame_reference,
  Cert.Tn.frame_kernel, Cert.Tn.frame_ideal, Cert.Tn.frame_reference,
  Cert.Nn.frame_kernel, Cert.Nn.frame_ideal, Cert.Nn.frame_reference,
  Cert.Nt.frame_kernel, Cert.Nt.frame_ideal, Cert.Nt.frame_reference,
  Cert.Up.frame_kernel, Cert.Up.frame_ideal, Cert.Up.frame_reference,
  Cert.Sum.frame_kernel, Cert.Sum.frame_ideal, Cert.Sum.frame_reference,
  Cert.Adam.frame_kernel, Cert.Adam.frame_ideal, Cert.Adam.frame_reference,
  trivial, Cert.Loss.algebraic, trivial, Cert.In.algebraic, Cert.Ffn.preserves, Cert.Ffn.algebraic, trivial, Cert.Mix.algebraic, trivial, Cert.Nin.algebraic,
  trivial, Cert.Fwd.algebraic, trivial, Cert.Tn.algebraic,
  trivial, Cert.Nn.algebraic, trivial, Cert.Nt.algebraic, trivial, Cert.Up.algebraic, trivial, Cert.Sum.algebraic, trivial, Cert.Adam.algebraic⟩

end Cert.Proof

end
